-- ==== Defs.lean ====
def Pre_SguBwd (m : (ℓ : Loc Cert.SguBwd.nD Cert.SguBwd.τ Cert.SguBwd.sig) → Buf (Elt Bits) ℓ) : Prop :=
  True

def Pre_SguBwdIdeal (m : (ℓ : Loc Cert.SguBwdIdeal.nD Cert.SguBwdIdeal.τ Cert.SguBwdIdeal.sig) → Buf (Elt Ideal) ℓ) : Prop :=
  True

def Pre_SguBwdIdeal_sgu_bwd_finite [hPre_sgu_bwd_finite : Cert.Pre_sgu_bwd_finite.Facts] (m : (ℓ : Loc Cert.SguBwdIdeal.nD Cert.SguBwdIdeal.τ Cert.SguBwdIdeal.sig) → Buf (Elt Ideal) ℓ) : Prop :=
  ∀ c : Dev Cert.SguBwdIdeal.nD,
    (Cert.Pre_sgu_bwd_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5))) = (fun _ => 1#1)

def Pre_SguBwdRefIdeal (m : (ℓ : Loc Cert.SguBwdRefIdeal.nD Cert.SguBwdRefIdeal.τ Cert.SguBwdRefIdeal.sig) → Buf (Elt Ideal) ℓ) : Prop :=
  True

def Pre_SguBwdRefIdeal_sgu_bwd_finite [hPre_sgu_bwd_finite : Cert.Pre_sgu_bwd_finite.Facts] (m : (ℓ : Loc Cert.SguBwdRefIdeal.nD Cert.SguBwdRefIdeal.τ Cert.SguBwdRefIdeal.sig) → Buf (Elt Ideal) ℓ) : Prop :=
  ∀ c : Dev Cert.SguBwdRefIdeal.nD,
    (Cert.Pre_sgu_bwd_finite.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5))) = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_pool_bwd_finite [hPre_pool_bwd_finite : Cert.Pre_pool_bwd_finite.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_pool_bwd_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))) = (fun _ => 1#1)

def Pre_PoolBwdRefIdeal (m : (ℓ : Loc Cert.PoolBwdRefIdeal.nD Cert.PoolBwdRefIdeal.τ Cert.PoolBwdRefIdeal.sig) → Buf (Elt Ideal) ℓ) : Prop :=
  True

def Pre_PoolBwdRefIdeal_pool_bwd_finite [hPre_pool_bwd_finite : Cert.Pre_pool_bwd_finite.Facts] (m : (ℓ : Loc Cert.PoolBwdRefIdeal.nD Cert.PoolBwdRefIdeal.τ Cert.PoolBwdRefIdeal.sig) → Buf (Elt Ideal) ℓ) : Prop :=
  ∀ c : Dev Cert.PoolBwdRefIdeal.nD,
    (Cert.Pre_pool_bwd_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4))) = (fun _ => 1#1)

def Pre_MixDy (m : (ℓ : Loc Cert.MixDy.nD Cert.MixDy.τ Cert.MixDy.sig) → Buf (Elt Bits) ℓ) : Prop :=
  True

def Pre_MixDyIdeal (m : (ℓ : Loc Cert.MixDyIdeal.nD Cert.MixDyIdeal.τ Cert.MixDyIdeal.sig) → Buf (Elt Ideal) ℓ) : Prop :=
  True

def Pre_MixDyRefIdeal (m : (ℓ : Loc Cert.MixDyRefIdeal.nD Cert.MixDyRefIdeal.τ Cert.MixDyRefIdeal.sig) → Buf (Elt Ideal) ℓ) : Prop :=
  True

def Pre_PlePostBwd (m : (ℓ : Loc Cert.PlePostBwd.nD Cert.PlePostBwd.τ Cert.PlePostBwd.sig) → Buf (Elt Bits) ℓ) : Prop :=
  True

def Pre_PlePostBwdIdeal (m : (ℓ : Loc Cert.PlePostBwdIdeal.nD Cert.PlePostBwdIdeal.τ Cert.PlePostBwdIdeal.sig) → Buf (Elt Ideal) ℓ) : Prop :=
  True

def Pre_PlePostBwdIdeal_ple_post_bwd_finite [hPre_ple_post_bwd_finite : Cert.Pre_ple_post_bwd_finite.Facts] (m : (ℓ : Loc Cert.PlePostBwdIdeal.nD Cert.PlePostBwdIdeal.τ Cert.PlePostBwdIdeal.sig) → Buf (Elt Ideal) ℓ) : Prop :=
  ∀ c : Dev Cert.PlePostBwdIdeal.nD,
    (Cert.Pre_ple_post_bwd_finite.fn (F := Ideal) (m ((c.tc : Thread Cert.PlePostBwdIdeal.nD Cert.PlePostBwdIdeal.τ).loc Cert.PlePostBwdIdeal.main_arg0)) (m ((c.tc : Thread Cert.PlePostBwdIdeal.nD Cert.PlePostBwdIdeal.τ).loc Cert.PlePostBwdIdeal.main_arg1)) (m ((c.tc : Thread Cert.PlePostBwdIdeal.nD Cert.PlePostBwdIdeal.τ).loc Cert.PlePostBwdIdeal.main_arg2)) (m ((c.tc : Thread Cert.PlePostBwdIdeal.nD Cert.PlePostBwdIdeal.τ).loc Cert.PlePostBwdIdeal.main_arg3))) = (fun _ => 1#1)

def Pre_PlePostBwdRefIdeal (m : (ℓ : Loc Cert.PlePostBwdRefIdeal.nD Cert.PlePostBwdRefIdeal.τ Cert.PlePostBwdRefIdeal.sig) → Buf (Elt Ideal) ℓ) : Prop :=
  True

def Pre_PlePostBwdRefIdeal_ple_post_bwd_finite [hPre_ple_post_bwd_finite : Cert.Pre_ple_post_bwd_finite.Facts] (m : (ℓ : Loc Cert.PlePostBwdRefIdeal.nD Cert.PlePostBwdRefIdeal.τ Cert.PlePostBwdRefIdeal.sig) → Buf (Elt Ideal) ℓ) : Prop :=
  ∀ c : Dev Cert.PlePostBwdRefIdeal.nD,
    (Cert.Pre_ple_post_bwd_finite.fn (F := Ideal) (m ((c.tc : Thread Cert.PlePostBwdRefIdeal.nD Cert.PlePostBwdRefIdeal.τ).loc Cert.PlePostBwdRefIdeal.main_arg0)) (m ((c.tc : Thread Cert.PlePostBwdRefIdeal.nD Cert.PlePostBwdRefIdeal.τ).loc Cert.PlePostBwdRefIdeal.main_arg1)) (m ((c.tc : Thread Cert.PlePostBwdRefIdeal.nD Cert.PlePostBwdRefIdeal.τ).loc Cert.PlePostBwdRefIdeal.main_arg2)) (m ((c.tc : Thread Cert.PlePostBwdRefIdeal.nD Cert.PlePostBwdRefIdeal.τ).loc Cert.PlePostBwdRefIdeal.main_arg3))) = (fun _ => 1#1)

def Pre_FfnDhid (m : (ℓ : Loc Cert.FfnDhid.nD Cert.FfnDhid.τ Cert.FfnDhid.sig) → Buf (Elt Bits) ℓ) : Prop :=
  True

def Pre_FfnDhidIdeal (m : (ℓ : Loc Cert.FfnDhidIdeal.nD Cert.FfnDhidIdeal.τ Cert.FfnDhidIdeal.sig) → Buf (Elt Ideal) ℓ) : Prop :=
  True

def Pre_FfnDhidIdeal_ffn_dhid_finite [hPre_ffn_dhid_finite : Cert.Pre_ffn_dhid_finite.Facts] (m : (ℓ : Loc Cert.FfnDhidIdeal.nD Cert.FfnDhidIdeal.τ Cert.FfnDhidIdeal.sig) → Buf (Elt Ideal) ℓ) : Prop :=
  ∀ c : Dev Cert.FfnDhidIdeal.nD,
    (Cert.Pre_ffn_dhid_finite.fn (F := Ideal) (m ((c.tc : Thread Cert.FfnDhidIdeal.nD Cert.FfnDhidIdeal.τ).loc Cert.FfnDhidIdeal.main_arg0)) (m ((c.tc : Thread Cert.FfnDhidIdeal.nD Cert.FfnDhidIdeal.τ).loc Cert.FfnDhidIdeal.main_arg1)) (m ((c.tc : Thread Cert.FfnDhidIdeal.nD Cert.FfnDhidIdeal.τ).loc Cert.FfnDhidIdeal.main_arg2)) (m ((c.tc : Thread Cert.FfnDhidIdeal.nD Cert.FfnDhidIdeal.τ).loc Cert.FfnDhidIdeal.main_arg3))) = (fun _ => 1#1)

def Pre_FfnDhidRefIdeal (m : (ℓ : Loc Cert.FfnDhidRefIdeal.nD Cert.FfnDhidRefIdeal.τ Cert.FfnDhidRefIdeal.sig) → Buf (Elt Ideal) ℓ) : Prop :=
  True

def Pre_FfnDhidRefIdeal_ffn_dhid_finite [hPre_ffn_dhid_finite : Cert.Pre_ffn_dhid_finite.Facts] (m : (ℓ : Loc Cert.FfnDhidRefIdeal.nD Cert.FfnDhidRefIdeal.τ Cert.FfnDhidRefIdeal.sig) → Buf (Elt Ideal) ℓ) : Prop :=
  ∀ c : Dev Cert.FfnDhidRefIdeal.nD,
    (Cert.Pre_ffn_dhid_finite.fn (F := Ideal) (m ((c.tc : Thread Cert.FfnDhidRefIdeal.nD Cert.FfnDhidRefIdeal.τ).loc Cert.FfnDhidRefIdeal.main_arg0)) (m ((c.tc : Thread Cert.FfnDhidRefIdeal.nD Cert.FfnDhidRefIdeal.τ).loc Cert.FfnDhidRefIdeal.main_arg1)) (m ((c.tc : Thread Cert.FfnDhidRefIdeal.nD Cert.FfnDhidRefIdeal.τ).loc Cert.FfnDhidRefIdeal.main_arg2)) (m ((c.tc : Thread Cert.FfnDhidRefIdeal.nD Cert.FfnDhidRefIdeal.τ).loc Cert.FfnDhidRefIdeal.main_arg3))) = (fun _ => 1#1)

def Pre_PleDx (m : (ℓ : Loc Cert.PleDx.nD Cert.PleDx.τ Cert.PleDx.sig) → Buf (Elt Bits) ℓ) : Prop :=
  True

def Pre_PleDxIdeal (m : (ℓ : Loc Cert.PleDxIdeal.nD Cert.PleDxIdeal.τ Cert.PleDxIdeal.sig) → Buf (Elt Ideal) ℓ) : Prop :=
  True

def Pre_PleDxIdeal_ple_dx_finite [hPre_ple_dx_finite : Cert.Pre_ple_dx_finite.Facts] (m : (ℓ : Loc Cert.PleDxIdeal.nD Cert.PleDxIdeal.τ Cert.PleDxIdeal.sig) → Buf (Elt Ideal) ℓ) : Prop :=
  ∀ c : Dev Cert.PleDxIdeal.nD,
    (Cert.Pre_ple_dx_finite.fn (F := Ideal) (m ((c.tc : Thread Cert.PleDxIdeal.nD Cert.PleDxIdeal.τ).loc Cert.PleDxIdeal.main_arg0)) (m ((c.tc : Thread Cert.PleDxIdeal.nD Cert.PleDxIdeal.τ).loc Cert.PleDxIdeal.main_arg1)) (m ((c.tc : Thread Cert.PleDxIdeal.nD Cert.PleDxIdeal.τ).loc Cert.PleDxIdeal.main_arg2)) (m ((c.tc : Thread Cert.PleDxIdeal.nD Cert.PleDxIdeal.τ).loc Cert.PleDxIdeal.main_arg3)) (m ((c.tc : Thread Cert.PleDxIdeal.nD Cert.PleDxIdeal.τ).loc Cert.PleDxIdeal.main_arg4)) (m ((c.tc : Thread Cert.PleDxIdeal.nD Cert.PleDxIdeal.τ).loc Cert.PleDxIdeal.main_arg5)) (m ((c.tc : Thread Cert.PleDxIdeal.nD Cert.PleDxIdeal.τ).loc Cert.PleDxIdeal.main_arg6))) = (fun _ => 1#1)

def Pre_PleDxRefIdeal (m : (ℓ : Loc Cert.PleDxRefIdeal.nD Cert.PleDxRefIdeal.τ Cert.PleDxRefIdeal.sig) → Buf (Elt Ideal) ℓ) : Prop :=
  True

def Pre_PleDxRefIdeal_ple_dx_finite [hPre_ple_dx_finite : Cert.Pre_ple_dx_finite.Facts] (m : (ℓ : Loc Cert.PleDxRefIdeal.nD Cert.PleDxRefIdeal.τ Cert.PleDxRefIdeal.sig) → Buf (Elt Ideal) ℓ) : Prop :=
  ∀ c : Dev Cert.PleDxRefIdeal.nD,
    (Cert.Pre_ple_dx_finite.fn (F := Ideal) (m ((c.tc : Thread Cert.PleDxRefIdeal.nD Cert.PleDxRefIdeal.τ).loc Cert.PleDxRefIdeal.main_arg0)) (m ((c.tc : Thread Cert.PleDxRefIdeal.nD Cert.PleDxRefIdeal.τ).loc Cert.PleDxRefIdeal.main_arg1)) (m ((c.tc : Thread Cert.PleDxRefIdeal.nD Cert.PleDxRefIdeal.τ).loc Cert.PleDxRefIdeal.main_arg2)) (m ((c.tc : Thread Cert.PleDxRefIdeal.nD Cert.PleDxRefIdeal.τ).loc Cert.PleDxRefIdeal.main_arg3)) (m ((c.tc : Thread Cert.PleDxRefIdeal.nD Cert.PleDxRefIdeal.τ).loc Cert.PleDxRefIdeal.main_arg4)) (m ((c.tc : Thread Cert.PleDxRefIdeal.nD Cert.PleDxRefIdeal.τ).loc Cert.PleDxRefIdeal.main_arg5)) (m ((c.tc : Thread Cert.PleDxRefIdeal.nD Cert.PleDxRefIdeal.τ).loc Cert.PleDxRefIdeal.main_arg6))) = (fun _ => 1#1)

def Pre_Ffn2Dx (m : (ℓ : Loc Cert.Ffn2Dx.nD Cert.Ffn2Dx.τ Cert.Ffn2Dx.sig) → Buf (Elt Bits) ℓ) : Prop :=
  True

def Pre_Ffn2DxIdeal (m : (ℓ : Loc Cert.Ffn2DxIdeal.nD Cert.Ffn2DxIdeal.τ Cert.Ffn2DxIdeal.sig) → Buf (Elt Ideal) ℓ) : Prop :=
  True

def Pre_Ffn2DxIdeal_ffn2_dx_finite [hPre_ffn2_dx_finite : Cert.Pre_ffn2_dx_finite.Facts] (m : (ℓ : Loc Cert.Ffn2DxIdeal.nD Cert.Ffn2DxIdeal.τ Cert.Ffn2DxIdeal.sig) → Buf (Elt Ideal) ℓ) : Prop :=
  ∀ c : Dev Cert.Ffn2DxIdeal.nD,
    (Cert.Pre_ffn2_dx_finite.fn (F := Ideal) (m ((c.tc : Thread Cert.Ffn2DxIdeal.nD Cert.Ffn2DxIdeal.τ).loc Cert.Ffn2DxIdeal.main_arg0)) (m ((c.tc : Thread Cert.Ffn2DxIdeal.nD Cert.Ffn2DxIdeal.τ).loc Cert.Ffn2DxIdeal.main_arg1)) (m ((c.tc : Thread Cert.Ffn2DxIdeal.nD Cert.Ffn2DxIdeal.τ).loc Cert.Ffn2DxIdeal.main_arg2)) (m ((c.tc : Thread Cert.Ffn2DxIdeal.nD Cert.Ffn2DxIdeal.τ).loc Cert.Ffn2DxIdeal.main_arg3)) (m ((c.tc : Thread Cert.Ffn2DxIdeal.nD Cert.Ffn2DxIdeal.τ).loc Cert.Ffn2DxIdeal.main_arg4)) (m ((c.tc : Thread Cert.Ffn2DxIdeal.nD Cert.Ffn2DxIdeal.τ).loc Cert.Ffn2DxIdeal.main_arg5)) (m ((c.tc : Thread Cert.Ffn2DxIdeal.nD Cert.Ffn2DxIdeal.τ).loc Cert.Ffn2DxIdeal.main_arg6)) (m ((c.tc : Thread Cert.Ffn2DxIdeal.nD Cert.Ffn2DxIdeal.τ).loc Cert.Ffn2DxIdeal.main_arg7)) (m ((c.tc : Thread Cert.Ffn2DxIdeal.nD Cert.Ffn2DxIdeal.τ).loc Cert.Ffn2DxIdeal.main_arg8))) = (fun _ => 1#1)

def Pre_Ffn2DxRefIdeal (m : (ℓ : Loc Cert.Ffn2DxRefIdeal.nD Cert.Ffn2DxRefIdeal.τ Cert.Ffn2DxRefIdeal.sig) → Buf (Elt Ideal) ℓ) : Prop :=
  True

def Pre_Ffn2DxRefIdeal_ffn2_dx_finite [hPre_ffn2_dx_finite : Cert.Pre_ffn2_dx_finite.Facts] (m : (ℓ : Loc Cert.Ffn2DxRefIdeal.nD Cert.Ffn2DxRefIdeal.τ Cert.Ffn2DxRefIdeal.sig) → Buf (Elt Ideal) ℓ) : Prop :=
  ∀ c : Dev Cert.Ffn2DxRefIdeal.nD,
    (Cert.Pre_ffn2_dx_finite.fn (F := Ideal) (m ((c.tc : Thread Cert.Ffn2DxRefIdeal.nD Cert.Ffn2DxRefIdeal.τ).loc Cert.Ffn2DxRefIdeal.main_arg0)) (m ((c.tc : Thread Cert.Ffn2DxRefIdeal.nD Cert.Ffn2DxRefIdeal.τ).loc Cert.Ffn2DxRefIdeal.main_arg1)) (m ((c.tc : Thread Cert.Ffn2DxRefIdeal.nD Cert.Ffn2DxRefIdeal.τ).loc Cert.Ffn2DxRefIdeal.main_arg2)) (m ((c.tc : Thread Cert.Ffn2DxRefIdeal.nD Cert.Ffn2DxRefIdeal.τ).loc Cert.Ffn2DxRefIdeal.main_arg3)) (m ((c.tc : Thread Cert.Ffn2DxRefIdeal.nD Cert.Ffn2DxRefIdeal.τ).loc Cert.Ffn2DxRefIdeal.main_arg4)) (m ((c.tc : Thread Cert.Ffn2DxRefIdeal.nD Cert.Ffn2DxRefIdeal.τ).loc Cert.Ffn2DxRefIdeal.main_arg5)) (m ((c.tc : Thread Cert.Ffn2DxRefIdeal.nD Cert.Ffn2DxRefIdeal.τ).loc Cert.Ffn2DxRefIdeal.main_arg6)) (m ((c.tc : Thread Cert.Ffn2DxRefIdeal.nD Cert.Ffn2DxRefIdeal.τ).loc Cert.Ffn2DxRefIdeal.main_arg7)) (m ((c.tc : Thread Cert.Ffn2DxRefIdeal.nD Cert.Ffn2DxRefIdeal.τ).loc Cert.Ffn2DxRefIdeal.main_arg8))) = (fun _ => 1#1)

def Pre_Ffn1Dx (m : (ℓ : Loc Cert.Ffn1Dx.nD Cert.Ffn1Dx.τ Cert.Ffn1Dx.sig) → Buf (Elt Bits) ℓ) : Prop :=
  True

def Pre_Ffn1DxIdeal (m : (ℓ : Loc Cert.Ffn1DxIdeal.nD Cert.Ffn1DxIdeal.τ Cert.Ffn1DxIdeal.sig) → Buf (Elt Ideal) ℓ) : Prop :=
  True

def Pre_Ffn1DxIdeal_ffn1_dx_finite [hPre_ffn1_dx_finite : Cert.Pre_ffn1_dx_finite.Facts] (m : (ℓ : Loc Cert.Ffn1DxIdeal.nD Cert.Ffn1DxIdeal.τ Cert.Ffn1DxIdeal.sig) → Buf (Elt Ideal) ℓ) : Prop :=
  ∀ c : Dev Cert.Ffn1DxIdeal.nD,
    (Cert.Pre_ffn1_dx_finite.fn (F := Ideal) (m ((c.tc : Thread Cert.Ffn1DxIdeal.nD Cert.Ffn1DxIdeal.τ).loc Cert.Ffn1DxIdeal.main_arg0)) (m ((c.tc : Thread Cert.Ffn1DxIdeal.nD Cert.Ffn1DxIdeal.τ).loc Cert.Ffn1DxIdeal.main_arg1)) (m ((c.tc : Thread Cert.Ffn1DxIdeal.nD Cert.Ffn1DxIdeal.τ).loc Cert.Ffn1DxIdeal.main_arg2)) (m ((c.tc : Thread Cert.Ffn1DxIdeal.nD Cert.Ffn1DxIdeal.τ).loc Cert.Ffn1DxIdeal.main_arg3)) (m ((c.tc : Thread Cert.Ffn1DxIdeal.nD Cert.Ffn1DxIdeal.τ).loc Cert.Ffn1DxIdeal.main_arg4)) (m ((c.tc : Thread Cert.Ffn1DxIdeal.nD Cert.Ffn1DxIdeal.τ).loc Cert.Ffn1DxIdeal.main_arg5)) (m ((c.tc : Thread Cert.Ffn1DxIdeal.nD Cert.Ffn1DxIdeal.τ).loc Cert.Ffn1DxIdeal.main_arg6))) = (fun _ => 1#1)

def Pre_Ffn1DxRefIdeal (m : (ℓ : Loc Cert.Ffn1DxRefIdeal.nD Cert.Ffn1DxRefIdeal.τ Cert.Ffn1DxRefIdeal.sig) → Buf (Elt Ideal) ℓ) : Prop :=
  True

def Pre_Ffn1DxRefIdeal_ffn1_dx_finite [hPre_ffn1_dx_finite : Cert.Pre_ffn1_dx_finite.Facts] (m : (ℓ : Loc Cert.Ffn1DxRefIdeal.nD Cert.Ffn1DxRefIdeal.τ Cert.Ffn1DxRefIdeal.sig) → Buf (Elt Ideal) ℓ) : Prop :=
  ∀ c : Dev Cert.Ffn1DxRefIdeal.nD,
    (Cert.Pre_ffn1_dx_finite.fn (F := Ideal) (m ((c.tc : Thread Cert.Ffn1DxRefIdeal.nD Cert.Ffn1DxRefIdeal.τ).loc Cert.Ffn1DxRefIdeal.main_arg0)) (m ((c.tc : Thread Cert.Ffn1DxRefIdeal.nD Cert.Ffn1DxRefIdeal.τ).loc Cert.Ffn1DxRefIdeal.main_arg1)) (m ((c.tc : Thread Cert.Ffn1DxRefIdeal.nD Cert.Ffn1DxRefIdeal.τ).loc Cert.Ffn1DxRefIdeal.main_arg2)) (m ((c.tc : Thread Cert.Ffn1DxRefIdeal.nD Cert.Ffn1DxRefIdeal.τ).loc Cert.Ffn1DxRefIdeal.main_arg3)) (m ((c.tc : Thread Cert.Ffn1DxRefIdeal.nD Cert.Ffn1DxRefIdeal.τ).loc Cert.Ffn1DxRefIdeal.main_arg4)) (m ((c.tc : Thread Cert.Ffn1DxRefIdeal.nD Cert.Ffn1DxRefIdeal.τ).loc Cert.Ffn1DxRefIdeal.main_arg5)) (m ((c.tc : Thread Cert.Ffn1DxRefIdeal.nD Cert.Ffn1DxRefIdeal.τ).loc Cert.Ffn1DxRefIdeal.main_arg6))) = (fun _ => 1#1)

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxIdeal_mix_dx_finite [hPre_mix_dx_finite : Cert.Pre_mix_dx_finite.Facts] (m : (ℓ : Loc Cert.MixDxIdeal.nD Cert.MixDxIdeal.τ Cert.MixDxIdeal.sig) → Buf (Elt Ideal) ℓ) : Prop :=
  ∀ c : Dev Cert.MixDxIdeal.nD,
    (Cert.Pre_mix_dx_finite.fn (F := Ideal) (m ((c.tc : Thread Cert.MixDxIdeal.nD Cert.MixDxIdeal.τ).loc Cert.MixDxIdeal.main_arg0)) (m ((c.tc : Thread Cert.MixDxIdeal.nD Cert.MixDxIdeal.τ).loc Cert.MixDxIdeal.main_arg1)) (m ((c.tc : Thread Cert.MixDxIdeal.nD Cert.MixDxIdeal.τ).loc Cert.MixDxIdeal.main_arg2)) (m ((c.tc : Thread Cert.MixDxIdeal.nD Cert.MixDxIdeal.τ).loc Cert.MixDxIdeal.main_arg3)) (m ((c.tc : Thread Cert.MixDxIdeal.nD Cert.MixDxIdeal.τ).loc Cert.MixDxIdeal.main_arg4)) (m ((c.tc : Thread Cert.MixDxIdeal.nD Cert.MixDxIdeal.τ).loc Cert.MixDxIdeal.main_arg5)) (m ((c.tc : Thread Cert.MixDxIdeal.nD Cert.MixDxIdeal.τ).loc Cert.MixDxIdeal.main_arg6))) = (fun _ => 1#1)

def Pre_MixDxRefIdeal (m : (ℓ : Loc Cert.MixDxRefIdeal.nD Cert.MixDxRefIdeal.τ Cert.MixDxRefIdeal.sig) → Buf (Elt Ideal) ℓ) : Prop :=
  True

def Pre_MixDxRefIdeal_mix_dx_finite [hPre_mix_dx_finite : Cert.Pre_mix_dx_finite.Facts] (m : (ℓ : Loc Cert.MixDxRefIdeal.nD Cert.MixDxRefIdeal.τ Cert.MixDxRefIdeal.sig) → Buf (Elt Ideal) ℓ) : Prop :=
  ∀ c : Dev Cert.MixDxRefIdeal.nD,
    (Cert.Pre_mix_dx_finite.fn (F := Ideal) (m ((c.tc : Thread Cert.MixDxRefIdeal.nD Cert.MixDxRefIdeal.τ).loc Cert.MixDxRefIdeal.main_arg0)) (m ((c.tc : Thread Cert.MixDxRefIdeal.nD Cert.MixDxRefIdeal.τ).loc Cert.MixDxRefIdeal.main_arg1)) (m ((c.tc : Thread Cert.MixDxRefIdeal.nD Cert.MixDxRefIdeal.τ).loc Cert.MixDxRefIdeal.main_arg2)) (m ((c.tc : Thread Cert.MixDxRefIdeal.nD Cert.MixDxRefIdeal.τ).loc Cert.MixDxRefIdeal.main_arg3)) (m ((c.tc : Thread Cert.MixDxRefIdeal.nD Cert.MixDxRefIdeal.τ).loc Cert.MixDxRefIdeal.main_arg4)) (m ((c.tc : Thread Cert.MixDxRefIdeal.nD Cert.MixDxRefIdeal.τ).loc Cert.MixDxRefIdeal.main_arg5)) (m ((c.tc : Thread Cert.MixDxRefIdeal.nD Cert.MixDxRefIdeal.τ).loc Cert.MixDxRefIdeal.main_arg6))) = (fun _ => 1#1)

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdRefIdeal (m : (ℓ : Loc Cert.PleFwdRefIdeal.nD Cert.PleFwdRefIdeal.τ Cert.PleFwdRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_MixProj (m : (ℓ : Loc Cert.MixProj.nD Cert.MixProj.τ Cert.MixProj.sig) → Buf (Elt Bits) ℓ) : Prop :=
  True

def Pre_MixProjIdeal (m : (ℓ : Loc Cert.MixProjIdeal.nD Cert.MixProjIdeal.τ Cert.MixProjIdeal.sig) → Buf (Elt Ideal) ℓ) : Prop :=
  True

def Pre_MixProjRefIdeal (m : (ℓ : Loc Cert.MixProjRefIdeal.nD Cert.MixProjRefIdeal.τ Cert.MixProjRefIdeal.sig) → Buf (Elt Ideal) ℓ) : Prop :=
  True

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_pool_fwd_finite [hPre_pool_fwd_finite : Cert.Pre_pool_fwd_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_pool_fwd_finite.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_pool_fwd_finite [hPre_pool_fwd_finite : Cert.Pre_pool_fwd_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_pool_fwd_finite.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))) = (fun _ => 1#1)

def Pre_MixMerge (m : (ℓ : Loc Cert.MixMerge.nD Cert.MixMerge.τ Cert.MixMerge.sig) → Buf (Elt Bits) ℓ) : Prop :=
  True

def Pre_MixMergeIdeal (m : (ℓ : Loc Cert.MixMergeIdeal.nD Cert.MixMergeIdeal.τ Cert.MixMergeIdeal.sig) → Buf (Elt Ideal) ℓ) : Prop :=
  True

def Pre_MixMergeRefIdeal (m : (ℓ : Loc Cert.MixMergeRefIdeal.nD Cert.MixMergeRefIdeal.τ Cert.MixMergeRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_Ffn1Up (m : (ℓ : Loc Cert.Ffn1Up.nD Cert.Ffn1Up.τ Cert.Ffn1Up.sig) → Buf (Elt Bits) ℓ) : Prop :=
  True

def Pre_Ffn1UpIdeal (m : (ℓ : Loc Cert.Ffn1UpIdeal.nD Cert.Ffn1UpIdeal.τ Cert.Ffn1UpIdeal.sig) → Buf (Elt Ideal) ℓ) : Prop :=
  True

def Pre_Ffn1UpRefIdeal (m : (ℓ : Loc Cert.Ffn1UpRefIdeal.nD Cert.Ffn1UpRefIdeal.τ Cert.Ffn1UpRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_FfnDwd (m : (ℓ : Loc Cert.FfnDwd.nD Cert.FfnDwd.τ Cert.FfnDwd.sig) → Buf (Elt Bits) ℓ) : Prop :=
  True

def Pre_FfnDwdIdeal (m : (ℓ : Loc Cert.FfnDwdIdeal.nD Cert.FfnDwdIdeal.τ Cert.FfnDwdIdeal.sig) → Buf (Elt Ideal) ℓ) : Prop :=
  True

def Pre_FfnDwdRefIdeal (m : (ℓ : Loc Cert.FfnDwdRefIdeal.nD Cert.FfnDwdRefIdeal.τ Cert.FfnDwdRefIdeal.sig) → Buf (Elt Ideal) ℓ) : Prop :=
  True

def Pre_FfnDwIn (m : (ℓ : Loc Cert.FfnDwIn.nD Cert.FfnDwIn.τ Cert.FfnDwIn.sig) → Buf (Elt Bits) ℓ) : Prop :=
  True

def Pre_FfnDwInIdeal (m : (ℓ : Loc Cert.FfnDwInIdeal.nD Cert.FfnDwInIdeal.τ Cert.FfnDwInIdeal.sig) → Buf (Elt Ideal) ℓ) : Prop :=
  True

def Pre_FfnDwInRefIdeal (m : (ℓ : Loc Cert.FfnDwInRefIdeal.nD Cert.FfnDwInRefIdeal.τ Cert.FfnDwInRefIdeal.sig) → Buf (Elt Ideal) ℓ) : Prop :=
  True

def Pre_Ffn1Gate (m : (ℓ : Loc Cert.Ffn1Gate.nD Cert.Ffn1Gate.τ Cert.Ffn1Gate.sig) → Buf (Elt Bits) ℓ) : Prop :=
  True

def Pre_Ffn1GateIdeal (m : (ℓ : Loc Cert.Ffn1GateIdeal.nD Cert.Ffn1GateIdeal.τ Cert.Ffn1GateIdeal.sig) → Buf (Elt Ideal) ℓ) : Prop :=
  True

def Pre_Ffn1GateRefIdeal (m : (ℓ : Loc Cert.Ffn1GateRefIdeal.nD Cert.Ffn1GateRefIdeal.τ Cert.Ffn1GateRefIdeal.sig) → Buf (Elt Ideal) ℓ) : Prop :=
  True

def Pre_ReduceAdam (m : (ℓ : Loc Cert.ReduceAdam.nD Cert.ReduceAdam.τ Cert.ReduceAdam.sig) → Buf (Elt Bits) ℓ) : Prop :=
  True

def Pre_ReduceAdamIdeal (m : (ℓ : Loc Cert.ReduceAdamIdeal.nD Cert.ReduceAdamIdeal.τ Cert.ReduceAdamIdeal.sig) → Buf (Elt Ideal) ℓ) : Prop :=
  True

def Pre_ReduceAdamRefIdeal (m : (ℓ : Loc Cert.ReduceAdamRefIdeal.nD Cert.ReduceAdamRefIdeal.τ Cert.ReduceAdamRefIdeal.sig) → Buf (Elt Ideal) ℓ) : Prop :=
  True

def Pre_ReduceOnly (m : (ℓ : Loc Cert.ReduceOnly.nD Cert.ReduceOnly.τ Cert.ReduceOnly.sig) → Buf (Elt Bits) ℓ) : Prop :=
  True

def Pre_ReduceOnlyIdeal (m : (ℓ : Loc Cert.ReduceOnlyIdeal.nD Cert.ReduceOnlyIdeal.τ Cert.ReduceOnlyIdeal.sig) → Buf (Elt Ideal) ℓ) : Prop :=
  True

def Pre_ReduceOnlyRefIdeal (m : (ℓ : Loc Cert.ReduceOnlyRefIdeal.nD Cert.ReduceOnlyRefIdeal.τ Cert.ReduceOnlyRefIdeal.sig) → Buf (Elt Ideal) ℓ) : Prop :=
  True

def Pre_AdamOnly (m : (ℓ : Loc Cert.AdamOnly.nD Cert.AdamOnly.τ Cert.AdamOnly.sig) → Buf (Elt Bits) ℓ) : Prop :=
  True

def Pre_AdamOnlyIdeal (m : (ℓ : Loc Cert.AdamOnlyIdeal.nD Cert.AdamOnlyIdeal.τ Cert.AdamOnlyIdeal.sig) → Buf (Elt Ideal) ℓ) : Prop :=
  True

def Pre_AdamOnlyRefIdeal (m : (ℓ : Loc Cert.AdamOnlyRefIdeal.nD Cert.AdamOnlyRefIdeal.τ Cert.AdamOnlyRefIdeal.sig) → Buf (Elt Ideal) ℓ) : Prop :=
  True

def Pre_AdamReplicated (m : (ℓ : Loc Cert.AdamReplicated.nD Cert.AdamReplicated.τ Cert.AdamReplicated.sig) → Buf (Elt Bits) ℓ) : Prop :=
  True

def Pre_AdamReplicatedIdeal (m : (ℓ : Loc Cert.AdamReplicatedIdeal.nD Cert.AdamReplicatedIdeal.τ Cert.AdamReplicatedIdeal.sig) → Buf (Elt Ideal) ℓ) : Prop :=
  True

def Pre_AdamReplicatedRefIdeal (m : (ℓ : Loc Cert.AdamReplicatedRefIdeal.nD Cert.AdamReplicatedRefIdeal.τ Cert.AdamReplicatedRefIdeal.sig) → Buf (Elt Ideal) ℓ) : Prop :=
  True

def quiescent_SguBwd [hSguBwd : Cert.SguBwd.Facts] : Prop :=
  ∀ (m : (ℓ : Loc Cert.SguBwd.nD Cert.SguBwd.τ Cert.SguBwd.sig) → Buf (Elt Bits) ℓ) (g : Dev Cert.SguBwd.nD → PrngReg), Pre_SguBwd m →
    θ_run (Cert.SguBwd.defs (F := Bits)) (onTc (τ := Cert.SguBwd.τ) (Cert.SguBwd.main (F := Bits))) ⟨m, fun _ => 0, g⟩ (fun r => (∀ c : Dev Cert.SguBwd.nD,
      r.2.mem ((c.tc : Thread Cert.SguBwd.nD Cert.SguBwd.τ).loc Cert.SguBwd.main_arg0) = m ((c.tc : Thread Cert.SguBwd.nD Cert.SguBwd.τ).loc Cert.SguBwd.main_arg0)
      ∧ r.2.mem ((c.tc : Thread Cert.SguBwd.nD Cert.SguBwd.τ).loc Cert.SguBwd.main_arg1) = m ((c.tc : Thread Cert.SguBwd.nD Cert.SguBwd.τ).loc Cert.SguBwd.main_arg1)
      ∧ r.2.mem ((c.tc : Thread Cert.SguBwd.nD Cert.SguBwd.τ).loc Cert.SguBwd.main_arg2) = m ((c.tc : Thread Cert.SguBwd.nD Cert.SguBwd.τ).loc Cert.SguBwd.main_arg2)
      ∧ r.2.mem ((c.tc : Thread Cert.SguBwd.nD Cert.SguBwd.τ).loc Cert.SguBwd.main_arg3) = m ((c.tc : Thread Cert.SguBwd.nD Cert.SguBwd.τ).loc Cert.SguBwd.main_arg3)
      ∧ r.2.mem ((c.tc : Thread Cert.SguBwd.nD Cert.SguBwd.τ).loc Cert.SguBwd.main_arg4) = m ((c.tc : Thread Cert.SguBwd.nD Cert.SguBwd.τ).loc Cert.SguBwd.main_arg4)
      ∧ r.2.mem ((c.tc : Thread Cert.SguBwd.nD Cert.SguBwd.τ).loc Cert.SguBwd.main_arg5) = m ((c.tc : Thread Cert.SguBwd.nD Cert.SguBwd.τ).loc Cert.SguBwd.main_arg5))
      ∧ r.2.sem = fun _ => 0)

def quiescent_SguBwdIdeal [hSguBwdIdeal : Cert.SguBwdIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ r.2.sem = fun _ => 0)

def quiescent_SguBwdIdeal_pre_sgu_bwd_finite [hSguBwdIdeal : Cert.SguBwdIdeal.Facts] [hPre_sgu_bwd_finite : Cert.Pre_sgu_bwd_finite.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal_sgu_bwd_finite m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ r.2.sem = fun _ => 0)

def quiescent_SguBwdRefIdeal [hSguBwdRefIdeal : Cert.SguBwdRefIdeal.Facts] : Prop :=
  ∀ (m : (ℓ : Loc Cert.SguBwdRefIdeal.nD Cert.SguBwdRefIdeal.τ Cert.SguBwdRefIdeal.sig) → Buf (Elt Ideal) ℓ) (g : Dev Cert.SguBwdRefIdeal.nD → PrngReg), Pre_SguBwdRefIdeal m →
    θ_run (Cert.SguBwdRefIdeal.defs (F := Ideal)) (onTc (τ := Cert.SguBwdRefIdeal.τ) (Cert.SguBwdRefIdeal.main (F := Ideal))) ⟨m, fun _ => 0, g⟩ (fun r => (∀ c : Dev Cert.SguBwdRefIdeal.nD,
      r.2.mem ((c.tc : Thread Cert.SguBwdRefIdeal.nD Cert.SguBwdRefIdeal.τ).loc Cert.SguBwdRefIdeal.main_arg0) = m ((c.tc : Thread Cert.SguBwdRefIdeal.nD Cert.SguBwdRefIdeal.τ).loc Cert.SguBwdRefIdeal.main_arg0)
      ∧ r.2.mem ((c.tc : Thread Cert.SguBwdRefIdeal.nD Cert.SguBwdRefIdeal.τ).loc Cert.SguBwdRefIdeal.main_arg1) = m ((c.tc : Thread Cert.SguBwdRefIdeal.nD Cert.SguBwdRefIdeal.τ).loc Cert.SguBwdRefIdeal.main_arg1)
      ∧ r.2.mem ((c.tc : Thread Cert.SguBwdRefIdeal.nD Cert.SguBwdRefIdeal.τ).loc Cert.SguBwdRefIdeal.main_arg2) = m ((c.tc : Thread Cert.SguBwdRefIdeal.nD Cert.SguBwdRefIdeal.τ).loc Cert.SguBwdRefIdeal.main_arg2)
      ∧ r.2.mem ((c.tc : Thread Cert.SguBwdRefIdeal.nD Cert.SguBwdRefIdeal.τ).loc Cert.SguBwdRefIdeal.main_arg3) = m ((c.tc : Thread Cert.SguBwdRefIdeal.nD Cert.SguBwdRefIdeal.τ).loc Cert.SguBwdRefIdeal.main_arg3)
      ∧ r.2.mem ((c.tc : Thread Cert.SguBwdRefIdeal.nD Cert.SguBwdRefIdeal.τ).loc Cert.SguBwdRefIdeal.main_arg4) = m ((c.tc : Thread Cert.SguBwdRefIdeal.nD Cert.SguBwdRefIdeal.τ).loc Cert.SguBwdRefIdeal.main_arg4)
      ∧ r.2.mem ((c.tc : Thread Cert.SguBwdRefIdeal.nD Cert.SguBwdRefIdeal.τ).loc Cert.SguBwdRefIdeal.main_arg5) = m ((c.tc : Thread Cert.SguBwdRefIdeal.nD Cert.SguBwdRefIdeal.τ).loc Cert.SguBwdRefIdeal.main_arg5))
      ∧ r.2.sem = fun _ => 0)

def quiescent_SguBwdRefIdeal_pre_sgu_bwd_finite [hSguBwdRefIdeal : Cert.SguBwdRefIdeal.Facts] [hPre_sgu_bwd_finite : Cert.Pre_sgu_bwd_finite.Facts] : Prop :=
  ∀ (m : (ℓ : Loc Cert.SguBwdRefIdeal.nD Cert.SguBwdRefIdeal.τ Cert.SguBwdRefIdeal.sig) → Buf (Elt Ideal) ℓ) (g : Dev Cert.SguBwdRefIdeal.nD → PrngReg), Pre_SguBwdRefIdeal_sgu_bwd_finite m →
    θ_run (Cert.SguBwdRefIdeal.defs (F := Ideal)) (onTc (τ := Cert.SguBwdRefIdeal.τ) (Cert.SguBwdRefIdeal.main (F := Ideal))) ⟨m, fun _ => 0, g⟩ (fun r => (∀ c : Dev Cert.SguBwdRefIdeal.nD,
      r.2.mem ((c.tc : Thread Cert.SguBwdRefIdeal.nD Cert.SguBwdRefIdeal.τ).loc Cert.SguBwdRefIdeal.main_arg0) = m ((c.tc : Thread Cert.SguBwdRefIdeal.nD Cert.SguBwdRefIdeal.τ).loc Cert.SguBwdRefIdeal.main_arg0)
      ∧ r.2.mem ((c.tc : Thread Cert.SguBwdRefIdeal.nD Cert.SguBwdRefIdeal.τ).loc Cert.SguBwdRefIdeal.main_arg1) = m ((c.tc : Thread Cert.SguBwdRefIdeal.nD Cert.SguBwdRefIdeal.τ).loc Cert.SguBwdRefIdeal.main_arg1)
      ∧ r.2.mem ((c.tc : Thread Cert.SguBwdRefIdeal.nD Cert.SguBwdRefIdeal.τ).loc Cert.SguBwdRefIdeal.main_arg2) = m ((c.tc : Thread Cert.SguBwdRefIdeal.nD Cert.SguBwdRefIdeal.τ).loc Cert.SguBwdRefIdeal.main_arg2)
      ∧ r.2.mem ((c.tc : Thread Cert.SguBwdRefIdeal.nD Cert.SguBwdRefIdeal.τ).loc Cert.SguBwdRefIdeal.main_arg3) = m ((c.tc : Thread Cert.SguBwdRefIdeal.nD Cert.SguBwdRefIdeal.τ).loc Cert.SguBwdRefIdeal.main_arg3)
      ∧ r.2.mem ((c.tc : Thread Cert.SguBwdRefIdeal.nD Cert.SguBwdRefIdeal.τ).loc Cert.SguBwdRefIdeal.main_arg4) = m ((c.tc : Thread Cert.SguBwdRefIdeal.nD Cert.SguBwdRefIdeal.τ).loc Cert.SguBwdRefIdeal.main_arg4)
      ∧ r.2.mem ((c.tc : Thread Cert.SguBwdRefIdeal.nD Cert.SguBwdRefIdeal.τ).loc Cert.SguBwdRefIdeal.main_arg5) = m ((c.tc : Thread Cert.SguBwdRefIdeal.nD Cert.SguBwdRefIdeal.τ).loc Cert.SguBwdRefIdeal.main_arg5))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3)
      ∧ r.2.mem ((c.tc : Thread Cert.PoolBwd.nD Cert.PoolBwd.τ).loc Cert.PoolBwd.main_arg4) = m ((c.tc : Thread Cert.PoolBwd.nD Cert.PoolBwd.τ).loc Cert.PoolBwd.main_arg4))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ r.2.sem = fun _ => 0)

def quiescent_PoolBwdIdeal_pre_pool_bwd_finite [hPoolBwdIdeal : Cert.PoolBwdIdeal.Facts] [hPre_pool_bwd_finite : Cert.Pre_pool_bwd_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_pool_bwd_finite m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3)
      ∧ r.2.mem ((c.tc : Thread Cert.PoolBwdRefIdeal.nD Cert.PoolBwdRefIdeal.τ).loc Cert.PoolBwdRefIdeal.main_arg4) = m ((c.tc : Thread Cert.PoolBwdRefIdeal.nD Cert.PoolBwdRefIdeal.τ).loc Cert.PoolBwdRefIdeal.main_arg4))
      ∧ r.2.sem = fun _ => 0)

def quiescent_PoolBwdRefIdeal_pre_pool_bwd_finite [hPoolBwdRefIdeal : Cert.PoolBwdRefIdeal.Facts] [hPre_pool_bwd_finite : Cert.Pre_pool_bwd_finite.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal_pool_bwd_finite m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3)
      ∧ r.2.mem ((c.tc : Thread Cert.PoolBwdRefIdeal.nD Cert.PoolBwdRefIdeal.τ).loc Cert.PoolBwdRefIdeal.main_arg4) = m ((c.tc : Thread Cert.PoolBwdRefIdeal.nD Cert.PoolBwdRefIdeal.τ).loc Cert.PoolBwdRefIdeal.main_arg4))
      ∧ r.2.sem = fun _ => 0)

def quiescent_MixDy [hMixDy : Cert.MixDy.Facts] : Prop :=
  ∀ (m : (ℓ : Loc Cert.MixDy.nD Cert.MixDy.τ Cert.MixDy.sig) → Buf (Elt Bits) ℓ) (g : Dev Cert.MixDy.nD → PrngReg), Pre_MixDy m →
    θ_run (Cert.MixDy.defs (F := Bits)) (onTc (τ := Cert.MixDy.τ) (Cert.MixDy.main (F := Bits))) ⟨m, fun _ => 0, g⟩ (fun r => (∀ c : Dev Cert.MixDy.nD,
      r.2.mem ((c.tc : Thread Cert.MixDy.nD Cert.MixDy.τ).loc Cert.MixDy.main_arg0) = m ((c.tc : Thread Cert.MixDy.nD Cert.MixDy.τ).loc Cert.MixDy.main_arg0)
      ∧ r.2.mem ((c.tc : Thread Cert.MixDy.nD Cert.MixDy.τ).loc Cert.MixDy.main_arg1) = m ((c.tc : Thread Cert.MixDy.nD Cert.MixDy.τ).loc Cert.MixDy.main_arg1)
      ∧ r.2.mem ((c.tc : Thread Cert.MixDy.nD Cert.MixDy.τ).loc Cert.MixDy.main_arg2) = m ((c.tc : Thread Cert.MixDy.nD Cert.MixDy.τ).loc Cert.MixDy.main_arg2)
      ∧ r.2.mem ((c.tc : Thread Cert.MixDy.nD Cert.MixDy.τ).loc Cert.MixDy.main_arg3) = m ((c.tc : Thread Cert.MixDy.nD Cert.MixDy.τ).loc Cert.MixDy.main_arg3)
      ∧ r.2.mem ((c.tc : Thread Cert.MixDy.nD Cert.MixDy.τ).loc Cert.MixDy.main_arg4) = m ((c.tc : Thread Cert.MixDy.nD Cert.MixDy.τ).loc Cert.MixDy.main_arg4))
      ∧ r.2.sem = fun _ => 0)

def quiescent_MixDyIdeal [hMixDyIdeal : Cert.MixDyIdeal.Facts] : Prop :=
  ∀ (m : (ℓ : Loc Cert.MixDyIdeal.nD Cert.MixDyIdeal.τ Cert.MixDyIdeal.sig) → Buf (Elt Ideal) ℓ) (g : Dev Cert.MixDyIdeal.nD → PrngReg), Pre_MixDyIdeal m →
    θ_run (Cert.MixDyIdeal.defs (F := Ideal)) (onTc (τ := Cert.MixDyIdeal.τ) (Cert.MixDyIdeal.main (F := Ideal))) ⟨m, fun _ => 0, g⟩ (fun r => (∀ c : Dev Cert.MixDyIdeal.nD,
      r.2.mem ((c.tc : Thread Cert.MixDyIdeal.nD Cert.MixDyIdeal.τ).loc Cert.MixDyIdeal.main_arg0) = m ((c.tc : Thread Cert.MixDyIdeal.nD Cert.MixDyIdeal.τ).loc Cert.MixDyIdeal.main_arg0)
      ∧ r.2.mem ((c.tc : Thread Cert.MixDyIdeal.nD Cert.MixDyIdeal.τ).loc Cert.MixDyIdeal.main_arg1) = m ((c.tc : Thread Cert.MixDyIdeal.nD Cert.MixDyIdeal.τ).loc Cert.MixDyIdeal.main_arg1)
      ∧ r.2.mem ((c.tc : Thread Cert.MixDyIdeal.nD Cert.MixDyIdeal.τ).loc Cert.MixDyIdeal.main_arg2) = m ((c.tc : Thread Cert.MixDyIdeal.nD Cert.MixDyIdeal.τ).loc Cert.MixDyIdeal.main_arg2)
      ∧ r.2.mem ((c.tc : Thread Cert.MixDyIdeal.nD Cert.MixDyIdeal.τ).loc Cert.MixDyIdeal.main_arg3) = m ((c.tc : Thread Cert.MixDyIdeal.nD Cert.MixDyIdeal.τ).loc Cert.MixDyIdeal.main_arg3)
      ∧ r.2.mem ((c.tc : Thread Cert.MixDyIdeal.nD Cert.MixDyIdeal.τ).loc Cert.MixDyIdeal.main_arg4) = m ((c.tc : Thread Cert.MixDyIdeal.nD Cert.MixDyIdeal.τ).loc Cert.MixDyIdeal.main_arg4))
      ∧ r.2.sem = fun _ => 0)

def quiescent_MixDyRefIdeal [hMixDyRefIdeal : Cert.MixDyRefIdeal.Facts] : Prop :=
  ∀ (m : (ℓ : Loc Cert.MixDyRefIdeal.nD Cert.MixDyRefIdeal.τ Cert.MixDyRefIdeal.sig) → Buf (Elt Ideal) ℓ) (g : Dev Cert.MixDyRefIdeal.nD → PrngReg), Pre_MixDyRefIdeal m →
    θ_run (Cert.MixDyRefIdeal.defs (F := Ideal)) (onTc (τ := Cert.MixDyRefIdeal.τ) (Cert.MixDyRefIdeal.main (F := Ideal))) ⟨m, fun _ => 0, g⟩ (fun r => (∀ c : Dev Cert.MixDyRefIdeal.nD,
      r.2.mem ((c.tc : Thread Cert.MixDyRefIdeal.nD Cert.MixDyRefIdeal.τ).loc Cert.MixDyRefIdeal.main_arg0) = m ((c.tc : Thread Cert.MixDyRefIdeal.nD Cert.MixDyRefIdeal.τ).loc Cert.MixDyRefIdeal.main_arg0)
      ∧ r.2.mem ((c.tc : Thread Cert.MixDyRefIdeal.nD Cert.MixDyRefIdeal.τ).loc Cert.MixDyRefIdeal.main_arg1) = m ((c.tc : Thread Cert.MixDyRefIdeal.nD Cert.MixDyRefIdeal.τ).loc Cert.MixDyRefIdeal.main_arg1)
      ∧ r.2.mem ((c.tc : Thread Cert.MixDyRefIdeal.nD Cert.MixDyRefIdeal.τ).loc Cert.MixDyRefIdeal.main_arg2) = m ((c.tc : Thread Cert.MixDyRefIdeal.nD Cert.MixDyRefIdeal.τ).loc Cert.MixDyRefIdeal.main_arg2)
      ∧ r.2.mem ((c.tc : Thread Cert.MixDyRefIdeal.nD Cert.MixDyRefIdeal.τ).loc Cert.MixDyRefIdeal.main_arg3) = m ((c.tc : Thread Cert.MixDyRefIdeal.nD Cert.MixDyRefIdeal.τ).loc Cert.MixDyRefIdeal.main_arg3)
      ∧ r.2.mem ((c.tc : Thread Cert.MixDyRefIdeal.nD Cert.MixDyRefIdeal.τ).loc Cert.MixDyRefIdeal.main_arg4) = m ((c.tc : Thread Cert.MixDyRefIdeal.nD Cert.MixDyRefIdeal.τ).loc Cert.MixDyRefIdeal.main_arg4))
      ∧ r.2.sem = fun _ => 0)

def quiescent_PlePostBwd [hPlePostBwd : Cert.PlePostBwd.Facts] : Prop :=
  ∀ (m : (ℓ : Loc Cert.PlePostBwd.nD Cert.PlePostBwd.τ Cert.PlePostBwd.sig) → Buf (Elt Bits) ℓ) (g : Dev Cert.PlePostBwd.nD → PrngReg), Pre_PlePostBwd m →
    θ_run (Cert.PlePostBwd.defs (F := Bits)) (onTc (τ := Cert.PlePostBwd.τ) (Cert.PlePostBwd.main (F := Bits))) ⟨m, fun _ => 0, g⟩ (fun r => (∀ c : Dev Cert.PlePostBwd.nD,
      r.2.mem ((c.tc : Thread Cert.PlePostBwd.nD Cert.PlePostBwd.τ).loc Cert.PlePostBwd.main_arg0) = m ((c.tc : Thread Cert.PlePostBwd.nD Cert.PlePostBwd.τ).loc Cert.PlePostBwd.main_arg0)
      ∧ r.2.mem ((c.tc : Thread Cert.PlePostBwd.nD Cert.PlePostBwd.τ).loc Cert.PlePostBwd.main_arg1) = m ((c.tc : Thread Cert.PlePostBwd.nD Cert.PlePostBwd.τ).loc Cert.PlePostBwd.main_arg1)
      ∧ r.2.mem ((c.tc : Thread Cert.PlePostBwd.nD Cert.PlePostBwd.τ).loc Cert.PlePostBwd.main_arg2) = m ((c.tc : Thread Cert.PlePostBwd.nD Cert.PlePostBwd.τ).loc Cert.PlePostBwd.main_arg2)
      ∧ r.2.mem ((c.tc : Thread Cert.PlePostBwd.nD Cert.PlePostBwd.τ).loc Cert.PlePostBwd.main_arg3) = m ((c.tc : Thread Cert.PlePostBwd.nD Cert.PlePostBwd.τ).loc Cert.PlePostBwd.main_arg3))
      ∧ r.2.sem = fun _ => 0)

def quiescent_PlePostBwdIdeal [hPlePostBwdIdeal : Cert.PlePostBwdIdeal.Facts] : Prop :=
  ∀ (m : (ℓ : Loc Cert.PlePostBwdIdeal.nD Cert.PlePostBwdIdeal.τ Cert.PlePostBwdIdeal.sig) → Buf (Elt Ideal) ℓ) (g : Dev Cert.PlePostBwdIdeal.nD → PrngReg), Pre_PlePostBwdIdeal m →
    θ_run (Cert.PlePostBwdIdeal.defs (F := Ideal)) (onTc (τ := Cert.PlePostBwdIdeal.τ) (Cert.PlePostBwdIdeal.main (F := Ideal))) ⟨m, fun _ => 0, g⟩ (fun r => (∀ c : Dev Cert.PlePostBwdIdeal.nD,
      r.2.mem ((c.tc : Thread Cert.PlePostBwdIdeal.nD Cert.PlePostBwdIdeal.τ).loc Cert.PlePostBwdIdeal.main_arg0) = m ((c.tc : Thread Cert.PlePostBwdIdeal.nD Cert.PlePostBwdIdeal.τ).loc Cert.PlePostBwdIdeal.main_arg0)
      ∧ r.2.mem ((c.tc : Thread Cert.PlePostBwdIdeal.nD Cert.PlePostBwdIdeal.τ).loc Cert.PlePostBwdIdeal.main_arg1) = m ((c.tc : Thread Cert.PlePostBwdIdeal.nD Cert.PlePostBwdIdeal.τ).loc Cert.PlePostBwdIdeal.main_arg1)
      ∧ r.2.mem ((c.tc : Thread Cert.PlePostBwdIdeal.nD Cert.PlePostBwdIdeal.τ).loc Cert.PlePostBwdIdeal.main_arg2) = m ((c.tc : Thread Cert.PlePostBwdIdeal.nD Cert.PlePostBwdIdeal.τ).loc Cert.PlePostBwdIdeal.main_arg2)
      ∧ r.2.mem ((c.tc : Thread Cert.PlePostBwdIdeal.nD Cert.PlePostBwdIdeal.τ).loc Cert.PlePostBwdIdeal.main_arg3) = m ((c.tc : Thread Cert.PlePostBwdIdeal.nD Cert.PlePostBwdIdeal.τ).loc Cert.PlePostBwdIdeal.main_arg3))
      ∧ r.2.sem = fun _ => 0)

def quiescent_PlePostBwdIdeal_pre_ple_post_bwd_finite [hPlePostBwdIdeal : Cert.PlePostBwdIdeal.Facts] [hPre_ple_post_bwd_finite : Cert.Pre_ple_post_bwd_finite.Facts] : Prop :=
  ∀ (m : (ℓ : Loc Cert.PlePostBwdIdeal.nD Cert.PlePostBwdIdeal.τ Cert.PlePostBwdIdeal.sig) → Buf (Elt Ideal) ℓ) (g : Dev Cert.PlePostBwdIdeal.nD → PrngReg), Pre_PlePostBwdIdeal_ple_post_bwd_finite m →
    θ_run (Cert.PlePostBwdIdeal.defs (F := Ideal)) (onTc (τ := Cert.PlePostBwdIdeal.τ) (Cert.PlePostBwdIdeal.main (F := Ideal))) ⟨m, fun _ => 0, g⟩ (fun r => (∀ c : Dev Cert.PlePostBwdIdeal.nD,
      r.2.mem ((c.tc : Thread Cert.PlePostBwdIdeal.nD Cert.PlePostBwdIdeal.τ).loc Cert.PlePostBwdIdeal.main_arg0) = m ((c.tc : Thread Cert.PlePostBwdIdeal.nD Cert.PlePostBwdIdeal.τ).loc Cert.PlePostBwdIdeal.main_arg0)
      ∧ r.2.mem ((c.tc : Thread Cert.PlePostBwdIdeal.nD Cert.PlePostBwdIdeal.τ).loc Cert.PlePostBwdIdeal.main_arg1) = m ((c.tc : Thread Cert.PlePostBwdIdeal.nD Cert.PlePostBwdIdeal.τ).loc Cert.PlePostBwdIdeal.main_arg1)
      ∧ r.2.mem ((c.tc : Thread Cert.PlePostBwdIdeal.nD Cert.PlePostBwdIdeal.τ).loc Cert.PlePostBwdIdeal.main_arg2) = m ((c.tc : Thread Cert.PlePostBwdIdeal.nD Cert.PlePostBwdIdeal.τ).loc Cert.PlePostBwdIdeal.main_arg2)
      ∧ r.2.mem ((c.tc : Thread Cert.PlePostBwdIdeal.nD Cert.PlePostBwdIdeal.τ).loc Cert.PlePostBwdIdeal.main_arg3) = m ((c.tc : Thread Cert.PlePostBwdIdeal.nD Cert.PlePostBwdIdeal.τ).loc Cert.PlePostBwdIdeal.main_arg3))
      ∧ r.2.sem = fun _ => 0)

def quiescent_PlePostBwdRefIdeal [hPlePostBwdRefIdeal : Cert.PlePostBwdRefIdeal.Facts] : Prop :=
  ∀ (m : (ℓ : Loc Cert.PlePostBwdRefIdeal.nD Cert.PlePostBwdRefIdeal.τ Cert.PlePostBwdRefIdeal.sig) → Buf (Elt Ideal) ℓ) (g : Dev Cert.PlePostBwdRefIdeal.nD → PrngReg), Pre_PlePostBwdRefIdeal m →
    θ_run (Cert.PlePostBwdRefIdeal.defs (F := Ideal)) (onTc (τ := Cert.PlePostBwdRefIdeal.τ) (Cert.PlePostBwdRefIdeal.main (F := Ideal))) ⟨m, fun _ => 0, g⟩ (fun r => (∀ c : Dev Cert.PlePostBwdRefIdeal.nD,
      r.2.mem ((c.tc : Thread Cert.PlePostBwdRefIdeal.nD Cert.PlePostBwdRefIdeal.τ).loc Cert.PlePostBwdRefIdeal.main_arg0) = m ((c.tc : Thread Cert.PlePostBwdRefIdeal.nD Cert.PlePostBwdRefIdeal.τ).loc Cert.PlePostBwdRefIdeal.main_arg0)
      ∧ r.2.mem ((c.tc : Thread Cert.PlePostBwdRefIdeal.nD Cert.PlePostBwdRefIdeal.τ).loc Cert.PlePostBwdRefIdeal.main_arg1) = m ((c.tc : Thread Cert.PlePostBwdRefIdeal.nD Cert.PlePostBwdRefIdeal.τ).loc Cert.PlePostBwdRefIdeal.main_arg1)
      ∧ r.2.mem ((c.tc : Thread Cert.PlePostBwdRefIdeal.nD Cert.PlePostBwdRefIdeal.τ).loc Cert.PlePostBwdRefIdeal.main_arg2) = m ((c.tc : Thread Cert.PlePostBwdRefIdeal.nD Cert.PlePostBwdRefIdeal.τ).loc Cert.PlePostBwdRefIdeal.main_arg2)
      ∧ r.2.mem ((c.tc : Thread Cert.PlePostBwdRefIdeal.nD Cert.PlePostBwdRefIdeal.τ).loc Cert.PlePostBwdRefIdeal.main_arg3) = m ((c.tc : Thread Cert.PlePostBwdRefIdeal.nD Cert.PlePostBwdRefIdeal.τ).loc Cert.PlePostBwdRefIdeal.main_arg3))
      ∧ r.2.sem = fun _ => 0)

def quiescent_PlePostBwdRefIdeal_pre_ple_post_bwd_finite [hPlePostBwdRefIdeal : Cert.PlePostBwdRefIdeal.Facts] [hPre_ple_post_bwd_finite : Cert.Pre_ple_post_bwd_finite.Facts] : Prop :=
  ∀ (m : (ℓ : Loc Cert.PlePostBwdRefIdeal.nD Cert.PlePostBwdRefIdeal.τ Cert.PlePostBwdRefIdeal.sig) → Buf (Elt Ideal) ℓ) (g : Dev Cert.PlePostBwdRefIdeal.nD → PrngReg), Pre_PlePostBwdRefIdeal_ple_post_bwd_finite m →
    θ_run (Cert.PlePostBwdRefIdeal.defs (F := Ideal)) (onTc (τ := Cert.PlePostBwdRefIdeal.τ) (Cert.PlePostBwdRefIdeal.main (F := Ideal))) ⟨m, fun _ => 0, g⟩ (fun r => (∀ c : Dev Cert.PlePostBwdRefIdeal.nD,
      r.2.mem ((c.tc : Thread Cert.PlePostBwdRefIdeal.nD Cert.PlePostBwdRefIdeal.τ).loc Cert.PlePostBwdRefIdeal.main_arg0) = m ((c.tc : Thread Cert.PlePostBwdRefIdeal.nD Cert.PlePostBwdRefIdeal.τ).loc Cert.PlePostBwdRefIdeal.main_arg0)
      ∧ r.2.mem ((c.tc : Thread Cert.PlePostBwdRefIdeal.nD Cert.PlePostBwdRefIdeal.τ).loc Cert.PlePostBwdRefIdeal.main_arg1) = m ((c.tc : Thread Cert.PlePostBwdRefIdeal.nD Cert.PlePostBwdRefIdeal.τ).loc Cert.PlePostBwdRefIdeal.main_arg1)
      ∧ r.2.mem ((c.tc : Thread Cert.PlePostBwdRefIdeal.nD Cert.PlePostBwdRefIdeal.τ).loc Cert.PlePostBwdRefIdeal.main_arg2) = m ((c.tc : Thread Cert.PlePostBwdRefIdeal.nD Cert.PlePostBwdRefIdeal.τ).loc Cert.PlePostBwdRefIdeal.main_arg2)
      ∧ r.2.mem ((c.tc : Thread Cert.PlePostBwdRefIdeal.nD Cert.PlePostBwdRefIdeal.τ).loc Cert.PlePostBwdRefIdeal.main_arg3) = m ((c.tc : Thread Cert.PlePostBwdRefIdeal.nD Cert.PlePostBwdRefIdeal.τ).loc Cert.PlePostBwdRefIdeal.main_arg3))
      ∧ r.2.sem = fun _ => 0)

def quiescent_FfnDhid [hFfnDhid : Cert.FfnDhid.Facts] : Prop :=
  ∀ (m : (ℓ : Loc Cert.FfnDhid.nD Cert.FfnDhid.τ Cert.FfnDhid.sig) → Buf (Elt Bits) ℓ) (g : Dev Cert.FfnDhid.nD → PrngReg), Pre_FfnDhid m →
    θ_run (Cert.FfnDhid.defs (F := Bits)) (onTc (τ := Cert.FfnDhid.τ) (Cert.FfnDhid.main (F := Bits))) ⟨m, fun _ => 0, g⟩ (fun r => (∀ c : Dev Cert.FfnDhid.nD,
      r.2.mem ((c.tc : Thread Cert.FfnDhid.nD Cert.FfnDhid.τ).loc Cert.FfnDhid.main_arg0) = m ((c.tc : Thread Cert.FfnDhid.nD Cert.FfnDhid.τ).loc Cert.FfnDhid.main_arg0)
      ∧ r.2.mem ((c.tc : Thread Cert.FfnDhid.nD Cert.FfnDhid.τ).loc Cert.FfnDhid.main_arg1) = m ((c.tc : Thread Cert.FfnDhid.nD Cert.FfnDhid.τ).loc Cert.FfnDhid.main_arg1)
      ∧ r.2.mem ((c.tc : Thread Cert.FfnDhid.nD Cert.FfnDhid.τ).loc Cert.FfnDhid.main_arg2) = m ((c.tc : Thread Cert.FfnDhid.nD Cert.FfnDhid.τ).loc Cert.FfnDhid.main_arg2)
      ∧ r.2.mem ((c.tc : Thread Cert.FfnDhid.nD Cert.FfnDhid.τ).loc Cert.FfnDhid.main_arg3) = m ((c.tc : Thread Cert.FfnDhid.nD Cert.FfnDhid.τ).loc Cert.FfnDhid.main_arg3))
      ∧ r.2.sem = fun _ => 0)

def quiescent_FfnDhidIdeal [hFfnDhidIdeal : Cert.FfnDhidIdeal.Facts] : Prop :=
  ∀ (m : (ℓ : Loc Cert.FfnDhidIdeal.nD Cert.FfnDhidIdeal.τ Cert.FfnDhidIdeal.sig) → Buf (Elt Ideal) ℓ) (g : Dev Cert.FfnDhidIdeal.nD → PrngReg), Pre_FfnDhidIdeal m →
    θ_run (Cert.FfnDhidIdeal.defs (F := Ideal)) (onTc (τ := Cert.FfnDhidIdeal.τ) (Cert.FfnDhidIdeal.main (F := Ideal))) ⟨m, fun _ => 0, g⟩ (fun r => (∀ c : Dev Cert.FfnDhidIdeal.nD,
      r.2.mem ((c.tc : Thread Cert.FfnDhidIdeal.nD Cert.FfnDhidIdeal.τ).loc Cert.FfnDhidIdeal.main_arg0) = m ((c.tc : Thread Cert.FfnDhidIdeal.nD Cert.FfnDhidIdeal.τ).loc Cert.FfnDhidIdeal.main_arg0)
      ∧ r.2.mem ((c.tc : Thread Cert.FfnDhidIdeal.nD Cert.FfnDhidIdeal.τ).loc Cert.FfnDhidIdeal.main_arg1) = m ((c.tc : Thread Cert.FfnDhidIdeal.nD Cert.FfnDhidIdeal.τ).loc Cert.FfnDhidIdeal.main_arg1)
      ∧ r.2.mem ((c.tc : Thread Cert.FfnDhidIdeal.nD Cert.FfnDhidIdeal.τ).loc Cert.FfnDhidIdeal.main_arg2) = m ((c.tc : Thread Cert.FfnDhidIdeal.nD Cert.FfnDhidIdeal.τ).loc Cert.FfnDhidIdeal.main_arg2)
      ∧ r.2.mem ((c.tc : Thread Cert.FfnDhidIdeal.nD Cert.FfnDhidIdeal.τ).loc Cert.FfnDhidIdeal.main_arg3) = m ((c.tc : Thread Cert.FfnDhidIdeal.nD Cert.FfnDhidIdeal.τ).loc Cert.FfnDhidIdeal.main_arg3))
      ∧ r.2.sem = fun _ => 0)

def quiescent_FfnDhidIdeal_pre_ffn_dhid_finite [hFfnDhidIdeal : Cert.FfnDhidIdeal.Facts] [hPre_ffn_dhid_finite : Cert.Pre_ffn_dhid_finite.Facts] : Prop :=
  ∀ (m : (ℓ : Loc Cert.FfnDhidIdeal.nD Cert.FfnDhidIdeal.τ Cert.FfnDhidIdeal.sig) → Buf (Elt Ideal) ℓ) (g : Dev Cert.FfnDhidIdeal.nD → PrngReg), Pre_FfnDhidIdeal_ffn_dhid_finite m →
    θ_run (Cert.FfnDhidIdeal.defs (F := Ideal)) (onTc (τ := Cert.FfnDhidIdeal.τ) (Cert.FfnDhidIdeal.main (F := Ideal))) ⟨m, fun _ => 0, g⟩ (fun r => (∀ c : Dev Cert.FfnDhidIdeal.nD,
      r.2.mem ((c.tc : Thread Cert.FfnDhidIdeal.nD Cert.FfnDhidIdeal.τ).loc Cert.FfnDhidIdeal.main_arg0) = m ((c.tc : Thread Cert.FfnDhidIdeal.nD Cert.FfnDhidIdeal.τ).loc Cert.FfnDhidIdeal.main_arg0)
      ∧ r.2.mem ((c.tc : Thread Cert.FfnDhidIdeal.nD Cert.FfnDhidIdeal.τ).loc Cert.FfnDhidIdeal.main_arg1) = m ((c.tc : Thread Cert.FfnDhidIdeal.nD Cert.FfnDhidIdeal.τ).loc Cert.FfnDhidIdeal.main_arg1)
      ∧ r.2.mem ((c.tc : Thread Cert.FfnDhidIdeal.nD Cert.FfnDhidIdeal.τ).loc Cert.FfnDhidIdeal.main_arg2) = m ((c.tc : Thread Cert.FfnDhidIdeal.nD Cert.FfnDhidIdeal.τ).loc Cert.FfnDhidIdeal.main_arg2)
      ∧ r.2.mem ((c.tc : Thread Cert.FfnDhidIdeal.nD Cert.FfnDhidIdeal.τ).loc Cert.FfnDhidIdeal.main_arg3) = m ((c.tc : Thread Cert.FfnDhidIdeal.nD Cert.FfnDhidIdeal.τ).loc Cert.FfnDhidIdeal.main_arg3))
      ∧ r.2.sem = fun _ => 0)

def quiescent_FfnDhidRefIdeal [hFfnDhidRefIdeal : Cert.FfnDhidRefIdeal.Facts] : Prop :=
  ∀ (m : (ℓ : Loc Cert.FfnDhidRefIdeal.nD Cert.FfnDhidRefIdeal.τ Cert.FfnDhidRefIdeal.sig) → Buf (Elt Ideal) ℓ) (g : Dev Cert.FfnDhidRefIdeal.nD → PrngReg), Pre_FfnDhidRefIdeal m →
    θ_run (Cert.FfnDhidRefIdeal.defs (F := Ideal)) (onTc (τ := Cert.FfnDhidRefIdeal.τ) (Cert.FfnDhidRefIdeal.main (F := Ideal))) ⟨m, fun _ => 0, g⟩ (fun r => (∀ c : Dev Cert.FfnDhidRefIdeal.nD,
      r.2.mem ((c.tc : Thread Cert.FfnDhidRefIdeal.nD Cert.FfnDhidRefIdeal.τ).loc Cert.FfnDhidRefIdeal.main_arg0) = m ((c.tc : Thread Cert.FfnDhidRefIdeal.nD Cert.FfnDhidRefIdeal.τ).loc Cert.FfnDhidRefIdeal.main_arg0)
      ∧ r.2.mem ((c.tc : Thread Cert.FfnDhidRefIdeal.nD Cert.FfnDhidRefIdeal.τ).loc Cert.FfnDhidRefIdeal.main_arg1) = m ((c.tc : Thread Cert.FfnDhidRefIdeal.nD Cert.FfnDhidRefIdeal.τ).loc Cert.FfnDhidRefIdeal.main_arg1)
      ∧ r.2.mem ((c.tc : Thread Cert.FfnDhidRefIdeal.nD Cert.FfnDhidRefIdeal.τ).loc Cert.FfnDhidRefIdeal.main_arg2) = m ((c.tc : Thread Cert.FfnDhidRefIdeal.nD Cert.FfnDhidRefIdeal.τ).loc Cert.FfnDhidRefIdeal.main_arg2)
      ∧ r.2.mem ((c.tc : Thread Cert.FfnDhidRefIdeal.nD Cert.FfnDhidRefIdeal.τ).loc Cert.FfnDhidRefIdeal.main_arg3) = m ((c.tc : Thread Cert.FfnDhidRefIdeal.nD Cert.FfnDhidRefIdeal.τ).loc Cert.FfnDhidRefIdeal.main_arg3))
      ∧ r.2.sem = fun _ => 0)

def quiescent_FfnDhidRefIdeal_pre_ffn_dhid_finite [hFfnDhidRefIdeal : Cert.FfnDhidRefIdeal.Facts] [hPre_ffn_dhid_finite : Cert.Pre_ffn_dhid_finite.Facts] : Prop :=
  ∀ (m : (ℓ : Loc Cert.FfnDhidRefIdeal.nD Cert.FfnDhidRefIdeal.τ Cert.FfnDhidRefIdeal.sig) → Buf (Elt Ideal) ℓ) (g : Dev Cert.FfnDhidRefIdeal.nD → PrngReg), Pre_FfnDhidRefIdeal_ffn_dhid_finite m →
    θ_run (Cert.FfnDhidRefIdeal.defs (F := Ideal)) (onTc (τ := Cert.FfnDhidRefIdeal.τ) (Cert.FfnDhidRefIdeal.main (F := Ideal))) ⟨m, fun _ => 0, g⟩ (fun r => (∀ c : Dev Cert.FfnDhidRefIdeal.nD,
      r.2.mem ((c.tc : Thread Cert.FfnDhidRefIdeal.nD Cert.FfnDhidRefIdeal.τ).loc Cert.FfnDhidRefIdeal.main_arg0) = m ((c.tc : Thread Cert.FfnDhidRefIdeal.nD Cert.FfnDhidRefIdeal.τ).loc Cert.FfnDhidRefIdeal.main_arg0)
      ∧ r.2.mem ((c.tc : Thread Cert.FfnDhidRefIdeal.nD Cert.FfnDhidRefIdeal.τ).loc Cert.FfnDhidRefIdeal.main_arg1) = m ((c.tc : Thread Cert.FfnDhidRefIdeal.nD Cert.FfnDhidRefIdeal.τ).loc Cert.FfnDhidRefIdeal.main_arg1)
      ∧ r.2.mem ((c.tc : Thread Cert.FfnDhidRefIdeal.nD Cert.FfnDhidRefIdeal.τ).loc Cert.FfnDhidRefIdeal.main_arg2) = m ((c.tc : Thread Cert.FfnDhidRefIdeal.nD Cert.FfnDhidRefIdeal.τ).loc Cert.FfnDhidRefIdeal.main_arg2)
      ∧ r.2.mem ((c.tc : Thread Cert.FfnDhidRefIdeal.nD Cert.FfnDhidRefIdeal.τ).loc Cert.FfnDhidRefIdeal.main_arg3) = m ((c.tc : Thread Cert.FfnDhidRefIdeal.nD Cert.FfnDhidRefIdeal.τ).loc Cert.FfnDhidRefIdeal.main_arg3))
      ∧ r.2.sem = fun _ => 0)

def quiescent_PleDx [hPleDx : Cert.PleDx.Facts] : Prop :=
  ∀ (m : (ℓ : Loc Cert.PleDx.nD Cert.PleDx.τ Cert.PleDx.sig) → Buf (Elt Bits) ℓ) (g : Dev Cert.PleDx.nD → PrngReg), Pre_PleDx m →
    θ_run (Cert.PleDx.defs (F := Bits)) (onTc (τ := Cert.PleDx.τ) (Cert.PleDx.main (F := Bits))) ⟨m, fun _ => 0, g⟩ (fun r => (∀ c : Dev Cert.PleDx.nD,
      r.2.mem ((c.tc : Thread Cert.PleDx.nD Cert.PleDx.τ).loc Cert.PleDx.main_arg0) = m ((c.tc : Thread Cert.PleDx.nD Cert.PleDx.τ).loc Cert.PleDx.main_arg0)
      ∧ r.2.mem ((c.tc : Thread Cert.PleDx.nD Cert.PleDx.τ).loc Cert.PleDx.main_arg1) = m ((c.tc : Thread Cert.PleDx.nD Cert.PleDx.τ).loc Cert.PleDx.main_arg1)
      ∧ r.2.mem ((c.tc : Thread Cert.PleDx.nD Cert.PleDx.τ).loc Cert.PleDx.main_arg2) = m ((c.tc : Thread Cert.PleDx.nD Cert.PleDx.τ).loc Cert.PleDx.main_arg2)
      ∧ r.2.mem ((c.tc : Thread Cert.PleDx.nD Cert.PleDx.τ).loc Cert.PleDx.main_arg3) = m ((c.tc : Thread Cert.PleDx.nD Cert.PleDx.τ).loc Cert.PleDx.main_arg3)
      ∧ r.2.mem ((c.tc : Thread Cert.PleDx.nD Cert.PleDx.τ).loc Cert.PleDx.main_arg4) = m ((c.tc : Thread Cert.PleDx.nD Cert.PleDx.τ).loc Cert.PleDx.main_arg4)
      ∧ r.2.mem ((c.tc : Thread Cert.PleDx.nD Cert.PleDx.τ).loc Cert.PleDx.main_arg5) = m ((c.tc : Thread Cert.PleDx.nD Cert.PleDx.τ).loc Cert.PleDx.main_arg5)
      ∧ r.2.mem ((c.tc : Thread Cert.PleDx.nD Cert.PleDx.τ).loc Cert.PleDx.main_arg6) = m ((c.tc : Thread Cert.PleDx.nD Cert.PleDx.τ).loc Cert.PleDx.main_arg6))
      ∧ r.2.sem = fun _ => 0)

def quiescent_PleDxIdeal [hPleDxIdeal : Cert.PleDxIdeal.Facts] : Prop :=
  ∀ (m : (ℓ : Loc Cert.PleDxIdeal.nD Cert.PleDxIdeal.τ Cert.PleDxIdeal.sig) → Buf (Elt Ideal) ℓ) (g : Dev Cert.PleDxIdeal.nD → PrngReg), Pre_PleDxIdeal m →
    θ_run (Cert.PleDxIdeal.defs (F := Ideal)) (onTc (τ := Cert.PleDxIdeal.τ) (Cert.PleDxIdeal.main (F := Ideal))) ⟨m, fun _ => 0, g⟩ (fun r => (∀ c : Dev Cert.PleDxIdeal.nD,
      r.2.mem ((c.tc : Thread Cert.PleDxIdeal.nD Cert.PleDxIdeal.τ).loc Cert.PleDxIdeal.main_arg0) = m ((c.tc : Thread Cert.PleDxIdeal.nD Cert.PleDxIdeal.τ).loc Cert.PleDxIdeal.main_arg0)
      ∧ r.2.mem ((c.tc : Thread Cert.PleDxIdeal.nD Cert.PleDxIdeal.τ).loc Cert.PleDxIdeal.main_arg1) = m ((c.tc : Thread Cert.PleDxIdeal.nD Cert.PleDxIdeal.τ).loc Cert.PleDxIdeal.main_arg1)
      ∧ r.2.mem ((c.tc : Thread Cert.PleDxIdeal.nD Cert.PleDxIdeal.τ).loc Cert.PleDxIdeal.main_arg2) = m ((c.tc : Thread Cert.PleDxIdeal.nD Cert.PleDxIdeal.τ).loc Cert.PleDxIdeal.main_arg2)
      ∧ r.2.mem ((c.tc : Thread Cert.PleDxIdeal.nD Cert.PleDxIdeal.τ).loc Cert.PleDxIdeal.main_arg3) = m ((c.tc : Thread Cert.PleDxIdeal.nD Cert.PleDxIdeal.τ).loc Cert.PleDxIdeal.main_arg3)
      ∧ r.2.mem ((c.tc : Thread Cert.PleDxIdeal.nD Cert.PleDxIdeal.τ).loc Cert.PleDxIdeal.main_arg4) = m ((c.tc : Thread Cert.PleDxIdeal.nD Cert.PleDxIdeal.τ).loc Cert.PleDxIdeal.main_arg4)
      ∧ r.2.mem ((c.tc : Thread Cert.PleDxIdeal.nD Cert.PleDxIdeal.τ).loc Cert.PleDxIdeal.main_arg5) = m ((c.tc : Thread Cert.PleDxIdeal.nD Cert.PleDxIdeal.τ).loc Cert.PleDxIdeal.main_arg5)
      ∧ r.2.mem ((c.tc : Thread Cert.PleDxIdeal.nD Cert.PleDxIdeal.τ).loc Cert.PleDxIdeal.main_arg6) = m ((c.tc : Thread Cert.PleDxIdeal.nD Cert.PleDxIdeal.τ).loc Cert.PleDxIdeal.main_arg6))
      ∧ r.2.sem = fun _ => 0)

def quiescent_PleDxIdeal_pre_ple_dx_finite [hPleDxIdeal : Cert.PleDxIdeal.Facts] [hPre_ple_dx_finite : Cert.Pre_ple_dx_finite.Facts] : Prop :=
  ∀ (m : (ℓ : Loc Cert.PleDxIdeal.nD Cert.PleDxIdeal.τ Cert.PleDxIdeal.sig) → Buf (Elt Ideal) ℓ) (g : Dev Cert.PleDxIdeal.nD → PrngReg), Pre_PleDxIdeal_ple_dx_finite m →
    θ_run (Cert.PleDxIdeal.defs (F := Ideal)) (onTc (τ := Cert.PleDxIdeal.τ) (Cert.PleDxIdeal.main (F := Ideal))) ⟨m, fun _ => 0, g⟩ (fun r => (∀ c : Dev Cert.PleDxIdeal.nD,
      r.2.mem ((c.tc : Thread Cert.PleDxIdeal.nD Cert.PleDxIdeal.τ).loc Cert.PleDxIdeal.main_arg0) = m ((c.tc : Thread Cert.PleDxIdeal.nD Cert.PleDxIdeal.τ).loc Cert.PleDxIdeal.main_arg0)
      ∧ r.2.mem ((c.tc : Thread Cert.PleDxIdeal.nD Cert.PleDxIdeal.τ).loc Cert.PleDxIdeal.main_arg1) = m ((c.tc : Thread Cert.PleDxIdeal.nD Cert.PleDxIdeal.τ).loc Cert.PleDxIdeal.main_arg1)
      ∧ r.2.mem ((c.tc : Thread Cert.PleDxIdeal.nD Cert.PleDxIdeal.τ).loc Cert.PleDxIdeal.main_arg2) = m ((c.tc : Thread Cert.PleDxIdeal.nD Cert.PleDxIdeal.τ).loc Cert.PleDxIdeal.main_arg2)
      ∧ r.2.mem ((c.tc : Thread Cert.PleDxIdeal.nD Cert.PleDxIdeal.τ).loc Cert.PleDxIdeal.main_arg3) = m ((c.tc : Thread Cert.PleDxIdeal.nD Cert.PleDxIdeal.τ).loc Cert.PleDxIdeal.main_arg3)
      ∧ r.2.mem ((c.tc : Thread Cert.PleDxIdeal.nD Cert.PleDxIdeal.τ).loc Cert.PleDxIdeal.main_arg4) = m ((c.tc : Thread Cert.PleDxIdeal.nD Cert.PleDxIdeal.τ).loc Cert.PleDxIdeal.main_arg4)
      ∧ r.2.mem ((c.tc : Thread Cert.PleDxIdeal.nD Cert.PleDxIdeal.τ).loc Cert.PleDxIdeal.main_arg5) = m ((c.tc : Thread Cert.PleDxIdeal.nD Cert.PleDxIdeal.τ).loc Cert.PleDxIdeal.main_arg5)
      ∧ r.2.mem ((c.tc : Thread Cert.PleDxIdeal.nD Cert.PleDxIdeal.τ).loc Cert.PleDxIdeal.main_arg6) = m ((c.tc : Thread Cert.PleDxIdeal.nD Cert.PleDxIdeal.τ).loc Cert.PleDxIdeal.main_arg6))
      ∧ r.2.sem = fun _ => 0)

def quiescent_PleDxRefIdeal [hPleDxRefIdeal : Cert.PleDxRefIdeal.Facts] : Prop :=
  ∀ (m : (ℓ : Loc Cert.PleDxRefIdeal.nD Cert.PleDxRefIdeal.τ Cert.PleDxRefIdeal.sig) → Buf (Elt Ideal) ℓ) (g : Dev Cert.PleDxRefIdeal.nD → PrngReg), Pre_PleDxRefIdeal m →
    θ_run (Cert.PleDxRefIdeal.defs (F := Ideal)) (onTc (τ := Cert.PleDxRefIdeal.τ) (Cert.PleDxRefIdeal.main (F := Ideal))) ⟨m, fun _ => 0, g⟩ (fun r => (∀ c : Dev Cert.PleDxRefIdeal.nD,
      r.2.mem ((c.tc : Thread Cert.PleDxRefIdeal.nD Cert.PleDxRefIdeal.τ).loc Cert.PleDxRefIdeal.main_arg0) = m ((c.tc : Thread Cert.PleDxRefIdeal.nD Cert.PleDxRefIdeal.τ).loc Cert.PleDxRefIdeal.main_arg0)
      ∧ r.2.mem ((c.tc : Thread Cert.PleDxRefIdeal.nD Cert.PleDxRefIdeal.τ).loc Cert.PleDxRefIdeal.main_arg1) = m ((c.tc : Thread Cert.PleDxRefIdeal.nD Cert.PleDxRefIdeal.τ).loc Cert.PleDxRefIdeal.main_arg1)
      ∧ r.2.mem ((c.tc : Thread Cert.PleDxRefIdeal.nD Cert.PleDxRefIdeal.τ).loc Cert.PleDxRefIdeal.main_arg2) = m ((c.tc : Thread Cert.PleDxRefIdeal.nD Cert.PleDxRefIdeal.τ).loc Cert.PleDxRefIdeal.main_arg2)
      ∧ r.2.mem ((c.tc : Thread Cert.PleDxRefIdeal.nD Cert.PleDxRefIdeal.τ).loc Cert.PleDxRefIdeal.main_arg3) = m ((c.tc : Thread Cert.PleDxRefIdeal.nD Cert.PleDxRefIdeal.τ).loc Cert.PleDxRefIdeal.main_arg3)
      ∧ r.2.mem ((c.tc : Thread Cert.PleDxRefIdeal.nD Cert.PleDxRefIdeal.τ).loc Cert.PleDxRefIdeal.main_arg4) = m ((c.tc : Thread Cert.PleDxRefIdeal.nD Cert.PleDxRefIdeal.τ).loc Cert.PleDxRefIdeal.main_arg4)
      ∧ r.2.mem ((c.tc : Thread Cert.PleDxRefIdeal.nD Cert.PleDxRefIdeal.τ).loc Cert.PleDxRefIdeal.main_arg5) = m ((c.tc : Thread Cert.PleDxRefIdeal.nD Cert.PleDxRefIdeal.τ).loc Cert.PleDxRefIdeal.main_arg5)
      ∧ r.2.mem ((c.tc : Thread Cert.PleDxRefIdeal.nD Cert.PleDxRefIdeal.τ).loc Cert.PleDxRefIdeal.main_arg6) = m ((c.tc : Thread Cert.PleDxRefIdeal.nD Cert.PleDxRefIdeal.τ).loc Cert.PleDxRefIdeal.main_arg6))
      ∧ r.2.sem = fun _ => 0)

def quiescent_PleDxRefIdeal_pre_ple_dx_finite [hPleDxRefIdeal : Cert.PleDxRefIdeal.Facts] [hPre_ple_dx_finite : Cert.Pre_ple_dx_finite.Facts] : Prop :=
  ∀ (m : (ℓ : Loc Cert.PleDxRefIdeal.nD Cert.PleDxRefIdeal.τ Cert.PleDxRefIdeal.sig) → Buf (Elt Ideal) ℓ) (g : Dev Cert.PleDxRefIdeal.nD → PrngReg), Pre_PleDxRefIdeal_ple_dx_finite m →
    θ_run (Cert.PleDxRefIdeal.defs (F := Ideal)) (onTc (τ := Cert.PleDxRefIdeal.τ) (Cert.PleDxRefIdeal.main (F := Ideal))) ⟨m, fun _ => 0, g⟩ (fun r => (∀ c : Dev Cert.PleDxRefIdeal.nD,
      r.2.mem ((c.tc : Thread Cert.PleDxRefIdeal.nD Cert.PleDxRefIdeal.τ).loc Cert.PleDxRefIdeal.main_arg0) = m ((c.tc : Thread Cert.PleDxRefIdeal.nD Cert.PleDxRefIdeal.τ).loc Cert.PleDxRefIdeal.main_arg0)
      ∧ r.2.mem ((c.tc : Thread Cert.PleDxRefIdeal.nD Cert.PleDxRefIdeal.τ).loc Cert.PleDxRefIdeal.main_arg1) = m ((c.tc : Thread Cert.PleDxRefIdeal.nD Cert.PleDxRefIdeal.τ).loc Cert.PleDxRefIdeal.main_arg1)
      ∧ r.2.mem ((c.tc : Thread Cert.PleDxRefIdeal.nD Cert.PleDxRefIdeal.τ).loc Cert.PleDxRefIdeal.main_arg2) = m ((c.tc : Thread Cert.PleDxRefIdeal.nD Cert.PleDxRefIdeal.τ).loc Cert.PleDxRefIdeal.main_arg2)
      ∧ r.2.mem ((c.tc : Thread Cert.PleDxRefIdeal.nD Cert.PleDxRefIdeal.τ).loc Cert.PleDxRefIdeal.main_arg3) = m ((c.tc : Thread Cert.PleDxRefIdeal.nD Cert.PleDxRefIdeal.τ).loc Cert.PleDxRefIdeal.main_arg3)
      ∧ r.2.mem ((c.tc : Thread Cert.PleDxRefIdeal.nD Cert.PleDxRefIdeal.τ).loc Cert.PleDxRefIdeal.main_arg4) = m ((c.tc : Thread Cert.PleDxRefIdeal.nD Cert.PleDxRefIdeal.τ).loc Cert.PleDxRefIdeal.main_arg4)
      ∧ r.2.mem ((c.tc : Thread Cert.PleDxRefIdeal.nD Cert.PleDxRefIdeal.τ).loc Cert.PleDxRefIdeal.main_arg5) = m ((c.tc : Thread Cert.PleDxRefIdeal.nD Cert.PleDxRefIdeal.τ).loc Cert.PleDxRefIdeal.main_arg5)
      ∧ r.2.mem ((c.tc : Thread Cert.PleDxRefIdeal.nD Cert.PleDxRefIdeal.τ).loc Cert.PleDxRefIdeal.main_arg6) = m ((c.tc : Thread Cert.PleDxRefIdeal.nD Cert.PleDxRefIdeal.τ).loc Cert.PleDxRefIdeal.main_arg6))
      ∧ r.2.sem = fun _ => 0)

def quiescent_Ffn2Dx [hFfn2Dx : Cert.Ffn2Dx.Facts] : Prop :=
  ∀ (m : (ℓ : Loc Cert.Ffn2Dx.nD Cert.Ffn2Dx.τ Cert.Ffn2Dx.sig) → Buf (Elt Bits) ℓ) (g : Dev Cert.Ffn2Dx.nD → PrngReg), Pre_Ffn2Dx m →
    θ_run (Cert.Ffn2Dx.defs (F := Bits)) (onTc (τ := Cert.Ffn2Dx.τ) (Cert.Ffn2Dx.main (F := Bits))) ⟨m, fun _ => 0, g⟩ (fun r => (∀ c : Dev Cert.Ffn2Dx.nD,
      r.2.mem ((c.tc : Thread Cert.Ffn2Dx.nD Cert.Ffn2Dx.τ).loc Cert.Ffn2Dx.main_arg0) = m ((c.tc : Thread Cert.Ffn2Dx.nD Cert.Ffn2Dx.τ).loc Cert.Ffn2Dx.main_arg0)
      ∧ r.2.mem ((c.tc : Thread Cert.Ffn2Dx.nD Cert.Ffn2Dx.τ).loc Cert.Ffn2Dx.main_arg1) = m ((c.tc : Thread Cert.Ffn2Dx.nD Cert.Ffn2Dx.τ).loc Cert.Ffn2Dx.main_arg1)
      ∧ r.2.mem ((c.tc : Thread Cert.Ffn2Dx.nD Cert.Ffn2Dx.τ).loc Cert.Ffn2Dx.main_arg2) = m ((c.tc : Thread Cert.Ffn2Dx.nD Cert.Ffn2Dx.τ).loc Cert.Ffn2Dx.main_arg2)
      ∧ r.2.mem ((c.tc : Thread Cert.Ffn2Dx.nD Cert.Ffn2Dx.τ).loc Cert.Ffn2Dx.main_arg3) = m ((c.tc : Thread Cert.Ffn2Dx.nD Cert.Ffn2Dx.τ).loc Cert.Ffn2Dx.main_arg3)
      ∧ r.2.mem ((c.tc : Thread Cert.Ffn2Dx.nD Cert.Ffn2Dx.τ).loc Cert.Ffn2Dx.main_arg4) = m ((c.tc : Thread Cert.Ffn2Dx.nD Cert.Ffn2Dx.τ).loc Cert.Ffn2Dx.main_arg4)
      ∧ r.2.mem ((c.tc : Thread Cert.Ffn2Dx.nD Cert.Ffn2Dx.τ).loc Cert.Ffn2Dx.main_arg5) = m ((c.tc : Thread Cert.Ffn2Dx.nD Cert.Ffn2Dx.τ).loc Cert.Ffn2Dx.main_arg5)
      ∧ r.2.mem ((c.tc : Thread Cert.Ffn2Dx.nD Cert.Ffn2Dx.τ).loc Cert.Ffn2Dx.main_arg6) = m ((c.tc : Thread Cert.Ffn2Dx.nD Cert.Ffn2Dx.τ).loc Cert.Ffn2Dx.main_arg6)
      ∧ r.2.mem ((c.tc : Thread Cert.Ffn2Dx.nD Cert.Ffn2Dx.τ).loc Cert.Ffn2Dx.main_arg7) = m ((c.tc : Thread Cert.Ffn2Dx.nD Cert.Ffn2Dx.τ).loc Cert.Ffn2Dx.main_arg7)
      ∧ r.2.mem ((c.tc : Thread Cert.Ffn2Dx.nD Cert.Ffn2Dx.τ).loc Cert.Ffn2Dx.main_arg8) = m ((c.tc : Thread Cert.Ffn2Dx.nD Cert.Ffn2Dx.τ).loc Cert.Ffn2Dx.main_arg8))
      ∧ r.2.sem = fun _ => 0)

def quiescent_Ffn2DxIdeal [hFfn2DxIdeal : Cert.Ffn2DxIdeal.Facts] : Prop :=
  ∀ (m : (ℓ : Loc Cert.Ffn2DxIdeal.nD Cert.Ffn2DxIdeal.τ Cert.Ffn2DxIdeal.sig) → Buf (Elt Ideal) ℓ) (g : Dev Cert.Ffn2DxIdeal.nD → PrngReg), Pre_Ffn2DxIdeal m →
    θ_run (Cert.Ffn2DxIdeal.defs (F := Ideal)) (onTc (τ := Cert.Ffn2DxIdeal.τ) (Cert.Ffn2DxIdeal.main (F := Ideal))) ⟨m, fun _ => 0, g⟩ (fun r => (∀ c : Dev Cert.Ffn2DxIdeal.nD,
      r.2.mem ((c.tc : Thread Cert.Ffn2DxIdeal.nD Cert.Ffn2DxIdeal.τ).loc Cert.Ffn2DxIdeal.main_arg0) = m ((c.tc : Thread Cert.Ffn2DxIdeal.nD Cert.Ffn2DxIdeal.τ).loc Cert.Ffn2DxIdeal.main_arg0)
      ∧ r.2.mem ((c.tc : Thread Cert.Ffn2DxIdeal.nD Cert.Ffn2DxIdeal.τ).loc Cert.Ffn2DxIdeal.main_arg1) = m ((c.tc : Thread Cert.Ffn2DxIdeal.nD Cert.Ffn2DxIdeal.τ).loc Cert.Ffn2DxIdeal.main_arg1)
      ∧ r.2.mem ((c.tc : Thread Cert.Ffn2DxIdeal.nD Cert.Ffn2DxIdeal.τ).loc Cert.Ffn2DxIdeal.main_arg2) = m ((c.tc : Thread Cert.Ffn2DxIdeal.nD Cert.Ffn2DxIdeal.τ).loc Cert.Ffn2DxIdeal.main_arg2)
      ∧ r.2.mem ((c.tc : Thread Cert.Ffn2DxIdeal.nD Cert.Ffn2DxIdeal.τ).loc Cert.Ffn2DxIdeal.main_arg3) = m ((c.tc : Thread Cert.Ffn2DxIdeal.nD Cert.Ffn2DxIdeal.τ).loc Cert.Ffn2DxIdeal.main_arg3)
      ∧ r.2.mem ((c.tc : Thread Cert.Ffn2DxIdeal.nD Cert.Ffn2DxIdeal.τ).loc Cert.Ffn2DxIdeal.main_arg4) = m ((c.tc : Thread Cert.Ffn2DxIdeal.nD Cert.Ffn2DxIdeal.τ).loc Cert.Ffn2DxIdeal.main_arg4)
      ∧ r.2.mem ((c.tc : Thread Cert.Ffn2DxIdeal.nD Cert.Ffn2DxIdeal.τ).loc Cert.Ffn2DxIdeal.main_arg5) = m ((c.tc : Thread Cert.Ffn2DxIdeal.nD Cert.Ffn2DxIdeal.τ).loc Cert.Ffn2DxIdeal.main_arg5)
      ∧ r.2.mem ((c.tc : Thread Cert.Ffn2DxIdeal.nD Cert.Ffn2DxIdeal.τ).loc Cert.Ffn2DxIdeal.main_arg6) = m ((c.tc : Thread Cert.Ffn2DxIdeal.nD Cert.Ffn2DxIdeal.τ).loc Cert.Ffn2DxIdeal.main_arg6)
      ∧ r.2.mem ((c.tc : Thread Cert.Ffn2DxIdeal.nD Cert.Ffn2DxIdeal.τ).loc Cert.Ffn2DxIdeal.main_arg7) = m ((c.tc : Thread Cert.Ffn2DxIdeal.nD Cert.Ffn2DxIdeal.τ).loc Cert.Ffn2DxIdeal.main_arg7)
      ∧ r.2.mem ((c.tc : Thread Cert.Ffn2DxIdeal.nD Cert.Ffn2DxIdeal.τ).loc Cert.Ffn2DxIdeal.main_arg8) = m ((c.tc : Thread Cert.Ffn2DxIdeal.nD Cert.Ffn2DxIdeal.τ).loc Cert.Ffn2DxIdeal.main_arg8))
      ∧ r.2.sem = fun _ => 0)

def quiescent_Ffn2DxIdeal_pre_ffn2_dx_finite [hFfn2DxIdeal : Cert.Ffn2DxIdeal.Facts] [hPre_ffn2_dx_finite : Cert.Pre_ffn2_dx_finite.Facts] : Prop :=
  ∀ (m : (ℓ : Loc Cert.Ffn2DxIdeal.nD Cert.Ffn2DxIdeal.τ Cert.Ffn2DxIdeal.sig) → Buf (Elt Ideal) ℓ) (g : Dev Cert.Ffn2DxIdeal.nD → PrngReg), Pre_Ffn2DxIdeal_ffn2_dx_finite m →
    θ_run (Cert.Ffn2DxIdeal.defs (F := Ideal)) (onTc (τ := Cert.Ffn2DxIdeal.τ) (Cert.Ffn2DxIdeal.main (F := Ideal))) ⟨m, fun _ => 0, g⟩ (fun r => (∀ c : Dev Cert.Ffn2DxIdeal.nD,
      r.2.mem ((c.tc : Thread Cert.Ffn2DxIdeal.nD Cert.Ffn2DxIdeal.τ).loc Cert.Ffn2DxIdeal.main_arg0) = m ((c.tc : Thread Cert.Ffn2DxIdeal.nD Cert.Ffn2DxIdeal.τ).loc Cert.Ffn2DxIdeal.main_arg0)
      ∧ r.2.mem ((c.tc : Thread Cert.Ffn2DxIdeal.nD Cert.Ffn2DxIdeal.τ).loc Cert.Ffn2DxIdeal.main_arg1) = m ((c.tc : Thread Cert.Ffn2DxIdeal.nD Cert.Ffn2DxIdeal.τ).loc Cert.Ffn2DxIdeal.main_arg1)
      ∧ r.2.mem ((c.tc : Thread Cert.Ffn2DxIdeal.nD Cert.Ffn2DxIdeal.τ).loc Cert.Ffn2DxIdeal.main_arg2) = m ((c.tc : Thread Cert.Ffn2DxIdeal.nD Cert.Ffn2DxIdeal.τ).loc Cert.Ffn2DxIdeal.main_arg2)
      ∧ r.2.mem ((c.tc : Thread Cert.Ffn2DxIdeal.nD Cert.Ffn2DxIdeal.τ).loc Cert.Ffn2DxIdeal.main_arg3) = m ((c.tc : Thread Cert.Ffn2DxIdeal.nD Cert.Ffn2DxIdeal.τ).loc Cert.Ffn2DxIdeal.main_arg3)
      ∧ r.2.mem ((c.tc : Thread Cert.Ffn2DxIdeal.nD Cert.Ffn2DxIdeal.τ).loc Cert.Ffn2DxIdeal.main_arg4) = m ((c.tc : Thread Cert.Ffn2DxIdeal.nD Cert.Ffn2DxIdeal.τ).loc Cert.Ffn2DxIdeal.main_arg4)
      ∧ r.2.mem ((c.tc : Thread Cert.Ffn2DxIdeal.nD Cert.Ffn2DxIdeal.τ).loc Cert.Ffn2DxIdeal.main_arg5) = m ((c.tc : Thread Cert.Ffn2DxIdeal.nD Cert.Ffn2DxIdeal.τ).loc Cert.Ffn2DxIdeal.main_arg5)
      ∧ r.2.mem ((c.tc : Thread Cert.Ffn2DxIdeal.nD Cert.Ffn2DxIdeal.τ).loc Cert.Ffn2DxIdeal.main_arg6) = m ((c.tc : Thread Cert.Ffn2DxIdeal.nD Cert.Ffn2DxIdeal.τ).loc Cert.Ffn2DxIdeal.main_arg6)
      ∧ r.2.mem ((c.tc : Thread Cert.Ffn2DxIdeal.nD Cert.Ffn2DxIdeal.τ).loc Cert.Ffn2DxIdeal.main_arg7) = m ((c.tc : Thread Cert.Ffn2DxIdeal.nD Cert.Ffn2DxIdeal.τ).loc Cert.Ffn2DxIdeal.main_arg7)
      ∧ r.2.mem ((c.tc : Thread Cert.Ffn2DxIdeal.nD Cert.Ffn2DxIdeal.τ).loc Cert.Ffn2DxIdeal.main_arg8) = m ((c.tc : Thread Cert.Ffn2DxIdeal.nD Cert.Ffn2DxIdeal.τ).loc Cert.Ffn2DxIdeal.main_arg8))
      ∧ r.2.sem = fun _ => 0)

def quiescent_Ffn2DxRefIdeal [hFfn2DxRefIdeal : Cert.Ffn2DxRefIdeal.Facts] : Prop :=
  ∀ (m : (ℓ : Loc Cert.Ffn2DxRefIdeal.nD Cert.Ffn2DxRefIdeal.τ Cert.Ffn2DxRefIdeal.sig) → Buf (Elt Ideal) ℓ) (g : Dev Cert.Ffn2DxRefIdeal.nD → PrngReg), Pre_Ffn2DxRefIdeal m →
    θ_run (Cert.Ffn2DxRefIdeal.defs (F := Ideal)) (onTc (τ := Cert.Ffn2DxRefIdeal.τ) (Cert.Ffn2DxRefIdeal.main (F := Ideal))) ⟨m, fun _ => 0, g⟩ (fun r => (∀ c : Dev Cert.Ffn2DxRefIdeal.nD,
      r.2.mem ((c.tc : Thread Cert.Ffn2DxRefIdeal.nD Cert.Ffn2DxRefIdeal.τ).loc Cert.Ffn2DxRefIdeal.main_arg0) = m ((c.tc : Thread Cert.Ffn2DxRefIdeal.nD Cert.Ffn2DxRefIdeal.τ).loc Cert.Ffn2DxRefIdeal.main_arg0)
      ∧ r.2.mem ((c.tc : Thread Cert.Ffn2DxRefIdeal.nD Cert.Ffn2DxRefIdeal.τ).loc Cert.Ffn2DxRefIdeal.main_arg1) = m ((c.tc : Thread Cert.Ffn2DxRefIdeal.nD Cert.Ffn2DxRefIdeal.τ).loc Cert.Ffn2DxRefIdeal.main_arg1)
      ∧ r.2.mem ((c.tc : Thread Cert.Ffn2DxRefIdeal.nD Cert.Ffn2DxRefIdeal.τ).loc Cert.Ffn2DxRefIdeal.main_arg2) = m ((c.tc : Thread Cert.Ffn2DxRefIdeal.nD Cert.Ffn2DxRefIdeal.τ).loc Cert.Ffn2DxRefIdeal.main_arg2)
      ∧ r.2.mem ((c.tc : Thread Cert.Ffn2DxRefIdeal.nD Cert.Ffn2DxRefIdeal.τ).loc Cert.Ffn2DxRefIdeal.main_arg3) = m ((c.tc : Thread Cert.Ffn2DxRefIdeal.nD Cert.Ffn2DxRefIdeal.τ).loc Cert.Ffn2DxRefIdeal.main_arg3)
      ∧ r.2.mem ((c.tc : Thread Cert.Ffn2DxRefIdeal.nD Cert.Ffn2DxRefIdeal.τ).loc Cert.Ffn2DxRefIdeal.main_arg4) = m ((c.tc : Thread Cert.Ffn2DxRefIdeal.nD Cert.Ffn2DxRefIdeal.τ).loc Cert.Ffn2DxRefIdeal.main_arg4)
      ∧ r.2.mem ((c.tc : Thread Cert.Ffn2DxRefIdeal.nD Cert.Ffn2DxRefIdeal.τ).loc Cert.Ffn2DxRefIdeal.main_arg5) = m ((c.tc : Thread Cert.Ffn2DxRefIdeal.nD Cert.Ffn2DxRefIdeal.τ).loc Cert.Ffn2DxRefIdeal.main_arg5)
      ∧ r.2.mem ((c.tc : Thread Cert.Ffn2DxRefIdeal.nD Cert.Ffn2DxRefIdeal.τ).loc Cert.Ffn2DxRefIdeal.main_arg6) = m ((c.tc : Thread Cert.Ffn2DxRefIdeal.nD Cert.Ffn2DxRefIdeal.τ).loc Cert.Ffn2DxRefIdeal.main_arg6)
      ∧ r.2.mem ((c.tc : Thread Cert.Ffn2DxRefIdeal.nD Cert.Ffn2DxRefIdeal.τ).loc Cert.Ffn2DxRefIdeal.main_arg7) = m ((c.tc : Thread Cert.Ffn2DxRefIdeal.nD Cert.Ffn2DxRefIdeal.τ).loc Cert.Ffn2DxRefIdeal.main_arg7)
      ∧ r.2.mem ((c.tc : Thread Cert.Ffn2DxRefIdeal.nD Cert.Ffn2DxRefIdeal.τ).loc Cert.Ffn2DxRefIdeal.main_arg8) = m ((c.tc : Thread Cert.Ffn2DxRefIdeal.nD Cert.Ffn2DxRefIdeal.τ).loc Cert.Ffn2DxRefIdeal.main_arg8))
      ∧ r.2.sem = fun _ => 0)

def quiescent_Ffn2DxRefIdeal_pre_ffn2_dx_finite [hFfn2DxRefIdeal : Cert.Ffn2DxRefIdeal.Facts] [hPre_ffn2_dx_finite : Cert.Pre_ffn2_dx_finite.Facts] : Prop :=
  ∀ (m : (ℓ : Loc Cert.Ffn2DxRefIdeal.nD Cert.Ffn2DxRefIdeal.τ Cert.Ffn2DxRefIdeal.sig) → Buf (Elt Ideal) ℓ) (g : Dev Cert.Ffn2DxRefIdeal.nD → PrngReg), Pre_Ffn2DxRefIdeal_ffn2_dx_finite m →
    θ_run (Cert.Ffn2DxRefIdeal.defs (F := Ideal)) (onTc (τ := Cert.Ffn2DxRefIdeal.τ) (Cert.Ffn2DxRefIdeal.main (F := Ideal))) ⟨m, fun _ => 0, g⟩ (fun r => (∀ c : Dev Cert.Ffn2DxRefIdeal.nD,
      r.2.mem ((c.tc : Thread Cert.Ffn2DxRefIdeal.nD Cert.Ffn2DxRefIdeal.τ).loc Cert.Ffn2DxRefIdeal.main_arg0) = m ((c.tc : Thread Cert.Ffn2DxRefIdeal.nD Cert.Ffn2DxRefIdeal.τ).loc Cert.Ffn2DxRefIdeal.main_arg0)
      ∧ r.2.mem ((c.tc : Thread Cert.Ffn2DxRefIdeal.nD Cert.Ffn2DxRefIdeal.τ).loc Cert.Ffn2DxRefIdeal.main_arg1) = m ((c.tc : Thread Cert.Ffn2DxRefIdeal.nD Cert.Ffn2DxRefIdeal.τ).loc Cert.Ffn2DxRefIdeal.main_arg1)
      ∧ r.2.mem ((c.tc : Thread Cert.Ffn2DxRefIdeal.nD Cert.Ffn2DxRefIdeal.τ).loc Cert.Ffn2DxRefIdeal.main_arg2) = m ((c.tc : Thread Cert.Ffn2DxRefIdeal.nD Cert.Ffn2DxRefIdeal.τ).loc Cert.Ffn2DxRefIdeal.main_arg2)
      ∧ r.2.mem ((c.tc : Thread Cert.Ffn2DxRefIdeal.nD Cert.Ffn2DxRefIdeal.τ).loc Cert.Ffn2DxRefIdeal.main_arg3) = m ((c.tc : Thread Cert.Ffn2DxRefIdeal.nD Cert.Ffn2DxRefIdeal.τ).loc Cert.Ffn2DxRefIdeal.main_arg3)
      ∧ r.2.mem ((c.tc : Thread Cert.Ffn2DxRefIdeal.nD Cert.Ffn2DxRefIdeal.τ).loc Cert.Ffn2DxRefIdeal.main_arg4) = m ((c.tc : Thread Cert.Ffn2DxRefIdeal.nD Cert.Ffn2DxRefIdeal.τ).loc Cert.Ffn2DxRefIdeal.main_arg4)
      ∧ r.2.mem ((c.tc : Thread Cert.Ffn2DxRefIdeal.nD Cert.Ffn2DxRefIdeal.τ).loc Cert.Ffn2DxRefIdeal.main_arg5) = m ((c.tc : Thread Cert.Ffn2DxRefIdeal.nD Cert.Ffn2DxRefIdeal.τ).loc Cert.Ffn2DxRefIdeal.main_arg5)
      ∧ r.2.mem ((c.tc : Thread Cert.Ffn2DxRefIdeal.nD Cert.Ffn2DxRefIdeal.τ).loc Cert.Ffn2DxRefIdeal.main_arg6) = m ((c.tc : Thread Cert.Ffn2DxRefIdeal.nD Cert.Ffn2DxRefIdeal.τ).loc Cert.Ffn2DxRefIdeal.main_arg6)
      ∧ r.2.mem ((c.tc : Thread Cert.Ffn2DxRefIdeal.nD Cert.Ffn2DxRefIdeal.τ).loc Cert.Ffn2DxRefIdeal.main_arg7) = m ((c.tc : Thread Cert.Ffn2DxRefIdeal.nD Cert.Ffn2DxRefIdeal.τ).loc Cert.Ffn2DxRefIdeal.main_arg7)
      ∧ r.2.mem ((c.tc : Thread Cert.Ffn2DxRefIdeal.nD Cert.Ffn2DxRefIdeal.τ).loc Cert.Ffn2DxRefIdeal.main_arg8) = m ((c.tc : Thread Cert.Ffn2DxRefIdeal.nD Cert.Ffn2DxRefIdeal.τ).loc Cert.Ffn2DxRefIdeal.main_arg8))
      ∧ r.2.sem = fun _ => 0)

def quiescent_Ffn1Dx [hFfn1Dx : Cert.Ffn1Dx.Facts] : Prop :=
  ∀ (m : (ℓ : Loc Cert.Ffn1Dx.nD Cert.Ffn1Dx.τ Cert.Ffn1Dx.sig) → Buf (Elt Bits) ℓ) (g : Dev Cert.Ffn1Dx.nD → PrngReg), Pre_Ffn1Dx m →
    θ_run (Cert.Ffn1Dx.defs (F := Bits)) (onTc (τ := Cert.Ffn1Dx.τ) (Cert.Ffn1Dx.main (F := Bits))) ⟨m, fun _ => 0, g⟩ (fun r => (∀ c : Dev Cert.Ffn1Dx.nD,
      r.2.mem ((c.tc : Thread Cert.Ffn1Dx.nD Cert.Ffn1Dx.τ).loc Cert.Ffn1Dx.main_arg0) = m ((c.tc : Thread Cert.Ffn1Dx.nD Cert.Ffn1Dx.τ).loc Cert.Ffn1Dx.main_arg0)
      ∧ r.2.mem ((c.tc : Thread Cert.Ffn1Dx.nD Cert.Ffn1Dx.τ).loc Cert.Ffn1Dx.main_arg1) = m ((c.tc : Thread Cert.Ffn1Dx.nD Cert.Ffn1Dx.τ).loc Cert.Ffn1Dx.main_arg1)
      ∧ r.2.mem ((c.tc : Thread Cert.Ffn1Dx.nD Cert.Ffn1Dx.τ).loc Cert.Ffn1Dx.main_arg2) = m ((c.tc : Thread Cert.Ffn1Dx.nD Cert.Ffn1Dx.τ).loc Cert.Ffn1Dx.main_arg2)
      ∧ r.2.mem ((c.tc : Thread Cert.Ffn1Dx.nD Cert.Ffn1Dx.τ).loc Cert.Ffn1Dx.main_arg3) = m ((c.tc : Thread Cert.Ffn1Dx.nD Cert.Ffn1Dx.τ).loc Cert.Ffn1Dx.main_arg3)
      ∧ r.2.mem ((c.tc : Thread Cert.Ffn1Dx.nD Cert.Ffn1Dx.τ).loc Cert.Ffn1Dx.main_arg4) = m ((c.tc : Thread Cert.Ffn1Dx.nD Cert.Ffn1Dx.τ).loc Cert.Ffn1Dx.main_arg4)
      ∧ r.2.mem ((c.tc : Thread Cert.Ffn1Dx.nD Cert.Ffn1Dx.τ).loc Cert.Ffn1Dx.main_arg5) = m ((c.tc : Thread Cert.Ffn1Dx.nD Cert.Ffn1Dx.τ).loc Cert.Ffn1Dx.main_arg5)
      ∧ r.2.mem ((c.tc : Thread Cert.Ffn1Dx.nD Cert.Ffn1Dx.τ).loc Cert.Ffn1Dx.main_arg6) = m ((c.tc : Thread Cert.Ffn1Dx.nD Cert.Ffn1Dx.τ).loc Cert.Ffn1Dx.main_arg6))
      ∧ r.2.sem = fun _ => 0)

def quiescent_Ffn1DxIdeal [hFfn1DxIdeal : Cert.Ffn1DxIdeal.Facts] : Prop :=
  ∀ (m : (ℓ : Loc Cert.Ffn1DxIdeal.nD Cert.Ffn1DxIdeal.τ Cert.Ffn1DxIdeal.sig) → Buf (Elt Ideal) ℓ) (g : Dev Cert.Ffn1DxIdeal.nD → PrngReg), Pre_Ffn1DxIdeal m →
    θ_run (Cert.Ffn1DxIdeal.defs (F := Ideal)) (onTc (τ := Cert.Ffn1DxIdeal.τ) (Cert.Ffn1DxIdeal.main (F := Ideal))) ⟨m, fun _ => 0, g⟩ (fun r => (∀ c : Dev Cert.Ffn1DxIdeal.nD,
      r.2.mem ((c.tc : Thread Cert.Ffn1DxIdeal.nD Cert.Ffn1DxIdeal.τ).loc Cert.Ffn1DxIdeal.main_arg0) = m ((c.tc : Thread Cert.Ffn1DxIdeal.nD Cert.Ffn1DxIdeal.τ).loc Cert.Ffn1DxIdeal.main_arg0)
      ∧ r.2.mem ((c.tc : Thread Cert.Ffn1DxIdeal.nD Cert.Ffn1DxIdeal.τ).loc Cert.Ffn1DxIdeal.main_arg1) = m ((c.tc : Thread Cert.Ffn1DxIdeal.nD Cert.Ffn1DxIdeal.τ).loc Cert.Ffn1DxIdeal.main_arg1)
      ∧ r.2.mem ((c.tc : Thread Cert.Ffn1DxIdeal.nD Cert.Ffn1DxIdeal.τ).loc Cert.Ffn1DxIdeal.main_arg2) = m ((c.tc : Thread Cert.Ffn1DxIdeal.nD Cert.Ffn1DxIdeal.τ).loc Cert.Ffn1DxIdeal.main_arg2)
      ∧ r.2.mem ((c.tc : Thread Cert.Ffn1DxIdeal.nD Cert.Ffn1DxIdeal.τ).loc Cert.Ffn1DxIdeal.main_arg3) = m ((c.tc : Thread Cert.Ffn1DxIdeal.nD Cert.Ffn1DxIdeal.τ).loc Cert.Ffn1DxIdeal.main_arg3)
      ∧ r.2.mem ((c.tc : Thread Cert.Ffn1DxIdeal.nD Cert.Ffn1DxIdeal.τ).loc Cert.Ffn1DxIdeal.main_arg4) = m ((c.tc : Thread Cert.Ffn1DxIdeal.nD Cert.Ffn1DxIdeal.τ).loc Cert.Ffn1DxIdeal.main_arg4)
      ∧ r.2.mem ((c.tc : Thread Cert.Ffn1DxIdeal.nD Cert.Ffn1DxIdeal.τ).loc Cert.Ffn1DxIdeal.main_arg5) = m ((c.tc : Thread Cert.Ffn1DxIdeal.nD Cert.Ffn1DxIdeal.τ).loc Cert.Ffn1DxIdeal.main_arg5)
      ∧ r.2.mem ((c.tc : Thread Cert.Ffn1DxIdeal.nD Cert.Ffn1DxIdeal.τ).loc Cert.Ffn1DxIdeal.main_arg6) = m ((c.tc : Thread Cert.Ffn1DxIdeal.nD Cert.Ffn1DxIdeal.τ).loc Cert.Ffn1DxIdeal.main_arg6))
      ∧ r.2.sem = fun _ => 0)

def quiescent_Ffn1DxIdeal_pre_ffn1_dx_finite [hFfn1DxIdeal : Cert.Ffn1DxIdeal.Facts] [hPre_ffn1_dx_finite : Cert.Pre_ffn1_dx_finite.Facts] : Prop :=
  ∀ (m : (ℓ : Loc Cert.Ffn1DxIdeal.nD Cert.Ffn1DxIdeal.τ Cert.Ffn1DxIdeal.sig) → Buf (Elt Ideal) ℓ) (g : Dev Cert.Ffn1DxIdeal.nD → PrngReg), Pre_Ffn1DxIdeal_ffn1_dx_finite m →
    θ_run (Cert.Ffn1DxIdeal.defs (F := Ideal)) (onTc (τ := Cert.Ffn1DxIdeal.τ) (Cert.Ffn1DxIdeal.main (F := Ideal))) ⟨m, fun _ => 0, g⟩ (fun r => (∀ c : Dev Cert.Ffn1DxIdeal.nD,
      r.2.mem ((c.tc : Thread Cert.Ffn1DxIdeal.nD Cert.Ffn1DxIdeal.τ).loc Cert.Ffn1DxIdeal.main_arg0) = m ((c.tc : Thread Cert.Ffn1DxIdeal.nD Cert.Ffn1DxIdeal.τ).loc Cert.Ffn1DxIdeal.main_arg0)
      ∧ r.2.mem ((c.tc : Thread Cert.Ffn1DxIdeal.nD Cert.Ffn1DxIdeal.τ).loc Cert.Ffn1DxIdeal.main_arg1) = m ((c.tc : Thread Cert.Ffn1DxIdeal.nD Cert.Ffn1DxIdeal.τ).loc Cert.Ffn1DxIdeal.main_arg1)
      ∧ r.2.mem ((c.tc : Thread Cert.Ffn1DxIdeal.nD Cert.Ffn1DxIdeal.τ).loc Cert.Ffn1DxIdeal.main_arg2) = m ((c.tc : Thread Cert.Ffn1DxIdeal.nD Cert.Ffn1DxIdeal.τ).loc Cert.Ffn1DxIdeal.main_arg2)
      ∧ r.2.mem ((c.tc : Thread Cert.Ffn1DxIdeal.nD Cert.Ffn1DxIdeal.τ).loc Cert.Ffn1DxIdeal.main_arg3) = m ((c.tc : Thread Cert.Ffn1DxIdeal.nD Cert.Ffn1DxIdeal.τ).loc Cert.Ffn1DxIdeal.main_arg3)
      ∧ r.2.mem ((c.tc : Thread Cert.Ffn1DxIdeal.nD Cert.Ffn1DxIdeal.τ).loc Cert.Ffn1DxIdeal.main_arg4) = m ((c.tc : Thread Cert.Ffn1DxIdeal.nD Cert.Ffn1DxIdeal.τ).loc Cert.Ffn1DxIdeal.main_arg4)
      ∧ r.2.mem ((c.tc : Thread Cert.Ffn1DxIdeal.nD Cert.Ffn1DxIdeal.τ).loc Cert.Ffn1DxIdeal.main_arg5) = m ((c.tc : Thread Cert.Ffn1DxIdeal.nD Cert.Ffn1DxIdeal.τ).loc Cert.Ffn1DxIdeal.main_arg5)
      ∧ r.2.mem ((c.tc : Thread Cert.Ffn1DxIdeal.nD Cert.Ffn1DxIdeal.τ).loc Cert.Ffn1DxIdeal.main_arg6) = m ((c.tc : Thread Cert.Ffn1DxIdeal.nD Cert.Ffn1DxIdeal.τ).loc Cert.Ffn1DxIdeal.main_arg6))
      ∧ r.2.sem = fun _ => 0)

def quiescent_Ffn1DxRefIdeal [hFfn1DxRefIdeal : Cert.Ffn1DxRefIdeal.Facts] : Prop :=
  ∀ (m : (ℓ : Loc Cert.Ffn1DxRefIdeal.nD Cert.Ffn1DxRefIdeal.τ Cert.Ffn1DxRefIdeal.sig) → Buf (Elt Ideal) ℓ) (g : Dev Cert.Ffn1DxRefIdeal.nD → PrngReg), Pre_Ffn1DxRefIdeal m →
    θ_run (Cert.Ffn1DxRefIdeal.defs (F := Ideal)) (onTc (τ := Cert.Ffn1DxRefIdeal.τ) (Cert.Ffn1DxRefIdeal.main (F := Ideal))) ⟨m, fun _ => 0, g⟩ (fun r => (∀ c : Dev Cert.Ffn1DxRefIdeal.nD,
      r.2.mem ((c.tc : Thread Cert.Ffn1DxRefIdeal.nD Cert.Ffn1DxRefIdeal.τ).loc Cert.Ffn1DxRefIdeal.main_arg0) = m ((c.tc : Thread Cert.Ffn1DxRefIdeal.nD Cert.Ffn1DxRefIdeal.τ).loc Cert.Ffn1DxRefIdeal.main_arg0)
      ∧ r.2.mem ((c.tc : Thread Cert.Ffn1DxRefIdeal.nD Cert.Ffn1DxRefIdeal.τ).loc Cert.Ffn1DxRefIdeal.main_arg1) = m ((c.tc : Thread Cert.Ffn1DxRefIdeal.nD Cert.Ffn1DxRefIdeal.τ).loc Cert.Ffn1DxRefIdeal.main_arg1)
      ∧ r.2.mem ((c.tc : Thread Cert.Ffn1DxRefIdeal.nD Cert.Ffn1DxRefIdeal.τ).loc Cert.Ffn1DxRefIdeal.main_arg2) = m ((c.tc : Thread Cert.Ffn1DxRefIdeal.nD Cert.Ffn1DxRefIdeal.τ).loc Cert.Ffn1DxRefIdeal.main_arg2)
      ∧ r.2.mem ((c.tc : Thread Cert.Ffn1DxRefIdeal.nD Cert.Ffn1DxRefIdeal.τ).loc Cert.Ffn1DxRefIdeal.main_arg3) = m ((c.tc : Thread Cert.Ffn1DxRefIdeal.nD Cert.Ffn1DxRefIdeal.τ).loc Cert.Ffn1DxRefIdeal.main_arg3)
      ∧ r.2.mem ((c.tc : Thread Cert.Ffn1DxRefIdeal.nD Cert.Ffn1DxRefIdeal.τ).loc Cert.Ffn1DxRefIdeal.main_arg4) = m ((c.tc : Thread Cert.Ffn1DxRefIdeal.nD Cert.Ffn1DxRefIdeal.τ).loc Cert.Ffn1DxRefIdeal.main_arg4)
      ∧ r.2.mem ((c.tc : Thread Cert.Ffn1DxRefIdeal.nD Cert.Ffn1DxRefIdeal.τ).loc Cert.Ffn1DxRefIdeal.main_arg5) = m ((c.tc : Thread Cert.Ffn1DxRefIdeal.nD Cert.Ffn1DxRefIdeal.τ).loc Cert.Ffn1DxRefIdeal.main_arg5)
      ∧ r.2.mem ((c.tc : Thread Cert.Ffn1DxRefIdeal.nD Cert.Ffn1DxRefIdeal.τ).loc Cert.Ffn1DxRefIdeal.main_arg6) = m ((c.tc : Thread Cert.Ffn1DxRefIdeal.nD Cert.Ffn1DxRefIdeal.τ).loc Cert.Ffn1DxRefIdeal.main_arg6))
      ∧ r.2.sem = fun _ => 0)

def quiescent_Ffn1DxRefIdeal_pre_ffn1_dx_finite [hFfn1DxRefIdeal : Cert.Ffn1DxRefIdeal.Facts] [hPre_ffn1_dx_finite : Cert.Pre_ffn1_dx_finite.Facts] : Prop :=
  ∀ (m : (ℓ : Loc Cert.Ffn1DxRefIdeal.nD Cert.Ffn1DxRefIdeal.τ Cert.Ffn1DxRefIdeal.sig) → Buf (Elt Ideal) ℓ) (g : Dev Cert.Ffn1DxRefIdeal.nD → PrngReg), Pre_Ffn1DxRefIdeal_ffn1_dx_finite m →
    θ_run (Cert.Ffn1DxRefIdeal.defs (F := Ideal)) (onTc (τ := Cert.Ffn1DxRefIdeal.τ) (Cert.Ffn1DxRefIdeal.main (F := Ideal))) ⟨m, fun _ => 0, g⟩ (fun r => (∀ c : Dev Cert.Ffn1DxRefIdeal.nD,
      r.2.mem ((c.tc : Thread Cert.Ffn1DxRefIdeal.nD Cert.Ffn1DxRefIdeal.τ).loc Cert.Ffn1DxRefIdeal.main_arg0) = m ((c.tc : Thread Cert.Ffn1DxRefIdeal.nD Cert.Ffn1DxRefIdeal.τ).loc Cert.Ffn1DxRefIdeal.main_arg0)
      ∧ r.2.mem ((c.tc : Thread Cert.Ffn1DxRefIdeal.nD Cert.Ffn1DxRefIdeal.τ).loc Cert.Ffn1DxRefIdeal.main_arg1) = m ((c.tc : Thread Cert.Ffn1DxRefIdeal.nD Cert.Ffn1DxRefIdeal.τ).loc Cert.Ffn1DxRefIdeal.main_arg1)
      ∧ r.2.mem ((c.tc : Thread Cert.Ffn1DxRefIdeal.nD Cert.Ffn1DxRefIdeal.τ).loc Cert.Ffn1DxRefIdeal.main_arg2) = m ((c.tc : Thread Cert.Ffn1DxRefIdeal.nD Cert.Ffn1DxRefIdeal.τ).loc Cert.Ffn1DxRefIdeal.main_arg2)
      ∧ r.2.mem ((c.tc : Thread Cert.Ffn1DxRefIdeal.nD Cert.Ffn1DxRefIdeal.τ).loc Cert.Ffn1DxRefIdeal.main_arg3) = m ((c.tc : Thread Cert.Ffn1DxRefIdeal.nD Cert.Ffn1DxRefIdeal.τ).loc Cert.Ffn1DxRefIdeal.main_arg3)
      ∧ r.2.mem ((c.tc : Thread Cert.Ffn1DxRefIdeal.nD Cert.Ffn1DxRefIdeal.τ).loc Cert.Ffn1DxRefIdeal.main_arg4) = m ((c.tc : Thread Cert.Ffn1DxRefIdeal.nD Cert.Ffn1DxRefIdeal.τ).loc Cert.Ffn1DxRefIdeal.main_arg4)
      ∧ r.2.mem ((c.tc : Thread Cert.Ffn1DxRefIdeal.nD Cert.Ffn1DxRefIdeal.τ).loc Cert.Ffn1DxRefIdeal.main_arg5) = m ((c.tc : Thread Cert.Ffn1DxRefIdeal.nD Cert.Ffn1DxRefIdeal.τ).loc Cert.Ffn1DxRefIdeal.main_arg5)
      ∧ r.2.mem ((c.tc : Thread Cert.Ffn1DxRefIdeal.nD Cert.Ffn1DxRefIdeal.τ).loc Cert.Ffn1DxRefIdeal.main_arg6) = m ((c.tc : Thread Cert.Ffn1DxRefIdeal.nD Cert.Ffn1DxRefIdeal.τ).loc Cert.Ffn1DxRefIdeal.main_arg6))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1)
      ∧ r.2.mem ((c.tc : Thread Cert.MixDx.nD Cert.MixDx.τ).loc Cert.MixDx.main_arg2) = m ((c.tc : Thread Cert.MixDx.nD Cert.MixDx.τ).loc Cert.MixDx.main_arg2)
      ∧ r.2.mem ((c.tc : Thread Cert.MixDx.nD Cert.MixDx.τ).loc Cert.MixDx.main_arg3) = m ((c.tc : Thread Cert.MixDx.nD Cert.MixDx.τ).loc Cert.MixDx.main_arg3)
      ∧ r.2.mem ((c.tc : Thread Cert.MixDx.nD Cert.MixDx.τ).loc Cert.MixDx.main_arg4) = m ((c.tc : Thread Cert.MixDx.nD Cert.MixDx.τ).loc Cert.MixDx.main_arg4)
      ∧ r.2.mem ((c.tc : Thread Cert.MixDx.nD Cert.MixDx.τ).loc Cert.MixDx.main_arg5) = m ((c.tc : Thread Cert.MixDx.nD Cert.MixDx.τ).loc Cert.MixDx.main_arg5)
      ∧ r.2.mem ((c.tc : Thread Cert.MixDx.nD Cert.MixDx.τ).loc Cert.MixDx.main_arg6) = m ((c.tc : Thread Cert.MixDx.nD Cert.MixDx.τ).loc Cert.MixDx.main_arg6))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
      ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
      ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
      ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4)
      ∧ r.2.mem ((c.tc : Thread Cert.MixDxIdeal.nD Cert.MixDxIdeal.τ).loc Cert.MixDxIdeal.main_arg5) = m ((c.tc : Thread Cert.MixDxIdeal.nD Cert.MixDxIdeal.τ).loc Cert.MixDxIdeal.main_arg5)
      ∧ r.2.mem ((c.tc : Thread Cert.MixDxIdeal.nD Cert.MixDxIdeal.τ).loc Cert.MixDxIdeal.main_arg6) = m ((c.tc : Thread Cert.MixDxIdeal.nD Cert.MixDxIdeal.τ).loc Cert.MixDxIdeal.main_arg6))
      ∧ r.2.sem = fun _ => 0)

def quiescent_MixDxIdeal_pre_mix_dx_finite [hMixDxIdeal : Cert.MixDxIdeal.Facts] [hPre_mix_dx_finite : Cert.Pre_mix_dx_finite.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal_mix_dx_finite m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
      ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
      ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
      ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4)
      ∧ r.2.mem ((c.tc : Thread Cert.MixDxIdeal.nD Cert.MixDxIdeal.τ).loc Cert.MixDxIdeal.main_arg5) = m ((c.tc : Thread Cert.MixDxIdeal.nD Cert.MixDxIdeal.τ).loc Cert.MixDxIdeal.main_arg5)
      ∧ r.2.mem ((c.tc : Thread Cert.MixDxIdeal.nD Cert.MixDxIdeal.τ).loc Cert.MixDxIdeal.main_arg6) = m ((c.tc : Thread Cert.MixDxIdeal.nD Cert.MixDxIdeal.τ).loc Cert.MixDxIdeal.main_arg6))
      ∧ r.2.sem = fun _ => 0)

def quiescent_MixDxRefIdeal [hMixDxRefIdeal : Cert.MixDxRefIdeal.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1)
      ∧ r.2.mem ((c.tc : Thread Cert.MixDxRefIdeal.nD Cert.MixDxRefIdeal.τ).loc Cert.MixDxRefIdeal.main_arg2) = m ((c.tc : Thread Cert.MixDxRefIdeal.nD Cert.MixDxRefIdeal.τ).loc Cert.MixDxRefIdeal.main_arg2)
      ∧ r.2.mem ((c.tc : Thread Cert.MixDxRefIdeal.nD Cert.MixDxRefIdeal.τ).loc Cert.MixDxRefIdeal.main_arg3) = m ((c.tc : Thread Cert.MixDxRefIdeal.nD Cert.MixDxRefIdeal.τ).loc Cert.MixDxRefIdeal.main_arg3)
      ∧ r.2.mem ((c.tc : Thread Cert.MixDxRefIdeal.nD Cert.MixDxRefIdeal.τ).loc Cert.MixDxRefIdeal.main_arg4) = m ((c.tc : Thread Cert.MixDxRefIdeal.nD Cert.MixDxRefIdeal.τ).loc Cert.MixDxRefIdeal.main_arg4)
      ∧ r.2.mem ((c.tc : Thread Cert.MixDxRefIdeal.nD Cert.MixDxRefIdeal.τ).loc Cert.MixDxRefIdeal.main_arg5) = m ((c.tc : Thread Cert.MixDxRefIdeal.nD Cert.MixDxRefIdeal.τ).loc Cert.MixDxRefIdeal.main_arg5)
      ∧ r.2.mem ((c.tc : Thread Cert.MixDxRefIdeal.nD Cert.MixDxRefIdeal.τ).loc Cert.MixDxRefIdeal.main_arg6) = m ((c.tc : Thread Cert.MixDxRefIdeal.nD Cert.MixDxRefIdeal.τ).loc Cert.MixDxRefIdeal.main_arg6))
      ∧ r.2.sem = fun _ => 0)

def quiescent_MixDxRefIdeal_pre_mix_dx_finite [hMixDxRefIdeal : Cert.MixDxRefIdeal.Facts] [hPre_mix_dx_finite : Cert.Pre_mix_dx_finite.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal_mix_dx_finite m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1)
      ∧ r.2.mem ((c.tc : Thread Cert.MixDxRefIdeal.nD Cert.MixDxRefIdeal.τ).loc Cert.MixDxRefIdeal.main_arg2) = m ((c.tc : Thread Cert.MixDxRefIdeal.nD Cert.MixDxRefIdeal.τ).loc Cert.MixDxRefIdeal.main_arg2)
      ∧ r.2.mem ((c.tc : Thread Cert.MixDxRefIdeal.nD Cert.MixDxRefIdeal.τ).loc Cert.MixDxRefIdeal.main_arg3) = m ((c.tc : Thread Cert.MixDxRefIdeal.nD Cert.MixDxRefIdeal.τ).loc Cert.MixDxRefIdeal.main_arg3)
      ∧ r.2.mem ((c.tc : Thread Cert.MixDxRefIdeal.nD Cert.MixDxRefIdeal.τ).loc Cert.MixDxRefIdeal.main_arg4) = m ((c.tc : Thread Cert.MixDxRefIdeal.nD Cert.MixDxRefIdeal.τ).loc Cert.MixDxRefIdeal.main_arg4)
      ∧ r.2.mem ((c.tc : Thread Cert.MixDxRefIdeal.nD Cert.MixDxRefIdeal.τ).loc Cert.MixDxRefIdeal.main_arg5) = m ((c.tc : Thread Cert.MixDxRefIdeal.nD Cert.MixDxRefIdeal.τ).loc Cert.MixDxRefIdeal.main_arg5)
      ∧ r.2.mem ((c.tc : Thread Cert.MixDxRefIdeal.nD Cert.MixDxRefIdeal.τ).loc Cert.MixDxRefIdeal.main_arg6) = m ((c.tc : Thread Cert.MixDxRefIdeal.nD Cert.MixDxRefIdeal.τ).loc Cert.MixDxRefIdeal.main_arg6))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2)
      ∧ r.2.mem ((c.tc : Thread Cert.PleFwd.nD Cert.PleFwd.τ).loc Cert.PleFwd.main_arg3) = m ((c.tc : Thread Cert.PleFwd.nD Cert.PleFwd.τ).loc Cert.PleFwd.main_arg3)
      ∧ r.2.mem ((c.tc : Thread Cert.PleFwd.nD Cert.PleFwd.τ).loc Cert.PleFwd.main_arg4) = m ((c.tc : Thread Cert.PleFwd.nD Cert.PleFwd.τ).loc Cert.PleFwd.main_arg4)
      ∧ r.2.mem ((c.tc : Thread Cert.PleFwd.nD Cert.PleFwd.τ).loc Cert.PleFwd.main_arg5) = m ((c.tc : Thread Cert.PleFwd.nD Cert.PleFwd.τ).loc Cert.PleFwd.main_arg5)
      ∧ r.2.mem ((c.tc : Thread Cert.PleFwd.nD Cert.PleFwd.τ).loc Cert.PleFwd.main_arg6) = m ((c.tc : Thread Cert.PleFwd.nD Cert.PleFwd.τ).loc Cert.PleFwd.main_arg6))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
      ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
      ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4)
      ∧ r.2.mem ((c.tc : Thread Cert.PleFwdIdeal.nD Cert.PleFwdIdeal.τ).loc Cert.PleFwdIdeal.main_arg5) = m ((c.tc : Thread Cert.PleFwdIdeal.nD Cert.PleFwdIdeal.τ).loc Cert.PleFwdIdeal.main_arg5)
      ∧ r.2.mem ((c.tc : Thread Cert.PleFwdIdeal.nD Cert.PleFwdIdeal.τ).loc Cert.PleFwdIdeal.main_arg6) = m ((c.tc : Thread Cert.PleFwdIdeal.nD Cert.PleFwdIdeal.τ).loc Cert.PleFwdIdeal.main_arg6))
      ∧ r.2.sem = fun _ => 0)

def quiescent_PleFwdRefIdeal [hPleFwdRefIdeal : Cert.PleFwdRefIdeal.Facts] : Prop :=
  ∀ (m : (ℓ : Loc Cert.PleFwdRefIdeal.nD Cert.PleFwdRefIdeal.τ Cert.PleFwdRefIdeal.sig) → Buf (Elt Ideal) ℓ) (g : Dev Cert.PleFwdRefIdeal.nD → PrngReg), Pre_PleFwdRefIdeal m →
    θ_run (Cert.PleFwdRefIdeal.defs (F := Ideal)) (onTc (τ := Cert.PleFwdRefIdeal.τ) (Cert.PleFwdRefIdeal.main (F := Ideal))) ⟨m, fun _ => 0, g⟩ (fun r => (∀ c : Dev Cert.PleFwdRefIdeal.nD,
      r.2.mem ((c.tc : Thread Cert.PleFwdRefIdeal.nD Cert.PleFwdRefIdeal.τ).loc Cert.PleFwdRefIdeal.main_arg0) = m ((c.tc : Thread Cert.PleFwdRefIdeal.nD Cert.PleFwdRefIdeal.τ).loc Cert.PleFwdRefIdeal.main_arg0)
      ∧ r.2.mem ((c.tc : Thread Cert.PleFwdRefIdeal.nD Cert.PleFwdRefIdeal.τ).loc Cert.PleFwdRefIdeal.main_arg1) = m ((c.tc : Thread Cert.PleFwdRefIdeal.nD Cert.PleFwdRefIdeal.τ).loc Cert.PleFwdRefIdeal.main_arg1)
      ∧ r.2.mem ((c.tc : Thread Cert.PleFwdRefIdeal.nD Cert.PleFwdRefIdeal.τ).loc Cert.PleFwdRefIdeal.main_arg2) = m ((c.tc : Thread Cert.PleFwdRefIdeal.nD Cert.PleFwdRefIdeal.τ).loc Cert.PleFwdRefIdeal.main_arg2)
      ∧ r.2.mem ((c.tc : Thread Cert.PleFwdRefIdeal.nD Cert.PleFwdRefIdeal.τ).loc Cert.PleFwdRefIdeal.main_arg3) = m ((c.tc : Thread Cert.PleFwdRefIdeal.nD Cert.PleFwdRefIdeal.τ).loc Cert.PleFwdRefIdeal.main_arg3)
      ∧ r.2.mem ((c.tc : Thread Cert.PleFwdRefIdeal.nD Cert.PleFwdRefIdeal.τ).loc Cert.PleFwdRefIdeal.main_arg4) = m ((c.tc : Thread Cert.PleFwdRefIdeal.nD Cert.PleFwdRefIdeal.τ).loc Cert.PleFwdRefIdeal.main_arg4)
      ∧ r.2.mem ((c.tc : Thread Cert.PleFwdRefIdeal.nD Cert.PleFwdRefIdeal.τ).loc Cert.PleFwdRefIdeal.main_arg5) = m ((c.tc : Thread Cert.PleFwdRefIdeal.nD Cert.PleFwdRefIdeal.τ).loc Cert.PleFwdRefIdeal.main_arg5)
      ∧ r.2.mem ((c.tc : Thread Cert.PleFwdRefIdeal.nD Cert.PleFwdRefIdeal.τ).loc Cert.PleFwdRefIdeal.main_arg6) = m ((c.tc : Thread Cert.PleFwdRefIdeal.nD Cert.PleFwdRefIdeal.τ).loc Cert.PleFwdRefIdeal.main_arg6))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4))
      ∧ r.2.sem = fun _ => 0)

def quiescent_MixProj [hMixProj : Cert.MixProj.Facts] : Prop :=
  ∀ (m : (ℓ : Loc Cert.MixProj.nD Cert.MixProj.τ Cert.MixProj.sig) → Buf (Elt Bits) ℓ) (g : Dev Cert.MixProj.nD → PrngReg), Pre_MixProj m →
    θ_run (Cert.MixProj.defs (F := Bits)) (onTc (τ := Cert.MixProj.τ) (Cert.MixProj.main (F := Bits))) ⟨m, fun _ => 0, g⟩ (fun r => (∀ c : Dev Cert.MixProj.nD,
      r.2.mem ((c.tc : Thread Cert.MixProj.nD Cert.MixProj.τ).loc Cert.MixProj.main_arg0) = m ((c.tc : Thread Cert.MixProj.nD Cert.MixProj.τ).loc Cert.MixProj.main_arg0)
      ∧ r.2.mem ((c.tc : Thread Cert.MixProj.nD Cert.MixProj.τ).loc Cert.MixProj.main_arg1) = m ((c.tc : Thread Cert.MixProj.nD Cert.MixProj.τ).loc Cert.MixProj.main_arg1)
      ∧ r.2.mem ((c.tc : Thread Cert.MixProj.nD Cert.MixProj.τ).loc Cert.MixProj.main_arg2) = m ((c.tc : Thread Cert.MixProj.nD Cert.MixProj.τ).loc Cert.MixProj.main_arg2)
      ∧ r.2.mem ((c.tc : Thread Cert.MixProj.nD Cert.MixProj.τ).loc Cert.MixProj.main_arg3) = m ((c.tc : Thread Cert.MixProj.nD Cert.MixProj.τ).loc Cert.MixProj.main_arg3)
      ∧ r.2.mem ((c.tc : Thread Cert.MixProj.nD Cert.MixProj.τ).loc Cert.MixProj.main_arg4) = m ((c.tc : Thread Cert.MixProj.nD Cert.MixProj.τ).loc Cert.MixProj.main_arg4))
      ∧ r.2.sem = fun _ => 0)

def quiescent_MixProjIdeal [hMixProjIdeal : Cert.MixProjIdeal.Facts] : Prop :=
  ∀ (m : (ℓ : Loc Cert.MixProjIdeal.nD Cert.MixProjIdeal.τ Cert.MixProjIdeal.sig) → Buf (Elt Ideal) ℓ) (g : Dev Cert.MixProjIdeal.nD → PrngReg), Pre_MixProjIdeal m →
    θ_run (Cert.MixProjIdeal.defs (F := Ideal)) (onTc (τ := Cert.MixProjIdeal.τ) (Cert.MixProjIdeal.main (F := Ideal))) ⟨m, fun _ => 0, g⟩ (fun r => (∀ c : Dev Cert.MixProjIdeal.nD,
      r.2.mem ((c.tc : Thread Cert.MixProjIdeal.nD Cert.MixProjIdeal.τ).loc Cert.MixProjIdeal.main_arg0) = m ((c.tc : Thread Cert.MixProjIdeal.nD Cert.MixProjIdeal.τ).loc Cert.MixProjIdeal.main_arg0)
      ∧ r.2.mem ((c.tc : Thread Cert.MixProjIdeal.nD Cert.MixProjIdeal.τ).loc Cert.MixProjIdeal.main_arg1) = m ((c.tc : Thread Cert.MixProjIdeal.nD Cert.MixProjIdeal.τ).loc Cert.MixProjIdeal.main_arg1)
      ∧ r.2.mem ((c.tc : Thread Cert.MixProjIdeal.nD Cert.MixProjIdeal.τ).loc Cert.MixProjIdeal.main_arg2) = m ((c.tc : Thread Cert.MixProjIdeal.nD Cert.MixProjIdeal.τ).loc Cert.MixProjIdeal.main_arg2)
      ∧ r.2.mem ((c.tc : Thread Cert.MixProjIdeal.nD Cert.MixProjIdeal.τ).loc Cert.MixProjIdeal.main_arg3) = m ((c.tc : Thread Cert.MixProjIdeal.nD Cert.MixProjIdeal.τ).loc Cert.MixProjIdeal.main_arg3)
      ∧ r.2.mem ((c.tc : Thread Cert.MixProjIdeal.nD Cert.MixProjIdeal.τ).loc Cert.MixProjIdeal.main_arg4) = m ((c.tc : Thread Cert.MixProjIdeal.nD Cert.MixProjIdeal.τ).loc Cert.MixProjIdeal.main_arg4))
      ∧ r.2.sem = fun _ => 0)

def quiescent_MixProjRefIdeal [hMixProjRefIdeal : Cert.MixProjRefIdeal.Facts] : Prop :=
  ∀ (m : (ℓ : Loc Cert.MixProjRefIdeal.nD Cert.MixProjRefIdeal.τ Cert.MixProjRefIdeal.sig) → Buf (Elt Ideal) ℓ) (g : Dev Cert.MixProjRefIdeal.nD → PrngReg), Pre_MixProjRefIdeal m →
    θ_run (Cert.MixProjRefIdeal.defs (F := Ideal)) (onTc (τ := Cert.MixProjRefIdeal.τ) (Cert.MixProjRefIdeal.main (F := Ideal))) ⟨m, fun _ => 0, g⟩ (fun r => (∀ c : Dev Cert.MixProjRefIdeal.nD,
      r.2.mem ((c.tc : Thread Cert.MixProjRefIdeal.nD Cert.MixProjRefIdeal.τ).loc Cert.MixProjRefIdeal.main_arg0) = m ((c.tc : Thread Cert.MixProjRefIdeal.nD Cert.MixProjRefIdeal.τ).loc Cert.MixProjRefIdeal.main_arg0)
      ∧ r.2.mem ((c.tc : Thread Cert.MixProjRefIdeal.nD Cert.MixProjRefIdeal.τ).loc Cert.MixProjRefIdeal.main_arg1) = m ((c.tc : Thread Cert.MixProjRefIdeal.nD Cert.MixProjRefIdeal.τ).loc Cert.MixProjRefIdeal.main_arg1)
      ∧ r.2.mem ((c.tc : Thread Cert.MixProjRefIdeal.nD Cert.MixProjRefIdeal.τ).loc Cert.MixProjRefIdeal.main_arg2) = m ((c.tc : Thread Cert.MixProjRefIdeal.nD Cert.MixProjRefIdeal.τ).loc Cert.MixProjRefIdeal.main_arg2)
      ∧ r.2.mem ((c.tc : Thread Cert.MixProjRefIdeal.nD Cert.MixProjRefIdeal.τ).loc Cert.MixProjRefIdeal.main_arg3) = m ((c.tc : Thread Cert.MixProjRefIdeal.nD Cert.MixProjRefIdeal.τ).loc Cert.MixProjRefIdeal.main_arg3)
      ∧ r.2.mem ((c.tc : Thread Cert.MixProjRefIdeal.nD Cert.MixProjRefIdeal.τ).loc Cert.MixProjRefIdeal.main_arg4) = m ((c.tc : Thread Cert.MixProjRefIdeal.nD Cert.MixProjRefIdeal.τ).loc Cert.MixProjRefIdeal.main_arg4))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdIdeal_pre_pool_fwd_finite [hPoolFwdIdeal : Cert.PoolFwdIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_pool_fwd_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolFwdRefIdeal_pre_pool_fwd_finite [hPoolFwdRefIdeal : Cert.PoolFwdRefIdeal.Facts] [hPre_pool_fwd_finite : Cert.Pre_pool_fwd_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_pool_fwd_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_MixMerge [hMixMerge : Cert.MixMerge.Facts] : Prop :=
  ∀ (m : (ℓ : Loc Cert.MixMerge.nD Cert.MixMerge.τ Cert.MixMerge.sig) → Buf (Elt Bits) ℓ) (g : Dev Cert.MixMerge.nD → PrngReg), Pre_MixMerge m →
    θ_run (Cert.MixMerge.defs (F := Bits)) (onTc (τ := Cert.MixMerge.τ) (Cert.MixMerge.main (F := Bits))) ⟨m, fun _ => 0, g⟩ (fun r => (∀ c : Dev Cert.MixMerge.nD,
      r.2.mem ((c.tc : Thread Cert.MixMerge.nD Cert.MixMerge.τ).loc Cert.MixMerge.main_arg0) = m ((c.tc : Thread Cert.MixMerge.nD Cert.MixMerge.τ).loc Cert.MixMerge.main_arg0)
      ∧ r.2.mem ((c.tc : Thread Cert.MixMerge.nD Cert.MixMerge.τ).loc Cert.MixMerge.main_arg1) = m ((c.tc : Thread Cert.MixMerge.nD Cert.MixMerge.τ).loc Cert.MixMerge.main_arg1)
      ∧ r.2.mem ((c.tc : Thread Cert.MixMerge.nD Cert.MixMerge.τ).loc Cert.MixMerge.main_arg2) = m ((c.tc : Thread Cert.MixMerge.nD Cert.MixMerge.τ).loc Cert.MixMerge.main_arg2)
      ∧ r.2.mem ((c.tc : Thread Cert.MixMerge.nD Cert.MixMerge.τ).loc Cert.MixMerge.main_arg3) = m ((c.tc : Thread Cert.MixMerge.nD Cert.MixMerge.τ).loc Cert.MixMerge.main_arg3)
      ∧ r.2.mem ((c.tc : Thread Cert.MixMerge.nD Cert.MixMerge.τ).loc Cert.MixMerge.main_arg4) = m ((c.tc : Thread Cert.MixMerge.nD Cert.MixMerge.τ).loc Cert.MixMerge.main_arg4))
      ∧ r.2.sem = fun _ => 0)

def quiescent_MixMergeIdeal [hMixMergeIdeal : Cert.MixMergeIdeal.Facts] : Prop :=
  ∀ (m : (ℓ : Loc Cert.MixMergeIdeal.nD Cert.MixMergeIdeal.τ Cert.MixMergeIdeal.sig) → Buf (Elt Ideal) ℓ) (g : Dev Cert.MixMergeIdeal.nD → PrngReg), Pre_MixMergeIdeal m →
    θ_run (Cert.MixMergeIdeal.defs (F := Ideal)) (onTc (τ := Cert.MixMergeIdeal.τ) (Cert.MixMergeIdeal.main (F := Ideal))) ⟨m, fun _ => 0, g⟩ (fun r => (∀ c : Dev Cert.MixMergeIdeal.nD,
      r.2.mem ((c.tc : Thread Cert.MixMergeIdeal.nD Cert.MixMergeIdeal.τ).loc Cert.MixMergeIdeal.main_arg0) = m ((c.tc : Thread Cert.MixMergeIdeal.nD Cert.MixMergeIdeal.τ).loc Cert.MixMergeIdeal.main_arg0)
      ∧ r.2.mem ((c.tc : Thread Cert.MixMergeIdeal.nD Cert.MixMergeIdeal.τ).loc Cert.MixMergeIdeal.main_arg1) = m ((c.tc : Thread Cert.MixMergeIdeal.nD Cert.MixMergeIdeal.τ).loc Cert.MixMergeIdeal.main_arg1)
      ∧ r.2.mem ((c.tc : Thread Cert.MixMergeIdeal.nD Cert.MixMergeIdeal.τ).loc Cert.MixMergeIdeal.main_arg2) = m ((c.tc : Thread Cert.MixMergeIdeal.nD Cert.MixMergeIdeal.τ).loc Cert.MixMergeIdeal.main_arg2)
      ∧ r.2.mem ((c.tc : Thread Cert.MixMergeIdeal.nD Cert.MixMergeIdeal.τ).loc Cert.MixMergeIdeal.main_arg3) = m ((c.tc : Thread Cert.MixMergeIdeal.nD Cert.MixMergeIdeal.τ).loc Cert.MixMergeIdeal.main_arg3)
      ∧ r.2.mem ((c.tc : Thread Cert.MixMergeIdeal.nD Cert.MixMergeIdeal.τ).loc Cert.MixMergeIdeal.main_arg4) = m ((c.tc : Thread Cert.MixMergeIdeal.nD Cert.MixMergeIdeal.τ).loc Cert.MixMergeIdeal.main_arg4))
      ∧ r.2.sem = fun _ => 0)

def quiescent_MixMergeRefIdeal [hMixMergeRefIdeal : Cert.MixMergeRefIdeal.Facts] : Prop :=
  ∀ (m : (ℓ : Loc Cert.MixMergeRefIdeal.nD Cert.MixMergeRefIdeal.τ Cert.MixMergeRefIdeal.sig) → Buf (Elt Ideal) ℓ) (g : Dev Cert.MixMergeRefIdeal.nD → PrngReg), Pre_MixMergeRefIdeal m →
    θ_run (Cert.MixMergeRefIdeal.defs (F := Ideal)) (onTc (τ := Cert.MixMergeRefIdeal.τ) (Cert.MixMergeRefIdeal.main (F := Ideal))) ⟨m, fun _ => 0, g⟩ (fun r => (∀ c : Dev Cert.MixMergeRefIdeal.nD,
      r.2.mem ((c.tc : Thread Cert.MixMergeRefIdeal.nD Cert.MixMergeRefIdeal.τ).loc Cert.MixMergeRefIdeal.main_arg0) = m ((c.tc : Thread Cert.MixMergeRefIdeal.nD Cert.MixMergeRefIdeal.τ).loc Cert.MixMergeRefIdeal.main_arg0)
      ∧ r.2.mem ((c.tc : Thread Cert.MixMergeRefIdeal.nD Cert.MixMergeRefIdeal.τ).loc Cert.MixMergeRefIdeal.main_arg1) = m ((c.tc : Thread Cert.MixMergeRefIdeal.nD Cert.MixMergeRefIdeal.τ).loc Cert.MixMergeRefIdeal.main_arg1)
      ∧ r.2.mem ((c.tc : Thread Cert.MixMergeRefIdeal.nD Cert.MixMergeRefIdeal.τ).loc Cert.MixMergeRefIdeal.main_arg2) = m ((c.tc : Thread Cert.MixMergeRefIdeal.nD Cert.MixMergeRefIdeal.τ).loc Cert.MixMergeRefIdeal.main_arg2)
      ∧ r.2.mem ((c.tc : Thread Cert.MixMergeRefIdeal.nD Cert.MixMergeRefIdeal.τ).loc Cert.MixMergeRefIdeal.main_arg3) = m ((c.tc : Thread Cert.MixMergeRefIdeal.nD Cert.MixMergeRefIdeal.τ).loc Cert.MixMergeRefIdeal.main_arg3)
      ∧ r.2.mem ((c.tc : Thread Cert.MixMergeRefIdeal.nD Cert.MixMergeRefIdeal.τ).loc Cert.MixMergeRefIdeal.main_arg4) = m ((c.tc : Thread Cert.MixMergeRefIdeal.nD Cert.MixMergeRefIdeal.τ).loc Cert.MixMergeRefIdeal.main_arg4))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1))
      ∧ r.2.sem = fun _ => 0)

def quiescent_Ffn1Up [hFfn1Up : Cert.Ffn1Up.Facts] : Prop :=
  ∀ (m : (ℓ : Loc Cert.Ffn1Up.nD Cert.Ffn1Up.τ Cert.Ffn1Up.sig) → Buf (Elt Bits) ℓ) (g : Dev Cert.Ffn1Up.nD → PrngReg), Pre_Ffn1Up m →
    θ_run (Cert.Ffn1Up.defs (F := Bits)) (onTc (τ := Cert.Ffn1Up.τ) (Cert.Ffn1Up.main (F := Bits))) ⟨m, fun _ => 0, g⟩ (fun r => (∀ c : Dev Cert.Ffn1Up.nD,
      r.2.mem ((c.tc : Thread Cert.Ffn1Up.nD Cert.Ffn1Up.τ).loc Cert.Ffn1Up.main_arg0) = m ((c.tc : Thread Cert.Ffn1Up.nD Cert.Ffn1Up.τ).loc Cert.Ffn1Up.main_arg0)
      ∧ r.2.mem ((c.tc : Thread Cert.Ffn1Up.nD Cert.Ffn1Up.τ).loc Cert.Ffn1Up.main_arg1) = m ((c.tc : Thread Cert.Ffn1Up.nD Cert.Ffn1Up.τ).loc Cert.Ffn1Up.main_arg1)
      ∧ r.2.mem ((c.tc : Thread Cert.Ffn1Up.nD Cert.Ffn1Up.τ).loc Cert.Ffn1Up.main_arg2) = m ((c.tc : Thread Cert.Ffn1Up.nD Cert.Ffn1Up.τ).loc Cert.Ffn1Up.main_arg2)
      ∧ r.2.mem ((c.tc : Thread Cert.Ffn1Up.nD Cert.Ffn1Up.τ).loc Cert.Ffn1Up.main_arg3) = m ((c.tc : Thread Cert.Ffn1Up.nD Cert.Ffn1Up.τ).loc Cert.Ffn1Up.main_arg3))
      ∧ r.2.sem = fun _ => 0)

def quiescent_Ffn1UpIdeal [hFfn1UpIdeal : Cert.Ffn1UpIdeal.Facts] : Prop :=
  ∀ (m : (ℓ : Loc Cert.Ffn1UpIdeal.nD Cert.Ffn1UpIdeal.τ Cert.Ffn1UpIdeal.sig) → Buf (Elt Ideal) ℓ) (g : Dev Cert.Ffn1UpIdeal.nD → PrngReg), Pre_Ffn1UpIdeal m →
    θ_run (Cert.Ffn1UpIdeal.defs (F := Ideal)) (onTc (τ := Cert.Ffn1UpIdeal.τ) (Cert.Ffn1UpIdeal.main (F := Ideal))) ⟨m, fun _ => 0, g⟩ (fun r => (∀ c : Dev Cert.Ffn1UpIdeal.nD,
      r.2.mem ((c.tc : Thread Cert.Ffn1UpIdeal.nD Cert.Ffn1UpIdeal.τ).loc Cert.Ffn1UpIdeal.main_arg0) = m ((c.tc : Thread Cert.Ffn1UpIdeal.nD Cert.Ffn1UpIdeal.τ).loc Cert.Ffn1UpIdeal.main_arg0)
      ∧ r.2.mem ((c.tc : Thread Cert.Ffn1UpIdeal.nD Cert.Ffn1UpIdeal.τ).loc Cert.Ffn1UpIdeal.main_arg1) = m ((c.tc : Thread Cert.Ffn1UpIdeal.nD Cert.Ffn1UpIdeal.τ).loc Cert.Ffn1UpIdeal.main_arg1)
      ∧ r.2.mem ((c.tc : Thread Cert.Ffn1UpIdeal.nD Cert.Ffn1UpIdeal.τ).loc Cert.Ffn1UpIdeal.main_arg2) = m ((c.tc : Thread Cert.Ffn1UpIdeal.nD Cert.Ffn1UpIdeal.τ).loc Cert.Ffn1UpIdeal.main_arg2)
      ∧ r.2.mem ((c.tc : Thread Cert.Ffn1UpIdeal.nD Cert.Ffn1UpIdeal.τ).loc Cert.Ffn1UpIdeal.main_arg3) = m ((c.tc : Thread Cert.Ffn1UpIdeal.nD Cert.Ffn1UpIdeal.τ).loc Cert.Ffn1UpIdeal.main_arg3))
      ∧ r.2.sem = fun _ => 0)

def quiescent_Ffn1UpRefIdeal [hFfn1UpRefIdeal : Cert.Ffn1UpRefIdeal.Facts] : Prop :=
  ∀ (m : (ℓ : Loc Cert.Ffn1UpRefIdeal.nD Cert.Ffn1UpRefIdeal.τ Cert.Ffn1UpRefIdeal.sig) → Buf (Elt Ideal) ℓ) (g : Dev Cert.Ffn1UpRefIdeal.nD → PrngReg), Pre_Ffn1UpRefIdeal m →
    θ_run (Cert.Ffn1UpRefIdeal.defs (F := Ideal)) (onTc (τ := Cert.Ffn1UpRefIdeal.τ) (Cert.Ffn1UpRefIdeal.main (F := Ideal))) ⟨m, fun _ => 0, g⟩ (fun r => (∀ c : Dev Cert.Ffn1UpRefIdeal.nD,
      r.2.mem ((c.tc : Thread Cert.Ffn1UpRefIdeal.nD Cert.Ffn1UpRefIdeal.τ).loc Cert.Ffn1UpRefIdeal.main_arg0) = m ((c.tc : Thread Cert.Ffn1UpRefIdeal.nD Cert.Ffn1UpRefIdeal.τ).loc Cert.Ffn1UpRefIdeal.main_arg0)
      ∧ r.2.mem ((c.tc : Thread Cert.Ffn1UpRefIdeal.nD Cert.Ffn1UpRefIdeal.τ).loc Cert.Ffn1UpRefIdeal.main_arg1) = m ((c.tc : Thread Cert.Ffn1UpRefIdeal.nD Cert.Ffn1UpRefIdeal.τ).loc Cert.Ffn1UpRefIdeal.main_arg1)
      ∧ r.2.mem ((c.tc : Thread Cert.Ffn1UpRefIdeal.nD Cert.Ffn1UpRefIdeal.τ).loc Cert.Ffn1UpRefIdeal.main_arg2) = m ((c.tc : Thread Cert.Ffn1UpRefIdeal.nD Cert.Ffn1UpRefIdeal.τ).loc Cert.Ffn1UpRefIdeal.main_arg2)
      ∧ r.2.mem ((c.tc : Thread Cert.Ffn1UpRefIdeal.nD Cert.Ffn1UpRefIdeal.τ).loc Cert.Ffn1UpRefIdeal.main_arg3) = m ((c.tc : Thread Cert.Ffn1UpRefIdeal.nD Cert.Ffn1UpRefIdeal.τ).loc Cert.Ffn1UpRefIdeal.main_arg3))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_FfnDwd [hFfnDwd : Cert.FfnDwd.Facts] : Prop :=
  ∀ (m : (ℓ : Loc Cert.FfnDwd.nD Cert.FfnDwd.τ Cert.FfnDwd.sig) → Buf (Elt Bits) ℓ) (g : Dev Cert.FfnDwd.nD → PrngReg), Pre_FfnDwd m →
    θ_run (Cert.FfnDwd.defs (F := Bits)) (onTc (τ := Cert.FfnDwd.τ) (Cert.FfnDwd.main (F := Bits))) ⟨m, fun _ => 0, g⟩ (fun r => (∀ c : Dev Cert.FfnDwd.nD,
      r.2.mem ((c.tc : Thread Cert.FfnDwd.nD Cert.FfnDwd.τ).loc Cert.FfnDwd.main_arg0) = m ((c.tc : Thread Cert.FfnDwd.nD Cert.FfnDwd.τ).loc Cert.FfnDwd.main_arg0)
      ∧ r.2.mem ((c.tc : Thread Cert.FfnDwd.nD Cert.FfnDwd.τ).loc Cert.FfnDwd.main_arg1) = m ((c.tc : Thread Cert.FfnDwd.nD Cert.FfnDwd.τ).loc Cert.FfnDwd.main_arg1))
      ∧ r.2.sem = fun _ => 0)

def quiescent_FfnDwdIdeal [hFfnDwdIdeal : Cert.FfnDwdIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg), Pre_FfnDwdIdeal m →
    θ_run (Cert.FfnDwdIdeal.defs (F := Ideal)) (onTc (τ := Cert.FfnDwdIdeal.τ) (Cert.FfnDwdIdeal.main (F := Ideal))) ⟨m, fun _ => 0, g⟩ (fun r => (∀ c : Dev Cert.FfnDwdIdeal.nD,
      r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
      ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ r.2.sem = fun _ => 0)

def quiescent_FfnDwdRefIdeal [hFfnDwdRefIdeal : Cert.FfnDwdRefIdeal.Facts] : Prop :=
  ∀ (m : (ℓ : Loc Cert.FfnDwdRefIdeal.nD Cert.FfnDwdRefIdeal.τ Cert.FfnDwdRefIdeal.sig) → Buf (Elt Ideal) ℓ) (g : Dev Cert.FfnDwdRefIdeal.nD → PrngReg), Pre_FfnDwdRefIdeal m →
    θ_run (Cert.FfnDwdRefIdeal.defs (F := Ideal)) (onTc (τ := Cert.FfnDwdRefIdeal.τ) (Cert.FfnDwdRefIdeal.main (F := Ideal))) ⟨m, fun _ => 0, g⟩ (fun r => (∀ c : Dev Cert.FfnDwdRefIdeal.nD,
      r.2.mem ((c.tc : Thread Cert.FfnDwdRefIdeal.nD Cert.FfnDwdRefIdeal.τ).loc Cert.FfnDwdRefIdeal.main_arg0) = m ((c.tc : Thread Cert.FfnDwdRefIdeal.nD Cert.FfnDwdRefIdeal.τ).loc Cert.FfnDwdRefIdeal.main_arg0)
      ∧ r.2.mem ((c.tc : Thread Cert.FfnDwdRefIdeal.nD Cert.FfnDwdRefIdeal.τ).loc Cert.FfnDwdRefIdeal.main_arg1) = m ((c.tc : Thread Cert.FfnDwdRefIdeal.nD Cert.FfnDwdRefIdeal.τ).loc Cert.FfnDwdRefIdeal.main_arg1))
      ∧ r.2.sem = fun _ => 0)

def quiescent_FfnDwIn [hFfnDwIn : Cert.FfnDwIn.Facts] : Prop :=
  ∀ (m : (ℓ : Loc Cert.FfnDwIn.nD Cert.FfnDwIn.τ Cert.FfnDwIn.sig) → Buf (Elt Bits) ℓ) (g : Dev Cert.FfnDwIn.nD → PrngReg), Pre_FfnDwIn m →
    θ_run (Cert.FfnDwIn.defs (F := Bits)) (onTc (τ := Cert.FfnDwIn.τ) (Cert.FfnDwIn.main (F := Bits))) ⟨m, fun _ => 0, g⟩ (fun r => (∀ c : Dev Cert.FfnDwIn.nD,
      r.2.mem ((c.tc : Thread Cert.FfnDwIn.nD Cert.FfnDwIn.τ).loc Cert.FfnDwIn.main_arg0) = m ((c.tc : Thread Cert.FfnDwIn.nD Cert.FfnDwIn.τ).loc Cert.FfnDwIn.main_arg0)
      ∧ r.2.mem ((c.tc : Thread Cert.FfnDwIn.nD Cert.FfnDwIn.τ).loc Cert.FfnDwIn.main_arg1) = m ((c.tc : Thread Cert.FfnDwIn.nD Cert.FfnDwIn.τ).loc Cert.FfnDwIn.main_arg1))
      ∧ r.2.sem = fun _ => 0)

def quiescent_FfnDwInIdeal [hFfnDwInIdeal : Cert.FfnDwInIdeal.Facts] : Prop :=
  ∀ (m : (ℓ : Loc Cert.FfnDwInIdeal.nD Cert.FfnDwInIdeal.τ Cert.FfnDwInIdeal.sig) → Buf (Elt Ideal) ℓ) (g : Dev Cert.FfnDwInIdeal.nD → PrngReg), Pre_FfnDwInIdeal m →
    θ_run (Cert.FfnDwInIdeal.defs (F := Ideal)) (onTc (τ := Cert.FfnDwInIdeal.τ) (Cert.FfnDwInIdeal.main (F := Ideal))) ⟨m, fun _ => 0, g⟩ (fun r => (∀ c : Dev Cert.FfnDwInIdeal.nD,
      r.2.mem ((c.tc : Thread Cert.FfnDwInIdeal.nD Cert.FfnDwInIdeal.τ).loc Cert.FfnDwInIdeal.main_arg0) = m ((c.tc : Thread Cert.FfnDwInIdeal.nD Cert.FfnDwInIdeal.τ).loc Cert.FfnDwInIdeal.main_arg0)
      ∧ r.2.mem ((c.tc : Thread Cert.FfnDwInIdeal.nD Cert.FfnDwInIdeal.τ).loc Cert.FfnDwInIdeal.main_arg1) = m ((c.tc : Thread Cert.FfnDwInIdeal.nD Cert.FfnDwInIdeal.τ).loc Cert.FfnDwInIdeal.main_arg1))
      ∧ r.2.sem = fun _ => 0)

def quiescent_FfnDwInRefIdeal [hFfnDwInRefIdeal : Cert.FfnDwInRefIdeal.Facts] : Prop :=
  ∀ (m : (ℓ : Loc Cert.FfnDwInRefIdeal.nD Cert.FfnDwInRefIdeal.τ Cert.FfnDwInRefIdeal.sig) → Buf (Elt Ideal) ℓ) (g : Dev Cert.FfnDwInRefIdeal.nD → PrngReg), Pre_FfnDwInRefIdeal m →
    θ_run (Cert.FfnDwInRefIdeal.defs (F := Ideal)) (onTc (τ := Cert.FfnDwInRefIdeal.τ) (Cert.FfnDwInRefIdeal.main (F := Ideal))) ⟨m, fun _ => 0, g⟩ (fun r => (∀ c : Dev Cert.FfnDwInRefIdeal.nD,
      r.2.mem ((c.tc : Thread Cert.FfnDwInRefIdeal.nD Cert.FfnDwInRefIdeal.τ).loc Cert.FfnDwInRefIdeal.main_arg0) = m ((c.tc : Thread Cert.FfnDwInRefIdeal.nD Cert.FfnDwInRefIdeal.τ).loc Cert.FfnDwInRefIdeal.main_arg0)
      ∧ r.2.mem ((c.tc : Thread Cert.FfnDwInRefIdeal.nD Cert.FfnDwInRefIdeal.τ).loc Cert.FfnDwInRefIdeal.main_arg1) = m ((c.tc : Thread Cert.FfnDwInRefIdeal.nD Cert.FfnDwInRefIdeal.τ).loc Cert.FfnDwInRefIdeal.main_arg1))
      ∧ r.2.sem = fun _ => 0)

def quiescent_Ffn1Gate [hFfn1Gate : Cert.Ffn1Gate.Facts] : Prop :=
  ∀ (m : (ℓ : Loc Cert.Ffn1Gate.nD Cert.Ffn1Gate.τ Cert.Ffn1Gate.sig) → Buf (Elt Bits) ℓ) (g : Dev Cert.Ffn1Gate.nD → PrngReg), Pre_Ffn1Gate m →
    θ_run (Cert.Ffn1Gate.defs (F := Bits)) (onTc (τ := Cert.Ffn1Gate.τ) (Cert.Ffn1Gate.main (F := Bits))) ⟨m, fun _ => 0, g⟩ (fun r => (∀ c : Dev Cert.Ffn1Gate.nD,
      r.2.mem ((c.tc : Thread Cert.Ffn1Gate.nD Cert.Ffn1Gate.τ).loc Cert.Ffn1Gate.main_arg0) = m ((c.tc : Thread Cert.Ffn1Gate.nD Cert.Ffn1Gate.τ).loc Cert.Ffn1Gate.main_arg0)
      ∧ r.2.mem ((c.tc : Thread Cert.Ffn1Gate.nD Cert.Ffn1Gate.τ).loc Cert.Ffn1Gate.main_arg1) = m ((c.tc : Thread Cert.Ffn1Gate.nD Cert.Ffn1Gate.τ).loc Cert.Ffn1Gate.main_arg1))
      ∧ r.2.sem = fun _ => 0)

def quiescent_Ffn1GateIdeal [hFfn1GateIdeal : Cert.Ffn1GateIdeal.Facts] : Prop :=
  ∀ (m : (ℓ : Loc Cert.Ffn1GateIdeal.nD Cert.Ffn1GateIdeal.τ Cert.Ffn1GateIdeal.sig) → Buf (Elt Ideal) ℓ) (g : Dev Cert.Ffn1GateIdeal.nD → PrngReg), Pre_Ffn1GateIdeal m →
    θ_run (Cert.Ffn1GateIdeal.defs (F := Ideal)) (onTc (τ := Cert.Ffn1GateIdeal.τ) (Cert.Ffn1GateIdeal.main (F := Ideal))) ⟨m, fun _ => 0, g⟩ (fun r => (∀ c : Dev Cert.Ffn1GateIdeal.nD,
      r.2.mem ((c.tc : Thread Cert.Ffn1GateIdeal.nD Cert.Ffn1GateIdeal.τ).loc Cert.Ffn1GateIdeal.main_arg0) = m ((c.tc : Thread Cert.Ffn1GateIdeal.nD Cert.Ffn1GateIdeal.τ).loc Cert.Ffn1GateIdeal.main_arg0)
      ∧ r.2.mem ((c.tc : Thread Cert.Ffn1GateIdeal.nD Cert.Ffn1GateIdeal.τ).loc Cert.Ffn1GateIdeal.main_arg1) = m ((c.tc : Thread Cert.Ffn1GateIdeal.nD Cert.Ffn1GateIdeal.τ).loc Cert.Ffn1GateIdeal.main_arg1))
      ∧ r.2.sem = fun _ => 0)

def quiescent_Ffn1GateRefIdeal [hFfn1GateRefIdeal : Cert.Ffn1GateRefIdeal.Facts] : Prop :=
  ∀ (m : (ℓ : Loc Cert.Ffn1GateRefIdeal.nD Cert.Ffn1GateRefIdeal.τ Cert.Ffn1GateRefIdeal.sig) → Buf (Elt Ideal) ℓ) (g : Dev Cert.Ffn1GateRefIdeal.nD → PrngReg), Pre_Ffn1GateRefIdeal m →
    θ_run (Cert.Ffn1GateRefIdeal.defs (F := Ideal)) (onTc (τ := Cert.Ffn1GateRefIdeal.τ) (Cert.Ffn1GateRefIdeal.main (F := Ideal))) ⟨m, fun _ => 0, g⟩ (fun r => (∀ c : Dev Cert.Ffn1GateRefIdeal.nD,
      r.2.mem ((c.tc : Thread Cert.Ffn1GateRefIdeal.nD Cert.Ffn1GateRefIdeal.τ).loc Cert.Ffn1GateRefIdeal.main_arg0) = m ((c.tc : Thread Cert.Ffn1GateRefIdeal.nD Cert.Ffn1GateRefIdeal.τ).loc Cert.Ffn1GateRefIdeal.main_arg0)
      ∧ r.2.mem ((c.tc : Thread Cert.Ffn1GateRefIdeal.nD Cert.Ffn1GateRefIdeal.τ).loc Cert.Ffn1GateRefIdeal.main_arg1) = m ((c.tc : Thread Cert.Ffn1GateRefIdeal.nD Cert.Ffn1GateRefIdeal.τ).loc Cert.Ffn1GateRefIdeal.main_arg1))
      ∧ r.2.sem = fun _ => 0)

def quiescent_ReduceAdam [hReduceAdam : Cert.ReduceAdam.Facts] : Prop :=
  ∀ (m : (ℓ : Loc Cert.ReduceAdam.nD Cert.ReduceAdam.τ Cert.ReduceAdam.sig) → Buf (Elt Bits) ℓ) (g : Dev Cert.ReduceAdam.nD → PrngReg), Pre_ReduceAdam m →
    θ_run (Cert.ReduceAdam.defs (F := Bits)) (onTc (τ := Cert.ReduceAdam.τ) (Cert.ReduceAdam.main (F := Bits))) ⟨m, fun _ => 0, g⟩ (fun r => (∀ c : Dev Cert.ReduceAdam.nD,
      r.2.mem ((c.tc : Thread Cert.ReduceAdam.nD Cert.ReduceAdam.τ).loc Cert.ReduceAdam.main_arg0) = m ((c.tc : Thread Cert.ReduceAdam.nD Cert.ReduceAdam.τ).loc Cert.ReduceAdam.main_arg0)
      ∧ r.2.mem ((c.tc : Thread Cert.ReduceAdam.nD Cert.ReduceAdam.τ).loc Cert.ReduceAdam.main_arg1) = m ((c.tc : Thread Cert.ReduceAdam.nD Cert.ReduceAdam.τ).loc Cert.ReduceAdam.main_arg1)
      ∧ r.2.mem ((c.tc : Thread Cert.ReduceAdam.nD Cert.ReduceAdam.τ).loc Cert.ReduceAdam.main_arg2) = m ((c.tc : Thread Cert.ReduceAdam.nD Cert.ReduceAdam.τ).loc Cert.ReduceAdam.main_arg2)
      ∧ r.2.mem ((c.tc : Thread Cert.ReduceAdam.nD Cert.ReduceAdam.τ).loc Cert.ReduceAdam.main_arg3) = m ((c.tc : Thread Cert.ReduceAdam.nD Cert.ReduceAdam.τ).loc Cert.ReduceAdam.main_arg3))
      ∧ r.2.sem = fun _ => 0)

def quiescent_ReduceAdamIdeal [hReduceAdamIdeal : Cert.ReduceAdamIdeal.Facts] : Prop :=
  ∀ (m : (ℓ : Loc Cert.ReduceAdamIdeal.nD Cert.ReduceAdamIdeal.τ Cert.ReduceAdamIdeal.sig) → Buf (Elt Ideal) ℓ) (g : Dev Cert.ReduceAdamIdeal.nD → PrngReg), Pre_ReduceAdamIdeal m →
    θ_run (Cert.ReduceAdamIdeal.defs (F := Ideal)) (onTc (τ := Cert.ReduceAdamIdeal.τ) (Cert.ReduceAdamIdeal.main (F := Ideal))) ⟨m, fun _ => 0, g⟩ (fun r => (∀ c : Dev Cert.ReduceAdamIdeal.nD,
      r.2.mem ((c.tc : Thread Cert.ReduceAdamIdeal.nD Cert.ReduceAdamIdeal.τ).loc Cert.ReduceAdamIdeal.main_arg0) = m ((c.tc : Thread Cert.ReduceAdamIdeal.nD Cert.ReduceAdamIdeal.τ).loc Cert.ReduceAdamIdeal.main_arg0)
      ∧ r.2.mem ((c.tc : Thread Cert.ReduceAdamIdeal.nD Cert.ReduceAdamIdeal.τ).loc Cert.ReduceAdamIdeal.main_arg1) = m ((c.tc : Thread Cert.ReduceAdamIdeal.nD Cert.ReduceAdamIdeal.τ).loc Cert.ReduceAdamIdeal.main_arg1)
      ∧ r.2.mem ((c.tc : Thread Cert.ReduceAdamIdeal.nD Cert.ReduceAdamIdeal.τ).loc Cert.ReduceAdamIdeal.main_arg2) = m ((c.tc : Thread Cert.ReduceAdamIdeal.nD Cert.ReduceAdamIdeal.τ).loc Cert.ReduceAdamIdeal.main_arg2)
      ∧ r.2.mem ((c.tc : Thread Cert.ReduceAdamIdeal.nD Cert.ReduceAdamIdeal.τ).loc Cert.ReduceAdamIdeal.main_arg3) = m ((c.tc : Thread Cert.ReduceAdamIdeal.nD Cert.ReduceAdamIdeal.τ).loc Cert.ReduceAdamIdeal.main_arg3))
      ∧ r.2.sem = fun _ => 0)

def quiescent_ReduceAdamRefIdeal [hReduceAdamRefIdeal : Cert.ReduceAdamRefIdeal.Facts] : Prop :=
  ∀ (m : (ℓ : Loc Cert.ReduceAdamRefIdeal.nD Cert.ReduceAdamRefIdeal.τ Cert.ReduceAdamRefIdeal.sig) → Buf (Elt Ideal) ℓ) (g : Dev Cert.ReduceAdamRefIdeal.nD → PrngReg), Pre_ReduceAdamRefIdeal m →
    θ_run (Cert.ReduceAdamRefIdeal.defs (F := Ideal)) (onTc (τ := Cert.ReduceAdamRefIdeal.τ) (Cert.ReduceAdamRefIdeal.main (F := Ideal))) ⟨m, fun _ => 0, g⟩ (fun r => (∀ c : Dev Cert.ReduceAdamRefIdeal.nD,
      r.2.mem ((c.tc : Thread Cert.ReduceAdamRefIdeal.nD Cert.ReduceAdamRefIdeal.τ).loc Cert.ReduceAdamRefIdeal.main_arg0) = m ((c.tc : Thread Cert.ReduceAdamRefIdeal.nD Cert.ReduceAdamRefIdeal.τ).loc Cert.ReduceAdamRefIdeal.main_arg0)
      ∧ r.2.mem ((c.tc : Thread Cert.ReduceAdamRefIdeal.nD Cert.ReduceAdamRefIdeal.τ).loc Cert.ReduceAdamRefIdeal.main_arg1) = m ((c.tc : Thread Cert.ReduceAdamRefIdeal.nD Cert.ReduceAdamRefIdeal.τ).loc Cert.ReduceAdamRefIdeal.main_arg1)
      ∧ r.2.mem ((c.tc : Thread Cert.ReduceAdamRefIdeal.nD Cert.ReduceAdamRefIdeal.τ).loc Cert.ReduceAdamRefIdeal.main_arg2) = m ((c.tc : Thread Cert.ReduceAdamRefIdeal.nD Cert.ReduceAdamRefIdeal.τ).loc Cert.ReduceAdamRefIdeal.main_arg2)
      ∧ r.2.mem ((c.tc : Thread Cert.ReduceAdamRefIdeal.nD Cert.ReduceAdamRefIdeal.τ).loc Cert.ReduceAdamRefIdeal.main_arg3) = m ((c.tc : Thread Cert.ReduceAdamRefIdeal.nD Cert.ReduceAdamRefIdeal.τ).loc Cert.ReduceAdamRefIdeal.main_arg3))
      ∧ r.2.sem = fun _ => 0)

def quiescent_ReduceOnly [hReduceOnly : Cert.ReduceOnly.Facts] : Prop :=
  ∀ (m : (ℓ : Loc Cert.ReduceOnly.nD Cert.ReduceOnly.τ Cert.ReduceOnly.sig) → Buf (Elt Bits) ℓ) (g : Dev Cert.ReduceOnly.nD → PrngReg), Pre_ReduceOnly m →
    θ_run (Cert.ReduceOnly.defs (F := Bits)) (onTc (τ := Cert.ReduceOnly.τ) (Cert.ReduceOnly.main (F := Bits))) ⟨m, fun _ => 0, g⟩ (fun r => (∀ c : Dev Cert.ReduceOnly.nD,
      r.2.mem ((c.tc : Thread Cert.ReduceOnly.nD Cert.ReduceOnly.τ).loc Cert.ReduceOnly.main_arg0) = m ((c.tc : Thread Cert.ReduceOnly.nD Cert.ReduceOnly.τ).loc Cert.ReduceOnly.main_arg0))
      ∧ r.2.sem = fun _ => 0)

def quiescent_ReduceOnlyIdeal [hReduceOnlyIdeal : Cert.ReduceOnlyIdeal.Facts] : Prop :=
  ∀ (m : (ℓ : Loc Cert.ReduceOnlyIdeal.nD Cert.ReduceOnlyIdeal.τ Cert.ReduceOnlyIdeal.sig) → Buf (Elt Ideal) ℓ) (g : Dev Cert.ReduceOnlyIdeal.nD → PrngReg), Pre_ReduceOnlyIdeal m →
    θ_run (Cert.ReduceOnlyIdeal.defs (F := Ideal)) (onTc (τ := Cert.ReduceOnlyIdeal.τ) (Cert.ReduceOnlyIdeal.main (F := Ideal))) ⟨m, fun _ => 0, g⟩ (fun r => (∀ c : Dev Cert.ReduceOnlyIdeal.nD,
      r.2.mem ((c.tc : Thread Cert.ReduceOnlyIdeal.nD Cert.ReduceOnlyIdeal.τ).loc Cert.ReduceOnlyIdeal.main_arg0) = m ((c.tc : Thread Cert.ReduceOnlyIdeal.nD Cert.ReduceOnlyIdeal.τ).loc Cert.ReduceOnlyIdeal.main_arg0))
      ∧ r.2.sem = fun _ => 0)

def quiescent_ReduceOnlyRefIdeal [hReduceOnlyRefIdeal : Cert.ReduceOnlyRefIdeal.Facts] : Prop :=
  ∀ (m : (ℓ : Loc Cert.ReduceOnlyRefIdeal.nD Cert.ReduceOnlyRefIdeal.τ Cert.ReduceOnlyRefIdeal.sig) → Buf (Elt Ideal) ℓ) (g : Dev Cert.ReduceOnlyRefIdeal.nD → PrngReg), Pre_ReduceOnlyRefIdeal m →
    θ_run (Cert.ReduceOnlyRefIdeal.defs (F := Ideal)) (onTc (τ := Cert.ReduceOnlyRefIdeal.τ) (Cert.ReduceOnlyRefIdeal.main (F := Ideal))) ⟨m, fun _ => 0, g⟩ (fun r => (∀ c : Dev Cert.ReduceOnlyRefIdeal.nD,
      r.2.mem ((c.tc : Thread Cert.ReduceOnlyRefIdeal.nD Cert.ReduceOnlyRefIdeal.τ).loc Cert.ReduceOnlyRefIdeal.main_arg0) = m ((c.tc : Thread Cert.ReduceOnlyRefIdeal.nD Cert.ReduceOnlyRefIdeal.τ).loc Cert.ReduceOnlyRefIdeal.main_arg0))
      ∧ r.2.sem = fun _ => 0)

def quiescent_AdamOnly [hAdamOnly : Cert.AdamOnly.Facts] : Prop :=
  ∀ (m : (ℓ : Loc Cert.AdamOnly.nD Cert.AdamOnly.τ Cert.AdamOnly.sig) → Buf (Elt Bits) ℓ) (g : Dev Cert.AdamOnly.nD → PrngReg), Pre_AdamOnly m →
    θ_run (Cert.AdamOnly.defs (F := Bits)) (onTc (τ := Cert.AdamOnly.τ) (Cert.AdamOnly.main (F := Bits))) ⟨m, fun _ => 0, g⟩ (fun r => (∀ c : Dev Cert.AdamOnly.nD,
      r.2.mem ((c.tc : Thread Cert.AdamOnly.nD Cert.AdamOnly.τ).loc Cert.AdamOnly.main_arg0) = m ((c.tc : Thread Cert.AdamOnly.nD Cert.AdamOnly.τ).loc Cert.AdamOnly.main_arg0)
      ∧ r.2.mem ((c.tc : Thread Cert.AdamOnly.nD Cert.AdamOnly.τ).loc Cert.AdamOnly.main_arg1) = m ((c.tc : Thread Cert.AdamOnly.nD Cert.AdamOnly.τ).loc Cert.AdamOnly.main_arg1)
      ∧ r.2.mem ((c.tc : Thread Cert.AdamOnly.nD Cert.AdamOnly.τ).loc Cert.AdamOnly.main_arg2) = m ((c.tc : Thread Cert.AdamOnly.nD Cert.AdamOnly.τ).loc Cert.AdamOnly.main_arg2)
      ∧ r.2.mem ((c.tc : Thread Cert.AdamOnly.nD Cert.AdamOnly.τ).loc Cert.AdamOnly.main_arg3) = m ((c.tc : Thread Cert.AdamOnly.nD Cert.AdamOnly.τ).loc Cert.AdamOnly.main_arg3))
      ∧ r.2.sem = fun _ => 0)

def quiescent_AdamOnlyIdeal [hAdamOnlyIdeal : Cert.AdamOnlyIdeal.Facts] : Prop :=
  ∀ (m : (ℓ : Loc Cert.AdamOnlyIdeal.nD Cert.AdamOnlyIdeal.τ Cert.AdamOnlyIdeal.sig) → Buf (Elt Ideal) ℓ) (g : Dev Cert.AdamOnlyIdeal.nD → PrngReg), Pre_AdamOnlyIdeal m →
    θ_run (Cert.AdamOnlyIdeal.defs (F := Ideal)) (onTc (τ := Cert.AdamOnlyIdeal.τ) (Cert.AdamOnlyIdeal.main (F := Ideal))) ⟨m, fun _ => 0, g⟩ (fun r => (∀ c : Dev Cert.AdamOnlyIdeal.nD,
      r.2.mem ((c.tc : Thread Cert.AdamOnlyIdeal.nD Cert.AdamOnlyIdeal.τ).loc Cert.AdamOnlyIdeal.main_arg0) = m ((c.tc : Thread Cert.AdamOnlyIdeal.nD Cert.AdamOnlyIdeal.τ).loc Cert.AdamOnlyIdeal.main_arg0)
      ∧ r.2.mem ((c.tc : Thread Cert.AdamOnlyIdeal.nD Cert.AdamOnlyIdeal.τ).loc Cert.AdamOnlyIdeal.main_arg1) = m ((c.tc : Thread Cert.AdamOnlyIdeal.nD Cert.AdamOnlyIdeal.τ).loc Cert.AdamOnlyIdeal.main_arg1)
      ∧ r.2.mem ((c.tc : Thread Cert.AdamOnlyIdeal.nD Cert.AdamOnlyIdeal.τ).loc Cert.AdamOnlyIdeal.main_arg2) = m ((c.tc : Thread Cert.AdamOnlyIdeal.nD Cert.AdamOnlyIdeal.τ).loc Cert.AdamOnlyIdeal.main_arg2)
      ∧ r.2.mem ((c.tc : Thread Cert.AdamOnlyIdeal.nD Cert.AdamOnlyIdeal.τ).loc Cert.AdamOnlyIdeal.main_arg3) = m ((c.tc : Thread Cert.AdamOnlyIdeal.nD Cert.AdamOnlyIdeal.τ).loc Cert.AdamOnlyIdeal.main_arg3))
      ∧ r.2.sem = fun _ => 0)

def quiescent_AdamOnlyRefIdeal [hAdamOnlyRefIdeal : Cert.AdamOnlyRefIdeal.Facts] : Prop :=
  ∀ (m : (ℓ : Loc Cert.AdamOnlyRefIdeal.nD Cert.AdamOnlyRefIdeal.τ Cert.AdamOnlyRefIdeal.sig) → Buf (Elt Ideal) ℓ) (g : Dev Cert.AdamOnlyRefIdeal.nD → PrngReg), Pre_AdamOnlyRefIdeal m →
    θ_run (Cert.AdamOnlyRefIdeal.defs (F := Ideal)) (onTc (τ := Cert.AdamOnlyRefIdeal.τ) (Cert.AdamOnlyRefIdeal.main (F := Ideal))) ⟨m, fun _ => 0, g⟩ (fun r => (∀ c : Dev Cert.AdamOnlyRefIdeal.nD,
      r.2.mem ((c.tc : Thread Cert.AdamOnlyRefIdeal.nD Cert.AdamOnlyRefIdeal.τ).loc Cert.AdamOnlyRefIdeal.main_arg0) = m ((c.tc : Thread Cert.AdamOnlyRefIdeal.nD Cert.AdamOnlyRefIdeal.τ).loc Cert.AdamOnlyRefIdeal.main_arg0)
      ∧ r.2.mem ((c.tc : Thread Cert.AdamOnlyRefIdeal.nD Cert.AdamOnlyRefIdeal.τ).loc Cert.AdamOnlyRefIdeal.main_arg1) = m ((c.tc : Thread Cert.AdamOnlyRefIdeal.nD Cert.AdamOnlyRefIdeal.τ).loc Cert.AdamOnlyRefIdeal.main_arg1)
      ∧ r.2.mem ((c.tc : Thread Cert.AdamOnlyRefIdeal.nD Cert.AdamOnlyRefIdeal.τ).loc Cert.AdamOnlyRefIdeal.main_arg2) = m ((c.tc : Thread Cert.AdamOnlyRefIdeal.nD Cert.AdamOnlyRefIdeal.τ).loc Cert.AdamOnlyRefIdeal.main_arg2)
      ∧ r.2.mem ((c.tc : Thread Cert.AdamOnlyRefIdeal.nD Cert.AdamOnlyRefIdeal.τ).loc Cert.AdamOnlyRefIdeal.main_arg3) = m ((c.tc : Thread Cert.AdamOnlyRefIdeal.nD Cert.AdamOnlyRefIdeal.τ).loc Cert.AdamOnlyRefIdeal.main_arg3))
      ∧ r.2.sem = fun _ => 0)

def quiescent_AdamReplicated [hAdamReplicated : Cert.AdamReplicated.Facts] : Prop :=
  ∀ (m : (ℓ : Loc Cert.AdamReplicated.nD Cert.AdamReplicated.τ Cert.AdamReplicated.sig) → Buf (Elt Bits) ℓ) (g : Dev Cert.AdamReplicated.nD → PrngReg), Pre_AdamReplicated m →
    θ_run (Cert.AdamReplicated.defs (F := Bits)) (onTc (τ := Cert.AdamReplicated.τ) (Cert.AdamReplicated.main (F := Bits))) ⟨m, fun _ => 0, g⟩ (fun r => (∀ c : Dev Cert.AdamReplicated.nD,
      r.2.mem ((c.tc : Thread Cert.AdamReplicated.nD Cert.AdamReplicated.τ).loc Cert.AdamReplicated.main_arg0) = m ((c.tc : Thread Cert.AdamReplicated.nD Cert.AdamReplicated.τ).loc Cert.AdamReplicated.main_arg0)
      ∧ r.2.mem ((c.tc : Thread Cert.AdamReplicated.nD Cert.AdamReplicated.τ).loc Cert.AdamReplicated.main_arg1) = m ((c.tc : Thread Cert.AdamReplicated.nD Cert.AdamReplicated.τ).loc Cert.AdamReplicated.main_arg1)
      ∧ r.2.mem ((c.tc : Thread Cert.AdamReplicated.nD Cert.AdamReplicated.τ).loc Cert.AdamReplicated.main_arg2) = m ((c.tc : Thread Cert.AdamReplicated.nD Cert.AdamReplicated.τ).loc Cert.AdamReplicated.main_arg2)
      ∧ r.2.mem ((c.tc : Thread Cert.AdamReplicated.nD Cert.AdamReplicated.τ).loc Cert.AdamReplicated.main_arg3) = m ((c.tc : Thread Cert.AdamReplicated.nD Cert.AdamReplicated.τ).loc Cert.AdamReplicated.main_arg3))
      ∧ r.2.sem = fun _ => 0)

def quiescent_AdamReplicatedIdeal [hAdamReplicatedIdeal : Cert.AdamReplicatedIdeal.Facts] : Prop :=
  ∀ (m : (ℓ : Loc Cert.AdamReplicatedIdeal.nD Cert.AdamReplicatedIdeal.τ Cert.AdamReplicatedIdeal.sig) → Buf (Elt Ideal) ℓ) (g : Dev Cert.AdamReplicatedIdeal.nD → PrngReg), Pre_AdamReplicatedIdeal m →
    θ_run (Cert.AdamReplicatedIdeal.defs (F := Ideal)) (onTc (τ := Cert.AdamReplicatedIdeal.τ) (Cert.AdamReplicatedIdeal.main (F := Ideal))) ⟨m, fun _ => 0, g⟩ (fun r => (∀ c : Dev Cert.AdamReplicatedIdeal.nD,
      r.2.mem ((c.tc : Thread Cert.AdamReplicatedIdeal.nD Cert.AdamReplicatedIdeal.τ).loc Cert.AdamReplicatedIdeal.main_arg0) = m ((c.tc : Thread Cert.AdamReplicatedIdeal.nD Cert.AdamReplicatedIdeal.τ).loc Cert.AdamReplicatedIdeal.main_arg0)
      ∧ r.2.mem ((c.tc : Thread Cert.AdamReplicatedIdeal.nD Cert.AdamReplicatedIdeal.τ).loc Cert.AdamReplicatedIdeal.main_arg1) = m ((c.tc : Thread Cert.AdamReplicatedIdeal.nD Cert.AdamReplicatedIdeal.τ).loc Cert.AdamReplicatedIdeal.main_arg1)
      ∧ r.2.mem ((c.tc : Thread Cert.AdamReplicatedIdeal.nD Cert.AdamReplicatedIdeal.τ).loc Cert.AdamReplicatedIdeal.main_arg2) = m ((c.tc : Thread Cert.AdamReplicatedIdeal.nD Cert.AdamReplicatedIdeal.τ).loc Cert.AdamReplicatedIdeal.main_arg2)
      ∧ r.2.mem ((c.tc : Thread Cert.AdamReplicatedIdeal.nD Cert.AdamReplicatedIdeal.τ).loc Cert.AdamReplicatedIdeal.main_arg3) = m ((c.tc : Thread Cert.AdamReplicatedIdeal.nD Cert.AdamReplicatedIdeal.τ).loc Cert.AdamReplicatedIdeal.main_arg3))
      ∧ r.2.sem = fun _ => 0)

def quiescent_AdamReplicatedRefIdeal [hAdamReplicatedRefIdeal : Cert.AdamReplicatedRefIdeal.Facts] : Prop :=
  ∀ (m : (ℓ : Loc Cert.AdamReplicatedRefIdeal.nD Cert.AdamReplicatedRefIdeal.τ Cert.AdamReplicatedRefIdeal.sig) → Buf (Elt Ideal) ℓ) (g : Dev Cert.AdamReplicatedRefIdeal.nD → PrngReg), Pre_AdamReplicatedRefIdeal m →
    θ_run (Cert.AdamReplicatedRefIdeal.defs (F := Ideal)) (onTc (τ := Cert.AdamReplicatedRefIdeal.τ) (Cert.AdamReplicatedRefIdeal.main (F := Ideal))) ⟨m, fun _ => 0, g⟩ (fun r => (∀ c : Dev Cert.AdamReplicatedRefIdeal.nD,
      r.2.mem ((c.tc : Thread Cert.AdamReplicatedRefIdeal.nD Cert.AdamReplicatedRefIdeal.τ).loc Cert.AdamReplicatedRefIdeal.main_arg0) = m ((c.tc : Thread Cert.AdamReplicatedRefIdeal.nD Cert.AdamReplicatedRefIdeal.τ).loc Cert.AdamReplicatedRefIdeal.main_arg0)
      ∧ r.2.mem ((c.tc : Thread Cert.AdamReplicatedRefIdeal.nD Cert.AdamReplicatedRefIdeal.τ).loc Cert.AdamReplicatedRefIdeal.main_arg1) = m ((c.tc : Thread Cert.AdamReplicatedRefIdeal.nD Cert.AdamReplicatedRefIdeal.τ).loc Cert.AdamReplicatedRefIdeal.main_arg1)
      ∧ r.2.mem ((c.tc : Thread Cert.AdamReplicatedRefIdeal.nD Cert.AdamReplicatedRefIdeal.τ).loc Cert.AdamReplicatedRefIdeal.main_arg2) = m ((c.tc : Thread Cert.AdamReplicatedRefIdeal.nD Cert.AdamReplicatedRefIdeal.τ).loc Cert.AdamReplicatedRefIdeal.main_arg2)
      ∧ r.2.mem ((c.tc : Thread Cert.AdamReplicatedRefIdeal.nD Cert.AdamReplicatedRefIdeal.τ).loc Cert.AdamReplicatedRefIdeal.main_arg3) = m ((c.tc : Thread Cert.AdamReplicatedRefIdeal.nD Cert.AdamReplicatedRefIdeal.τ).loc Cert.AdamReplicatedRefIdeal.main_arg3))
      ∧ r.2.sem = fun _ => 0)

def preserves_SguBwd_SguBwdIdeal : Prop :=
  IdealRules.named_const.Statement Cert.SguBwdIdeal.κ "gelu_c" .f32 0x3D372713#32 ((8943 / 200000 : ℝ) : EReal)
  ∧ IdealRules.named_const.Statement Cert.SguBwdIdeal.κ "gelu_3c" .f32 0x3E095D4F#32 ((26829 / 200000 : ℝ) : EReal)

def algebraic_SguBwdIdeal_SguBwdRefIdeal_pre_sgu_bwd_finite [hSguBwdIdeal : Cert.SguBwdIdeal.Facts] [hSguBwdRefIdeal : Cert.SguBwdRefIdeal.Facts] [hPre_sgu_bwd_finite : Cert.Pre_sgu_bwd_finite.Facts] : Prop :=
  ∀ (m : (ℓ : Loc Cert.SguBwdIdeal.nD Cert.SguBwdIdeal.τ Cert.SguBwdIdeal.sig) → Buf (Elt Ideal) ℓ) (g : Dev Cert.SguBwdIdeal.nD → PrngReg)
    (m' : (ℓ : Loc Cert.SguBwdRefIdeal.nD Cert.SguBwdRefIdeal.τ Cert.SguBwdRefIdeal.sig) → Buf (Elt Ideal) ℓ) (g' : Dev Cert.SguBwdRefIdeal.nD → PrngReg), Pre_SguBwdIdeal_sgu_bwd_finite m →
    (∀ c : Dev Cert.SguBwdIdeal.nD,
      m' ((c.tc : Thread Cert.SguBwdRefIdeal.nD Cert.SguBwdRefIdeal.τ).loc Cert.SguBwdRefIdeal.main_arg0) = m ((c.tc : Thread Cert.SguBwdIdeal.nD Cert.SguBwdIdeal.τ).loc Cert.SguBwdIdeal.main_arg0)
      ∧ m' ((c.tc : Thread Cert.SguBwdRefIdeal.nD Cert.SguBwdRefIdeal.τ).loc Cert.SguBwdRefIdeal.main_arg1) = m ((c.tc : Thread Cert.SguBwdIdeal.nD Cert.SguBwdIdeal.τ).loc Cert.SguBwdIdeal.main_arg1)
      ∧ m' ((c.tc : Thread Cert.SguBwdRefIdeal.nD Cert.SguBwdRefIdeal.τ).loc Cert.SguBwdRefIdeal.main_arg2) = m ((c.tc : Thread Cert.SguBwdIdeal.nD Cert.SguBwdIdeal.τ).loc Cert.SguBwdIdeal.main_arg2)
      ∧ m' ((c.tc : Thread Cert.SguBwdRefIdeal.nD Cert.SguBwdRefIdeal.τ).loc Cert.SguBwdRefIdeal.main_arg3) = m ((c.tc : Thread Cert.SguBwdIdeal.nD Cert.SguBwdIdeal.τ).loc Cert.SguBwdIdeal.main_arg3)
      ∧ m' ((c.tc : Thread Cert.SguBwdRefIdeal.nD Cert.SguBwdRefIdeal.τ).loc Cert.SguBwdRefIdeal.main_arg4) = m ((c.tc : Thread Cert.SguBwdIdeal.nD Cert.SguBwdIdeal.τ).loc Cert.SguBwdIdeal.main_arg4)
      ∧ m' ((c.tc : Thread Cert.SguBwdRefIdeal.nD Cert.SguBwdRefIdeal.τ).loc Cert.SguBwdRefIdeal.main_arg5) = m ((c.tc : Thread Cert.SguBwdIdeal.nD Cert.SguBwdIdeal.τ).loc Cert.SguBwdIdeal.main_arg5)) →
    ∃ (v0 : (c : Dev Cert.SguBwdIdeal.nD) → Buf (Elt Ideal) ((c.tc : Thread Cert.SguBwdIdeal.nD Cert.SguBwdIdeal.τ).loc Cert.SguBwdIdeal.main_v5_0)) (v1 : (c : Dev Cert.SguBwdIdeal.nD) → Buf (Elt Ideal) ((c.tc : Thread Cert.SguBwdIdeal.nD Cert.SguBwdIdeal.τ).loc Cert.SguBwdIdeal.main_v5_1)) (v2 : (c : Dev Cert.SguBwdIdeal.nD) → Buf (Elt Ideal) ((c.tc : Thread Cert.SguBwdIdeal.nD Cert.SguBwdIdeal.τ).loc Cert.SguBwdIdeal.main_v5_2)) (v3 : (c : Dev Cert.SguBwdIdeal.nD) → Buf (Elt Ideal) ((c.tc : Thread Cert.SguBwdIdeal.nD Cert.SguBwdIdeal.τ).loc Cert.SguBwdIdeal.main_v5_3)),
      θ_run (Cert.SguBwdIdeal.defs (F := Ideal)) (onTc (τ := Cert.SguBwdIdeal.τ) (Cert.SguBwdIdeal.main (F := Ideal))) ⟨m, fun _ => 0, g⟩ (fun r => ∀ c : Dev Cert.SguBwdIdeal.nD,
          r.2.mem ((c.tc : Thread Cert.SguBwdIdeal.nD Cert.SguBwdIdeal.τ).loc Cert.SguBwdIdeal.main_v5_0) = v0 c
          ∧ r.2.mem ((c.tc : Thread Cert.SguBwdIdeal.nD Cert.SguBwdIdeal.τ).loc Cert.SguBwdIdeal.main_v5_1) = v1 c
          ∧ r.2.mem ((c.tc : Thread Cert.SguBwdIdeal.nD Cert.SguBwdIdeal.τ).loc Cert.SguBwdIdeal.main_v5_2) = v2 c
          ∧ r.2.mem ((c.tc : Thread Cert.SguBwdIdeal.nD Cert.SguBwdIdeal.τ).loc Cert.SguBwdIdeal.main_v5_3) = v3 c
          ∧ r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
          ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
          ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
          ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
          ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
          ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ θ_run (Cert.SguBwdRefIdeal.defs (F := Ideal)) (onTc (τ := Cert.SguBwdRefIdeal.τ) (Cert.SguBwdRefIdeal.main (F := Ideal))) ⟨m', fun _ => 0, g'⟩ (fun r => ∀ c : Dev Cert.SguBwdRefIdeal.nD,
          r.2.mem ((c.tc : Thread Cert.SguBwdRefIdeal.nD Cert.SguBwdRefIdeal.τ).loc Cert.SguBwdRefIdeal.main_v167) = v0 c
          ∧ r.2.mem ((c.tc : Thread Cert.SguBwdRefIdeal.nD Cert.SguBwdRefIdeal.τ).loc Cert.SguBwdRefIdeal.main_v168) = v1 c
          ∧ r.2.mem ((c.tc : Thread Cert.SguBwdRefIdeal.nD Cert.SguBwdRefIdeal.τ).loc Cert.SguBwdRefIdeal.main_v170) = v2 c
          ∧ r.2.mem ((c.tc : Thread Cert.SguBwdRefIdeal.nD Cert.SguBwdRefIdeal.τ).loc Cert.SguBwdRefIdeal.main_v137) = v3 c
          ∧ r.2.mem ((c.tc : Thread Cert.SguBwdRefIdeal.nD Cert.SguBwdRefIdeal.τ).loc Cert.SguBwdRefIdeal.main_arg0) = m' ((c.tc : Thread Cert.SguBwdRefIdeal.nD Cert.SguBwdRefIdeal.τ).loc Cert.SguBwdRefIdeal.main_arg0)
          ∧ r.2.mem ((c.tc : Thread Cert.SguBwdRefIdeal.nD Cert.SguBwdRefIdeal.τ).loc Cert.SguBwdRefIdeal.main_arg1) = m' ((c.tc : Thread Cert.SguBwdRefIdeal.nD Cert.SguBwdRefIdeal.τ).loc Cert.SguBwdRefIdeal.main_arg1)
          ∧ r.2.mem ((c.tc : Thread Cert.SguBwdRefIdeal.nD Cert.SguBwdRefIdeal.τ).loc Cert.SguBwdRefIdeal.main_arg2) = m' ((c.tc : Thread Cert.SguBwdRefIdeal.nD Cert.SguBwdRefIdeal.τ).loc Cert.SguBwdRefIdeal.main_arg2)
          ∧ r.2.mem ((c.tc : Thread Cert.SguBwdRefIdeal.nD Cert.SguBwdRefIdeal.τ).loc Cert.SguBwdRefIdeal.main_arg3) = m' ((c.tc : Thread Cert.SguBwdRefIdeal.nD Cert.SguBwdRefIdeal.τ).loc Cert.SguBwdRefIdeal.main_arg3)
          ∧ r.2.mem ((c.tc : Thread Cert.SguBwdRefIdeal.nD Cert.SguBwdRefIdeal.τ).loc Cert.SguBwdRefIdeal.main_arg4) = m' ((c.tc : Thread Cert.SguBwdRefIdeal.nD Cert.SguBwdRefIdeal.τ).loc Cert.SguBwdRefIdeal.main_arg4)
          ∧ r.2.mem ((c.tc : Thread Cert.SguBwdRefIdeal.nD Cert.SguBwdRefIdeal.τ).loc Cert.SguBwdRefIdeal.main_arg5) = m' ((c.tc : Thread Cert.SguBwdRefIdeal.nD Cert.SguBwdRefIdeal.τ).loc Cert.SguBwdRefIdeal.main_arg5))

def preserves_PoolBwd_PoolBwdIdeal : Prop :=
  True

def algebraic_PoolBwdIdeal_PoolBwdRefIdeal_pre_pool_bwd_finite [hPoolBwdIdeal : Cert.PoolBwdIdeal.Facts] [hPoolBwdRefIdeal : Cert.PoolBwdRefIdeal.Facts] [hPre_pool_bwd_finite : Cert.Pre_pool_bwd_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal_pool_bwd_finite m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)
      ∧ m' ((c.tc : Thread Cert.PoolBwdRefIdeal.nD Cert.PoolBwdRefIdeal.τ).loc Cert.PoolBwdRefIdeal.main_arg4) = m ((c.tc : Thread Cert.PoolBwdIdeal.nD Cert.PoolBwdIdeal.τ).loc Cert.PoolBwdIdeal.main_arg4)) →
    ∃ (v0 : (c : Dev Cert.PoolBwdIdeal.nD) → Buf (Elt Ideal) ((c.tc : Thread Cert.PoolBwdIdeal.nD Cert.PoolBwdIdeal.τ).loc Cert.PoolBwdIdeal.main_v4_0)) (v1 : (c : Dev Cert.PoolBwdIdeal.nD) → Buf (Elt Ideal) ((c.tc : Thread Cert.PoolBwdIdeal.nD Cert.PoolBwdIdeal.τ).loc Cert.PoolBwdIdeal.main_v4_1)) (v2 : (c : Dev Cert.PoolBwdIdeal.nD) → Buf (Elt Ideal) ((c.tc : Thread Cert.PoolBwdIdeal.nD Cert.PoolBwdIdeal.τ).loc Cert.PoolBwdIdeal.main_v4_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v4_0) = v0 c
          ∧ r.2.mem ((c.tc : Thread Cert.PoolBwdIdeal.nD Cert.PoolBwdIdeal.τ).loc Cert.PoolBwdIdeal.main_v4_1) = v1 c
          ∧ r.2.mem ((c.tc : Thread Cert.PoolBwdIdeal.nD Cert.PoolBwdIdeal.τ).loc Cert.PoolBwdIdeal.main_v4_2) = v2 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
          ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v217) = v0 c
          ∧ r.2.mem ((c.tc : Thread Cert.PoolBwdRefIdeal.nD Cert.PoolBwdRefIdeal.τ).loc Cert.PoolBwdRefIdeal.main_v219) = v1 c
          ∧ r.2.mem ((c.tc : Thread Cert.PoolBwdRefIdeal.nD Cert.PoolBwdRefIdeal.τ).loc Cert.PoolBwdRefIdeal.main_v211) = v2 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3)
          ∧ r.2.mem ((c.tc : Thread Cert.PoolBwdRefIdeal.nD Cert.PoolBwdRefIdeal.τ).loc Cert.PoolBwdRefIdeal.main_arg4) = m' ((c.tc : Thread Cert.PoolBwdRefIdeal.nD Cert.PoolBwdRefIdeal.τ).loc Cert.PoolBwdRefIdeal.main_arg4))

def preserves_MixDy_MixDyIdeal : Prop :=
  True

def algebraic_MixDyIdeal_MixDyRefIdeal_on_mix_dy_written [hMixDyIdeal : Cert.MixDyIdeal.Facts] [hMixDyRefIdeal : Cert.MixDyRefIdeal.Facts] [hOn_mix_dy_written : Cert.On_mix_dy_written.Facts] : Prop :=
  ∀ (m : (ℓ : Loc Cert.MixDyIdeal.nD Cert.MixDyIdeal.τ Cert.MixDyIdeal.sig) → Buf (Elt Ideal) ℓ) (g : Dev Cert.MixDyIdeal.nD → PrngReg)
    (m' : (ℓ : Loc Cert.MixDyRefIdeal.nD Cert.MixDyRefIdeal.τ Cert.MixDyRefIdeal.sig) → Buf (Elt Ideal) ℓ) (g' : Dev Cert.MixDyRefIdeal.nD → PrngReg), Pre_MixDyIdeal m →
    (∀ c : Dev Cert.MixDyIdeal.nD,
      m' ((c.tc : Thread Cert.MixDyRefIdeal.nD Cert.MixDyRefIdeal.τ).loc Cert.MixDyRefIdeal.main_arg0) = m ((c.tc : Thread Cert.MixDyIdeal.nD Cert.MixDyIdeal.τ).loc Cert.MixDyIdeal.main_arg0)
      ∧ m' ((c.tc : Thread Cert.MixDyRefIdeal.nD Cert.MixDyRefIdeal.τ).loc Cert.MixDyRefIdeal.main_arg1) = m ((c.tc : Thread Cert.MixDyIdeal.nD Cert.MixDyIdeal.τ).loc Cert.MixDyIdeal.main_arg1)
      ∧ m' ((c.tc : Thread Cert.MixDyRefIdeal.nD Cert.MixDyRefIdeal.τ).loc Cert.MixDyRefIdeal.main_arg2) = m ((c.tc : Thread Cert.MixDyIdeal.nD Cert.MixDyIdeal.τ).loc Cert.MixDyIdeal.main_arg2)
      ∧ m' ((c.tc : Thread Cert.MixDyRefIdeal.nD Cert.MixDyRefIdeal.τ).loc Cert.MixDyRefIdeal.main_arg3) = m ((c.tc : Thread Cert.MixDyIdeal.nD Cert.MixDyIdeal.τ).loc Cert.MixDyIdeal.main_arg3)
      ∧ m' ((c.tc : Thread Cert.MixDyRefIdeal.nD Cert.MixDyRefIdeal.τ).loc Cert.MixDyRefIdeal.main_arg4) = m ((c.tc : Thread Cert.MixDyIdeal.nD Cert.MixDyIdeal.τ).loc Cert.MixDyIdeal.main_arg4)) →
    ∃ (v0 : (c : Dev Cert.MixDyIdeal.nD) → Buf (Elt Ideal) ((c.tc : Thread Cert.MixDyIdeal.nD Cert.MixDyIdeal.τ).loc Cert.MixDyIdeal.main_v2_0)) (v1 : (c : Dev Cert.MixDyIdeal.nD) → Buf (Elt Ideal) ((c.tc : Thread Cert.MixDyIdeal.nD Cert.MixDyIdeal.τ).loc Cert.MixDyIdeal.main_v2_1)),
      θ_run (Cert.MixDyIdeal.defs (F := Ideal)) (onTc (τ := Cert.MixDyIdeal.τ) (Cert.MixDyIdeal.main (F := Ideal))) ⟨m, fun _ => 0, g⟩ (fun r => ∀ c : Dev Cert.MixDyIdeal.nD,
          (∀ i : (⟨2, ![4096, 2048]⟩ : Shape).Idx, (Cert.On_mix_dy_written.fn (F := Ideal) (m ((c.tc : Thread Cert.MixDyIdeal.nD Cert.MixDyIdeal.τ).loc Cert.MixDyIdeal.main_arg0)) (m ((c.tc : Thread Cert.MixDyIdeal.nD Cert.MixDyIdeal.τ).loc Cert.MixDyIdeal.main_arg1)) (m ((c.tc : Thread Cert.MixDyIdeal.nD Cert.MixDyIdeal.τ).loc Cert.MixDyIdeal.main_arg2)) (m ((c.tc : Thread Cert.MixDyIdeal.nD Cert.MixDyIdeal.τ).loc Cert.MixDyIdeal.main_arg3)) (m ((c.tc : Thread Cert.MixDyIdeal.nD Cert.MixDyIdeal.τ).loc Cert.MixDyIdeal.main_arg4))).1 i = 1#1 → r.2.mem ((c.tc : Thread Cert.MixDyIdeal.nD Cert.MixDyIdeal.τ).loc Cert.MixDyIdeal.main_v2_0) i = v0 c i)
          ∧ (∀ i : (⟨2, ![4096, 5120]⟩ : Shape).Idx, (Cert.On_mix_dy_written.fn (F := Ideal) (m ((c.tc : Thread Cert.MixDyIdeal.nD Cert.MixDyIdeal.τ).loc Cert.MixDyIdeal.main_arg0)) (m ((c.tc : Thread Cert.MixDyIdeal.nD Cert.MixDyIdeal.τ).loc Cert.MixDyIdeal.main_arg1)) (m ((c.tc : Thread Cert.MixDyIdeal.nD Cert.MixDyIdeal.τ).loc Cert.MixDyIdeal.main_arg2)) (m ((c.tc : Thread Cert.MixDyIdeal.nD Cert.MixDyIdeal.τ).loc Cert.MixDyIdeal.main_arg3)) (m ((c.tc : Thread Cert.MixDyIdeal.nD Cert.MixDyIdeal.τ).loc Cert.MixDyIdeal.main_arg4))).2 i = 1#1 → r.2.mem ((c.tc : Thread Cert.MixDyIdeal.nD Cert.MixDyIdeal.τ).loc Cert.MixDyIdeal.main_v2_1) i = v1 c i)
          ∧ r.2.mem ((c.tc : Thread Cert.MixDyIdeal.nD Cert.MixDyIdeal.τ).loc Cert.MixDyIdeal.main_arg0) = m ((c.tc : Thread Cert.MixDyIdeal.nD Cert.MixDyIdeal.τ).loc Cert.MixDyIdeal.main_arg0)
          ∧ r.2.mem ((c.tc : Thread Cert.MixDyIdeal.nD Cert.MixDyIdeal.τ).loc Cert.MixDyIdeal.main_arg1) = m ((c.tc : Thread Cert.MixDyIdeal.nD Cert.MixDyIdeal.τ).loc Cert.MixDyIdeal.main_arg1)
          ∧ r.2.mem ((c.tc : Thread Cert.MixDyIdeal.nD Cert.MixDyIdeal.τ).loc Cert.MixDyIdeal.main_arg2) = m ((c.tc : Thread Cert.MixDyIdeal.nD Cert.MixDyIdeal.τ).loc Cert.MixDyIdeal.main_arg2)
          ∧ r.2.mem ((c.tc : Thread Cert.MixDyIdeal.nD Cert.MixDyIdeal.τ).loc Cert.MixDyIdeal.main_arg3) = m ((c.tc : Thread Cert.MixDyIdeal.nD Cert.MixDyIdeal.τ).loc Cert.MixDyIdeal.main_arg3)
          ∧ r.2.mem ((c.tc : Thread Cert.MixDyIdeal.nD Cert.MixDyIdeal.τ).loc Cert.MixDyIdeal.main_arg4) = m ((c.tc : Thread Cert.MixDyIdeal.nD Cert.MixDyIdeal.τ).loc Cert.MixDyIdeal.main_arg4))
      ∧ θ_run (Cert.MixDyRefIdeal.defs (F := Ideal)) (onTc (τ := Cert.MixDyRefIdeal.τ) (Cert.MixDyRefIdeal.main (F := Ideal))) ⟨m', fun _ => 0, g'⟩ (fun r => ∀ c : Dev Cert.MixDyRefIdeal.nD,
          (∀ i : (⟨2, ![4096, 2048]⟩ : Shape).Idx, (Cert.On_mix_dy_written.fn (F := Ideal) (m ((c.tc : Thread Cert.MixDyIdeal.nD Cert.MixDyIdeal.τ).loc Cert.MixDyIdeal.main_arg0)) (m ((c.tc : Thread Cert.MixDyIdeal.nD Cert.MixDyIdeal.τ).loc Cert.MixDyIdeal.main_arg1)) (m ((c.tc : Thread Cert.MixDyIdeal.nD Cert.MixDyIdeal.τ).loc Cert.MixDyIdeal.main_arg2)) (m ((c.tc : Thread Cert.MixDyIdeal.nD Cert.MixDyIdeal.τ).loc Cert.MixDyIdeal.main_arg3)) (m ((c.tc : Thread Cert.MixDyIdeal.nD Cert.MixDyIdeal.τ).loc Cert.MixDyIdeal.main_arg4))).1 i = 1#1 → r.2.mem ((c.tc : Thread Cert.MixDyRefIdeal.nD Cert.MixDyRefIdeal.τ).loc Cert.MixDyRefIdeal.main_v43) i = v0 c i)
          ∧ (∀ i : (⟨2, ![4096, 5120]⟩ : Shape).Idx, (Cert.On_mix_dy_written.fn (F := Ideal) (m ((c.tc : Thread Cert.MixDyIdeal.nD Cert.MixDyIdeal.τ).loc Cert.MixDyIdeal.main_arg0)) (m ((c.tc : Thread Cert.MixDyIdeal.nD Cert.MixDyIdeal.τ).loc Cert.MixDyIdeal.main_arg1)) (m ((c.tc : Thread Cert.MixDyIdeal.nD Cert.MixDyIdeal.τ).loc Cert.MixDyIdeal.main_arg2)) (m ((c.tc : Thread Cert.MixDyIdeal.nD Cert.MixDyIdeal.τ).loc Cert.MixDyIdeal.main_arg3)) (m ((c.tc : Thread Cert.MixDyIdeal.nD Cert.MixDyIdeal.τ).loc Cert.MixDyIdeal.main_arg4))).2 i = 1#1 → r.2.mem ((c.tc : Thread Cert.MixDyRefIdeal.nD Cert.MixDyRefIdeal.τ).loc Cert.MixDyRefIdeal.main_v44) i = v1 c i)
          ∧ r.2.mem ((c.tc : Thread Cert.MixDyRefIdeal.nD Cert.MixDyRefIdeal.τ).loc Cert.MixDyRefIdeal.main_arg0) = m' ((c.tc : Thread Cert.MixDyRefIdeal.nD Cert.MixDyRefIdeal.τ).loc Cert.MixDyRefIdeal.main_arg0)
          ∧ r.2.mem ((c.tc : Thread Cert.MixDyRefIdeal.nD Cert.MixDyRefIdeal.τ).loc Cert.MixDyRefIdeal.main_arg1) = m' ((c.tc : Thread Cert.MixDyRefIdeal.nD Cert.MixDyRefIdeal.τ).loc Cert.MixDyRefIdeal.main_arg1)
          ∧ r.2.mem ((c.tc : Thread Cert.MixDyRefIdeal.nD Cert.MixDyRefIdeal.τ).loc Cert.MixDyRefIdeal.main_arg2) = m' ((c.tc : Thread Cert.MixDyRefIdeal.nD Cert.MixDyRefIdeal.τ).loc Cert.MixDyRefIdeal.main_arg2)
          ∧ r.2.mem ((c.tc : Thread Cert.MixDyRefIdeal.nD Cert.MixDyRefIdeal.τ).loc Cert.MixDyRefIdeal.main_arg3) = m' ((c.tc : Thread Cert.MixDyRefIdeal.nD Cert.MixDyRefIdeal.τ).loc Cert.MixDyRefIdeal.main_arg3)
          ∧ r.2.mem ((c.tc : Thread Cert.MixDyRefIdeal.nD Cert.MixDyRefIdeal.τ).loc Cert.MixDyRefIdeal.main_arg4) = m' ((c.tc : Thread Cert.MixDyRefIdeal.nD Cert.MixDyRefIdeal.τ).loc Cert.MixDyRefIdeal.main_arg4))

def preserves_PlePostBwd_PlePostBwdIdeal : Prop :=
  True

def algebraic_PlePostBwdIdeal_PlePostBwdRefIdeal_pre_ple_post_bwd_finite [hPlePostBwdIdeal : Cert.PlePostBwdIdeal.Facts] [hPlePostBwdRefIdeal : Cert.PlePostBwdRefIdeal.Facts] [hPre_ple_post_bwd_finite : Cert.Pre_ple_post_bwd_finite.Facts] : Prop :=
  ∀ (m : (ℓ : Loc Cert.PlePostBwdIdeal.nD Cert.PlePostBwdIdeal.τ Cert.PlePostBwdIdeal.sig) → Buf (Elt Ideal) ℓ) (g : Dev Cert.PlePostBwdIdeal.nD → PrngReg)
    (m' : (ℓ : Loc Cert.PlePostBwdRefIdeal.nD Cert.PlePostBwdRefIdeal.τ Cert.PlePostBwdRefIdeal.sig) → Buf (Elt Ideal) ℓ) (g' : Dev Cert.PlePostBwdRefIdeal.nD → PrngReg), Pre_PlePostBwdIdeal_ple_post_bwd_finite m →
    (∀ c : Dev Cert.PlePostBwdIdeal.nD,
      m' ((c.tc : Thread Cert.PlePostBwdRefIdeal.nD Cert.PlePostBwdRefIdeal.τ).loc Cert.PlePostBwdRefIdeal.main_arg0) = m ((c.tc : Thread Cert.PlePostBwdIdeal.nD Cert.PlePostBwdIdeal.τ).loc Cert.PlePostBwdIdeal.main_arg0)
      ∧ m' ((c.tc : Thread Cert.PlePostBwdRefIdeal.nD Cert.PlePostBwdRefIdeal.τ).loc Cert.PlePostBwdRefIdeal.main_arg1) = m ((c.tc : Thread Cert.PlePostBwdIdeal.nD Cert.PlePostBwdIdeal.τ).loc Cert.PlePostBwdIdeal.main_arg1)
      ∧ m' ((c.tc : Thread Cert.PlePostBwdRefIdeal.nD Cert.PlePostBwdRefIdeal.τ).loc Cert.PlePostBwdRefIdeal.main_arg2) = m ((c.tc : Thread Cert.PlePostBwdIdeal.nD Cert.PlePostBwdIdeal.τ).loc Cert.PlePostBwdIdeal.main_arg2)
      ∧ m' ((c.tc : Thread Cert.PlePostBwdRefIdeal.nD Cert.PlePostBwdRefIdeal.τ).loc Cert.PlePostBwdRefIdeal.main_arg3) = m ((c.tc : Thread Cert.PlePostBwdIdeal.nD Cert.PlePostBwdIdeal.τ).loc Cert.PlePostBwdIdeal.main_arg3)) →
    ∃ (v0 : (c : Dev Cert.PlePostBwdIdeal.nD) → Buf (Elt Ideal) ((c.tc : Thread Cert.PlePostBwdIdeal.nD Cert.PlePostBwdIdeal.τ).loc Cert.PlePostBwdIdeal.main_v2_0)) (v1 : (c : Dev Cert.PlePostBwdIdeal.nD) → Buf (Elt Ideal) ((c.tc : Thread Cert.PlePostBwdIdeal.nD Cert.PlePostBwdIdeal.τ).loc Cert.PlePostBwdIdeal.main_v2_1)) (v2 : (c : Dev Cert.PlePostBwdIdeal.nD) → Buf (Elt Ideal) ((c.tc : Thread Cert.PlePostBwdIdeal.nD Cert.PlePostBwdIdeal.τ).loc Cert.PlePostBwdIdeal.main_v2_2)),
      θ_run (Cert.PlePostBwdIdeal.defs (F := Ideal)) (onTc (τ := Cert.PlePostBwdIdeal.τ) (Cert.PlePostBwdIdeal.main (F := Ideal))) ⟨m, fun _ => 0, g⟩ (fun r => ∀ c : Dev Cert.PlePostBwdIdeal.nD,
          r.2.mem ((c.tc : Thread Cert.PlePostBwdIdeal.nD Cert.PlePostBwdIdeal.τ).loc Cert.PlePostBwdIdeal.main_v2_0) = v0 c
          ∧ r.2.mem ((c.tc : Thread Cert.PlePostBwdIdeal.nD Cert.PlePostBwdIdeal.τ).loc Cert.PlePostBwdIdeal.main_v2_1) = v1 c
          ∧ r.2.mem ((c.tc : Thread Cert.PlePostBwdIdeal.nD Cert.PlePostBwdIdeal.τ).loc Cert.PlePostBwdIdeal.main_v2_2) = v2 c
          ∧ r.2.mem ((c.tc : Thread Cert.PlePostBwdIdeal.nD Cert.PlePostBwdIdeal.τ).loc Cert.PlePostBwdIdeal.main_arg0) = m ((c.tc : Thread Cert.PlePostBwdIdeal.nD Cert.PlePostBwdIdeal.τ).loc Cert.PlePostBwdIdeal.main_arg0)
          ∧ r.2.mem ((c.tc : Thread Cert.PlePostBwdIdeal.nD Cert.PlePostBwdIdeal.τ).loc Cert.PlePostBwdIdeal.main_arg1) = m ((c.tc : Thread Cert.PlePostBwdIdeal.nD Cert.PlePostBwdIdeal.τ).loc Cert.PlePostBwdIdeal.main_arg1)
          ∧ r.2.mem ((c.tc : Thread Cert.PlePostBwdIdeal.nD Cert.PlePostBwdIdeal.τ).loc Cert.PlePostBwdIdeal.main_arg2) = m ((c.tc : Thread Cert.PlePostBwdIdeal.nD Cert.PlePostBwdIdeal.τ).loc Cert.PlePostBwdIdeal.main_arg2)
          ∧ r.2.mem ((c.tc : Thread Cert.PlePostBwdIdeal.nD Cert.PlePostBwdIdeal.τ).loc Cert.PlePostBwdIdeal.main_arg3) = m ((c.tc : Thread Cert.PlePostBwdIdeal.nD Cert.PlePostBwdIdeal.τ).loc Cert.PlePostBwdIdeal.main_arg3))
      ∧ θ_run (Cert.PlePostBwdRefIdeal.defs (F := Ideal)) (onTc (τ := Cert.PlePostBwdRefIdeal.τ) (Cert.PlePostBwdRefIdeal.main (F := Ideal))) ⟨m', fun _ => 0, g'⟩ (fun r => ∀ c : Dev Cert.PlePostBwdRefIdeal.nD,
          r.2.mem ((c.tc : Thread Cert.PlePostBwdRefIdeal.nD Cert.PlePostBwdRefIdeal.τ).loc Cert.PlePostBwdRefIdeal.main_v51) = v0 c
          ∧ r.2.mem ((c.tc : Thread Cert.PlePostBwdRefIdeal.nD Cert.PlePostBwdRefIdeal.τ).loc Cert.PlePostBwdRefIdeal.main_v52) = v1 c
          ∧ r.2.mem ((c.tc : Thread Cert.PlePostBwdRefIdeal.nD Cert.PlePostBwdRefIdeal.τ).loc Cert.PlePostBwdRefIdeal.main_v47) = v2 c
          ∧ r.2.mem ((c.tc : Thread Cert.PlePostBwdRefIdeal.nD Cert.PlePostBwdRefIdeal.τ).loc Cert.PlePostBwdRefIdeal.main_arg0) = m' ((c.tc : Thread Cert.PlePostBwdRefIdeal.nD Cert.PlePostBwdRefIdeal.τ).loc Cert.PlePostBwdRefIdeal.main_arg0)
          ∧ r.2.mem ((c.tc : Thread Cert.PlePostBwdRefIdeal.nD Cert.PlePostBwdRefIdeal.τ).loc Cert.PlePostBwdRefIdeal.main_arg1) = m' ((c.tc : Thread Cert.PlePostBwdRefIdeal.nD Cert.PlePostBwdRefIdeal.τ).loc Cert.PlePostBwdRefIdeal.main_arg1)
          ∧ r.2.mem ((c.tc : Thread Cert.PlePostBwdRefIdeal.nD Cert.PlePostBwdRefIdeal.τ).loc Cert.PlePostBwdRefIdeal.main_arg2) = m' ((c.tc : Thread Cert.PlePostBwdRefIdeal.nD Cert.PlePostBwdRefIdeal.τ).loc Cert.PlePostBwdRefIdeal.main_arg2)
          ∧ r.2.mem ((c.tc : Thread Cert.PlePostBwdRefIdeal.nD Cert.PlePostBwdRefIdeal.τ).loc Cert.PlePostBwdRefIdeal.main_arg3) = m' ((c.tc : Thread Cert.PlePostBwdRefIdeal.nD Cert.PlePostBwdRefIdeal.τ).loc Cert.PlePostBwdRefIdeal.main_arg3))

def preserves_FfnDhid_FfnDhidIdeal : Prop :=
  True

def algebraic_FfnDhidIdeal_FfnDhidRefIdeal_pre_ffn_dhid_finite [hFfnDhidIdeal : Cert.FfnDhidIdeal.Facts] [hFfnDhidRefIdeal : Cert.FfnDhidRefIdeal.Facts] [hPre_ffn_dhid_finite : Cert.Pre_ffn_dhid_finite.Facts] : Prop :=
  ∀ (m : (ℓ : Loc Cert.FfnDhidIdeal.nD Cert.FfnDhidIdeal.τ Cert.FfnDhidIdeal.sig) → Buf (Elt Ideal) ℓ) (g : Dev Cert.FfnDhidIdeal.nD → PrngReg)
    (m' : (ℓ : Loc Cert.FfnDhidRefIdeal.nD Cert.FfnDhidRefIdeal.τ Cert.FfnDhidRefIdeal.sig) → Buf (Elt Ideal) ℓ) (g' : Dev Cert.FfnDhidRefIdeal.nD → PrngReg), Pre_FfnDhidIdeal_ffn_dhid_finite m →
    (∀ c : Dev Cert.FfnDhidIdeal.nD,
      m' ((c.tc : Thread Cert.FfnDhidRefIdeal.nD Cert.FfnDhidRefIdeal.τ).loc Cert.FfnDhidRefIdeal.main_arg0) = m ((c.tc : Thread Cert.FfnDhidIdeal.nD Cert.FfnDhidIdeal.τ).loc Cert.FfnDhidIdeal.main_arg0)
      ∧ m' ((c.tc : Thread Cert.FfnDhidRefIdeal.nD Cert.FfnDhidRefIdeal.τ).loc Cert.FfnDhidRefIdeal.main_arg1) = m ((c.tc : Thread Cert.FfnDhidIdeal.nD Cert.FfnDhidIdeal.τ).loc Cert.FfnDhidIdeal.main_arg1)
      ∧ m' ((c.tc : Thread Cert.FfnDhidRefIdeal.nD Cert.FfnDhidRefIdeal.τ).loc Cert.FfnDhidRefIdeal.main_arg2) = m ((c.tc : Thread Cert.FfnDhidIdeal.nD Cert.FfnDhidIdeal.τ).loc Cert.FfnDhidIdeal.main_arg2)
      ∧ m' ((c.tc : Thread Cert.FfnDhidRefIdeal.nD Cert.FfnDhidRefIdeal.τ).loc Cert.FfnDhidRefIdeal.main_arg3) = m ((c.tc : Thread Cert.FfnDhidIdeal.nD Cert.FfnDhidIdeal.τ).loc Cert.FfnDhidIdeal.main_arg3)) →
    ∃ (v0 : (c : Dev Cert.FfnDhidIdeal.nD) → Buf (Elt Ideal) ((c.tc : Thread Cert.FfnDhidIdeal.nD Cert.FfnDhidIdeal.τ).loc Cert.FfnDhidIdeal.main_v2_0)) (v1 : (c : Dev Cert.FfnDhidIdeal.nD) → Buf (Elt Ideal) ((c.tc : Thread Cert.FfnDhidIdeal.nD Cert.FfnDhidIdeal.τ).loc Cert.FfnDhidIdeal.main_v2_1)),
      θ_run (Cert.FfnDhidIdeal.defs (F := Ideal)) (onTc (τ := Cert.FfnDhidIdeal.τ) (Cert.FfnDhidIdeal.main (F := Ideal))) ⟨m, fun _ => 0, g⟩ (fun r => ∀ c : Dev Cert.FfnDhidIdeal.nD,
          r.2.mem ((c.tc : Thread Cert.FfnDhidIdeal.nD Cert.FfnDhidIdeal.τ).loc Cert.FfnDhidIdeal.main_v2_0) = v0 c
          ∧ r.2.mem ((c.tc : Thread Cert.FfnDhidIdeal.nD Cert.FfnDhidIdeal.τ).loc Cert.FfnDhidIdeal.main_v2_1) = v1 c
          ∧ r.2.mem ((c.tc : Thread Cert.FfnDhidIdeal.nD Cert.FfnDhidIdeal.τ).loc Cert.FfnDhidIdeal.main_arg0) = m ((c.tc : Thread Cert.FfnDhidIdeal.nD Cert.FfnDhidIdeal.τ).loc Cert.FfnDhidIdeal.main_arg0)
          ∧ r.2.mem ((c.tc : Thread Cert.FfnDhidIdeal.nD Cert.FfnDhidIdeal.τ).loc Cert.FfnDhidIdeal.main_arg1) = m ((c.tc : Thread Cert.FfnDhidIdeal.nD Cert.FfnDhidIdeal.τ).loc Cert.FfnDhidIdeal.main_arg1)
          ∧ r.2.mem ((c.tc : Thread Cert.FfnDhidIdeal.nD Cert.FfnDhidIdeal.τ).loc Cert.FfnDhidIdeal.main_arg2) = m ((c.tc : Thread Cert.FfnDhidIdeal.nD Cert.FfnDhidIdeal.τ).loc Cert.FfnDhidIdeal.main_arg2)
          ∧ r.2.mem ((c.tc : Thread Cert.FfnDhidIdeal.nD Cert.FfnDhidIdeal.τ).loc Cert.FfnDhidIdeal.main_arg3) = m ((c.tc : Thread Cert.FfnDhidIdeal.nD Cert.FfnDhidIdeal.τ).loc Cert.FfnDhidIdeal.main_arg3))
      ∧ θ_run (Cert.FfnDhidRefIdeal.defs (F := Ideal)) (onTc (τ := Cert.FfnDhidRefIdeal.τ) (Cert.FfnDhidRefIdeal.main (F := Ideal))) ⟨m', fun _ => 0, g'⟩ (fun r => ∀ c : Dev Cert.FfnDhidRefIdeal.nD,
          r.2.mem ((c.tc : Thread Cert.FfnDhidRefIdeal.nD Cert.FfnDhidRefIdeal.τ).loc Cert.FfnDhidRefIdeal.main_v14) = v0 c
          ∧ r.2.mem ((c.tc : Thread Cert.FfnDhidRefIdeal.nD Cert.FfnDhidRefIdeal.τ).loc Cert.FfnDhidRefIdeal.main_v15) = v1 c
          ∧ r.2.mem ((c.tc : Thread Cert.FfnDhidRefIdeal.nD Cert.FfnDhidRefIdeal.τ).loc Cert.FfnDhidRefIdeal.main_arg0) = m' ((c.tc : Thread Cert.FfnDhidRefIdeal.nD Cert.FfnDhidRefIdeal.τ).loc Cert.FfnDhidRefIdeal.main_arg0)
          ∧ r.2.mem ((c.tc : Thread Cert.FfnDhidRefIdeal.nD Cert.FfnDhidRefIdeal.τ).loc Cert.FfnDhidRefIdeal.main_arg1) = m' ((c.tc : Thread Cert.FfnDhidRefIdeal.nD Cert.FfnDhidRefIdeal.τ).loc Cert.FfnDhidRefIdeal.main_arg1)
          ∧ r.2.mem ((c.tc : Thread Cert.FfnDhidRefIdeal.nD Cert.FfnDhidRefIdeal.τ).loc Cert.FfnDhidRefIdeal.main_arg2) = m' ((c.tc : Thread Cert.FfnDhidRefIdeal.nD Cert.FfnDhidRefIdeal.τ).loc Cert.FfnDhidRefIdeal.main_arg2)
          ∧ r.2.mem ((c.tc : Thread Cert.FfnDhidRefIdeal.nD Cert.FfnDhidRefIdeal.τ).loc Cert.FfnDhidRefIdeal.main_arg3) = m' ((c.tc : Thread Cert.FfnDhidRefIdeal.nD Cert.FfnDhidRefIdeal.τ).loc Cert.FfnDhidRefIdeal.main_arg3))

def preserves_PleDx_PleDxIdeal : Prop :=
  True

def algebraic_PleDxIdeal_PleDxRefIdeal_pre_ple_dx_finite [hPleDxIdeal : Cert.PleDxIdeal.Facts] [hPleDxRefIdeal : Cert.PleDxRefIdeal.Facts] [hPre_ple_dx_finite : Cert.Pre_ple_dx_finite.Facts] : Prop :=
  ∀ (m : (ℓ : Loc Cert.PleDxIdeal.nD Cert.PleDxIdeal.τ Cert.PleDxIdeal.sig) → Buf (Elt Ideal) ℓ) (g : Dev Cert.PleDxIdeal.nD → PrngReg)
    (m' : (ℓ : Loc Cert.PleDxRefIdeal.nD Cert.PleDxRefIdeal.τ Cert.PleDxRefIdeal.sig) → Buf (Elt Ideal) ℓ) (g' : Dev Cert.PleDxRefIdeal.nD → PrngReg), Pre_PleDxIdeal_ple_dx_finite m →
    (∀ c : Dev Cert.PleDxIdeal.nD,
      m' ((c.tc : Thread Cert.PleDxRefIdeal.nD Cert.PleDxRefIdeal.τ).loc Cert.PleDxRefIdeal.main_arg0) = m ((c.tc : Thread Cert.PleDxIdeal.nD Cert.PleDxIdeal.τ).loc Cert.PleDxIdeal.main_arg0)
      ∧ m' ((c.tc : Thread Cert.PleDxRefIdeal.nD Cert.PleDxRefIdeal.τ).loc Cert.PleDxRefIdeal.main_arg1) = m ((c.tc : Thread Cert.PleDxIdeal.nD Cert.PleDxIdeal.τ).loc Cert.PleDxIdeal.main_arg1)
      ∧ m' ((c.tc : Thread Cert.PleDxRefIdeal.nD Cert.PleDxRefIdeal.τ).loc Cert.PleDxRefIdeal.main_arg2) = m ((c.tc : Thread Cert.PleDxIdeal.nD Cert.PleDxIdeal.τ).loc Cert.PleDxIdeal.main_arg2)
      ∧ m' ((c.tc : Thread Cert.PleDxRefIdeal.nD Cert.PleDxRefIdeal.τ).loc Cert.PleDxRefIdeal.main_arg3) = m ((c.tc : Thread Cert.PleDxIdeal.nD Cert.PleDxIdeal.τ).loc Cert.PleDxIdeal.main_arg3)
      ∧ m' ((c.tc : Thread Cert.PleDxRefIdeal.nD Cert.PleDxRefIdeal.τ).loc Cert.PleDxRefIdeal.main_arg4) = m ((c.tc : Thread Cert.PleDxIdeal.nD Cert.PleDxIdeal.τ).loc Cert.PleDxIdeal.main_arg4)
      ∧ m' ((c.tc : Thread Cert.PleDxRefIdeal.nD Cert.PleDxRefIdeal.τ).loc Cert.PleDxRefIdeal.main_arg5) = m ((c.tc : Thread Cert.PleDxIdeal.nD Cert.PleDxIdeal.τ).loc Cert.PleDxIdeal.main_arg5)
      ∧ m' ((c.tc : Thread Cert.PleDxRefIdeal.nD Cert.PleDxRefIdeal.τ).loc Cert.PleDxRefIdeal.main_arg6) = m ((c.tc : Thread Cert.PleDxIdeal.nD Cert.PleDxIdeal.τ).loc Cert.PleDxIdeal.main_arg6)) →
    ∃ (v0 : (c : Dev Cert.PleDxIdeal.nD) → Buf (Elt Ideal) ((c.tc : Thread Cert.PleDxIdeal.nD Cert.PleDxIdeal.τ).loc Cert.PleDxIdeal.main_v23_0)) (v1 : (c : Dev Cert.PleDxIdeal.nD) → Buf (Elt Ideal) ((c.tc : Thread Cert.PleDxIdeal.nD Cert.PleDxIdeal.τ).loc Cert.PleDxIdeal.main_v23_1)) (v2 : (c : Dev Cert.PleDxIdeal.nD) → Buf (Elt Ideal) ((c.tc : Thread Cert.PleDxIdeal.nD Cert.PleDxIdeal.τ).loc Cert.PleDxIdeal.main_v23_2)) (v3 : (c : Dev Cert.PleDxIdeal.nD) → Buf (Elt Ideal) ((c.tc : Thread Cert.PleDxIdeal.nD Cert.PleDxIdeal.τ).loc Cert.PleDxIdeal.main_v23_3)),
      θ_run (Cert.PleDxIdeal.defs (F := Ideal)) (onTc (τ := Cert.PleDxIdeal.τ) (Cert.PleDxIdeal.main (F := Ideal))) ⟨m, fun _ => 0, g⟩ (fun r => ∀ c : Dev Cert.PleDxIdeal.nD,
          r.2.mem ((c.tc : Thread Cert.PleDxIdeal.nD Cert.PleDxIdeal.τ).loc Cert.PleDxIdeal.main_v23_0) = v0 c
          ∧ r.2.mem ((c.tc : Thread Cert.PleDxIdeal.nD Cert.PleDxIdeal.τ).loc Cert.PleDxIdeal.main_v23_1) = v1 c
          ∧ r.2.mem ((c.tc : Thread Cert.PleDxIdeal.nD Cert.PleDxIdeal.τ).loc Cert.PleDxIdeal.main_v23_2) = v2 c
          ∧ r.2.mem ((c.tc : Thread Cert.PleDxIdeal.nD Cert.PleDxIdeal.τ).loc Cert.PleDxIdeal.main_v23_3) = v3 c
          ∧ r.2.mem ((c.tc : Thread Cert.PleDxIdeal.nD Cert.PleDxIdeal.τ).loc Cert.PleDxIdeal.main_arg0) = m ((c.tc : Thread Cert.PleDxIdeal.nD Cert.PleDxIdeal.τ).loc Cert.PleDxIdeal.main_arg0)
          ∧ r.2.mem ((c.tc : Thread Cert.PleDxIdeal.nD Cert.PleDxIdeal.τ).loc Cert.PleDxIdeal.main_arg1) = m ((c.tc : Thread Cert.PleDxIdeal.nD Cert.PleDxIdeal.τ).loc Cert.PleDxIdeal.main_arg1)
          ∧ r.2.mem ((c.tc : Thread Cert.PleDxIdeal.nD Cert.PleDxIdeal.τ).loc Cert.PleDxIdeal.main_arg2) = m ((c.tc : Thread Cert.PleDxIdeal.nD Cert.PleDxIdeal.τ).loc Cert.PleDxIdeal.main_arg2)
          ∧ r.2.mem ((c.tc : Thread Cert.PleDxIdeal.nD Cert.PleDxIdeal.τ).loc Cert.PleDxIdeal.main_arg3) = m ((c.tc : Thread Cert.PleDxIdeal.nD Cert.PleDxIdeal.τ).loc Cert.PleDxIdeal.main_arg3)
          ∧ r.2.mem ((c.tc : Thread Cert.PleDxIdeal.nD Cert.PleDxIdeal.τ).loc Cert.PleDxIdeal.main_arg4) = m ((c.tc : Thread Cert.PleDxIdeal.nD Cert.PleDxIdeal.τ).loc Cert.PleDxIdeal.main_arg4)
          ∧ r.2.mem ((c.tc : Thread Cert.PleDxIdeal.nD Cert.PleDxIdeal.τ).loc Cert.PleDxIdeal.main_arg5) = m ((c.tc : Thread Cert.PleDxIdeal.nD Cert.PleDxIdeal.τ).loc Cert.PleDxIdeal.main_arg5)
          ∧ r.2.mem ((c.tc : Thread Cert.PleDxIdeal.nD Cert.PleDxIdeal.τ).loc Cert.PleDxIdeal.main_arg6) = m ((c.tc : Thread Cert.PleDxIdeal.nD Cert.PleDxIdeal.τ).loc Cert.PleDxIdeal.main_arg6))
      ∧ θ_run (Cert.PleDxRefIdeal.defs (F := Ideal)) (onTc (τ := Cert.PleDxRefIdeal.τ) (Cert.PleDxRefIdeal.main (F := Ideal))) ⟨m', fun _ => 0, g'⟩ (fun r => ∀ c : Dev Cert.PleDxRefIdeal.nD,
          r.2.mem ((c.tc : Thread Cert.PleDxRefIdeal.nD Cert.PleDxRefIdeal.τ).loc Cert.PleDxRefIdeal.main_v61) = v0 c
          ∧ r.2.mem ((c.tc : Thread Cert.PleDxRefIdeal.nD Cert.PleDxRefIdeal.τ).loc Cert.PleDxRefIdeal.main_v62) = v1 c
          ∧ r.2.mem ((c.tc : Thread Cert.PleDxRefIdeal.nD Cert.PleDxRefIdeal.τ).loc Cert.PleDxRefIdeal.main_v87) = v2 c
          ∧ r.2.mem ((c.tc : Thread Cert.PleDxRefIdeal.nD Cert.PleDxRefIdeal.τ).loc Cert.PleDxRefIdeal.main_v86) = v3 c
          ∧ r.2.mem ((c.tc : Thread Cert.PleDxRefIdeal.nD Cert.PleDxRefIdeal.τ).loc Cert.PleDxRefIdeal.main_arg0) = m' ((c.tc : Thread Cert.PleDxRefIdeal.nD Cert.PleDxRefIdeal.τ).loc Cert.PleDxRefIdeal.main_arg0)
          ∧ r.2.mem ((c.tc : Thread Cert.PleDxRefIdeal.nD Cert.PleDxRefIdeal.τ).loc Cert.PleDxRefIdeal.main_arg1) = m' ((c.tc : Thread Cert.PleDxRefIdeal.nD Cert.PleDxRefIdeal.τ).loc Cert.PleDxRefIdeal.main_arg1)
          ∧ r.2.mem ((c.tc : Thread Cert.PleDxRefIdeal.nD Cert.PleDxRefIdeal.τ).loc Cert.PleDxRefIdeal.main_arg2) = m' ((c.tc : Thread Cert.PleDxRefIdeal.nD Cert.PleDxRefIdeal.τ).loc Cert.PleDxRefIdeal.main_arg2)
          ∧ r.2.mem ((c.tc : Thread Cert.PleDxRefIdeal.nD Cert.PleDxRefIdeal.τ).loc Cert.PleDxRefIdeal.main_arg3) = m' ((c.tc : Thread Cert.PleDxRefIdeal.nD Cert.PleDxRefIdeal.τ).loc Cert.PleDxRefIdeal.main_arg3)
          ∧ r.2.mem ((c.tc : Thread Cert.PleDxRefIdeal.nD Cert.PleDxRefIdeal.τ).loc Cert.PleDxRefIdeal.main_arg4) = m' ((c.tc : Thread Cert.PleDxRefIdeal.nD Cert.PleDxRefIdeal.τ).loc Cert.PleDxRefIdeal.main_arg4)
          ∧ r.2.mem ((c.tc : Thread Cert.PleDxRefIdeal.nD Cert.PleDxRefIdeal.τ).loc Cert.PleDxRefIdeal.main_arg5) = m' ((c.tc : Thread Cert.PleDxRefIdeal.nD Cert.PleDxRefIdeal.τ).loc Cert.PleDxRefIdeal.main_arg5)
          ∧ r.2.mem ((c.tc : Thread Cert.PleDxRefIdeal.nD Cert.PleDxRefIdeal.τ).loc Cert.PleDxRefIdeal.main_arg6) = m' ((c.tc : Thread Cert.PleDxRefIdeal.nD Cert.PleDxRefIdeal.τ).loc Cert.PleDxRefIdeal.main_arg6))

def preserves_Ffn2Dx_Ffn2DxIdeal : Prop :=
  True

def algebraic_Ffn2DxIdeal_Ffn2DxRefIdeal_pre_ffn2_dx_finite [hFfn2DxIdeal : Cert.Ffn2DxIdeal.Facts] [hFfn2DxRefIdeal : Cert.Ffn2DxRefIdeal.Facts] [hPre_ffn2_dx_finite : Cert.Pre_ffn2_dx_finite.Facts] : Prop :=
  ∀ (m : (ℓ : Loc Cert.Ffn2DxIdeal.nD Cert.Ffn2DxIdeal.τ Cert.Ffn2DxIdeal.sig) → Buf (Elt Ideal) ℓ) (g : Dev Cert.Ffn2DxIdeal.nD → PrngReg)
    (m' : (ℓ : Loc Cert.Ffn2DxRefIdeal.nD Cert.Ffn2DxRefIdeal.τ Cert.Ffn2DxRefIdeal.sig) → Buf (Elt Ideal) ℓ) (g' : Dev Cert.Ffn2DxRefIdeal.nD → PrngReg), Pre_Ffn2DxIdeal_ffn2_dx_finite m →
    (∀ c : Dev Cert.Ffn2DxIdeal.nD,
      m' ((c.tc : Thread Cert.Ffn2DxRefIdeal.nD Cert.Ffn2DxRefIdeal.τ).loc Cert.Ffn2DxRefIdeal.main_arg0) = m ((c.tc : Thread Cert.Ffn2DxIdeal.nD Cert.Ffn2DxIdeal.τ).loc Cert.Ffn2DxIdeal.main_arg0)
      ∧ m' ((c.tc : Thread Cert.Ffn2DxRefIdeal.nD Cert.Ffn2DxRefIdeal.τ).loc Cert.Ffn2DxRefIdeal.main_arg1) = m ((c.tc : Thread Cert.Ffn2DxIdeal.nD Cert.Ffn2DxIdeal.τ).loc Cert.Ffn2DxIdeal.main_arg1)
      ∧ m' ((c.tc : Thread Cert.Ffn2DxRefIdeal.nD Cert.Ffn2DxRefIdeal.τ).loc Cert.Ffn2DxRefIdeal.main_arg2) = m ((c.tc : Thread Cert.Ffn2DxIdeal.nD Cert.Ffn2DxIdeal.τ).loc Cert.Ffn2DxIdeal.main_arg2)
      ∧ m' ((c.tc : Thread Cert.Ffn2DxRefIdeal.nD Cert.Ffn2DxRefIdeal.τ).loc Cert.Ffn2DxRefIdeal.main_arg3) = m ((c.tc : Thread Cert.Ffn2DxIdeal.nD Cert.Ffn2DxIdeal.τ).loc Cert.Ffn2DxIdeal.main_arg3)
      ∧ m' ((c.tc : Thread Cert.Ffn2DxRefIdeal.nD Cert.Ffn2DxRefIdeal.τ).loc Cert.Ffn2DxRefIdeal.main_arg4) = m ((c.tc : Thread Cert.Ffn2DxIdeal.nD Cert.Ffn2DxIdeal.τ).loc Cert.Ffn2DxIdeal.main_arg4)
      ∧ m' ((c.tc : Thread Cert.Ffn2DxRefIdeal.nD Cert.Ffn2DxRefIdeal.τ).loc Cert.Ffn2DxRefIdeal.main_arg5) = m ((c.tc : Thread Cert.Ffn2DxIdeal.nD Cert.Ffn2DxIdeal.τ).loc Cert.Ffn2DxIdeal.main_arg5)
      ∧ m' ((c.tc : Thread Cert.Ffn2DxRefIdeal.nD Cert.Ffn2DxRefIdeal.τ).loc Cert.Ffn2DxRefIdeal.main_arg6) = m ((c.tc : Thread Cert.Ffn2DxIdeal.nD Cert.Ffn2DxIdeal.τ).loc Cert.Ffn2DxIdeal.main_arg6)
      ∧ m' ((c.tc : Thread Cert.Ffn2DxRefIdeal.nD Cert.Ffn2DxRefIdeal.τ).loc Cert.Ffn2DxRefIdeal.main_arg7) = m ((c.tc : Thread Cert.Ffn2DxIdeal.nD Cert.Ffn2DxIdeal.τ).loc Cert.Ffn2DxIdeal.main_arg7)
      ∧ m' ((c.tc : Thread Cert.Ffn2DxRefIdeal.nD Cert.Ffn2DxRefIdeal.τ).loc Cert.Ffn2DxRefIdeal.main_arg8) = m ((c.tc : Thread Cert.Ffn2DxIdeal.nD Cert.Ffn2DxIdeal.τ).loc Cert.Ffn2DxIdeal.main_arg8)) →
    ∃ (v0 : (c : Dev Cert.Ffn2DxIdeal.nD) → Buf (Elt Ideal) ((c.tc : Thread Cert.Ffn2DxIdeal.nD Cert.Ffn2DxIdeal.τ).loc Cert.Ffn2DxIdeal.main_v25_0)) (v1 : (c : Dev Cert.Ffn2DxIdeal.nD) → Buf (Elt Ideal) ((c.tc : Thread Cert.Ffn2DxIdeal.nD Cert.Ffn2DxIdeal.τ).loc Cert.Ffn2DxIdeal.main_v25_1)) (v2 : (c : Dev Cert.Ffn2DxIdeal.nD) → Buf (Elt Ideal) ((c.tc : Thread Cert.Ffn2DxIdeal.nD Cert.Ffn2DxIdeal.τ).loc Cert.Ffn2DxIdeal.main_v25_2)) (v3 : (c : Dev Cert.Ffn2DxIdeal.nD) → Buf (Elt Ideal) ((c.tc : Thread Cert.Ffn2DxIdeal.nD Cert.Ffn2DxIdeal.τ).loc Cert.Ffn2DxIdeal.main_v25_3)),
      θ_run (Cert.Ffn2DxIdeal.defs (F := Ideal)) (onTc (τ := Cert.Ffn2DxIdeal.τ) (Cert.Ffn2DxIdeal.main (F := Ideal))) ⟨m, fun _ => 0, g⟩ (fun r => ∀ c : Dev Cert.Ffn2DxIdeal.nD,
          r.2.mem ((c.tc : Thread Cert.Ffn2DxIdeal.nD Cert.Ffn2DxIdeal.τ).loc Cert.Ffn2DxIdeal.main_v25_0) = v0 c
          ∧ r.2.mem ((c.tc : Thread Cert.Ffn2DxIdeal.nD Cert.Ffn2DxIdeal.τ).loc Cert.Ffn2DxIdeal.main_v25_1) = v1 c
          ∧ r.2.mem ((c.tc : Thread Cert.Ffn2DxIdeal.nD Cert.Ffn2DxIdeal.τ).loc Cert.Ffn2DxIdeal.main_v25_2) = v2 c
          ∧ r.2.mem ((c.tc : Thread Cert.Ffn2DxIdeal.nD Cert.Ffn2DxIdeal.τ).loc Cert.Ffn2DxIdeal.main_v25_3) = v3 c
          ∧ r.2.mem ((c.tc : Thread Cert.Ffn2DxIdeal.nD Cert.Ffn2DxIdeal.τ).loc Cert.Ffn2DxIdeal.main_arg0) = m ((c.tc : Thread Cert.Ffn2DxIdeal.nD Cert.Ffn2DxIdeal.τ).loc Cert.Ffn2DxIdeal.main_arg0)
          ∧ r.2.mem ((c.tc : Thread Cert.Ffn2DxIdeal.nD Cert.Ffn2DxIdeal.τ).loc Cert.Ffn2DxIdeal.main_arg1) = m ((c.tc : Thread Cert.Ffn2DxIdeal.nD Cert.Ffn2DxIdeal.τ).loc Cert.Ffn2DxIdeal.main_arg1)
          ∧ r.2.mem ((c.tc : Thread Cert.Ffn2DxIdeal.nD Cert.Ffn2DxIdeal.τ).loc Cert.Ffn2DxIdeal.main_arg2) = m ((c.tc : Thread Cert.Ffn2DxIdeal.nD Cert.Ffn2DxIdeal.τ).loc Cert.Ffn2DxIdeal.main_arg2)
          ∧ r.2.mem ((c.tc : Thread Cert.Ffn2DxIdeal.nD Cert.Ffn2DxIdeal.τ).loc Cert.Ffn2DxIdeal.main_arg3) = m ((c.tc : Thread Cert.Ffn2DxIdeal.nD Cert.Ffn2DxIdeal.τ).loc Cert.Ffn2DxIdeal.main_arg3)
          ∧ r.2.mem ((c.tc : Thread Cert.Ffn2DxIdeal.nD Cert.Ffn2DxIdeal.τ).loc Cert.Ffn2DxIdeal.main_arg4) = m ((c.tc : Thread Cert.Ffn2DxIdeal.nD Cert.Ffn2DxIdeal.τ).loc Cert.Ffn2DxIdeal.main_arg4)
          ∧ r.2.mem ((c.tc : Thread Cert.Ffn2DxIdeal.nD Cert.Ffn2DxIdeal.τ).loc Cert.Ffn2DxIdeal.main_arg5) = m ((c.tc : Thread Cert.Ffn2DxIdeal.nD Cert.Ffn2DxIdeal.τ).loc Cert.Ffn2DxIdeal.main_arg5)
          ∧ r.2.mem ((c.tc : Thread Cert.Ffn2DxIdeal.nD Cert.Ffn2DxIdeal.τ).loc Cert.Ffn2DxIdeal.main_arg6) = m ((c.tc : Thread Cert.Ffn2DxIdeal.nD Cert.Ffn2DxIdeal.τ).loc Cert.Ffn2DxIdeal.main_arg6)
          ∧ r.2.mem ((c.tc : Thread Cert.Ffn2DxIdeal.nD Cert.Ffn2DxIdeal.τ).loc Cert.Ffn2DxIdeal.main_arg7) = m ((c.tc : Thread Cert.Ffn2DxIdeal.nD Cert.Ffn2DxIdeal.τ).loc Cert.Ffn2DxIdeal.main_arg7)
          ∧ r.2.mem ((c.tc : Thread Cert.Ffn2DxIdeal.nD Cert.Ffn2DxIdeal.τ).loc Cert.Ffn2DxIdeal.main_arg8) = m ((c.tc : Thread Cert.Ffn2DxIdeal.nD Cert.Ffn2DxIdeal.τ).loc Cert.Ffn2DxIdeal.main_arg8))
      ∧ θ_run (Cert.Ffn2DxRefIdeal.defs (F := Ideal)) (onTc (τ := Cert.Ffn2DxRefIdeal.τ) (Cert.Ffn2DxRefIdeal.main (F := Ideal))) ⟨m', fun _ => 0, g'⟩ (fun r => ∀ c : Dev Cert.Ffn2DxRefIdeal.nD,
          r.2.mem ((c.tc : Thread Cert.Ffn2DxRefIdeal.nD Cert.Ffn2DxRefIdeal.τ).loc Cert.Ffn2DxRefIdeal.main_v64) = v0 c
          ∧ r.2.mem ((c.tc : Thread Cert.Ffn2DxRefIdeal.nD Cert.Ffn2DxRefIdeal.τ).loc Cert.Ffn2DxRefIdeal.main_v65) = v1 c
          ∧ r.2.mem ((c.tc : Thread Cert.Ffn2DxRefIdeal.nD Cert.Ffn2DxRefIdeal.τ).loc Cert.Ffn2DxRefIdeal.main_v88) = v2 c
          ∧ r.2.mem ((c.tc : Thread Cert.Ffn2DxRefIdeal.nD Cert.Ffn2DxRefIdeal.τ).loc Cert.Ffn2DxRefIdeal.main_v87) = v3 c
          ∧ r.2.mem ((c.tc : Thread Cert.Ffn2DxRefIdeal.nD Cert.Ffn2DxRefIdeal.τ).loc Cert.Ffn2DxRefIdeal.main_arg0) = m' ((c.tc : Thread Cert.Ffn2DxRefIdeal.nD Cert.Ffn2DxRefIdeal.τ).loc Cert.Ffn2DxRefIdeal.main_arg0)
          ∧ r.2.mem ((c.tc : Thread Cert.Ffn2DxRefIdeal.nD Cert.Ffn2DxRefIdeal.τ).loc Cert.Ffn2DxRefIdeal.main_arg1) = m' ((c.tc : Thread Cert.Ffn2DxRefIdeal.nD Cert.Ffn2DxRefIdeal.τ).loc Cert.Ffn2DxRefIdeal.main_arg1)
          ∧ r.2.mem ((c.tc : Thread Cert.Ffn2DxRefIdeal.nD Cert.Ffn2DxRefIdeal.τ).loc Cert.Ffn2DxRefIdeal.main_arg2) = m' ((c.tc : Thread Cert.Ffn2DxRefIdeal.nD Cert.Ffn2DxRefIdeal.τ).loc Cert.Ffn2DxRefIdeal.main_arg2)
          ∧ r.2.mem ((c.tc : Thread Cert.Ffn2DxRefIdeal.nD Cert.Ffn2DxRefIdeal.τ).loc Cert.Ffn2DxRefIdeal.main_arg3) = m' ((c.tc : Thread Cert.Ffn2DxRefIdeal.nD Cert.Ffn2DxRefIdeal.τ).loc Cert.Ffn2DxRefIdeal.main_arg3)
          ∧ r.2.mem ((c.tc : Thread Cert.Ffn2DxRefIdeal.nD Cert.Ffn2DxRefIdeal.τ).loc Cert.Ffn2DxRefIdeal.main_arg4) = m' ((c.tc : Thread Cert.Ffn2DxRefIdeal.nD Cert.Ffn2DxRefIdeal.τ).loc Cert.Ffn2DxRefIdeal.main_arg4)
          ∧ r.2.mem ((c.tc : Thread Cert.Ffn2DxRefIdeal.nD Cert.Ffn2DxRefIdeal.τ).loc Cert.Ffn2DxRefIdeal.main_arg5) = m' ((c.tc : Thread Cert.Ffn2DxRefIdeal.nD Cert.Ffn2DxRefIdeal.τ).loc Cert.Ffn2DxRefIdeal.main_arg5)
          ∧ r.2.mem ((c.tc : Thread Cert.Ffn2DxRefIdeal.nD Cert.Ffn2DxRefIdeal.τ).loc Cert.Ffn2DxRefIdeal.main_arg6) = m' ((c.tc : Thread Cert.Ffn2DxRefIdeal.nD Cert.Ffn2DxRefIdeal.τ).loc Cert.Ffn2DxRefIdeal.main_arg6)
          ∧ r.2.mem ((c.tc : Thread Cert.Ffn2DxRefIdeal.nD Cert.Ffn2DxRefIdeal.τ).loc Cert.Ffn2DxRefIdeal.main_arg7) = m' ((c.tc : Thread Cert.Ffn2DxRefIdeal.nD Cert.Ffn2DxRefIdeal.τ).loc Cert.Ffn2DxRefIdeal.main_arg7)
          ∧ r.2.mem ((c.tc : Thread Cert.Ffn2DxRefIdeal.nD Cert.Ffn2DxRefIdeal.τ).loc Cert.Ffn2DxRefIdeal.main_arg8) = m' ((c.tc : Thread Cert.Ffn2DxRefIdeal.nD Cert.Ffn2DxRefIdeal.τ).loc Cert.Ffn2DxRefIdeal.main_arg8))

def preserves_Ffn1Dx_Ffn1DxIdeal : Prop :=
  True

def algebraic_Ffn1DxIdeal_Ffn1DxRefIdeal_pre_ffn1_dx_finite [hFfn1DxIdeal : Cert.Ffn1DxIdeal.Facts] [hFfn1DxRefIdeal : Cert.Ffn1DxRefIdeal.Facts] [hPre_ffn1_dx_finite : Cert.Pre_ffn1_dx_finite.Facts] : Prop :=
  ∀ (m : (ℓ : Loc Cert.Ffn1DxIdeal.nD Cert.Ffn1DxIdeal.τ Cert.Ffn1DxIdeal.sig) → Buf (Elt Ideal) ℓ) (g : Dev Cert.Ffn1DxIdeal.nD → PrngReg)
    (m' : (ℓ : Loc Cert.Ffn1DxRefIdeal.nD Cert.Ffn1DxRefIdeal.τ Cert.Ffn1DxRefIdeal.sig) → Buf (Elt Ideal) ℓ) (g' : Dev Cert.Ffn1DxRefIdeal.nD → PrngReg), Pre_Ffn1DxIdeal_ffn1_dx_finite m →
    (∀ c : Dev Cert.Ffn1DxIdeal.nD,
      m' ((c.tc : Thread Cert.Ffn1DxRefIdeal.nD Cert.Ffn1DxRefIdeal.τ).loc Cert.Ffn1DxRefIdeal.main_arg0) = m ((c.tc : Thread Cert.Ffn1DxIdeal.nD Cert.Ffn1DxIdeal.τ).loc Cert.Ffn1DxIdeal.main_arg0)
      ∧ m' ((c.tc : Thread Cert.Ffn1DxRefIdeal.nD Cert.Ffn1DxRefIdeal.τ).loc Cert.Ffn1DxRefIdeal.main_arg1) = m ((c.tc : Thread Cert.Ffn1DxIdeal.nD Cert.Ffn1DxIdeal.τ).loc Cert.Ffn1DxIdeal.main_arg1)
      ∧ m' ((c.tc : Thread Cert.Ffn1DxRefIdeal.nD Cert.Ffn1DxRefIdeal.τ).loc Cert.Ffn1DxRefIdeal.main_arg2) = m ((c.tc : Thread Cert.Ffn1DxIdeal.nD Cert.Ffn1DxIdeal.τ).loc Cert.Ffn1DxIdeal.main_arg2)
      ∧ m' ((c.tc : Thread Cert.Ffn1DxRefIdeal.nD Cert.Ffn1DxRefIdeal.τ).loc Cert.Ffn1DxRefIdeal.main_arg3) = m ((c.tc : Thread Cert.Ffn1DxIdeal.nD Cert.Ffn1DxIdeal.τ).loc Cert.Ffn1DxIdeal.main_arg3)
      ∧ m' ((c.tc : Thread Cert.Ffn1DxRefIdeal.nD Cert.Ffn1DxRefIdeal.τ).loc Cert.Ffn1DxRefIdeal.main_arg4) = m ((c.tc : Thread Cert.Ffn1DxIdeal.nD Cert.Ffn1DxIdeal.τ).loc Cert.Ffn1DxIdeal.main_arg4)
      ∧ m' ((c.tc : Thread Cert.Ffn1DxRefIdeal.nD Cert.Ffn1DxRefIdeal.τ).loc Cert.Ffn1DxRefIdeal.main_arg5) = m ((c.tc : Thread Cert.Ffn1DxIdeal.nD Cert.Ffn1DxIdeal.τ).loc Cert.Ffn1DxIdeal.main_arg5)
      ∧ m' ((c.tc : Thread Cert.Ffn1DxRefIdeal.nD Cert.Ffn1DxRefIdeal.τ).loc Cert.Ffn1DxRefIdeal.main_arg6) = m ((c.tc : Thread Cert.Ffn1DxIdeal.nD Cert.Ffn1DxIdeal.τ).loc Cert.Ffn1DxIdeal.main_arg6)) →
    ∃ (v0 : (c : Dev Cert.Ffn1DxIdeal.nD) → Buf (Elt Ideal) ((c.tc : Thread Cert.Ffn1DxIdeal.nD Cert.Ffn1DxIdeal.τ).loc Cert.Ffn1DxIdeal.main_v9_0)) (v1 : (c : Dev Cert.Ffn1DxIdeal.nD) → Buf (Elt Ideal) ((c.tc : Thread Cert.Ffn1DxIdeal.nD Cert.Ffn1DxIdeal.τ).loc Cert.Ffn1DxIdeal.main_v9_1)),
      θ_run (Cert.Ffn1DxIdeal.defs (F := Ideal)) (onTc (τ := Cert.Ffn1DxIdeal.τ) (Cert.Ffn1DxIdeal.main (F := Ideal))) ⟨m, fun _ => 0, g⟩ (fun r => ∀ c : Dev Cert.Ffn1DxIdeal.nD,
          r.2.mem ((c.tc : Thread Cert.Ffn1DxIdeal.nD Cert.Ffn1DxIdeal.τ).loc Cert.Ffn1DxIdeal.main_v9_0) = v0 c
          ∧ r.2.mem ((c.tc : Thread Cert.Ffn1DxIdeal.nD Cert.Ffn1DxIdeal.τ).loc Cert.Ffn1DxIdeal.main_v9_1) = v1 c
          ∧ r.2.mem ((c.tc : Thread Cert.Ffn1DxIdeal.nD Cert.Ffn1DxIdeal.τ).loc Cert.Ffn1DxIdeal.main_arg0) = m ((c.tc : Thread Cert.Ffn1DxIdeal.nD Cert.Ffn1DxIdeal.τ).loc Cert.Ffn1DxIdeal.main_arg0)
          ∧ r.2.mem ((c.tc : Thread Cert.Ffn1DxIdeal.nD Cert.Ffn1DxIdeal.τ).loc Cert.Ffn1DxIdeal.main_arg1) = m ((c.tc : Thread Cert.Ffn1DxIdeal.nD Cert.Ffn1DxIdeal.τ).loc Cert.Ffn1DxIdeal.main_arg1)
          ∧ r.2.mem ((c.tc : Thread Cert.Ffn1DxIdeal.nD Cert.Ffn1DxIdeal.τ).loc Cert.Ffn1DxIdeal.main_arg2) = m ((c.tc : Thread Cert.Ffn1DxIdeal.nD Cert.Ffn1DxIdeal.τ).loc Cert.Ffn1DxIdeal.main_arg2)
          ∧ r.2.mem ((c.tc : Thread Cert.Ffn1DxIdeal.nD Cert.Ffn1DxIdeal.τ).loc Cert.Ffn1DxIdeal.main_arg3) = m ((c.tc : Thread Cert.Ffn1DxIdeal.nD Cert.Ffn1DxIdeal.τ).loc Cert.Ffn1DxIdeal.main_arg3)
          ∧ r.2.mem ((c.tc : Thread Cert.Ffn1DxIdeal.nD Cert.Ffn1DxIdeal.τ).loc Cert.Ffn1DxIdeal.main_arg4) = m ((c.tc : Thread Cert.Ffn1DxIdeal.nD Cert.Ffn1DxIdeal.τ).loc Cert.Ffn1DxIdeal.main_arg4)
          ∧ r.2.mem ((c.tc : Thread Cert.Ffn1DxIdeal.nD Cert.Ffn1DxIdeal.τ).loc Cert.Ffn1DxIdeal.main_arg5) = m ((c.tc : Thread Cert.Ffn1DxIdeal.nD Cert.Ffn1DxIdeal.τ).loc Cert.Ffn1DxIdeal.main_arg5)
          ∧ r.2.mem ((c.tc : Thread Cert.Ffn1DxIdeal.nD Cert.Ffn1DxIdeal.τ).loc Cert.Ffn1DxIdeal.main_arg6) = m ((c.tc : Thread Cert.Ffn1DxIdeal.nD Cert.Ffn1DxIdeal.τ).loc Cert.Ffn1DxIdeal.main_arg6))
      ∧ θ_run (Cert.Ffn1DxRefIdeal.defs (F := Ideal)) (onTc (τ := Cert.Ffn1DxRefIdeal.τ) (Cert.Ffn1DxRefIdeal.main (F := Ideal))) ⟨m', fun _ => 0, g'⟩ (fun r => ∀ c : Dev Cert.Ffn1DxRefIdeal.nD,
          r.2.mem ((c.tc : Thread Cert.Ffn1DxRefIdeal.nD Cert.Ffn1DxRefIdeal.τ).loc Cert.Ffn1DxRefIdeal.main_v47) = v0 c
          ∧ r.2.mem ((c.tc : Thread Cert.Ffn1DxRefIdeal.nD Cert.Ffn1DxRefIdeal.τ).loc Cert.Ffn1DxRefIdeal.main_v48) = v1 c
          ∧ r.2.mem ((c.tc : Thread Cert.Ffn1DxRefIdeal.nD Cert.Ffn1DxRefIdeal.τ).loc Cert.Ffn1DxRefIdeal.main_arg0) = m' ((c.tc : Thread Cert.Ffn1DxRefIdeal.nD Cert.Ffn1DxRefIdeal.τ).loc Cert.Ffn1DxRefIdeal.main_arg0)
          ∧ r.2.mem ((c.tc : Thread Cert.Ffn1DxRefIdeal.nD Cert.Ffn1DxRefIdeal.τ).loc Cert.Ffn1DxRefIdeal.main_arg1) = m' ((c.tc : Thread Cert.Ffn1DxRefIdeal.nD Cert.Ffn1DxRefIdeal.τ).loc Cert.Ffn1DxRefIdeal.main_arg1)
          ∧ r.2.mem ((c.tc : Thread Cert.Ffn1DxRefIdeal.nD Cert.Ffn1DxRefIdeal.τ).loc Cert.Ffn1DxRefIdeal.main_arg2) = m' ((c.tc : Thread Cert.Ffn1DxRefIdeal.nD Cert.Ffn1DxRefIdeal.τ).loc Cert.Ffn1DxRefIdeal.main_arg2)
          ∧ r.2.mem ((c.tc : Thread Cert.Ffn1DxRefIdeal.nD Cert.Ffn1DxRefIdeal.τ).loc Cert.Ffn1DxRefIdeal.main_arg3) = m' ((c.tc : Thread Cert.Ffn1DxRefIdeal.nD Cert.Ffn1DxRefIdeal.τ).loc Cert.Ffn1DxRefIdeal.main_arg3)
          ∧ r.2.mem ((c.tc : Thread Cert.Ffn1DxRefIdeal.nD Cert.Ffn1DxRefIdeal.τ).loc Cert.Ffn1DxRefIdeal.main_arg4) = m' ((c.tc : Thread Cert.Ffn1DxRefIdeal.nD Cert.Ffn1DxRefIdeal.τ).loc Cert.Ffn1DxRefIdeal.main_arg4)
          ∧ r.2.mem ((c.tc : Thread Cert.Ffn1DxRefIdeal.nD Cert.Ffn1DxRefIdeal.τ).loc Cert.Ffn1DxRefIdeal.main_arg5) = m' ((c.tc : Thread Cert.Ffn1DxRefIdeal.nD Cert.Ffn1DxRefIdeal.τ).loc Cert.Ffn1DxRefIdeal.main_arg5)
          ∧ r.2.mem ((c.tc : Thread Cert.Ffn1DxRefIdeal.nD Cert.Ffn1DxRefIdeal.τ).loc Cert.Ffn1DxRefIdeal.main_arg6) = m' ((c.tc : Thread Cert.Ffn1DxRefIdeal.nD Cert.Ffn1DxRefIdeal.τ).loc Cert.Ffn1DxRefIdeal.main_arg6))

def preserves_MixDx_MixDxIdeal : Prop :=
  True

def algebraic_MixDxIdeal_MixDxRefIdeal_pre_mix_dx_finite [hMixDxIdeal : Cert.MixDxIdeal.Facts] [hMixDxRefIdeal : Cert.MixDxRefIdeal.Facts] [hPre_mix_dx_finite : Cert.Pre_mix_dx_finite.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxRefIdeal.nD Cert.MixDxRefIdeal.τ Cert.MixDxRefIdeal.sig) → Buf (Elt Ideal) ℓ) (g' : Dev Cert.MixDxRefIdeal.nD → PrngReg), Pre_MixDxIdeal_mix_dx_finite m →
    (∀ c : Dev Cert.MixDxIdeal.nD,
      m' ((c.tc : Thread Cert.MixDxRefIdeal.nD Cert.MixDxRefIdeal.τ).loc Cert.MixDxRefIdeal.main_arg0) = m ((c.tc : Thread Cert.MixDxIdeal.nD Cert.MixDxIdeal.τ).loc Cert.MixDxIdeal.main_arg0)
      ∧ m' ((c.tc : Thread Cert.MixDxRefIdeal.nD Cert.MixDxRefIdeal.τ).loc Cert.MixDxRefIdeal.main_arg1) = m ((c.tc : Thread Cert.MixDxIdeal.nD Cert.MixDxIdeal.τ).loc Cert.MixDxIdeal.main_arg1)
      ∧ m' ((c.tc : Thread Cert.MixDxRefIdeal.nD Cert.MixDxRefIdeal.τ).loc Cert.MixDxRefIdeal.main_arg2) = m ((c.tc : Thread Cert.MixDxIdeal.nD Cert.MixDxIdeal.τ).loc Cert.MixDxIdeal.main_arg2)
      ∧ m' ((c.tc : Thread Cert.MixDxRefIdeal.nD Cert.MixDxRefIdeal.τ).loc Cert.MixDxRefIdeal.main_arg3) = m ((c.tc : Thread Cert.MixDxIdeal.nD Cert.MixDxIdeal.τ).loc Cert.MixDxIdeal.main_arg3)
      ∧ m' ((c.tc : Thread Cert.MixDxRefIdeal.nD Cert.MixDxRefIdeal.τ).loc Cert.MixDxRefIdeal.main_arg4) = m ((c.tc : Thread Cert.MixDxIdeal.nD Cert.MixDxIdeal.τ).loc Cert.MixDxIdeal.main_arg4)
      ∧ m' ((c.tc : Thread Cert.MixDxRefIdeal.nD Cert.MixDxRefIdeal.τ).loc Cert.MixDxRefIdeal.main_arg5) = m ((c.tc : Thread Cert.MixDxIdeal.nD Cert.MixDxIdeal.τ).loc Cert.MixDxIdeal.main_arg5)
      ∧ m' ((c.tc : Thread Cert.MixDxRefIdeal.nD Cert.MixDxRefIdeal.τ).loc Cert.MixDxRefIdeal.main_arg6) = m ((c.tc : Thread Cert.MixDxIdeal.nD Cert.MixDxIdeal.τ).loc Cert.MixDxIdeal.main_arg6)) →
    ∃ (v0 : (c : Dev Cert.MixDxIdeal.nD) → Buf (Elt Ideal) ((c.tc : Thread Cert.MixDxIdeal.nD Cert.MixDxIdeal.τ).loc Cert.MixDxIdeal.main_v25_0)) (v1 : (c : Dev Cert.MixDxIdeal.nD) → Buf (Elt Ideal) ((c.tc : Thread Cert.MixDxIdeal.nD Cert.MixDxIdeal.τ).loc Cert.MixDxIdeal.main_v25_1)) (v2 : (c : Dev Cert.MixDxIdeal.nD) → Buf (Elt Ideal) ((c.tc : Thread Cert.MixDxIdeal.nD Cert.MixDxIdeal.τ).loc Cert.MixDxIdeal.main_v25_2)) (v3 : (c : Dev Cert.MixDxIdeal.nD) → Buf (Elt Ideal) ((c.tc : Thread Cert.MixDxIdeal.nD Cert.MixDxIdeal.τ).loc Cert.MixDxIdeal.main_v25_3)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v25_0) = v0 c
          ∧ r.2.mem ((c.tc : Thread Cert.MixDxIdeal.nD Cert.MixDxIdeal.τ).loc Cert.MixDxIdeal.main_v25_1) = v1 c
          ∧ r.2.mem ((c.tc : Thread Cert.MixDxIdeal.nD Cert.MixDxIdeal.τ).loc Cert.MixDxIdeal.main_v25_2) = v2 c
          ∧ r.2.mem ((c.tc : Thread Cert.MixDxIdeal.nD Cert.MixDxIdeal.τ).loc Cert.MixDxIdeal.main_v25_3) = v3 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
          ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
          ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
          ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4)
          ∧ r.2.mem ((c.tc : Thread Cert.MixDxIdeal.nD Cert.MixDxIdeal.τ).loc Cert.MixDxIdeal.main_arg5) = m ((c.tc : Thread Cert.MixDxIdeal.nD Cert.MixDxIdeal.τ).loc Cert.MixDxIdeal.main_arg5)
          ∧ r.2.mem ((c.tc : Thread Cert.MixDxIdeal.nD Cert.MixDxIdeal.τ).loc Cert.MixDxIdeal.main_arg6) = m ((c.tc : Thread Cert.MixDxIdeal.nD Cert.MixDxIdeal.τ).loc Cert.MixDxIdeal.main_arg6))
      ∧ θ_run (Cert.MixDxRefIdeal.defs (F := Ideal)) (onTc (τ := Cert.MixDxRefIdeal.τ) (Cert.MixDxRefIdeal.main (F := Ideal))) ⟨m', fun _ => 0, g'⟩ (fun r => ∀ c : Dev Cert.MixDxRefIdeal.nD,
          r.2.mem ((c.tc : Thread Cert.MixDxRefIdeal.nD Cert.MixDxRefIdeal.τ).loc Cert.MixDxRefIdeal.main_v64) = v0 c
          ∧ r.2.mem ((c.tc : Thread Cert.MixDxRefIdeal.nD Cert.MixDxRefIdeal.τ).loc Cert.MixDxRefIdeal.main_v63) = v1 c
          ∧ r.2.mem ((c.tc : Thread Cert.MixDxRefIdeal.nD Cert.MixDxRefIdeal.τ).loc Cert.MixDxRefIdeal.main_v89) = v2 c
          ∧ r.2.mem ((c.tc : Thread Cert.MixDxRefIdeal.nD Cert.MixDxRefIdeal.τ).loc Cert.MixDxRefIdeal.main_v88) = v3 c
          ∧ r.2.mem ((c.tc : Thread Cert.MixDxRefIdeal.nD Cert.MixDxRefIdeal.τ).loc Cert.MixDxRefIdeal.main_arg0) = m' ((c.tc : Thread Cert.MixDxRefIdeal.nD Cert.MixDxRefIdeal.τ).loc Cert.MixDxRefIdeal.main_arg0)
          ∧ r.2.mem ((c.tc : Thread Cert.MixDxRefIdeal.nD Cert.MixDxRefIdeal.τ).loc Cert.MixDxRefIdeal.main_arg1) = m' ((c.tc : Thread Cert.MixDxRefIdeal.nD Cert.MixDxRefIdeal.τ).loc Cert.MixDxRefIdeal.main_arg1)
          ∧ r.2.mem ((c.tc : Thread Cert.MixDxRefIdeal.nD Cert.MixDxRefIdeal.τ).loc Cert.MixDxRefIdeal.main_arg2) = m' ((c.tc : Thread Cert.MixDxRefIdeal.nD Cert.MixDxRefIdeal.τ).loc Cert.MixDxRefIdeal.main_arg2)
          ∧ r.2.mem ((c.tc : Thread Cert.MixDxRefIdeal.nD Cert.MixDxRefIdeal.τ).loc Cert.MixDxRefIdeal.main_arg3) = m' ((c.tc : Thread Cert.MixDxRefIdeal.nD Cert.MixDxRefIdeal.τ).loc Cert.MixDxRefIdeal.main_arg3)
          ∧ r.2.mem ((c.tc : Thread Cert.MixDxRefIdeal.nD Cert.MixDxRefIdeal.τ).loc Cert.MixDxRefIdeal.main_arg4) = m' ((c.tc : Thread Cert.MixDxRefIdeal.nD Cert.MixDxRefIdeal.τ).loc Cert.MixDxRefIdeal.main_arg4)
          ∧ r.2.mem ((c.tc : Thread Cert.MixDxRefIdeal.nD Cert.MixDxRefIdeal.τ).loc Cert.MixDxRefIdeal.main_arg5) = m' ((c.tc : Thread Cert.MixDxRefIdeal.nD Cert.MixDxRefIdeal.τ).loc Cert.MixDxRefIdeal.main_arg5)
          ∧ r.2.mem ((c.tc : Thread Cert.MixDxRefIdeal.nD Cert.MixDxRefIdeal.τ).loc Cert.MixDxRefIdeal.main_arg6) = m' ((c.tc : Thread Cert.MixDxRefIdeal.nD Cert.MixDxRefIdeal.τ).loc Cert.MixDxRefIdeal.main_arg6))

def preserves_PleFwd_PleFwdIdeal : Prop :=
  True

def algebraic_PleFwdIdeal_PleFwdRefIdeal [hPleFwdIdeal : Cert.PleFwdIdeal.Facts] [hPleFwdRefIdeal : Cert.PleFwdRefIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdRefIdeal.nD Cert.PleFwdRefIdeal.τ Cert.PleFwdRefIdeal.sig) → Buf (Elt Ideal) ℓ) (g' : Dev Cert.PleFwdRefIdeal.nD → PrngReg), Pre_PleFwdIdeal m →
    (∀ c : Dev Cert.PleFwdIdeal.nD,
      m' ((c.tc : Thread Cert.PleFwdRefIdeal.nD Cert.PleFwdRefIdeal.τ).loc Cert.PleFwdRefIdeal.main_arg0) = m ((c.tc : Thread Cert.PleFwdIdeal.nD Cert.PleFwdIdeal.τ).loc Cert.PleFwdIdeal.main_arg0)
      ∧ m' ((c.tc : Thread Cert.PleFwdRefIdeal.nD Cert.PleFwdRefIdeal.τ).loc Cert.PleFwdRefIdeal.main_arg1) = m ((c.tc : Thread Cert.PleFwdIdeal.nD Cert.PleFwdIdeal.τ).loc Cert.PleFwdIdeal.main_arg1)
      ∧ m' ((c.tc : Thread Cert.PleFwdRefIdeal.nD Cert.PleFwdRefIdeal.τ).loc Cert.PleFwdRefIdeal.main_arg2) = m ((c.tc : Thread Cert.PleFwdIdeal.nD Cert.PleFwdIdeal.τ).loc Cert.PleFwdIdeal.main_arg2)
      ∧ m' ((c.tc : Thread Cert.PleFwdRefIdeal.nD Cert.PleFwdRefIdeal.τ).loc Cert.PleFwdRefIdeal.main_arg3) = m ((c.tc : Thread Cert.PleFwdIdeal.nD Cert.PleFwdIdeal.τ).loc Cert.PleFwdIdeal.main_arg3)
      ∧ m' ((c.tc : Thread Cert.PleFwdRefIdeal.nD Cert.PleFwdRefIdeal.τ).loc Cert.PleFwdRefIdeal.main_arg4) = m ((c.tc : Thread Cert.PleFwdIdeal.nD Cert.PleFwdIdeal.τ).loc Cert.PleFwdIdeal.main_arg4)
      ∧ m' ((c.tc : Thread Cert.PleFwdRefIdeal.nD Cert.PleFwdRefIdeal.τ).loc Cert.PleFwdRefIdeal.main_arg5) = m ((c.tc : Thread Cert.PleFwdIdeal.nD Cert.PleFwdIdeal.τ).loc Cert.PleFwdIdeal.main_arg5)
      ∧ m' ((c.tc : Thread Cert.PleFwdRefIdeal.nD Cert.PleFwdRefIdeal.τ).loc Cert.PleFwdRefIdeal.main_arg6) = m ((c.tc : Thread Cert.PleFwdIdeal.nD Cert.PleFwdIdeal.τ).loc Cert.PleFwdIdeal.main_arg6)) →
    ∃ (v0 : (c : Dev Cert.PleFwdIdeal.nD) → Buf (Elt Ideal) ((c.tc : Thread Cert.PleFwdIdeal.nD Cert.PleFwdIdeal.τ).loc Cert.PleFwdIdeal.main_v24_0)) (v1 : (c : Dev Cert.PleFwdIdeal.nD) → Buf (Elt Ideal) ((c.tc : Thread Cert.PleFwdIdeal.nD Cert.PleFwdIdeal.τ).loc Cert.PleFwdIdeal.main_v24_1)) (v2 : (c : Dev Cert.PleFwdIdeal.nD) → Buf (Elt Ideal) ((c.tc : Thread Cert.PleFwdIdeal.nD Cert.PleFwdIdeal.τ).loc Cert.PleFwdIdeal.main_v24_2)) (v3 : (c : Dev Cert.PleFwdIdeal.nD) → Buf (Elt Ideal) ((c.tc : Thread Cert.PleFwdIdeal.nD Cert.PleFwdIdeal.τ).loc Cert.PleFwdIdeal.main_v24_3)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v24_0) = v0 c
          ∧ r.2.mem ((c.tc : Thread Cert.PleFwdIdeal.nD Cert.PleFwdIdeal.τ).loc Cert.PleFwdIdeal.main_v24_1) = v1 c
          ∧ r.2.mem ((c.tc : Thread Cert.PleFwdIdeal.nD Cert.PleFwdIdeal.τ).loc Cert.PleFwdIdeal.main_v24_2) = v2 c
          ∧ r.2.mem ((c.tc : Thread Cert.PleFwdIdeal.nD Cert.PleFwdIdeal.τ).loc Cert.PleFwdIdeal.main_v24_3) = v3 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
          ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
          ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4)
          ∧ r.2.mem ((c.tc : Thread Cert.PleFwdIdeal.nD Cert.PleFwdIdeal.τ).loc Cert.PleFwdIdeal.main_arg5) = m ((c.tc : Thread Cert.PleFwdIdeal.nD Cert.PleFwdIdeal.τ).loc Cert.PleFwdIdeal.main_arg5)
          ∧ r.2.mem ((c.tc : Thread Cert.PleFwdIdeal.nD Cert.PleFwdIdeal.τ).loc Cert.PleFwdIdeal.main_arg6) = m ((c.tc : Thread Cert.PleFwdIdeal.nD Cert.PleFwdIdeal.τ).loc Cert.PleFwdIdeal.main_arg6))
      ∧ θ_run (Cert.PleFwdRefIdeal.defs (F := Ideal)) (onTc (τ := Cert.PleFwdRefIdeal.τ) (Cert.PleFwdRefIdeal.main (F := Ideal))) ⟨m', fun _ => 0, g'⟩ (fun r => ∀ c : Dev Cert.PleFwdRefIdeal.nD,
          r.2.mem ((c.tc : Thread Cert.PleFwdRefIdeal.nD Cert.PleFwdRefIdeal.τ).loc Cert.PleFwdRefIdeal.main_v15) = v0 c
          ∧ r.2.mem ((c.tc : Thread Cert.PleFwdRefIdeal.nD Cert.PleFwdRefIdeal.τ).loc Cert.PleFwdRefIdeal.main_v18) = v1 c
          ∧ r.2.mem ((c.tc : Thread Cert.PleFwdRefIdeal.nD Cert.PleFwdRefIdeal.τ).loc Cert.PleFwdRefIdeal.main_v56) = v2 c
          ∧ r.2.mem ((c.tc : Thread Cert.PleFwdRefIdeal.nD Cert.PleFwdRefIdeal.τ).loc Cert.PleFwdRefIdeal.main_v61) = v3 c
          ∧ r.2.mem ((c.tc : Thread Cert.PleFwdRefIdeal.nD Cert.PleFwdRefIdeal.τ).loc Cert.PleFwdRefIdeal.main_arg0) = m' ((c.tc : Thread Cert.PleFwdRefIdeal.nD Cert.PleFwdRefIdeal.τ).loc Cert.PleFwdRefIdeal.main_arg0)
          ∧ r.2.mem ((c.tc : Thread Cert.PleFwdRefIdeal.nD Cert.PleFwdRefIdeal.τ).loc Cert.PleFwdRefIdeal.main_arg1) = m' ((c.tc : Thread Cert.PleFwdRefIdeal.nD Cert.PleFwdRefIdeal.τ).loc Cert.PleFwdRefIdeal.main_arg1)
          ∧ r.2.mem ((c.tc : Thread Cert.PleFwdRefIdeal.nD Cert.PleFwdRefIdeal.τ).loc Cert.PleFwdRefIdeal.main_arg2) = m' ((c.tc : Thread Cert.PleFwdRefIdeal.nD Cert.PleFwdRefIdeal.τ).loc Cert.PleFwdRefIdeal.main_arg2)
          ∧ r.2.mem ((c.tc : Thread Cert.PleFwdRefIdeal.nD Cert.PleFwdRefIdeal.τ).loc Cert.PleFwdRefIdeal.main_arg3) = m' ((c.tc : Thread Cert.PleFwdRefIdeal.nD Cert.PleFwdRefIdeal.τ).loc Cert.PleFwdRefIdeal.main_arg3)
          ∧ r.2.mem ((c.tc : Thread Cert.PleFwdRefIdeal.nD Cert.PleFwdRefIdeal.τ).loc Cert.PleFwdRefIdeal.main_arg4) = m' ((c.tc : Thread Cert.PleFwdRefIdeal.nD Cert.PleFwdRefIdeal.τ).loc Cert.PleFwdRefIdeal.main_arg4)
          ∧ r.2.mem ((c.tc : Thread Cert.PleFwdRefIdeal.nD Cert.PleFwdRefIdeal.τ).loc Cert.PleFwdRefIdeal.main_arg5) = m' ((c.tc : Thread Cert.PleFwdRefIdeal.nD Cert.PleFwdRefIdeal.τ).loc Cert.PleFwdRefIdeal.main_arg5)
          ∧ r.2.mem ((c.tc : Thread Cert.PleFwdRefIdeal.nD Cert.PleFwdRefIdeal.τ).loc Cert.PleFwdRefIdeal.main_arg6) = m' ((c.tc : Thread Cert.PleFwdRefIdeal.nD Cert.PleFwdRefIdeal.τ).loc Cert.PleFwdRefIdeal.main_arg6))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v6_0)) (v1 : (c : Dev Cert.FfnDownIdeal.nD) → Buf (Elt Ideal) ((c.tc : Thread Cert.FfnDownIdeal.nD Cert.FfnDownIdeal.τ).loc Cert.FfnDownIdeal.main_v6_1)) (v2 : (c : Dev Cert.FfnDownIdeal.nD) → Buf (Elt Ideal) ((c.tc : Thread Cert.FfnDownIdeal.nD Cert.FfnDownIdeal.τ).loc Cert.FfnDownIdeal.main_v6_2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v6_0) = v0 c
          ∧ r.2.mem ((c.tc : Thread Cert.FfnDownIdeal.nD Cert.FfnDownIdeal.τ).loc Cert.FfnDownIdeal.main_v6_1) = v1 c
          ∧ r.2.mem ((c.tc : Thread Cert.FfnDownIdeal.nD Cert.FfnDownIdeal.τ).loc Cert.FfnDownIdeal.main_v6_2) = v2 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_v19) = v1 c
          ∧ r.2.mem ((c.tc : Thread Cert.FfnDownRefIdeal.nD Cert.FfnDownRefIdeal.τ).loc Cert.FfnDownRefIdeal.main_v34) = v2 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4))

def preserves_MixProj_MixProjIdeal : Prop :=
  True

def algebraic_MixProjIdeal_MixProjRefIdeal [hMixProjIdeal : Cert.MixProjIdeal.Facts] [hMixProjRefIdeal : Cert.MixProjRefIdeal.Facts] : Prop :=
  ∀ (m : (ℓ : Loc Cert.MixProjIdeal.nD Cert.MixProjIdeal.τ Cert.MixProjIdeal.sig) → Buf (Elt Ideal) ℓ) (g : Dev Cert.MixProjIdeal.nD → PrngReg)
    (m' : (ℓ : Loc Cert.MixProjRefIdeal.nD Cert.MixProjRefIdeal.τ Cert.MixProjRefIdeal.sig) → Buf (Elt Ideal) ℓ) (g' : Dev Cert.MixProjRefIdeal.nD → PrngReg), Pre_MixProjIdeal m →
    (∀ c : Dev Cert.MixProjIdeal.nD,
      m' ((c.tc : Thread Cert.MixProjRefIdeal.nD Cert.MixProjRefIdeal.τ).loc Cert.MixProjRefIdeal.main_arg0) = m ((c.tc : Thread Cert.MixProjIdeal.nD Cert.MixProjIdeal.τ).loc Cert.MixProjIdeal.main_arg0)
      ∧ m' ((c.tc : Thread Cert.MixProjRefIdeal.nD Cert.MixProjRefIdeal.τ).loc Cert.MixProjRefIdeal.main_arg1) = m ((c.tc : Thread Cert.MixProjIdeal.nD Cert.MixProjIdeal.τ).loc Cert.MixProjIdeal.main_arg1)
      ∧ m' ((c.tc : Thread Cert.MixProjRefIdeal.nD Cert.MixProjRefIdeal.τ).loc Cert.MixProjRefIdeal.main_arg2) = m ((c.tc : Thread Cert.MixProjIdeal.nD Cert.MixProjIdeal.τ).loc Cert.MixProjIdeal.main_arg2)
      ∧ m' ((c.tc : Thread Cert.MixProjRefIdeal.nD Cert.MixProjRefIdeal.τ).loc Cert.MixProjRefIdeal.main_arg3) = m ((c.tc : Thread Cert.MixProjIdeal.nD Cert.MixProjIdeal.τ).loc Cert.MixProjIdeal.main_arg3)
      ∧ m' ((c.tc : Thread Cert.MixProjRefIdeal.nD Cert.MixProjRefIdeal.τ).loc Cert.MixProjRefIdeal.main_arg4) = m ((c.tc : Thread Cert.MixProjIdeal.nD Cert.MixProjIdeal.τ).loc Cert.MixProjIdeal.main_arg4)) →
    ∃ (v0 : (c : Dev Cert.MixProjIdeal.nD) → Buf (Elt Ideal) ((c.tc : Thread Cert.MixProjIdeal.nD Cert.MixProjIdeal.τ).loc Cert.MixProjIdeal.main_v6_0)) (v1 : (c : Dev Cert.MixProjIdeal.nD) → Buf (Elt Ideal) ((c.tc : Thread Cert.MixProjIdeal.nD Cert.MixProjIdeal.τ).loc Cert.MixProjIdeal.main_v6_1)) (v2 : (c : Dev Cert.MixProjIdeal.nD) → Buf (Elt Ideal) ((c.tc : Thread Cert.MixProjIdeal.nD Cert.MixProjIdeal.τ).loc Cert.MixProjIdeal.main_v6_2)),
      θ_run (Cert.MixProjIdeal.defs (F := Ideal)) (onTc (τ := Cert.MixProjIdeal.τ) (Cert.MixProjIdeal.main (F := Ideal))) ⟨m, fun _ => 0, g⟩ (fun r => ∀ c : Dev Cert.MixProjIdeal.nD,
          r.2.mem ((c.tc : Thread Cert.MixProjIdeal.nD Cert.MixProjIdeal.τ).loc Cert.MixProjIdeal.main_v6_0) = v0 c
          ∧ r.2.mem ((c.tc : Thread Cert.MixProjIdeal.nD Cert.MixProjIdeal.τ).loc Cert.MixProjIdeal.main_v6_1) = v1 c
          ∧ r.2.mem ((c.tc : Thread Cert.MixProjIdeal.nD Cert.MixProjIdeal.τ).loc Cert.MixProjIdeal.main_v6_2) = v2 c
          ∧ r.2.mem ((c.tc : Thread Cert.MixProjIdeal.nD Cert.MixProjIdeal.τ).loc Cert.MixProjIdeal.main_arg0) = m ((c.tc : Thread Cert.MixProjIdeal.nD Cert.MixProjIdeal.τ).loc Cert.MixProjIdeal.main_arg0)
          ∧ r.2.mem ((c.tc : Thread Cert.MixProjIdeal.nD Cert.MixProjIdeal.τ).loc Cert.MixProjIdeal.main_arg1) = m ((c.tc : Thread Cert.MixProjIdeal.nD Cert.MixProjIdeal.τ).loc Cert.MixProjIdeal.main_arg1)
          ∧ r.2.mem ((c.tc : Thread Cert.MixProjIdeal.nD Cert.MixProjIdeal.τ).loc Cert.MixProjIdeal.main_arg2) = m ((c.tc : Thread Cert.MixProjIdeal.nD Cert.MixProjIdeal.τ).loc Cert.MixProjIdeal.main_arg2)
          ∧ r.2.mem ((c.tc : Thread Cert.MixProjIdeal.nD Cert.MixProjIdeal.τ).loc Cert.MixProjIdeal.main_arg3) = m ((c.tc : Thread Cert.MixProjIdeal.nD Cert.MixProjIdeal.τ).loc Cert.MixProjIdeal.main_arg3)
          ∧ r.2.mem ((c.tc : Thread Cert.MixProjIdeal.nD Cert.MixProjIdeal.τ).loc Cert.MixProjIdeal.main_arg4) = m ((c.tc : Thread Cert.MixProjIdeal.nD Cert.MixProjIdeal.τ).loc Cert.MixProjIdeal.main_arg4))
      ∧ θ_run (Cert.MixProjRefIdeal.defs (F := Ideal)) (onTc (τ := Cert.MixProjRefIdeal.τ) (Cert.MixProjRefIdeal.main (F := Ideal))) ⟨m', fun _ => 0, g'⟩ (fun r => ∀ c : Dev Cert.MixProjRefIdeal.nD,
          r.2.mem ((c.tc : Thread Cert.MixProjRefIdeal.nD Cert.MixProjRefIdeal.τ).loc Cert.MixProjRefIdeal.main_v2) = v0 c
          ∧ r.2.mem ((c.tc : Thread Cert.MixProjRefIdeal.nD Cert.MixProjRefIdeal.τ).loc Cert.MixProjRefIdeal.main_v17) = v1 c
          ∧ r.2.mem ((c.tc : Thread Cert.MixProjRefIdeal.nD Cert.MixProjRefIdeal.τ).loc Cert.MixProjRefIdeal.main_v32) = v2 c
          ∧ r.2.mem ((c.tc : Thread Cert.MixProjRefIdeal.nD Cert.MixProjRefIdeal.τ).loc Cert.MixProjRefIdeal.main_arg0) = m' ((c.tc : Thread Cert.MixProjRefIdeal.nD Cert.MixProjRefIdeal.τ).loc Cert.MixProjRefIdeal.main_arg0)
          ∧ r.2.mem ((c.tc : Thread Cert.MixProjRefIdeal.nD Cert.MixProjRefIdeal.τ).loc Cert.MixProjRefIdeal.main_arg1) = m' ((c.tc : Thread Cert.MixProjRefIdeal.nD Cert.MixProjRefIdeal.τ).loc Cert.MixProjRefIdeal.main_arg1)
          ∧ r.2.mem ((c.tc : Thread Cert.MixProjRefIdeal.nD Cert.MixProjRefIdeal.τ).loc Cert.MixProjRefIdeal.main_arg2) = m' ((c.tc : Thread Cert.MixProjRefIdeal.nD Cert.MixProjRefIdeal.τ).loc Cert.MixProjRefIdeal.main_arg2)
          ∧ r.2.mem ((c.tc : Thread Cert.MixProjRefIdeal.nD Cert.MixProjRefIdeal.τ).loc Cert.MixProjRefIdeal.main_arg3) = m' ((c.tc : Thread Cert.MixProjRefIdeal.nD Cert.MixProjRefIdeal.τ).loc Cert.MixProjRefIdeal.main_arg3)
          ∧ r.2.mem ((c.tc : Thread Cert.MixProjRefIdeal.nD Cert.MixProjRefIdeal.τ).loc Cert.MixProjRefIdeal.main_arg4) = m' ((c.tc : Thread Cert.MixProjRefIdeal.nD Cert.MixProjRefIdeal.τ).loc Cert.MixProjRefIdeal.main_arg4))

def preserves_SguFwd_SguFwdIdeal : Prop :=
  True

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)) →
    ∃ (v0 : (c : Dev Cert.SguFwdIdeal.nD) → Buf (Elt Ideal) ((c.tc : Thread Cert.SguFwdIdeal.nD Cert.SguFwdIdeal.τ).loc Cert.SguFwdIdeal.main_v5)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v5) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v67) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3))

def preserves_PoolFwd_PoolFwdIdeal : Prop :=
  True

def algebraic_PoolFwdIdeal_PoolFwdRefIdeal_pre_pool_fwd_finite [hPoolFwdIdeal : Cert.PoolFwdIdeal.Facts] [hPoolFwdRefIdeal : Cert.PoolFwdRefIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_pool_fwd_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v4)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v4) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v126) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_MixMerge_MixMergeIdeal : Prop :=
  True

def algebraic_MixMergeIdeal_MixMergeRefIdeal [hMixMergeIdeal : Cert.MixMergeIdeal.Facts] [hMixMergeRefIdeal : Cert.MixMergeRefIdeal.Facts] : Prop :=
  ∀ (m : (ℓ : Loc Cert.MixMergeIdeal.nD Cert.MixMergeIdeal.τ Cert.MixMergeIdeal.sig) → Buf (Elt Ideal) ℓ) (g : Dev Cert.MixMergeIdeal.nD → PrngReg)
    (m' : (ℓ : Loc Cert.MixMergeRefIdeal.nD Cert.MixMergeRefIdeal.τ Cert.MixMergeRefIdeal.sig) → Buf (Elt Ideal) ℓ) (g' : Dev Cert.MixMergeRefIdeal.nD → PrngReg), Pre_MixMergeIdeal m →
    (∀ c : Dev Cert.MixMergeIdeal.nD,
      m' ((c.tc : Thread Cert.MixMergeRefIdeal.nD Cert.MixMergeRefIdeal.τ).loc Cert.MixMergeRefIdeal.main_arg0) = m ((c.tc : Thread Cert.MixMergeIdeal.nD Cert.MixMergeIdeal.τ).loc Cert.MixMergeIdeal.main_arg0)
      ∧ m' ((c.tc : Thread Cert.MixMergeRefIdeal.nD Cert.MixMergeRefIdeal.τ).loc Cert.MixMergeRefIdeal.main_arg1) = m ((c.tc : Thread Cert.MixMergeIdeal.nD Cert.MixMergeIdeal.τ).loc Cert.MixMergeIdeal.main_arg1)
      ∧ m' ((c.tc : Thread Cert.MixMergeRefIdeal.nD Cert.MixMergeRefIdeal.τ).loc Cert.MixMergeRefIdeal.main_arg2) = m ((c.tc : Thread Cert.MixMergeIdeal.nD Cert.MixMergeIdeal.τ).loc Cert.MixMergeIdeal.main_arg2)
      ∧ m' ((c.tc : Thread Cert.MixMergeRefIdeal.nD Cert.MixMergeRefIdeal.τ).loc Cert.MixMergeRefIdeal.main_arg3) = m ((c.tc : Thread Cert.MixMergeIdeal.nD Cert.MixMergeIdeal.τ).loc Cert.MixMergeIdeal.main_arg3)
      ∧ m' ((c.tc : Thread Cert.MixMergeRefIdeal.nD Cert.MixMergeRefIdeal.τ).loc Cert.MixMergeRefIdeal.main_arg4) = m ((c.tc : Thread Cert.MixMergeIdeal.nD Cert.MixMergeIdeal.τ).loc Cert.MixMergeIdeal.main_arg4)) →
    ∃ (v0 : (c : Dev Cert.MixMergeIdeal.nD) → Buf (Elt Ideal) ((c.tc : Thread Cert.MixMergeIdeal.nD Cert.MixMergeIdeal.τ).loc Cert.MixMergeIdeal.main_v4_0)) (v1 : (c : Dev Cert.MixMergeIdeal.nD) → Buf (Elt Ideal) ((c.tc : Thread Cert.MixMergeIdeal.nD Cert.MixMergeIdeal.τ).loc Cert.MixMergeIdeal.main_v4_1)) (v2 : (c : Dev Cert.MixMergeIdeal.nD) → Buf (Elt Ideal) ((c.tc : Thread Cert.MixMergeIdeal.nD Cert.MixMergeIdeal.τ).loc Cert.MixMergeIdeal.main_v4_2)),
      θ_run (Cert.MixMergeIdeal.defs (F := Ideal)) (onTc (τ := Cert.MixMergeIdeal.τ) (Cert.MixMergeIdeal.main (F := Ideal))) ⟨m, fun _ => 0, g⟩ (fun r => ∀ c : Dev Cert.MixMergeIdeal.nD,
          r.2.mem ((c.tc : Thread Cert.MixMergeIdeal.nD Cert.MixMergeIdeal.τ).loc Cert.MixMergeIdeal.main_v4_0) = v0 c
          ∧ r.2.mem ((c.tc : Thread Cert.MixMergeIdeal.nD Cert.MixMergeIdeal.τ).loc Cert.MixMergeIdeal.main_v4_1) = v1 c
          ∧ r.2.mem ((c.tc : Thread Cert.MixMergeIdeal.nD Cert.MixMergeIdeal.τ).loc Cert.MixMergeIdeal.main_v4_2) = v2 c
          ∧ r.2.mem ((c.tc : Thread Cert.MixMergeIdeal.nD Cert.MixMergeIdeal.τ).loc Cert.MixMergeIdeal.main_arg0) = m ((c.tc : Thread Cert.MixMergeIdeal.nD Cert.MixMergeIdeal.τ).loc Cert.MixMergeIdeal.main_arg0)
          ∧ r.2.mem ((c.tc : Thread Cert.MixMergeIdeal.nD Cert.MixMergeIdeal.τ).loc Cert.MixMergeIdeal.main_arg1) = m ((c.tc : Thread Cert.MixMergeIdeal.nD Cert.MixMergeIdeal.τ).loc Cert.MixMergeIdeal.main_arg1)
          ∧ r.2.mem ((c.tc : Thread Cert.MixMergeIdeal.nD Cert.MixMergeIdeal.τ).loc Cert.MixMergeIdeal.main_arg2) = m ((c.tc : Thread Cert.MixMergeIdeal.nD Cert.MixMergeIdeal.τ).loc Cert.MixMergeIdeal.main_arg2)
          ∧ r.2.mem ((c.tc : Thread Cert.MixMergeIdeal.nD Cert.MixMergeIdeal.τ).loc Cert.MixMergeIdeal.main_arg3) = m ((c.tc : Thread Cert.MixMergeIdeal.nD Cert.MixMergeIdeal.τ).loc Cert.MixMergeIdeal.main_arg3)
          ∧ r.2.mem ((c.tc : Thread Cert.MixMergeIdeal.nD Cert.MixMergeIdeal.τ).loc Cert.MixMergeIdeal.main_arg4) = m ((c.tc : Thread Cert.MixMergeIdeal.nD Cert.MixMergeIdeal.τ).loc Cert.MixMergeIdeal.main_arg4))
      ∧ θ_run (Cert.MixMergeRefIdeal.defs (F := Ideal)) (onTc (τ := Cert.MixMergeRefIdeal.τ) (Cert.MixMergeRefIdeal.main (F := Ideal))) ⟨m', fun _ => 0, g'⟩ (fun r => ∀ c : Dev Cert.MixMergeRefIdeal.nD,
          r.2.mem ((c.tc : Thread Cert.MixMergeRefIdeal.nD Cert.MixMergeRefIdeal.τ).loc Cert.MixMergeRefIdeal.main_v25) = v0 c
          ∧ r.2.mem ((c.tc : Thread Cert.MixMergeRefIdeal.nD Cert.MixMergeRefIdeal.τ).loc Cert.MixMergeRefIdeal.main_v26) = v1 c
          ∧ r.2.mem ((c.tc : Thread Cert.MixMergeRefIdeal.nD Cert.MixMergeRefIdeal.τ).loc Cert.MixMergeRefIdeal.main_v27) = v2 c
          ∧ r.2.mem ((c.tc : Thread Cert.MixMergeRefIdeal.nD Cert.MixMergeRefIdeal.τ).loc Cert.MixMergeRefIdeal.main_arg0) = m' ((c.tc : Thread Cert.MixMergeRefIdeal.nD Cert.MixMergeRefIdeal.τ).loc Cert.MixMergeRefIdeal.main_arg0)
          ∧ r.2.mem ((c.tc : Thread Cert.MixMergeRefIdeal.nD Cert.MixMergeRefIdeal.τ).loc Cert.MixMergeRefIdeal.main_arg1) = m' ((c.tc : Thread Cert.MixMergeRefIdeal.nD Cert.MixMergeRefIdeal.τ).loc Cert.MixMergeRefIdeal.main_arg1)
          ∧ r.2.mem ((c.tc : Thread Cert.MixMergeRefIdeal.nD Cert.MixMergeRefIdeal.τ).loc Cert.MixMergeRefIdeal.main_arg2) = m' ((c.tc : Thread Cert.MixMergeRefIdeal.nD Cert.MixMergeRefIdeal.τ).loc Cert.MixMergeRefIdeal.main_arg2)
          ∧ r.2.mem ((c.tc : Thread Cert.MixMergeRefIdeal.nD Cert.MixMergeRefIdeal.τ).loc Cert.MixMergeRefIdeal.main_arg3) = m' ((c.tc : Thread Cert.MixMergeRefIdeal.nD Cert.MixMergeRefIdeal.τ).loc Cert.MixMergeRefIdeal.main_arg3)
          ∧ r.2.mem ((c.tc : Thread Cert.MixMergeRefIdeal.nD Cert.MixMergeRefIdeal.τ).loc Cert.MixMergeRefIdeal.main_arg4) = m' ((c.tc : Thread Cert.MixMergeRefIdeal.nD Cert.MixMergeRefIdeal.τ).loc Cert.MixMergeRefIdeal.main_arg4))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v21_0)) (v1 : (c : Dev Cert.FfnUpIdeal.nD) → Buf (Elt Ideal) ((c.tc : Thread Cert.FfnUpIdeal.nD Cert.FfnUpIdeal.τ).loc Cert.FfnUpIdeal.main_v21_1)) (v2 : (c : Dev Cert.FfnUpIdeal.nD) → Buf (Elt Ideal) ((c.tc : Thread Cert.FfnUpIdeal.nD Cert.FfnUpIdeal.τ).loc Cert.FfnUpIdeal.main_v21_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v21_0) = v0 c
          ∧ r.2.mem ((c.tc : Thread Cert.FfnUpIdeal.nD Cert.FfnUpIdeal.τ).loc Cert.FfnUpIdeal.main_v21_1) = v1 c
          ∧ r.2.mem ((c.tc : Thread Cert.FfnUpIdeal.nD Cert.FfnUpIdeal.τ).loc Cert.FfnUpIdeal.main_v21_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v18) = v0 c
          ∧ r.2.mem ((c.tc : Thread Cert.FfnUpRefIdeal.nD Cert.FfnUpRefIdeal.τ).loc Cert.FfnUpRefIdeal.main_v19) = v1 c
          ∧ r.2.mem ((c.tc : Thread Cert.FfnUpRefIdeal.nD Cert.FfnUpRefIdeal.τ).loc Cert.FfnUpRefIdeal.main_v22) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)) →
    ∃ (v0 : (c : Dev Cert.PrenormIdeal.nD) → Buf (Elt Ideal) ((c.tc : Thread Cert.PrenormIdeal.nD Cert.PrenormIdeal.τ).loc Cert.PrenormIdeal.main_v3)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v3) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v15) = v0 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1))

def preserves_Ffn1Up_Ffn1UpIdeal : Prop :=
  True

def algebraic_Ffn1UpIdeal_Ffn1UpRefIdeal [hFfn1UpIdeal : Cert.Ffn1UpIdeal.Facts] [hFfn1UpRefIdeal : Cert.Ffn1UpRefIdeal.Facts] : Prop :=
  ∀ (m : (ℓ : Loc Cert.Ffn1UpIdeal.nD Cert.Ffn1UpIdeal.τ Cert.Ffn1UpIdeal.sig) → Buf (Elt Ideal) ℓ) (g : Dev Cert.Ffn1UpIdeal.nD → PrngReg)
    (m' : (ℓ : Loc Cert.Ffn1UpRefIdeal.nD Cert.Ffn1UpRefIdeal.τ Cert.Ffn1UpRefIdeal.sig) → Buf (Elt Ideal) ℓ) (g' : Dev Cert.Ffn1UpRefIdeal.nD → PrngReg), Pre_Ffn1UpIdeal m →
    (∀ c : Dev Cert.Ffn1UpIdeal.nD,
      m' ((c.tc : Thread Cert.Ffn1UpRefIdeal.nD Cert.Ffn1UpRefIdeal.τ).loc Cert.Ffn1UpRefIdeal.main_arg0) = m ((c.tc : Thread Cert.Ffn1UpIdeal.nD Cert.Ffn1UpIdeal.τ).loc Cert.Ffn1UpIdeal.main_arg0)
      ∧ m' ((c.tc : Thread Cert.Ffn1UpRefIdeal.nD Cert.Ffn1UpRefIdeal.τ).loc Cert.Ffn1UpRefIdeal.main_arg1) = m ((c.tc : Thread Cert.Ffn1UpIdeal.nD Cert.Ffn1UpIdeal.τ).loc Cert.Ffn1UpIdeal.main_arg1)
      ∧ m' ((c.tc : Thread Cert.Ffn1UpRefIdeal.nD Cert.Ffn1UpRefIdeal.τ).loc Cert.Ffn1UpRefIdeal.main_arg2) = m ((c.tc : Thread Cert.Ffn1UpIdeal.nD Cert.Ffn1UpIdeal.τ).loc Cert.Ffn1UpIdeal.main_arg2)
      ∧ m' ((c.tc : Thread Cert.Ffn1UpRefIdeal.nD Cert.Ffn1UpRefIdeal.τ).loc Cert.Ffn1UpRefIdeal.main_arg3) = m ((c.tc : Thread Cert.Ffn1UpIdeal.nD Cert.Ffn1UpIdeal.τ).loc Cert.Ffn1UpIdeal.main_arg3)) →
    ∃ (v0 : (c : Dev Cert.Ffn1UpIdeal.nD) → Buf (Elt Ideal) ((c.tc : Thread Cert.Ffn1UpIdeal.nD Cert.Ffn1UpIdeal.τ).loc Cert.Ffn1UpIdeal.main_v23_0)) (v1 : (c : Dev Cert.Ffn1UpIdeal.nD) → Buf (Elt Ideal) ((c.tc : Thread Cert.Ffn1UpIdeal.nD Cert.Ffn1UpIdeal.τ).loc Cert.Ffn1UpIdeal.main_v23_1)),
      θ_run (Cert.Ffn1UpIdeal.defs (F := Ideal)) (onTc (τ := Cert.Ffn1UpIdeal.τ) (Cert.Ffn1UpIdeal.main (F := Ideal))) ⟨m, fun _ => 0, g⟩ (fun r => ∀ c : Dev Cert.Ffn1UpIdeal.nD,
          r.2.mem ((c.tc : Thread Cert.Ffn1UpIdeal.nD Cert.Ffn1UpIdeal.τ).loc Cert.Ffn1UpIdeal.main_v23_0) = v0 c
          ∧ r.2.mem ((c.tc : Thread Cert.Ffn1UpIdeal.nD Cert.Ffn1UpIdeal.τ).loc Cert.Ffn1UpIdeal.main_v23_1) = v1 c
          ∧ r.2.mem ((c.tc : Thread Cert.Ffn1UpIdeal.nD Cert.Ffn1UpIdeal.τ).loc Cert.Ffn1UpIdeal.main_arg0) = m ((c.tc : Thread Cert.Ffn1UpIdeal.nD Cert.Ffn1UpIdeal.τ).loc Cert.Ffn1UpIdeal.main_arg0)
          ∧ r.2.mem ((c.tc : Thread Cert.Ffn1UpIdeal.nD Cert.Ffn1UpIdeal.τ).loc Cert.Ffn1UpIdeal.main_arg1) = m ((c.tc : Thread Cert.Ffn1UpIdeal.nD Cert.Ffn1UpIdeal.τ).loc Cert.Ffn1UpIdeal.main_arg1)
          ∧ r.2.mem ((c.tc : Thread Cert.Ffn1UpIdeal.nD Cert.Ffn1UpIdeal.τ).loc Cert.Ffn1UpIdeal.main_arg2) = m ((c.tc : Thread Cert.Ffn1UpIdeal.nD Cert.Ffn1UpIdeal.τ).loc Cert.Ffn1UpIdeal.main_arg2)
          ∧ r.2.mem ((c.tc : Thread Cert.Ffn1UpIdeal.nD Cert.Ffn1UpIdeal.τ).loc Cert.Ffn1UpIdeal.main_arg3) = m ((c.tc : Thread Cert.Ffn1UpIdeal.nD Cert.Ffn1UpIdeal.τ).loc Cert.Ffn1UpIdeal.main_arg3))
      ∧ θ_run (Cert.Ffn1UpRefIdeal.defs (F := Ideal)) (onTc (τ := Cert.Ffn1UpRefIdeal.τ) (Cert.Ffn1UpRefIdeal.main (F := Ideal))) ⟨m', fun _ => 0, g'⟩ (fun r => ∀ c : Dev Cert.Ffn1UpRefIdeal.nD,
          r.2.mem ((c.tc : Thread Cert.Ffn1UpRefIdeal.nD Cert.Ffn1UpRefIdeal.τ).loc Cert.Ffn1UpRefIdeal.main_v19) = v0 c
          ∧ r.2.mem ((c.tc : Thread Cert.Ffn1UpRefIdeal.nD Cert.Ffn1UpRefIdeal.τ).loc Cert.Ffn1UpRefIdeal.main_v22) = v1 c
          ∧ r.2.mem ((c.tc : Thread Cert.Ffn1UpRefIdeal.nD Cert.Ffn1UpRefIdeal.τ).loc Cert.Ffn1UpRefIdeal.main_arg0) = m' ((c.tc : Thread Cert.Ffn1UpRefIdeal.nD Cert.Ffn1UpRefIdeal.τ).loc Cert.Ffn1UpRefIdeal.main_arg0)
          ∧ r.2.mem ((c.tc : Thread Cert.Ffn1UpRefIdeal.nD Cert.Ffn1UpRefIdeal.τ).loc Cert.Ffn1UpRefIdeal.main_arg1) = m' ((c.tc : Thread Cert.Ffn1UpRefIdeal.nD Cert.Ffn1UpRefIdeal.τ).loc Cert.Ffn1UpRefIdeal.main_arg1)
          ∧ r.2.mem ((c.tc : Thread Cert.Ffn1UpRefIdeal.nD Cert.Ffn1UpRefIdeal.τ).loc Cert.Ffn1UpRefIdeal.main_arg2) = m' ((c.tc : Thread Cert.Ffn1UpRefIdeal.nD Cert.Ffn1UpRefIdeal.τ).loc Cert.Ffn1UpRefIdeal.main_arg2)
          ∧ r.2.mem ((c.tc : Thread Cert.Ffn1UpRefIdeal.nD Cert.Ffn1UpRefIdeal.τ).loc Cert.Ffn1UpRefIdeal.main_arg3) = m' ((c.tc : Thread Cert.Ffn1UpRefIdeal.nD Cert.Ffn1UpRefIdeal.τ).loc Cert.Ffn1UpRefIdeal.main_arg3))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v3)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v3) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v3) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_FfnDwd_FfnDwdIdeal : Prop :=
  True

def algebraic_FfnDwdIdeal_FfnDwdRefIdeal [hFfnDwdIdeal : Cert.FfnDwdIdeal.Facts] [hFfnDwdRefIdeal : Cert.FfnDwdRefIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg)
    (m' : (ℓ : Loc Cert.FfnDwdRefIdeal.nD Cert.FfnDwdRefIdeal.τ Cert.FfnDwdRefIdeal.sig) → Buf (Elt Ideal) ℓ) (g' : Dev Cert.FfnDwdRefIdeal.nD → PrngReg), Pre_FfnDwdIdeal m →
    (∀ c : Dev Cert.FfnDwdIdeal.nD,
      m' ((c.tc : Thread Cert.FfnDwdRefIdeal.nD Cert.FfnDwdRefIdeal.τ).loc Cert.FfnDwdRefIdeal.main_arg0) = m ((c.tc : Thread Cert.FfnDwdIdeal.nD Cert.FfnDwdIdeal.τ).loc Cert.FfnDwdIdeal.main_arg0)
      ∧ m' ((c.tc : Thread Cert.FfnDwdRefIdeal.nD Cert.FfnDwdRefIdeal.τ).loc Cert.FfnDwdRefIdeal.main_arg1) = m ((c.tc : Thread Cert.FfnDwdIdeal.nD Cert.FfnDwdIdeal.τ).loc Cert.FfnDwdIdeal.main_arg1)) →
    ∃ (v0 : (c : Dev Cert.FfnDwdIdeal.nD) → Buf (Elt Ideal) ((c.tc : Thread Cert.FfnDwdIdeal.nD Cert.FfnDwdIdeal.τ).loc Cert.FfnDwdIdeal.main_v0)),
      θ_run (Cert.FfnDwdIdeal.defs (F := Ideal)) (onTc (τ := Cert.FfnDwdIdeal.τ) (Cert.FfnDwdIdeal.main (F := Ideal))) ⟨m, fun _ => 0, g⟩ (fun r => ∀ c : Dev Cert.FfnDwdIdeal.nD,
          r.2.mem ((c.tc : Thread Cert.FfnDwdIdeal.nD Cert.FfnDwdIdeal.τ).loc Cert.FfnDwdIdeal.main_v0) = v0 c
          ∧ r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
          ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ θ_run (Cert.FfnDwdRefIdeal.defs (F := Ideal)) (onTc (τ := Cert.FfnDwdRefIdeal.τ) (Cert.FfnDwdRefIdeal.main (F := Ideal))) ⟨m', fun _ => 0, g'⟩ (fun r => ∀ c : Dev Cert.FfnDwdRefIdeal.nD,
          r.2.mem ((c.tc : Thread Cert.FfnDwdRefIdeal.nD Cert.FfnDwdRefIdeal.τ).loc Cert.FfnDwdRefIdeal.main_v6) = v0 c
          ∧ r.2.mem ((c.tc : Thread Cert.FfnDwdRefIdeal.nD Cert.FfnDwdRefIdeal.τ).loc Cert.FfnDwdRefIdeal.main_arg0) = m' ((c.tc : Thread Cert.FfnDwdRefIdeal.nD Cert.FfnDwdRefIdeal.τ).loc Cert.FfnDwdRefIdeal.main_arg0)
          ∧ r.2.mem ((c.tc : Thread Cert.FfnDwdRefIdeal.nD Cert.FfnDwdRefIdeal.τ).loc Cert.FfnDwdRefIdeal.main_arg1) = m' ((c.tc : Thread Cert.FfnDwdRefIdeal.nD Cert.FfnDwdRefIdeal.τ).loc Cert.FfnDwdRefIdeal.main_arg1))

def preserves_FfnDwIn_FfnDwInIdeal : Prop :=
  True

def algebraic_FfnDwInIdeal_FfnDwInRefIdeal [hFfnDwInIdeal : Cert.FfnDwInIdeal.Facts] [hFfnDwInRefIdeal : Cert.FfnDwInRefIdeal.Facts] : Prop :=
  ∀ (m : (ℓ : Loc Cert.FfnDwInIdeal.nD Cert.FfnDwInIdeal.τ Cert.FfnDwInIdeal.sig) → Buf (Elt Ideal) ℓ) (g : Dev Cert.FfnDwInIdeal.nD → PrngReg)
    (m' : (ℓ : Loc Cert.FfnDwInRefIdeal.nD Cert.FfnDwInRefIdeal.τ Cert.FfnDwInRefIdeal.sig) → Buf (Elt Ideal) ℓ) (g' : Dev Cert.FfnDwInRefIdeal.nD → PrngReg), Pre_FfnDwInIdeal m →
    (∀ c : Dev Cert.FfnDwInIdeal.nD,
      m' ((c.tc : Thread Cert.FfnDwInRefIdeal.nD Cert.FfnDwInRefIdeal.τ).loc Cert.FfnDwInRefIdeal.main_arg0) = m ((c.tc : Thread Cert.FfnDwInIdeal.nD Cert.FfnDwInIdeal.τ).loc Cert.FfnDwInIdeal.main_arg0)
      ∧ m' ((c.tc : Thread Cert.FfnDwInRefIdeal.nD Cert.FfnDwInRefIdeal.τ).loc Cert.FfnDwInRefIdeal.main_arg1) = m ((c.tc : Thread Cert.FfnDwInIdeal.nD Cert.FfnDwInIdeal.τ).loc Cert.FfnDwInIdeal.main_arg1)) →
    ∃ (v0 : (c : Dev Cert.FfnDwInIdeal.nD) → Buf (Elt Ideal) ((c.tc : Thread Cert.FfnDwInIdeal.nD Cert.FfnDwInIdeal.τ).loc Cert.FfnDwInIdeal.main_v0)),
      θ_run (Cert.FfnDwInIdeal.defs (F := Ideal)) (onTc (τ := Cert.FfnDwInIdeal.τ) (Cert.FfnDwInIdeal.main (F := Ideal))) ⟨m, fun _ => 0, g⟩ (fun r => ∀ c : Dev Cert.FfnDwInIdeal.nD,
          r.2.mem ((c.tc : Thread Cert.FfnDwInIdeal.nD Cert.FfnDwInIdeal.τ).loc Cert.FfnDwInIdeal.main_v0) = v0 c
          ∧ r.2.mem ((c.tc : Thread Cert.FfnDwInIdeal.nD Cert.FfnDwInIdeal.τ).loc Cert.FfnDwInIdeal.main_arg0) = m ((c.tc : Thread Cert.FfnDwInIdeal.nD Cert.FfnDwInIdeal.τ).loc Cert.FfnDwInIdeal.main_arg0)
          ∧ r.2.mem ((c.tc : Thread Cert.FfnDwInIdeal.nD Cert.FfnDwInIdeal.τ).loc Cert.FfnDwInIdeal.main_arg1) = m ((c.tc : Thread Cert.FfnDwInIdeal.nD Cert.FfnDwInIdeal.τ).loc Cert.FfnDwInIdeal.main_arg1))
      ∧ θ_run (Cert.FfnDwInRefIdeal.defs (F := Ideal)) (onTc (τ := Cert.FfnDwInRefIdeal.τ) (Cert.FfnDwInRefIdeal.main (F := Ideal))) ⟨m', fun _ => 0, g'⟩ (fun r => ∀ c : Dev Cert.FfnDwInRefIdeal.nD,
          r.2.mem ((c.tc : Thread Cert.FfnDwInRefIdeal.nD Cert.FfnDwInRefIdeal.τ).loc Cert.FfnDwInRefIdeal.main_v7) = v0 c
          ∧ r.2.mem ((c.tc : Thread Cert.FfnDwInRefIdeal.nD Cert.FfnDwInRefIdeal.τ).loc Cert.FfnDwInRefIdeal.main_arg0) = m' ((c.tc : Thread Cert.FfnDwInRefIdeal.nD Cert.FfnDwInRefIdeal.τ).loc Cert.FfnDwInRefIdeal.main_arg0)
          ∧ r.2.mem ((c.tc : Thread Cert.FfnDwInRefIdeal.nD Cert.FfnDwInRefIdeal.τ).loc Cert.FfnDwInRefIdeal.main_arg1) = m' ((c.tc : Thread Cert.FfnDwInRefIdeal.nD Cert.FfnDwInRefIdeal.τ).loc Cert.FfnDwInRefIdeal.main_arg1))

def preserves_Ffn1Gate_Ffn1GateIdeal : Prop :=
  True

def algebraic_Ffn1GateIdeal_Ffn1GateRefIdeal [hFfn1GateIdeal : Cert.Ffn1GateIdeal.Facts] [hFfn1GateRefIdeal : Cert.Ffn1GateRefIdeal.Facts] : Prop :=
  ∀ (m : (ℓ : Loc Cert.Ffn1GateIdeal.nD Cert.Ffn1GateIdeal.τ Cert.Ffn1GateIdeal.sig) → Buf (Elt Ideal) ℓ) (g : Dev Cert.Ffn1GateIdeal.nD → PrngReg)
    (m' : (ℓ : Loc Cert.Ffn1GateRefIdeal.nD Cert.Ffn1GateRefIdeal.τ Cert.Ffn1GateRefIdeal.sig) → Buf (Elt Ideal) ℓ) (g' : Dev Cert.Ffn1GateRefIdeal.nD → PrngReg), Pre_Ffn1GateIdeal m →
    (∀ c : Dev Cert.Ffn1GateIdeal.nD,
      m' ((c.tc : Thread Cert.Ffn1GateRefIdeal.nD Cert.Ffn1GateRefIdeal.τ).loc Cert.Ffn1GateRefIdeal.main_arg0) = m ((c.tc : Thread Cert.Ffn1GateIdeal.nD Cert.Ffn1GateIdeal.τ).loc Cert.Ffn1GateIdeal.main_arg0)
      ∧ m' ((c.tc : Thread Cert.Ffn1GateRefIdeal.nD Cert.Ffn1GateRefIdeal.τ).loc Cert.Ffn1GateRefIdeal.main_arg1) = m ((c.tc : Thread Cert.Ffn1GateIdeal.nD Cert.Ffn1GateIdeal.τ).loc Cert.Ffn1GateIdeal.main_arg1)) →
    ∃ (v0 : (c : Dev Cert.Ffn1GateIdeal.nD) → Buf (Elt Ideal) ((c.tc : Thread Cert.Ffn1GateIdeal.nD Cert.Ffn1GateIdeal.τ).loc Cert.Ffn1GateIdeal.main_v3)),
      θ_run (Cert.Ffn1GateIdeal.defs (F := Ideal)) (onTc (τ := Cert.Ffn1GateIdeal.τ) (Cert.Ffn1GateIdeal.main (F := Ideal))) ⟨m, fun _ => 0, g⟩ (fun r => ∀ c : Dev Cert.Ffn1GateIdeal.nD,
          r.2.mem ((c.tc : Thread Cert.Ffn1GateIdeal.nD Cert.Ffn1GateIdeal.τ).loc Cert.Ffn1GateIdeal.main_v3) = v0 c
          ∧ r.2.mem ((c.tc : Thread Cert.Ffn1GateIdeal.nD Cert.Ffn1GateIdeal.τ).loc Cert.Ffn1GateIdeal.main_arg0) = m ((c.tc : Thread Cert.Ffn1GateIdeal.nD Cert.Ffn1GateIdeal.τ).loc Cert.Ffn1GateIdeal.main_arg0)
          ∧ r.2.mem ((c.tc : Thread Cert.Ffn1GateIdeal.nD Cert.Ffn1GateIdeal.τ).loc Cert.Ffn1GateIdeal.main_arg1) = m ((c.tc : Thread Cert.Ffn1GateIdeal.nD Cert.Ffn1GateIdeal.τ).loc Cert.Ffn1GateIdeal.main_arg1))
      ∧ θ_run (Cert.Ffn1GateRefIdeal.defs (F := Ideal)) (onTc (τ := Cert.Ffn1GateRefIdeal.τ) (Cert.Ffn1GateRefIdeal.main (F := Ideal))) ⟨m', fun _ => 0, g'⟩ (fun r => ∀ c : Dev Cert.Ffn1GateRefIdeal.nD,
          r.2.mem ((c.tc : Thread Cert.Ffn1GateRefIdeal.nD Cert.Ffn1GateRefIdeal.τ).loc Cert.Ffn1GateRefIdeal.main_v3) = v0 c
          ∧ r.2.mem ((c.tc : Thread Cert.Ffn1GateRefIdeal.nD Cert.Ffn1GateRefIdeal.τ).loc Cert.Ffn1GateRefIdeal.main_arg0) = m' ((c.tc : Thread Cert.Ffn1GateRefIdeal.nD Cert.Ffn1GateRefIdeal.τ).loc Cert.Ffn1GateRefIdeal.main_arg0)
          ∧ r.2.mem ((c.tc : Thread Cert.Ffn1GateRefIdeal.nD Cert.Ffn1GateRefIdeal.τ).loc Cert.Ffn1GateRefIdeal.main_arg1) = m' ((c.tc : Thread Cert.Ffn1GateRefIdeal.nD Cert.Ffn1GateRefIdeal.τ).loc Cert.Ffn1GateRefIdeal.main_arg1))

def preserves_ReduceAdam_ReduceAdamIdeal : Prop :=
  True

def algebraic_ReduceAdamIdeal_ReduceAdamRefIdeal [hReduceAdamIdeal : Cert.ReduceAdamIdeal.Facts] [hReduceAdamRefIdeal : Cert.ReduceAdamRefIdeal.Facts] : Prop :=
  ∀ (m : (ℓ : Loc Cert.ReduceAdamIdeal.nD Cert.ReduceAdamIdeal.τ Cert.ReduceAdamIdeal.sig) → Buf (Elt Ideal) ℓ) (g : Dev Cert.ReduceAdamIdeal.nD → PrngReg)
    (m' : (ℓ : Loc Cert.ReduceAdamRefIdeal.nD Cert.ReduceAdamRefIdeal.τ Cert.ReduceAdamRefIdeal.sig) → Buf (Elt Ideal) ℓ) (g' : Dev Cert.ReduceAdamRefIdeal.nD → PrngReg), Pre_ReduceAdamIdeal m →
    (∀ c : Dev Cert.ReduceAdamIdeal.nD,
      m' ((c.tc : Thread Cert.ReduceAdamRefIdeal.nD Cert.ReduceAdamRefIdeal.τ).loc Cert.ReduceAdamRefIdeal.main_arg0) = m ((c.tc : Thread Cert.ReduceAdamIdeal.nD Cert.ReduceAdamIdeal.τ).loc Cert.ReduceAdamIdeal.main_arg0)
      ∧ m' ((c.tc : Thread Cert.ReduceAdamRefIdeal.nD Cert.ReduceAdamRefIdeal.τ).loc Cert.ReduceAdamRefIdeal.main_arg1) = m ((c.tc : Thread Cert.ReduceAdamIdeal.nD Cert.ReduceAdamIdeal.τ).loc Cert.ReduceAdamIdeal.main_arg1)
      ∧ m' ((c.tc : Thread Cert.ReduceAdamRefIdeal.nD Cert.ReduceAdamRefIdeal.τ).loc Cert.ReduceAdamRefIdeal.main_arg2) = m ((c.tc : Thread Cert.ReduceAdamIdeal.nD Cert.ReduceAdamIdeal.τ).loc Cert.ReduceAdamIdeal.main_arg2)
      ∧ m' ((c.tc : Thread Cert.ReduceAdamRefIdeal.nD Cert.ReduceAdamRefIdeal.τ).loc Cert.ReduceAdamRefIdeal.main_arg3) = m ((c.tc : Thread Cert.ReduceAdamIdeal.nD Cert.ReduceAdamIdeal.τ).loc Cert.ReduceAdamIdeal.main_arg3)) →
    ∃ (v0 : (c : Dev Cert.ReduceAdamIdeal.nD) → Buf (Elt Ideal) ((c.tc : Thread Cert.ReduceAdamIdeal.nD Cert.ReduceAdamIdeal.τ).loc Cert.ReduceAdamIdeal.main_v3_0)) (v1 : (c : Dev Cert.ReduceAdamIdeal.nD) → Buf (Elt Ideal) ((c.tc : Thread Cert.ReduceAdamIdeal.nD Cert.ReduceAdamIdeal.τ).loc Cert.ReduceAdamIdeal.main_v3_1)) (v2 : (c : Dev Cert.ReduceAdamIdeal.nD) → Buf (Elt Ideal) ((c.tc : Thread Cert.ReduceAdamIdeal.nD Cert.ReduceAdamIdeal.τ).loc Cert.ReduceAdamIdeal.main_v3_2)) (v3 : (c : Dev Cert.ReduceAdamIdeal.nD) → Buf (Elt Ideal) ((c.tc : Thread Cert.ReduceAdamIdeal.nD Cert.ReduceAdamIdeal.τ).loc Cert.ReduceAdamIdeal.main_v3_3)),
      θ_run (Cert.ReduceAdamIdeal.defs (F := Ideal)) (onTc (τ := Cert.ReduceAdamIdeal.τ) (Cert.ReduceAdamIdeal.main (F := Ideal))) ⟨m, fun _ => 0, g⟩ (fun r => ∀ c : Dev Cert.ReduceAdamIdeal.nD,
          r.2.mem ((c.tc : Thread Cert.ReduceAdamIdeal.nD Cert.ReduceAdamIdeal.τ).loc Cert.ReduceAdamIdeal.main_v3_0) = v0 c
          ∧ r.2.mem ((c.tc : Thread Cert.ReduceAdamIdeal.nD Cert.ReduceAdamIdeal.τ).loc Cert.ReduceAdamIdeal.main_v3_1) = v1 c
          ∧ r.2.mem ((c.tc : Thread Cert.ReduceAdamIdeal.nD Cert.ReduceAdamIdeal.τ).loc Cert.ReduceAdamIdeal.main_v3_2) = v2 c
          ∧ r.2.mem ((c.tc : Thread Cert.ReduceAdamIdeal.nD Cert.ReduceAdamIdeal.τ).loc Cert.ReduceAdamIdeal.main_v3_3) = v3 c
          ∧ r.2.mem ((c.tc : Thread Cert.ReduceAdamIdeal.nD Cert.ReduceAdamIdeal.τ).loc Cert.ReduceAdamIdeal.main_arg0) = m ((c.tc : Thread Cert.ReduceAdamIdeal.nD Cert.ReduceAdamIdeal.τ).loc Cert.ReduceAdamIdeal.main_arg0)
          ∧ r.2.mem ((c.tc : Thread Cert.ReduceAdamIdeal.nD Cert.ReduceAdamIdeal.τ).loc Cert.ReduceAdamIdeal.main_arg1) = m ((c.tc : Thread Cert.ReduceAdamIdeal.nD Cert.ReduceAdamIdeal.τ).loc Cert.ReduceAdamIdeal.main_arg1)
          ∧ r.2.mem ((c.tc : Thread Cert.ReduceAdamIdeal.nD Cert.ReduceAdamIdeal.τ).loc Cert.ReduceAdamIdeal.main_arg2) = m ((c.tc : Thread Cert.ReduceAdamIdeal.nD Cert.ReduceAdamIdeal.τ).loc Cert.ReduceAdamIdeal.main_arg2)
          ∧ r.2.mem ((c.tc : Thread Cert.ReduceAdamIdeal.nD Cert.ReduceAdamIdeal.τ).loc Cert.ReduceAdamIdeal.main_arg3) = m ((c.tc : Thread Cert.ReduceAdamIdeal.nD Cert.ReduceAdamIdeal.τ).loc Cert.ReduceAdamIdeal.main_arg3))
      ∧ θ_run (Cert.ReduceAdamRefIdeal.defs (F := Ideal)) (onTc (τ := Cert.ReduceAdamRefIdeal.τ) (Cert.ReduceAdamRefIdeal.main (F := Ideal))) ⟨m', fun _ => 0, g'⟩ (fun r => ∀ c : Dev Cert.ReduceAdamRefIdeal.nD,
          r.2.mem ((c.tc : Thread Cert.ReduceAdamRefIdeal.nD Cert.ReduceAdamRefIdeal.τ).loc Cert.ReduceAdamRefIdeal.main_v1) = v0 c
          ∧ r.2.mem ((c.tc : Thread Cert.ReduceAdamRefIdeal.nD Cert.ReduceAdamRefIdeal.τ).loc Cert.ReduceAdamRefIdeal.main_v28) = v1 c
          ∧ r.2.mem ((c.tc : Thread Cert.ReduceAdamRefIdeal.nD Cert.ReduceAdamRefIdeal.τ).loc Cert.ReduceAdamRefIdeal.main_v9) = v2 c
          ∧ r.2.mem ((c.tc : Thread Cert.ReduceAdamRefIdeal.nD Cert.ReduceAdamRefIdeal.τ).loc Cert.ReduceAdamRefIdeal.main_v15) = v3 c
          ∧ r.2.mem ((c.tc : Thread Cert.ReduceAdamRefIdeal.nD Cert.ReduceAdamRefIdeal.τ).loc Cert.ReduceAdamRefIdeal.main_arg0) = m' ((c.tc : Thread Cert.ReduceAdamRefIdeal.nD Cert.ReduceAdamRefIdeal.τ).loc Cert.ReduceAdamRefIdeal.main_arg0)
          ∧ r.2.mem ((c.tc : Thread Cert.ReduceAdamRefIdeal.nD Cert.ReduceAdamRefIdeal.τ).loc Cert.ReduceAdamRefIdeal.main_arg1) = m' ((c.tc : Thread Cert.ReduceAdamRefIdeal.nD Cert.ReduceAdamRefIdeal.τ).loc Cert.ReduceAdamRefIdeal.main_arg1)
          ∧ r.2.mem ((c.tc : Thread Cert.ReduceAdamRefIdeal.nD Cert.ReduceAdamRefIdeal.τ).loc Cert.ReduceAdamRefIdeal.main_arg2) = m' ((c.tc : Thread Cert.ReduceAdamRefIdeal.nD Cert.ReduceAdamRefIdeal.τ).loc Cert.ReduceAdamRefIdeal.main_arg2)
          ∧ r.2.mem ((c.tc : Thread Cert.ReduceAdamRefIdeal.nD Cert.ReduceAdamRefIdeal.τ).loc Cert.ReduceAdamRefIdeal.main_arg3) = m' ((c.tc : Thread Cert.ReduceAdamRefIdeal.nD Cert.ReduceAdamRefIdeal.τ).loc Cert.ReduceAdamRefIdeal.main_arg3))

def preserves_ReduceOnly_ReduceOnlyIdeal : Prop :=
  True

def algebraic_ReduceOnlyIdeal_ReduceOnlyRefIdeal [hReduceOnlyIdeal : Cert.ReduceOnlyIdeal.Facts] [hReduceOnlyRefIdeal : Cert.ReduceOnlyRefIdeal.Facts] : Prop :=
  ∀ (m : (ℓ : Loc Cert.ReduceOnlyIdeal.nD Cert.ReduceOnlyIdeal.τ Cert.ReduceOnlyIdeal.sig) → Buf (Elt Ideal) ℓ) (g : Dev Cert.ReduceOnlyIdeal.nD → PrngReg)
    (m' : (ℓ : Loc Cert.ReduceOnlyRefIdeal.nD Cert.ReduceOnlyRefIdeal.τ Cert.ReduceOnlyRefIdeal.sig) → Buf (Elt Ideal) ℓ) (g' : Dev Cert.ReduceOnlyRefIdeal.nD → PrngReg), Pre_ReduceOnlyIdeal m →
    (∀ c : Dev Cert.ReduceOnlyIdeal.nD,
      m' ((c.tc : Thread Cert.ReduceOnlyRefIdeal.nD Cert.ReduceOnlyRefIdeal.τ).loc Cert.ReduceOnlyRefIdeal.main_arg0) = m ((c.tc : Thread Cert.ReduceOnlyIdeal.nD Cert.ReduceOnlyIdeal.τ).loc Cert.ReduceOnlyIdeal.main_arg0)) →
    ∃ (v0 : (c : Dev Cert.ReduceOnlyIdeal.nD) → Buf (Elt Ideal) ((c.tc : Thread Cert.ReduceOnlyIdeal.nD Cert.ReduceOnlyIdeal.τ).loc Cert.ReduceOnlyIdeal.main_v0)),
      θ_run (Cert.ReduceOnlyIdeal.defs (F := Ideal)) (onTc (τ := Cert.ReduceOnlyIdeal.τ) (Cert.ReduceOnlyIdeal.main (F := Ideal))) ⟨m, fun _ => 0, g⟩ (fun r => ∀ c : Dev Cert.ReduceOnlyIdeal.nD,
          r.2.mem ((c.tc : Thread Cert.ReduceOnlyIdeal.nD Cert.ReduceOnlyIdeal.τ).loc Cert.ReduceOnlyIdeal.main_v0) = v0 c
          ∧ r.2.mem ((c.tc : Thread Cert.ReduceOnlyIdeal.nD Cert.ReduceOnlyIdeal.τ).loc Cert.ReduceOnlyIdeal.main_arg0) = m ((c.tc : Thread Cert.ReduceOnlyIdeal.nD Cert.ReduceOnlyIdeal.τ).loc Cert.ReduceOnlyIdeal.main_arg0))
      ∧ θ_run (Cert.ReduceOnlyRefIdeal.defs (F := Ideal)) (onTc (τ := Cert.ReduceOnlyRefIdeal.τ) (Cert.ReduceOnlyRefIdeal.main (F := Ideal))) ⟨m', fun _ => 0, g'⟩ (fun r => ∀ c : Dev Cert.ReduceOnlyRefIdeal.nD,
          r.2.mem ((c.tc : Thread Cert.ReduceOnlyRefIdeal.nD Cert.ReduceOnlyRefIdeal.τ).loc Cert.ReduceOnlyRefIdeal.main_v1) = v0 c
          ∧ r.2.mem ((c.tc : Thread Cert.ReduceOnlyRefIdeal.nD Cert.ReduceOnlyRefIdeal.τ).loc Cert.ReduceOnlyRefIdeal.main_arg0) = m' ((c.tc : Thread Cert.ReduceOnlyRefIdeal.nD Cert.ReduceOnlyRefIdeal.τ).loc Cert.ReduceOnlyRefIdeal.main_arg0))

def preserves_AdamOnly_AdamOnlyIdeal : Prop :=
  True

def algebraic_AdamOnlyIdeal_AdamOnlyRefIdeal [hAdamOnlyIdeal : Cert.AdamOnlyIdeal.Facts] [hAdamOnlyRefIdeal : Cert.AdamOnlyRefIdeal.Facts] : Prop :=
  ∀ (m : (ℓ : Loc Cert.AdamOnlyIdeal.nD Cert.AdamOnlyIdeal.τ Cert.AdamOnlyIdeal.sig) → Buf (Elt Ideal) ℓ) (g : Dev Cert.AdamOnlyIdeal.nD → PrngReg)
    (m' : (ℓ : Loc Cert.AdamOnlyRefIdeal.nD Cert.AdamOnlyRefIdeal.τ Cert.AdamOnlyRefIdeal.sig) → Buf (Elt Ideal) ℓ) (g' : Dev Cert.AdamOnlyRefIdeal.nD → PrngReg), Pre_AdamOnlyIdeal m →
    (∀ c : Dev Cert.AdamOnlyIdeal.nD,
      m' ((c.tc : Thread Cert.AdamOnlyRefIdeal.nD Cert.AdamOnlyRefIdeal.τ).loc Cert.AdamOnlyRefIdeal.main_arg0) = m ((c.tc : Thread Cert.AdamOnlyIdeal.nD Cert.AdamOnlyIdeal.τ).loc Cert.AdamOnlyIdeal.main_arg0)
      ∧ m' ((c.tc : Thread Cert.AdamOnlyRefIdeal.nD Cert.AdamOnlyRefIdeal.τ).loc Cert.AdamOnlyRefIdeal.main_arg1) = m ((c.tc : Thread Cert.AdamOnlyIdeal.nD Cert.AdamOnlyIdeal.τ).loc Cert.AdamOnlyIdeal.main_arg1)
      ∧ m' ((c.tc : Thread Cert.AdamOnlyRefIdeal.nD Cert.AdamOnlyRefIdeal.τ).loc Cert.AdamOnlyRefIdeal.main_arg2) = m ((c.tc : Thread Cert.AdamOnlyIdeal.nD Cert.AdamOnlyIdeal.τ).loc Cert.AdamOnlyIdeal.main_arg2)
      ∧ m' ((c.tc : Thread Cert.AdamOnlyRefIdeal.nD Cert.AdamOnlyRefIdeal.τ).loc Cert.AdamOnlyRefIdeal.main_arg3) = m ((c.tc : Thread Cert.AdamOnlyIdeal.nD Cert.AdamOnlyIdeal.τ).loc Cert.AdamOnlyIdeal.main_arg3)) →
    ∃ (v0 : (c : Dev Cert.AdamOnlyIdeal.nD) → Buf (Elt Ideal) ((c.tc : Thread Cert.AdamOnlyIdeal.nD Cert.AdamOnlyIdeal.τ).loc Cert.AdamOnlyIdeal.main_v4_0)) (v1 : (c : Dev Cert.AdamOnlyIdeal.nD) → Buf (Elt Ideal) ((c.tc : Thread Cert.AdamOnlyIdeal.nD Cert.AdamOnlyIdeal.τ).loc Cert.AdamOnlyIdeal.main_v4_1)) (v2 : (c : Dev Cert.AdamOnlyIdeal.nD) → Buf (Elt Ideal) ((c.tc : Thread Cert.AdamOnlyIdeal.nD Cert.AdamOnlyIdeal.τ).loc Cert.AdamOnlyIdeal.main_v4_2)),
      θ_run (Cert.AdamOnlyIdeal.defs (F := Ideal)) (onTc (τ := Cert.AdamOnlyIdeal.τ) (Cert.AdamOnlyIdeal.main (F := Ideal))) ⟨m, fun _ => 0, g⟩ (fun r => ∀ c : Dev Cert.AdamOnlyIdeal.nD,
          r.2.mem ((c.tc : Thread Cert.AdamOnlyIdeal.nD Cert.AdamOnlyIdeal.τ).loc Cert.AdamOnlyIdeal.main_v4_0) = v0 c
          ∧ r.2.mem ((c.tc : Thread Cert.AdamOnlyIdeal.nD Cert.AdamOnlyIdeal.τ).loc Cert.AdamOnlyIdeal.main_v4_1) = v1 c
          ∧ r.2.mem ((c.tc : Thread Cert.AdamOnlyIdeal.nD Cert.AdamOnlyIdeal.τ).loc Cert.AdamOnlyIdeal.main_v4_2) = v2 c
          ∧ r.2.mem ((c.tc : Thread Cert.AdamOnlyIdeal.nD Cert.AdamOnlyIdeal.τ).loc Cert.AdamOnlyIdeal.main_arg0) = m ((c.tc : Thread Cert.AdamOnlyIdeal.nD Cert.AdamOnlyIdeal.τ).loc Cert.AdamOnlyIdeal.main_arg0)
          ∧ r.2.mem ((c.tc : Thread Cert.AdamOnlyIdeal.nD Cert.AdamOnlyIdeal.τ).loc Cert.AdamOnlyIdeal.main_arg1) = m ((c.tc : Thread Cert.AdamOnlyIdeal.nD Cert.AdamOnlyIdeal.τ).loc Cert.AdamOnlyIdeal.main_arg1)
          ∧ r.2.mem ((c.tc : Thread Cert.AdamOnlyIdeal.nD Cert.AdamOnlyIdeal.τ).loc Cert.AdamOnlyIdeal.main_arg2) = m ((c.tc : Thread Cert.AdamOnlyIdeal.nD Cert.AdamOnlyIdeal.τ).loc Cert.AdamOnlyIdeal.main_arg2)
          ∧ r.2.mem ((c.tc : Thread Cert.AdamOnlyIdeal.nD Cert.AdamOnlyIdeal.τ).loc Cert.AdamOnlyIdeal.main_arg3) = m ((c.tc : Thread Cert.AdamOnlyIdeal.nD Cert.AdamOnlyIdeal.τ).loc Cert.AdamOnlyIdeal.main_arg3))
      ∧ θ_run (Cert.AdamOnlyRefIdeal.defs (F := Ideal)) (onTc (τ := Cert.AdamOnlyRefIdeal.τ) (Cert.AdamOnlyRefIdeal.main (F := Ideal))) ⟨m', fun _ => 0, g'⟩ (fun r => ∀ c : Dev Cert.AdamOnlyRefIdeal.nD,
          r.2.mem ((c.tc : Thread Cert.AdamOnlyRefIdeal.nD Cert.AdamOnlyRefIdeal.τ).loc Cert.AdamOnlyRefIdeal.main_v27) = v0 c
          ∧ r.2.mem ((c.tc : Thread Cert.AdamOnlyRefIdeal.nD Cert.AdamOnlyRefIdeal.τ).loc Cert.AdamOnlyRefIdeal.main_v8) = v1 c
          ∧ r.2.mem ((c.tc : Thread Cert.AdamOnlyRefIdeal.nD Cert.AdamOnlyRefIdeal.τ).loc Cert.AdamOnlyRefIdeal.main_v14) = v2 c
          ∧ r.2.mem ((c.tc : Thread Cert.AdamOnlyRefIdeal.nD Cert.AdamOnlyRefIdeal.τ).loc Cert.AdamOnlyRefIdeal.main_arg0) = m' ((c.tc : Thread Cert.AdamOnlyRefIdeal.nD Cert.AdamOnlyRefIdeal.τ).loc Cert.AdamOnlyRefIdeal.main_arg0)
          ∧ r.2.mem ((c.tc : Thread Cert.AdamOnlyRefIdeal.nD Cert.AdamOnlyRefIdeal.τ).loc Cert.AdamOnlyRefIdeal.main_arg1) = m' ((c.tc : Thread Cert.AdamOnlyRefIdeal.nD Cert.AdamOnlyRefIdeal.τ).loc Cert.AdamOnlyRefIdeal.main_arg1)
          ∧ r.2.mem ((c.tc : Thread Cert.AdamOnlyRefIdeal.nD Cert.AdamOnlyRefIdeal.τ).loc Cert.AdamOnlyRefIdeal.main_arg2) = m' ((c.tc : Thread Cert.AdamOnlyRefIdeal.nD Cert.AdamOnlyRefIdeal.τ).loc Cert.AdamOnlyRefIdeal.main_arg2)
          ∧ r.2.mem ((c.tc : Thread Cert.AdamOnlyRefIdeal.nD Cert.AdamOnlyRefIdeal.τ).loc Cert.AdamOnlyRefIdeal.main_arg3) = m' ((c.tc : Thread Cert.AdamOnlyRefIdeal.nD Cert.AdamOnlyRefIdeal.τ).loc Cert.AdamOnlyRefIdeal.main_arg3))

def preserves_AdamReplicated_AdamReplicatedIdeal : Prop :=
  True

def algebraic_AdamReplicatedIdeal_AdamReplicatedRefIdeal [hAdamReplicatedIdeal : Cert.AdamReplicatedIdeal.Facts] [hAdamReplicatedRefIdeal : Cert.AdamReplicatedRefIdeal.Facts] : Prop :=
  ∀ (m : (ℓ : Loc Cert.AdamReplicatedIdeal.nD Cert.AdamReplicatedIdeal.τ Cert.AdamReplicatedIdeal.sig) → Buf (Elt Ideal) ℓ) (g : Dev Cert.AdamReplicatedIdeal.nD → PrngReg)
    (m' : (ℓ : Loc Cert.AdamReplicatedRefIdeal.nD Cert.AdamReplicatedRefIdeal.τ Cert.AdamReplicatedRefIdeal.sig) → Buf (Elt Ideal) ℓ) (g' : Dev Cert.AdamReplicatedRefIdeal.nD → PrngReg), Pre_AdamReplicatedIdeal m →
    (∀ c : Dev Cert.AdamReplicatedIdeal.nD,
      m' ((c.tc : Thread Cert.AdamReplicatedRefIdeal.nD Cert.AdamReplicatedRefIdeal.τ).loc Cert.AdamReplicatedRefIdeal.main_arg0) = m ((c.tc : Thread Cert.AdamReplicatedIdeal.nD Cert.AdamReplicatedIdeal.τ).loc Cert.AdamReplicatedIdeal.main_arg0)
      ∧ m' ((c.tc : Thread Cert.AdamReplicatedRefIdeal.nD Cert.AdamReplicatedRefIdeal.τ).loc Cert.AdamReplicatedRefIdeal.main_arg1) = m ((c.tc : Thread Cert.AdamReplicatedIdeal.nD Cert.AdamReplicatedIdeal.τ).loc Cert.AdamReplicatedIdeal.main_arg1)
      ∧ m' ((c.tc : Thread Cert.AdamReplicatedRefIdeal.nD Cert.AdamReplicatedRefIdeal.τ).loc Cert.AdamReplicatedRefIdeal.main_arg2) = m ((c.tc : Thread Cert.AdamReplicatedIdeal.nD Cert.AdamReplicatedIdeal.τ).loc Cert.AdamReplicatedIdeal.main_arg2)
      ∧ m' ((c.tc : Thread Cert.AdamReplicatedRefIdeal.nD Cert.AdamReplicatedRefIdeal.τ).loc Cert.AdamReplicatedRefIdeal.main_arg3) = m ((c.tc : Thread Cert.AdamReplicatedIdeal.nD Cert.AdamReplicatedIdeal.τ).loc Cert.AdamReplicatedIdeal.main_arg3)) →
    ∃ (v0 : (c : Dev Cert.AdamReplicatedIdeal.nD) → Buf (Elt Ideal) ((c.tc : Thread Cert.AdamReplicatedIdeal.nD Cert.AdamReplicatedIdeal.τ).loc Cert.AdamReplicatedIdeal.main_v0_0)) (v1 : (c : Dev Cert.AdamReplicatedIdeal.nD) → Buf (Elt Ideal) ((c.tc : Thread Cert.AdamReplicatedIdeal.nD Cert.AdamReplicatedIdeal.τ).loc Cert.AdamReplicatedIdeal.main_v0_1)) (v2 : (c : Dev Cert.AdamReplicatedIdeal.nD) → Buf (Elt Ideal) ((c.tc : Thread Cert.AdamReplicatedIdeal.nD Cert.AdamReplicatedIdeal.τ).loc Cert.AdamReplicatedIdeal.main_v0_2)) (v3 : (c : Dev Cert.AdamReplicatedIdeal.nD) → Buf (Elt Ideal) ((c.tc : Thread Cert.AdamReplicatedIdeal.nD Cert.AdamReplicatedIdeal.τ).loc Cert.AdamReplicatedIdeal.main_v0_3)),
      θ_run (Cert.AdamReplicatedIdeal.defs (F := Ideal)) (onTc (τ := Cert.AdamReplicatedIdeal.τ) (Cert.AdamReplicatedIdeal.main (F := Ideal))) ⟨m, fun _ => 0, g⟩ (fun r => ∀ c : Dev Cert.AdamReplicatedIdeal.nD,
          r.2.mem ((c.tc : Thread Cert.AdamReplicatedIdeal.nD Cert.AdamReplicatedIdeal.τ).loc Cert.AdamReplicatedIdeal.main_v0_0) = v0 c
          ∧ r.2.mem ((c.tc : Thread Cert.AdamReplicatedIdeal.nD Cert.AdamReplicatedIdeal.τ).loc Cert.AdamReplicatedIdeal.main_v0_1) = v1 c
          ∧ r.2.mem ((c.tc : Thread Cert.AdamReplicatedIdeal.nD Cert.AdamReplicatedIdeal.τ).loc Cert.AdamReplicatedIdeal.main_v0_2) = v2 c
          ∧ r.2.mem ((c.tc : Thread Cert.AdamReplicatedIdeal.nD Cert.AdamReplicatedIdeal.τ).loc Cert.AdamReplicatedIdeal.main_v0_3) = v3 c
          ∧ r.2.mem ((c.tc : Thread Cert.AdamReplicatedIdeal.nD Cert.AdamReplicatedIdeal.τ).loc Cert.AdamReplicatedIdeal.main_arg0) = m ((c.tc : Thread Cert.AdamReplicatedIdeal.nD Cert.AdamReplicatedIdeal.τ).loc Cert.AdamReplicatedIdeal.main_arg0)
          ∧ r.2.mem ((c.tc : Thread Cert.AdamReplicatedIdeal.nD Cert.AdamReplicatedIdeal.τ).loc Cert.AdamReplicatedIdeal.main_arg1) = m ((c.tc : Thread Cert.AdamReplicatedIdeal.nD Cert.AdamReplicatedIdeal.τ).loc Cert.AdamReplicatedIdeal.main_arg1)
          ∧ r.2.mem ((c.tc : Thread Cert.AdamReplicatedIdeal.nD Cert.AdamReplicatedIdeal.τ).loc Cert.AdamReplicatedIdeal.main_arg2) = m ((c.tc : Thread Cert.AdamReplicatedIdeal.nD Cert.AdamReplicatedIdeal.τ).loc Cert.AdamReplicatedIdeal.main_arg2)
          ∧ r.2.mem ((c.tc : Thread Cert.AdamReplicatedIdeal.nD Cert.AdamReplicatedIdeal.τ).loc Cert.AdamReplicatedIdeal.main_arg3) = m ((c.tc : Thread Cert.AdamReplicatedIdeal.nD Cert.AdamReplicatedIdeal.τ).loc Cert.AdamReplicatedIdeal.main_arg3))
      ∧ θ_run (Cert.AdamReplicatedRefIdeal.defs (F := Ideal)) (onTc (τ := Cert.AdamReplicatedRefIdeal.τ) (Cert.AdamReplicatedRefIdeal.main (F := Ideal))) ⟨m', fun _ => 0, g'⟩ (fun r => ∀ c : Dev Cert.AdamReplicatedRefIdeal.nD,
          r.2.mem ((c.tc : Thread Cert.AdamReplicatedRefIdeal.nD Cert.AdamReplicatedRefIdeal.τ).loc Cert.AdamReplicatedRefIdeal.main_v1) = v0 c
          ∧ r.2.mem ((c.tc : Thread Cert.AdamReplicatedRefIdeal.nD Cert.AdamReplicatedRefIdeal.τ).loc Cert.AdamReplicatedRefIdeal.main_v25) = v1 c
          ∧ r.2.mem ((c.tc : Thread Cert.AdamReplicatedRefIdeal.nD Cert.AdamReplicatedRefIdeal.τ).loc Cert.AdamReplicatedRefIdeal.main_v6) = v2 c
          ∧ r.2.mem ((c.tc : Thread Cert.AdamReplicatedRefIdeal.nD Cert.AdamReplicatedRefIdeal.τ).loc Cert.AdamReplicatedRefIdeal.main_v12) = v3 c
          ∧ r.2.mem ((c.tc : Thread Cert.AdamReplicatedRefIdeal.nD Cert.AdamReplicatedRefIdeal.τ).loc Cert.AdamReplicatedRefIdeal.main_arg0) = m' ((c.tc : Thread Cert.AdamReplicatedRefIdeal.nD Cert.AdamReplicatedRefIdeal.τ).loc Cert.AdamReplicatedRefIdeal.main_arg0)
          ∧ r.2.mem ((c.tc : Thread Cert.AdamReplicatedRefIdeal.nD Cert.AdamReplicatedRefIdeal.τ).loc Cert.AdamReplicatedRefIdeal.main_arg1) = m' ((c.tc : Thread Cert.AdamReplicatedRefIdeal.nD Cert.AdamReplicatedRefIdeal.τ).loc Cert.AdamReplicatedRefIdeal.main_arg1)
          ∧ r.2.mem ((c.tc : Thread Cert.AdamReplicatedRefIdeal.nD Cert.AdamReplicatedRefIdeal.τ).loc Cert.AdamReplicatedRefIdeal.main_arg2) = m' ((c.tc : Thread Cert.AdamReplicatedRefIdeal.nD Cert.AdamReplicatedRefIdeal.τ).loc Cert.AdamReplicatedRefIdeal.main_arg2)
          ∧ r.2.mem ((c.tc : Thread Cert.AdamReplicatedRefIdeal.nD Cert.AdamReplicatedRefIdeal.τ).loc Cert.AdamReplicatedRefIdeal.main_arg3) = m' ((c.tc : Thread Cert.AdamReplicatedRefIdeal.nD Cert.AdamReplicatedRefIdeal.τ).loc Cert.AdamReplicatedRefIdeal.main_arg3))

def Claim : Prop :=
  ∃ (hSguBwd : Cert.SguBwd.Facts) (hSguBwdIdeal : Cert.SguBwdIdeal.Facts) (hSguBwdRefIdeal : Cert.SguBwdRefIdeal.Facts) (hPoolBwd : Cert.PoolBwd.Facts) (hPoolBwdIdeal : Cert.PoolBwdIdeal.Facts) (hPoolBwdRefIdeal : Cert.PoolBwdRefIdeal.Facts) (hMixDy : Cert.MixDy.Facts) (hMixDyIdeal : Cert.MixDyIdeal.Facts) (hMixDyRefIdeal : Cert.MixDyRefIdeal.Facts) (hPlePostBwd : Cert.PlePostBwd.Facts) (hPlePostBwdIdeal : Cert.PlePostBwdIdeal.Facts) (hPlePostBwdRefIdeal : Cert.PlePostBwdRefIdeal.Facts) (hFfnDhid : Cert.FfnDhid.Facts) (hFfnDhidIdeal : Cert.FfnDhidIdeal.Facts) (hFfnDhidRefIdeal : Cert.FfnDhidRefIdeal.Facts) (hPleDx : Cert.PleDx.Facts) (hPleDxIdeal : Cert.PleDxIdeal.Facts) (hPleDxRefIdeal : Cert.PleDxRefIdeal.Facts) (hFfn2Dx : Cert.Ffn2Dx.Facts) (hFfn2DxIdeal : Cert.Ffn2DxIdeal.Facts) (hFfn2DxRefIdeal : Cert.Ffn2DxRefIdeal.Facts) (hFfn1Dx : Cert.Ffn1Dx.Facts) (hFfn1DxIdeal : Cert.Ffn1DxIdeal.Facts) (hFfn1DxRefIdeal : Cert.Ffn1DxRefIdeal.Facts) (hMixDx : Cert.MixDx.Facts) (hMixDxIdeal : Cert.MixDxIdeal.Facts) (hMixDxRefIdeal : Cert.MixDxRefIdeal.Facts) (hPleFwd : Cert.PleFwd.Facts) (hPleFwdIdeal : Cert.PleFwdIdeal.Facts) (hPleFwdRefIdeal : Cert.PleFwdRefIdeal.Facts) (hFfnDown : Cert.FfnDown.Facts) (hFfnDownIdeal : Cert.FfnDownIdeal.Facts) (hFfnDownRefIdeal : Cert.FfnDownRefIdeal.Facts) (hMixProj : Cert.MixProj.Facts) (hMixProjIdeal : Cert.MixProjIdeal.Facts) (hMixProjRefIdeal : Cert.MixProjRefIdeal.Facts) (hSguFwd : Cert.SguFwd.Facts) (hSguFwdIdeal : Cert.SguFwdIdeal.Facts) (hSguFwdRefIdeal : Cert.SguFwdRefIdeal.Facts) (hPoolFwd : Cert.PoolFwd.Facts) (hPoolFwdIdeal : Cert.PoolFwdIdeal.Facts) (hPoolFwdRefIdeal : Cert.PoolFwdRefIdeal.Facts) (hMixMerge : Cert.MixMerge.Facts) (hMixMergeIdeal : Cert.MixMergeIdeal.Facts) (hMixMergeRefIdeal : Cert.MixMergeRefIdeal.Facts) (hFfnUp : Cert.FfnUp.Facts) (hFfnUpIdeal : Cert.FfnUpIdeal.Facts) (hFfnUpRefIdeal : Cert.FfnUpRefIdeal.Facts) (hPrenorm : Cert.Prenorm.Facts) (hPrenormIdeal : Cert.PrenormIdeal.Facts) (hPrenormRefIdeal : Cert.PrenormRefIdeal.Facts) (hFfn1Up : Cert.Ffn1Up.Facts) (hFfn1UpIdeal : Cert.Ffn1UpIdeal.Facts) (hFfn1UpRefIdeal : Cert.Ffn1UpRefIdeal.Facts) (hMixIn : Cert.MixIn.Facts) (hMixInIdeal : Cert.MixInIdeal.Facts) (hMixInRefIdeal : Cert.MixInRefIdeal.Facts) (hFfnDwd : Cert.FfnDwd.Facts) (hFfnDwdIdeal : Cert.FfnDwdIdeal.Facts) (hFfnDwdRefIdeal : Cert.FfnDwdRefIdeal.Facts) (hFfnDwIn : Cert.FfnDwIn.Facts) (hFfnDwInIdeal : Cert.FfnDwInIdeal.Facts) (hFfnDwInRefIdeal : Cert.FfnDwInRefIdeal.Facts) (hFfn1Gate : Cert.Ffn1Gate.Facts) (hFfn1GateIdeal : Cert.Ffn1GateIdeal.Facts) (hFfn1GateRefIdeal : Cert.Ffn1GateRefIdeal.Facts) (hReduceAdam : Cert.ReduceAdam.Facts) (hReduceAdamIdeal : Cert.ReduceAdamIdeal.Facts) (hReduceAdamRefIdeal : Cert.ReduceAdamRefIdeal.Facts) (hReduceOnly : Cert.ReduceOnly.Facts) (hReduceOnlyIdeal : Cert.ReduceOnlyIdeal.Facts) (hReduceOnlyRefIdeal : Cert.ReduceOnlyRefIdeal.Facts) (hAdamOnly : Cert.AdamOnly.Facts) (hAdamOnlyIdeal : Cert.AdamOnlyIdeal.Facts) (hAdamOnlyRefIdeal : Cert.AdamOnlyRefIdeal.Facts) (hAdamReplicated : Cert.AdamReplicated.Facts) (hAdamReplicatedIdeal : Cert.AdamReplicatedIdeal.Facts) (hAdamReplicatedRefIdeal : Cert.AdamReplicatedRefIdeal.Facts) (hPre_sgu_bwd_finite : Cert.Pre_sgu_bwd_finite.Facts) (hPre_pool_bwd_finite : Cert.Pre_pool_bwd_finite.Facts) (hPre_ple_post_bwd_finite : Cert.Pre_ple_post_bwd_finite.Facts) (hPre_ffn_dhid_finite : Cert.Pre_ffn_dhid_finite.Facts) (hPre_ple_dx_finite : Cert.Pre_ple_dx_finite.Facts) (hPre_ffn2_dx_finite : Cert.Pre_ffn2_dx_finite.Facts) (hPre_ffn1_dx_finite : Cert.Pre_ffn1_dx_finite.Facts) (hPre_mix_dx_finite : Cert.Pre_mix_dx_finite.Facts) (hPre_pool_fwd_finite : Cert.Pre_pool_fwd_finite.Facts) (hOn_mix_dy_written : Cert.On_mix_dy_written.Facts),
    quiescent_SguBwd (hSguBwd := hSguBwd)
    ∧ quiescent_SguBwdIdeal (hSguBwdIdeal := hSguBwdIdeal)
    ∧ quiescent_SguBwdIdeal_pre_sgu_bwd_finite (hSguBwdIdeal := hSguBwdIdeal) (hPre_sgu_bwd_finite := hPre_sgu_bwd_finite)
    ∧ quiescent_SguBwdRefIdeal (hSguBwdRefIdeal := hSguBwdRefIdeal)
    ∧ quiescent_SguBwdRefIdeal_pre_sgu_bwd_finite (hSguBwdRefIdeal := hSguBwdRefIdeal) (hPre_sgu_bwd_finite := hPre_sgu_bwd_finite)
    ∧ quiescent_PoolBwd (hPoolBwd := hPoolBwd)
    ∧ quiescent_PoolBwdIdeal (hPoolBwdIdeal := hPoolBwdIdeal)
    ∧ quiescent_PoolBwdIdeal_pre_pool_bwd_finite (hPoolBwdIdeal := hPoolBwdIdeal) (hPre_pool_bwd_finite := hPre_pool_bwd_finite)
    ∧ quiescent_PoolBwdRefIdeal (hPoolBwdRefIdeal := hPoolBwdRefIdeal)
    ∧ quiescent_PoolBwdRefIdeal_pre_pool_bwd_finite (hPoolBwdRefIdeal := hPoolBwdRefIdeal) (hPre_pool_bwd_finite := hPre_pool_bwd_finite)
    ∧ quiescent_MixDy (hMixDy := hMixDy)
    ∧ quiescent_MixDyIdeal (hMixDyIdeal := hMixDyIdeal)
    ∧ quiescent_MixDyRefIdeal (hMixDyRefIdeal := hMixDyRefIdeal)
    ∧ quiescent_PlePostBwd (hPlePostBwd := hPlePostBwd)
    ∧ quiescent_PlePostBwdIdeal (hPlePostBwdIdeal := hPlePostBwdIdeal)
    ∧ quiescent_PlePostBwdIdeal_pre_ple_post_bwd_finite (hPlePostBwdIdeal := hPlePostBwdIdeal) (hPre_ple_post_bwd_finite := hPre_ple_post_bwd_finite)
    ∧ quiescent_PlePostBwdRefIdeal (hPlePostBwdRefIdeal := hPlePostBwdRefIdeal)
    ∧ quiescent_PlePostBwdRefIdeal_pre_ple_post_bwd_finite (hPlePostBwdRefIdeal := hPlePostBwdRefIdeal) (hPre_ple_post_bwd_finite := hPre_ple_post_bwd_finite)
    ∧ quiescent_FfnDhid (hFfnDhid := hFfnDhid)
    ∧ quiescent_FfnDhidIdeal (hFfnDhidIdeal := hFfnDhidIdeal)
    ∧ quiescent_FfnDhidIdeal_pre_ffn_dhid_finite (hFfnDhidIdeal := hFfnDhidIdeal) (hPre_ffn_dhid_finite := hPre_ffn_dhid_finite)
    ∧ quiescent_FfnDhidRefIdeal (hFfnDhidRefIdeal := hFfnDhidRefIdeal)
    ∧ quiescent_FfnDhidRefIdeal_pre_ffn_dhid_finite (hFfnDhidRefIdeal := hFfnDhidRefIdeal) (hPre_ffn_dhid_finite := hPre_ffn_dhid_finite)
    ∧ quiescent_PleDx (hPleDx := hPleDx)
    ∧ quiescent_PleDxIdeal (hPleDxIdeal := hPleDxIdeal)
    ∧ quiescent_PleDxIdeal_pre_ple_dx_finite (hPleDxIdeal := hPleDxIdeal) (hPre_ple_dx_finite := hPre_ple_dx_finite)
    ∧ quiescent_PleDxRefIdeal (hPleDxRefIdeal := hPleDxRefIdeal)
    ∧ quiescent_PleDxRefIdeal_pre_ple_dx_finite (hPleDxRefIdeal := hPleDxRefIdeal) (hPre_ple_dx_finite := hPre_ple_dx_finite)
    ∧ quiescent_Ffn2Dx (hFfn2Dx := hFfn2Dx)
    ∧ quiescent_Ffn2DxIdeal (hFfn2DxIdeal := hFfn2DxIdeal)
    ∧ quiescent_Ffn2DxIdeal_pre_ffn2_dx_finite (hFfn2DxIdeal := hFfn2DxIdeal) (hPre_ffn2_dx_finite := hPre_ffn2_dx_finite)
    ∧ quiescent_Ffn2DxRefIdeal (hFfn2DxRefIdeal := hFfn2DxRefIdeal)
    ∧ quiescent_Ffn2DxRefIdeal_pre_ffn2_dx_finite (hFfn2DxRefIdeal := hFfn2DxRefIdeal) (hPre_ffn2_dx_finite := hPre_ffn2_dx_finite)
    ∧ quiescent_Ffn1Dx (hFfn1Dx := hFfn1Dx)
    ∧ quiescent_Ffn1DxIdeal (hFfn1DxIdeal := hFfn1DxIdeal)
    ∧ quiescent_Ffn1DxIdeal_pre_ffn1_dx_finite (hFfn1DxIdeal := hFfn1DxIdeal) (hPre_ffn1_dx_finite := hPre_ffn1_dx_finite)
    ∧ quiescent_Ffn1DxRefIdeal (hFfn1DxRefIdeal := hFfn1DxRefIdeal)
    ∧ quiescent_Ffn1DxRefIdeal_pre_ffn1_dx_finite (hFfn1DxRefIdeal := hFfn1DxRefIdeal) (hPre_ffn1_dx_finite := hPre_ffn1_dx_finite)
    ∧ quiescent_MixDx (hMixDx := hMixDx)
    ∧ quiescent_MixDxIdeal (hMixDxIdeal := hMixDxIdeal)
    ∧ quiescent_MixDxIdeal_pre_mix_dx_finite (hMixDxIdeal := hMixDxIdeal) (hPre_mix_dx_finite := hPre_mix_dx_finite)
    ∧ quiescent_MixDxRefIdeal (hMixDxRefIdeal := hMixDxRefIdeal)
    ∧ quiescent_MixDxRefIdeal_pre_mix_dx_finite (hMixDxRefIdeal := hMixDxRefIdeal) (hPre_mix_dx_finite := hPre_mix_dx_finite)
    ∧ quiescent_PleFwd (hPleFwd := hPleFwd)
    ∧ quiescent_PleFwdIdeal (hPleFwdIdeal := hPleFwdIdeal)
    ∧ quiescent_PleFwdRefIdeal (hPleFwdRefIdeal := hPleFwdRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_MixProj (hMixProj := hMixProj)
    ∧ quiescent_MixProjIdeal (hMixProjIdeal := hMixProjIdeal)
    ∧ quiescent_MixProjRefIdeal (hMixProjRefIdeal := hMixProjRefIdeal)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_PoolFwd (hPoolFwd := hPoolFwd)
    ∧ quiescent_PoolFwdIdeal (hPoolFwdIdeal := hPoolFwdIdeal)
    ∧ quiescent_PoolFwdIdeal_pre_pool_fwd_finite (hPoolFwdIdeal := hPoolFwdIdeal) (hPre_pool_fwd_finite := hPre_pool_fwd_finite)
    ∧ quiescent_PoolFwdRefIdeal (hPoolFwdRefIdeal := hPoolFwdRefIdeal)
    ∧ quiescent_PoolFwdRefIdeal_pre_pool_fwd_finite (hPoolFwdRefIdeal := hPoolFwdRefIdeal) (hPre_pool_fwd_finite := hPre_pool_fwd_finite)
    ∧ quiescent_MixMerge (hMixMerge := hMixMerge)
    ∧ quiescent_MixMergeIdeal (hMixMergeIdeal := hMixMergeIdeal)
    ∧ quiescent_MixMergeRefIdeal (hMixMergeRefIdeal := hMixMergeRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_Ffn1Up (hFfn1Up := hFfn1Up)
    ∧ quiescent_Ffn1UpIdeal (hFfn1UpIdeal := hFfn1UpIdeal)
    ∧ quiescent_Ffn1UpRefIdeal (hFfn1UpRefIdeal := hFfn1UpRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_FfnDwd (hFfnDwd := hFfnDwd)
    ∧ quiescent_FfnDwdIdeal (hFfnDwdIdeal := hFfnDwdIdeal)
    ∧ quiescent_FfnDwdRefIdeal (hFfnDwdRefIdeal := hFfnDwdRefIdeal)
    ∧ quiescent_FfnDwIn (hFfnDwIn := hFfnDwIn)
    ∧ quiescent_FfnDwInIdeal (hFfnDwInIdeal := hFfnDwInIdeal)
    ∧ quiescent_FfnDwInRefIdeal (hFfnDwInRefIdeal := hFfnDwInRefIdeal)
    ∧ quiescent_Ffn1Gate (hFfn1Gate := hFfn1Gate)
    ∧ quiescent_Ffn1GateIdeal (hFfn1GateIdeal := hFfn1GateIdeal)
    ∧ quiescent_Ffn1GateRefIdeal (hFfn1GateRefIdeal := hFfn1GateRefIdeal)
    ∧ quiescent_ReduceAdam (hReduceAdam := hReduceAdam)
    ∧ quiescent_ReduceAdamIdeal (hReduceAdamIdeal := hReduceAdamIdeal)
    ∧ quiescent_ReduceAdamRefIdeal (hReduceAdamRefIdeal := hReduceAdamRefIdeal)
    ∧ quiescent_ReduceOnly (hReduceOnly := hReduceOnly)
    ∧ quiescent_ReduceOnlyIdeal (hReduceOnlyIdeal := hReduceOnlyIdeal)
    ∧ quiescent_ReduceOnlyRefIdeal (hReduceOnlyRefIdeal := hReduceOnlyRefIdeal)
    ∧ quiescent_AdamOnly (hAdamOnly := hAdamOnly)
    ∧ quiescent_AdamOnlyIdeal (hAdamOnlyIdeal := hAdamOnlyIdeal)
    ∧ quiescent_AdamOnlyRefIdeal (hAdamOnlyRefIdeal := hAdamOnlyRefIdeal)
    ∧ quiescent_AdamReplicated (hAdamReplicated := hAdamReplicated)
    ∧ quiescent_AdamReplicatedIdeal (hAdamReplicatedIdeal := hAdamReplicatedIdeal)
    ∧ quiescent_AdamReplicatedRefIdeal (hAdamReplicatedRefIdeal := hAdamReplicatedRefIdeal)
    ∧ preserves_SguBwd_SguBwdIdeal
    ∧ algebraic_SguBwdIdeal_SguBwdRefIdeal_pre_sgu_bwd_finite (hSguBwdIdeal := hSguBwdIdeal) (hSguBwdRefIdeal := hSguBwdRefIdeal) (hPre_sgu_bwd_finite := hPre_sgu_bwd_finite)
    ∧ preserves_PoolBwd_PoolBwdIdeal
    ∧ algebraic_PoolBwdIdeal_PoolBwdRefIdeal_pre_pool_bwd_finite (hPoolBwdIdeal := hPoolBwdIdeal) (hPoolBwdRefIdeal := hPoolBwdRefIdeal) (hPre_pool_bwd_finite := hPre_pool_bwd_finite)
    ∧ preserves_MixDy_MixDyIdeal
    ∧ algebraic_MixDyIdeal_MixDyRefIdeal_on_mix_dy_written (hMixDyIdeal := hMixDyIdeal) (hMixDyRefIdeal := hMixDyRefIdeal) (hOn_mix_dy_written := hOn_mix_dy_written)
    ∧ preserves_PlePostBwd_PlePostBwdIdeal
    ∧ algebraic_PlePostBwdIdeal_PlePostBwdRefIdeal_pre_ple_post_bwd_finite (hPlePostBwdIdeal := hPlePostBwdIdeal) (hPlePostBwdRefIdeal := hPlePostBwdRefIdeal) (hPre_ple_post_bwd_finite := hPre_ple_post_bwd_finite)
    ∧ preserves_FfnDhid_FfnDhidIdeal
    ∧ algebraic_FfnDhidIdeal_FfnDhidRefIdeal_pre_ffn_dhid_finite (hFfnDhidIdeal := hFfnDhidIdeal) (hFfnDhidRefIdeal := hFfnDhidRefIdeal) (hPre_ffn_dhid_finite := hPre_ffn_dhid_finite)
    ∧ preserves_PleDx_PleDxIdeal
    ∧ algebraic_PleDxIdeal_PleDxRefIdeal_pre_ple_dx_finite (hPleDxIdeal := hPleDxIdeal) (hPleDxRefIdeal := hPleDxRefIdeal) (hPre_ple_dx_finite := hPre_ple_dx_finite)
    ∧ preserves_Ffn2Dx_Ffn2DxIdeal
    ∧ algebraic_Ffn2DxIdeal_Ffn2DxRefIdeal_pre_ffn2_dx_finite (hFfn2DxIdeal := hFfn2DxIdeal) (hFfn2DxRefIdeal := hFfn2DxRefIdeal) (hPre_ffn2_dx_finite := hPre_ffn2_dx_finite)
    ∧ preserves_Ffn1Dx_Ffn1DxIdeal
    ∧ algebraic_Ffn1DxIdeal_Ffn1DxRefIdeal_pre_ffn1_dx_finite (hFfn1DxIdeal := hFfn1DxIdeal) (hFfn1DxRefIdeal := hFfn1DxRefIdeal) (hPre_ffn1_dx_finite := hPre_ffn1_dx_finite)
    ∧ preserves_MixDx_MixDxIdeal
    ∧ algebraic_MixDxIdeal_MixDxRefIdeal_pre_mix_dx_finite (hMixDxIdeal := hMixDxIdeal) (hMixDxRefIdeal := hMixDxRefIdeal) (hPre_mix_dx_finite := hPre_mix_dx_finite)
    ∧ preserves_PleFwd_PleFwdIdeal
    ∧ algebraic_PleFwdIdeal_PleFwdRefIdeal (hPleFwdIdeal := hPleFwdIdeal) (hPleFwdRefIdeal := hPleFwdRefIdeal)
    ∧ preserves_FfnDown_FfnDownIdeal
    ∧ algebraic_FfnDownIdeal_FfnDownRefIdeal (hFfnDownIdeal := hFfnDownIdeal) (hFfnDownRefIdeal := hFfnDownRefIdeal)
    ∧ preserves_MixProj_MixProjIdeal
    ∧ algebraic_MixProjIdeal_MixProjRefIdeal (hMixProjIdeal := hMixProjIdeal) (hMixProjRefIdeal := hMixProjRefIdeal)
    ∧ preserves_SguFwd_SguFwdIdeal
    ∧ algebraic_SguFwdIdeal_SguFwdRefIdeal (hSguFwdIdeal := hSguFwdIdeal) (hSguFwdRefIdeal := hSguFwdRefIdeal)
    ∧ preserves_PoolFwd_PoolFwdIdeal
    ∧ algebraic_PoolFwdIdeal_PoolFwdRefIdeal_pre_pool_fwd_finite (hPoolFwdIdeal := hPoolFwdIdeal) (hPoolFwdRefIdeal := hPoolFwdRefIdeal) (hPre_pool_fwd_finite := hPre_pool_fwd_finite)
    ∧ preserves_MixMerge_MixMergeIdeal
    ∧ algebraic_MixMergeIdeal_MixMergeRefIdeal (hMixMergeIdeal := hMixMergeIdeal) (hMixMergeRefIdeal := hMixMergeRefIdeal)
    ∧ preserves_FfnUp_FfnUpIdeal
    ∧ algebraic_FfnUpIdeal_FfnUpRefIdeal (hFfnUpIdeal := hFfnUpIdeal) (hFfnUpRefIdeal := hFfnUpRefIdeal)
    ∧ preserves_Prenorm_PrenormIdeal
    ∧ algebraic_PrenormIdeal_PrenormRefIdeal (hPrenormIdeal := hPrenormIdeal) (hPrenormRefIdeal := hPrenormRefIdeal)
    ∧ preserves_Ffn1Up_Ffn1UpIdeal
    ∧ algebraic_Ffn1UpIdeal_Ffn1UpRefIdeal (hFfn1UpIdeal := hFfn1UpIdeal) (hFfn1UpRefIdeal := hFfn1UpRefIdeal)
    ∧ preserves_MixIn_MixInIdeal
    ∧ algebraic_MixInIdeal_MixInRefIdeal (hMixInIdeal := hMixInIdeal) (hMixInRefIdeal := hMixInRefIdeal)
    ∧ preserves_FfnDwd_FfnDwdIdeal
    ∧ algebraic_FfnDwdIdeal_FfnDwdRefIdeal (hFfnDwdIdeal := hFfnDwdIdeal) (hFfnDwdRefIdeal := hFfnDwdRefIdeal)
    ∧ preserves_FfnDwIn_FfnDwInIdeal
    ∧ algebraic_FfnDwInIdeal_FfnDwInRefIdeal (hFfnDwInIdeal := hFfnDwInIdeal) (hFfnDwInRefIdeal := hFfnDwInRefIdeal)
    ∧ preserves_Ffn1Gate_Ffn1GateIdeal
    ∧ algebraic_Ffn1GateIdeal_Ffn1GateRefIdeal (hFfn1GateIdeal := hFfn1GateIdeal) (hFfn1GateRefIdeal := hFfn1GateRefIdeal)
    ∧ preserves_ReduceAdam_ReduceAdamIdeal
    ∧ algebraic_ReduceAdamIdeal_ReduceAdamRefIdeal (hReduceAdamIdeal := hReduceAdamIdeal) (hReduceAdamRefIdeal := hReduceAdamRefIdeal)
    ∧ preserves_ReduceOnly_ReduceOnlyIdeal
    ∧ algebraic_ReduceOnlyIdeal_ReduceOnlyRefIdeal (hReduceOnlyIdeal := hReduceOnlyIdeal) (hReduceOnlyRefIdeal := hReduceOnlyRefIdeal)
    ∧ preserves_AdamOnly_AdamOnlyIdeal
    ∧ algebraic_AdamOnlyIdeal_AdamOnlyRefIdeal (hAdamOnlyIdeal := hAdamOnlyIdeal) (hAdamOnlyRefIdeal := hAdamOnlyRefIdeal)
    ∧ preserves_AdamReplicated_AdamReplicatedIdeal
    ∧ algebraic_AdamReplicatedIdeal_AdamReplicatedRefIdeal (hAdamReplicatedIdeal := hAdamReplicatedIdeal) (hAdamReplicatedRefIdeal := hAdamReplicatedRefIdeal)
-- ==== On_mix_dy_written.lean ====
abbrev S4096x1024 : Shape := ⟨2, ![4096, 1024]⟩
abbrev S1x1024x1024 : Shape := ⟨3, ![1, 1024, 1024]⟩
abbrev S4096x5120 : Shape := ⟨2, ![4096, 5120]⟩
abbrev S_ : Shape := ⟨0, ![]⟩
abbrev S4096x2048 : Shape := ⟨2, ![4096, 2048]⟩

class Facts : Prop where
  bcast_S_S4096x2048 : S_.BroadcastsInDim S4096x2048 (![] : Fin 0 → Fin S4096x2048.rank)
  bcast_S_S4096x5120 : S_.BroadcastsInDim S4096x5120 (![] : Fin 0 → Fin S4096x5120.rank)

variable [Facts]

def fn {F : FTy → Type} [FloatOps F] (main_arg0 : FVec F S4096x1024 .bf16) (main_arg1 : FVec F S1x1024x1024 .f32) (main_arg2 : FVec F S4096x5120 .bf16) (main_arg3 : FVec F S4096x1024 .bf16) (main_arg4 : FVec F S4096x1024 .bf16) : IVec S4096x2048 1 × IVec S4096x5120 1 :=
  let main_c : IVec S_ 1 := constantI S_ 1 1#1
  let main_v0 : IVec S4096x2048 1 := broadcastInDim S4096x2048 ![] bcast_S_S4096x2048 main_c
  let main_v1 : IVec S4096x5120 32 := iotaInDim S4096x5120 32 1
  let main_c_0 : IVec S_ 32 := constantI S_ 32 3072#32
  let main_v2 : IVec S4096x5120 32 := broadcastInDim S4096x5120 ![] bcast_S_S4096x5120 main_c_0
  let main_v3 : IVec S4096x5120 1 := cmpi .sge main_v1 main_v2
  (main_v0, main_v3)
-- ==== Pre_ffn1_dx_finite.lean ====
abbrev S1x4096x1024 : Shape := ⟨3, ![1, 4096, 1024]⟩
abbrev S1x1024 : Shape := ⟨2, ![1, 1024]⟩
abbrev S1x1024x2816 : Shape := ⟨3, ![1, 1024, 2816]⟩
abbrev S4096x1024 : Shape := ⟨2, ![4096, 1024]⟩
abbrev S4096x2816 : Shape := ⟨2, ![4096, 2816]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_arg4 : FVec F S4096x1024 .f32) (main_arg5 : FVec F S4096x2816 .bf16) (main_arg6 : FVec F S4096x2816 .bf16) (main_v13 : IVec S_ 1) (main_v16 : IVec S1x1024x2816 1) : IVec S_ 1 :=
  let main_c_5 : IVec S_ 1 := constantI S_ 1 1#1
  let main_v17 : IVec S_ 1 := (fun x v => Host.reduce IntOp.andi x v reducesTo_S1x1024x2816_S_d0_1_2 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x2816 .bf16 := Host.absf main_arg5
  let main_cst_8 : FVec F S_ .bf16 := constant S_ .bf16 0x7F80#16
  let main_v25 : FVec F S4096x2816 .bf16 := broadcastInDim S4096x2816 ![] bcast_S_S4096x2816 main_cst_8
  let main_v26 : IVec S4096x2816 1 := cmpf .olt main_v24 main_v25
  let main_c_9 : IVec S_ 1 := constantI S_ 1 1#1
  let main_v27 : IVec S_ 1 := (fun x v => Host.reduce IntOp.andi x v reducesTo_S4096x2816_S_d0_1 h_S_) main_v26 main_c_9
  let main_v28 : IVec S_ 1 := andi main_v23 main_v27
  let main_v29 : FVec F S4096x2816 .bf16 := Host.absf main_arg6
  let main_cst_10 : FVec F S_ .bf16 := constant S_ .bf16 0x7F80#16
  let main_v30 : FVec F S4096x2816 .bf16 := broadcastInDim S4096x2816 ![] bcast_S_S4096x2816 main_cst_10
  let main_v31 : IVec S4096x2816 1 := cmpf .olt main_v29 main_v30
  let main_c_11 : IVec S_ 1 := constantI S_ 1 1#1
  let main_v32 : IVec S_ 1 := (fun x v => Host.reduce IntOp.andi x v reducesTo_S4096x2816_S_d0_1 h_S_) main_v31 main_c_11
  let main_v33 : IVec S_ 1 := andi main_v28 main_v32
  main_v33

def fn {F : FTy → Type} [FloatOps F] (main_arg0 : FVec F S1x4096x1024 .f32) (main_arg1 : FVec F S1x1024 .f32) (main_arg2 : FVec F S1x1024x2816 .f32) (main_arg3 : FVec F S1x1024x2816 .f32) (main_arg4 : FVec F S4096x1024 .f32) (main_arg5 : FVec F S4096x2816 .bf16) (main_arg6 : FVec F S4096x2816 .bf16) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2816 .f32 := Host.absf main_arg2
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_c_3 : IVec S_ 1 := constantI S_ 1 1#1
  let main_v12 : IVec S_ 1 := (fun x v => Host.reduce IntOp.andi x v reducesTo_S1x1024x2816_S_d0_1_2 h_S_) main_v11 main_c_3
  let main_v13 : IVec S_ 1 := andi main_v8 main_v12
  let main_v14 : FVec F S1x1024x2816 .f32 := Host.absf main_arg3
  let main_cst_4 : FVec F S_ .f32 := constant S_ .f32 0x7F800000#32
  let main_v15 : FVec F S1x1024x2816 .f32 := broadcastInDim S1x1024x2816 ![] bcast_S_S1x1024x2816 main_cst_4
  let main_v16 : IVec S1x1024x2816 1 := cmpf .olt main_v14 main_v15
  fn_part1 (F := F) main_arg4 main_arg5 main_arg6 main_v13 main_v16
-- ==== Pre_ffn2_dx_finite.lean ====
abbrev S4096x1024 : Shape := ⟨2, ![4096, 1024]⟩
abbrev S1x1024 : Shape := ⟨2, ![1, 1024]⟩
abbrev S1x1024x2816 : Shape := ⟨3, ![1, 1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S4096x2816 : S_.BroadcastsInDim S4096x2816 (![] : Fin 0 → Fin S4096x2816.rank)
  reducesTo_S4096x2816_S_d0_1 : S4096x2816.ReducesTo [0, 1] S_

variable [Facts]

def fn_part2 {F : FTy → Type} [FloatOps F] (main_arg7 : FVec F S4096x2816 .bf16) (main_arg8 : FVec F S4096x2816 .bf16) (main_v33 : IVec S_ 1) : IVec S_ 1 :=
  let main_v34 : FVec F S4096x2816 .bf16 := Host.absf main_arg7
  let main_cst_12 : FVec F S_ .bf16 := constant S_ .bf16 0x7F80#16
  let main_v35 : FVec F S4096x2816 .bf16 := broadcastInDim S4096x2816 ![] bcast_S_S4096x2816 main_cst_12
  let main_v36 : IVec S4096x2816 1 := cmpf .olt main_v34 main_v35
  let main_c_13 : IVec S_ 1 := constantI S_ 1 1#1
  let main_v37 : IVec S_ 1 := (fun x v => Host.reduce IntOp.andi x v reducesTo_S4096x2816_S_d0_1 h_S_) main_v36 main_c_13
  let main_v38 : IVec S_ 1 := andi main_v33 main_v37
  let main_v39 : FVec F S4096x2816 .bf16 := Host.absf main_arg8
  let main_cst_14 : FVec F S_ .bf16 := constant S_ .bf16 0x7F80#16
  let main_v40 : FVec F S4096x2816 .bf16 := broadcastInDim S4096x2816 ![] bcast_S_S4096x2816 main_cst_14
  let main_v41 : IVec S4096x2816 1 := cmpf .olt main_v39 main_v40
  let main_c_15 : IVec S_ 1 := constantI S_ 1 1#1
  let main_v42 : IVec S_ 1 := (fun x v => Host.reduce IntOp.andi x v reducesTo_S4096x2816_S_d0_1 h_S_) main_v41 main_c_15
  let main_v43 : IVec S_ 1 := andi main_v38 main_v42
  main_v43

def fn_part1 {F : FTy → Type} [FloatOps F] (main_arg4 : FVec F S1x1024x2816 .f32) (main_arg5 : FVec F S1x1024x2816 .f32) (main_arg6 : FVec F S4096x1024 .f32) (main_arg7 : FVec F S4096x2816 .bf16) (main_arg8 : FVec F S4096x2816 .bf16) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x2816 .f32 := Host.absf main_arg4
  let main_cst_6 : FVec F S_ .f32 := constant S_ .f32 0x7F800000#32
  let main_v20 : FVec F S1x1024x2816 .f32 := broadcastInDim S1x1024x2816 ![] bcast_S_S1x1024x2816 main_cst_6
  let main_v21 : IVec S1x1024x2816 1 := cmpf .olt main_v19 main_v20
  let main_c_7 : IVec S_ 1 := constantI S_ 1 1#1
  let main_v22 : IVec S_ 1 := (fun x v => Host.reduce IntOp.andi x v reducesTo_S1x1024x2816_S_d0_1_2 h_S_) main_v21 main_c_7
  let main_v23 : IVec S_ 1 := andi main_v18 main_v22
  let main_v24 : FVec F S1x1024x2816 .f32 := Host.absf main_arg5
  let main_cst_8 : FVec F S_ .f32 := constant S_ .f32 0x7F800000#32
  let main_v25 : FVec F S1x1024x2816 .f32 := broadcastInDim S1x1024x2816 ![] bcast_S_S1x1024x2816 main_cst_8
  let main_v26 : IVec S1x1024x2816 1 := cmpf .olt main_v24 main_v25
  let main_c_9 : IVec S_ 1 := constantI S_ 1 1#1
  let main_v27 : IVec S_ 1 := (fun x v => Host.reduce IntOp.andi x v reducesTo_S1x1024x2816_S_d0_1_2 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S1x1024x2816 .f32) (main_arg5 : FVec F S1x1024x2816 .f32) (main_arg6 : FVec F S4096x1024 .f32) (main_arg7 : FVec F S4096x2816 .bf16) (main_arg8 : FVec F S4096x2816 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_arg8 main_v13 main_v16
-- ==== Pre_ffn_dhid_finite.lean ====
abbrev S4096x2816 : Shape := ⟨2, ![4096, 2816]⟩
abbrev S1x2816x1024 : Shape := ⟨3, ![1, 2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x2816 .bf16) (main_arg1 : FVec F S4096x2816 .bf16) (main_arg2 : FVec F S1x2816x1024 .f32) (main_arg3 : FVec F S4096x1024 .bf16) : IVec S_ 1 :=
  let main_v0 : FVec F S4096x2816 .bf16 := Host.absf main_arg0
  let main_cst : FVec F S_ .bf16 := constant S_ .bf16 0x7F80#16
  let main_v1 : FVec F S4096x2816 .bf16 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S4096x2816 .bf16 := Host.absf main_arg1
  let main_cst_0 : FVec F S_ .bf16 := constant S_ .bf16 0x7F80#16
  let main_v5 : FVec F S4096x2816 .bf16 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  let main_v9 : FVec F S1x2816x1024 .f32 := Host.absf main_arg2
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_c_3 : IVec S_ 1 := constantI S_ 1 1#1
  let main_v12 : IVec S_ 1 := (fun x v => Host.reduce IntOp.andi x v reducesTo_S1x2816x1024_S_d0_1_2 h_S_) main_v11 main_c_3
  let main_v13 : IVec S_ 1 := andi main_v8 main_v12
  let main_v14 : FVec F S4096x1024 .bf16 := Host.absf main_arg3
  let main_cst_4 : FVec F S_ .bf16 := constant S_ .bf16 0x7F80#16
  let main_v15 : FVec F S4096x1024 .bf16 := broadcastInDim S4096x1024 ![] bcast_S_S4096x1024 main_cst_4
  let main_v16 : IVec S4096x1024 1 := cmpf .olt main_v14 main_v15
  fn_part1 (F := F) main_v13 main_v16
-- ==== Pre_mix_dx_finite.lean ====
abbrev S1x4096x1024 : Shape := ⟨3, ![1, 4096, 1024]⟩
abbrev S4096x1024 : Shape := ⟨2, ![4096, 1024]⟩
abbrev S1x1024 : Shape := ⟨2, ![1, 1024]⟩
abbrev S1x1024x5120 : Shape := ⟨3, ![1, 1024, 5120]⟩
abbrev S4096x5120 : Shape := ⟨2, ![4096, 5120]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x5120 : S_.BroadcastsInDim S1x1024x5120 (![] : Fin 0 → Fin S1x1024x5120.rank)
  reducesTo_S1x1024x5120_S_d0_1_2 : S1x1024x5120.ReducesTo [0, 1, 2] S_
  bcast_S_S4096x5120 : S_.BroadcastsInDim S4096x5120 (![] : Fin 0 → Fin S4096x5120.rank)
  reducesTo_S4096x5120_S_d0_1 : S4096x5120.ReducesTo [0, 1] S_

variable [Facts]

def fn_part1 {F : FTy → Type} [FloatOps F] (main_arg4 : FVec F S1x1024x5120 .f32) (main_arg5 : FVec F S4096x1024 .f32) (main_arg6 : FVec F S4096x5120 .bf16) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x5120 .f32 := Host.absf main_arg4
  let main_cst_6 : FVec F S_ .f32 := constant S_ .f32 0x7F800000#32
  let main_v20 : FVec F S1x1024x5120 .f32 := broadcastInDim S1x1024x5120 ![] bcast_S_S1x1024x5120 main_cst_6
  let main_v21 : IVec S1x1024x5120 1 := cmpf .olt main_v19 main_v20
  let main_c_7 : IVec S_ 1 := constantI S_ 1 1#1
  let main_v22 : IVec S_ 1 := (fun x v => Host.reduce IntOp.andi x v reducesTo_S1x1024x5120_S_d0_1_2 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096x5120 .bf16 := Host.absf main_arg6
  let main_cst_10 : FVec F S_ .bf16 := constant S_ .bf16 0x7F80#16
  let main_v30 : FVec F S4096x5120 .bf16 := broadcastInDim S4096x5120 ![] bcast_S_S4096x5120 main_cst_10
  let main_v31 : IVec S4096x5120 1 := cmpf .olt main_v29 main_v30
  let main_c_11 : IVec S_ 1 := constantI S_ 1 1#1
  let main_v32 : IVec S_ 1 := (fun x v => Host.reduce IntOp.andi x v reducesTo_S4096x5120_S_d0_1 h_S_) main_v31 main_c_11
  let main_v33 : IVec S_ 1 := andi main_v28 main_v32
  main_v33

def fn {F : FTy → Type} [FloatOps F] (main_arg0 : FVec F S1x4096x1024 .f32) (main_arg1 : FVec F S4096x1024 .f32) (main_arg2 : FVec F S1x1024 .f32) (main_arg3 : FVec F S1x1024 .f32) (main_arg4 : FVec F S1x1024x5120 .f32) (main_arg5 : FVec F S4096x1024 .f32) (main_arg6 : FVec F S4096x5120 .bf16) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Pre_ple_dx_finite.lean ====
abbrev S4096x1024 : Shape := ⟨2, ![4096, 1024]⟩
abbrev S1x1024 : Shape := ⟨2, ![1, 1024]⟩
abbrev S1x1024x1024 : Shape := ⟨3, ![1, 1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part1 {F : FTy → Type} [FloatOps F] (main_arg4 : FVec F S1x1024x1024 .f32) (main_arg5 : FVec F S4096x1024 .f32) (main_arg6 : FVec F S4096x1024 .bf16) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x1024 .f32 := Host.absf main_arg4
  let main_cst_6 : FVec F S_ .f32 := constant S_ .f32 0x7F800000#32
  let main_v20 : FVec F S1x1024x1024 .f32 := broadcastInDim S1x1024x1024 ![] bcast_S_S1x1024x1024 main_cst_6
  let main_v21 : IVec S1x1024x1024 1 := cmpf .olt main_v19 main_v20
  let main_c_7 : IVec S_ 1 := constantI S_ 1 1#1
  let main_v22 : IVec S_ 1 := (fun x v => Host.reduce IntOp.andi x v reducesTo_S1x1024x1024_S_d0_1_2 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096x1024 .bf16 := Host.absf main_arg6
  let main_cst_10 : FVec F S_ .bf16 := constant S_ .bf16 0x7F80#16
  let main_v30 : FVec F S4096x1024 .bf16 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S1x1024x1024 .f32) (main_arg5 : FVec F S4096x1024 .f32) (main_arg6 : FVec F S4096x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Pre_ple_post_bwd_finite.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S1x1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_pool_bwd_finite.lean ====
abbrev S4096x5120 : Shape := ⟨2, ![4096, 5120]⟩
abbrev S4096x1024 : Shape := ⟨2, ![4096, 1024]⟩
abbrev S1x4x256x256 : Shape := ⟨4, ![1, 4, 256, 256]⟩
abbrev S1x1024 : Shape := ⟨2, ![1, 1024]⟩
abbrev S_ : Shape := ⟨0, ![]⟩

class Facts : Prop where
  bcast_S_S4096x5120 : S_.BroadcastsInDim S4096x5120 (![] : Fin 0 → Fin S4096x5120.rank)
  reducesTo_S4096x5120_S_d0_1 : S4096x5120.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x4x256x256 : S_.BroadcastsInDim S1x4x256x256 (![] : Fin 0 → Fin S1x4x256x256.rank)
  reducesTo_S1x4x256x256_S_d0_1_2_3 : S1x4x256x256.ReducesTo [0, 1, 2, 3] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S4096x5120 .bf16) (main_arg1 : FVec F S4096x1024 .bf16) (main_arg2 : FVec F S4096x5120 .bf16) (main_arg3 : FVec F S1x4x256x256 .f32) (main_arg4 : FVec F S1x1024 .f32) : IVec S_ 1 :=
  let main_v0 : FVec F S4096x5120 .bf16 := Host.absf main_arg0
  let main_cst : FVec F S_ .bf16 := constant S_ .bf16 0x7F80#16
  let main_v1 : FVec F S4096x5120 .bf16 := broadcastInDim S4096x5120 ![] bcast_S_S4096x5120 main_cst
  let main_v2 : IVec S4096x5120 1 := cmpf .olt main_v0 main_v1
  let main_c : IVec S_ 1 := constantI S_ 1 1#1
  let main_v3 : IVec S_ 1 := (fun x v => Host.reduce IntOp.andi x v reducesTo_S4096x5120_S_d0_1 h_S_) main_v2 main_c
  let main_v4 : FVec F S4096x1024 .bf16 := Host.absf main_arg1
  let main_cst_0 : FVec F S_ .bf16 := constant S_ .bf16 0x7F80#16
  let main_v5 : FVec F S4096x1024 .bf16 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x4x256x256 .f32 := Host.absf main_arg3
  let main_cst_2 : FVec F S_ .f32 := constant S_ .f32 0x7F800000#32
  let main_v10 : FVec F S1x4x256x256 .f32 := broadcastInDim S1x4x256x256 ![] bcast_S_S1x4x256x256 main_cst_2
  let main_v11 : IVec S1x4x256x256 1 := cmpf .olt main_v9 main_v10
  let main_c_3 : IVec S_ 1 := constantI S_ 1 1#1
  let main_v12 : IVec S_ 1 := (fun x v => Host.reduce IntOp.andi x v reducesTo_S1x4x256x256_S_d0_1_2_3 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_pool_fwd_finite.lean ====
abbrev S4096x5120 : Shape := ⟨2, ![4096, 5120]⟩
abbrev S1x4x256x256 : Shape := ⟨4, ![1, 4, 256, 256]⟩
abbrev S1x1024 : Shape := ⟨2, ![1, 1024]⟩
abbrev S_ : Shape := ⟨0, ![]⟩

class Facts : Prop where
  bcast_S_S4096x5120 : S_.BroadcastsInDim S4096x5120 (![] : Fin 0 → Fin S4096x5120.rank)
  reducesTo_S4096x5120_S_d0_1 : S4096x5120.ReducesTo [0, 1] S_
  h_S_ : 0 < S_.numel

variable [Facts]

def fn {F : FTy → Type} [FloatOps F] (main_arg0 : FVec F S4096x5120 .bf16) (main_arg1 : FVec F S1x4x256x256 .f32) (main_arg2 : FVec F S1x1024 .f32) : IVec S_ 1 :=
  let main_v0 : FVec F S4096x5120 .bf16 := Host.absf main_arg0
  let main_cst : FVec F S_ .bf16 := constant S_ .bf16 0x7F80#16
  let main_v1 : FVec F S4096x5120 .bf16 := broadcastInDim S4096x5120 ![] bcast_S_S4096x5120 main_cst
  let main_v2 : IVec S4096x5120 1 := cmpf .olt main_v0 main_v1
  let main_c : IVec S_ 1 := constantI S_ 1 1#1
  let main_v3 : IVec S_ 1 := (fun x v => Host.reduce IntOp.andi x v reducesTo_S4096x5120_S_d0_1 h_S_) main_v2 main_c
  main_v3
-- ==== Pre_sgu_bwd_finite.lean ====
abbrev S4096x5120 : Shape := ⟨2, ![4096, 5120]⟩
abbrev S4096x1024 : Shape := ⟨2, ![4096, 1024]⟩
abbrev S1x1024 : Shape := ⟨2, ![1, 1024]⟩
abbrev S1x4x128x128 : Shape := ⟨4, ![1, 4, 128, 128]⟩
abbrev S1x4x128 : Shape := ⟨3, ![1, 4, 128]⟩
abbrev S_ : Shape := ⟨0, ![]⟩

class Facts : Prop where
  bcast_S_S4096x5120 : S_.BroadcastsInDim S4096x5120 (![] : Fin 0 → Fin S4096x5120.rank)
  reducesTo_S4096x5120_S_d0_1 : S4096x5120.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x4x128 : S_.BroadcastsInDim S1x4x128 (![] : Fin 0 → Fin S1x4x128.rank)
  reducesTo_S1x4x128_S_d0_1_2 : S1x4x128.ReducesTo [0, 1, 2] S_

variable [Facts]

def fn_part1 {F : FTy → Type} [FloatOps F] (main_arg5 : FVec F S1x4x128 .f32) (main_v13 : IVec S_ 1) (main_v16 : IVec S1x4x128x128 1) : IVec S_ 1 :=
  let main_c_5 : IVec S_ 1 := constantI S_ 1 1#1
  let main_v17 : IVec S_ 1 := (fun x v => Host.reduce IntOp.andi x v reducesTo_S1x4x128x128_S_d0_1_2_3 h_S_) main_v16 main_c_5
  let main_v18 : IVec S_ 1 := andi main_v13 main_v17
  let main_v19 : FVec F S1x4x128 .f32 := Host.absf main_arg5
  let main_cst_6 : FVec F S_ .f32 := constant S_ .f32 0x7F800000#32
  let main_v20 : FVec F S1x4x128 .f32 := broadcastInDim S1x4x128 ![] bcast_S_S1x4x128 main_cst_6
  let main_v21 : IVec S1x4x128 1 := cmpf .olt main_v19 main_v20
  let main_c_7 : IVec S_ 1 := constantI S_ 1 1#1
  let main_v22 : IVec S_ 1 := (fun x v => Host.reduce IntOp.andi x v reducesTo_S1x4x128_S_d0_1_2 h_S_) main_v21 main_c_7
  let main_v23 : IVec S_ 1 := andi main_v18 main_v22
  main_v23

def fn {F : FTy → Type} [FloatOps F] (main_arg0 : FVec F S4096x5120 .bf16) (main_arg1 : FVec F S4096x1024 .bf16) (main_arg2 : FVec F S4096x5120 .bf16) (main_arg3 : FVec F S1x1024 .f32) (main_arg4 : FVec F S1x4x128x128 .f32) (main_arg5 : FVec F S1x4x128 .f32) : IVec S_ 1 :=
  let main_v0 : FVec F S4096x5120 .bf16 := Host.absf main_arg0
  let main_cst : FVec F S_ .bf16 := constant S_ .bf16 0x7F80#16
  let main_v1 : FVec F S4096x5120 .bf16 := broadcastInDim S4096x5120 ![] bcast_S_S4096x5120 main_cst
  let main_v2 : IVec S4096x5120 1 := cmpf .olt main_v0 main_v1
  let main_c : IVec S_ 1 := constantI S_ 1 1#1
  let main_v3 : IVec S_ 1 := (fun x v => Host.reduce IntOp.andi x v reducesTo_S4096x5120_S_d0_1 h_S_) main_v2 main_c
  let main_v4 : FVec F S4096x1024 .bf16 := Host.absf main_arg1
  let main_cst_0 : FVec F S_ .bf16 := constant S_ .bf16 0x7F80#16
  let main_v5 : FVec F S4096x1024 .bf16 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x4x128x128 .f32 := Host.absf main_arg4
  let main_cst_4 : FVec F S_ .f32 := constant S_ .f32 0x7F800000#32
  let main_v15 : FVec F S1x4x128x128 .f32 := broadcastInDim S1x4x128x128 ![] bcast_S_S1x4x128x128 main_cst_4
  let main_v16 : IVec S1x4x128x128 1 := cmpf .olt main_v14 main_v15
  fn_part1 (F := F) main_arg5 main_v13 main_v16
-- ==== SguBwd.lean ====
abbrev S4096x5120 : Shape := ⟨2, ![4096, 5120]⟩
abbrev S4096x1024 : Shape := ⟨2, ![4096, 1024]⟩
abbrev S1x1024 : Shape := ⟨2, ![1, 1024]⟩
abbrev S1x4x128x128 : Shape := ⟨4, ![1, 4, 128, 128]⟩
abbrev S1x4x128 : Shape := ⟨3, ![1, 4, 128]⟩
abbrev S1024 : Shape := ⟨1, ![1024]⟩
abbrev S4x128x128 : Shape := ⟨3, ![4, 128, 128]⟩
abbrev S4x128 : Shape := ⟨2, ![4, 128]⟩
abbrev S4x128x1 : Shape := ⟨3, ![4, 128, 1]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S128x256 : Shape := ⟨2, ![128, 256]⟩
abbrev S128 : Shape := ⟨1, ![128]⟩

abbrev nBuf : Space → Nat
  | .hbm => 15
  | .vmem => 15
  | .smem => 0
  | _ => 0

abbrev bufTy : (tb : Table) → Fin (tcTables nBuf tb) → BufTy
  | .hbm, ⟨0, _⟩ => ⟨S4096x5120, .bf16⟩
  | .hbm, ⟨1, _⟩ => ⟨S4096x1024, .bf16⟩
  | .hbm, ⟨2, _⟩ => ⟨S4096x5120, .bf16⟩
  | .hbm, ⟨3, _⟩ => ⟨S1x1024, .f32⟩
  | .hbm, ⟨4, _⟩ => ⟨S1x4x128x128, .f32⟩
  | .hbm, ⟨5, _⟩ => ⟨S1x4x128, .f32⟩
  | .hbm, ⟨6, _⟩ => ⟨S1024, .f32⟩
  | .hbm, ⟨7, _⟩ => ⟨S1x1024, .f32⟩
  | .hbm, ⟨8, _⟩ => ⟨S4x128x128, .f32⟩
  | .hbm, ⟨9, _⟩ => ⟨S4x128, .f32⟩
  | .hbm, ⟨10, _⟩ => ⟨S4x128x1, .f32⟩
  | .hbm, ⟨11, _⟩ => ⟨S4096x5120, .bf16⟩
  | .hbm, ⟨12, _⟩ => ⟨S4x128x128, .f32⟩
  | .hbm, ⟨13, _⟩ => ⟨S4x128x1, .f32⟩
  | .hbm, ⟨14, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S4x128x128, .f32⟩
  | .local _ .vmem, ⟨8, _⟩ => ⟨S4x128x1, .f32⟩
  | .local _ .vmem, ⟨9, _⟩ => ⟨S256x2048, .bf16⟩
  | .local _ .vmem, ⟨10, _⟩ => ⟨S256x2048, .bf16⟩
  | .local _ .vmem, ⟨11, _⟩ => ⟨S4x128x128, .f32⟩
  | .local _ .vmem, ⟨12, _⟩ => ⟨S4x128x1, .f32⟩
  | .local _ .vmem, ⟨13, _⟩ => ⟨S1x1024, .f32⟩
  | .local _ .vmem, ⟨14, _⟩ => ⟨S256x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_65 : BitVec 32 := 0#32
  let v167 : BitVec 1 := Scalar.cmpi .eq arg0 c0_i32_65
  let v168 : BitVec 32 := Scalar.extui v167
  let c0_i32_66 : BitVec 32 := 0#32
  let v169 : BitVec 1 := Scalar.cmpi .ne v168 c0_i32_66
  v169

def k0_cond2 (i : grid0.Coords) : BitVec 1 :=
  let arg0 : BitVec 32 := BitVec.ofNat 32 (i 0).val
  let c0_i32_67 : BitVec 32 := 0#32
  let v170 : BitVec 1 := Scalar.cmpi .ne arg0 c0_i32_67
  let v171 : BitVec 32 := Scalar.extui v170
  let c0_i32_68 : BitVec 32 := 0#32
  let v172 : BitVec 1 := Scalar.cmpi .ne v171 c0_i32_68
  v172

def k0_cond3 (i : grid0.Coords) : BitVec 1 :=
  let arg0 : BitVec 32 := BitVec.ofNat 32 (i 0).val
  let c0_i32_115 : BitVec 32 := 0#32
  let v282 : BitVec 1 := Scalar.cmpi .eq arg0 c0_i32_115
  let v283 : BitVec 32 := Scalar.extui v282
  let c0_i32_116 : BitVec 32 := 0#32
  let v284 : BitVec 1 := Scalar.cmpi .ne v283 c0_i32_116
  v284

def k0_cond4 (i : grid0.Coords) : BitVec 1 :=
  let arg0 : BitVec 32 := BitVec.ofNat 32 (i 0).val
  let c0_i32_117 : BitVec 32 := 0#32
  let v285 : BitVec 1 := Scalar.cmpi .ne arg0 c0_i32_117
  let v286 : BitVec 32 := Scalar.extui v285
  let c0_i32_118 : BitVec 32 := 0#32
  let v287 : BitVec 1 := Scalar.cmpi .ne v286 c0_i32_118
  v287

def k0_cond5 (i : grid0.Coords) : BitVec 1 :=
  let arg0 : BitVec 32 := BitVec.ofNat 32 (i 0).val
  let c0_i32_165 : BitVec 32 := 0#32
  let v397 : BitVec 1 := Scalar.cmpi .eq arg0 c0_i32_165
  let v398 : BitVec 32 := Scalar.extui v397
  let c0_i32_166 : BitVec 32 := 0#32
  let v399 : BitVec 1 := Scalar.cmpi .ne v398 c0_i32_166
  v399

def k0_cond6 (i : grid0.Coords) : BitVec 1 :=
  let arg0 : BitVec 32 := BitVec.ofNat 32 (i 0).val
  let c0_i32_167 : BitVec 32 := 0#32
  let v400 : BitVec 1 := Scalar.cmpi .ne arg0 c0_i32_167
  let v401 : BitVec 32 := Scalar.extui v400
  let c0_i32_168 : BitVec 32 := 0#32
  let v402 : BitVec 1 := Scalar.cmpi .ne v401 c0_i32_168
  v402

def k0_cond7 (i : grid0.Coords) : BitVec 1 :=
  let arg0 : BitVec 32 := BitVec.ofNat 32 (i 0).val
  let c0_i32_215 : BitVec 32 := 0#32
  let v512 : BitVec 1 := Scalar.cmpi .eq arg0 c0_i32_215
  let v513 : BitVec 32 := Scalar.extui v512
  let c0_i32_216 : BitVec 32 := 0#32
  let v514 : BitVec 1 := Scalar.cmpi .ne v513 c0_i32_216
  v514

def k0_cond8 (i : grid0.Coords) : BitVec 1 :=
  let arg0 : BitVec 32 := BitVec.ofNat 32 (i 0).val
  let c0_i32_217 : BitVec 32 := 0#32
  let v515 : BitVec 1 := Scalar.cmpi .ne arg0 c0_i32_217
  let v516 : BitVec 32 := Scalar.extui v515
  let c0_i32_218 : BitVec 32 := 0#32
  let v517 : BitVec 1 := Scalar.cmpi .ne v516 c0_i32_218
  v517

def k0_cond9 (i : grid0.Coords) : BitVec 1 :=
  let arg0 : BitVec 32 := BitVec.ofNat 32 (i 0).val
  let c0_i32_222 : BitVec 32 := 0#32
  let v522 : BitVec 1 := Scalar.cmpi .eq arg0 c0_i32_222
  let v523 : BitVec 32 := Scalar.extui v522
  let c0_i32_223 : BitVec 32 := 0#32
  let v524 : BitVec 1 := Scalar.cmpi .ne v523 c0_i32_223
  v524

def k0_cond10 (i : grid0.Coords) : BitVec 1 :=
  let arg0 : BitVec 32 := BitVec.ofNat 32 (i 0).val
  let c0_i32_224 : BitVec 32 := 0#32
  let v525 : BitVec 1 := Scalar.cmpi .ne arg0 c0_i32_224
  let v526 : BitVec 32 := Scalar.extui v525
  let c0_i32_225 : BitVec 32 := 0#32
  let v527 : BitVec 1 := Scalar.cmpi .ne v526 c0_i32_225
  v527

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== SguBwdIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== SguBwdRefIdeal.lean ====
abbrev S4096x5120 : Shape := ⟨2, ![4096, 5120]⟩
abbrev S4096x1024 : Shape := ⟨2, ![4096, 1024]⟩
abbrev S1x1024 : Shape := ⟨2, ![1, 1024]⟩
abbrev S1x4x128x128 : Shape := ⟨4, ![1, 4, 128, 128]⟩
abbrev S1x4x128 : Shape := ⟨3, ![1, 4, 128]⟩
abbrev S1x4096x1024 : Shape := ⟨3, ![1, 4096, 1024]⟩
abbrev S_ : Shape := ⟨0, ![]⟩
abbrev S1024 : Shape := ⟨1, ![1024]⟩
abbrev S4x128x128 : Shape := ⟨3, ![4, 128, 128]⟩
abbrev S4x128 : Shape := ⟨2, ![4, 128]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x4x256 : Shape := ⟨5, ![1, 32, 128, 4, 256]⟩
abbrev S128x128 : Shape := ⟨2, ![128, 128]⟩
abbrev S1x128x128 : Shape := ⟨3, ![1, 128, 128]⟩
abbrev S4x1x32x256x128 : Shape := ⟨5, ![4, 1, 32, 256, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x128x4 : Shape := ⟨3, ![1, 128, 4]⟩
abbrev S4096 : Shape := ⟨1, ![4096]⟩
abbrev S4096x3072 : Shape := ⟨2, ![4096, 3072]⟩
abbrev S4x128x1 : Shape := ⟨3, ![4, 128, 1]⟩

abbrev nBuf : Space → Nat
  | .hbm => 231
  | .vmem => 0
  | .smem => 0
  | _ => 0

abbrev hbmTy0_0 (i : Nat) : BufTy := match i % 128 with
  | 0 => ⟨S4096x5120, .bf16⟩
  | 1 => ⟨S4096x1024, .bf16⟩
  | 2 => ⟨S4096x5120, .bf16⟩
  | 3 => ⟨S1x1024, .f32⟩
  | 4 => ⟨S1x4x128x128, .f32⟩
  | 5 => ⟨S1x4x128, .f32⟩
  | 6 => ⟨S4096x5120, .f32⟩
  | 7 => ⟨S4096x1024, .f32⟩
  | 8 => ⟨S1x4096x1024, .f32⟩
  | 9 => ⟨S4096x1024, .f32⟩
  | 10 => ⟨S1x4096x1024, .f32⟩
  | 11 => ⟨S_, .f32⟩
  | 12 => ⟨S_, .f32⟩
  | 13 => ⟨S_, .f32⟩
  | 14 => ⟨S1x4096x1024, .f32⟩
  | 15 => ⟨S1x4096x1024, .f32⟩
  | 16 => ⟨S1x4096x1024, .f32⟩
  | 17 => ⟨S_, .f32⟩
  | 18 => ⟨S1x4096x1024, .f32⟩
  | 19 => ⟨S1x4096x1024, .f32⟩
  | 20 => ⟨S1x4096x1024, .f32⟩
  | 21 => ⟨S1x4096x1024, .f32⟩
  | 22 => ⟨S1x4096x1024, .f32⟩
  | 23 => ⟨S_, .f32⟩
  | 24 => ⟨S1x4096x1024, .f32⟩
  | 25 => ⟨S1x4096x1024, .f32⟩
  | 26 => ⟨S1x4096x1024, .f32⟩
  | 27 => ⟨S_, .f32⟩
  | 28 => ⟨S1x4096x1024, .f32⟩
  | 29 => ⟨S1x4096x1024, .f32⟩
  | 30 => ⟨S_, .f32⟩
  | 31 => ⟨S1x4096x1024, .f32⟩
  | 32 => ⟨S1x4096x1024, .f32⟩
  | 33 => ⟨S1x4096x1024, .f32⟩
  | 34 => ⟨S_, .f32⟩
  | 35 => ⟨S1x4096x1024, .f32⟩
  | 36 => ⟨S1x4096x1024, .f32⟩
  | 37 => ⟨S_, .f32⟩
  | 38 => ⟨S1x4096x1024, .f32⟩
  | 39 => ⟨S1x4096x1024, .f32⟩
  | 40 => ⟨S1x4096x1024, .f32⟩
  | 41 => ⟨S_, .f32⟩
  | 42 => ⟨S_, .f32⟩
  | 43 => ⟨S_, .f32⟩
  | 44 => ⟨S1x4096x1024, .f32⟩
  | 45 => ⟨S1x4096x1024, .f32⟩
  | 46 => ⟨S1x4096x1024, .f32⟩
  | 47 => ⟨S_, .f32⟩
  | 48 => ⟨S1x4096x1024, .f32⟩
  | 49 => ⟨S1x4096x1024, .f32⟩
  | 50 => ⟨S1x4096x1024, .f32⟩
  | 51 => ⟨S1x4096x1024, .f32⟩
  | 52 => ⟨S1x4096x1024, .f32⟩
  | 53 => ⟨S_, .f32⟩
  | 54 => ⟨S1x4096x1024, .f32⟩
  | 55 => ⟨S1x4096x1024, .f32⟩
  | 56 => ⟨S1x4096x1024, .f32⟩
  | 57 => ⟨S_, .f32⟩
  | 58 => ⟨S1x4096x1024, .f32⟩
  | 59 => ⟨S1x4096x1024, .f32⟩
  | 60 => ⟨S_, .f32⟩
  | 61 => ⟨S1x4096x1024, .f32⟩
  | 62 => ⟨S1x4096x1024, .f32⟩
  | 63 => ⟨S1x4096x1024, .f32⟩
  | 64 => ⟨S_, .f32⟩
  | 65 => ⟨S1x4096x1024, .f32⟩
  | 66 => ⟨S1x4096x1024, .f32⟩
  | 67 => ⟨S_, .f32⟩
  | 68 => ⟨S1x4096x1024, .f32⟩
  | 69 => ⟨S1x4096x1024, .f32⟩
  | 70 => ⟨S1x4096x1024, .f32⟩
  | 71 => ⟨S1024, .f32⟩
  | 72 => ⟨S4x128x128, .f32⟩
  | 73 => ⟨S4x128, .f32⟩
  | 74 => ⟨S_, .f32⟩
  | 75 => ⟨S1x4096, .f32⟩
  | 76 => ⟨S1x4096x1, .f32⟩
  | 77 => ⟨S_, .f32⟩
  | 78 => ⟨S1x4096x1, .f32⟩
  | 79 => ⟨S1x4096x1, .f32⟩
  | 80 => ⟨S1x4096x1024, .f32⟩
  | 81 => ⟨S1x4096x1024, .f32⟩
  | 82 => ⟨S1x4096x1024, .f32⟩
  | 83 => ⟨S_, .f32⟩
  | 84 => ⟨S1x4096, .f32⟩
  | 85 => ⟨S1x4096x1, .f32⟩
  | 86 => ⟨S_, .f32⟩
  | 87 => ⟨S1x4096x1, .f32⟩
  | 88 => ⟨S1x4096x1, .f32⟩
  | 89 => ⟨S_, .f32⟩
  | 90 => ⟨S1x4096x1, .f32⟩
  | 91 => ⟨S1x4096x1, .f32⟩
  | 92 => ⟨S1x4096x1, .f32⟩
  | 93 => ⟨S1x4096x1, .f32⟩
  | 94 => ⟨S_, .f32⟩
  | 95 => ⟨S1x4096x1, .f32⟩
  | 96 => ⟨S1x4096x1, .f32⟩
  | 97 => ⟨S1x4096x1024, .f32⟩
  | 98 => ⟨S1x4096x1024, .f32⟩
  | 99 => ⟨S1x1x1024, .f32⟩
  | 100 => ⟨S1x4096x1024, .f32⟩
  | 101 => ⟨S1x4096x1024, .f32⟩
  | 102 => ⟨S1x32x128x4x256, .f32⟩
  | 103 => ⟨S_, .i1⟩
  | 104 => ⟨S128x128, .i1⟩
  | 105 => ⟨S128x128, .i32⟩
  | 106 => ⟨S_, .i32⟩
  | 107 => ⟨S128x128, .i32⟩
  | 108 => ⟨S128x128, .i32⟩
  | 109 => ⟨S128x128, .i32⟩
  | 110 => ⟨S128x128, .i1⟩
  | 111 => ⟨S_, .i1⟩
  | 112 => ⟨S128x128, .i1⟩
  | 113 => ⟨S128x128, .i1⟩
  | 114 => ⟨S1x128x128, .i1⟩
  | 115 => ⟨S_, .f32⟩
  | 116 => ⟨S_, .f32⟩
  | 117 => ⟨S4x128x128, .i1⟩
  | 118 => ⟨S4x128x128, .f32⟩
  | 119 => ⟨S4x128x128, .f32⟩
  | 120 => ⟨S_, .f32⟩
  | 121 => ⟨S4x128x128, .f32⟩
  | 122 => ⟨S4x1x32x256x128, .f32⟩
  | 123 => ⟨S1x32x128x4x256, .f32⟩
  | 124 => ⟨S128x4, .f32⟩
  | 125 => ⟨S128x4x1, .f32⟩
  | 126 => ⟨S1x1x128x4x1, .f32⟩
  | 127 => ⟨S1x32x128x4x256, .f32⟩
  | _ => ⟨S4096x5120, .bf16⟩

abbrev hbmTy0_1 (i : Nat) : BufTy := match i % 128 with
  | 0 => ⟨S1x32x128x4x256, .f32⟩
  | 1 => ⟨S1x4096x1024, .f32⟩
  | 2 => ⟨S1x4096x1024, .f32⟩
  | 3 => ⟨S4096x1024, .f32⟩
  | 4 => ⟨S1x4096x1024, .f32⟩
  | 5 => ⟨S1x4096x1024, .f32⟩
  | 6 => ⟨S1x4096x1024, .f32⟩
  | 7 => ⟨S1x32x128x4x256, .f32⟩
  | 8 => ⟨S_, .f32⟩
  | 9 => ⟨S1x128x4, .f32⟩
  | 10 => ⟨S1x1x128x4x1, .f32⟩
  | 11 => ⟨S_, .f32⟩
  | 12 => ⟨S128x4, .f32⟩
  | 13 => ⟨S128x4x1, .f32⟩
  | 14 => ⟨S_, .f32⟩
  | 15 => ⟨S128x4, .f32⟩
  | 16 => ⟨S4x128, .f32⟩
  | 17 => ⟨S4x1x32x256x128, .f32⟩
  | 18 => ⟨S4x128x128, .f32⟩
  | 19 => ⟨S4x1x32x256x128, .f32⟩
  | 20 => ⟨S1x32x128x4x256, .f32⟩
  | 21 => ⟨S_, .f32⟩
  | 22 => ⟨S4x128x128, .f32⟩
  | 23 => ⟨S4x128x128, .f32⟩
  | 24 => ⟨S1x4096x1024, .f32⟩
  | 25 => ⟨S1x4096x1024, .f32⟩
  | 26 => ⟨S_, .f32⟩
  | 27 => ⟨S1x1024, .f32⟩
  | 28 => ⟨S1x1x1024, .f32⟩
  | 29 => ⟨S1x4096x1024, .f32⟩
  | 30 => ⟨S1x4096x1024, .f32⟩
  | 31 => ⟨S_, .f32⟩
  | 32 => ⟨S1024, .f32⟩
  | 33 => ⟨S1x4096x1024, .f32⟩
  | 34 => ⟨S_, .f32⟩
  | 35 => ⟨S1x4096, .f32⟩
  | 36 => ⟨S1x4096x1, .f32⟩
  | 37 => ⟨S1x4096x1024, .f32⟩
  | 38 => ⟨S1x4096x1024, .f32⟩
  | 39 => ⟨S1x4096x1, .f32⟩
  | 40 => ⟨S_, .f32⟩
  | 41 => ⟨S1x4096x1, .f32⟩
  | 42 => ⟨S1x4096x1, .f32⟩
  | 43 => ⟨S_, .f32⟩
  | 44 => ⟨S4096, .f32⟩
  | 45 => ⟨S1x4096, .f32⟩
  | 46 => ⟨S1x4096x1024, .f32⟩
  | 47 => ⟨S1x4096x1024, .f32⟩
  | 48 => ⟨S1x4096x1024, .f32⟩
  | 49 => ⟨S1x4096x1024, .f32⟩
  | 50 => ⟨S1x4096x1024, .f32⟩
  | 51 => ⟨S1x4096x1024, .f32⟩
  | 52 => ⟨S_, .f32⟩
  | 53 => ⟨S1x4096, .f32⟩
  | 54 => ⟨S1x4096x1, .f32⟩
  | 55 => ⟨S_, .f32⟩
  | 56 => ⟨S1x4096x1, .f32⟩
  | 57 => ⟨S1x4096x1, .f32⟩
  | 58 => ⟨S_, .f32⟩
  | 59 => ⟨S4096, .f32⟩
  | 60 => ⟨S1x4096, .f32⟩
  | 61 => ⟨S1x4096x1024, .f32⟩
  | 62 => ⟨S1x4096x1024, .f32⟩
  | 63 => ⟨S1x4x128, .f32⟩
  | 64 => ⟨S1x4x128x128, .f32⟩
  | 65 => ⟨S1x1024, .f32⟩
  | 66 => ⟨S1x4096x1024, .f32⟩
  | 67 => ⟨S1x4096x1024, .f32⟩
  | 68 => ⟨S_, .f32⟩
  | 69 => ⟨S1x4096x1024, .f32⟩
  | 70 => ⟨S1x4096x1024, .f32⟩
  | 71 => ⟨S1x4096x1024, .f32⟩
  | 72 => ⟨S_, .f32⟩
  | 73 => ⟨S1x4096x1024, .f32⟩
  | 74 => ⟨S1x4096x1024, .f32⟩
  | 75 => ⟨S1x4096x1024, .f32⟩
  | 76 => ⟨S1x4096x1024, .f32⟩
  | 77 => ⟨S1x4096x1024, .f32⟩
  | 78 => ⟨S1x4096x1024, .f32⟩
  | 79 => ⟨S1x4096x1024, .f32⟩
  | 80 => ⟨S1x4096x1024, .f32⟩
  | 81 => ⟨S1x4096x1024, .f32⟩
  | 82 => ⟨S_, .f32⟩
  | 83 => ⟨S1x4096x1024, .f32⟩
  | 84 => ⟨S1x4096x1024, .f32⟩
  | 85 => ⟨S1x4096x1024, .f32⟩
  | 86 => ⟨S_, .f32⟩
  | 87 => ⟨S1x4096x1024, .f32⟩
  | 88 => ⟨S1x4096x1024, .f32⟩
  | 89 => ⟨S1x4096x1024, .f32⟩
  | 90 => ⟨S1x4096x1024, .f32⟩
  | 91 => ⟨S1x4096x1024, .f32⟩
  | 92 => ⟨S1x4096x1024, .f32⟩
  | 93 => ⟨S1x4096x1024, .f32⟩
  | 94 => ⟨S4096x1024, .f32⟩
  | 95 => ⟨S4096x1024, .bf16⟩
  | 96 => ⟨S4096x1024, .f32⟩
  | 97 => ⟨S4096x1024, .bf16⟩
  | 98 => ⟨S4096x3072, .bf16⟩
  | 99 => ⟨S4096x5120, .bf16⟩
  | 100 => ⟨S4x128x128, .f32⟩
  | 101 => ⟨S4x128, .f32⟩
  | 102 => ⟨S4x128x1, .f32⟩
  | _ => ⟨S4096x5120, .bf16⟩

abbrev hbmTy (i : Nat) : BufTy := match i / 128 with
  | 0 => hbmTy0_0 i
  | 1 => hbmTy0_1 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_17 : Ref sig .tc := ⟨.hbm, 83, rfl⟩
abbrev main_v59 : Ref sig .tc := ⟨.hbm, 84, rfl⟩
abbrev main_v60 : Ref sig .tc := ⟨.hbm, 85, rfl⟩
abbrev main_cst_18 : Ref sig .tc := ⟨.hbm, 86, rfl⟩
abbrev main_v61 : Ref sig .tc := ⟨.hbm, 87, rfl⟩
abbrev main_v62 : Ref sig .tc := ⟨.hbm, 88, rfl⟩
abbrev main_cst_19 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_20 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c : Ref sig .tc := ⟨.hbm, 103, rfl⟩
abbrev main_v75 : Ref sig .tc := ⟨.hbm, 104, rfl⟩
abbrev main_call0_v0 : Ref sig .tc := ⟨.hbm, 105, rfl⟩
abbrev main_call0_c : Ref sig .tc := ⟨.hbm, 106, rfl⟩
abbrev main_call0_v1 : Ref sig .tc := ⟨.hbm, 107, rfl⟩
abbrev main_call0_v2 : Ref sig .tc := ⟨.hbm, 108, rfl⟩
abbrev main_call0_v3 : Ref sig .tc := ⟨.hbm, 109, rfl⟩
abbrev main_call0_v4 : Ref sig .tc := ⟨.hbm, 110, rfl⟩
abbrev main_call0_c_0 : Ref sig .tc := ⟨.hbm, 111, rfl⟩
abbrev main_call0_v5 : Ref sig .tc := ⟨.hbm, 112, rfl⟩
abbrev main_v76 : Ref sig .tc := ⟨.hbm, 113, rfl⟩
abbrev main_v77 : Ref sig .tc := ⟨.hbm, 114, rfl⟩
abbrev main_cst_21 : Ref sig .tc := ⟨.hbm, 115, rfl⟩
abbrev main_call1_v0 : Ref sig .tc := ⟨.hbm, 116, rfl⟩
abbrev main_v78_1 : Ref sig .tc := ⟨.hbm, 117, rfl⟩
abbrev main_call1_v2 : Ref sig .tc := ⟨.hbm, 118, rfl⟩
abbrev main_v78_0 : Ref sig .tc := ⟨.hbm, 119, rfl⟩
abbrev main_call1_cst : Ref sig .tc := ⟨.hbm, 120, rfl⟩
abbrev main_v78_2 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_22 : Ref sig .tc := ⟨.hbm, 136, rfl⟩
abbrev main_v93 : Ref sig .tc := ⟨.hbm, 137, rfl⟩
abbrev main_v94 : Ref sig .tc := ⟨.hbm, 138, rfl⟩
abbrev main_cst_23 : Ref sig .tc := ⟨.hbm, 139, rfl⟩
abbrev main_v95 : Ref sig .tc := ⟨.hbm, 140, rfl⟩
abbrev main_v96 : Ref sig .tc := ⟨.hbm, 141, rfl⟩
abbrev main_cst_24 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_call2_cst : Ref sig .tc := ⟨.hbm, 149, rfl⟩
abbrev main_call2_v0 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_25 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_26 : Ref sig .tc := ⟨.hbm, 159, rfl⟩
abbrev main_v110 : Ref sig .tc := ⟨.hbm, 160, rfl⟩
abbrev main_v111 : Ref sig .tc := ⟨.hbm, 161, rfl⟩
abbrev main_cst_27 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_28 : Ref sig .tc := ⟨.hbm, 168, rfl⟩
abbrev main_v117 : Ref sig .tc := ⟨.hbm, 169, rfl⟩
abbrev main_v118 : Ref sig .tc := ⟨.hbm, 170, rfl⟩
abbrev main_cst_29 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_cst_30 : Ref sig .tc := ⟨.hbm, 180, rfl⟩
abbrev main_v127 : Ref sig .tc := ⟨.hbm, 181, rfl⟩
abbrev main_v128 : Ref sig .tc := ⟨.hbm, 182, rfl⟩
abbrev main_cst_31 : Ref sig .tc := ⟨.hbm, 183, rfl⟩
abbrev main_v129 : Ref sig .tc := ⟨.hbm, 184, rfl⟩
abbrev main_v130 : Ref sig .tc := ⟨.hbm, 185, rfl⟩
abbrev main_cst_32 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_cst_33 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_cst_34 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_cst_35 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_cst_36 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩

abbrev nD : Nat := 1
abbrev τ : Topo := Topo.v7x

variable {F : FTy → Type} [FloatOps F]
-- ==== PoolBwd.lean ====
abbrev S4096x5120 : Shape := ⟨2, ![4096, 5120]⟩
abbrev S4096x1024 : Shape := ⟨2, ![4096, 1024]⟩
abbrev S1x4x256x256 : Shape := ⟨4, ![1, 4, 256, 256]⟩
abbrev S1x1024 : Shape := ⟨2, ![1, 1024]⟩
abbrev S4x256x256 : Shape := ⟨3, ![4, 256, 256]⟩
abbrev S1024 : Shape := ⟨1, ![1024]⟩
abbrev S4096x256 : Shape := ⟨2, ![4096, 256]⟩
abbrev S1x256x256 : Shape := ⟨3, ![1, 256, 256]⟩
abbrev S1x256 : Shape := ⟨2, ![1, 256]⟩
abbrev S4096x1 : Shape := ⟨2, ![4096, 1]⟩
abbrev S256x256 : Shape := ⟨2, ![256, 256]⟩
abbrev S256 : Shape := ⟨1, ![256]⟩

abbrev nBuf : Space → Nat
  | .hbm => 12
  | .vmem => 14
  | .smem => 0
  | _ => 0

abbrev bufTy : (tb : Table) → Fin (tcTables nBuf tb) → BufTy
  | .hbm, ⟨0, _⟩ => ⟨S4096x5120, .bf16⟩
  | .hbm, ⟨1, _⟩ => ⟨S4096x1024, .bf16⟩
  | .hbm, ⟨2, _⟩ => ⟨S4096x5120, .bf16⟩
  | .hbm, ⟨3, _⟩ => ⟨S1x4x256x256, .f32⟩
  | .hbm, ⟨4, _⟩ => ⟨S1x1024, .f32⟩
  | .hbm, ⟨5, _⟩ => ⟨S4x256x256, .f32⟩
  | .hbm, ⟨6, _⟩ => ⟨S4x256x256, .bf16⟩
  | .hbm, ⟨7, _⟩ => ⟨S1024, .f32⟩
  | .hbm, ⟨8, _⟩ => ⟨S1x1024, .f32⟩
  | .hbm, ⟨9, _⟩ => ⟨S4096x5120, .bf16⟩
  | .hbm, ⟨10, _⟩ => ⟨S4x256x256, .bf16⟩
  | .hbm, ⟨11, _⟩ => ⟨S1x1024, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256, .f32⟩
  | .local _ .vmem, ⟨7, _⟩ => ⟨S1x256, .f32⟩
  | .local _ .vmem, ⟨8, _⟩ => ⟨S4096x256, .bf16⟩
  | .local _ .vmem, ⟨9, _⟩ => ⟨S4096x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256, .f32⟩
  | .local _ .vmem, ⟨13, _⟩ => ⟨S1x256, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_cond3 (i : grid0.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_2 : BitVec 32 := 0#32
  let v9 : BitVec 1 := Scalar.cmpi .ne v8 c0_i32_2
  v9

def k0_cond4 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolBwdRefIdeal.lean ====
abbrev S4096x5120 : Shape := ⟨2, ![4096, 5120]⟩
abbrev S4096x1024 : Shape := ⟨2, ![4096, 1024]⟩
abbrev S1x4x256x256 : Shape := ⟨4, ![1, 4, 256, 256]⟩
abbrev S1x1024 : Shape := ⟨2, ![1, 1024]⟩
abbrev S1x4096x1024 : Shape := ⟨3, ![1, 4096, 1024]⟩
abbrev S4x256x256 : Shape := ⟨3, ![4, 256, 256]⟩
abbrev S1024 : Shape := ⟨1, ![1024]⟩
abbrev S_ : Shape := ⟨0, ![]⟩
abbrev S1x1x1024 : Shape := ⟨3, ![1, 1, 1024]⟩
abbrev S1x4097x1024 : Shape := ⟨3, ![1, 4097, 1024]⟩
abbrev S4096 : Shape := ⟨1, ![4096]⟩
abbrev S1x4097x256 : Shape := ⟨3, ![1, 4097, 256]⟩
abbrev S1x4096x1 : Shape := ⟨3, ![1, 4096, 1]⟩
abbrev S1x4096x256 : Shape := ⟨3, ![1, 4096, 256]⟩
abbrev S4096x1 : Shape := ⟨2, ![4096, 1]⟩
abbrev S1x256x256 : Shape := ⟨3, ![1, 256, 256]⟩
abbrev S256x256 : Shape := ⟨2, ![256, 256]⟩
abbrev S4096x2048 : Shape := ⟨2, ![4096, 2048]⟩

abbrev nBuf : Space → Nat
  | .hbm => 277
  | .vmem => 0
  | .smem => 0
  | _ => 0

abbrev hbmTy0_0 (i : Nat) : BufTy := match i % 128 with
  | 0 => ⟨S4096x5120, .bf16⟩
  | 1 => ⟨S4096x1024, .bf16⟩
  | 2 => ⟨S4096x5120, .bf16⟩
  | 3 => ⟨S1x4x256x256, .f32⟩
  | 4 => ⟨S1x1024, .f32⟩
  | 5 => ⟨S4096x1024, .bf16⟩
  | 6 => ⟨S4096x1024, .f32⟩
  | 7 => ⟨S1x4096x1024, .f32⟩
  | 8 => ⟨S4x256x256, .f32⟩
  | 9 => ⟨S1024, .f32⟩
  | 10 => ⟨S_, .f32⟩
  | 11 => ⟨S1x1x1024, .f32⟩
  | 12 => ⟨S_, .f32⟩
  | 13 => ⟨S_, .f32⟩
  | 14 => ⟨S1x4096x1024, .f32⟩
  | 15 => ⟨S1x4097x1024, .f32⟩
  | 16 => ⟨S_, .f32⟩
  | 17 => ⟨S1x1x1024, .f32⟩
  | 18 => ⟨S4096, .i32⟩
  | 19 => ⟨S_, .i32⟩
  | 20 => ⟨S4096, .i32⟩
  | 21 => ⟨S4096, .i32⟩
  | 22 => ⟨S_, .i32⟩
  | 23 => ⟨S4096, .i32⟩
  | 24 => ⟨S4096, .i32⟩
  | 25 => ⟨S_, .i32⟩
  | 26 => ⟨S4096, .i32⟩
  | 27 => ⟨S4096, .i32⟩
  | 28 => ⟨S1x4097x256, .f32⟩
  | 29 => ⟨S_, .i32⟩
  | 30 => ⟨S4096, .i32⟩
  | 31 => ⟨S4096, .i32⟩
  | 32 => ⟨S4096, .i32⟩
  | 33 => ⟨S4096, .f32⟩
  | 34 => ⟨S1x4096x1, .f32⟩
  | 35 => ⟨S1x4096x256, .f32⟩
  | 36 => ⟨S_, .i32⟩
  | 37 => ⟨S4096, .i32⟩
  | 38 => ⟨S4096, .i1⟩
  | 39 => ⟨S_, .i32⟩
  | 40 => ⟨S4096, .i32⟩
  | 41 => ⟨S4096, .i32⟩
  | 42 => ⟨S4096, .i32⟩
  | 43 => ⟨S4096x1, .i32⟩
  | 44 => ⟨S1x4096x256, .f32⟩
  | 45 => ⟨S1x4096x256, .f32⟩
  | 46 => ⟨S1x4096x256, .f32⟩
  | 47 => ⟨S1x4096x256, .f32⟩
  | 48 => ⟨S1x4096x256, .f32⟩
  | 49 => ⟨S1x4096x256, .f32⟩
  | 50 => ⟨S1x256x256, .f32⟩
  | 51 => ⟨S256x256, .f32⟩
  | 52 => ⟨S1x4096x256, .f32⟩
  | 53 => ⟨S_, .i32⟩
  | 54 => ⟨S4096, .i32⟩
  | 55 => ⟨S4096, .i32⟩
  | 56 => ⟨S_, .i32⟩
  | 57 => ⟨S4096, .i32⟩
  | 58 => ⟨S4096, .i32⟩
  | 59 => ⟨S_, .i32⟩
  | 60 => ⟨S4096, .i32⟩
  | 61 => ⟨S4096, .i32⟩
  | 62 => ⟨S1x4097x256, .f32⟩
  | 63 => ⟨S_, .i32⟩
  | 64 => ⟨S4096, .i32⟩
  | 65 => ⟨S4096, .i32⟩
  | 66 => ⟨S4096, .i32⟩
  | 67 => ⟨S4096, .f32⟩
  | 68 => ⟨S1x4096x1, .f32⟩
  | 69 => ⟨S1x4096x256, .f32⟩
  | 70 => ⟨S_, .i32⟩
  | 71 => ⟨S4096, .i32⟩
  | 72 => ⟨S4096, .i1⟩
  | 73 => ⟨S_, .i32⟩
  | 74 => ⟨S4096, .i32⟩
  | 75 => ⟨S4096, .i32⟩
  | 76 => ⟨S4096, .i32⟩
  | 77 => ⟨S4096x1, .i32⟩
  | 78 => ⟨S1x4096x256, .f32⟩
  | 79 => ⟨S1x4096x256, .f32⟩
  | 80 => ⟨S1x4096x256, .f32⟩
  | 81 => ⟨S1x4096x256, .f32⟩
  | 82 => ⟨S1x4096x256, .f32⟩
  | 83 => ⟨S1x4096x256, .f32⟩
  | 84 => ⟨S1x256x256, .f32⟩
  | 85 => ⟨S256x256, .f32⟩
  | 86 => ⟨S1x4096x256, .f32⟩
  | 87 => ⟨S_, .i32⟩
  | 88 => ⟨S4096, .i32⟩
  | 89 => ⟨S4096, .i32⟩
  | 90 => ⟨S_, .i32⟩
  | 91 => ⟨S4096, .i32⟩
  | 92 => ⟨S4096, .i32⟩
  | 93 => ⟨S_, .i32⟩
  | 94 => ⟨S4096, .i32⟩
  | 95 => ⟨S4096, .i32⟩
  | 96 => ⟨S1x4097x256, .f32⟩
  | 97 => ⟨S_, .i32⟩
  | 98 => ⟨S4096, .i32⟩
  | 99 => ⟨S4096, .i32⟩
  | 100 => ⟨S4096, .i32⟩
  | 101 => ⟨S4096, .f32⟩
  | 102 => ⟨S1x4096x1, .f32⟩
  | 103 => ⟨S1x4096x256, .f32⟩
  | 104 => ⟨S_, .i32⟩
  | 105 => ⟨S4096, .i32⟩
  | 106 => ⟨S4096, .i1⟩
  | 107 => ⟨S_, .i32⟩
  | 108 => ⟨S4096, .i32⟩
  | 109 => ⟨S4096, .i32⟩
  | 110 => ⟨S4096, .i32⟩
  | 111 => ⟨S4096x1, .i32⟩
  | 112 => ⟨S1x4096x256, .f32⟩
  | 113 => ⟨S1x4096x256, .f32⟩
  | 114 => ⟨S1x4096x256, .f32⟩
  | 115 => ⟨S1x4096x256, .f32⟩
  | 116 => ⟨S1x4096x256, .f32⟩
  | 117 => ⟨S1x4096x256, .f32⟩
  | 118 => ⟨S1x256x256, .f32⟩
  | 119 => ⟨S256x256, .f32⟩
  | 120 => ⟨S1x4096x256, .f32⟩
  | 121 => ⟨S_, .i32⟩
  | 122 => ⟨S4096, .i32⟩
  | 123 => ⟨S4096, .i32⟩
  | 124 => ⟨S_, .i32⟩
  | 125 => ⟨S4096, .i32⟩
  | 126 => ⟨S4096, .i32⟩
  | 127 => ⟨S_, .i32⟩
  | _ => ⟨S4096x5120, .bf16⟩

abbrev hbmTy0_1 (i : Nat) : BufTy := match i % 128 with
  | 0 => ⟨S4096, .i32⟩
  | 1 => ⟨S4096, .i32⟩
  | 2 => ⟨S1x4097x256, .f32⟩
  | 3 => ⟨S_, .i32⟩
  | 4 => ⟨S4096, .i32⟩
  | 5 => ⟨S4096, .i32⟩
  | 6 => ⟨S4096, .i32⟩
  | 7 => ⟨S4096, .f32⟩
  | 8 => ⟨S1x4096x1, .f32⟩
  | 9 => ⟨S1x4096x256, .f32⟩
  | 10 => ⟨S_, .i32⟩
  | 11 => ⟨S4096, .i32⟩
  | 12 => ⟨S4096, .i1⟩
  | 13 => ⟨S_, .i32⟩
  | 14 => ⟨S4096, .i32⟩
  | 15 => ⟨S4096, .i32⟩
  | 16 => ⟨S4096, .i32⟩
  | 17 => ⟨S4096x1, .i32⟩
  | 18 => ⟨S1x4096x256, .f32⟩
  | 19 => ⟨S1x4096x256, .f32⟩
  | 20 => ⟨S1x4096x256, .f32⟩
  | 21 => ⟨S1x4096x256, .f32⟩
  | 22 => ⟨S1x4096x256, .f32⟩
  | 23 => ⟨S1x4096x256, .f32⟩
  | 24 => ⟨S1x256x256, .f32⟩
  | 25 => ⟨S256x256, .f32⟩
  | 26 => ⟨S1x4096x256, .f32⟩
  | 27 => ⟨S1x4096x1024, .f32⟩
  | 28 => ⟨S1x1x1024, .f32⟩
  | 29 => ⟨S1x4096x1024, .f32⟩
  | 30 => ⟨S1x4096x1024, .f32⟩
  | 31 => ⟨S4096x1024, .f32⟩
  | 32 => ⟨S1x4096x1024, .f32⟩
  | 33 => ⟨S1x4096x1024, .f32⟩
  | 34 => ⟨S_, .f32⟩
  | 35 => ⟨S1x1024, .f32⟩
  | 36 => ⟨S1x1x1024, .f32⟩
  | 37 => ⟨S1x4096x1024, .f32⟩
  | 38 => ⟨S1x4096x1024, .f32⟩
  | 39 => ⟨S_, .f32⟩
  | 40 => ⟨S1024, .f32⟩
  | 41 => ⟨S1x4096x256, .f32⟩
  | 42 => ⟨S1x4096x256, .f32⟩
  | 43 => ⟨S1x4096x256, .f32⟩
  | 44 => ⟨S1x4096x256, .f32⟩
  | 45 => ⟨S256x256, .f32⟩
  | 46 => ⟨S256x256, .f32⟩
  | 47 => ⟨S1x4096x256, .f32⟩
  | 48 => ⟨S1x256x256, .f32⟩
  | 49 => ⟨S_, .f32⟩
  | 50 => ⟨S4x256x256, .f32⟩
  | 51 => ⟨S1x4096x256, .f32⟩
  | 52 => ⟨S_, .f32⟩
  | 53 => ⟨S1x4096x1024, .f32⟩
  | 54 => ⟨S1x4096x256, .f32⟩
  | 55 => ⟨S1x4096x256, .f32⟩
  | 56 => ⟨S1x4096x256, .f32⟩
  | 57 => ⟨S_, .f32⟩
  | 58 => ⟨S1x4097x256, .f32⟩
  | 59 => ⟨S1x4097x256, .f32⟩
  | 60 => ⟨S_, .f32⟩
  | 61 => ⟨S1x4097x256, .f32⟩
  | 62 => ⟨S1x4097x256, .f32⟩
  | 63 => ⟨S_, .f32⟩
  | 64 => ⟨S1x4097x1024, .f32⟩
  | 65 => ⟨S256x256, .f32⟩
  | 66 => ⟨S256x256, .f32⟩
  | 67 => ⟨S1x4096x256, .f32⟩
  | 68 => ⟨S1x256x256, .f32⟩
  | 69 => ⟨S_, .f32⟩
  | 70 => ⟨S4x256x256, .f32⟩
  | 71 => ⟨S4x256x256, .f32⟩
  | 72 => ⟨S1x4096x256, .f32⟩
  | 73 => ⟨S_, .f32⟩
  | 74 => ⟨S1x4096x1024, .f32⟩
  | 75 => ⟨S1x4096x1024, .f32⟩
  | 76 => ⟨S1x4096x256, .f32⟩
  | 77 => ⟨S1x4096x256, .f32⟩
  | 78 => ⟨S1x4096x256, .f32⟩
  | 79 => ⟨S_, .f32⟩
  | 80 => ⟨S1x4097x256, .f32⟩
  | 81 => ⟨S1x4097x256, .f32⟩
  | 82 => ⟨S_, .f32⟩
  | 83 => ⟨S1x4097x256, .f32⟩
  | 84 => ⟨S1x4097x256, .f32⟩
  | 85 => ⟨S_, .f32⟩
  | 86 => ⟨S1x4097x1024, .f32⟩
  | 87 => ⟨S1x4097x1024, .f32⟩
  | 88 => ⟨S256x256, .f32⟩
  | 89 => ⟨S256x256, .f32⟩
  | 90 => ⟨S1x4096x256, .f32⟩
  | 91 => ⟨S1x256x256, .f32⟩
  | 92 => ⟨S_, .f32⟩
  | 93 => ⟨S4x256x256, .f32⟩
  | 94 => ⟨S4x256x256, .f32⟩
  | 95 => ⟨S1x4096x256, .f32⟩
  | 96 => ⟨S_, .f32⟩
  | 97 => ⟨S1x4096x1024, .f32⟩
  | 98 => ⟨S1x4096x1024, .f32⟩
  | 99 => ⟨S1x4096x256, .f32⟩
  | 100 => ⟨S1x4096x256, .f32⟩
  | 101 => ⟨S1x4096x256, .f32⟩
  | 102 => ⟨S_, .f32⟩
  | 103 => ⟨S1x4097x256, .f32⟩
  | 104 => ⟨S1x4097x256, .f32⟩
  | 105 => ⟨S_, .f32⟩
  | 106 => ⟨S1x4097x256, .f32⟩
  | 107 => ⟨S1x4097x256, .f32⟩
  | 108 => ⟨S_, .f32⟩
  | 109 => ⟨S1x4097x1024, .f32⟩
  | 110 => ⟨S1x4097x1024, .f32⟩
  | 111 => ⟨S256x256, .f32⟩
  | 112 => ⟨S256x256, .f32⟩
  | 113 => ⟨S1x4096x256, .f32⟩
  | 114 => ⟨S1x256x256, .f32⟩
  | 115 => ⟨S_, .f32⟩
  | 116 => ⟨S4x256x256, .f32⟩
  | 117 => ⟨S4x256x256, .f32⟩
  | 118 => ⟨S1x4096x256, .f32⟩
  | 119 => ⟨S_, .f32⟩
  | 120 => ⟨S1x4096x1024, .f32⟩
  | 121 => ⟨S1x4096x1024, .f32⟩
  | 122 => ⟨S1x4096x256, .f32⟩
  | 123 => ⟨S1x4096x256, .f32⟩
  | 124 => ⟨S1x4096x256, .f32⟩
  | 125 => ⟨S_, .f32⟩
  | 126 => ⟨S1x4097x256, .f32⟩
  | 127 => ⟨S1x4097x256, .f32⟩
  | _ => ⟨S4096x5120, .bf16⟩

abbrev hbmTy0_2 (i : Nat) : BufTy := match i % 128 with
  | 0 => ⟨S_, .f32⟩
  | 1 => ⟨S1x4097x256, .f32⟩
  | 2 => ⟨S1x4097x256, .f32⟩
  | 3 => ⟨S_, .f32⟩
  | 4 => ⟨S1x4097x1024, .f32⟩
  | 5 => ⟨S1x4097x1024, .f32⟩
  | 6 => ⟨S1x1x1024, .f32⟩
  | 7 => ⟨S1x4096x1024, .f32⟩
  | 8 => ⟨S_, .f32⟩
  | 9 => ⟨S_, .f32⟩
  | 10 => ⟨S1x4096x1024, .f32⟩
  | 11 => ⟨S1x4096x1024, .f32⟩
  | 12 => ⟨S1x1024, .f32⟩
  | 13 => ⟨S1x4x256x256, .f32⟩
  | 14 => ⟨S4096x2048, .bf16⟩
  | 15 => ⟨S4096x1024, .f32⟩
  | 16 => ⟨S4096x1024, .bf16⟩
  | 17 => ⟨S4096x2048, .bf16⟩
  | 18 => ⟨S4096x5120, .bf16⟩
  | 19 => ⟨S4x256x256, .f32⟩
  | 20 => ⟨S4x256x256, .bf16⟩
  | _ => ⟨S4096x5120, .bf16⟩

abbrev hbmTy (i : Nat) : BufTy := match i / 128 with
  | 0 => hbmTy0_0 i
  | 1 => hbmTy0_1 i
  | 2 => hbmTy0_2 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_call0_call0_cst : Ref sig .tc := ⟨.hbm, 12, rfl⟩
abbrev main_call0_call0_v0 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_10 : Ref sig .tc := ⟨.hbm, 70, rfl⟩
abbrev main_v51 : Ref sig .tc := ⟨.hbm, 71, rfl⟩
abbrev main_v52 : Ref sig .tc := ⟨.hbm, 72, rfl⟩
abbrev main_c_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_12 : Ref sig .tc := ⟨.hbm, 87, rfl⟩
abbrev main_v66 : Ref sig .tc := ⟨.hbm, 88, rfl⟩
abbrev main_v67 : Ref sig .tc := ⟨.hbm, 89, rfl⟩
abbrev main_c_13 : Ref sig .tc := ⟨.hbm, 90, rfl⟩
abbrev main_v68 : Ref sig .tc := ⟨.hbm, 91, rfl⟩
abbrev main_v69 : Ref sig .tc := ⟨.hbm, 92, rfl⟩
abbrev main_c_14 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_15 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_16 : Ref sig .tc := ⟨.hbm, 104, rfl⟩
abbrev main_v79 : Ref sig .tc := ⟨.hbm, 105, rfl⟩
abbrev main_v80 : Ref sig .tc := ⟨.hbm, 106, rfl⟩
abbrev main_c_17 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_c_18 : Ref sig .tc := ⟨.hbm, 121, rfl⟩
abbrev main_v94 : Ref sig .tc := ⟨.hbm, 122, rfl⟩
abbrev main_v95 : Ref sig .tc := ⟨.hbm, 123, rfl⟩
abbrev main_c_19 : Ref sig .tc := ⟨.hbm, 124, rfl⟩
abbrev main_v96 : Ref sig .tc := ⟨.hbm, 125, rfl⟩
abbrev main_v97 : Ref sig .tc := ⟨.hbm, 126, rfl⟩
abbrev main_c_20 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_c_21 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_c_22 : Ref sig .tc := ⟨.hbm, 138, rfl⟩
abbrev main_v107 : Ref sig .tc := ⟨.hbm, 139, rfl⟩
abbrev main_v108 : Ref sig .tc := ⟨.hbm, 140, rfl⟩
abbrev main_c_23 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_cst_24 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_cst_25 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_cst_26 : Ref sig .tc := ⟨.hbm, 177, rfl⟩
abbrev main_v142 : Ref sig .tc := ⟨.hbm, 178, rfl⟩
abbrev main_v143 : Ref sig .tc := ⟨.hbm, 179, rfl⟩
abbrev main_cst_27 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_cst_28 : Ref sig .tc := ⟨.hbm, 185, rfl⟩
abbrev main_v148 : Ref sig .tc := ⟨.hbm, 186, rfl⟩
abbrev main_v149 : Ref sig .tc := ⟨.hbm, 187, rfl⟩
abbrev main_cst_29 : Ref sig .tc := ⟨.hbm, 188, rfl⟩
abbrev main_v150 : Ref sig .tc := ⟨.hbm, 189, rfl⟩
abbrev main_v151 : Ref sig .tc := ⟨.hbm, 190, rfl⟩
abbrev main_cst_30 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_cst_31 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_cst_32 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_cst_33 : Ref sig .tc := ⟨.hbm, 207, rfl⟩
abbrev main_v165 : Ref sig .tc := ⟨.hbm, 208, rfl⟩
abbrev main_v166 : Ref sig .tc := ⟨.hbm, 209, rfl⟩
abbrev main_cst_34 : Ref sig .tc := ⟨.hbm, 210, rfl⟩
abbrev main_v167 : Ref sig .tc := ⟨.hbm, 211, rfl⟩
abbrev main_v168 : Ref sig .tc := ⟨.hbm, 212, rfl⟩
abbrev main_cst_35 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_cst_36 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_cst_37 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_cst_38 : Ref sig .tc := ⟨.hbm, 230, rfl⟩
abbrev main_v183 : Ref sig .tc := ⟨.hbm, 231, rfl⟩
abbrev main_v184 : Ref sig .tc := ⟨.hbm, 232, rfl⟩
abbrev main_cst_39 : Ref sig .tc := ⟨.hbm, 233, rfl⟩
abbrev main_v185 : Ref sig .tc := ⟨.hbm, 234, rfl⟩
abbrev main_v186 : Ref sig .tc := ⟨.hbm, 235, rfl⟩
abbrev main_cst_40 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_cst_41 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_cst_42 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_cst_43 : Ref sig .tc := ⟨.hbm, 253, rfl⟩
abbrev main_v201 : Ref sig .tc := ⟨.hbm, 254, rfl⟩
abbrev main_v202 : Ref sig .tc := ⟨.hbm, 255, rfl⟩
abbrev main_cst_44 : Ref sig .tc := ⟨.hbm, 256, rfl⟩
abbrev main_v203 : Ref sig .tc := ⟨.hbm, 257, rfl⟩
abbrev main_v204 : Ref sig .tc := ⟨.hbm, 258, rfl⟩
abbrev main_cst_45 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_call1_call0_cst : Ref sig .tc := ⟨.hbm, 264, rfl⟩
abbrev main_call1_call0_v0 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩

abbrev nD : Nat := 1
abbrev τ : Topo := Topo.v7x

variable {F : FTy → Type} [FloatOps F]
-- ==== MixDy.lean ====
abbrev S4096x1024 : Shape := ⟨2, ![4096, 1024]⟩
abbrev S1x1024x1024 : Shape := ⟨3, ![1, 1024, 1024]⟩
abbrev S4096x5120 : Shape := ⟨2, ![4096, 5120]⟩
abbrev S1024x1024 : Shape := ⟨2, ![1024, 1024]⟩
abbrev S4096x2048 : Shape := ⟨2, ![4096, 2048]⟩
abbrev S512x1024 : Shape := ⟨2, ![512, 1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .f32⟩
  | .hbm, ⟨2, _⟩ => ⟨S4096x5120, .bf16⟩
  | .hbm, ⟨3, _⟩ => ⟨S4096x1024, .bf16⟩
  | .hbm, ⟨4, _⟩ => ⟨S4096x1024, .bf16⟩
  | .hbm, ⟨5, _⟩ => ⟨S1024x1024, .f32⟩
  | .hbm, ⟨6, _⟩ => ⟨S1024x1024, .bf16⟩
  | .hbm, ⟨7, _⟩ => ⟨S4096x2048, .bf16⟩
  | .hbm, ⟨8, _⟩ => ⟨S4096x5120, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MixDyRefIdeal.lean ====
abbrev S4096x1024 : Shape := ⟨2, ![4096, 1024]⟩
abbrev S1x1024x1024 : Shape := ⟨3, ![1, 1024, 1024]⟩
abbrev S4096x5120 : Shape := ⟨2, ![4096, 5120]⟩
abbrev S_ : Shape := ⟨0, ![]⟩
abbrev S1024x1024 : Shape := ⟨2, ![1024, 1024]⟩
abbrev S4096x3072 : Shape := ⟨2, ![4096, 3072]⟩
abbrev S4096x2048 : Shape := ⟨2, ![4096, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .f32⟩
  | .hbm, ⟨2, _⟩ => ⟨S4096x5120, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S1024x1024, .f32⟩
  | .hbm, ⟨39, _⟩ => ⟨S4096x1024, .f32⟩
  | .hbm, ⟨40, _⟩ => ⟨S4096x1024, .f32⟩
  | .hbm, ⟨41, _⟩ => ⟨S1024x1024, .f32⟩
  | .hbm, ⟨42, _⟩ => ⟨S1024x1024, .f32⟩
  | .hbm, ⟨43, _⟩ => ⟨S4096x1024, .f32⟩
  | .hbm, ⟨44, _⟩ => ⟨S1x1024x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x3072, .f32⟩
  | .hbm, ⟨53, _⟩ => ⟨S4096x5120, .f32⟩
  | .hbm, ⟨54, _⟩ => ⟨S4096x2048, .f32⟩
  | .hbm, ⟨55, _⟩ => ⟨S4096x2048, .bf16⟩
  | .hbm, ⟨56, _⟩ => ⟨S4096x5120, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== PlePostBwd.lean ====
abbrev S4096x1024 : Shape := ⟨2, ![4096, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x1024, .bf16⟩
  | .hbm, ⟨7, _⟩ => ⟨S4096x1024, .bf16⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_20 : BitVec 32 := 0#32
  let v50 : BitVec 1 := Scalar.cmpi .ne v49 c0_i32_20
  v50

def k0_cond2 (i : grid0.Coords) : BitVec 1 :=
  let arg0 : BitVec 32 := BitVec.ofNat 32 (i 0).val
  let c0_i32_21 : BitVec 32 := 0#32
  let v51 : BitVec 1 := Scalar.cmpi .ne arg0 c0_i32_21
  let v52 : BitVec 32 := Scalar.extui v51
  let c0_i32_22 : BitVec 32 := 0#32
  let v53 : BitVec 1 := Scalar.cmpi .ne v52 c0_i32_22
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PlePostBwdRefIdeal.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .bf16⟩
  | .hbm, ⟨68, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== FfnDhid.lean ====
abbrev S4096x2816 : Shape := ⟨2, ![4096, 2816]⟩
abbrev S1x2816x1024 : Shape := ⟨3, ![1, 2816, 1024]⟩
abbrev S4096x1024 : Shape := ⟨2, ![4096, 1024]⟩
abbrev S2816x1024 : Shape := ⟨2, ![2816, 1024]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 8
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1x2816x1024, .f32⟩
  | .hbm, ⟨3, _⟩ => ⟨S4096x1024, .bf16⟩
  | .hbm, ⟨4, _⟩ => ⟨S2816x1024, .f32⟩
  | .hbm, ⟨5, _⟩ => ⟨S2816x1024, .bf16⟩
  | .hbm, ⟨6, _⟩ => ⟨S4096x2816, .bf16⟩
  | .hbm, ⟨7, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnDhidRefIdeal.lean ====
abbrev S4096x2816 : Shape := ⟨2, ![4096, 2816]⟩
abbrev S1x2816x1024 : Shape := ⟨3, ![1, 2816, 1024]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 35
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1x2816x1024, .f32⟩
  | .hbm, ⟨3, _⟩ => ⟨S4096x1024, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S2816x1024, .f32⟩
  | .hbm, ⟨21, _⟩ => ⟨S4096x1024, .f32⟩
  | .hbm, ⟨22, _⟩ => ⟨S4096x1024, .f32⟩
  | .hbm, ⟨23, _⟩ => ⟨S1024x2816, .f32⟩
  | .hbm, ⟨24, _⟩ => ⟨S2816x1024, .f32⟩
  | .hbm, ⟨25, _⟩ => ⟨S4096x2816, .f32⟩
  | .hbm, ⟨26, _⟩ => ⟨S1x2816x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .bf16⟩
  | .hbm, ⟨34, _⟩ => ⟨S4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== PleDx.lean ====
abbrev S4096x1024 : Shape := ⟨2, ![4096, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S512x1024 : Shape := ⟨2, ![512, 1024]⟩
abbrev S128x1024 : Shape := ⟨2, ![128, 1024]⟩
abbrev S128 : Shape := ⟨1, ![128]⟩
abbrev S128x1 : Shape := ⟨2, ![128, 1]⟩

abbrev nBuf : Space → Nat
  | .hbm => 38
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S4096x1024, .f32⟩
  | .hbm, ⟨6, _⟩ => ⟨S4096x1024, .bf16⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1024x1024, .f32⟩
  | .hbm, ⟨29, _⟩ => ⟨S1024x1024, .bf16⟩
  | .hbm, ⟨30, _⟩ => ⟨S1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S1x1024, .f32⟩
  | .hbm, ⟨36, _⟩ => ⟨S4096x1024, .bf16⟩
  | .hbm, ⟨37, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v270 : BitVec 1 := Scalar.cmpi .eq arg0 c0_i32
  let v271 : BitVec 32 := Scalar.extui v270
  let c0_i32_108 : BitVec 32 := 0#32
  let v272 : BitVec 1 := Scalar.cmpi .ne v271 c0_i32_108
  v272

def k0_cond2 (i : grid0.Coords) : BitVec 1 :=
  let arg0 : BitVec 32 := BitVec.ofNat 32 (i 0).val
  let c0_i32_109 : BitVec 32 := 0#32
  let v273 : BitVec 1 := Scalar.cmpi .ne arg0 c0_i32_109
  let v274 : BitVec 32 := Scalar.extui v273
  let c0_i32_110 : BitVec 32 := 0#32
  let v275 : BitVec 1 := Scalar.cmpi .ne v274 c0_i32_110
  v275

def k0_cond3 (i : grid0.Coords) : BitVec 1 :=
  let arg0 : BitVec 32 := BitVec.ofNat 32 (i 0).val
  let c0_i32_111 : BitVec 32 := 0#32
  let v276 : BitVec 1 := Scalar.cmpi .eq arg0 c0_i32_111
  let v277 : BitVec 32 := Scalar.extui v276
  let c0_i32_112 : BitVec 32 := 0#32
  let v278 : BitVec 1 := Scalar.cmpi .ne v277 c0_i32_112
  v278

def k0_cond4 (i : grid0.Coords) : BitVec 1 :=
  let arg0 : BitVec 32 := BitVec.ofNat 32 (i 0).val
  let c0_i32_113 : BitVec 32 := 0#32
  let v279 : BitVec 1 := Scalar.cmpi .ne arg0 c0_i32_113
  let v280 : BitVec 32 := Scalar.extui v279
  let c0_i32_114 : BitVec 32 := 0#32
  let v281 : BitVec 1 := Scalar.cmpi .ne v280 c0_i32_114
  v281

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== PleDxRefIdeal.lean ====
abbrev S4096x1024 : Shape := ⟨2, ![4096, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩

abbrev nBuf : Space → Nat
  | .hbm => 115
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S4096x1024, .f32⟩
  | .hbm, ⟨6, _⟩ => ⟨S4096x1024, .bf16⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S1024x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S1x1024, .f32⟩
  | .hbm, ⟨84, _⟩ => ⟨S4096x1024, .f32⟩
  | .hbm, ⟨85, _⟩ => ⟨S_, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S1024, .f32⟩
  | .hbm, ⟨96, _⟩ => ⟨S4096x1024, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S4096x1024, .f32⟩
  | .hbm, ⟨101, _⟩ => ⟨S4096x1024, .f32⟩
  | .hbm, ⟨102, _⟩ => ⟨S4096x1, .f32⟩
  | .hbm, ⟨103, _⟩ => ⟨S_, .f32⟩
  | .hbm, ⟨104, _⟩ => ⟨S4096x1, .f32⟩
  | .hbm, ⟨105, _⟩ => ⟨S4096x1, .f32⟩
  | .hbm, ⟨106, _⟩ => ⟨S_, .f32⟩
  | .hbm, ⟨107, _⟩ => ⟨S4096, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S1x1024, .f32⟩
  | .hbm, ⟨114, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_15 : Ref sig .tc := ⟨.hbm, 94, rfl⟩
abbrev main_v71 : Ref sig .tc := ⟨.hbm, 95, rfl⟩
abbrev main_v72 : Ref sig .tc := ⟨.hbm, 96, rfl⟩
abbrev main_cst_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_17 : Ref sig .tc := ⟨.hbm, 103, rfl⟩
abbrev main_v78 : Ref sig .tc := ⟨.hbm, 104, rfl⟩
abbrev main_v79 : Ref sig .tc := ⟨.hbm, 105, rfl⟩
abbrev main_cst_18 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩

abbrev nD : Nat := 1
abbrev τ : Topo := Topo.v7x

variable {F : FTy → Type} [FloatOps F]
-- ==== Ffn2Dx.lean ====
abbrev S4096x1024 : Shape := ⟨2, ![4096, 1024]⟩
abbrev S1x1024 : Shape := ⟨2, ![1, 1024]⟩
abbrev S1x1024x2816 : Shape := ⟨3, ![1, 1024, 2816]⟩
abbrev S4096x2816 : Shape := ⟨2, ![4096, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S2816x1024 : Shape := ⟨2, ![2816, 1024]⟩
abbrev S512x1408 : Shape := ⟨2, ![512, 1408]⟩
abbrev S1408x1024 : Shape := ⟨2, ![1408, 1024]⟩
abbrev S512x1024 : Shape := ⟨2, ![512, 1024]⟩
abbrev S128x1024 : Shape := ⟨2, ![128, 1024]⟩
abbrev S128 : Shape := ⟨1, ![128]⟩
abbrev S128x1 : Shape := ⟨2, ![128, 1]⟩

abbrev nBuf : Space → Nat
  | .hbm => 41
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S4096x1024, .f32⟩
  | .hbm, ⟨7, _⟩ => ⟨S4096x2816, .bf16⟩
  | .hbm, ⟨8, _⟩ => ⟨S4096x2816, .bf16⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x2816, .f32⟩
  | .hbm, ⟨28, _⟩ => ⟨S2816x1024, .f32⟩
  | .hbm, ⟨29, _⟩ => ⟨S2816x1024, .bf16⟩
  | .hbm, ⟨30, _⟩ => ⟨S1024x2816, .f32⟩
  | .hbm, ⟨31, _⟩ => ⟨S2816x1024, .f32⟩
  | .hbm, ⟨32, _⟩ => ⟨S2816x1024, .bf16⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S1x1024, .f32⟩
  | .hbm, ⟨39, _⟩ => ⟨S4096x1024, .bf16⟩
  | .hbm, ⟨40, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S1408x1024, .bf16⟩
  | .local _ .vmem, ⟨7, _⟩ => ⟨S1408x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | .local _ .vmem, ⟨22, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_11 : BitVec 32 := 0#32
  let v17 : BitVec 1 := Scalar.cmpi .ne v16 c0_i32_11
  v17

def k0_cond4 (i : grid0.Coords) : BitVec 1 :=
  let arg0 : BitVec 32 := BitVec.ofNat 32 (i 0).val
  let c0_i32_125 : BitVec 32 := 0#32
  let v284 : BitVec 1 := Scalar.cmpi .eq arg0 c0_i32_125
  let v285 : BitVec 32 := Scalar.extui v284
  let c0_i32_126 : BitVec 32 := 0#32
  let v286 : BitVec 1 := Scalar.cmpi .ne v285 c0_i32_126
  v286

def k0_cond5 (i : grid0.Coords) : BitVec 1 :=
  let arg0 : BitVec 32 := BitVec.ofNat 32 (i 0).val
  let c0_i32_127 : BitVec 32 := 0#32
  let v287 : BitVec 1 := Scalar.cmpi .ne arg0 c0_i32_127
  let v288 : BitVec 32 := Scalar.extui v287
  let c0_i32_128 : BitVec 32 := 0#32
  let v289 : BitVec 1 := Scalar.cmpi .ne v288 c0_i32_128
  v289

def k0_cond6 (i : grid0.Coords) : BitVec 1 :=
  let arg0 : BitVec 32 := BitVec.ofNat 32 (i 0).val
  let c0_i32_129 : BitVec 32 := 0#32
  let v290 : BitVec 1 := Scalar.cmpi .eq arg0 c0_i32_129
  let v291 : BitVec 32 := Scalar.extui v290
  let c0_i32_130 : BitVec 32 := 0#32
  let v292 : BitVec 1 := Scalar.cmpi .ne v291 c0_i32_130
  v292

def k0_cond7 (i : grid0.Coords) : BitVec 1 :=
  let arg0 : BitVec 32 := BitVec.ofNat 32 (i 0).val
  let c0_i32_131 : BitVec 32 := 0#32
  let v293 : BitVec 1 := Scalar.cmpi .ne arg0 c0_i32_131
  let v294 : BitVec 32 := Scalar.extui v293
  let c0_i32_132 : BitVec 32 := 0#32
  let v295 : BitVec 1 := Scalar.cmpi .ne v294 c0_i32_132
  v295

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]
-- ==== Ffn2DxRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S4096x2816 : Shape := ⟨2, ![4096, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩

abbrev nBuf : Space → Nat
  | .hbm => 116
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S4096x1024, .f32⟩
  | .hbm, ⟨7, _⟩ => ⟨S4096x2816, .bf16⟩
  | .hbm, ⟨8, _⟩ => ⟨S4096x2816, .bf16⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S1024x2816, .f32⟩
  | .hbm, ⟨53, _⟩ => ⟨S4096x2816, .f32⟩
  | .hbm, ⟨54, _⟩ => ⟨S1024x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S1x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S1024, .f32⟩
  | .hbm, ⟨97, _⟩ => ⟨S4096x1024, .f32⟩
  | .hbm, ⟨98, _⟩ => ⟨S_, .f32⟩
  | .hbm, ⟨99, _⟩ => ⟨S4096, .f32⟩
  | .hbm, ⟨100, _⟩ => ⟨S4096x1, .f32⟩
  | .hbm, ⟨101, _⟩ => ⟨S4096x1024, .f32⟩
  | .hbm, ⟨102, _⟩ => ⟨S4096x1024, .f32⟩
  | .hbm, ⟨103, _⟩ => ⟨S4096x1, .f32⟩
  | .hbm, ⟨104, _⟩ => ⟨S_, .f32⟩
  | .hbm, ⟨105, _⟩ => ⟨S4096x1, .f32⟩
  | .hbm, ⟨106, _⟩ => ⟨S4096x1, .f32⟩
  | .hbm, ⟨107, _⟩ => ⟨S_, .f32⟩
  | .hbm, ⟨108, _⟩ => ⟨S4096, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .f32⟩
  | .hbm, ⟨114, _⟩ => ⟨S1x1024, .f32⟩
  | .hbm, ⟨115, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_v73 : Ref sig .tc := ⟨.hbm, 97, rfl⟩
abbrev main_cst_14 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_cst_16 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩

abbrev nD : Nat := 1
abbrev τ : Topo := Topo.v7x

variable {F : FTy → Type} [FloatOps F]
-- ==== Ffn1Dx.lean ====
abbrev S1x4096x1024 : Shape := ⟨3, ![1, 4096, 1024]⟩
abbrev S1x1024 : Shape := ⟨2, ![1, 1024]⟩
abbrev S1x1024x2816 : Shape := ⟨3, ![1, 1024, 2816]⟩
abbrev S4096x1024 : Shape := ⟨2, ![4096, 1024]⟩
abbrev S4096x2816 : Shape := ⟨2, ![4096, 2816]⟩
abbrev S1024x2816 : Shape := ⟨2, ![1024, 2816]⟩
abbrev S2816x1024 : Shape := ⟨2, ![2816, 1024]⟩
abbrev S1024 : Shape := ⟨1, ![1024]⟩
abbrev S512x1408 : Shape := ⟨2, ![512, 1408]⟩
abbrev S1408x1024 : Shape := ⟨2, ![1408, 1024]⟩
abbrev S512x1024 : Shape := ⟨2, ![512, 1024]⟩
abbrev S128x1024 : Shape := ⟨2, ![128, 1024]⟩
abbrev S128 : Shape := ⟨1, ![128]⟩
abbrev S128x1 : Shape := ⟨2, ![128, 1]⟩

abbrev nBuf : Space → Nat
  | .hbm => 18
  | .vmem => 17
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S4096x1024, .f32⟩
  | .hbm, ⟨5, _⟩ => ⟨S4096x2816, .bf16⟩
  | .hbm, ⟨6, _⟩ => ⟨S4096x2816, .bf16⟩
  | .hbm, ⟨7, _⟩ => ⟨S4096x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S1024x2816, .f32⟩
  | .hbm, ⟨12, _⟩ => ⟨S2816x1024, .f32⟩
  | .hbm, ⟨13, _⟩ => ⟨S2816x1024, .bf16⟩
  | .hbm, ⟨14, _⟩ => ⟨S1024, .f32⟩
  | .hbm, ⟨15, _⟩ => ⟨S1x1024, .f32⟩
  | .hbm, ⟨16, _⟩ => ⟨S4096x1024, .f32⟩
  | .hbm, ⟨17, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S1408x1024, .bf16⟩
  | .local _ .vmem, ⟨7, _⟩ => ⟨S1408x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_11 : BitVec 32 := 0#32
  let v17 : BitVec 1 := Scalar.cmpi .ne v16 c0_i32_11
  v17

def k0_cond4 (i : grid0.Coords) : BitVec 1 :=
  let arg0 : BitVec 32 := BitVec.ofNat 32 (i 0).val
  let c0_i32_73 : BitVec 32 := 0#32
  let v153 : BitVec 1 := Scalar.cmpi .eq arg0 c0_i32_73
  let v154 : BitVec 32 := Scalar.extui v153
  let c0_i32_74 : BitVec 32 := 0#32
  let v155 : BitVec 1 := Scalar.cmpi .ne v154 c0_i32_74
  v155

def k0_cond5 (i : grid0.Coords) : BitVec 1 :=
  let arg0 : BitVec 32 := BitVec.ofNat 32 (i 0).val
  let c0_i32_75 : BitVec 32 := 0#32
  let v156 : BitVec 1 := Scalar.cmpi .ne arg0 c0_i32_75
  let v157 : BitVec 32 := Scalar.extui v156
  let c0_i32_76 : BitVec 32 := 0#32
  let v158 : BitVec 1 := Scalar.cmpi .ne v157 c0_i32_76
  v158

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Ffn1DxRefIdeal.lean ====
abbrev S1x4096x1024 : Shape := ⟨3, ![1, 4096, 1024]⟩
abbrev S1x1024 : Shape := ⟨2, ![1, 1024]⟩
abbrev S1x1024x2816 : Shape := ⟨3, ![1, 1024, 2816]⟩
abbrev S4096x1024 : Shape := ⟨2, ![4096, 1024]⟩
abbrev S4096x2816 : Shape := ⟨2, ![4096, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩

abbrev nBuf : Space → Nat
  | .hbm => 65
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S4096x1024, .f32⟩
  | .hbm, ⟨5, _⟩ => ⟨S4096x2816, .bf16⟩
  | .hbm, ⟨6, _⟩ => ⟨S4096x2816, .bf16⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1024x2816, .f32⟩
  | .hbm, ⟨30, _⟩ => ⟨S4096x2816, .f32⟩
  | .hbm, ⟨31, _⟩ => ⟨S1024x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== MixDx.lean ====
abbrev S1x4096x1024 : Shape := ⟨3, ![1, 4096, 1024]⟩
abbrev S4096x1024 : Shape := ⟨2, ![4096, 1024]⟩
abbrev S1x1024 : Shape := ⟨2, ![1, 1024]⟩
abbrev S1x1024x5120 : Shape := ⟨3, ![1, 1024, 5120]⟩
abbrev S4096x5120 : Shape := ⟨2, ![4096, 5120]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5120 : Shape := ⟨2, ![1024, 5120]⟩
abbrev S5120x1024 : Shape := ⟨2, ![5120, 1024]⟩
abbrev S512x2560 : Shape := ⟨2, ![512, 2560]⟩
abbrev S2560x1024 : Shape := ⟨2, ![2560, 1024]⟩
abbrev S512x1024 : Shape := ⟨2, ![512, 1024]⟩
abbrev S128x1024 : Shape := ⟨2, ![128, 1024]⟩
abbrev S128 : Shape := ⟨1, ![128]⟩
abbrev S128x1 : Shape := ⟨2, ![128, 1]⟩

abbrev nBuf : Space → Nat
  | .hbm => 40
  | .vmem => 19
  | .smem => 0
  | _ => 0

abbrev bufTy : (tb : Table) → Fin (tcTables nBuf tb) → BufTy
  | .hbm, ⟨0, _⟩ => ⟨S1x4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024x5120, .f32⟩
  | .hbm, ⟨5, _⟩ => ⟨S4096x1024, .f32⟩
  | .hbm, ⟨6, _⟩ => ⟨S4096x5120, .bf16⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1024x5120, .f32⟩
  | .hbm, ⟨30, _⟩ => ⟨S5120x1024, .f32⟩
  | .hbm, ⟨31, _⟩ => ⟨S5120x1024, .bf16⟩
  | .hbm, ⟨32, _⟩ => ⟨S1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S1x1024, .f32⟩
  | .hbm, ⟨38, _⟩ => ⟨S4096x1024, .bf16⟩
  | .hbm, ⟨39, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S2560x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S512x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg0 : BitVec 32 := BitVec.ofNat 32 (i 0).val
  let c0_i32_120 : BitVec 32 := 0#32
  let v279 : BitVec 1 := Scalar.cmpi .eq arg0 c0_i32_120
  let v280 : BitVec 32 := Scalar.extui v279
  let c0_i32_121 : BitVec 32 := 0#32
  let v281 : BitVec 1 := Scalar.cmpi .ne v280 c0_i32_121
  v281

def k0_cond5 (i : grid0.Coords) : BitVec 1 :=
  let arg0 : BitVec 32 := BitVec.ofNat 32 (i 0).val
  let c0_i32_122 : BitVec 32 := 0#32
  let v282 : BitVec 1 := Scalar.cmpi .ne arg0 c0_i32_122
  let v283 : BitVec 32 := Scalar.extui v282
  let c0_i32_123 : BitVec 32 := 0#32
  let v284 : BitVec 1 := Scalar.cmpi .ne v283 c0_i32_123
  v284

def k0_cond6 (i : grid0.Coords) : BitVec 1 :=
  let arg0 : BitVec 32 := BitVec.ofNat 32 (i 0).val
  let c0_i32_124 : BitVec 32 := 0#32
  let v285 : BitVec 1 := Scalar.cmpi .eq arg0 c0_i32_124
  let v286 : BitVec 32 := Scalar.extui v285
  let c0_i32_125 : BitVec 32 := 0#32
  let v287 : BitVec 1 := Scalar.cmpi .ne v286 c0_i32_125
  v287

def k0_cond7 (i : grid0.Coords) : BitVec 1 :=
  let arg0 : BitVec 32 := BitVec.ofNat 32 (i 0).val
  let c0_i32_126 : BitVec 32 := 0#32
  let v288 : BitVec 1 := Scalar.cmpi .ne arg0 c0_i32_126
  let v289 : BitVec 32 := Scalar.extui v288
  let c0_i32_127 : BitVec 32 := 0#32
  let v290 : BitVec 1 := Scalar.cmpi .ne v289 c0_i32_127
  v290

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== MixDxRefIdeal.lean ====
abbrev S1x4096x1024 : Shape := ⟨3, ![1, 4096, 1024]⟩
abbrev S4096x1024 : Shape := ⟨2, ![4096, 1024]⟩
abbrev S1x1024 : Shape := ⟨2, ![1, 1024]⟩
abbrev S1x1024x5120 : Shape := ⟨3, ![1, 1024, 5120]⟩
abbrev S4096x5120 : Shape := ⟨2, ![4096, 5120]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5120 : Shape := ⟨2, ![1024, 5120]⟩

abbrev nBuf : Space → Nat
  | .hbm => 117
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024x5120, .f32⟩
  | .hbm, ⟨5, _⟩ => ⟨S4096x1024, .f32⟩
  | .hbm, ⟨6, _⟩ => ⟨S4096x5120, .bf16⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S1024x5120, .f32⟩
  | .hbm, ⟨55, _⟩ => ⟨S4096x5120, .f32⟩
  | .hbm, ⟨56, _⟩ => ⟨S4096x5120, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S4096x1024, .f32⟩
  | .hbm, ⟨95, _⟩ => ⟨S4096x1024, .f32⟩
  | .hbm, ⟨96, _⟩ => ⟨S_, .f32⟩
  | .hbm, ⟨97, _⟩ => ⟨S1024, .f32⟩
  | .hbm, ⟨98, _⟩ => ⟨S4096x1024, .f32⟩
  | .hbm, ⟨99, _⟩ => ⟨S_, .f32⟩
  | .hbm, ⟨100, _⟩ => ⟨S4096, .f32⟩
  | .hbm, ⟨101, _⟩ => ⟨S4096x1, .f32⟩
  | .hbm, ⟨102, _⟩ => ⟨S4096x1024, .f32⟩
  | .hbm, ⟨103, _⟩ => ⟨S4096x1024, .f32⟩
  | .hbm, ⟨104, _⟩ => ⟨S4096x1, .f32⟩
  | .hbm, ⟨105, _⟩ => ⟨S_, .f32⟩
  | .hbm, ⟨106, _⟩ => ⟨S4096x1, .f32⟩
  | .hbm, ⟨107, _⟩ => ⟨S4096x1, .f32⟩
  | .hbm, ⟨108, _⟩ => ⟨S_, .f32⟩
  | .hbm, ⟨109, _⟩ => ⟨S4096, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S1x1024, .f32⟩
  | .hbm, ⟨116, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_13 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_15 : Ref sig .tc := ⟨.hbm, 96, rfl⟩
abbrev main_v73 : Ref sig .tc := ⟨.hbm, 97, rfl⟩
abbrev main_v74 : Ref sig .tc := ⟨.hbm, 98, rfl⟩
abbrev main_cst_16 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_17 : Ref sig .tc := ⟨.hbm, 105, rfl⟩
abbrev main_v80 : Ref sig .tc := ⟨.hbm, 106, rfl⟩
abbrev main_v81 : Ref sig .tc := ⟨.hbm, 107, rfl⟩
abbrev main_cst_18 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩

abbrev nD : Nat := 1
abbrev τ : Topo := Topo.v7x

variable {F : FTy → Type} [FloatOps F]
-- ==== PleFwd.lean ====
abbrev S4096x1024 : Shape := ⟨2, ![4096, 1024]⟩
abbrev S1x1x4096x256 : Shape := ⟨4, ![1, 1, 4096, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1x4096x1024 : Shape := ⟨3, ![1, 4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S4096x256 : Shape := ⟨2, ![4096, 256]⟩
abbrev S256x1024 : Shape := ⟨2, ![256, 1024]⟩
abbrev S1024x256 : Shape := ⟨2, ![1024, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 38
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1x4096x256, .f32⟩
  | .hbm, ⟨2, _⟩ => ⟨S1x1024, .f32⟩
  | .hbm, ⟨3, _⟩ => ⟨S1x1024x1024, .f32⟩
  | .hbm, ⟨4, _⟩ => ⟨S1x256x1024, .f32⟩
  | .hbm, ⟨5, _⟩ => ⟨S1x1024, .f32⟩
  | .hbm, ⟨6, _⟩ => ⟨S1x4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S1024x1024, .f32⟩
  | .hbm, ⟨26, _⟩ => ⟨S1024x1024, .bf16⟩
  | .hbm, ⟨27, _⟩ => ⟨S4096x256, .f32⟩
  | .hbm, ⟨28, _⟩ => ⟨S256x1024, .f32⟩
  | .hbm, ⟨29, _⟩ => ⟨S1024x256, .f32⟩
  | .hbm, ⟨30, _⟩ => ⟨S1024x256, .bf16⟩
  | .hbm, ⟨31, _⟩ => ⟨S4096x1024, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x256, .f32⟩
  | .local _ .vmem, ⟨4, _⟩ => ⟨S512x256, .f32⟩
  | .local _ .vmem, ⟨5, _⟩ => ⟨S1024x256, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_28 : BitVec 32 := 0#32
  let v48 : BitVec 1 := Scalar.cmpi .ne v47 c0_i32_28
  v48

def k0_cond2 (i : grid0.Coords) : BitVec 1 :=
  let arg0 : BitVec 32 := BitVec.ofNat 32 (i 0).val
  let c0_i32_29 : BitVec 32 := 0#32
  let v49 : BitVec 1 := Scalar.cmpi .ne arg0 c0_i32_29
  let v50 : BitVec 32 := Scalar.extui v49
  let c0_i32_30 : BitVec 32 := 0#32
  let v51 : BitVec 1 := Scalar.cmpi .ne v50 c0_i32_30
  v51

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== PleFwdRefIdeal.lean ====
abbrev S4096x1024 : Shape := ⟨2, ![4096, 1024]⟩
abbrev S1x1x4096x256 : Shape := ⟨4, ![1, 1, 4096, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1x4096x1024 : Shape := ⟨3, ![1, 4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S4096x256 : Shape := ⟨2, ![4096, 256]⟩
abbrev S256x1024 : Shape := ⟨2, ![256, 1024]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1x4096x256, .f32⟩
  | .hbm, ⟨2, _⟩ => ⟨S1x1024, .f32⟩
  | .hbm, ⟨3, _⟩ => ⟨S1x1024x1024, .f32⟩
  | .hbm, ⟨4, _⟩ => ⟨S1x256x1024, .f32⟩
  | .hbm, ⟨5, _⟩ => ⟨S1x1024, .f32⟩
  | .hbm, ⟨6, _⟩ => ⟨S1x4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S4096x256, .f32⟩
  | .hbm, ⟨27, _⟩ => ⟨S256x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S4096, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_cst_12 : Ref sig .tc := ⟨.hbm, 71, rfl⟩
abbrev main_cst_13 : Ref sig .tc := ⟨.hbm, 72, rfl⟩
abbrev main_v51 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_15 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== FfnDown.lean ====
abbrev S4096x2816 : Shape := ⟨2, ![4096, 2816]⟩
abbrev S1x2816x1024 : Shape := ⟨3, ![1, 2816, 1024]⟩
abbrev S4096x1024 : Shape := ⟨2, ![4096, 1024]⟩
abbrev S1x1024 : Shape := ⟨2, ![1, 1024]⟩
abbrev S2816x1024 : Shape := ⟨2, ![2816, 1024]⟩
abbrev S1024 : Shape := ⟨1, ![1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S2816x1024, .f32⟩
  | .hbm, ⟨6, _⟩ => ⟨S2816x1024, .bf16⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== FfnDownRefIdeal.lean ====
abbrev S4096x2816 : Shape := ⟨2, ![4096, 2816]⟩
abbrev S1x2816x1024 : Shape := ⟨3, ![1, 2816, 1024]⟩
abbrev S4096x1024 : Shape := ⟨2, ![4096, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== MixProj.lean ====
abbrev S4096x1024 : Shape := ⟨2, ![4096, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1024x1024, .f32⟩
  | .hbm, ⟨6, _⟩ => ⟨S1024x1024, .bf16⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== MixProjRefIdeal.lean ====
abbrev S4096x1024 : Shape := ⟨2, ![4096, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== SguFwd.lean ====
abbrev S4096x5120 : Shape := ⟨2, ![4096, 5120]⟩
abbrev S1x1024 : Shape := ⟨2, ![1, 1024]⟩
abbrev S1x4x128x128 : Shape := ⟨4, ![1, 4, 128, 128]⟩
abbrev S1x4x128 : Shape := ⟨3, ![1, 4, 128]⟩
abbrev S1024 : Shape := ⟨1, ![1024]⟩
abbrev S4x128x128 : Shape := ⟨3, ![4, 128, 128]⟩
abbrev S4x128 : Shape := ⟨2, ![4, 128]⟩
abbrev S4x128x1 : Shape := ⟨3, ![4, 128, 1]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S128x256 : Shape := ⟨2, ![128, 256]⟩

abbrev nBuf : Space → Nat
  | .hbm => 10
  | .vmem => 9
  | .smem => 0
  | _ => 0

abbrev bufTy : (tb : Table) → Fin (tcTables nBuf tb) → BufTy
  | .hbm, ⟨0, _⟩ => ⟨S4096x5120, .bf16⟩
  | .hbm, ⟨1, _⟩ => ⟨S1x1024, .f32⟩
  | .hbm, ⟨2, _⟩ => ⟨S1x4x128x128, .f32⟩
  | .hbm, ⟨3, _⟩ => ⟨S1x4x128, .f32⟩
  | .hbm, ⟨4, _⟩ => ⟨S1024, .f32⟩
  | .hbm, ⟨5, _⟩ => ⟨S1x1024, .f32⟩
  | .hbm, ⟨6, _⟩ => ⟨S4x128x128, .f32⟩
  | .hbm, ⟨7, _⟩ => ⟨S4x128, .f32⟩
  | .hbm, ⟨8, _⟩ => ⟨S4x128x1, .f32⟩
  | .hbm, ⟨9, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S4x128x128, .f32⟩
  | .local _ .vmem, ⟨6, _⟩ => ⟨S4x128x1, .f32⟩
  | .local _ .vmem, ⟨7, _⟩ => ⟨S512x1024, .bf16⟩
  | .local _ .vmem, ⟨8, _⟩ => ⟨S512x1024, .bf16⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguFwdRefIdeal.lean ====
abbrev S4096x5120 : Shape := ⟨2, ![4096, 5120]⟩
abbrev S1x1024 : Shape := ⟨2, ![1, 1024]⟩
abbrev S1x4x128x128 : Shape := ⟨4, ![1, 4, 128, 128]⟩
abbrev S1x4x128 : Shape := ⟨3, ![1, 4, 128]⟩
abbrev S1x4096x5120 : Shape := ⟨3, ![1, 4096, 5120]⟩
abbrev S1x4096x1024 : Shape := ⟨3, ![1, 4096, 1024]⟩
abbrev S_ : Shape := ⟨0, ![]⟩
abbrev S1024 : Shape := ⟨1, ![1024]⟩
abbrev S4x128x128 : Shape := ⟨3, ![4, 128, 128]⟩
abbrev S4x128 : Shape := ⟨2, ![4, 128]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x4x256 : Shape := ⟨5, ![1, 32, 128, 4, 256]⟩
abbrev S128x128 : Shape := ⟨2, ![128, 128]⟩
abbrev S1x128x128 : Shape := ⟨3, ![1, 128, 128]⟩
abbrev S4x1x32x256x128 : Shape := ⟨5, ![4, 1, 32, 256, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S4096x1024 : Shape := ⟨2, ![4096, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S1x1024, .f32⟩
  | .hbm, ⟨2, _⟩ => ⟨S1x4x128x128, .f32⟩
  | .hbm, ⟨3, _⟩ => ⟨S1x4x128, .f32⟩
  | .hbm, ⟨4, _⟩ => ⟨S4096x5120, .f32⟩
  | .hbm, ⟨5, _⟩ => ⟨S1x4096x5120, .f32⟩
  | .hbm, ⟨6, _⟩ => ⟨S1x4096x1024, .f32⟩
  | .hbm, ⟨7, _⟩ => ⟨S1x4096x1024, .f32⟩
  | .hbm, ⟨8, _⟩ => ⟨S1x4096x1024, .f32⟩
  | .hbm, ⟨9, _⟩ => ⟨S_, .f32⟩
  | .hbm, ⟨10, _⟩ => ⟨S1x4096x1024, .f32⟩
  | .hbm, ⟨11, _⟩ => ⟨S1x4096x1024, .f32⟩
  | .hbm, ⟨12, _⟩ => ⟨S1x4096x1024, .f32⟩
  | .hbm, ⟨13, _⟩ => ⟨S_, .f32⟩
  | .hbm, ⟨14, _⟩ => ⟨S1x4096x1024, .f32⟩
  | .hbm, ⟨15, _⟩ => ⟨S1x4096x1024, .f32⟩
  | .hbm, ⟨16, _⟩ => ⟨S1x4096x1024, .f32⟩
  | .hbm, ⟨17, _⟩ => ⟨S_, .f32⟩
  | .hbm, ⟨18, _⟩ => ⟨S1x4096x1024, .f32⟩
  | .hbm, ⟨19, _⟩ => ⟨S1x4096x1024, .f32⟩
  | .hbm, ⟨20, _⟩ => ⟨S_, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S_, .f32⟩
  | .hbm, ⟨28, _⟩ => ⟨S1x4096x1024, .f32⟩
  | .hbm, ⟨29, _⟩ => ⟨S1x4096x1024, .f32⟩
  | .hbm, ⟨30, _⟩ => ⟨S1x4096x1024, .f32⟩
  | .hbm, ⟨31, _⟩ => ⟨S_, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1x4096x1024, .f32⟩
  | .hbm, ⟨37, _⟩ => ⟨S1x4096x1024, .f32⟩
  | .hbm, ⟨38, _⟩ => ⟨S_, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S1024, .f32⟩
  | .hbm, ⟨43, _⟩ => ⟨S4x128x128, .f32⟩
  | .hbm, ⟨44, _⟩ => ⟨S4x128, .f32⟩
  | .hbm, ⟨45, _⟩ => ⟨S_, .f32⟩
  | .hbm, ⟨46, _⟩ => ⟨S1x4096, .f32⟩
  | .hbm, ⟨47, _⟩ => ⟨S1x4096x1, .f32⟩
  | .hbm, ⟨48, _⟩ => ⟨S_, .f32⟩
  | .hbm, ⟨49, _⟩ => ⟨S1x4096x1, .f32⟩
  | .hbm, ⟨50, _⟩ => ⟨S1x4096x1, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S_, .f32⟩
  | .hbm, ⟨55, _⟩ => ⟨S1x4096, .f32⟩
  | .hbm, ⟨56, _⟩ => ⟨S1x4096x1, .f32⟩
  | .hbm, ⟨57, _⟩ => ⟨S_, .f32⟩
  | .hbm, ⟨58, _⟩ => ⟨S1x4096x1, .f32⟩
  | .hbm, ⟨59, _⟩ => ⟨S1x4096x1, .f32⟩
  | .hbm, ⟨60, _⟩ => ⟨S_, .f32⟩
  | .hbm, ⟨61, _⟩ => ⟨S1x4096x1, .f32⟩
  | .hbm, ⟨62, _⟩ => ⟨S1x4096x1, .f32⟩
  | .hbm, ⟨63, _⟩ => ⟨S1x4096x1, .f32⟩
  | .hbm, ⟨64, _⟩ => ⟨S1x4096x1024, .f32⟩
  | .hbm, ⟨65, _⟩ => ⟨S1x4096x1024, .f32⟩
  | .hbm, ⟨66, _⟩ => ⟨S1x1x1024, .f32⟩
  | .hbm, ⟨67, _⟩ => ⟨S1x4096x1024, .f32⟩
  | .hbm, ⟨68, _⟩ => ⟨S1x4096x1024, .f32⟩
  | .hbm, ⟨69, _⟩ => ⟨S1x32x128x4x256, .f32⟩
  | .hbm, ⟨70, _⟩ => ⟨S_, .i1⟩
  | .hbm, ⟨71, _⟩ => ⟨S128x128, .i1⟩
  | .hbm, ⟨72, _⟩ => ⟨S128x128, .i32⟩
  | .hbm, ⟨73, _⟩ => ⟨S_, .i32⟩
  | .hbm, ⟨74, _⟩ => ⟨S128x128, .i32⟩
  | .hbm, ⟨75, _⟩ => ⟨S128x128, .i32⟩
  | .hbm, ⟨76, _⟩ => ⟨S128x128, .i32⟩
  | .hbm, ⟨77, _⟩ => ⟨S128x128, .i1⟩
  | .hbm, ⟨78, _⟩ => ⟨S_, .i1⟩
  | .hbm, ⟨79, _⟩ => ⟨S128x128, .i1⟩
  | .hbm, ⟨80, _⟩ => ⟨S128x128, .i1⟩
  | .hbm, ⟨81, _⟩ => ⟨S1x128x128, .i1⟩
  | .hbm, ⟨82, _⟩ => ⟨S_, .f32⟩
  | .hbm, ⟨83, _⟩ => ⟨S_, .f32⟩
  | .hbm, ⟨84, _⟩ => ⟨S4x128x128, .i1⟩
  | .hbm, ⟨85, _⟩ => ⟨S4x128x128, .f32⟩
  | .hbm, ⟨86, _⟩ => ⟨S4x128x128, .f32⟩
  | .hbm, ⟨87, _⟩ => ⟨S4x1x32x256x128, .f32⟩
  | .hbm, ⟨88, _⟩ => ⟨S1x32x128x4x256, .f32⟩
  | .hbm, ⟨89, _⟩ => ⟨S128x4, .f32⟩
  | .hbm, ⟨90, _⟩ => ⟨S128x4x1, .f32⟩
  | .hbm, ⟨91, _⟩ => ⟨S1x1x128x4x1, .f32⟩
  | .hbm, ⟨92, _⟩ => ⟨S1x32x128x4x256, .f32⟩
  | .hbm, ⟨93, _⟩ => ⟨S1x32x128x4x256, .f32⟩
  | .hbm, ⟨94, _⟩ => ⟨S1x4096x1024, .f32⟩
  | .hbm, ⟨95, _⟩ => ⟨S1x4096x1024, .f32⟩
  | .hbm, ⟨96, _⟩ => ⟨S4096x1024, .f32⟩
  | .hbm, ⟨97, _⟩ => ⟨S4096x1024, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_cst_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c : Ref sig .tc := ⟨.hbm, 70, rfl⟩
abbrev main_v53 : Ref sig .tc := ⟨.hbm, 71, rfl⟩
abbrev main_call0_v0 : Ref sig .tc := ⟨.hbm, 72, rfl⟩
abbrev main_call0_c : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_c_0 : Ref sig .tc := ⟨.hbm, 78, rfl⟩
abbrev main_call0_v5 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]
-- ==== PoolFwd.lean ====
abbrev S4096x5120 : Shape := ⟨2, ![4096, 5120]⟩
abbrev S1x4x256x256 : Shape := ⟨4, ![1, 4, 256, 256]⟩
abbrev S1x1024 : Shape := ⟨2, ![1, 1024]⟩
abbrev S4x256x256 : Shape := ⟨3, ![4, 256, 256]⟩
abbrev S1024 : Shape := ⟨1, ![1024]⟩
abbrev S4096x1024 : Shape := ⟨2, ![4096, 1024]⟩
abbrev S4096x256 : Shape := ⟨2, ![4096, 256]⟩
abbrev S1x256x256 : Shape := ⟨3, ![1, 256, 256]⟩
abbrev S1x256 : Shape := ⟨2, ![1, 256]⟩
abbrev S4096x1 : Shape := ⟨2, ![4096, 1]⟩
abbrev S256x256 : Shape := ⟨2, ![256, 256]⟩

abbrev nBuf : Space → Nat
  | .hbm => 8
  | .vmem => 8
  | .smem => 0
  | _ => 0

abbrev bufTy : (tb : Table) → Fin (tcTables nBuf tb) → BufTy
  | .hbm, ⟨0, _⟩ => ⟨S4096x5120, .bf16⟩
  | .hbm, ⟨1, _⟩ => ⟨S1x4x256x256, .f32⟩
  | .hbm, ⟨2, _⟩ => ⟨S1x1024, .f32⟩
  | .hbm, ⟨3, _⟩ => ⟨S4x256x256, .f32⟩
  | .hbm, ⟨4, _⟩ => ⟨S4x256x256, .bf16⟩
  | .hbm, ⟨5, _⟩ => ⟨S1024, .f32⟩
  | .hbm, ⟨6, _⟩ => ⟨S1x1024, .f32⟩
  | .hbm, ⟨7, _⟩ => ⟨S4096x1024, .bf16⟩
  | .local _ .vmem, ⟨0, _⟩ => ⟨S4096x256, .bf16⟩
  | .local _ .vmem, ⟨1, _⟩ => ⟨S4096x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256, .f32⟩
  | .local _ .vmem, ⟨5, _⟩ => ⟨S1x256, .f32⟩
  | .local _ .vmem, ⟨6, _⟩ => ⟨S4096x256, .bf16⟩
  | .local _ .vmem, ⟨7, _⟩ => ⟨S4096x256, .bf16⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_cond3 (i : grid0.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_2 : BitVec 32 := 0#32
  let v9 : BitVec 1 := Scalar.cmpi .ne v8 c0_i32_2
  v9

def k0_cond4 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolFwdRefIdeal.lean ====
abbrev S4096x5120 : Shape := ⟨2, ![4096, 5120]⟩
abbrev S1x4x256x256 : Shape := ⟨4, ![1, 4, 256, 256]⟩
abbrev S1x1024 : Shape := ⟨2, ![1, 1024]⟩
abbrev S4096x1024 : Shape := ⟨2, ![4096, 1024]⟩
abbrev S1x4096x1024 : Shape := ⟨3, ![1, 4096, 1024]⟩
abbrev S4x256x256 : Shape := ⟨3, ![4, 256, 256]⟩
abbrev S1024 : Shape := ⟨1, ![1024]⟩
abbrev S_ : Shape := ⟨0, ![]⟩
abbrev S1x1x1024 : Shape := ⟨3, ![1, 1, 1024]⟩
abbrev S1x4097x1024 : Shape := ⟨3, ![1, 4097, 1024]⟩
abbrev S4096 : Shape := ⟨1, ![4096]⟩
abbrev S1x4097x256 : Shape := ⟨3, ![1, 4097, 256]⟩
abbrev S1x4096x1 : Shape := ⟨3, ![1, 4096, 1]⟩
abbrev S1x4096x256 : Shape := ⟨3, ![1, 4096, 256]⟩
abbrev S4096x1 : Shape := ⟨2, ![4096, 1]⟩
abbrev S1x256x256 : Shape := ⟨3, ![1, 256, 256]⟩
abbrev S256x256 : Shape := ⟨2, ![256, 256]⟩

abbrev nBuf : Space → Nat
  | .hbm => 157
  | .vmem => 0
  | .smem => 0
  | _ => 0

abbrev hbmTy0_0 (i : Nat) : BufTy := match i % 128 with
  | 0 => ⟨S4096x5120, .bf16⟩
  | 1 => ⟨S1x4x256x256, .f32⟩
  | 2 => ⟨S1x1024, .f32⟩
  | 3 => ⟨S4096x1024, .bf16⟩
  | 4 => ⟨S4096x1024, .f32⟩
  | 5 => ⟨S1x4096x1024, .f32⟩
  | 6 => ⟨S4x256x256, .f32⟩
  | 7 => ⟨S1024, .f32⟩
  | 8 => ⟨S_, .f32⟩
  | 9 => ⟨S1x1x1024, .f32⟩
  | 10 => ⟨S_, .f32⟩
  | 11 => ⟨S_, .f32⟩
  | 12 => ⟨S1x4096x1024, .f32⟩
  | 13 => ⟨S1x4097x1024, .f32⟩
  | 14 => ⟨S4096, .i32⟩
  | 15 => ⟨S_, .i32⟩
  | 16 => ⟨S4096, .i32⟩
  | 17 => ⟨S4096, .i32⟩
  | 18 => ⟨S_, .i32⟩
  | 19 => ⟨S4096, .i32⟩
  | 20 => ⟨S4096, .i32⟩
  | 21 => ⟨S_, .i32⟩
  | 22 => ⟨S4096, .i32⟩
  | 23 => ⟨S4096, .i32⟩
  | 24 => ⟨S1x4097x256, .f32⟩
  | 25 => ⟨S_, .i32⟩
  | 26 => ⟨S4096, .i32⟩
  | 27 => ⟨S4096, .i32⟩
  | 28 => ⟨S4096, .i32⟩
  | 29 => ⟨S4096, .f32⟩
  | 30 => ⟨S1x4096x1, .f32⟩
  | 31 => ⟨S1x4096x256, .f32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S1x4096x256, .f32⟩
  | 41 => ⟨S1x4096x256, .f32⟩
  | 42 => ⟨S1x4096x256, .f32⟩
  | 43 => ⟨S1x4096x256, .f32⟩
  | 44 => ⟨S1x4096x256, .f32⟩
  | 45 => ⟨S1x4096x256, .f32⟩
  | 46 => ⟨S1x256x256, .f32⟩
  | 47 => ⟨S256x256, .f32⟩
  | 48 => ⟨S1x4096x256, .f32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S1x4097x256, .f32⟩
  | 59 => ⟨S_, .i32⟩
  | 60 => ⟨S4096, .i32⟩
  | 61 => ⟨S4096, .i32⟩
  | 62 => ⟨S4096, .i32⟩
  | 63 => ⟨S4096, .f32⟩
  | 64 => ⟨S1x4096x1, .f32⟩
  | 65 => ⟨S1x4096x256, .f32⟩
  | 66 => ⟨S_, .i32⟩
  | 67 => ⟨S4096, .i32⟩
  | 68 => ⟨S4096, .i1⟩
  | 69 => ⟨S_, .i32⟩
  | 70 => ⟨S4096, .i32⟩
  | 71 => ⟨S4096, .i32⟩
  | 72 => ⟨S4096, .i32⟩
  | 73 => ⟨S4096x1, .i32⟩
  | 74 => ⟨S1x4096x256, .f32⟩
  | 75 => ⟨S1x4096x256, .f32⟩
  | 76 => ⟨S1x4096x256, .f32⟩
  | 77 => ⟨S1x4096x256, .f32⟩
  | 78 => ⟨S1x4096x256, .f32⟩
  | 79 => ⟨S1x4096x256, .f32⟩
  | 80 => ⟨S1x256x256, .f32⟩
  | 81 => ⟨S256x256, .f32⟩
  | 82 => ⟨S1x4096x256, .f32⟩
  | 83 => ⟨S_, .i32⟩
  | 84 => ⟨S4096, .i32⟩
  | 85 => ⟨S4096, .i32⟩
  | 86 => ⟨S_, .i32⟩
  | 87 => ⟨S4096, .i32⟩
  | 88 => ⟨S4096, .i32⟩
  | 89 => ⟨S_, .i32⟩
  | 90 => ⟨S4096, .i32⟩
  | 91 => ⟨S4096, .i32⟩
  | 92 => ⟨S1x4097x256, .f32⟩
  | 93 => ⟨S_, .i32⟩
  | 94 => ⟨S4096, .i32⟩
  | 95 => ⟨S4096, .i32⟩
  | 96 => ⟨S4096, .i32⟩
  | 97 => ⟨S4096, .f32⟩
  | 98 => ⟨S1x4096x1, .f32⟩
  | 99 => ⟨S1x4096x256, .f32⟩
  | 100 => ⟨S_, .i32⟩
  | 101 => ⟨S4096, .i32⟩
  | 102 => ⟨S4096, .i1⟩
  | 103 => ⟨S_, .i32⟩
  | 104 => ⟨S4096, .i32⟩
  | 105 => ⟨S4096, .i32⟩
  | 106 => ⟨S4096, .i32⟩
  | 107 => ⟨S4096x1, .i32⟩
  | 108 => ⟨S1x4096x256, .f32⟩
  | 109 => ⟨S1x4096x256, .f32⟩
  | 110 => ⟨S1x4096x256, .f32⟩
  | 111 => ⟨S1x4096x256, .f32⟩
  | 112 => ⟨S1x4096x256, .f32⟩
  | 113 => ⟨S1x4096x256, .f32⟩
  | 114 => ⟨S1x256x256, .f32⟩
  | 115 => ⟨S256x256, .f32⟩
  | 116 => ⟨S1x4096x256, .f32⟩
  | 117 => ⟨S_, .i32⟩
  | 118 => ⟨S4096, .i32⟩
  | 119 => ⟨S4096, .i32⟩
  | 120 => ⟨S_, .i32⟩
  | 121 => ⟨S4096, .i32⟩
  | 122 => ⟨S4096, .i32⟩
  | 123 => ⟨S_, .i32⟩
  | 124 => ⟨S4096, .i32⟩
  | 125 => ⟨S4096, .i32⟩
  | 126 => ⟨S1x4097x256, .f32⟩
  | 127 => ⟨S_, .i32⟩
  | _ => ⟨S4096x5120, .bf16⟩

abbrev hbmTy0_1 (i : Nat) : BufTy := match i % 128 with
  | 0 => ⟨S4096, .i32⟩
  | 1 => ⟨S4096, .i32⟩
  | 2 => ⟨S4096, .i32⟩
  | 3 => ⟨S4096, .f32⟩
  | 4 => ⟨S1x4096x1, .f32⟩
  | 5 => ⟨S1x4096x256, .f32⟩
  | 6 => ⟨S_, .i32⟩
  | 7 => ⟨S4096, .i32⟩
  | 8 => ⟨S4096, .i1⟩
  | 9 => ⟨S_, .i32⟩
  | 10 => ⟨S4096, .i32⟩
  | 11 => ⟨S4096, .i32⟩
  | 12 => ⟨S4096, .i32⟩
  | 13 => ⟨S4096x1, .i32⟩
  | 14 => ⟨S1x4096x256, .f32⟩
  | 15 => ⟨S1x4096x256, .f32⟩
  | 16 => ⟨S1x4096x256, .f32⟩
  | 17 => ⟨S1x4096x256, .f32⟩
  | 18 => ⟨S1x4096x256, .f32⟩
  | 19 => ⟨S1x4096x256, .f32⟩
  | 20 => ⟨S1x256x256, .f32⟩
  | 21 => ⟨S256x256, .f32⟩
  | 22 => ⟨S1x4096x256, .f32⟩
  | 23 => ⟨S1x4096x1024, .f32⟩
  | 24 => ⟨S1x1x1024, .f32⟩
  | 25 => ⟨S1x4096x1024, .f32⟩
  | 26 => ⟨S1x4096x1024, .f32⟩
  | 27 => ⟨S4096x1024, .f32⟩
  | 28 => ⟨S4096x1024, .bf16⟩
  | _ => ⟨S4096x5120, .bf16⟩

abbrev hbmTy (i : Nat) : BufTy := match i / 128 with
  | 0 => hbmTy0_0 i
  | 1 => hbmTy0_1 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_call0_call0_cst : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_9 : Ref sig .tc := ⟨.hbm, 66, rfl⟩
abbrev main_v50 : Ref sig .tc := ⟨.hbm, 67, rfl⟩
abbrev main_v51 : Ref sig .tc := ⟨.hbm, 68, rfl⟩
abbrev main_c_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_c_11 : Ref sig .tc := ⟨.hbm, 83, rfl⟩
abbrev main_v65 : Ref sig .tc := ⟨.hbm, 84, rfl⟩
abbrev main_v66 : Ref sig .tc := ⟨.hbm, 85, rfl⟩
abbrev main_c_12 : Ref sig .tc := ⟨.hbm, 86, rfl⟩
abbrev main_v67 : Ref sig .tc := ⟨.hbm, 87, rfl⟩
abbrev main_v68 : Ref sig .tc := ⟨.hbm, 88, rfl⟩
abbrev main_c_13 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_14 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_c_15 : Ref sig .tc := ⟨.hbm, 100, rfl⟩
abbrev main_v78 : Ref sig .tc := ⟨.hbm, 101, rfl⟩
abbrev main_v79 : Ref sig .tc := ⟨.hbm, 102, rfl⟩
abbrev main_c_16 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_c_17 : Ref sig .tc := ⟨.hbm, 117, rfl⟩
abbrev main_v93 : Ref sig .tc := ⟨.hbm, 118, rfl⟩
abbrev main_v94 : Ref sig .tc := ⟨.hbm, 119, rfl⟩
abbrev main_c_18 : Ref sig .tc := ⟨.hbm, 120, rfl⟩
abbrev main_v95 : Ref sig .tc := ⟨.hbm, 121, rfl⟩
abbrev main_v96 : Ref sig .tc := ⟨.hbm, 122, rfl⟩
abbrev main_c_19 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_c_20 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_c_21 : Ref sig .tc := ⟨.hbm, 134, rfl⟩
abbrev main_v106 : Ref sig .tc := ⟨.hbm, 135, rfl⟩
abbrev main_v107 : Ref sig .tc := ⟨.hbm, 136, rfl⟩
abbrev main_c_22 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩

abbrev nD : Nat := 1
abbrev τ : Topo := Topo.v7x

variable {F : FTy → Type} [FloatOps F]
-- ==== MixMerge.lean ====
abbrev S4096x1024 : Shape := ⟨2, ![4096, 1024]⟩
abbrev S4096x5120 : Shape := ⟨2, ![4096, 5120]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x5120, .bf16⟩
  | .hbm, ⟨3, _⟩ => ⟨S1x1024x1024, .f32⟩
  | .hbm, ⟨4, _⟩ => ⟨S1x1024x1024, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== MixMergeRefIdeal.lean ====
abbrev S4096x1024 : Shape := ⟨2, ![4096, 1024]⟩
abbrev S4096x5120 : Shape := ⟨2, ![4096, 5120]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x5120, .bf16⟩
  | .hbm, ⟨3, _⟩ => ⟨S1x1024x1024, .f32⟩
  | .hbm, ⟨4, _⟩ => ⟨S1x1024x1024, .f32⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S4096x1024, .f32⟩
  | .hbm, ⟨13, _⟩ => ⟨S1024x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | .hbm, ⟨35, _⟩ => ⟨S4096x1024, .bf16⟩
  | .hbm, ⟨36, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== FfnUp.lean ====
abbrev S4096x1024 : Shape := ⟨2, ![4096, 1024]⟩
abbrev S1x1024 : Shape := ⟨2, ![1, 1024]⟩
abbrev S1x1024x2816 : Shape := ⟨3, ![1, 1024, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 31
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S1024x2816, .f32⟩
  | .hbm, ⟨23, _⟩ => ⟨S2816x1024, .f32⟩
  | .hbm, ⟨24, _⟩ => ⟨S2816x1024, .bf16⟩
  | .hbm, ⟨25, _⟩ => ⟨S1024x2816, .f32⟩
  | .hbm, ⟨26, _⟩ => ⟨S2816x1024, .f32⟩
  | .hbm, ⟨27, _⟩ => ⟨S2816x1024, .bf16⟩
  | .hbm, ⟨28, _⟩ => ⟨S4096x2816, .bf16⟩
  | .hbm, ⟨29, _⟩ => ⟨S4096x2816, .bf16⟩
  | .hbm, ⟨30, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .bf16⟩
  | .local _ .vmem, ⟨5, _⟩ => ⟨S512x1024, .bf16⟩
  | .local _ .vmem, ⟨6, _⟩ => ⟨S1408x1024, .bf16⟩
  | .local _ .vmem, ⟨7, _⟩ => ⟨S1408x1024, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev main_v21_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== FfnUpRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x2816, .f32⟩
  | .hbm, ⟨22, _⟩ => ⟨S4096x2816, .f32⟩
  | .hbm, ⟨23, _⟩ => ⟨S1024x2816, .f32⟩
  | .hbm, ⟨24, _⟩ => ⟨S4096x2816, .f32⟩
  | .hbm, ⟨25, _⟩ => ⟨S4096x2816, .bf16⟩
  | .hbm, ⟨26, _⟩ => ⟨S4096x2816, .bf16⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== Prenorm.lean ====
abbrev S1x4096x1024 : Shape := ⟨3, ![1, 4096, 1024]⟩
abbrev S1x1024 : Shape := ⟨2, ![1, 1024]⟩
abbrev S4096x1024 : Shape := ⟨2, ![4096, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PrenormRefIdeal.lean ====
abbrev S1x4096x1024 : Shape := ⟨3, ![1, 4096, 1024]⟩
abbrev S1x1024 : Shape := ⟨2, ![1, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1024, .f32⟩
  | .hbm, ⟨3, _⟩ => ⟨S1x4096x1024, .f32⟩
  | .hbm, ⟨4, _⟩ => ⟨S_, .f32⟩
  | .hbm, ⟨5, _⟩ => ⟨S1x4096, .f32⟩
  | .hbm, ⟨6, _⟩ => ⟨S1x4096x1, .f32⟩
  | .hbm, ⟨7, _⟩ => ⟨S_, .f32⟩
  | .hbm, ⟨8, _⟩ => ⟨S1x4096x1, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S1x4096x1, .f32⟩
  | .hbm, ⟨14, _⟩ => ⟨S1x4096x1024, .f32⟩
  | .hbm, ⟨15, _⟩ => ⟨S1x4096x1024, .f32⟩
  | .hbm, ⟨16, _⟩ => ⟨S1x1x1024, .f32⟩
  | .hbm, ⟨17, _⟩ => ⟨S1x4096x1024, .f32⟩
  | .hbm, ⟨18, _⟩ => ⟨S1x4096x1024, .f32⟩
  | .hbm, ⟨19, _⟩ => ⟨S4096x1024, .f32⟩
  | .hbm, ⟨20, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Ffn1Up.lean ====
abbrev S1x4096x1024 : Shape := ⟨3, ![1, 4096, 1024]⟩
abbrev S1x1024 : Shape := ⟨2, ![1, 1024]⟩
abbrev S1x1024x2816 : Shape := ⟨3, ![1, 1024, 2816]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S2816x1024 : Shape := ⟨2, ![2816, 1024]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 32
  | .vmem => 10
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S4096x1024, .f32⟩
  | .hbm, ⟨24, _⟩ => ⟨S1024x2816, .f32⟩
  | .hbm, ⟨25, _⟩ => ⟨S4096x2816, .f32⟩
  | .hbm, ⟨26, _⟩ => ⟨S4096x2816, .bf16⟩
  | .hbm, ⟨27, _⟩ => ⟨S1024x2816, .f32⟩
  | .hbm, ⟨28, _⟩ => ⟨S2816x1024, .f32⟩
  | .hbm, ⟨29, _⟩ => ⟨S2816x1024, .bf16⟩
  | .hbm, ⟨30, _⟩ => ⟨S4096x2816, .bf16⟩
  | .hbm, ⟨31, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Ffn1UpRefIdeal.lean ====
abbrev S1x4096x1024 : Shape := ⟨3, ![1, 4096, 1024]⟩
abbrev S1x1024 : Shape := ⟨2, ![1, 1024]⟩
abbrev S1x1024x2816 : Shape := ⟨3, ![1, 1024, 2816]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩

abbrev nBuf : Space → Nat
  | .hbm => 38
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S1024x2816, .f32⟩
  | .hbm, ⟨23, _⟩ => ⟨S4096x2816, .f32⟩
  | .hbm, ⟨24, _⟩ => ⟨S1024x2816, .f32⟩
  | .hbm, ⟨25, _⟩ => ⟨S4096x2816, .f32⟩
  | .hbm, ⟨26, _⟩ => ⟨S4096x2816, .bf16⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== MixIn.lean ====
abbrev S4096x1024 : Shape := ⟨2, ![4096, 1024]⟩
abbrev S1x1024x5120 : Shape := ⟨3, ![1, 1024, 5120]⟩
abbrev S1024x5120 : Shape := ⟨2, ![1024, 5120]⟩
abbrev S5120x1024 : Shape := ⟨2, ![5120, 1024]⟩
abbrev S4096x5120 : Shape := ⟨2, ![4096, 5120]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x1024x5120, .f32⟩
  | .hbm, ⟨2, _⟩ => ⟨S1024x5120, .f32⟩
  | .hbm, ⟨3, _⟩ => ⟨S5120x1024, .f32⟩
  | .hbm, ⟨4, _⟩ => ⟨S5120x1024, .bf16⟩
  | .hbm, ⟨5, _⟩ => ⟨S4096x5120, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S4096x1024 : Shape := ⟨2, ![4096, 1024]⟩
abbrev S1x1024x5120 : Shape := ⟨3, ![1, 1024, 5120]⟩
abbrev S1024x5120 : Shape := ⟨2, ![1024, 5120]⟩
abbrev S4096x5120 : Shape := ⟨2, ![4096, 5120]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x5120, .f32⟩
  | .hbm, ⟨2, _⟩ => ⟨S4096x1024, .f32⟩
  | .hbm, ⟨3, _⟩ => ⟨S1024x5120, .f32⟩
  | .hbm, ⟨4, _⟩ => ⟨S4096x5120, .f32⟩
  | .hbm, ⟨5, _⟩ => ⟨S4096x5120, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnDwd.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwdRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnDwIn.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwInRefIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Ffn1Gate.lean ====
abbrev S4096x1024 : Shape := ⟨2, ![4096, 1024]⟩
abbrev S1x1024x2816 : Shape := ⟨3, ![1, 1024, 2816]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x1024x2816, .f32⟩
  | .hbm, ⟨2, _⟩ => ⟨S1024x2816, .f32⟩
  | .hbm, ⟨3, _⟩ => ⟨S2816x1024, .f32⟩
  | .hbm, ⟨4, _⟩ => ⟨S2816x1024, .bf16⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn1GateRefIdeal.lean ====
abbrev S4096x1024 : Shape := ⟨2, ![4096, 1024]⟩
abbrev S1x1024x2816 : Shape := ⟨3, ![1, 1024, 2816]⟩
abbrev S1024x2816 : Shape := ⟨2, ![1024, 2816]⟩
abbrev S4096x2816 : Shape := ⟨2, ![4096, 2816]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x2816, .f32⟩
  | .hbm, ⟨2, _⟩ => ⟨S4096x1024, .f32⟩
  | .hbm, ⟨3, _⟩ => ⟨S1024x2816, .f32⟩
  | .hbm, ⟨4, _⟩ => ⟨S4096x2816, .f32⟩
  | .hbm, ⟨5, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ReduceAdam.lean ====
abbrev S8x352x1024 : Shape := ⟨3, ![8, 352, 1024]⟩
abbrev S1x352x1024 : Shape := ⟨3, ![1, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReduceAdamRefIdeal.lean ====
abbrev S8x352x1024 : Shape := ⟨3, ![8, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | .hbm, ⟨39, _⟩ => ⟨S352x1024, .f32⟩
  | .hbm, ⟨40, _⟩ => ⟨S_, .f32⟩
  | .hbm, ⟨41, _⟩ => ⟨S352x1024, .f32⟩
  | .hbm, ⟨42, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== ReduceOnly.lean ====
abbrev S8x640x1024 : Shape := ⟨3, ![8, 640, 1024]⟩
abbrev S640x1024 : Shape := ⟨2, ![640, 1024]⟩
abbrev S8x160x1024 : Shape := ⟨3, ![8, 160, 1024]⟩
abbrev S160x1024 : Shape := ⟨2, ![160, 1024]⟩
abbrev S1x160x1024 : Shape := ⟨3, ![1, 160, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x640x1024, .bf16⟩
  | .hbm, ⟨1, _⟩ => ⟨S640x1024, .f32⟩
  | .local _ .vmem, ⟨0, _⟩ => ⟨S8x160x1024, .bf16⟩
  | .local _ .vmem, ⟨1, _⟩ => ⟨S8x160x1024, .bf16⟩
  | .local _ .vmem, ⟨2, _⟩ => ⟨S160x1024, .f32⟩
  | .local _ .vmem, ⟨3, _⟩ => ⟨S160x1024, .f32⟩
  | _, _ => ⟨S8x640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReduceOnlyRefIdeal.lean ====
abbrev S8x640x1024 : Shape := ⟨3, ![8, 640, 1024]⟩
abbrev S_ : Shape := ⟨0, ![]⟩
abbrev S640x1024 : Shape := ⟨2, ![640, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x640x1024, .bf16⟩
  | .hbm, ⟨1, _⟩ => ⟨S8x640x1024, .f32⟩
  | .hbm, ⟨2, _⟩ => ⟨S_, .f32⟩
  | .hbm, ⟨3, _⟩ => ⟨S640x1024, .f32⟩
  | _, _ => ⟨S8x640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdamOnly.lean ====
abbrev S1x1024x640 : Shape := ⟨3, ![1, 1024, 640]⟩
abbrev S1024x640 : Shape := ⟨2, ![1024, 640]⟩
abbrev S256x640 : Shape := ⟨2, ![256, 640]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x640, .f32⟩
  | .hbm, ⟨1, _⟩ => ⟨S1x1024x640, .f32⟩
  | .hbm, ⟨2, _⟩ => ⟨S1x1024x640, .f32⟩
  | .hbm, ⟨3, _⟩ => ⟨S1x1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .hbm, ⟨8, _⟩ => ⟨S1024x640, .f32⟩
  | .hbm, ⟨9, _⟩ => ⟨S1024x640, .f32⟩
  | .hbm, ⟨10, _⟩ => ⟨S1024x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | _, _ => ⟨S1x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOnlyRefIdeal.lean ====
abbrev S1x1024x640 : Shape := ⟨3, ![1, 1024, 640]⟩
abbrev S1024x640 : Shape := ⟨2, ![1024, 640]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x640, .f32⟩
  | .hbm, ⟨1, _⟩ => ⟨S1x1024x640, .f32⟩
  | .hbm, ⟨2, _⟩ => ⟨S1x1024x640, .f32⟩
  | .hbm, ⟨3, _⟩ => ⟨S1x1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .hbm, ⟨8, _⟩ => ⟨S_, .f32⟩
  | .hbm, ⟨9, _⟩ => ⟨S1024x640, .f32⟩
  | .hbm, ⟨10, _⟩ => ⟨S1024x640, .f32⟩
  | .hbm, ⟨11, _⟩ => ⟨S_, .f32⟩
  | .hbm, ⟨12, _⟩ => ⟨S1024x640, .f32⟩
  | .hbm, ⟨13, _⟩ => ⟨S1024x640, .f32⟩
  | .hbm, ⟨14, _⟩ => ⟨S1024x640, .f32⟩
  | .hbm, ⟨15, _⟩ => ⟨S_, .f32⟩
  | .hbm, ⟨16, _⟩ => ⟨S1024x640, .f32⟩
  | .hbm, ⟨17, _⟩ => ⟨S1024x640, .f32⟩
  | .hbm, ⟨18, _⟩ => ⟨S1024x640, .f32⟩
  | .hbm, ⟨19, _⟩ => ⟨S_, .f32⟩
  | .hbm, ⟨20, _⟩ => ⟨S1024x640, .f32⟩
  | .hbm, ⟨21, _⟩ => ⟨S1024x640, .f32⟩
  | .hbm, ⟨22, _⟩ => ⟨S1024x640, .f32⟩
  | .hbm, ⟨23, _⟩ => ⟨S_, .f32⟩
  | .hbm, ⟨24, _⟩ => ⟨S1024x640, .f32⟩
  | .hbm, ⟨25, _⟩ => ⟨S1024x640, .f32⟩
  | .hbm, ⟨26, _⟩ => ⟨S_, .f32⟩
  | .hbm, ⟨27, _⟩ => ⟨S1024x640, .f32⟩
  | .hbm, ⟨28, _⟩ => ⟨S1024x640, .f32⟩
  | .hbm, ⟨29, _⟩ => ⟨S1024x640, .f32⟩
  | .hbm, ⟨30, _⟩ => ⟨S_, .f32⟩
  | .hbm, ⟨31, _⟩ => ⟨S1024x640, .f32⟩
  | .hbm, ⟨32, _⟩ => ⟨S1024x640, .f32⟩
  | .hbm, ⟨33, _⟩ => ⟨S1024x640, .f32⟩
  | .hbm, ⟨34, _⟩ => ⟨S_, .f32⟩
  | .hbm, ⟨35, _⟩ => ⟨S1024x640, .f32⟩
  | .hbm, ⟨36, _⟩ => ⟨S1024x640, .f32⟩
  | .hbm, ⟨37, _⟩ => ⟨S1024x640, .f32⟩
  | .hbm, ⟨38, _⟩ => ⟨S_, .f32⟩
  | .hbm, ⟨39, _⟩ => ⟨S1024x640, .f32⟩
  | .hbm, ⟨40, _⟩ => ⟨S1024x640, .f32⟩
  | _, _ => ⟨S1x1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamReplicated.lean ====
abbrev S8x8x1024 : Shape := ⟨3, ![8, 8, 1024]⟩
abbrev S1x1024 : Shape := ⟨2, ![1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x8x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S8x8x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== AdamReplicatedRefIdeal.lean ====
abbrev S8x8x1024 : Shape := ⟨3, ![8, 8, 1024]⟩
abbrev S1x1024 : Shape := ⟨2, ![1, 1024]⟩
abbrev S_ : Shape := ⟨0, ![]⟩
abbrev S8x1024 : Shape := ⟨2, ![8, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S8x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Math.Reals.lean ====
/-
  Reading the programs at finite arguments. Over the extended reals every operation of finite values that does not
  divide by zero is the operation of the reals: `push` collects these facts as rewrite rules, and `lift_of_finite`
  turns a printed finiteness test of an array into an array of reals that it holds. The literal constants of the
  programs are read as reals here too.
-/
module

public import Idealize.ShloMosaic.Lib.Pointwise
public import Idealize.ShloMosaic.Lib.ReduceAll
public import Idealize.ShloMosaic.Lib.KernelVsHost
public import Idealize.ShloMosaic.Lib.Pipeline.ValueKit
public import Mathlib.Analysis.SpecialFunctions.Trigonometric.DerivHyp

@[expose] public section

noncomputable section

namespace Cert.Reals

open Idealize.ShloMosaic

/-! ## Finite arrays -/

/-- `|x| < ∞` of an extended real says that it is a real. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  induction x with
  | bot => simp at h
  | top => simp at h
  | coe r => exact ⟨r, rfl⟩

/-- `jnp.all(jnp.abs(x) < jnp.inf)`, printed, of an array: it holds reals. -/
theorem lift_of_finite {s : Shape} {axes : List (Fin s.rank)} (x : FVec Ideal s .f32)
    {hb : (⟨0, ![]⟩ : Shape).BroadcastsInDim s ![]}
    {hr : s.ReducesTo axes (⟨0, ![]⟩ : Shape)} {hu : 0 < (⟨0, ![]⟩ : Shape).numel} (init : IVec ⟨0, ![]⟩ 1)
    (h : Host.reduce IntOp.andi (cmpf .olt (Host.absf x) (broadcastInDim s ![] hb (constant ⟨0, ![]⟩ .f32 0x7F800000#32))) init hr hu
      = fun _ => 1#1) : ∃ r : s.Idx → ℝ, x = fun i => (r i : EReal) := by
  have hall : ∀ i, ∃ r : ℝ, x i = (r : EReal) := fun i =>
    real_of_abs_lt (x i) (Host.reduce_andi_all _ _ _ _ (fun a => a.elim0) (congrFun h _) i)
  exact ⟨fun i => (hall i).choose, funext fun i => (hall i).choose_spec⟩

/-- The array that holds the reals of a matrix. -/
def mat {a b : ℕ} (r : Fin a → Fin b → ℝ) : (⟨2, ![a, b]⟩ : Shape).Idx → EReal := fun i => (r (i 0) (i 1) : EReal)

theorem mat_ix2 {a b : ℕ} (r : Fin a → Fin b → ℝ) (i : Fin a) (k : Fin b) : mat r (ix2 i k) = (r i k : EReal) := rfl

/-- An array with one row is told by its columns. -/
theorem eq_mat_row {b : ℕ} {x : (⟨2, ![1, b]⟩ : Shape).Idx → EReal} {r : Fin b → ℝ} (h : ∀ l, x (ix2 0 l) = (r l : EReal)) :
    x = mat fun _ => r := by
  funext j
  have h0 : j 0 = (0 : Fin 1) := Subsingleton.elim (α := Fin 1) _ _
  exact (congrArg x ((eq_ix2 j).trans (congrArg (fun a : Fin 1 => ix2 a (j 1)) h0))).trans (h (j 1))

/-- The same of a matrix, its entries named by row and column. -/
theorem lift_matrix {a b : ℕ} {axes : List (Fin 2)} (x : FVec Ideal ⟨2, ![a, b]⟩ .f32)
    {hb : (⟨0, ![]⟩ : Shape).BroadcastsInDim ⟨2, ![a, b]⟩ ![]}
    {hr : (⟨2, ![a, b]⟩ : Shape).ReducesTo axes (⟨0, ![]⟩ : Shape)} {hu : 0 < (⟨0, ![]⟩ : Shape).numel} (init : IVec ⟨0, ![]⟩ 1)
    (h : Host.reduce IntOp.andi (cmpf .olt (Host.absf x) (broadcastInDim _ ![] hb (constant ⟨0, ![]⟩ .f32 0x7F800000#32))) init hr hu
      = fun _ => 1#1) : ∃ r : Fin a → Fin b → ℝ, x = mat r := by
  obtain ⟨r, rfl⟩ := lift_of_finite x init h
  exact ⟨fun i k => r (ix2 i k), funext fun i => congrArg (fun j => (r j : EReal)) (eq_ix2 i)⟩

/-- The same of an array with one row. -/
theorem lift_gain {b : ℕ} {axes : List (Fin 2)} (x : FVec Ideal ⟨2, ![1, b]⟩ .f32)
    {hb : (⟨0, ![]⟩ : Shape).BroadcastsInDim ⟨2, ![1, b]⟩ ![]}
    {hr : (⟨2, ![1, b]⟩ : Shape).ReducesTo axes (⟨0, ![]⟩ : Shape)} {hu : 0 < (⟨0, ![]⟩ : Shape).numel} (init : IVec ⟨0, ![]⟩ 1)
    (h : Host.reduce IntOp.andi (cmpf .olt (Host.absf x) (broadcastInDim _ ![] hb (constant ⟨0, ![]⟩ .f32 0x7F800000#32))) init hr hu
      = fun _ => 1#1) : ∃ r : Fin b → ℝ, x = mat fun _ => r := by
  obtain ⟨r, rfl⟩ := lift_matrix x init h
  exact ⟨r 0, eq_mat_row fun l => rfl⟩

/-- A conjunction of two tests that is 1 has both 1. -/
theorem andi_split {s : Shape} {a b : IVec s 1} (h : andi a b = fun _ => 1#1) : a = (fun _ => 1#1) ∧ b = fun _ => 1#1 :=
  ⟨funext fun i => (IntOp.andi_eq_one.1 (congrFun h i)).1, funext fun i => (IntOp.andi_eq_one.1 (congrFun h i)).2⟩

/-! ## The literals -/

/-- The norm's ε, the f32 nearest to 10⁻⁶, as the real it is. -/
def ε : ℝ := 8796093 / 8796093022208

theorem ε_pos : 0 < ε := by norm_num [ε]

theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-1 / 2 : ℝ) : EReal) := by
  simp [Ideal.ofBits, Ideal.ieee, -EReal.coe_mul, -EReal.coe_neg]; norm_num
theorem lit_1024 : Ideal.ofBits .f32 0x44800000#32 = ((1024 : ℝ) : EReal) := by
  simp [Ideal.ofBits, Ideal.ieee, -EReal.coe_mul]; norm_num
theorem lit_ε : Ideal.ofBits .f32 0x358637BD#32 = (ε : EReal) := by
  simp [Ideal.ofBits, Ideal.ieee, -EReal.coe_mul, ε]; norm_num

/-! ## Operations of reals -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum over blocks of rows, of the sums over their rows, is the sum over all rows. -/
theorem sum_rows {N n L : ℕ} (hL : L = N * n) (row : Fin N → Fin n → Fin L) (hrow : ∀ p r, (row p r).val = p.val * n + r.val)
    (f : Fin L → ℝ) : ∑ p, ((∑ r, f (row p r) : ℝ) : EReal) = ((∑ i, f i : ℝ) : EReal) := by
  rw [coe_sum, Fin.sum_mul_add_congr (f := f) (fun s k hl => congrArg f (Fin.ext (hrow s k))) hL]

/-- Addition, subtraction, multiplication, negation, sums and the two hyperbolic functions of reals, as rules that
    move the coercion outwards. -/
theorem push :
    (∀ a b : ℝ, (a : EReal) + b = ((a + b : ℝ) : EReal)) ∧ (∀ a b : ℝ, (a : EReal) - b = ((a - b : ℝ) : EReal))
      ∧ (∀ a b : ℝ, (a : EReal) * b = ((a * b : ℝ) : EReal)) ∧ (∀ a : ℝ, -(a : EReal) = ((-a : ℝ) : EReal))
      ∧ (∀ (n : ℕ) (f : Fin n → ℝ), ∑ i, (f i : EReal) = ((∑ i, f i : ℝ) : EReal))
      ∧ (∀ a : ℝ, Ideal.tanh a = (Real.tanh a : EReal)) ∧ (∀ a : ℝ, Ideal.exp a = (Real.exp a : EReal)) :=
  ⟨fun a b => (EReal.coe_add a b).symm, fun a b => (EReal.coe_sub a b).symm, fun a b => (EReal.coe_mul a b).symm,
    fun a => (EReal.coe_neg a).symm, fun n f => coe_sum Finset.univ f, fun _ => rfl, fun _ => rfl⟩

/-- A quotient of reals whose divisor is not zero. -/
theorem div_real (a b : ℝ) (h : b ≠ 0) : Ideal.div (a : EReal) b = ((a / b : ℝ) : EReal) := by
  rw [Ideal.div_coe h, ← EReal.coe_mul]; congr 1; ring

/-- The inverse root of a positive real. -/
theorem rsqrt_real (a : ℝ) (h : 0 < a) : Ideal.rsqrt (a : EReal) = (((Real.sqrt a)⁻¹ : ℝ) : EReal) := by
  rw [Ideal.rsqrt_coe, if_neg (not_lt.2 h.le), if_neg h.ne']

theorem div_1024 (a : ℝ) : Ideal.div (a : EReal) ((1024 : ℝ) : EReal) = ((a / 1024 : ℝ) : EReal) := div_real _ _ (by norm_num)

/-! ## The logistic function -/

/-- The logistic function of a real. -/
def sg (x : ℝ) : ℝ := (1 + Real.exp (-x))⁻¹

/-- `1 / (1 + exp (-x))` at a real. -/
theorem div_exp (x : ℝ) : Ideal.div 1 ((1 + Real.exp (-x) : ℝ) : EReal) = (sg x : EReal) := by
  have h : (1 + Real.exp (-x)) ≠ 0 := by positivity
  have h1 : (1 : EReal) = ((1 : ℝ) : EReal) := rfl
  rw [h1, div_real _ _ h, sg, one_div]

/-- `½ + ½ · tanh (½ x)`, as the kernels compute the logistic function. -/
theorem half_tanh (x : ℝ) : 1 / 2 + 1 / 2 * Real.tanh (1 / 2 * x) = sg x := by
  have h1 : Real.exp (-x) = Real.exp (-(1 / 2 * x)) * Real.exp (-(1 / 2 * x)) := by rw [← Real.exp_add]; ring_nf
  have h2 : Real.exp (1 / 2 * x) * Real.exp (-(1 / 2 * x)) = 1 := by rw [← Real.exp_add]; simp
  have hp := Real.exp_pos (1 / 2 * x)
  have hq := Real.exp_pos (-(1 / 2 * x))
  rw [Real.tanh_eq_sinh_div_cosh, Real.sinh_eq, Real.cosh_eq, sg, h1]
  generalize Real.exp (1 / 2 * x) = p at *
  generalize Real.exp (-(1 / 2 * x)) = q at *
  have hpq : p = q⁻¹ := eq_inv_of_mul_eq_one_left h2
  subst hpq
  field_simp
  ring

/-! ## The root mean square norm of a row -/

variable {n : ℕ}

/-- The mean square of a row of 1024 values, plus ε. -/
def ms (x : Fin n → ℝ) : ℝ := (∑ k, x k * x k) / 1024 + ε

theorem ms_pos (x : Fin n → ℝ) : 0 < ms x :=
  add_pos_of_nonneg_of_pos (div_nonneg (Finset.sum_nonneg fun k _ => mul_self_nonneg _) (by norm_num)) ε_pos

/-- The inverse root mean square of a row. -/
def rr (x : Fin n → ℝ) : ℝ := (Real.sqrt (ms x))⁻¹

theorem rr_mul_rr (x : Fin n → ℝ) : rr x * rr x = (ms x)⁻¹ := by
  rw [rr, ← mul_inv, Real.mul_self_sqrt (ms_pos x).le]

/-- The programs' inverse root mean square of a row of reals. -/
theorem rsqrt_ms (x : Fin n → ℝ) :
    Ideal.rsqrt (((∑ k, x k * x k) / 1024 + ε : ℝ) : EReal) = (rr x : EReal) := rsqrt_real _ (ms_pos x)

/-- The programs' quotient of the inverse root mean square by the mean square. -/
theorem div_ms (x : Fin n → ℝ) :
    Ideal.div (rr x : EReal) (((∑ k, x k * x k) / 1024 + ε : ℝ) : EReal) = ((rr x / ms x : ℝ) : EReal) := div_real _ _ (ms_pos x).ne'

/-- The rules that read the literals, logistic functions, means and inverse root mean squares of reals. -/
theorem read :
    Ideal.ofBits .f32 0x3F000000#32 = ((1 / 2 : ℝ) : EReal) ∧ Ideal.ofBits .f32 0xBF000000#32 = ((-1 / 2 : ℝ) : EReal)
      ∧ Ideal.ofBits .f32 0x44800000#32 = ((1024 : ℝ) : EReal) ∧ Ideal.ofBits .f32 0x358637BD#32 = (ε : EReal)
      ∧ (∀ a : ℝ, 1 + (a : EReal) = ((1 + a : ℝ) : EReal)) ∧ (∀ a : ℝ, 1 - (a : EReal) = ((1 - a : ℝ) : EReal))
      ∧ (∀ x : ℝ, 1 / 2 + 1 / 2 * Real.tanh (1 / 2 * x) = sg x)
      ∧ (∀ x : ℝ, Ideal.div 1 ((1 + Real.exp (-x) : ℝ) : EReal) = (sg x : EReal))
      ∧ (∀ a : ℝ, Ideal.div (a : EReal) ((1024 : ℝ) : EReal) = ((a / 1024 : ℝ) : EReal))
      ∧ (∀ (n : ℕ) (x : Fin n → ℝ), Ideal.rsqrt (((∑ k, x k * x k) / 1024 + ε : ℝ) : EReal) = (rr x : EReal))
      ∧ (∀ (n : ℕ) (x : Fin n → ℝ), Ideal.div (rr x : EReal) (((∑ k, x k * x k) / 1024 + ε : ℝ) : EReal) = ((rr x / ms x : ℝ) : EReal))
      ∧ (∀ f : Fin 1 → ℝ, ∑ k, f k = f 0) :=
  ⟨lit_half, lit_neg_half, lit_1024, lit_ε, fun _ => rfl, fun _ => rfl, half_tanh, div_exp, div_1024, fun _ x => rsqrt_ms x,
    fun _ x => div_ms x, fun f => Fin.sum_univ_one f⟩

/-- The gradient of the norm `x ↦ x · rr x` at `x`, in the direction the cotangent `y` asks. -/
def dnorm (x y : Fin n → ℝ) (l : Fin n) : ℝ := rr x * (y l - x l * rr x * ((∑ k, x k * rr x * y k) / 1024))

/-- The same gradient as differentiation writes it: through the product, and through the mean square twice. -/
theorem dnorm_vjp (x y : Fin n → ℝ) (l : Fin n) :
    y l * rr x + x l * ((∑ k, x k * y k) * (-1 / 2 * (rr x / ms x)) / 1024) + (∑ k, x k * y k) * (-1 / 2 * (rr x / ms x)) / 1024 * x l
      = dnorm x y l := by
  have h : rr x / ms x = rr x * (rr x * rr x) := by rw [rr_mul_rr, div_eq_mul_inv]
  have hs : ∑ k, x k * rr x * y k = rr x * ∑ k, x k * y k := by
    rw [Finset.mul_sum]; exact Finset.sum_congr rfl fun k _ => by ring
  rw [dnorm, hs, h]
  ring

/-- A host sum over axes of extent one: the one element that falls on each index. -/
theorem hostReduceAdd_one {s t : Shape} {axes : List (Fin s.rank)} (h : s.ReducesTo axes t) (x : s.Idx → EReal) (init : EReal) (j : t.Idx)
    (k : s.Idx) (hk : ∀ i, h.drop i = j ↔ i = k) : Ideal.hostReduceAdd h x init j = init + x k := by
  unfold Ideal.hostReduceAdd
  rw [Finset.filter_congr fun i _ => hk i, Finset.filter_eq', if_pos (Finset.mem_univ _), Finset.sum_singleton]

end Cert.Reals

end

end
-- ==== Proof.Sgu.Spec.lean ====
/-
  The gradient of the spatial gating unit, in real numbers. A token has a gate half `zu`, a value half `zv` and the
  cotangent `da` of the unit's output; the forward pass computes `gelu zu · (W · norm (gelu zv) + b)`, where `W` mixes,
  causally, the 128 tokens of a chunk, one matrix for each group of 256 columns.
-/
module

public import proofs.«01_k».proof.Proof.Math.Reals

@[expose] public section

noncomputable section

namespace Cert.Sgu

open Cert.Reals Idealize.ShloMosaic

/-! ## The activation -/

/-- √(2/π), rounded to f32, as the real it is. -/
def gk : ℝ := 13386282 / 16777216
/-- The cubic coefficient of the activation. -/
def gc : ℝ := 8943 / 200000

theorem lit_gk : Ideal.ofBits .f32 0x3F4C422A#32 = (gk : EReal) := by
  simp [Ideal.ofBits, Ideal.ieee, -EReal.coe_mul, gk]; norm_num
theorem lit_three : Ideal.ofBits .f32 0x40400000#32 = ((3 : ℝ) : EReal) := by
  simp [Ideal.ofBits, Ideal.ieee, -EReal.coe_mul]; norm_num

/-- `44715 / 10⁶`, as the reference writes the cubic coefficient. -/
theorem lit_gc : Ideal.div (Ideal.ofBits .f32 0x472EAB00#32) (Ideal.ofBits .f32 0x49742400#32) = (gc : EReal) := by
  have h1 : Ideal.ofBits .f32 0x472EAB00#32 = ((44715 : ℝ) : EReal) := by
    simp [Ideal.ofBits, Ideal.ieee, -EReal.coe_mul]; norm_num
  have h2 : Ideal.ofBits .f32 0x49742400#32 = ((1000000 : ℝ) : EReal) := by
    simp [Ideal.ofBits, Ideal.ieee, -EReal.coe_mul]; norm_num
  rw [h1, h2, div_real _ _ (by norm_num), gc]
  congr 1
  norm_num

/-- The hyperbolic tangent in the activation. -/
def gth (x : ℝ) : ℝ := Real.tanh (gk * (x + gc * x * x * x))
def gelu (x : ℝ) : ℝ := 1 / 2 * x * (1 + gth x)
def dgelu (x : ℝ) : ℝ := 1 / 2 * (1 + gth x) + 1 / 2 * x * (1 - gth x * gth x) * gk * (1 + 26829 / 200000 * x * x)

/-- The activation as the reference writes it. -/
theorem gelu_ref (x : ℝ) : x * (1 / 2 * (1 + Real.tanh (gk * (x + gc * (x * x * x))))) = gelu x := by
  have h : gc * (x * x * x) = gc * x * x * x := by ring
  rw [h, gelu, gth]; ring

/-- The cotangent of the activation's argument as differentiation writes it. -/
theorem dgelu_ref (x y : ℝ) :
    y * (1 / 2 * (1 + Real.tanh (gk * (x + gc * (x * x * x)))))
        + gk * (1 / 2 * (x * y) * ((1 + Real.tanh (gk * (x + gc * (x * x * x)))) * (1 - Real.tanh (gk * (x + gc * (x * x * x))))))
        + gc * (gk * (1 / 2 * (x * y) * ((1 + Real.tanh (gk * (x + gc * (x * x * x)))) * (1 - Real.tanh (gk * (x + gc * (x * x * x)))))))
          * (3 * (x * x))
      = y * dgelu x := by
  have h : gc * (x * x * x) = gc * x * x * x := by ring
  have h3 : (26829 / 200000 : ℝ) = 3 * gc := by norm_num [gc]
  rw [h, dgelu, h3, gth]; ring

/-! ## The layer norm of a row -/

/-- A row less its mean. -/
def cen (v : Fin 1024 → ℝ) (l : Fin 1024) : ℝ := v l - (∑ k, v k) / 1024
/-- The normed row, before the gain. -/
def hat (v : Fin 1024 → ℝ) (l : Fin 1024) : ℝ := cen v l * rr (cen v)
/-- The gradient of the norm at `v`, in the direction the cotangent `y` asks. -/
def dlay (v y : Fin 1024 → ℝ) (l : Fin 1024) : ℝ :=
  rr (cen v) * (y l - (∑ k, y k) / 1024 - hat v l * ((∑ k, y k * hat v k) / 1024))

theorem sum_cen (v : Fin 1024 → ℝ) : ∑ k, cen v k = 0 := by
  simp only [cen, Finset.sum_sub_distrib, Finset.sum_const, Finset.card_univ, Fintype.card_fin, nsmul_eq_mul]
  push_cast; ring

/-- The same gradient as differentiation writes it: that of the root mean square norm of the centred row, less its mean. -/
theorem dlay_vjp (v y : Fin 1024 → ℝ) (l : Fin 1024) :
    dnorm (cen v) y l + (∑ k, -dnorm (cen v) y k) / 1024 = dlay v y l := by
  have hs : ∑ k, -dnorm (cen v) y k = -(rr (cen v) * ∑ k, y k) := by
    have h : ∀ k, -dnorm (cen v) y k
        = -(rr (cen v) * y k) + cen v k * (rr (cen v) * rr (cen v) * ((∑ k, cen v k * rr (cen v) * y k) / 1024)) :=
      fun k => by rw [dnorm]; ring
    rw [Finset.sum_congr rfl fun k _ => h k, Finset.sum_add_distrib, ← Finset.sum_mul, sum_cen, Finset.sum_neg_distrib, ← Finset.mul_sum]
    ring
  rw [hs, dnorm, dlay, hat, Finset.sum_congr rfl fun k _ => mul_comm (y k) (hat v k)]
  simp only [hat]
  ring

/-! ## The causal mask -/

/-- The comparison that cuts the upper triangle away. -/
theorem ge_bit (a s : ℕ) (ha : a < 128) (hs : s < 128) :
    IntOp.cmpi CmpIPredicate.sge (BitVec.ofNat 32 a) (BitVec.ofNat 32 s) = if s ≤ a then 1#1 else 0#1 := by
  have h : (BitVec.ofNat 32 s).sle (BitVec.ofNat 32 a) = decide (s ≤ a) := by
    rw [BitVec.sle_eq_decide, decide_eq_decide, BitVec.toInt_eq_toNat_of_lt, BitVec.toInt_eq_toNat_of_lt] <;>
      simp only [BitVec.toNat_ofNat] <;> omega
  simp only [IntOp.cmpi, h]
  by_cases hd : s ≤ a <;> simp [hd]

theorem sel_bit {p : Prop} [Decidable p] (x : ℝ) :
    Scalar.select (if p then 1#1 else 0#1) (x : EReal) 0 = ((if p then x else 0 : ℝ) : EReal) := by
  by_cases hd : p <;> simp [hd, Scalar.select]

/-- What the mask leaves of an entry. -/
theorem sel_ge (a s : ℕ) (ha : a < 128) (hs : s < 128) (x : ℝ) :
    Scalar.select (IntOp.cmpi CmpIPredicate.sge (BitVec.ofNat 32 a) (BitVec.ofNat 32 s)) (x : EReal) 0
      = ((if s ≤ a then x else 0 : ℝ) : EReal) := by
  rw [ge_bit a s ha hs, sel_bit]

/-! ## The unit -/

/-- Token `s` of the chunk of token `i`. -/
def mate (i : Fin 4096) (s : Fin 128) : Fin 4096 := ⟨i.val / 128 * 128 + s.val, by omega⟩
/-- Which token of its chunk token `i` is. -/
def place (i : Fin 4096) : Fin 128 := ⟨i.val % 128, by omega⟩
/-- The group of column `l`. -/
def grp (l : Fin 1024) : Fin 4 := ⟨l.val / 256, by omega⟩
/-- Token `a` of chunk `n`. -/
def tok (n : Fin 32) (a : Fin 128) : Fin 4096 := ⟨n.val * 128 + a.val, by omega⟩
/-- Column `k` of group `g`. -/
def col (g : Fin 4) (k : Fin 256) : Fin 1024 := ⟨g.val * 256 + k.val, by omega⟩

/-- The reals that the arrays of one call hold: the two halves, the cotangent, the gain, the mixing matrices, the biases. -/
structure Args where
  zu : Fin 4096 → Fin 1024 → ℝ
  zv : Fin 4096 → Fin 1024 → ℝ
  da : Fin 4096 → Fin 1024 → ℝ
  g : Fin 1024 → ℝ
  w : Fin 4 → Fin 128 → Fin 128 → ℝ
  b : Fin 4 → Fin 128 → ℝ

namespace Args

variable (A : Args)

/-- The activated value half of a token. -/
def gv (i : Fin 4096) (l : Fin 1024) : ℝ := gelu (A.zv i l)
/-- The normed values. -/
def vn (i : Fin 4096) (l : Fin 1024) : ℝ := hat (A.gv i) l * A.g l
/-- The cotangent of the mixed values. -/
def ds (i : Fin 4096) (l : Fin 1024) : ℝ := A.da i l * gelu (A.zu i l)
/-- The mixing matrix of a group, its upper triangle cut away. -/
def ws (g : Fin 4) (a s : Fin 128) : ℝ := if s.val ≤ a.val then A.w g a s else 0
/-- The mixed values. -/
def sv (i : Fin 4096) (l : Fin 1024) : ℝ := (∑ s, A.ws (grp l) (place i) s * A.vn (mate i s) l) + A.b (grp l) (place i)
/-- The cotangent of the gate half. -/
def dzu (i : Fin 4096) (l : Fin 1024) : ℝ := A.da i l * A.sv i l * dgelu (A.zu i l)
/-- The cotangent of the normed values. -/
def dvn (i : Fin 4096) (l : Fin 1024) : ℝ := ∑ s, A.ws (grp l) s (place i) * A.ds (mate i s) l
/-- The cotangent of the value half. -/
def dzv (i : Fin 4096) (l : Fin 1024) : ℝ := dlay (A.gv i) (fun k => A.dvn i k * A.g k) l * dgelu (A.zv i l)
/-- The cotangents of both halves, side by side. -/
def dz (i : Fin 4096) (l : Fin 2048) : ℝ := if hl : l.val < 1024 then A.dzu i ⟨l.val, hl⟩ else A.dzv i ⟨l.val - 1024, by omega⟩
/-- What a token adds to the gradient of the gain. -/
def dg (i : Fin 4096) (l : Fin 1024) : ℝ := A.dvn i l * hat (A.gv i) l
/-- What a chunk adds to the gradient of a mixing matrix. -/
def dw (n : Fin 32) (g : Fin 4) (a s : Fin 128) : ℝ :=
  if s.val ≤ a.val then ∑ k, A.ds (tok n a) (col g k) * A.vn (tok n s) (col g k) else 0
/-- What a chunk adds to the gradient of a bias. -/
def db (n : Fin 32) (g : Fin 4) (a : Fin 128) : ℝ := ∑ k, A.ds (tok n a) (col g k)

/-- What two neighbouring chunks add to the gradient of a mixing matrix. -/
def dw2 (n : ℕ) (g : Fin 4) (a s : Fin 128) : ℝ :=
  A.dw ⟨2 * n % 32, by omega⟩ g a s + A.dw ⟨(2 * n + 1) % 32, by omega⟩ g a s
/-- What two neighbouring chunks add to the gradient of a bias. -/
def db2 (n : ℕ) (g : Fin 4) (a : Fin 128) : ℝ := A.db ⟨2 * n % 32, by omega⟩ g a + A.db ⟨(2 * n + 1) % 32, by omega⟩ g a

theorem dz_left (i : Fin 4096) {l : Fin 1024} {l' : Fin 2048} (hl : l'.val = l.val) : A.dz i l' = A.dzu i l := by
  obtain ⟨n, hn⟩ := l'
  obtain rfl : n = l.val := hl
  exact dif_pos l.isLt
theorem dz_right (i : Fin 4096) {l : Fin 1024} {l' : Fin 2048} (hl : l'.val = 1024 + l.val) : A.dz i l' = A.dzv i l := by
  obtain ⟨n, hn⟩ := l'
  obtain rfl : n = 1024 + l.val := hl
  refine (dif_neg (by simp)).trans (congrArg (A.dzv i) (Fin.ext ?_))
  simp

end Args

end Cert.Sgu

end

end
-- ==== Proof.Sgu.Reference.lean ====
/-
  What the reference of the gating unit's gradient computes at finite arguments: the real gradients of Spec.lean, array by array in the
  order in which it computes them.
-/
module

public import proofs.«01_k».proof.Proof.Gen.SguBwdRefIdeal.Run
public import proofs.«01_k».proof.Proof.Sgu.Spec

@[expose] public section

set_option maxRecDepth 16384

noncomputable section

namespace Cert.SguBwdRefIdeal.Value

open Cert.SguBwdRefIdeal Cert.SguBwdRefIdeal.Gen Idealize.ShloMosaic Idealize.ShloMosaic.TcCoe Idealize.SL.Sem Cert.Reals Cert.Sgu

/-- The argument arrays that are read hold these reals. -/
structure Holds (V : Valuation τ sig (Elt Ideal)) (A : Args) : Prop where
  zu : ∀ i l, V (Proc.devRef .tc main_arg0) (ix2 i ⟨(l : Fin 1024).val, by omega⟩) = (A.zu i l : EReal)
  zv : ∀ i l, V (Proc.devRef .tc main_arg0) (ix2 i ⟨1024 + (l : Fin 1024).val, by omega⟩) = (A.zv i l : EReal)
  da : V (Proc.devRef .tc main_arg1) = mat A.da
  g : V (Proc.devRef .tc main_arg3) = mat fun _ => A.g
  w : V (Proc.devRef .tc main_arg4) = fun j => (A.w (j 1) (j 2) (j 3) : EReal)
  b : V (Proc.devRef .tc main_arg5) = fun j => (A.b (j 1) (j 2) : EReal)

/-- An array of one sequence of rows. -/
def seq (Z : Fin 4096 → Fin 1024 → ℝ) : Vec Ideal S1x4096x1024 .f32 := fun j => (Z (j 1) (j 2) : EReal)
theorem seq_ix3 (Z : Fin 4096 → Fin 1024 → ℝ) (a : Fin 1) (i : Fin 4096) (l : Fin 1024) : seq Z (ix3 a i l) = (Z i l : EReal) := rfl
/-- One number for each row. -/
def each (z : Fin 4096 → ℝ) : Vec Ideal S1x4096x1 .f32 := fun j => (z (j 1) : EReal)
theorem each_ix3 (z : Fin 4096 → ℝ) (a : Fin 1) (i : Fin 4096) (l : Fin 1) : each z (ix3 a i l) = (z i : EReal) := rfl

variable {V : Valuation τ sig (Elt Ideal)} {A : Args} (h : Holds V A)
include h

theorem v2_eq : res_main_v2 V = seq A.zu := by
  funext j; idx_vars j
  rw [seq_ix3, ← h.zu]
  pointwise [res_main_v2, res_main_v0]

theorem v4_eq : res_main_v4 V = seq A.zv := by
  funext j; idx_vars j
  rw [seq_ix3, ← h.zv]
  pointwise [res_main_v4, res_main_v0]

omit h in
theorem v5_at (j : S_.Idx) : res_main_v5 V j = (gc : EReal) := by
  pointwise [res_main_v5]
  exact lit_gc

omit h in
theorem v27_at (j : S_.Idx) : res_main_v27 V j = (gc : EReal) := by
  pointwise [res_main_v27]
  exact lit_gc

theorem v16_eq : res_main_v16 V = seq fun i l => Real.tanh (gk * (A.zu i l + gc * (A.zu i l * A.zu i l * A.zu i l))) := by
  funext j; idx_vars j
  unfold res_main_v16
  rw [v2_eq h]
  pointwise
  simp only [seq_ix3, v5_at, lit_gk, push]

theorem v38_eq : res_main_v38 V = seq fun i l => Real.tanh (gk * (A.zv i l + gc * (A.zv i l * A.zv i l * A.zv i l))) := by
  funext j; idx_vars j
  unfold res_main_v38
  rw [v4_eq h]
  pointwise
  simp only [seq_ix3, v27_at, lit_gk, push]

theorem v25_eq : res_main_v25 V = seq fun i l => 1 / 2 * (1 + Real.tanh (gk * (A.zu i l + gc * (A.zu i l * A.zu i l * A.zu i l)))) := by
  funext j; idx_vars j
  unfold res_main_v25
  rw [v16_eq h]
  pointwise
  simp only [seq_ix3, Reals.read, push]

theorem v47_eq : res_main_v47 V = seq fun i l => 1 / 2 * (1 + Real.tanh (gk * (A.zv i l + gc * (A.zv i l * A.zv i l * A.zv i l)))) := by
  funext j; idx_vars j
  unfold res_main_v47
  rw [v38_eq h]
  pointwise
  simp only [seq_ix3, Reals.read, push]

theorem v26_eq : res_main_v26 V = seq fun i l => gelu (A.zu i l) := by
  funext j; idx_vars j
  unfold res_main_v26
  rw [v2_eq h, v25_eq h]
  pointwise
  simp only [seq_ix3, push]
  rw [gelu_ref]

theorem v48_eq : res_main_v48 V = seq A.gv := by
  funext j; idx_vars j
  unfold res_main_v48
  rw [v4_eq h, v47_eq h]
  pointwise
  simp only [seq_ix3, push]
  rw [gelu_ref]
  rfl

theorem v57_eq : res_main_v57 V = seq fun i => cen (A.gv i) := by
  funext j; idx_vars j
  unfold res_main_v57
  rw [v48_eq h]
  pointwise
  simp only [seq_ix3, Reals.read, push]
  rfl

theorem v64_eq : res_main_v64 V = each fun i => (∑ k, cen (A.gv i) k * cen (A.gv i) k) / 1024 + ε := by
  funext j; idx_vars j
  unfold res_main_v64
  rw [v57_eq h]
  pointwise
  simp only [seq_ix3, each_ix3, Reals.read, push]

theorem v65_eq : res_main_v65 V = each fun i => rr (cen (A.gv i)) := by
  funext j; idx_vars j
  unfold res_main_v65
  rw [v64_eq h]
  pointwise
  simp only [each_ix3, Reals.read]

theorem v70_eq : res_main_v70 V = seq fun i => hat (A.gv i) := by
  funext j; idx_vars j
  unfold res_main_v70
  rw [v57_eq h, v65_eq h]
  pointwise
  simp only [seq_ix3, each_ix3, push]
  rfl

theorem v74_at (a : Fin 1) (n : Fin 32) (s : Fin 128) (g : Fin 4) (k : Fin 256) :
    res_main_v74 V (ix5 a n s g k) = (A.vn (tok n s) (col g k) : EReal) := by
  unfold res_main_v74 res_main_v71
  rw [v70_eq h, h.g]
  pointwise
  simp only [seq_ix3, mat_ix2, push]
  rfl

omit h in
theorem v78_1_at (g : Fin 4) (a s : Fin 128) : res_main_v78_1 V (ix3 g a s) = if s.val ≤ a.val then 1#1 else 0#1 := by
  pointwise [res_main_v78_1]
  rw [show IntOp.addi (BitVec.ofNat 32 a.val) 0#32 = BitVec.ofNat 32 a.val from BitVec.add_zero _, ge_bit _ _ a.isLt s.isLt]
  by_cases hd : s.val ≤ a.val <;> simp [hd, Scalar.select]

theorem v78_0_at (g : Fin 4) (a s : Fin 128) : res_main_v78_0 V (ix3 g a s) = (A.ws g a s : EReal) := by
  unfold res_main_v78_0
  rw [h.w]
  pointwise
  rw [v78_1_at]
  exact (congrArg (Scalar.select _ _) (Ideal.ofBits_zero_f32)).trans (sel_bit _)

theorem v89_eq : res_main_v89 V = seq A.da := by
  funext j; idx_vars j
  unfold res_main_v89
  rw [h.da]
  pointwise
  rfl

theorem v92_at (a : Fin 1) (n : Fin 32) (s : Fin 128) (g : Fin 4) (k : Fin 256) :
    res_main_v92 V (ix5 a n s g k) = (A.ds (tok n s) (col g k) : EReal) := by
  unfold res_main_v92
  rw [v26_eq h, v89_eq h]
  pointwise
  simp only [seq_ix3, push]
  rw [mul_comm]; rfl

theorem v86_eq : res_main_v86 V = seq A.sv := by
  funext j; idx_vars j
  unfold res_main_v86
  rw [h.b]
  pointwise
  simp only [v74_at h, v78_0_at h, push]
  refine congrArg _ (congrArg (· + _) (Finset.sum_congr rfl fun s _ => ?_))
  rw [mul_comm]
  exact congrArg₂ (A.ws (grp _) _ s * A.vn · ·) rfl (Fin.ext (Nat.div_add_mod' j2.val 256))

theorem v99_at (g : Fin 4) (a : Fin 1) (n : Fin 32) (k : Fin 256) (s : Fin 128) :
    res_main_v99 V (ix5 g a n k s) = (A.ds (tok n s) (col g k) : EReal) := by
  unfold res_main_v99
  pointwise
  exact v92_at h 0 n s g k

theorem v104_eq : res_main_v104 V = seq A.dvn := by
  funext j; idx_vars j
  unfold res_main_v104
  pointwise
  simp only [v99_at h, v78_0_at h, push]
  refine congrArg _ (Finset.sum_congr rfl fun s _ => ?_)
  rw [mul_comm]
  exact congrArg₂ (A.ws (grp _) s _ * A.ds · ·) rfl (Fin.ext (Nat.div_add_mod' j2.val 256))

theorem v91_eq : res_main_v91 V = seq fun i l => A.da i l * A.sv i l := by
  funext j; idx_vars j
  unfold res_main_v91
  rw [v86_eq h, v89_eq h]
  pointwise
  simp only [seq_ix3, push]

theorem v109_eq : res_main_v109 V = seq fun i k => A.dvn i k * A.g k := by
  funext j; idx_vars j
  unfold res_main_v109 res_main_v71
  rw [v104_eq h, h.g]
  pointwise
  simp only [seq_ix3, mat_ix2, push]

omit h in
/-- The sum over the two axes of extent one. -/
theorem sum_unit (x : S1x4096x1.Idx → EReal) (i : Fin 4096) :
    Ideal.hostReduceAdd reducesTo_S1x4096x1_S4096_d0_2 x 0 (ix1 i) = x (ix3 0 i 0) := by
  rw [hostReduceAdd_one _ x 0 _ (ix3 0 i 0) fun k => ?_, zero_add]
  idx_vars k
  constructor
  · intro e
    have e1 : k1 = i := congrFun e 0
    rw [e1, Subsingleton.elim (α := Fin 1) k0 0, Subsingleton.elim (α := Fin 1) k2 0]
  · intro e
    have e1 : k1 = i := congrFun e 1
    rw [e1]
    funext b
    fin_cases b
    rfl

theorem v125_eq : res_main_v125 V = seq fun i => dnorm (cen (A.gv i)) fun k => A.dvn i k * A.g k := by
  funext j; idx_vars j
  unfold res_main_v125 res_main_v121
  rw [v57_eq h, v64_eq h, v65_eq h, v109_eq h]
  pointwise
  rw [sum_unit]
  pointwise
  simp only [seq_ix3, each_ix3, Reals.read, push]
  rw [dnorm_vjp (cen (A.gv j1)) (fun k => A.dvn j1 k * A.g k) j2]

theorem v134_eq : res_main_v134 V = seq fun i => dlay (A.gv i) fun k => A.dvn i k * A.g k := by
  funext j; idx_vars j
  unfold res_main_v134
  rw [v125_eq h]
  pointwise
  rw [sum_unit]
  pointwise
  simp only [seq_ix3, Reals.read, push]
  rw [dlay_vjp]

theorem v144_eq : res_main_v144 V = seq fun i l => gk * (1 / 2 * (A.zv i l * dlay (A.gv i) (fun k => A.dvn i k * A.g k) l)
    * ((1 + Real.tanh (gk * (A.zv i l + gc * (A.zv i l * A.zv i l * A.zv i l))))
      * (1 - Real.tanh (gk * (A.zv i l + gc * (A.zv i l * A.zv i l * A.zv i l)))))) := by
  funext j; idx_vars j
  unfold res_main_v144
  rw [v4_eq h, v38_eq h, v134_eq h]
  pointwise
  simp only [seq_ix3, Reals.read, lit_gk, push]

theorem v156_eq : res_main_v156 V = seq fun i l => gk * (1 / 2 * (A.zu i l * (A.da i l * A.sv i l))
    * ((1 + Real.tanh (gk * (A.zu i l + gc * (A.zu i l * A.zu i l * A.zu i l))))
      * (1 - Real.tanh (gk * (A.zu i l + gc * (A.zu i l * A.zu i l * A.zu i l)))))) := by
  funext j; idx_vars j
  unfold res_main_v156
  rw [v2_eq h, v16_eq h, v91_eq h]
  pointwise
  simp only [seq_ix3, Reals.read, lit_gk, push]

/-- The indices that the gradient of the mixing matrices sums over: a chunk and a column of the group. -/
def pairs : Fin 32 × Fin 256 ≃ dot_S4x1x32x256x128_S1x32x128x4x256_S4x128x128_123_014_4_2_0_3.contr.Idx where
  toFun p := fun a => match a with
    | ⟨0, _⟩ => (0 : Fin 1)
    | ⟨1, _⟩ => p.1
    | ⟨2, _⟩ => p.2
  invFun q := (q ⟨1, by decide⟩, q ⟨2, by decide⟩)
  left_inv _ := rfl
  right_inv q := by
    funext a
    match a with
    | ⟨0, _⟩ => exact Subsingleton.elim (α := Fin 1) _ _
    | ⟨1, _⟩ => rfl
    | ⟨2, _⟩ => rfl

theorem dw_eq (g : Fin 4) (a s : Fin 128) :
    Ideal.matmul dot_S4x1x32x256x128_S1x32x128x4x256_S4x128x128_123_014_4_2_0_3 (res_main_v99 V) (res_main_v74 V) (fun _ => 0) (ix3 g a s)
      = ((∑ n, ∑ k, A.ds (tok n a) (col g k) * A.vn (tok n s) (col g k) : ℝ) : EReal) := by
  unfold Ideal.matmul
  rw [zero_add, ← Equiv.sum_comp pairs, Fintype.sum_prod_type]
  refine Eq.trans (b := ∑ n, ∑ k, (A.ds (tok n a) (col g k) : EReal) * (A.vn (tok n s) (col g k) : EReal)) ?_ (by simp only [push])
  simp only [← v99_at h g 0, ← v74_at h 0]
  refine Finset.sum_congr rfl fun n _ => Finset.sum_congr rfl fun k _ => congrArg₂ (· * ·) (congrArg _ ?_) (congrArg _ ?_)
  · funext b
    fin_cases b <;> rfl
  · funext b
    fin_cases b <;> rfl

/-- The reference's two sums of a bias's gradient: over the chunks and the columns of a group, then over axes of extent one. -/
theorem db_eq (a : Fin 128) (g : Fin 4) :
    Host.reduceAdd (F := Ideal) (φ := .f32) (res_main_v92 V) (constant S_ .f32 0x00000000#32) reducesTo_S1x32x128x4x256_S1x128x4_d1_4 h_S_ (ix3 0 a g)
      = ((∑ n, A.db n g a : ℝ) : EReal) := by
  have e : ∀ i : S1x32x128x4x256.Idx, reducesTo_S1x32x128x4x256_S1x128x4_d1_4.drop i = ix3 0 a g ↔ ∃ p : Fin 32 × Fin 256, ix5 0 p.1 a g p.2 = i := by
    intro i
    idx_vars i
    constructor
    · intro e
      have e1 : i2 = a := congrFun e 1
      have e2 : i3 = g := congrFun e 2
      exact ⟨(i1, i4), by rw [e1, e2, Subsingleton.elim (α := Fin 1) i0 0]⟩
    · rintro ⟨p, e⟩
      have e1 : a = i2 := congrFun e 2
      have e2 : g = i3 := congrFun e 3
      rw [e1, e2]
      funext b
      fin_cases b
      · exact Subsingleton.elim (α := Fin 1) _ _
      · rfl
      · rfl
  pointwise
  unfold Ideal.hostReduceAdd
  rw [zero_add]
  refine (Finset.sum_filter_eq_sum_of_fiber _ _ (fun p q e => Prod.ext (congrFun e 1) (congrFun e 4)) e _).trans ?_
  rw [Fintype.sum_prod_type]
  simp only [v92_at h, push]
  rfl

omit h in
theorem sum_row (x : S1x1x1024.Idx → EReal) (l : Fin 1024) :
    Ideal.hostReduceAdd reducesTo_S1x1x1024_S1024_d0_1 x 0 (ix1 l) = x (ix3 0 0 l) := by
  rw [hostReduceAdd_one _ x 0 _ (ix3 0 0 l) fun k => ?_, zero_add]
  idx_vars k
  constructor
  · intro e
    have e1 : k2 = l := congrFun e 0
    rw [e1, Subsingleton.elim (α := Fin 1) k0 0, Subsingleton.elim (α := Fin 1) k1 0]
  · intro e
    have e1 : k2 = l := congrFun e 2
    rw [e1]
    funext b
    fin_cases b
    rfl

omit h in
/-- The two cotangents and what the result keeps of the third array, side by side. -/
theorem beside (x y : Vec Ideal S4096x1024 .bf16) (z : Vec Ideal S4096x3072 .bf16) (j : S4096x5120.Idx) :
    concatenate S4096x5120 1 [⟨S4096x1024, x⟩, ⟨S4096x1024, y⟩, ⟨S4096x3072, z⟩] concatenates_S4096x1024_S4096x1024_S4096x3072_S4096x5120_d1 j
      = if h1 : (j 1).val < 1024 then x (ix2 (j 0) ⟨(j 1).val, h1⟩)
        else if h2 : (j 1).val < 2048 then y (ix2 (j 0) ⟨(j 1).val - 1024, by omega⟩)
        else z (ix2 (j 0) ⟨(j 1).val - 2048, by have : (j 1).val < 5120 := (j 1).isLt; omega⟩) := by
  idx_vars j
  pointwise
  by_cases h1 : j1.val < 1024
  · simp [h1]
  · by_cases h2 : j1.val < 2048
    · have h3 : j1.val - 1024 < 1024 := by omega
      simp [h1, h2, h3]
    · have h3 : ¬j1.val - 1024 < 1024 := by omega
      simp [h1, h2, h3, Nat.sub_sub]

omit h in
theorem sum_units (x : S1x1x128x4x1.Idx → EReal) (a : Fin 128) (g : Fin 4) :
    Ideal.hostReduceAdd reducesTo_S1x1x128x4x1_S128x4_d0_1_4 x 0 (ix2 a g) = x (ix5 0 0 a g 0) := by
  rw [hostReduceAdd_one _ x 0 _ (ix5 0 0 a g 0) fun k => ?_, zero_add]
  idx_vars k
  constructor
  · intro e
    have e1 : k2 = a := congrFun e 0
    have e2 : k3 = g := congrFun e 1
    rw [e1, e2, Subsingleton.elim (α := Fin 1) k0 0, Subsingleton.elim (α := Fin 1) k1 0, Subsingleton.elim (α := Fin 1) k4 0]
  · intro e
    have e1 : k2 = a := congrFun e 2
    have e2 : k3 = g := congrFun e 3
    rw [e1, e2]
    funext b
    fin_cases b <;> rfl

end Cert.SguBwdRefIdeal.Value

end

end
-- ==== Proof.Sgu.Block.lean ====
/-
  What one point of the kernel of the spatial gating unit's gradient computes from its blocks, at finite arguments.
-/
module

public import proofs.«01_k».proof.Proof.Gen.SguBwdIdeal.Value
public import proofs.«01_k».proof.Proof.Sgu.Spec
public import Idealize.ShloMosaic.Lib.Pipeline.ValueKit

@[expose] public section

set_option maxRecDepth 16384

noncomputable section

namespace Cert.SguBwdIdeal.Value

open Cert.SguBwdIdeal Cert.SguBwdIdeal.Gen Idealize.ShloMosaic Idealize.ShloMosaic.TcCoe Idealize.SL.Sem Cert.Reals Cert.Sgu

theorem named_gc : (Named.named κ "gelu_c" 0x3D372713#32 : Ideal .f32) = ((gc : ℝ) : EReal) :=
  IdealRules.named_const.ideal_named_scalar _ _ _ _ rfl
theorem named_3gc : (Named.named κ "gelu_3c" 0x3E095D4F#32 : Ideal .f32) = ((26829 / 200000 : ℝ) : EReal) :=
  IdealRules.named_const.ideal_named_scalar _ _ _ _ rfl

section
variable (zu zv da : Fin 256 → Fin 1024 → ℝ) (g : Fin 1024 → ℝ)

theorem pay4_mat : k0_pay4 (F := Ideal) (mat zu) = mat fun r l => gelu (zu r l) := by
  funext j; idx_vars j
  pointwise [k0_pay4, k0_pay2]
  simp only [mat_ix2, named_gc, lit_gk, read, push]
  rfl

theorem pay5_mat : k0_pay5 (F := Ideal) (mat zv) = mat fun r => cen fun l => gelu (zv r l) := by
  funext j; idx_vars j
  pointwise [k0_pay5, k0_pay3]
  simp only [mat_ix2, named_gc, lit_gk, read, push]
  rfl

theorem pay6_mat (r : Fin 256) (i : Fin 1) : k0_pay6 (F := Ideal) (mat zv) (ix2 r i)
    = (((∑ k, cen (fun l => gelu (zv r l)) k * cen (fun l => gelu (zv r l)) k) / 1024 : ℝ) : EReal) := by
  unfold k0_pay6
  rw [pay5_mat]
  pointwise
  simp only [mat_ix2, read, push]

theorem pay9_mat : k0_pay9 (F := Ideal) (k0_pay5 (mat zv)) (k0_pay6 (mat zv)) k0_pay7 = mat fun r => hat fun l => gelu (zv r l) := by
  rw [pay5_mat]
  funext j; idx_vars j
  pointwise [k0_pay9, k0_pay8, k0_pay7]
  simp only [mat_ix2, pay6_mat, read, push]
  rfl

theorem pay11_mat : k0_pay11 (F := Ideal) (k0_pay5 (mat zv)) (k0_pay6 (mat zv)) k0_pay7 (mat fun _ => g)
    = mat fun r l => hat (fun l => gelu (zv r l)) l * g l := by
  unfold k0_pay11
  rw [pay9_mat]
  funext j; idx_vars j
  pointwise [k0_pay10]
  simp only [mat_ix2, push]

theorem pay13_mat : k0_pay13 (F := Ideal) (k0_pay4 (mat zu)) (mat da) = mat fun r l => da r l * gelu (zu r l) := by
  rw [pay4_mat]
  funext j; idx_vars j
  pointwise [k0_pay13, k0_pay12]
  simp only [mat_ix2, push]
end

end Cert.SguBwdIdeal.Value

end

end
-- ==== Proof.Sgu.Tiles.lean ====
/-
  What the tiles of one block of the gating unit's gradient hold, its rows given as reals: the scratch with the cotangents of the
  normed values, and the block of the value half's cotangents.
-/
module

public import proofs.«01_k».proof.Proof.Sgu.Block

@[expose] public section
set_option maxRecDepth 16384
noncomputable section
namespace Cert.SguBwdIdeal.Value
open Cert.SguBwdIdeal Cert.SguBwdIdeal.Gen Idealize.ShloMosaic Idealize.ShloMosaic.TcCoe Idealize.SL.Sem Cert.Reals Cert.Sgu

/-- Token `s` of the chunk of row `r` of a block. -/
def bmate (r : Fin 256) (s : Fin 128) : Fin 256 := ⟨r.val / 128 * 128 + s.val, by omega⟩
/-- Which token of its chunk row `r` of a block is. -/
def bplace (r : Fin 256) : Fin 128 := ⟨r.val % 128, by omega⟩

section
variable (zu da : Fin 256 → Fin 1024 → ℝ) (w : Fin 4 → Fin 128 → Fin 128 → ℝ)

/-- The mixing matrices that a block holds. -/
def wmat : Vec Ideal S4x128x128 .f32 := fun j => (w (j 0) (j 1) (j 2) : EReal)
/-- The matrix of a group, its upper triangle cut away. -/
def cut (g : Fin 4) (a s : Fin 128) : ℝ := if s.val ≤ a.val then w g a s else 0
/-- The biases that a block holds. -/
def bmat (b : Fin 4 → Fin 128 → ℝ) : Vec Ideal S4x128x1 .f32 := fun j => (b (j 0) (j 1) : EReal)
theorem bmat_ix3 (b : Fin 4 → Fin 128 → ℝ) (g : Fin 4) (a : Fin 128) (s : Fin 1) : bmat b (ix3 g a s) = (b g a : EReal) := rfl
theorem wmat_ix3 (g : Fin 4) (a s : Fin 128) : wmat w (ix3 g a s) = (w g a s : EReal) := rfl

variable {w} {d : Fin 256 → Fin 1024 → ℝ} in
/-- One summand, its token and column named as the tile names them. -/
theorem dvn_term {g g' : Fin 4} {a a' s : Fin 128} {i i' : Fin 256} {l l' : Fin 1024} (hg : g.val = g'.val)
    (ha : a.val = a'.val) (hi : i.val = i'.val) (hl : l.val = l'.val) :
    (if a.val ≤ s.val then w g s a * d i l else 0) = cut w g' s a' * d i' l' := by
  obtain rfl := Fin.ext hg
  obtain rfl := Fin.ext ha
  obtain rfl := Fin.ext hi
  obtain rfl := Fin.ext hl
  rw [cut, ite_mul, zero_mul]

/-- The normed values' first tile. -/
theorem pay19_mat (zv : Fin 256 → Fin 1024 → ℝ) (g : Fin 1024 → ℝ) :
    k0_pay19 (F := Ideal) (k0_pay5 (mat zv)) (k0_pay6 (mat zv)) k0_pay7 (mat fun _ => g)
      = mat fun (r : Fin 128) (l : Fin 256) => hat (fun l => gelu (zv ⟨r.val, by omega⟩ l)) ⟨l.val, by omega⟩ * g ⟨l.val, by omega⟩ := by
  funext y
  idx_vars y
  refine Eq.trans ?_ (congrFun (pay11_mat zv g) (ix2 ⟨y0.val, by omega⟩ ⟨y1.val, by omega⟩))
  generalize hv : k0_pay11 (F := Ideal) _ _ _ _ = v
  simp only [k0_pay19, hv]
  pointwise

/-- The mixed values' cotangents, first tile. -/
theorem pay20_mat : k0_pay20 (F := Ideal) (k0_pay4 (mat zu)) (mat da)
      = mat fun (r : Fin 128) (l : Fin 256) => da ⟨r.val, by omega⟩ ⟨l.val, by omega⟩ * gelu (zu ⟨r.val, by omega⟩ ⟨l.val, by omega⟩) := by
  funext y
  idx_vars y
  refine Eq.trans ?_ (congrFun (pay13_mat zu da) (ix2 ⟨y0.val, by omega⟩ ⟨y1.val, by omega⟩))
  generalize hv : k0_pay13 (F := Ideal) _ _ = v
  simp only [k0_pay20, hv]
  pointwise

/-- All of the scratch. -/
abbrev scratchRect : Rect S256x1024 := Rect.unit ![0, 0] ![256, 1024] inb_S256x1024_S256x1024_0_0

/-- What the kernel's scratch holds when it is read back: the cotangents of the normed values. -/
theorem dvn_read (d : Fin 256 → Fin 1024 → ℝ) : (View.readCov (Val := Elt Ideal) (View.whole cc0_scratch0)
        [⟨Rect.unit ![128, 768] ![128, 256] inb_S256x1024_S128x256_128_768,
            k0_pay124 (F := Ideal) (k0_pay101 k0_pay14 (View.ld (wmat w) (Rect.unit ![3, 0, 0] ![1, 128, 128] inb_S4x128x128_S1x128x128_3_0_0))) (k0_pay117 (mat d))⟩,
          ⟨Rect.unit ![0, 768] ![128, 256] inb_S256x1024_S128x256_0_768,
            k0_pay115 (k0_pay101 k0_pay14 (View.ld (wmat w) (Rect.unit ![3, 0, 0] ![1, 128, 128] inb_S4x128x128_S1x128x128_3_0_0))) (k0_pay106 (mat d))⟩,
          ⟨Rect.unit ![128, 512] ![128, 256] inb_S256x1024_S128x256_128_512,
            k0_pay95 (k0_pay71 k0_pay14 (View.ld (wmat w) (Rect.unit ![2, 0, 0] ![1, 128, 128] inb_S4x128x128_S1x128x128_2_0_0))) (k0_pay88 (mat d))⟩,
          ⟨Rect.unit ![0, 512] ![128, 256] inb_S256x1024_S128x256_0_512,
            k0_pay86 (k0_pay71 k0_pay14 (View.ld (wmat w) (Rect.unit ![2, 0, 0] ![1, 128, 128] inb_S4x128x128_S1x128x128_2_0_0))) (k0_pay76 (mat d))⟩,
          ⟨Rect.unit ![128, 256] ![128, 256] inb_S256x1024_S128x256_128_256,
            k0_pay65 (k0_pay43 k0_pay14 (View.ld (wmat w) (Rect.unit ![1, 0, 0] ![1, 128, 128] inb_S4x128x128_S1x128x128_1_0_0))) (k0_pay59 (mat d))⟩,
          ⟨Rect.unit ![0, 256] ![128, 256] inb_S256x1024_S128x256_0_256,
            k0_pay57 (k0_pay43 k0_pay14 (View.ld (wmat w) (Rect.unit ![1, 0, 0] ![1, 128, 128] inb_S4x128x128_S1x128x128_1_0_0))) (k0_pay48 (mat d))⟩,
          ⟨Rect.unit ![128, 0] ![128, 256] inb_S256x1024_S128x256_128_0,
            k0_pay37 (k0_pay15 (View.ld (wmat w) (Rect.unit ![0, 0, 0] ![1, 128, 128] inb_S4x128x128_S1x128x128_0_0_0))) (k0_pay30 (mat d))⟩,
          ⟨Rect.unit ![0, 0] ![128, 256] inb_S256x1024_S128x256_0_0,
            k0_pay28 (k0_pay15 (View.ld (wmat w) (Rect.unit ![0, 0, 0] ![1, 128, 128] inb_S4x128x128_S1x128x128_0_0_0))) (mat fun (r : Fin 128) (l : Fin 256) => d ⟨r.val, by omega⟩ ⟨l.val, by omega⟩)⟩]
      scratchRect.toLoadRect : Vec Ideal S256x1024 .f32)
    = mat fun r l => ∑ s, cut w ⟨l.val / 256, by omega⟩ s (bplace r) * d (bmate r s) l := by
  rw [View.readCov_eq_canon']
  funext y
  show View.canon _ _ = _
  have e : scratchRect.idx y = y := by
    idx_vars y
    pointwise
  rw [e]
  canon_tiles x h
  all_goals
    idx_vars x
    idx_vars y
    open_payloads
    pointwise
    simp only [wmat_ix3, mat_ix2, push, sel_ge, Fin.is_lt]
    refine congrArg _ (Finset.sum_congr rfl fun s _ => dvn_term ?_ ?_ ?_ ?_) <;> simp only [bplace, bmate] <;> omega

/-- The block of the value half's cotangents. -/
theorem dzv_mat (zv d : Fin 256 → Fin 1024 → ℝ) (g : Fin 1024 → ℝ) :
    k0_pay1 (F := Ideal) (k0_pay3 (mat zv)) (k0_pay132 (k0_pay8 (k0_pay6 (mat zv)) k0_pay7)
        (k0_pay9 (k0_pay5 (mat zv)) (k0_pay6 (mat zv)) k0_pay7) (k0_pay10 (mat fun _ => g)) (mat d))
      (k0_pay133 (k0_pay3 (mat zv))) (k0_pay134 (k0_pay3 (mat zv))) (k0_pay135 (k0_pay3 (mat zv)))
      = mat fun r l => dlay (fun l => gelu (zv r l)) (fun k => d r k * g k) l * dgelu (zv r l) := by
  rw [pay9_mat]
  funext y
  idx_vars y
  pointwise [k0_pay1, k0_pay3, k0_pay7, k0_pay8, k0_pay10, k0_pay132, k0_pay133, k0_pay134, k0_pay135]
  simp only [mat_ix2, pay6_mat, named_3gc, named_gc, lit_gk, read, push]
  rfl

end
-- ==== Proof.Sgu.Kernel.lean ====
/-
  What the kernel of the gating unit's gradient leaves in its four result arrays at finite arguments: the real gradients of Spec.lean.
  A grid point handles 256 tokens, two chunks; the gradients of the mixing matrices, of the biases and of the gain are summed over the
  sixteen points, each in one block. Columns from 2048 on keep what they held.
-/
module

public import proofs.«01_k».proof.Proof.Sgu.Tiles
public import proofs.«01_k».proof.Proof.Gen.SguBwdIdeal.Value

@[expose] public section
set_option maxRecDepth 16384
noncomputable section
namespace Cert.SguBwdIdeal.Value
open Cert.SguBwdIdeal Cert.SguBwdIdeal.Gen Idealize.ShloMosaic Idealize.ShloMosaic.TcCoe Idealize.SL.Sem Cert.Reals Cert.Sgu

variable {m : (ℓ : Loc nD τ sig) → Buf (Elt Ideal) ℓ} {c : Dev nD}

/-- Which blocks point `t` reads and writes. -/
theorem idx : ∀ t : Fin cfg0.N, win0_0.index t = ![t.val, 0] ∧ win0_1.index t = ![t.val, 1] ∧ win0_2.index t = ![t.val, 0]
    ∧ win0_3.index t = ![0, 0] ∧ win0_4.index t = ![0, 0, 0] ∧ win0_5.index t = ![0, 0, 0] ∧ win0_6.index t = ![t.val, 0]
    ∧ win0_7.index t = ![0, 0, 0] ∧ win0_8.index t = ![0, 0, 0] ∧ win0_9.index t = ![0, 0] ∧ t.val < 16 :=
  (by decide +kernel : ∀ t : Fin grid0.N, _)

/-- The token that row `r` of point `t`'s blocks is. -/
def row (t : Fin cfg0.N) (r : Fin 256) : Fin 4096 := ⟨t.val * 256 + r.val, by have := (idx t).2.2.2.2.2.2.2.2.2.2; omega⟩

variable (m c) in
/-- The argument arrays that are read hold these reals. -/
structure Holds (A : Args) : Prop where
  zu : ∀ i l, m ((c.tc : Thread nD τ).loc main_arg0) (ix2 i ⟨(l : Fin 1024).val, by omega⟩) = (A.zu i l : EReal)
  zv : ∀ i l, m ((c.tc : Thread nD τ).loc main_arg0) (ix2 i ⟨1024 + (l : Fin 1024).val, by omega⟩) = (A.zv i l : EReal)
  da : m ((c.tc : Thread nD τ).loc main_arg1) = mat A.da
  g : m ((c.tc : Thread nD τ).loc main_arg3) = mat fun _ => A.g
  w : m ((c.tc : Thread nD τ).loc main_arg4) = fun j => (A.w (j 1) (j 2) (j 3) : EReal)
  b : m ((c.tc : Thread nD τ).loc main_arg5) = fun j => (A.b (j 1) (j 2) : EReal)

variable {A : Args} (h : Holds m c A)
include h
theorem blk0 (t : Fin cfg0.N) : (iblk m c 0 t : FVec Ideal S256x1024 .bf16) = mat fun r => A.zu (row t r) := by
  funext y
  idx_vars y
  refine Eq.trans ?_ (h.zu (row t y0) y1)
  blk_ext! [iblk, V, idx t, row]
theorem blk1 (t : Fin cfg0.N) : (iblk m c 1 t : FVec Ideal S256x1024 .bf16) = mat fun r => A.zv (row t r) := by
  funext y
  idx_vars y
  refine Eq.trans ?_ (h.zv (row t y0) y1)
  blk_ext! [iblk, V, idx t, row]
theorem blk2 (t : Fin cfg0.N) : (iblk m c 2 t : FVec Ideal S256x1024 .bf16) = mat fun r => A.da (row t r) := by
  funext y
  idx_vars y
  refine Eq.trans ?_ (congrFun h.da (ix2 (row t y0) y1))
  blk_ext! [iblk, V, idx t, row]
theorem blk3 (t : Fin cfg0.N) : (iblk m c 3 t : FVec Ideal S1x1024 .f32) = mat fun _ => A.g := by
  funext y
  idx_vars y
  obtain rfl : y0 = 0 := Subsingleton.elim _ _
  refine Eq.trans ?_ (congrFun h.g (ix2 0 y1))
  blk_ext! [iblk, idx t]
theorem blk4 (t : Fin cfg0.N) : (iblk m c 4 t : FVec Ideal S4x128x128 .f32) = wmat A.w := by
  funext y
  idx_vars y
  refine Eq.trans ?_ (congrFun h.w (ix4 0 y0 y1 y2))
  blk_ext! [iblk, idx t]
theorem blk5 (t : Fin cfg0.N) : (iblk m c 5 t : FVec Ideal S4x128x1 .f32) = bmat A.b := by
  funext y
  idx_vars y
  refine Eq.trans ?_ (congrFun h.b (ix3 0 y0 y1))
  blk_ext! [iblk, idx t]

omit h in
/-- One entry of the gate half's block, its token and column named as the tile names them. -/
theorem dzu_term {t : Fin cfg0.N} {vn : Fin 256 → Fin 1024 → ℝ} (hvn : vn = fun r => A.vn (row t r)) {r r' : Fin 256}
    {l : Fin 1024} {l' : Fin 2048} {g : Fin 4} {a : Fin 128} {f : Fin 128 → Fin 256} (hr : r.val = r'.val) (hl : l.val = l'.val)
    (hg : g.val = l.val / 256) (ha : a.val = r.val % 128) (hf : ∀ s, (f s).val = r.val / 128 * 128 + s.val) :
    A.da (row t r) l * ((∑ s, if s.val ≤ a.val then A.w g a s * vn (f s) l else 0) + A.b g a)
        * (1 / 2 * (1 + Real.tanh (gk * (A.zu (row t r) l + gc * A.zu (row t r) l * A.zu (row t r) l * A.zu (row t r) l)))
          + 1 / 2 * A.zu (row t r) l * (1 - Real.tanh (gk * (A.zu (row t r) l + gc * A.zu (row t r) l * A.zu (row t r) l * A.zu (row t r) l))
            * Real.tanh (gk * (A.zu (row t r) l + gc * A.zu (row t r) l * A.zu (row t r) l * A.zu (row t r) l)))
            * gk * (1 + 26829 / 200000 * A.zu (row t r) l * A.zu (row t r) l))
      = A.dz (row t r') l' := by
  obtain rfl := Fin.ext hr
  have hg' : g = grp l := Fin.ext hg
  have ha' : a = place (row t r) := Fin.ext (by simp only [place, row]; omega)
  have hf' : ∀ s, row t (f s) = mate (row t r) s := fun s => Fin.ext (by simp only [mate, row, hf]; omega)
  rw [A.dz_left _ hl.symm, Args.dzu, Args.sv, dgelu, gth, hvn, ← hg', ← ha']
  simp only [← hf', Args.ws, ite_mul, zero_mul]

omit h in
/-- The kernel's rows of the cotangents of the normed values are those of the tokens. -/
theorem dvn_row (t : Fin cfg0.N) {d : Fin 256 → Fin 1024 → ℝ} (hd : d = fun r => A.ds (row t r)) (r : Fin 256) (k : Fin 1024) :
    ∑ s, cut A.w ⟨k.val / 256, by omega⟩ s (bplace r) * d (bmate r s) k = A.dvn (row t r) k := by
  have hp : bplace r = place (row t r) := Fin.ext (by simp only [bplace, place, row]; omega)
  have hm : ∀ s, row t (bmate r s) = mate (row t r) s := fun s => Fin.ext (by simp only [bmate, mate, row]; omega)
  rw [Args.dvn, hd, hp]
  exact Finset.sum_congr rfl fun s _ => by rw [← hm]; rfl

omit h in
/-- Point `t`'s normed values and the cotangents of its mixed values, and the kernel's arrays that hold them. -/
theorem block_arrays (A : Args) (t : Fin cfg0.N) : ∃ vn d : Fin 256 → Fin 1024 → ℝ, vn = (fun r => A.vn (row t r)) ∧ d = (fun r => A.ds (row t r))
    ∧ k0_pay11 (F := Ideal) (k0_pay5 (mat fun r => A.zv (row t r))) (k0_pay6 (mat fun r => A.zv (row t r))) k0_pay7 (mat fun _ => A.g) = mat vn
    ∧ k0_pay13 (F := Ideal) (k0_pay4 (mat fun r => A.zu (row t r))) (mat fun r => A.da (row t r)) = mat d
    ∧ k0_pay19 (F := Ideal) (k0_pay5 (mat fun r => A.zv (row t r))) (k0_pay6 (mat fun r => A.zv (row t r))) k0_pay7 (mat fun _ => A.g)
      = mat (fun (r : Fin 128) (l : Fin 256) => vn ⟨r.val, by omega⟩ ⟨l.val, by omega⟩)
    ∧ k0_pay20 (F := Ideal) (k0_pay4 (mat fun r => A.zu (row t r))) (mat fun r => A.da (row t r))
      = mat (fun (r : Fin 128) (l : Fin 256) => d ⟨r.val, by omega⟩ ⟨l.val, by omega⟩) :=
  ⟨_, _, rfl, rfl, pay11_mat _ _, pay13_mat _ _, pay19_mat _ _, pay20_mat _ _⟩

omit h in
theorem point_lt (t : Fin cfg0.N) : t.val < 16 := (idx t).2.2.2.2.2.2.2.2.2.2

/-- What point `t` leaves in its block of the first result: the cotangents of both halves. -/
theorem out6 (t : Fin cfg0.N) (y : S256x2048.Idx) : (outsAt0 m c t.val t.isLt).1 y = ((A.dz (row t (y 0)) (y 1) : ℝ) : EReal) := by
  obtain ⟨vn, d, hvn, hd, e11, e13, e19, e20⟩ := block_arrays A t
  have eA (h0 : t.val % 16 = 0) (h1 : ¬ 1 ≤ t.val) := outsAt0_A m c t h0 h1 h0 h1 h0 h1 h0 h1 h0 h1
  have eB (h0 : ¬ t.val % 16 = 0) (h1 : 1 ≤ t.val) := outsAt0_B m c t h0 h1 h0 h1 h0 h1 h0 h1 h0 h1
  have h16 := point_lt t
  by_cases h0 : t.val % 16 = 0
  rw [eA h0 (by omega)]
  rotate_left
  rw [eB h0 (by omega)]
  all_goals
    frame_out
    clear eA eB h0
    rw [blk0 h, blk1 h, blk2 h, blk3 h, blk4 h, blk5 h]
    simp only [e11, e13, e20, k0_pay21, e19]
    clear e11 e13 e19 e20
    canon_tiles x h' using (View.cover_of_tiledBy (s := S256x2048) _ ![128,256] (by sl_kernel_rfl) y)
    case piece0 =>
      idx_vars x
      rw [A.dz_right _ (l := x1) h'1, Args.dzv, dvn_read, dzv_mat, mat_ix2, show y 0 = x0 from Fin.ext h'0]
      simp only [dvn_row t hd]
      rfl
    all_goals
      idx_vars x
      open_payloads
      pointwise
      simp only [wmat_ix3, bmat_ix3, named_3gc, named_gc, lit_gk, Reals.read, mat_ix2, push, sel_ge, Fin.is_lt]
      refine congrArg _ (dzu_term hvn ?_ ?_ ?_ ?_ fun s => ?_) <;> simp only [] <;> omega

omit h in
/-- Two neighbouring chunks' parts of a mixing matrix's gradient, the rows and columns as the block numbers them. -/
theorem dw_term {t : Fin cfg0.N} {vn d : Fin 256 → Fin 1024 → ℝ} (hvn : vn = fun r => A.vn (row t r)) (hd : d = fun r => A.ds (row t r))
    {g : Fin 4} {a s a' s' : Fin 128} {i i' j j' : Fin 256 → Fin 256} {k k' l l' : Fin 256 → Fin 1024} (ha : a.val = a'.val)
    (hs : s.val = s'.val) (hi : ∀ q, (i q).val = a.val) (hi' : ∀ q, (i' q).val = 128 + a.val) (hj : ∀ q, (j q).val = s.val)
    (hj' : ∀ q, (j' q).val = 128 + s.val) (hk : ∀ q, (k q).val = g.val * 256 + q.val) (hk' : ∀ q, (k' q).val = g.val * 256 + q.val)
    (hl : ∀ q, (l q).val = g.val * 256 + q.val) (hl' : ∀ q, (l' q).val = g.val * 256 + q.val) :
    (if s.val ≤ a.val then (∑ q, d (i q) (k q) * vn (j q) (l q)) + ∑ q, d (i' q) (k' q) * vn (j' q) (l' q) else 0)
      = A.dw2 t.val g a' s' := by
  obtain rfl := Fin.ext ha
  obtain rfl := Fin.ext hs
  have ht := point_lt t
  have h1 : ∀ q, row t (i q) = tok ⟨2 * t.val % 32, by omega⟩ a := fun q => Fin.ext (by simp only [row, tok, hi]; omega)
  have h2 : ∀ q, row t (i' q) = tok ⟨(2 * t.val + 1) % 32, by omega⟩ a := fun q => Fin.ext (by simp only [row, tok, hi']; omega)
  have h3 : ∀ q, row t (j q) = tok ⟨2 * t.val % 32, by omega⟩ s := fun q => Fin.ext (by simp only [row, tok, hj]; omega)
  have h4 : ∀ q, row t (j' q) = tok ⟨(2 * t.val + 1) % 32, by omega⟩ s := fun q => Fin.ext (by simp only [row, tok, hj']; omega)
  obtain rfl : k = col g := funext fun q => Fin.ext (by simp only [col, hk])
  obtain rfl : k' = col g := funext fun q => Fin.ext (by simp only [col, hk'])
  obtain rfl : l = col g := funext fun q => Fin.ext (by simp only [col, hl])
  obtain rfl : l' = col g := funext fun q => Fin.ext (by simp only [col, hl'])
  rw [Args.dw2, Args.dw, Args.dw, hvn, hd]
  simp only [h1, h2, h3, h4]
  split_ifs <;> simp

omit h in
/-- Two neighbouring chunks' parts of a bias's gradient. -/
theorem db_term {t : Fin cfg0.N} {d : Fin 256 → Fin 1024 → ℝ} (hd : d = fun r => A.ds (row t r))
    {g : Fin 4} {a a' : Fin 128} {i i' : Fin 256 → Fin 256} {k k' : Fin 256 → Fin 1024} (ha : a.val = a'.val)
    (hi : ∀ q, (i q).val = a.val) (hi' : ∀ q, (i' q).val = 128 + a.val) (hk : ∀ q, (k q).val = g.val * 256 + q.val)
    (hk' : ∀ q, (k' q).val = g.val * 256 + q.val) :
    (∑ q, d (i q) (k q)) + ∑ q, d (i' q) (k' q) = A.db2 t.val g a' := by
  obtain rfl := Fin.ext ha
  have ht := point_lt t
  have h1 : ∀ q, row t (i q) = tok ⟨2 * t.val % 32, by omega⟩ a := fun q => Fin.ext (by simp only [row, tok, hi]; omega)
  have h2 : ∀ q, row t (i' q) = tok ⟨(2 * t.val + 1) % 32, by omega⟩ a := fun q => Fin.ext (by simp only [row, tok, hi']; omega)
  have h5 : k = col g := funext fun q => Fin.ext (by simp only [col, hk])
  have h6 : k' = col g := funext fun q => Fin.ext (by simp only [col, hk'])
  rw [Args.db2, Args.db, Args.db, hd, h5, h6]
  simp only [h1, h2]

/-- What point `t` leaves of the mixing matrices' gradients: its two chunks' parts, over what the point before left. -/
theorem out7 (t : Fin cfg0.N) (y : S4x128x128.Idx) (q : Vec Ideal S4x128x128 .f32)
    (hq : ∀ h : 1 ≤ t.val, (outsAt0 m c (t.val - 1) (by omega)).2.1 = q) :
    (outsAt0 m c t.val t.isLt).2.1 y = (if t.val % 16 = 0 then 0 else q y) + ((A.dw2 t.val (y 0) (y 1) (y 2) : ℝ) : EReal) := by
  obtain ⟨vn, d, hvn, hd, e11, e13, e19, e20⟩ := block_arrays A t
  have eA (h0 : t.val % 16 = 0) (h1 : ¬ 1 ≤ t.val) := outsAt0_A m c t h0 h1 h0 h1 h0 h1 h0 h1 h0 h1
  have eB (h0 : ¬ t.val % 16 = 0) (h1 : 1 ≤ t.val) := outsAt0_B m c t h0 h1 h0 h1 h0 h1 h0 h1 h0 h1
  have h16 := point_lt t
  by_cases h0 : t.val % 16 = 0
  rw [eA h0 (by omega), if_pos h0]
  rotate_left
  rw [eB h0 (by omega), if_neg h0]
  all_goals
    frame_out
    try rw [hq (by omega)]
    clear eA eB h0 hq
    rw [blk0 h, blk1 h, blk2 h, blk3 h]
    simp only [e11, e13, e20, e19]
    clear e11 e13 e19 e20
    canon_tiles x h'
    all_goals
      idx_vars x
      open_payloads
      pointwise
      simp only [mat_ix2, push, sel_ge, Fin.is_lt]
      first
        | refine congrArg₂ (· + ·) (congrArg q ?_) (congrArg _ (dw_term (a := x1) (s := x2) hvn hd ?_ ?_ (fun _ => ?_) (fun _ => ?_) (fun _ => ?_) (fun _ => ?_) (fun _ => ?_) (fun _ => ?_) (fun _ => ?_) (fun _ => ?_)))
        | refine congrArg _ (dw_term (a := x1) (s := x2) hvn hd ?_ ?_ (fun _ => ?_) (fun _ => ?_) (fun _ => ?_) (fun _ => ?_) (fun _ => ?_) (fun _ => ?_) (fun _ => ?_) (fun _ => ?_))
      all_goals first | rfl | omega | (simp; omega) | (rw [eq_ix3 y]; congr 1 <;> apply Fin.ext <;> first | omega | (simp; omega))

/-- What point `t` leaves of the biases' gradients. -/
theorem out8 (t : Fin cfg0.N) (y : S4x128x1.Idx) (q : Vec Ideal S4x128x1 .f32)
    (hq : ∀ h : 1 ≤ t.val, (outsAt0 m c (t.val - 1) (by omega)).2.2.1 = q) :
    (outsAt0 m c t.val t.isLt).2.2.1 y = (if t.val % 16 = 0 then 0 else q y) + ((A.db2 t.val (y 0) (y 1) : ℝ) : EReal) := by
  obtain ⟨vn, d, hvn, hd, e11, e13, e19, e20⟩ := block_arrays A t
  have eA (h0 : t.val % 16 = 0) (h1 : ¬ 1 ≤ t.val) := outsAt0_A m c t h0 h1 h0 h1 h0 h1 h0 h1 h0 h1
  have eB (h0 : ¬ t.val % 16 = 0) (h1 : 1 ≤ t.val) := outsAt0_B m c t h0 h1 h0 h1 h0 h1 h0 h1 h0 h1
  have h16 := point_lt t
  by_cases h0 : t.val % 16 = 0
  rw [eA h0 (by omega), if_pos h0]
  rotate_left
  rw [eB h0 (by omega), if_neg h0]
  all_goals
    frame_out
    try rw [hq (by omega)]
    clear eA eB h0 hq
    rw [blk0 h, blk2 h]
    simp only [e13, e20]
    clear e11 e13 e19 e20
    canon_tiles x h'
    all_goals
      idx_vars x
      open_payloads
      pointwise
      simp only [mat_ix2, push]
      first
        | refine congrArg₂ (· + ·) (congrArg q ?_) (congrArg _ (db_term (a := x1) hd ?_ (fun _ => ?_) (fun _ => ?_) (fun _ => ?_) fun _ => ?_))
        | refine congrArg _ (db_term (a := x1) hd ?_ (fun _ => ?_) (fun _ => ?_) (fun _ => ?_) fun _ => ?_)
      all_goals first | rfl | omega | (simp; omega) | (rw [eq_ix3 y]; congr 1 <;> apply Fin.ext <;> first | omega | (simp; omega))

/-- What point `t` leaves of the gain's gradient. -/
theorem out9 (t : Fin cfg0.N) (y : S1x1024.Idx) (q : Vec Ideal S1x1024 .f32)
    (hq : ∀ h : 1 ≤ t.val, (outsAt0 m c (t.val - 1) (by omega)).2.2.2 = q) :
    (outsAt0 m c t.val t.isLt).2.2.2 y = (if t.val % 16 = 0 then 0 else q y) + ((∑ r, A.dg (row t r) (y 1) : ℝ) : EReal) := by
  obtain ⟨vn, d, hvn, hd, e11, e13, e19, e20⟩ := block_arrays A t
  have eA (h0 : t.val % 16 = 0) (h1 : ¬ 1 ≤ t.val) := outsAt0_A m c t h0 h1 h0 h1 h0 h1 h0 h1 h0 h1
  have eB (h0 : ¬ t.val % 16 = 0) (h1 : 1 ≤ t.val) := outsAt0_B m c t h0 h1 h0 h1 h0 h1 h0 h1 h0 h1
  have h16 := point_lt t
  by_cases h0 : t.val % 16 = 0
  rw [eA h0 (by omega), if_pos h0]
  rotate_left
  rw [eB h0 (by omega), if_neg h0]
  all_goals
    frame_out
    try rw [hq (by omega)]
    clear eA eB h0 hq
    rw [blk0 h, blk1 h, blk2 h, blk4 h]
    simp only [e13, e20]
    clear e11 e13 e19 e20
    rw [dvn_read, pay9_mat]
    idx_vars y
    obtain rfl : y0 = 0 := Subsingleton.elim _ _
    pointwise [k0_pay130, k0_pay131]
    simp only [mat_ix2, push, dvn_row t hd]
    first | rfl | exact (zero_add _).symm

/-! ## The arrays -/

/-- The first result array: the cotangents of both halves beside the columns that were given. -/
theorem final_dz : (dats m 0 c).arrAt 6 (cfgs 0).N = fun j : S4096x5120.Idx =>
    if (j 1).val < 2048 then ((A.dz (j 0) ⟨(j 1).val % 2048, by omega⟩ : ℝ) : EReal) else m ((c.tc : Thread nD τ).loc main_arg2) j := by
  have hV : V m c (Pipeline.arrRef spec0 6) = m ((c.tc : Thread nD τ).loc main_arg2) := by
    funext j
    entry_read
    rfl
  rw [← hV]
  refine (dats m 0 c).arrAt_eq_of_coversWhere 6 (fun j : S4096x5120.Idx => ((A.dz (j 0) ⟨(j 1).val % 2048, by omega⟩ : ℝ) : EReal))
    (fun β => β 1 < 1) (by decide +kernel) (fun t hf y => ?_) (fun j => by blk_simp [Pipeline.Window.cell_apply]; omega)
  rw [after0_6]
  refine (out6 h t _).trans (congrArg _ (congrArg₂ A.dz (Fin.ext ?_) (Fin.ext ?_)))
  · blk_simp [idx t, row]
  · have := (((cfg0.win 6).xinj (cfg0.grid.coords t)) y 1).isLt
    blk_simp [idx t, row] at this ⊢
    exact (Nat.mod_eq_of_lt this).symm

omit h in
/-- A sum over the points of two chunks each is a sum over the chunks. -/
theorem sum_pairs (f : Fin 32 → ℝ) : ∑ p : Fin cfg0.N, ((f ⟨2 * p.val % 32, by omega⟩ + f ⟨(2 * p.val + 1) % 32, by omega⟩ : ℝ) : EReal)
    = ((∑ n, f n : ℝ) : EReal) := by
  refine Eq.trans (Finset.sum_congr rfl fun p _ => ?_)
    (sum_rows (N := cfg0.N) (n := 2) (congrArg (· * 2) N_0).symm (fun p r => ⟨(2 * p.val + r.val) % 32, by omega⟩)
      (fun p r => by have := point_lt p; simp only; omega) f)
  rw [Fin.sum_univ_two]
  rfl

/-- The second result array: the gradients of the mixing matrices, summed over the chunks. -/
theorem final_dw : (dats m 0 c).arrAt 7 (cfgs 0).N = fun j : S4x128x128.Idx => ((∑ n, A.dw n (j 0) (j 1) (j 2) : ℝ) : EReal) := by
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => (0 : EReal))
    (fun p j => ((A.dw2 p.val (j 0) (j 1) (j 2) : ℝ) : EReal))
    (fun t h16 j => by rw [out7 h t j (fun _ => 0) fun h1 => absurd (point_lt t) (by omega), if_pos h16])
    (fun t h16 j => by rw [out7 h t j (outsAt0 m c (t.val - 1) (by omega)).2.1 fun _ => rfl, if_neg h16])
    (le_of_eq N_0) t0_15 rfl j, zero_add]
  exact sum_pairs fun n => A.dw n (j 0) (j 1) (j 2)

/-- The third result array: the gradients of the biases. -/
theorem final_db : (dats m 0 c).arrAt 8 (cfgs 0).N = fun j : S4x128x1.Idx => ((∑ n, A.db n (j 0) (j 1) : ℝ) : EReal) := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => (0 : EReal))
    (fun p j => ((A.db2 p.val (j 0) (j 1) : ℝ) : EReal))
    (fun t h16 j => by rw [out8 h t j (fun _ => 0) fun h1 => absurd (point_lt t) (by omega), if_pos h16])
    (fun t h16 j => by rw [out8 h t j (outsAt0 m c (t.val - 1) (by omega)).2.2.1 fun _ => rfl, if_neg h16])
    (le_of_eq N_0) t0_15 rfl j, zero_add]
  exact sum_pairs fun n => A.db n (j 0) (j 1)

/-- The fourth result array: the gradient of the gain, summed over the tokens. -/
theorem final_dg : (dats m 0 c).arrAt 9 (cfgs 0).N = mat fun _ l => ∑ i, A.dg i l := by
  refine (dats m 0 c).arrAt_eq_of_after_last 9 t0_15 (by decide +kernel) _ fun j => ?_
  blk_simp
  rw [after0_9, Pipeline.eq_sum_fin_of_reset_step_apply_last (fun n h => (outsAt0 m c n h).2.2.2) 16 (fun _ => (0 : EReal))
    (fun p j => ((∑ r, A.dg (row p r) (j 1) : ℝ) : EReal))
    (fun t h16 j => by rw [out9 h t j (fun _ => 0) fun h1 => absurd (point_lt t) (by omega), if_pos h16])
    (fun t h16 j => by rw [out9 h t j (outsAt0 m c (t.val - 1) (by omega)).2.2.2 fun _ => rfl, if_neg h16])
    (le_of_eq N_0) t0_15 rfl j, zero_add]
  exact sum_rows (congrArg (· * 256) N_0).symm row (fun _ _ => rfl) fun i => A.dg i (j 1)
-- ==== Proof.Sgu.Claim.lean ====
/-
  The claim about the gating unit's gradient: at finite arguments the kernel and its reference end with the same arrays.
-/
module

public import proofs.«01_k».proof.Defs
public import proofs.«01_k».proof.Proof.Sgu.Reference
public import proofs.«01_k».proof.Proof.Sgu.Kernel

@[expose] public section

set_option maxRecDepth 16384

noncomputable section

open Idealize.ShloMosaic Idealize.ShloMosaic.TcCoe Idealize.SL.Sem Cert.Reals

namespace Cert.Sgu

/-- Finite arguments hold reals. -/
theorem holds [Cert.Pre_sgu_bwd_finite.Facts] (m : (ℓ : Loc Cert.SguBwdIdeal.nD Cert.SguBwdIdeal.τ Cert.SguBwdIdeal.sig) → Buf (Elt Ideal) ℓ)
    (h : Cert.Pre_SguBwdIdeal_sgu_bwd_finite m) (c : Dev Cert.SguBwdIdeal.nD) : ∃ A, Cert.SguBwdIdeal.Value.Holds m c A := by
  have hc := h c
  obtain ⟨hc, h5⟩ := andi_split hc
  obtain ⟨hc, h4⟩ := andi_split hc
  obtain ⟨hc, h3⟩ := andi_split hc
  obtain ⟨h0, h1⟩ := andi_split hc
  obtain ⟨Z, hZ⟩ := lift_matrix _ _ h0
  obtain ⟨D, hD⟩ := lift_matrix _ _ h1
  obtain ⟨G, hG⟩ := lift_matrix _ _ h3
  obtain ⟨W, hW⟩ := lift_of_finite _ _ h4
  obtain ⟨B, hB⟩ := lift_of_finite _ _ h5
  refine ⟨⟨fun i l => Z i ⟨l.val, by omega⟩, fun i l => Z i ⟨1024 + l.val, by omega⟩, D, G 0, fun g a s => W (ix4 0 g a s), fun g a => B (ix3 0 g a)⟩,
    fun i l => ?_, fun i l => ?_, hD, hG.trans ?_, hW.trans ?_, hB.trans ?_⟩
  · exact congrFun hZ _
  · exact congrFun hZ _
  all_goals
    funext j
    idx_vars j
    rw [Subsingleton.elim (α := Fin 1) j0 0]
    try rfl

open Cert.SguBwdRefIdeal.Value in
theorem algebraic [Cert.Pre_sgu_bwd_finite.Facts] : Cert.algebraic_SguBwdIdeal_SguBwdRefIdeal_pre_sgu_bwd_finite := by
  pair_intro
  · run_from Cert.SguBwdIdeal.Value.run_blocks m g
  · run_from Cert.SguBwdRefIdeal.Value.run m' g'
    all_goals obtain ⟨A, h⟩ := holds m hpre c
    all_goals have h' : Cert.SguBwdRefIdeal.Value.Holds (StableHlo.launchContents m' c) A :=
      ⟨fun i l => (congrFun (hagree c).1 _).trans (h.zu i l), fun i l => (congrFun (hagree c).1 _).trans (h.zv i l),
        (hagree c).2.1.trans h.da, (hagree c).2.2.2.1.trans h.g, (hagree c).2.2.2.2.1.trans h.w, (hagree c).2.2.2.2.2.trans h.b⟩
    · refine Eq.trans ?_ (Cert.SguBwdIdeal.Value.final_dz h).symm
      have e : m' ((c.tc : Thread Cert.SguBwdRefIdeal.nD Cert.SguBwdRefIdeal.τ).loc Cert.SguBwdRefIdeal.main_arg2)
        = m ((c.tc : Thread Cert.SguBwdIdeal.nD Cert.SguBwdIdeal.τ).loc Cert.SguBwdIdeal.main_arg2) := (hagree c).2.2.1
      funext j
      refine (beside _ _ _ j).trans ?_
      idx_vars j
      by_cases h1 : j1.val < 1024
      · refine (dif_pos h1).trans (Eq.trans ?_ (if_pos (Nat.lt_trans h1 (by decide))).symm)
        rw [v2_eq h', v25_eq h', v91_eq h', v156_eq h']
        pointwise
        simp only [seq_ix3, v5_at, lit_three, push, dgelu_ref]
        exact congrArg _ (A.dz_left j0 (l := ⟨j1.val, h1⟩) (by simp only; omega)).symm
      · refine (dif_neg h1).trans ?_
        by_cases h2 : j1.val < 2048
        · refine (dif_pos h2).trans (Eq.trans ?_ (if_pos h2).symm)
          rw [v4_eq h', v47_eq h', v134_eq h', v144_eq h']
          pointwise
          simp only [seq_ix3, v27_at, lit_three, push, dgelu_ref]
          exact congrArg _ (A.dz_right j0 (l := ⟨j1.val - 1024, by omega⟩) (by simp only; omega)).symm
        · refine (dif_neg h2).trans (Eq.trans ?_ (if_neg h2).symm)
          pointwise
          refine (congrFun e _).trans (congrArg _ (congrArg _ (Fin.ext ?_)))
          simp only; omega
    · refine Eq.trans ?_ (Cert.SguBwdIdeal.Value.final_dw h).symm
      funext j
      idx_vars j
      pointwise
      rw [v78_1_at]
      refine (congrArg (fun x : EReal => Scalar.select _ x 0) (dw_eq h' j0 j1 j2)).trans ?_
      rw [sel_bit]
      refine congrArg _ ?_
      by_cases hd : j2.val ≤ j1.val <;> simp [Args.dw, hd]
    · refine Eq.trans ?_ (Cert.SguBwdIdeal.Value.final_db h).symm
      funext j
      idx_vars j
      pointwise
      refine (Fintype.sum_unique _).trans ((sum_units _ j1 j0).trans (Eq.trans ?_ (db_eq h' j1 j0)))
      pointwise
    · refine Eq.trans ?_ (Cert.SguBwdIdeal.Value.final_dg h).symm
      rw [v70_eq h', v104_eq h']
      refine eq_mat_row fun l => ?_
      pointwise
      refine (sum_row _ l).trans ?_
      pointwise
      simp only [seq_ix3, push, mul_comm (hat _ _)]
      rfl

end Cert.Sgu

end

end
-- ==== Proof.Pool.Spec.lean ====
module

public import proofs.«01_k».proof.Proof.Math.Reals

/-!
# Pooling over trailing windows, over the reals

A group of columns `c` is averaged over the last `w` rows (fewer at the top). `backs w c` is the sum of the last `w` rows, `aheads w c` the sum of
the next `w` rows; both are zero outside the array. The kernel doubles `w` step by step, the reference takes differences of running sums; the lemmas
below say that both give the same sums.
-/

@[expose] public section
noncomputable section
namespace Cert.Pool
open Finset

variable {n p : ℕ}

/-- The array's entry, zero below the last row. -/
def at' (c : Fin n → Fin p → ℝ) (i : ℕ) (l : Fin p) : ℝ := if h : i < n then c ⟨i, h⟩ l else 0

theorem at'_val (c : Fin n → Fin p → ℝ) (i : Fin n) (l : Fin p) : at' c i.val l = c i l := dif_pos i.isLt
theorem at'_lt (c : Fin n → Fin p → ℝ) {i : ℕ} (h : i < n) (l : Fin p) : at' c i l = c ⟨i, h⟩ l := dif_pos h
theorem at'_ge (c : Fin n → Fin p → ℝ) {i : ℕ} (h : n ≤ i) (l : Fin p) : at' c i l = 0 := dif_neg (by omega)

/-- The sum of the last `w` rows up to and including row `i`. -/
def backs (w : ℕ) (c : Fin n → Fin p → ℝ) (i : Fin n) (l : Fin p) : ℝ :=
  ∑ k ∈ range w, if k ≤ i.val then at' c (i.val - k) l else 0

/-- The sum of `w` rows from row `i` on. -/
def aheads (w : ℕ) (c : Fin n → Fin p → ℝ) (i : Fin n) (l : Fin p) : ℝ := ∑ k ∈ range w, at' c (i.val + k) l

theorem backs_one (c : Fin n → Fin p → ℝ) : backs 1 c = c := by
  funext i l
  simp [backs, at'_val]

theorem aheads_one (c : Fin n → Fin p → ℝ) : aheads 1 c = c := by
  funext i l
  simp [aheads, at'_val]

/-- Twice as long a window back: the window and the one before it. -/
theorem backs_double (w : ℕ) (c : Fin n → Fin p → ℝ) (i : Fin n) (l : Fin p) :
    backs w c i l + (if h : w ≤ i.val then backs w c ⟨i.val - w, by omega⟩ l else 0) = backs (w + w) c i l := by
  unfold backs
  rw [sum_range_add]
  refine congrArg₂ (· + ·) rfl ?_
  split
  next h =>
    refine sum_congr rfl fun k _ => ?_
    by_cases hk : k ≤ i.val - w
    · rw [if_pos hk, if_pos (by omega), Nat.sub_sub]
    · rw [if_neg hk, if_neg (by omega)]
  next h => exact (sum_eq_zero fun k _ => if_neg (by omega)).symm

/-- Twice as long a window ahead: the window and the one after it. -/
theorem aheads_double (w : ℕ) (c : Fin n → Fin p → ℝ) (i : Fin n) (l : Fin p) :
    aheads w c i l + (if h : i.val + w < n then aheads w c ⟨i.val + w, h⟩ l else 0) = aheads (w + w) c i l := by
  unfold aheads
  rw [sum_range_add]
  refine congrArg₂ (· + ·) rfl ?_
  split
  next h => exact sum_congr rfl fun k _ => by rw [Nat.add_assoc]
  next h => exact (sum_eq_zero fun k _ => at'_ge c (by omega) l).symm

/-- Differences of running sums are sums over windows. -/
theorem prefix_sub (w : ℕ) (c : Fin n → Fin p → ℝ) (i : Fin n) (l : Fin p) :
    (∑ k ∈ range (i.val + 1), at' c k l) - ∑ k ∈ range (i.val + 1 - w), at' c k l = backs w c i l := by
  unfold backs
  induction w with
  | zero => simp
  | succ w ih =>
    refine Eq.trans ?_ (sum_range_succ _ w).symm
    rw [← ih]
    by_cases h : w ≤ i.val
    · rw [if_pos h, show i.val + 1 - w = (i.val - w) + 1 by omega, sum_range_succ _ (i.val - w), show i.val + 1 - (w + 1) = i.val - w by omega]
      ring
    · rw [if_neg h, show i.val + 1 - w = 0 by omega, show i.val + 1 - (w + 1) = 0 by omega]
      ring

/-- The first row of the window that ends at row `t`. -/
def lo (w t : ℕ) : ℕ := t + 1 - w

/-- The sum from row `i` on of every row less those whose window starts beyond: the sum over the window ahead. -/
theorem suffix_sub (w : ℕ) (v : Fin n → Fin p → ℝ) (i : Fin n) (l : Fin p) :
    (∑ k ∈ range n, (if i.val + k < n then at' v (i.val + k) l - ∑ t : Fin n, if lo w t.val = i.val + k + 1 then v t l else 0 else 0))
      = aheads w v i l := by
  have inner : ∀ m : ℕ, (∑ t : Fin n, if lo w t.val = m + 1 then v t l else 0) = at' v (m + w) l := fun m => by
    unfold at' lo
    by_cases h : m + w < n
    · rw [dif_pos h, sum_eq_single (⟨m + w, h⟩ : Fin n), if_pos (by show m + w + 1 - w = m + 1; omega)]
      · intro t _ ht
        exact if_neg fun e => ht (Fin.ext (by show t.val = m + w; omega))
      · intro h'
        exact absurd (mem_univ _) h'
    · rw [dif_neg h]
      exact sum_eq_zero fun t _ => if_neg fun e => h (by have := t.isLt; omega)
  have term : ∀ k : ℕ, (if i.val + k < n then at' v (i.val + k) l - ∑ t : Fin n, if lo w t.val = i.val + k + 1 then v t l else 0 else 0)
      = at' v (i.val + k) l - at' v (i.val + (w + k)) l := fun k => by
    split
    next h => rw [inner, show i.val + k + w = i.val + (w + k) by omega]
    next h => rw [at'_ge v (by omega), at'_ge v (by omega), sub_zero]
  rw [sum_congr rfl fun k _ => term k, sum_sub_distrib]
  have far : (∑ k ∈ range w, at' v (i.val + (n + k)) l) = 0 := sum_eq_zero fun k _ => at'_ge v (by omega) l
  have e : (∑ k ∈ range n, at' v (i.val + k) l) + ∑ k ∈ range w, at' v (i.val + (n + k)) l
      = (∑ k ∈ range w, at' v (i.val + k) l) + ∑ k ∈ range n, at' v (i.val + (w + k)) l := by
    rw [← sum_range_add (fun k => at' v (i.val + k) l) n w, ← sum_range_add (fun k => at' v (i.val + k) l) w n, Nat.add_comm]
  unfold aheads
  rw [far, add_zero] at e
  rw [e]
  ring

/-! ## The gradients -/

/-- The number of rows in the window that ends at row `i`. -/
def cnt (w i : ℕ) : ℝ := ((min (i + 1) w : ℕ) : ℝ)

theorem cnt_pos {w : ℕ} (hw : 0 < w) (i : ℕ) : 0 < cnt w i := by
  unfold cnt
  exact_mod_cast (by omega : 0 < min (i + 1) w)

/-- The window's mean less the row itself. -/
def diff (w : ℕ) (c : Fin n → Fin p → ℝ) (i : Fin n) (l : Fin p) : ℝ := backs w c i l / cnt w i.val - c i l

/-- What `diff`'s transpose makes of a cotangent. -/
def undiff (w : ℕ) (d : Fin n → Fin p → ℝ) (i : Fin n) (l : Fin p) : ℝ := aheads w (fun t l => d t l / cnt w t.val) i l - d i l

/-- Column `l` of group `g`, among all columns. -/
def col (g : Fin 4) (l : Fin 256) : Fin 1024 := ⟨l.val + 256 * g.val, by omega⟩

theorem col_split (j : Fin 1024) : ∃ g l, j = col g l :=
  ⟨⟨j.val / 256, by omega⟩, ⟨j.val % 256, by omega⟩, Fin.ext (by show j.val = j.val % 256 + 256 * (j.val / 256); omega)⟩

/-- All columns from the groups'. -/
def ungroup (f : Fin 4 → Fin 256 → ℝ) (j : ℕ) : ℝ := f ⟨j / 256 % 4, by omega⟩ ⟨j % 256, by omega⟩

theorem ungroup_col (f : Fin 4 → Fin 256 → ℝ) (g : Fin 4) (l : Fin 256) : ungroup f (col g l).val = f g l :=
  congrArg₂ f (Fin.ext (by show (l.val + 256 * g.val) / 256 % 4 = g.val; omega)) (Fin.ext (by show (l.val + 256 * g.val) % 256 = l.val; omega))

/-- The columns of group `g`. -/
def cols (g : Fin 4) (c : Fin n → Fin 1024 → ℝ) (i : Fin n) (l : Fin 256) : ℝ := c i (col g l)

/-- The window of group `g`: 2, 4, 8, 16 rows. -/
def win (g : Fin 4) : ℕ := 2 ^ (g.val + 1)

theorem win_pos (g : Fin 4) : 0 < win g := Nat.two_pow_pos _

/-- The real arguments: the columns that are pooled, the cotangent, the four products and the scale. -/
structure Args where
  c : Fin 4096 → Fin 1024 → ℝ
  b : Fin 4096 → Fin 1024 → ℝ
  w : Fin 4 → Fin 256 → Fin 256 → ℝ
  s : Fin 1024 → ℝ

namespace Args

variable (A : Args) (g : Fin 4)

/-- The group's window means less its rows. -/
def diff : Fin 4096 → Fin 256 → ℝ := Pool.diff (win g) (cols g A.c)
/-- The cotangent of the group's product. -/
def dout (i : Fin 4096) (l : Fin 256) : ℝ := cols g A.b i l * A.s (col g l)
/-- The cotangent of `diff`. -/
def ddiff (i : Fin 4096) (l : Fin 256) : ℝ := ∑ d, A.dout g i d * A.w g l d
/-- The gradient of the pooled columns. -/
def dc : Fin 4096 → Fin 256 → ℝ := undiff (win g) (A.ddiff g)
/-- The gradient of the group's product. -/
def dw (a e : Fin 256) : ℝ := ∑ i, A.diff g i a * A.dout g i e
/-- The gradient of the scale. -/
def ds (l : Fin 256) : ℝ := ∑ i, cols g A.b i l * ∑ k, A.diff g i k * A.w g k l

end Args

end Cert.Pool
-- ==== Proof.Pool.Host.lean ====
/-
  Three operations of the reference read at an element: rows taken by a list of row numbers, rows added to the rows that a list names, and
  running sums down and up the rows.
-/
module

public import proofs.«01_k».proof.Proof.Gen.PoolBwdRefIdeal.Run
public import proofs.«01_k».proof.Proof.Pool.Spec

@[expose] public section
set_option maxRecDepth 16384
noncomputable section
namespace Cert.PoolBwdRefIdeal.Value

open Cert.PoolBwdRefIdeal Cert.PoolBwdRefIdeal.Gen Idealize.ShloMosaic Idealize.ShloMosaic.TcCoe Idealize.SL.Sem Cert.Reals Cert.Pool

theorem word_row (b : ℕ) (hb : b < 4097) : (BitVec.ofNat 32 b).toInt = (b : ℤ) := by
  have h : (BitVec.ofNat 32 b).toNat = b := by
    rw [BitVec.toNat_ofNat]
    exact Nat.mod_eq_of_lt (by omega)
  rw [BitVec.toInt_eq_toNat_of_lt (by rw [h]; omega), h]

abbrev taking := gather_S1x4097x256_S4096x1_S1x4096x256_02_1_n_n_1_1_11256
abbrev adding := scatter_S1x4097x256_S4096x1_S1x4096x256_02_1_1_1

theorem take_row {α : Type} (x : S1x4097x256.Idx → α) (idx : IVec S4096x1 32) (i : Fin 4096) (l : Fin 256) (b : Fin 4097)
    (hb : idx (ix2 i 0) = BitVec.ofNat 32 b.val) : Host.gather taking x idx (ix3 0 i l) = x (ix3 0 b l) := by
  have hs : taking.siIdx (ix3 0 i l) ⟨0, by decide⟩ = ix2 i 0 := by
    funext a
    fin_cases a
    · exact (dif_neg (by decide)).trans rfl
    · exact (dif_pos (by decide)).trans rfl
  have h1 : taking.start (ix3 0 i l) idx 1 = b.val := by
    refine (dif_pos (by decide)).trans ?_
    refine (congrArg (fun k => min (idx k).toInt.toNat 4096) hs).trans ?_
    have := b.isLt
    rw [hb, word_row _ this]
    omega
  have h0 : taking.start (ix3 0 i l) idx 0 = 0 := dif_neg (by decide)
  have h2 : taking.start (ix3 0 i l) idx 2 = 0 := dif_neg (by decide)
  have hn : ∀ a, taking.batchCoord (ix3 0 i l) a = 0 := fun a => taking.batchCoord_eq_zero _ _ (by fin_cases a <;> decide)
  have o0 : taking.offCoord (ix3 0 i l) 0 = 0 := (dif_pos (by decide)).trans rfl
  have o1 : taking.offCoord (ix3 0 i l) 1 = 0 := dif_neg (by decide)
  have o2 : taking.offCoord (ix3 0 i l) 2 = l.val := (dif_pos (by decide)).trans rfl
  unfold Host.gather
  refine congrArg x (funext fun a => Fin.ext ?_)
  fin_cases a
  · show taking.start (ix3 0 i l) idx 0 + taking.batchCoord (ix3 0 i l) 0 + taking.offCoord (ix3 0 i l) 0 = 0
    rw [h0, hn, o0]
  · show taking.start (ix3 0 i l) idx 1 + taking.batchCoord (ix3 0 i l) 1 + taking.offCoord (ix3 0 i l) 1 = b.val
    rw [h1, hn, o1]
    rfl
  · show taking.start (ix3 0 i l) idx 2 + taking.batchCoord (ix3 0 i l) 2 + taking.offCoord (ix3 0 i l) 2 = l.val
    rw [h2, hn, o2]
    exact Nat.zero_add _

theorem add_lands (idx : IVec S4096x1 32) (t : Fin 4096) (l' : Fin 256) (b : Fin 4097) (hb : idx (ix2 t 0) = BitVec.ofNat 32 b.val) :
    adding.resultIdx? (ix3 0 t l') idx = some (ix3 0 b l') := by
  have hs : adding.siIdx (ix3 0 t l') ⟨0, by decide⟩ = ix2 t 0 := by
    funext a
    fin_cases a
    · exact (dif_neg (by decide)).trans rfl
    · exact (dif_pos (by decide)).trans rfl
  have h1 : adding.start (ix3 0 t l') idx 1 = (b.val : ℤ) := by
    refine (dif_pos (by decide)).trans ?_
    exact (congrArg (fun k => (idx k).toInt) hs).trans ((congrArg BitVec.toInt hb).trans (word_row _ b.isLt))
  have h0 : adding.start (ix3 0 t l') idx 0 = 0 := dif_neg (by decide)
  have h2 : adding.start (ix3 0 t l') idx 2 = 0 := dif_neg (by decide)
  have o0 : adding.window (ix3 0 t l') 0 = 0 := (dif_pos (by decide)).trans rfl
  have o1 : adding.window (ix3 0 t l') 1 = 0 := dif_neg (by decide)
  have o2 : adding.window (ix3 0 t l') 2 = l'.val := (dif_pos (by decide)).trans rfl
  have place : ∀ a, adding.start (ix3 0 t l') idx a + adding.window (ix3 0 t l') a = ((ix3 (0 : Fin 1) b l' a).val : ℤ) := fun a => by
    fin_cases a
    · refine (congrArg₂ (fun (p : ℤ) (q : ℕ) => p + (q : ℤ)) h0 o0).trans rfl
    · refine (congrArg₂ (fun (p : ℤ) (q : ℕ) => p + (q : ℤ)) h1 o1).trans (by simp)
    · refine (congrArg₂ (fun (p : ℤ) (q : ℕ) => p + (q : ℤ)) h2 o2).trans (by simp)
  unfold ScatterDims.resultIdx?
  rw [dif_pos fun a => by rw [place a]; exact ⟨Int.natCast_nonneg _, by exact_mod_cast (ix3 (0 : Fin 1) b l' a).isLt⟩]
  refine congrArg some (funext fun a => Fin.ext ?_)
  show (adding.start (ix3 0 t l') idx a + adding.window (ix3 0 t l') a).toNat = _
  rw [place a]
  rfl

/-- Every row of `upd` added to the row that the list names. -/
theorem add_rows (x : S1x4097x256.Idx → EReal) (idx : IVec S4096x1 32) (upd : S1x4096x256.Idx → EReal) (f : Fin 4096 → Fin 4097)
    (hf : ∀ t, idx (ix2 t 0) = BitVec.ofNat 32 (f t).val) (b : Fin 4097) (l : Fin 256) :
    Ideal.hostScatterAdd adding x idx upd (ix3 0 b l) = x (ix3 0 b l) + ∑ t : Fin 4096, if f t = b then upd (ix3 0 t l) else 0 := by
  unfold Ideal.hostScatterAdd
  refine congrArg (x (ix3 0 b l) + ·) ?_
  rw [← Finset.sum_filter]
  refine (Finset.sum_bij (fun t _ => ix3 0 t l) (fun t ht => ?_) (fun t _ t' _ e => Fin.ext (congrArg (fun j : S1x4096x256.Idx => (j 1).val) e)) (fun j hj => ?_) fun t _ => rfl).symm
  · rw [Finset.mem_filter] at ht ⊢
    exact ⟨Finset.mem_univ _, (add_lands idx t l (f t) (hf t)).trans (by rw [ht.2])⟩
  · idx_vars j
    rw [Finset.mem_filter] at hj
    obtain rfl := Subsingleton.elim (α := Fin 1) j0 0
    have e := Option.some.inj ((add_lands idx j1 j2 (f j1) (hf j1)).symm.trans hj.2)
    have e1 : f j1 = b := congrFun e 1
    have e2 : j2 = l := congrFun e 2
    exact ⟨j1, Finset.mem_filter.2 ⟨Finset.mem_univ _, e1⟩, by rw [e2]⟩

theorem fold_add {N : ℕ} (F : Fin N → EReal) (v : EReal) : (List.finRange N).foldl (fun r n => r + F n) v = v + ∑ n, F n := by
  rw [Fin.sum_univ_def]
  generalize List.finRange N = L
  induction L generalizing v with
  | nil => simp
  | cons a L ih => rw [List.foldl_cons, ih, List.map_cons, List.sum_cons, add_assoc]

/-- The places of a window of all rows, one column. -/
def places : Fin 4096 ≃ Shape.Idx ⟨3, ![1, 4096, 1]⟩ where
  toFun k := ix3 0 k 0
  invFun j := j 1
  left_inv _ := rfl
  right_inv j := by
    idx_vars j
    obtain rfl := Subsingleton.elim (α := Fin 1) j0 0
    obtain rfl := Subsingleton.elim (α := Fin 1) j2 0
    rfl

/-- A window sum as a sum over the window's places. -/
theorem window_sum {s t : Shape} (window strides lo hi : Fin s.rank → ℕ) (h : s.ReduceWindows window strides lo hi t) (x : s.Idx → EReal) (v : EReal)
    (j : t.Idx) : Ideal.hostReduceWindowAdd window strides lo hi h x v j = v + ∑ p : Shape.Idx ⟨s.rank, window⟩,
      if hin : ∀ a, lo a ≤ (j (a.cast h.1.symm)).val * strides a + (p a).val ∧ (j (a.cast h.1.symm)).val * strides a + (p a).val - lo a < s.size a then
        x (fun a => ⟨_, (hin a).2⟩) else v := by
  unfold Ideal.hostReduceWindowAdd Host.reduceWindow
  refine (fold_add _ _).trans (congrArg (v + ·) ?_)
  refine Eq.trans (Finset.sum_congr rfl fun n _ => dite_congr rfl (fun _ => rfl) fun _ => rfl) (Equiv.sum_comp (Shape.rowMajor ⟨s.rank, window⟩).symm (fun p : Shape.Idx ⟨s.rank, window⟩ =>
    if hin : ∀ a, lo a ≤ (j (a.cast h.1.symm)).val * strides a + (p a).val ∧ (j (a.cast h.1.symm)).val * strides a + (p a).val - lo a < s.size a then
        x (fun a => ⟨_, (hin a).2⟩) else v))

/-- A sum over the window of all rows that starts `lo` rows above the row. -/
theorem window_rows (lo hi : ℕ) (x : S1x4096x1024.Idx → EReal) (init : S_.Idx → EReal) (h0 : init (Shape.Idx.first h_S_) = 0)
    (h : S1x4096x1024.ReduceWindows ![1, 4096, 1] ![1, 1, 1] ![0, lo, 0] ![0, hi, 0] S1x4096x1024) (i : Fin 4096) (l : Fin 1024) :
    Host.reduceWindowAdd (F := Ideal) (φ := .f32) ![1, 4096, 1] ![1, 1, 1] ![0, lo, 0] ![0, hi, 0] x init h h_S_ (ix3 0 i l)
      = ∑ k : Fin 4096, if hk : lo ≤ i.val + k.val ∧ i.val + k.val - lo < 4096 then x (ix3 0 ⟨i.val + k.val - lo, hk.2⟩ l) else 0 := by
  unfold Host.reduceWindowAdd
  rw [Ideal.hostReduceWindowAdd_def, window_sum]
  refine (congrArg₂ (· + ·) h0 rfl).trans ((zero_add _).trans ?_)
  refine (Equiv.sum_comp places _).symm.trans ?_
  refine Finset.sum_congr rfl fun k _ => ?_
  by_cases hk : lo ≤ i.val + k.val ∧ i.val + k.val - lo < 4096
  · rw [dif_pos hk, dif_pos fun a => by
      fin_cases a
      · exact ⟨Nat.zero_le _, Nat.one_pos⟩
      · exact ⟨(by show lo ≤ i.val * 1 + k.val; omega), (by show i.val * 1 + k.val - lo < 4096; omega)⟩
      · exact ⟨Nat.zero_le _, (by show l.val * 1 + 0 - 0 < 1024; omega)⟩]
    refine congrArg x (funext fun a => Fin.ext ?_)
    fin_cases a
    · rfl
    · show i.val * 1 + k.val - lo = i.val + k.val - lo
      omega
    · show l.val * 1 + 0 - 0 = l.val
      omega
  · rw [dif_neg hk, dif_neg fun hin => hk ⟨by have := (hin 1).1; change lo ≤ i.val * 1 + k.val at this; omega, by
      have := (hin 1).2; change i.val * 1 + k.val - lo < 4096 at this; omega⟩]
    exact h0

/-- The running sum down the rows. -/
theorem running_down (x : S1x4096x1024.Idx → EReal) (Z : Fin 4096 → Fin 1024 → ℝ) (hx : ∀ i l, x (ix3 0 i l) = (Z i l : EReal))
    (init : S_.Idx → EReal) (h0 : init (Shape.Idx.first h_S_) = 0)
    (h : S1x4096x1024.ReduceWindows ![1, 4096, 1] ![1, 1, 1] ![0, 4095, 0] ![0, 0, 0] S1x4096x1024) (i : Fin 4096) (l : Fin 1024) :
    Host.reduceWindowAdd (F := Ideal) (φ := .f32) ![1, 4096, 1] ![1, 1, 1] ![0, 4095, 0] ![0, 0, 0] x init h h_S_ (ix3 0 i l)
      = ((∑ k ∈ Finset.range (i.val + 1), at' Z k l : ℝ) : EReal) := by
  rw [window_rows 4095 0 x init h0]
  have term : ∀ k : Fin 4096, (if hk : 4095 ≤ i.val + k.val ∧ i.val + k.val - 4095 < 4096 then x (ix3 0 ⟨i.val + k.val - 4095, hk.2⟩ l) else 0)
      = (((fun m : ℕ => if 4095 ≤ i.val + m then at' Z (i.val + m - 4095) l else 0) k.val : ℝ) : EReal) := fun k => by
    by_cases hk : 4095 ≤ i.val + k.val
    · have h2 : i.val + k.val - 4095 < 4096 := by omega
      rw [dif_pos ⟨hk, h2⟩, hx]
      exact congrArg _ ((if_pos hk).trans (at'_lt Z h2 l)).symm
    · rw [dif_neg fun e => hk e.1]
      show (0 : EReal) = ((if 4095 ≤ i.val + k.val then _ else 0 : ℝ) : EReal)
      rw [if_neg hk]
      rfl
  rw [Finset.sum_congr rfl fun k _ => term k, coe_sum, Fin.sum_univ_eq_sum_range (fun m : ℕ => if 4095 ≤ i.val + m then at' Z (i.val + m - 4095) l else 0) 4096]
  refine congrArg _ ?_
  have split : 4096 = (4095 - i.val) + (i.val + 1) := by omega
  refine (congrArg (fun M => ∑ m ∈ Finset.range M, (if 4095 ≤ i.val + m then at' Z (i.val + m - 4095) l else 0)) split).trans ?_
  rw [Finset.sum_range_add, Finset.sum_eq_zero fun m hm => if_neg (by have := Finset.mem_range.1 hm; omega), zero_add]
  refine Finset.sum_congr rfl fun m _ => ?_
  rw [if_pos (by omega), show i.val + (4095 - i.val + m) - 4095 = m by omega]

/-- The running sum up the rows. -/
theorem running_up (x : S1x4096x1024.Idx → EReal) (Z : ℕ → ℝ) (l : Fin 1024) (hx : ∀ i : Fin 4096, x (ix3 0 i l) = (Z i.val : EReal))
    (init : S_.Idx → EReal) (h0 : init (Shape.Idx.first h_S_) = 0)
    (h : S1x4096x1024.ReduceWindows ![1, 4096, 1] ![1, 1, 1] ![0, 0, 0] ![0, 4095, 0] S1x4096x1024) (i : Fin 4096) :
    Host.reduceWindowAdd (F := Ideal) (φ := .f32) ![1, 4096, 1] ![1, 1, 1] ![0, 0, 0] ![0, 4095, 0] x init h h_S_ (ix3 0 i l)
      = ((∑ k ∈ Finset.range 4096, if i.val + k < 4096 then Z (i.val + k) else 0 : ℝ) : EReal) := by
  rw [window_rows 0 4095 x init h0, ← Fin.sum_univ_eq_sum_range (fun k => if i.val + k < 4096 then Z (i.val + k) else 0) 4096, ← coe_sum]
  refine Finset.sum_congr rfl fun k _ => ?_
  by_cases hk : i.val + k.val < 4096
  · rw [dif_pos ⟨Nat.zero_le _, hk⟩, if_pos hk, hx]
    rfl
  · rw [dif_neg fun e => hk e.2, if_neg hk]
    rfl

/-! ## The windows' rows -/

theorem lo_word : ∀ w ∈ [2, 4, 8, 16], ∀ i : Fin 4096,
    (fun b : BitVec 32 => Scalar.select (IntOp.cmpi CmpIPredicate.slt b 0#32) (IntOp.addi b 4097#32) b)
      (IntOp.maxsi (IntOp.subi (IntOp.addi (BitVec.ofNat 32 i.val) 1#32) (BitVec.ofNat 32 w)) 0#32) = BitVec.ofNat 32 (lo w i.val) := by
  decide +kernel

theorem count_word : ∀ w ∈ [2, 4, 8, 16], ∀ i : Fin 4096,
    (IntOp.subi (IntOp.addi (BitVec.ofNat 32 i.val) 1#32)
      (IntOp.maxsi (IntOp.subi (IntOp.addi (BitVec.ofNat 32 i.val) 1#32) (BitVec.ofNat 32 w)) 0#32)).toInt = ((min (i.val + 1) w : ℕ) : ℤ) := by
  decide +kernel

end Cert.PoolBwdRefIdeal.Value
-- ==== Proof.Pool.Reference.lean ====
/-
  What the reference of the pooling's gradient computes at finite arguments: the real gradients of Spec.lean, array by array in the order in
  which it computes them. What it does for each of the four groups is stated once, of any group's pieces.
-/
module

public import proofs.«01_k».proof.Proof.Pool.Host

@[expose] public section

set_option maxRecDepth 16384

noncomputable section

namespace Cert.PoolBwdRefIdeal.Value

open Cert.PoolBwdRefIdeal Cert.PoolBwdRefIdeal.Gen Idealize.ShloMosaic Idealize.ShloMosaic.TcCoe Idealize.SL.Sem Cert.Reals Cert.Pool

/-- The argument arrays that are read hold these reals. -/
structure Holds (V : Valuation τ sig (Elt Ideal)) (A : Args) : Prop where
  c : ∀ i l, V (Proc.devRef .tc main_arg0) (ix2 i ⟨2048 + (l : Fin 1024).val, by omega⟩) = (A.c i l : EReal)
  b : V (Proc.devRef .tc main_arg1) = mat A.b
  w : V (Proc.devRef .tc main_arg3) = fun j => (A.w (j 1) (j 2) (j 3) : EReal)
  s : V (Proc.devRef .tc main_arg4) = mat fun _ => A.s

/-- An array of one sequence of rows. -/
def seq {m n : ℕ} (Z : Fin m → Fin n → ℝ) : (⟨3, ![1, m, n]⟩ : Shape).Idx → EReal := fun j => (Z (j 1) (j 2) : EReal)
theorem seq_ix3 {m n : ℕ} (Z : Fin m → Fin n → ℝ) (a : Fin 1) (i : Fin m) (l : Fin n) : seq Z (ix3 a i l) = (Z i l : EReal) := rfl

/-! ## One group -/

/-- The window means less the rows, from the running sums. -/
theorem diff_of {w : ℕ} (hw : 0 < w) (C : Fin 4096 → Fin 256 → ℝ) (X : FVec Ideal S1x4097x256 .f32) (L : IVec S4096x1 32) (N : FVec Ideal S1x4096x1 .f32)
    (c : FVec Ideal S1x4096x256 .f32) (hX : ∀ (b : Fin 4097) l, X (ix3 0 b l) = ((∑ k ∈ Finset.range b.val, at' C k l : ℝ) : EReal))
    (hL : ∀ i : Fin 4096, L (ix2 i 0) = BitVec.ofNat 32 (lo w i.val)) (hN : ∀ i : Fin 4096, N (ix3 0 i 0) = (cnt w i.val : EReal)) (hc : c = seq C) :
    subf (Host.divf (subf (extractStridedSlice S1x4096x256 ![0, 1, 0] X slices_S1x4097x256_S1x4096x256_0_1_0)
        (Host.gather gather_S1x4097x256_S4096x1_S1x4096x256_02_1_n_n_1_1_11256 X L))
        (broadcastInDim S1x4096x256 ![0, 1, 2] bcast_S1x4096x1_S1x4096x256_0_1_2 N)) c = seq (Pool.diff w C) := by
  funext j
  idx_vars j
  obtain rfl := Subsingleton.elim (α := Fin 1) j0 0
  pointwise
  rw [take_row X L j1 j2 ⟨lo w j1.val, by unfold lo; omega⟩ (hL j1), hX, hX, hN, hc, seq_ix3, seq_ix3]
  simp only [push]
  rw [div_real _ _ (cnt_pos hw _).ne']
  simp only [push]
  refine congrArg _ ?_
  unfold Pool.diff
  rw [← prefix_sub]
  rw [Nat.add_comm 1]
  rfl

variable {V : Valuation τ sig (Elt Ideal)} {A : Args} (h : Holds V A)
include h

theorem v2_eq : res_main_v2 V = seq A.c := by
  funext j; idx_vars j
  rw [seq_ix3, ← h.c]
  pointwise [res_main_v2]

omit h in
/-- A row of zeros above an array. -/
theorem beneath (z : FVec Ideal S1x1x1024 .f32) (x : FVec Ideal S1x4096x1024 .f32) (b : Fin 4097) (l : Fin 1024) :
    concatenate S1x4097x1024 1 [⟨S1x1x1024, z⟩, ⟨S1x4096x1024, x⟩] concatenates_S1x1x1024_S1x4096x1024_S1x4097x1024_d1 (ix3 0 b l)
      = if hb : b.val < 1 then z (ix3 0 0 l) else x (ix3 0 ⟨b.val - 1, by omega⟩ l) := by
  pointwise
  by_cases hb : b.val < 1
  · rw [dif_pos hb]
    simp only [hb, ↓reduceDIte]
    exact congrArg (fun k => z (ix3 0 k l)) (Subsingleton.elim (α := Fin 1) _ _)
  · simp [hb]

theorem v7_at (b : Fin 4097) (l : Fin 1024) : res_main_v7 V (ix3 0 b l) = ((∑ k ∈ Finset.range b.val, at' A.c k l : ℝ) : EReal) := by
  unfold res_main_v7
  refine (beneath _ _ b l).trans ?_
  split
  next hb =>
    rw [show b.val = 0 by omega]
    pointwise
    rfl
  next hb =>
    refine (running_down _ A.c (fun i l => by rw [v2_eq h, seq_ix3]) _ ?_ _ _ _).trans ?_
    · pointwise
    · show ((∑ k ∈ Finset.range (b.val - 1 + 1), at' A.c k l : ℝ) : EReal) = _
      rw [show b.val - 1 + 1 = b.val by omega]

theorem v132_eq : res_main_v132 V = seq fun i l => A.b i l * A.s l := by
  funext j; idx_vars j
  pointwise [res_main_v132, res_main_v127, res_main_v123]
  rw [h.b, h.s]
  simp only [mat_ix2, push]
  rfl

/-! ## The four groups -/

omit h in
theorem v28_at (i : Fin 4096) : res_main_v28 V (ix2 i 0) = BitVec.ofNat 32 (lo 2 i.val) := by
  pointwise [res_main_v28, res_main_v15, res_main_v9]
  exact lo_word 2 (by decide) i

omit h in
theorem v21_at (i : Fin 4096) : res_main_v21 V (ix3 0 i 0) = (cnt 2 i.val : EReal) := by
  pointwise [res_main_v21, res_main_v15, res_main_v9]
  exact (congrArg (fun n : ℤ => ((n : ℝ) : EReal)) (count_word 2 (by decide) i)).trans rfl

theorem v34_eq : res_main_v34 V = seq (A.diff 0) := by
  unfold res_main_v34
  refine diff_of (w := 2) (by decide) (cols 0 A.c) _ _ _ _ (fun b l => ?_) v28_at v21_at ?_
  · pointwise [res_main_v16]
    exact v7_at h b _
  · funext j; idx_vars j
    rw [v2_eq h]
    pointwise
    rfl

theorem v36_eq : res_main_v36 V = mat (A.w 0) := by
  funext j; idx_vars j
  pointwise [res_main_v36, res_main_v3]
  rw [h.w]
  rfl

theorem v134_eq : res_main_v134 V = seq (A.dout 0) := by
  funext j; idx_vars j
  unfold res_main_v134
  rw [v132_eq h]
  pointwise
  rfl

theorem v191_eq : res_main_v191 V = seq (A.ddiff 0) := by
  funext j; idx_vars j
  unfold res_main_v191
  rw [v134_eq h, v36_eq h]
  pointwise
  simp only [seq_ix3, mat_ix2, push]
  rfl

theorem v199_eq : res_main_v199 V = seq fun t l => A.ddiff 0 t l / cnt 2 t.val := by
  funext j; idx_vars j
  obtain rfl := Subsingleton.elim (α := Fin 1) j0 0
  unfold res_main_v199
  rw [v191_eq h]
  pointwise
  rw [v21_at, seq_ix3, seq_ix3, div_real _ _ (cnt_pos (by decide) _).ne']

omit h in
theorem v56_at (i : Fin 4096) : res_main_v56 V (ix2 i 0) = BitVec.ofNat 32 (lo 4 i.val) := by
  pointwise [res_main_v56, res_main_v43, res_main_v9]
  exact lo_word 4 (by decide) i

omit h in
theorem v49_at (i : Fin 4096) : res_main_v49 V (ix3 0 i 0) = (cnt 4 i.val : EReal) := by
  pointwise [res_main_v49, res_main_v43, res_main_v9]
  exact (congrArg (fun n : ℤ => ((n : ℝ) : EReal)) (count_word 4 (by decide) i)).trans rfl

theorem v62_eq : res_main_v62 V = seq (A.diff 1) := by
  unfold res_main_v62
  refine diff_of (w := 4) (by decide) (cols 1 A.c) _ _ _ _ (fun b l => ?_) v56_at v49_at ?_
  · pointwise [res_main_v44]
    simp only [Nat.add_comm 256]
    exact v7_at h b _
  · funext j; idx_vars j
    rw [v2_eq h]
    pointwise
    simp only [Nat.add_comm 256]
    rfl

theorem v64_eq : res_main_v64 V = mat (A.w 1) := by
  funext j; idx_vars j
  pointwise [res_main_v64, res_main_v3]
  rw [h.w]
  rfl

theorem v135_eq : res_main_v135 V = seq (A.dout 1) := by
  funext j; idx_vars j
  unfold res_main_v135
  rw [v132_eq h]
  pointwise
  simp only [Nat.add_comm 256]
  rfl

theorem v173_eq : res_main_v173 V = seq (A.ddiff 1) := by
  funext j; idx_vars j
  unfold res_main_v173
  rw [v135_eq h, v64_eq h]
  pointwise
  simp only [seq_ix3, mat_ix2, push]
  rfl

theorem v181_eq : res_main_v181 V = seq fun t l => A.ddiff 1 t l / cnt 4 t.val := by
  funext j; idx_vars j
  obtain rfl := Subsingleton.elim (α := Fin 1) j0 0
  unfold res_main_v181
  rw [v173_eq h]
  pointwise
  rw [v49_at, seq_ix3, seq_ix3, div_real _ _ (cnt_pos (by decide) _).ne']

omit h in
theorem v84_at (i : Fin 4096) : res_main_v84 V (ix2 i 0) = BitVec.ofNat 32 (lo 8 i.val) := by
  pointwise [res_main_v84, res_main_v71, res_main_v9]
  exact lo_word 8 (by decide) i

omit h in
theorem v77_at (i : Fin 4096) : res_main_v77 V (ix3 0 i 0) = (cnt 8 i.val : EReal) := by
  pointwise [res_main_v77, res_main_v71, res_main_v9]
  exact (congrArg (fun n : ℤ => ((n : ℝ) : EReal)) (count_word 8 (by decide) i)).trans rfl

theorem v90_eq : res_main_v90 V = seq (A.diff 2) := by
  unfold res_main_v90
  refine diff_of (w := 8) (by decide) (cols 2 A.c) _ _ _ _ (fun b l => ?_) v84_at v77_at ?_
  · pointwise [res_main_v72]
    simp only [Nat.add_comm 512]
    exact v7_at h b _
  · funext j; idx_vars j
    rw [v2_eq h]
    pointwise
    simp only [Nat.add_comm 512]
    rfl

theorem v92_eq : res_main_v92 V = mat (A.w 2) := by
  funext j; idx_vars j
  pointwise [res_main_v92, res_main_v3]
  rw [h.w]
  rfl

theorem v136_eq : res_main_v136 V = seq (A.dout 2) := by
  funext j; idx_vars j
  unfold res_main_v136
  rw [v132_eq h]
  pointwise
  simp only [Nat.add_comm 512]
  rfl

theorem v155_eq : res_main_v155 V = seq (A.ddiff 2) := by
  funext j; idx_vars j
  unfold res_main_v155
  rw [v136_eq h, v92_eq h]
  pointwise
  simp only [seq_ix3, mat_ix2, push]
  rfl

theorem v163_eq : res_main_v163 V = seq fun t l => A.ddiff 2 t l / cnt 8 t.val := by
  funext j; idx_vars j
  obtain rfl := Subsingleton.elim (α := Fin 1) j0 0
  unfold res_main_v163
  rw [v155_eq h]
  pointwise
  rw [v77_at, seq_ix3, seq_ix3, div_real _ _ (cnt_pos (by decide) _).ne']

omit h in
theorem v112_at (i : Fin 4096) : res_main_v112 V (ix2 i 0) = BitVec.ofNat 32 (lo 16 i.val) := by
  pointwise [res_main_v112, res_main_v99, res_main_v9]
  exact lo_word 16 (by decide) i

omit h in
theorem v105_at (i : Fin 4096) : res_main_v105 V (ix3 0 i 0) = (cnt 16 i.val : EReal) := by
  pointwise [res_main_v105, res_main_v99, res_main_v9]
  exact (congrArg (fun n : ℤ => ((n : ℝ) : EReal)) (count_word 16 (by decide) i)).trans rfl

theorem v118_eq : res_main_v118 V = seq (A.diff 3) := by
  unfold res_main_v118
  refine diff_of (w := 16) (by decide) (cols 3 A.c) _ _ _ _ (fun b l => ?_) v112_at v105_at ?_
  · pointwise [res_main_v100]
    simp only [Nat.add_comm 768]
    exact v7_at h b _
  · funext j; idx_vars j
    rw [v2_eq h]
    pointwise
    simp only [Nat.add_comm 768]
    rfl

theorem v120_eq : res_main_v120 V = mat (A.w 3) := by
  funext j; idx_vars j
  pointwise [res_main_v120, res_main_v3]
  rw [h.w]
  rfl

theorem v137_eq : res_main_v137 V = seq (A.dout 3) := by
  funext j; idx_vars j
  unfold res_main_v137
  rw [v132_eq h]
  pointwise
  simp only [Nat.add_comm 768]
  rfl

theorem v140_eq : res_main_v140 V = seq (A.ddiff 3) := by
  funext j; idx_vars j
  unfold res_main_v140
  rw [v137_eq h, v120_eq h]
  pointwise
  simp only [seq_ix3, mat_ix2, push]
  rfl

theorem v146_eq : res_main_v146 V = seq fun t l => A.ddiff 3 t l / cnt 16 t.val := by
  funext j; idx_vars j
  obtain rfl := Subsingleton.elim (α := Fin 1) j0 0
  unfold res_main_v146
  rw [v140_eq h]
  pointwise
  rw [v105_at, seq_ix3, seq_ix3, div_real _ _ (cnt_pos (by decide) _).ne']

/-! ## The results -/

omit h in
/-- Four groups of columns side by side, each padded with zeros to all columns: of the rows before a running sum. -/
theorem spread {m : ℕ} (x : Fin 4 → Fin m → Fin 256 → ℝ) (p0 p1 p2 p3 : (⟨3, ![1, m, 1024]⟩ : Shape).Idx → EReal)
    (h0 : ∀ i (j : Fin 1024), p0 (ix3 0 i j) = if hj : j.val < 256 then (x 0 i ⟨j.val, hj⟩ : EReal) else 0)
    (h1 : ∀ i (j : Fin 1024), p1 (ix3 0 i j) = if hj : 256 ≤ j.val ∧ j.val - 256 < 256 then (x 1 i ⟨j.val - 256, by omega⟩ : EReal) else 0)
    (h2 : ∀ i (j : Fin 1024), p2 (ix3 0 i j) = if hj : 512 ≤ j.val ∧ j.val - 512 < 256 then (x 2 i ⟨j.val - 512, by omega⟩ : EReal) else 0)
    (h3 : ∀ i (j : Fin 1024), p3 (ix3 0 i j) = if hj : 768 ≤ j.val ∧ j.val - 768 < 256 then (x 3 i ⟨j.val - 768, by omega⟩ : EReal) else 0)
    (g : Fin 4) (i : Fin m) (l : Fin 256) :
    p3 (ix3 0 i (col g l)) + p2 (ix3 0 i (col g l)) + p1 (ix3 0 i (col g l)) + p0 (ix3 0 i (col g l)) = (x g i l : EReal) := by
  rw [h0, h1, h2, h3]
  have hl := l.isLt
  fin_cases g
  · rw [dif_neg (by show ¬(768 ≤ l.val + 0 ∧ _); omega), dif_neg (by show ¬(512 ≤ l.val + 0 ∧ _); omega), dif_neg (by show ¬(256 ≤ l.val + 0 ∧ _); omega),
      dif_pos (by show l.val + 0 < 256; omega)]
    simp only [zero_add]
    rfl
  · rw [dif_neg (by show ¬(768 ≤ l.val + 256 ∧ _); omega), dif_neg (by show ¬(512 ≤ l.val + 256 ∧ _); omega),
      dif_pos (by show 256 ≤ l.val + 256 ∧ l.val + 256 - 256 < 256; omega), dif_neg (by show ¬l.val + 256 < 256; omega)]
    simp only [zero_add, add_zero]
    exact congrArg (fun k => (x 1 i k : EReal)) (Fin.ext (by show l.val + 256 - 256 = l.val; omega))
  · rw [dif_neg (by show ¬(768 ≤ l.val + 512 ∧ _); omega), dif_pos (by show 512 ≤ l.val + 512 ∧ l.val + 512 - 512 < 256; omega),
      dif_neg (by show ¬(256 ≤ l.val + 512 ∧ l.val + 512 - 256 < 256); omega), dif_neg (by show ¬l.val + 512 < 256; omega)]
    simp only [zero_add, add_zero]
    exact congrArg (fun k => (x 2 i k : EReal)) (Fin.ext (by show l.val + 512 - 512 = l.val; omega))
  · rw [dif_pos (by show 768 ≤ l.val + 768 ∧ l.val + 768 - 768 < 256; omega), dif_neg (by show ¬(512 ≤ l.val + 768 ∧ l.val + 768 - 512 < 256); omega),
      dif_neg (by show ¬(256 ≤ l.val + 768 ∧ l.val + 768 - 256 < 256); omega), dif_neg (by show ¬l.val + 768 < 256; omega)]
    simp only [add_zero]
    exact congrArg (fun k => (x 3 i k : EReal)) (Fin.ext (by show l.val + 768 - 768 = l.val; omega))

omit h in
/-- What the running sum up the rows is taken of: each row's quotient, less the quotients of the rows whose window starts beyond. -/
theorem moved_of {w : ℕ} (hw : 0 < w) (Q : Fin 4096 → Fin 256 → ℝ) (L : IVec S4096x1 32) (q : FVec Ideal S1x4096x256 .f32) (hq : q = seq Q)
    (hL : ∀ i : Fin 4096, L (ix2 i 0) = BitVec.ofNat 32 (lo w i.val)) :
    addf (Host.scatterAdd scatter_S1x4097x256_S4096x1_S1x4096x256_02_1_1_1 (broadcastInDim S1x4097x256 ![] bcast_S_S1x4097x256 (constant S_ .f32 0x00000000#32)) L
        (Host.negf q))
      (pad S1x4097x256 ![0, 1, 0] ![0, 0, 0] ![0, 0, 0] q (constant S_ .f32 0x00000000#32) pads_S1x4096x256_S1x4097x256_000_100_000 h_S_)
      = seq fun b l => (if hb : 1 ≤ b.val then Q ⟨b.val - 1, by omega⟩ l else 0) - ∑ t : Fin 4096, if lo w t.val = b.val then Q t l else 0 := by
  funext j; idx_vars j
  obtain rfl := Subsingleton.elim (α := Fin 1) j0 0
  refine (congrArg₂ (· + ·) (add_rows _ L _ (fun t => ⟨lo w t.val, by unfold lo; omega⟩) hL j1 j2) rfl).trans ?_
  subst hq
  pointwise
  have term : ∀ t : Fin 4096, (if (⟨lo w t.val, by unfold lo; omega⟩ : Fin 4097) = j1 then -seq Q (ix3 0 t j2) else 0)
      = ((-(if lo w t.val = j1.val then Q t j2 else 0) : ℝ) : EReal) := fun t => by
    by_cases ht : lo w t.val = j1.val
    · rw [if_pos (Fin.ext ht), if_pos ht, seq_ix3, EReal.coe_neg]
    · rw [if_neg fun e => ht (congrArg Fin.val e), if_neg ht, neg_zero]
      rfl
  rw [Finset.sum_congr rfl fun t _ => term t, coe_sum, Finset.sum_neg_distrib, seq_ix3]
  by_cases hj : 1 ≤ j1.val
  · rw [dif_pos ⟨hj, by omega⟩, dif_pos hj, seq_ix3, ← EReal.coe_add]
    exact congrArg _ (by ring)
  · rw [dif_neg fun e => hj e.1, dif_neg hj, add_zero, zero_sub]

theorem v206_at (g : Fin 4) (b : Fin 4097) (l : Fin 256) : res_main_v206 V (ix3 0 b (col g l))
    = (((if hb : 1 ≤ b.val then A.ddiff g ⟨b.val - 1, by omega⟩ l / cnt (win g) (b.val - 1) else 0)
        - ∑ t : Fin 4096, if lo (win g) t.val = b.val then A.ddiff g t l / cnt (win g) t.val else 0 : ℝ) : EReal) := by
  unfold res_main_v206
  rw [moved_of (w := 2) (by decide) _ _ _ (v199_eq h) v28_at, moved_of (w := 4) (by decide) _ _ _ (v181_eq h) v56_at,
    moved_of (w := 8) (by decide) _ _ _ (v163_eq h) v84_at, moved_of (w := 16) (by decide) _ _ _ (v146_eq h) v112_at]
  refine spread (fun g b l => (if hb : 1 ≤ b.val then A.ddiff g ⟨b.val - 1, by omega⟩ l / cnt (win g) (b.val - 1) else 0)
        - ∑ t : Fin 4096, if lo (win g) t.val = b.val then A.ddiff g t l / cnt (win g) t.val else 0) _ _ _ _ ?_ ?_ ?_ ?_ g b l
  all_goals (intro i j; pointwise; rfl)

/-- The gradient of the pooled columns. -/
theorem dc_at (d0 d1 d2 d3 : FVec Ideal S1x4096x256 .f32) (h0 : d0 = seq (A.ddiff 0)) (h1 : d1 = seq (A.ddiff 1)) (h2 : d2 = seq (A.ddiff 2))
    (h3 : d3 = seq (A.ddiff 3)) (g : Fin 4) (i : Fin 4096) (l : Fin 256) :
    addf (addf (addf (addf (pad S1x4096x1024 ![0, 0, 768] ![0, 0, 0] ![0, 0, 0] (Host.negf d3) (constant S_ .f32 0x00000000#32) pads_S1x4096x256_S1x4096x1024_000_000_76800 h_S_)
        (pad S1x4096x1024 ![0, 0, 512] ![0, 0, 256] ![0, 0, 0] (Host.negf d2) (constant S_ .f32 0x00000000#32) pads_S1x4096x256_S1x4096x1024_000_000_5122560 h_S_))
        (pad S1x4096x1024 ![0, 0, 256] ![0, 0, 512] ![0, 0, 0] (Host.negf d1) (constant S_ .f32 0x00000000#32) pads_S1x4096x256_S1x4096x1024_000_000_2565120 h_S_))
        (pad S1x4096x1024 ![0, 0, 0] ![0, 0, 768] ![0, 0, 0] (Host.negf d0) (constant S_ .f32 0x00000000#32) pads_S1x4096x256_S1x4096x1024_000_000_07680 h_S_))
      (Host.reduceWindowAdd ![1, 4096, 1] ![1, 1, 1] ![0, 0, 0] ![0, 4095, 0] (extractStridedSlice S1x4096x1024 ![0, 1, 0] (res_main_v206 V) slices_S1x4097x1024_S1x4096x1024_0_1_0)
        (broadcastInDim S_ ![] bcast_S_S_ (constant S_ .f32 0x00000000#32)) reduceWindows_S1x4096x1024_S1x4096x1024_w1s1p0_0_w4096s1p0_4095_w1s1p0_0 h_S_)
      (ix3 0 i (col g l)) = (A.dc g i l : EReal) := by
  have up := running_up (extractStridedSlice S1x4096x1024 ![0, 1, 0] (res_main_v206 V) slices_S1x4097x1024_S1x4096x1024_0_1_0)
    (fun k => at' (fun t l => A.ddiff g t l / cnt (win g) t.val) k l
      - ∑ t : Fin 4096, if lo (win g) t.val = k + 1 then A.ddiff g t l / cnt (win g) t.val else 0) (col g l) (fun k => by
        pointwise
        simp only [Nat.add_comm 1]
        refine (v206_at h g _ l).trans (congrArg _ ?_)
        rw [dif_pos (by show 1 ≤ k.val + 1; omega), at'_val]
        rfl) (broadcastInDim S_ ![] bcast_S_S_ (constant (F := Ideal) S_ .f32 0x00000000#32)) (by pointwise)
    reduceWindows_S1x4096x1024_S1x4096x1024_w1s1p0_0_w4096s1p0_4095_w1s1p0_0 i
  rw [suffix_sub (win g) (fun t l => A.ddiff g t l / cnt (win g) t.val) i l] at up
  refine (congrArg₂ (· + ·) (spread (fun g i l => -A.ddiff g i l) _ _ _ _ ?_ ?_ ?_ ?_ g i l) up).trans ?_
  · intro i j; rw [h0]; pointwise; simp only [seq_ix3, push]
  · intro i j; rw [h1]; pointwise; simp only [seq_ix3, push]
  · intro i j; rw [h2]; pointwise; simp only [seq_ix3, push]
  · intro i j; rw [h3]; pointwise; simp only [seq_ix3, push]
  simp only [push]
  refine congrArg _ ?_
  unfold Args.dc undiff
  ring

omit h in
/-- Four groups of columns beside each other. -/
theorem beside (x : Fin 4 → FVec Ideal S1x4096x256 .f32) (g : Fin 4) (i : Fin 4096) (l : Fin 256) :
    concatenate S1x4096x1024 2 [⟨S1x4096x256, x 0⟩, ⟨S1x4096x256, x 1⟩, ⟨S1x4096x256, x 2⟩, ⟨S1x4096x256, x 3⟩]
      concatenates_S1x4096x256_S1x4096x256_S1x4096x256_S1x4096x256_S1x4096x1024_d2 (ix3 0 i (col g l)) = x g (ix3 0 i l) := by
  pointwise
  have hl := l.isLt
  fin_cases g
  · rw [dif_pos (by show l.val + 0 < 256; omega)]
    rfl
  · rw [dif_neg (by show ¬l.val + 256 < 256; omega), dif_pos (by show l.val + 256 - 256 < 256; omega)]
    exact congrArg (fun k => x 1 (ix3 0 i k)) (Fin.ext (by show l.val + 256 - 256 = l.val; omega))
  · rw [dif_neg (by show ¬l.val + 512 < 256; omega), dif_neg (by show ¬l.val + 512 - 256 < 256; omega),
      dif_pos (by show l.val + 512 - 256 - 256 < 256; omega)]
    exact congrArg (fun k => x 2 (ix3 0 i k)) (Fin.ext (by show l.val + 512 - 256 - 256 = l.val; omega))
  · rw [dif_neg (by show ¬l.val + 768 < 256; omega), dif_neg (by show ¬l.val + 768 - 256 < 256; omega),
      dif_neg (by show ¬l.val + 768 - 256 - 256 < 256; omega)]
    exact congrArg (fun k => x 3 (ix3 0 i k)) (Fin.ext (by show l.val + 768 - 256 - 256 - 256 = l.val; omega))

theorem v122_at (g : Fin 4) (i : Fin 4096) (l : Fin 256) :
    res_main_v122 V (ix3 0 i (col g l)) = ((∑ k, A.diff g i k * A.w g k l : ℝ) : EReal) := by
  unfold res_main_v122
  refine (beside ![_, _, _, _] g i l).trans ?_
  fin_cases g
  · rw [v34_eq h, v36_eq h]; pointwise; simp only [seq_ix3, mat_ix2, push]
  · rw [v62_eq h, v64_eq h]; pointwise; simp only [seq_ix3, mat_ix2, push]
  · rw [v90_eq h, v92_eq h]; pointwise; simp only [seq_ix3, mat_ix2, push]
  · rw [v118_eq h, v120_eq h]; pointwise; simp only [seq_ix3, mat_ix2, push]

omit h in
/-- The sum over the two axes of extent one. -/
theorem sum_units (x : S1x1x1024.Idx → EReal) (l : Fin 1024) :
    Ideal.hostReduceAdd reducesTo_S1x1x1024_S1024_d0_1 x 0 (ix1 l) = x (ix3 0 0 l) := by
  rw [hostReduceAdd_one _ x 0 _ (ix3 0 0 l) fun k => ?_, zero_add]
  idx_vars k
  constructor
  · intro e
    have e2 : k2 = l := congrFun e 0
    rw [e2, Subsingleton.elim (α := Fin 1) k0 0, Subsingleton.elim (α := Fin 1) k1 0]
  · intro e
    have e2 : k2 = l := congrFun e 2
    rw [e2]
    funext b
    fin_cases b
    rfl

/-- The gradient of the scale. -/
theorem final_ds : broadcastInDim S1x1024 ![1] bcast_S1024_S1x1024_1 (Host.reduceAdd (shapeCast _ (Host.reduceAdd (mulf (res_main_v122 V) (res_main_v127 V))
      (constant S_ .f32 0x00000000#32) reducesTo_S1x4096x1024_S1x1024_d1 h_S_) shapeCasts_S1x1024_S1x1x1024) (constant S_ .f32 0x00000000#32)
      reducesTo_S1x1x1024_S1024_d0_1 h_S_) = mat fun _ j => ungroup A.ds j.val := by
  funext j; idx_vars j
  obtain ⟨g, l, rfl⟩ := col_split j1
  rw [mat_ix2, ungroup_col]
  pointwise
  refine (sum_units _ _).trans ?_
  pointwise [res_main_v127]
  rw [h.b]
  simp only [v122_at h, mat_ix2, push]
  refine congrArg _ (Finset.sum_congr rfl fun i _ => mul_comm _ _)

omit h in
/-- The columns before the pooled ones, the pooled ones' gradient and the columns behind them. -/
theorem within (x z : Vec Ideal S4096x2048 .bf16) (y : Vec Ideal S4096x1024 .bf16) (j : S4096x5120.Idx) :
    concatenate S4096x5120 1 [⟨S4096x2048, x⟩, ⟨S4096x1024, y⟩, ⟨S4096x2048, z⟩] concatenates_S4096x2048_S4096x1024_S4096x2048_S4096x5120_d1 j
      = if h1 : (j 1).val < 2048 then x (ix2 (j 0) ⟨(j 1).val, h1⟩) else if h2 : (j 1).val < 3072 then y (ix2 (j 0) ⟨(j 1).val - 2048, by omega⟩)
        else z (ix2 (j 0) ⟨(j 1).val - 3072, by have : (j 1).val < 5120 := (j 1).isLt; omega⟩) := by
  idx_vars j
  pointwise
  by_cases h1 : j1.val < 2048
  · simp [h1]
  · by_cases h2 : j1.val < 3072
    · have h3 : j1.val - 2048 < 1024 := by omega
      simp [h1, h2, h3]
    · have h3 : ¬j1.val - 2048 < 1024 := by omega
      simp [h1, h2, h3, Nat.sub_sub]

/-- The array that the gradient of the pooled columns lies in. -/
theorem final_dz (y : FVec Ideal S1x4096x1024 .f32) (hy : ∀ g i l, y (ix3 0 i (col g l)) = (A.dc g i l : EReal)) :
    (concatenate S4096x5120 1 [⟨S4096x2048, ((extractStridedSlice S4096x2048 ![0, 0] (V (Proc.devRef .tc main_arg2)) slices_S4096x5120_S4096x2048_0_0) : (⟨S4096x2048, .bf16⟩ : BufTy).Contents (Elt Ideal))⟩,
      ⟨S4096x1024, ((truncf .bf16 (shapeCast _ y shapeCasts_S1x4096x1024_S4096x1024) bitsLt_bf16_f32) : (⟨S4096x1024, .bf16⟩ : BufTy).Contents (Elt Ideal))⟩,
      ⟨S4096x2048, ((extractStridedSlice S4096x2048 ![0, 3072] (V (Proc.devRef .tc main_arg2)) slices_S4096x5120_S4096x2048_0_3072) : (⟨S4096x2048, .bf16⟩ : BufTy).Contents (Elt Ideal))⟩]
      concatenates_S4096x2048_S4096x1024_S4096x2048_S4096x5120_d1 : (⟨S4096x5120, .bf16⟩ : BufTy).Contents (Elt Ideal))
      = fun j => if (j 1).val < 2048 ∨ 3072 ≤ (j 1).val then V (Proc.devRef .tc main_arg2) j
          else ((ungroup (fun g l => A.dc g (j 0) l) ((j 1).val - 2048) : ℝ) : EReal) := by
  funext j
  refine (within _ _ _ j).trans ?_
  idx_vars j
  by_cases h1 : j1.val < 2048
  · refine (dif_pos h1).trans (Eq.trans ?_ (if_pos (Or.inl h1)).symm)
    pointwise
  · refine (dif_neg h1).trans ?_
    by_cases h2 : j1.val < 3072
    · refine (dif_pos h2).trans (Eq.trans ?_ (if_neg (by show ¬(j1.val < 2048 ∨ 3072 ≤ j1.val); omega)).symm)
      obtain ⟨g, l, e⟩ := col_split ⟨j1.val - 2048, by omega⟩
      have e' : j1.val - 2048 = (col g l).val := congrArg Fin.val e
      pointwise
      refine Eq.trans ?_ (congrArg (fun r : ℝ => (r : EReal)) (congrArg (ungroup (fun g l => A.dc g j0 l)) e').symm)
      rw [ungroup_col]
      exact (congrArg (fun k => y (ix3 0 j0 k)) e).trans (hy g j0 l)
    · refine (dif_neg h2).trans (Eq.trans ?_ (if_pos (Or.inr (by show 3072 ≤ j1.val; omega))).symm)
      pointwise
      refine congrArg (fun k => V (Proc.devRef .tc main_arg2) (ix2 j0 k)) (Fin.ext ?_)
      show 3072 + (j1.val - 3072) = j1.val
      omega

omit h in
/-- A product over all rows. -/
theorem dw_of (P Q : Fin 4096 → Fin 256 → ℝ) (p q : FVec Ideal S1x4096x256 .f32) (hp : p = seq P) (hq : q = seq Q) (a e : Fin 256) :
    Host.dotGeneral (φ₁ := .f32) (φ₂ := .f32) dot_S1x4096x256_S1x4096x256_S256x256_01_01_2_2_n_n none p q (ix2 e a) = ((∑ i, Q i a * P i e : ℝ) : EReal) := by
  subst hp hq
  pointwise
  simp only [seq_ix3, push, Fintype.sum_unique]
  exact congrArg _ (Finset.sum_congr rfl fun i _ => mul_comm _ _)

omit h in
/-- The gradients of the four products. -/
theorem final_dw (d0 d1 d2 d3 : FVec Ideal S256x256 .f32) (h0 : ∀ a e, d0 (ix2 e a) = (A.dw 0 a e : EReal)) (h1 : ∀ a e, d1 (ix2 e a) = (A.dw 1 a e : EReal))
    (h2 : ∀ a e, d2 (ix2 e a) = (A.dw 2 a e : EReal)) (h3 : ∀ a e, d3 (ix2 e a) = (A.dw 3 a e : EReal)) :
    truncf .bf16 (shapeCast _ (broadcastInDim S1x4x256x256 ![1, 2, 3] bcast_S4x256x256_S1x4x256x256_1_2_3 (addf (addf (addf
    (pad S4x256x256 ![3, 0, 0] ![0, 0, 0] ![0, 0, 0] (broadcastInDim S1x256x256 ![1, 2] bcast_S256x256_S1x256x256_1_2 (transpose S256x256 [1, 0] d3 transposes_S256x256_S256x256_1_0)) (constant S_ .f32 0x00000000#32) pads_S1x256x256_S4x256x256_300_000_000 h_S_)
    (pad S4x256x256 ![2, 0, 0] ![1, 0, 0] ![0, 0, 0] (broadcastInDim S1x256x256 ![1, 2] bcast_S256x256_S1x256x256_1_2 (transpose S256x256 [1, 0] d2 transposes_S256x256_S256x256_1_0)) (constant S_ .f32 0x00000000#32) pads_S1x256x256_S4x256x256_210_000_000 h_S_))
    (pad S4x256x256 ![1, 0, 0] ![2, 0, 0] ![0, 0, 0] (broadcastInDim S1x256x256 ![1, 2] bcast_S256x256_S1x256x256_1_2 (transpose S256x256 [1, 0] d1 transposes_S256x256_S256x256_1_0)) (constant S_ .f32 0x00000000#32) pads_S1x256x256_S4x256x256_120_000_000 h_S_))
    (pad S4x256x256 ![0, 0, 0] ![3, 0, 0] ![0, 0, 0] (broadcastInDim S1x256x256 ![1, 2] bcast_S256x256_S1x256x256_1_2 (transpose S256x256 [1, 0] d0 transposes_S256x256_S256x256_1_0)) (constant S_ .f32 0x00000000#32) pads_S1x256x256_S4x256x256_030_000_000 h_S_)))
    shapeCasts_S1x4x256x256_S4x256x256) bitsLt_bf16_f32 = fun j => (A.dw (j 0) (j 1) (j 2) : EReal) := by
  funext j; idx_vars j
  pointwise
  simp only [h0, h1, h2, h3]
  fin_cases j0 <;> simp

end Cert.PoolBwdRefIdeal.Value
-- ==== Proof.Pool.Steps.lean ====
/-
  The operations of the pooling's kernel on arrays of reals: a step that doubles the window, the row counts, and the products.
-/
module

public import proofs.«01_k».proof.Proof.Gen.PoolBwdIdeal.Value
public import proofs.«01_k».proof.Proof.Pool.Spec

@[expose] public section
set_option maxRecDepth 16384
noncomputable section
namespace Cert.PoolBwdIdeal.Value
open Cert.PoolBwdIdeal Cert.PoolBwdIdeal.Gen Idealize.ShloMosaic Idealize.ShloMosaic.TcCoe Idealize.SL.Sem Cert.Reals Cert.Pool

/-- The row numbers. -/
abbrev rows : IVec S4096x1 32 := iota .tc S4096x1 32 [0] iota_S4096x1_d0_w32

theorem ge_word : ∀ k ∈ [1, 2, 4, 8], ∀ i : Fin 4096,
    IntOp.cmpi CmpIPredicate.sge (BitVec.ofNat 32 i.val) (BitVec.ofNat 32 k) = if k ≤ i.val then 1#1 else 0#1 := by decide +kernel

theorem lt_word : ∀ k ∈ [1, 2, 4, 8], ∀ i : Fin 4096,
    IntOp.cmpi CmpIPredicate.slt (BitVec.ofNat 32 i.val) (BitVec.ofNat 32 (4096 - k)) = if i.val + k < 4096 then 1#1 else 0#1 := by decide +kernel

theorem min_word : ∀ w ∈ [2, 4, 8, 16], ∀ i : Fin 4096,
    (IntOp.minsi (IntOp.addi (BitVec.ofNat 32 i.val) 1#32) (BitVec.ofNat 32 w)).toInt = ((min (i.val + 1) w : ℕ) : ℤ) := by decide +kernel

theorem pick (p : Prop) [Decidable p] (a : EReal) : Scalar.select (if p then 1#1 else 0#1 : BitVec 1) a 0 = if p then a else 0 := by
  by_cases h : p
  · rw [if_pos h, if_pos h]; rfl
  · rw [if_neg h, if_neg h]; rfl

/-- A step back: the array and, from row `k` on, the array `k` rows before. -/
def stepBack (k : BitVec 32) (x : FVec Ideal S4096x256 .f32) : FVec Ideal S4096x256 .f32 :=
  addf x (select (broadcastTo S4096x256 (shapeCast S4096x1 (cmpi .sge rows (broadcast S4096x1 k)) shapeCasts_S4096x1_S4096x1) broadcasts_S4096x1_S4096x256)
    (dynamicRotate 0 k none x rotates_S4096x256_d0) (broadcast S4096x256 (Scalar.ofBits .f32 0x00000000#32)))

/-- A step ahead, by a turn of `4096 - k` rows. -/
def stepAhead (k : BitVec 32) (x : FVec Ideal S4096x256 .f32) : FVec Ideal S4096x256 .f32 :=
  addf x (select (broadcastTo S4096x256 (shapeCast S4096x1 (cmpi .slt rows (broadcast S4096x1 k)) shapeCasts_S4096x1_S4096x1) broadcasts_S4096x1_S4096x256)
    (dynamicRotate 0 k none x rotates_S4096x256_d0) (broadcast S4096x256 (Scalar.ofBits .f32 0x00000000#32)))

/-- A step back of windows of `w` rows, at one row. -/
theorem back_row (w : ℕ) (hw : w ∈ [1, 2, 4, 8]) (c : Fin 4096 → Fin 256 → ℝ) (i : Fin 4096) (l : Fin 256) (h : (i.val + 4096 - w) % 4096 < 4096) :
    ((backs w c i l : ℝ) : EReal) + Scalar.select (IntOp.cmpi CmpIPredicate.sge (BitVec.ofNat 32 i.val) (BitVec.ofNat 32 w)) ((backs w c ⟨_, h⟩ l : ℝ) : EReal) 0
      = ((backs (w + w) c i l : ℝ) : EReal) := by
  rw [ge_word w hw i, pick, ← backs_double w c i l]
  by_cases hi : w ≤ i.val
  · have e : (i.val + 4096 - w) % 4096 = i.val - w := by have := i.isLt; omega
    rw [if_pos hi, dif_pos hi, EReal.coe_add]
    simp only [e]
  · rw [if_neg hi, dif_neg hi, add_zero, add_zero]

/-- A step ahead of windows of `w` rows, at one row. -/
theorem ahead_row (w : ℕ) (hw : w ∈ [1, 2, 4, 8]) (c : Fin 4096 → Fin 256 → ℝ) (i : Fin 4096) (l : Fin 256) (b : BitVec 32) (hb : b = BitVec.ofNat 32 (4096 - w)) (h : (i.val + 4096 - (4096 - w)) % 4096 < 4096) :
    ((aheads w c i l : ℝ) : EReal) + Scalar.select (IntOp.cmpi CmpIPredicate.slt (BitVec.ofNat 32 i.val) b) ((aheads w c ⟨_, h⟩ l : ℝ) : EReal) 0
      = ((aheads (w + w) c i l : ℝ) : EReal) := by
  have hw' : w ≤ 4096 := by fin_cases hw <;> decide
  subst hb
  rw [lt_word w hw i, pick, ← aheads_double w c i l]
  by_cases hi : i.val + w < 4096
  · have e : (i.val + 4096 - (4096 - w)) % 4096 = i.val + w := by omega
    rw [if_pos hi, dif_pos hi, EReal.coe_add]
    simp only [e]
  · rw [if_neg hi, dif_neg hi, add_zero, add_zero]

/-- A step ahead at an index. -/
theorem stepAhead_at (k : BitVec 32) (x : FVec Ideal S4096x256 .f32) (i : Fin 4096) (l : Fin 256) (n : Fin 4096) (hn : n.val = (i.val + 4096 - k.toNat % 4096) % 4096) :
    stepAhead k x (ix2 i l) = x (ix2 i l) + Scalar.select (IntOp.cmpi CmpIPredicate.slt (BitVec.ofNat 32 i.val) k) (x (ix2 n l)) 0 := by
  obtain ⟨n, hlt⟩ := n
  subst hn
  pointwise [stepAhead]

section Steps
variable (c : Fin 4096 → Fin 256 → ℝ)

theorem back_1 : stepBack 1#32 (mat c) = mat (backs 2 c) := by
  have e : mat c = mat (backs 1 c) := by rw [backs_one]
  rw [e]; funext y; idx_vars y; pointwise [stepBack]
  exact back_row 1 (by decide) c y0 y1 _
theorem back_2 : stepBack 2#32 (mat (backs 2 c)) = mat (backs 4 c) := by
  funext y; idx_vars y; pointwise [stepBack]
  exact back_row 2 (by decide) c y0 y1 _
theorem back_4 : stepBack 4#32 (mat (backs 4 c)) = mat (backs 8 c) := by
  funext y; idx_vars y; pointwise [stepBack]
  exact back_row 4 (by decide) c y0 y1 _
theorem back_8 : stepBack 8#32 (mat (backs 8 c)) = mat (backs 16 c) := by
  funext y; idx_vars y; pointwise [stepBack]
  exact back_row 8 (by decide) c y0 y1 _
theorem ahead_1 : stepAhead 4095#32 (mat c) = mat (aheads 2 c) := by
  have e : mat c = mat (aheads 1 c) := by rw [aheads_one]
  rw [e]; funext y; idx_vars y; rw [stepAhead_at _ _ y0 y1 ⟨_, Nat.mod_lt (y0.val + 4096 - (4096 - 1)) (by decide)⟩
    (congrArg (fun m => (y0.val + 4096 - m) % 4096) (by decide : 4096 - 1 = (4095#32).toNat % 4096))]
  exact ahead_row 1 (by decide) c y0 y1 _ (by decide) _
theorem ahead_2 : stepAhead 4094#32 (mat (aheads 2 c)) = mat (aheads 4 c) := by
  funext y; idx_vars y; rw [stepAhead_at _ _ y0 y1 ⟨_, Nat.mod_lt (y0.val + 4096 - (4096 - 2)) (by decide)⟩
    (congrArg (fun m => (y0.val + 4096 - m) % 4096) (by decide : 4096 - 2 = (4094#32).toNat % 4096))]
  exact ahead_row 2 (by decide) c y0 y1 _ (by decide) _
theorem ahead_4 : stepAhead 4092#32 (mat (aheads 4 c)) = mat (aheads 8 c) := by
  funext y; idx_vars y; rw [stepAhead_at _ _ y0 y1 ⟨_, Nat.mod_lt (y0.val + 4096 - (4096 - 4)) (by decide)⟩
    (congrArg (fun m => (y0.val + 4096 - m) % 4096) (by decide : 4096 - 4 = (4092#32).toNat % 4096))]
  exact ahead_row 4 (by decide) c y0 y1 _ (by decide) _
theorem ahead_8 : stepAhead 4088#32 (mat (aheads 8 c)) = mat (aheads 16 c) := by
  funext y; idx_vars y; rw [stepAhead_at _ _ y0 y1 ⟨_, Nat.mod_lt (y0.val + 4096 - (4096 - 8)) (by decide)⟩
    (congrArg (fun m => (y0.val + 4096 - m) % 4096) (by decide : 4096 - 8 = (4088#32).toNat % 4096))]
  exact ahead_row 8 (by decide) c y0 y1 _ (by decide) _

end Steps

/-- The row counts. -/
theorem counts (k : BitVec 32) (w : ℕ) (hw : w ∈ [2, 4, 8, 16]) (hk : k = BitVec.ofNat 32 w) :
    (sitofp .f32 (minsi (addi rows (broadcast S4096x1 1#32)) (broadcast S4096x1 k)) : FVec Ideal S4096x1 .f32) = mat fun i _ => cnt w i.val := by
  subst hk
  funext y
  idx_vars y
  pointwise
  exact (congrArg (fun n : ℤ => ((n : ℝ) : EReal)) (min_word w hw y0)).trans rfl

/-- Division by the row counts. -/
theorem quotient (w : ℕ) (hw : 0 < w) (d : Fin 4096 → Fin 256 → ℝ) :
    divf (F := Ideal) (φ := .f32) (mat d) (broadcastTo S4096x256 (mat fun (i : Fin 4096) (_ : Fin 1) => cnt w i.val) broadcasts_S4096x1_S4096x256)
      = mat fun i l => d i l / cnt w i.val := by
  funext y
  idx_vars y
  pointwise
  simp only [mat_ix2]
  exact div_real _ _ (cnt_pos hw _).ne'

theorem minus (c d : Fin 4096 → Fin 256 → ℝ) : subf (F := Ideal) (φ := .f32) (s := S4096x256) (mat c) (mat d) = mat fun i l => c i l - d i l := by
  funext y
  idx_vars y
  pointwise
  simp only [mat_ix2, push]

/-- The mixing of a group by its matrix. -/
theorem mixed (c : Fin 4096 → Fin 256 → ℝ) (v : Fin 256 → Fin 256 → ℝ) :
    matmul (F := Ideal) (φ₁ := .bf16) (φ₂ := .bf16) dot_S4096x256_S256x256_S4096x256_1_0_0_1_n_n none (mat c) (mat v) (constant S4096x256 .f32 0x00000000#32) = mat fun i l => ∑ k, c i k * v k l := by
  funext y
  idx_vars y
  pointwise
  simp only [mat_ix2, push]

theorem mixed_back (c : Fin 4096 → Fin 256 → ℝ) (v : Fin 256 → Fin 256 → ℝ) :
    matmul (F := Ideal) (φ₁ := .bf16) (φ₂ := .bf16) dot_S4096x256_S256x256_S4096x256_1_1_0_0_n_n none (mat c) (mat v) (constant S4096x256 .f32 0x00000000#32) = mat fun i l => ∑ k, c i k * v l k := by
  funext y
  idx_vars y
  pointwise
  simp only [mat_ix2, push]

theorem mixed_weights (c d : Fin 4096 → Fin 256 → ℝ) :
    matmul (F := Ideal) (φ₁ := .bf16) (φ₂ := .bf16) dot_S4096x256_S4096x256_S256x256_0_0_1_1_n_n none (mat c) (mat d) (constant S256x256 .f32 0x00000000#32) = mat fun a e => ∑ i, c i a * d i e := by
  funext y
  idx_vars y
  pointwise
  simp only [mat_ix2, push]

/-- The cotangent scaled. -/
theorem scaled (c : Fin 4096 → Fin 256 → ℝ) (s : Fin 256 → ℝ) :
    mulf (F := Ideal) (φ := .f32) (mat c) (broadcastTo S4096x256 (shapeCast S1x256 (mat fun (_ : Fin 1) l => s l) shapeCasts_S1x256_S1x256) broadcasts_S1x256_S4096x256) = mat fun i l => c i l * s l := by
  funext y
  idx_vars y
  pointwise
  simp only [mat_ix2, push]

end Cert.PoolBwdIdeal.Value
-- ==== Proof.Pool.Kernel.lean ====
/-
  What the kernel of the pooling's gradient leaves in its three result arrays at finite arguments: the real gradients of Spec.lean.
  A grid point handles one group of 256 columns, with the group's own window; the columns of the other layers keep what they held.
-/
module

public import proofs.«01_k».proof.Proof.Pool.Steps

@[expose] public section
set_option maxRecDepth 16384
noncomputable section
namespace Cert.PoolBwdIdeal.Value
open Cert.PoolBwdIdeal Cert.PoolBwdIdeal.Gen Idealize.ShloMosaic Idealize.ShloMosaic.TcCoe Idealize.SL.Sem Cert.Reals Cert.Pool

variable {m : (ℓ : Loc nD τ sig) → Buf (Elt Ideal) ℓ} {c : Dev nD}

/-- Which blocks point `t` reads and writes. -/
theorem idx : ∀ t : Fin cfg0.N, win0_0.index t = ![0, 8 + t.val] ∧ win0_1.index t = ![0, t.val] ∧ win0_2.index t = ![t.val, 0, 0]
    ∧ win0_3.index t = ![0, t.val] ∧ win0_4.index t = ![0, 8 + t.val] ∧ win0_5.index t = ![t.val, 0, 0] ∧ win0_6.index t = ![0, t.val] ∧ t.val < 4 :=
  (by decide +kernel : ∀ t : Fin grid0.N, _)

/-- A matrix as an array with a leading axis of extent one. -/
def wmat (v : Fin 256 → Fin 256 → ℝ) : FVec Ideal S1x256x256 .bf16 := fun j => ((v (j 1) (j 2) : ℝ) : EReal)

/-- The group that point `t` handles. -/
def grp (t : Fin cfg0.N) : Fin 4 := ⟨t.val, (idx t).2.2.2.2.2.2.2⟩

variable (m c) in
/-- The argument arrays that are read hold these reals. -/
structure Holds (A : Args) : Prop where
  x : ∀ i l, m ((c.tc : Thread nD τ).loc main_arg0) (ix2 i ⟨2048 + (l : Fin 1024).val, by omega⟩) = (A.c i l : EReal)
  b : m ((c.tc : Thread nD τ).loc main_arg1) = mat A.b
  w : m ((c.tc : Thread nD τ).loc main_arg3) = fun j => (A.w (j 1) (j 2) (j 3) : EReal)
  s : m ((c.tc : Thread nD τ).loc main_arg4) = mat fun _ => A.s

variable {A : Args} (h : Holds m c A)
include h
theorem blk0 (t : Fin cfg0.N) : (iblk m c 0 t : FVec Ideal S4096x256 .bf16) = mat (cols (grp t) A.c) := by
  funext y
  idx_vars y
  refine Eq.trans ?_ (h.x y0 (col (grp t) y1))
  blk_ext! [iblk, V, idx t, grp, col]
theorem blk1 (t : Fin cfg0.N) : (iblk m c 1 t : FVec Ideal S4096x256 .bf16) = mat (cols (grp t) A.b) := by
  funext y
  idx_vars y
  refine Eq.trans ?_ (congrFun h.b (ix2 y0 (col (grp t) y1)))
  blk_ext! [iblk, V, idx t, grp, col]
theorem blk2 (t : Fin cfg0.N) : (iblk m c 2 t : FVec Ideal S1x256x256 .bf16) = wmat (A.w (grp t)) := by
  funext y
  idx_vars y
  refine Eq.trans ?_ (congrFun h.w (ix4 0 (grp t) y1 y2))
  blk_ext! [iblk, idx t, grp]
theorem blk3 (t : Fin cfg0.N) : (iblk m c 3 t : FVec Ideal S1x256 .f32) = mat fun _ l => A.s (col (grp t) l) := by
  funext y
  idx_vars y
  refine Eq.trans ?_ (congrFun h.s (ix2 0 (col (grp t) y1)))
  blk_ext! [iblk, idx t, grp, col]

omit h in
/-- A step back as the kernel writes it. -/
theorem of_back {k : BitVec 32} {x y : FVec Ideal S4096x256 .f32} (e : stepBack k x = y) :
    addf x (select (broadcastTo S4096x256 (shapeCast S4096x1 (cmpi .sge rows (broadcast S4096x1 k)) shapeCasts_S4096x1_S4096x1) broadcasts_S4096x1_S4096x256)
      (dynamicRotate 0 k none x rotates_S4096x256_d0) (broadcast S4096x256 (FloatOps.ofBits (F := Ideal) .f32 0x00000000#32))) = y := e
omit h in
/-- A step ahead as the kernel writes it. -/
theorem of_ahead {k : BitVec 32} {x y : FVec Ideal S4096x256 .f32} (e : stepAhead k x = y) :
    addf x (select (broadcastTo S4096x256 (shapeCast S4096x1 (cmpi .slt rows (broadcast S4096x1 k)) shapeCasts_S4096x1_S4096x1) broadcasts_S4096x1_S4096x256)
      (dynamicRotate 0 k none x rotates_S4096x256_d0) (broadcast S4096x256 (FloatOps.ofBits (F := Ideal) .f32 0x00000000#32))) = y := e
omit h in
theorem narrow {n p : ℕ} (x : Fin n → Fin p → ℝ) : truncf (F := Ideal) (φ := .f32) (s := ⟨2, ![n, p]⟩) .bf16 (mat x) bitsLt_bf16_f32 = mat x := rfl
omit h in
theorem widen (x : Fin 4096 → Fin 256 → ℝ) : extf (F := Ideal) (φ := .bf16) (s := S4096x256) .f32 (mat x) bitsLt_bf16_f32 = mat x := rfl
omit h in
theorem weights (v : Fin 256 → Fin 256 → ℝ) : shapeCast S256x256 (wmat v) shapeCasts_S1x256x256_S256x256 = mat v := by
  funext y
  idx_vars y
  pointwise
  rfl
omit h in
theorem weights_out (v : Fin 256 → Fin 256 → ℝ) : shapeCast S1x256x256 (mat v : FVec Ideal S256x256 .bf16) shapeCasts_S256x256_S1x256x256 = wmat v := by
  funext y
  idx_vars y
  pointwise
  rfl
omit h in
/-- The gradient of the scale, summed down the rows. -/
theorem scale_out (b x : Fin 4096 → Fin 256 → ℝ) :
    shapeCast S1x256 (multiReduction (F := Ideal) .add [0] S256 (mulf (F := Ideal) (φ := .f32) (mat b) (mat x)) 0x00000000#32 reduces_S4096x256_S256 (.inl rfl) rfl) shapeCasts_S256_S1x256
      = mat fun _ l => ∑ i, b i l * x i l := by
  funext y
  idx_vars y
  pointwise
  simp only [mat_ix2, push]

theorem out_A (t : Fin cfg0.N) (h0 : t.val % 4 = 0) : outsAt0 m c t.val t.isLt
    = (mat (A.dc (grp t)), wmat (A.dw (grp t)), mat fun _ => A.ds (grp t)) := by
  have hg : grp t = 0 := Fin.ext (by have := (idx t).2.2.2.2.2.2.2; show t.val = 0; omega)
  rw [outsAt0_A m c t h0 (by omega) (by omega) (by omega)]
  refine Prod.ext ?_ (Prod.ext ?_ ?_)
  all_goals
    frame_out
    try rw [blk0 h]
    try rw [blk1 h]
    try rw [blk2 h]
    try rw [blk3 h]
    rw [hg]
    simp only [k0_pay8, k0_pay9, k0_pay10, k0_pay11, k0_pay12, k0_pay13, k0_pay14, k0_pay1, k0_pay2]
    simp only [counts 2#32 2 (by decide) rfl, narrow, widen, weights, quotient 2 (by decide), mixed_back, scaled]
    try rw [of_back (back_1 _)]
    try rw [of_ahead (ahead_1 _)]
    simp only [quotient 2 (by decide), narrow, minus, mixed, mixed_weights, weights_out]
  · rfl
  · rfl
  · exact scale_out _ _

theorem out_B (t : Fin cfg0.N) (h0 : t.val % 4 = 1) : outsAt0 m c t.val t.isLt
    = (mat (A.dc (grp t)), wmat (A.dw (grp t)), mat fun _ => A.ds (grp t)) := by
  have hg : grp t = 1 := Fin.ext (by have := (idx t).2.2.2.2.2.2.2; show t.val = 1; omega)
  rw [outsAt0_B m c t (by omega) h0 (by omega) (by omega)]
  refine Prod.ext ?_ (Prod.ext ?_ ?_)
  all_goals
    frame_out
    try rw [blk0 h]
    try rw [blk1 h]
    try rw [blk2 h]
    try rw [blk3 h]
    rw [hg]
    simp only [k0_pay15, k0_pay16, k0_pay17, k0_pay18, k0_pay19, k0_pay20, k0_pay3, k0_pay4, k0_pay5]
    simp only [counts 4#32 4 (by decide) rfl, narrow, widen, weights, quotient 4 (by decide), mixed_back, scaled]
    try rw [of_back (back_1 _), of_back (back_2 _)]
    try rw [of_ahead (ahead_1 _), of_ahead (ahead_2 _)]
    simp only [quotient 4 (by decide), narrow, minus, mixed, mixed_weights, weights_out]
  · rfl
  · rfl
  · exact scale_out _ _

theorem out_C (t : Fin cfg0.N) (h0 : t.val % 4 = 2) : outsAt0 m c t.val t.isLt
    = (mat (A.dc (grp t)), wmat (A.dw (grp t)), mat fun _ => A.ds (grp t)) := by
  have hg : grp t = 2 := Fin.ext (by have := (idx t).2.2.2.2.2.2.2; show t.val = 2; omega)
  rw [outsAt0_C m c t (by omega) (by omega) h0 (by omega)]
  refine Prod.ext ?_ (Prod.ext ?_ ?_)
  all_goals
    frame_out
    try rw [blk0 h]
    try rw [blk1 h]
    try rw [blk2 h]
    try rw [blk3 h]
    rw [hg]
    simp only [k0_pay21, k0_pay22, k0_pay23, k0_pay24, k0_pay25, k0_pay26, k0_pay27, k0_pay28, k0_pay29, k0_pay30, k0_pay31, k0_pay6]
    simp only [counts 8#32 8 (by decide) rfl, narrow, widen, weights, quotient 8 (by decide), mixed_back, scaled]
    try rw [of_back (back_1 _), of_back (back_2 _), of_back (back_4 _)]
    try rw [of_ahead (ahead_1 _), of_ahead (ahead_2 _), of_ahead (ahead_4 _)]
    simp only [quotient 8 (by decide), narrow, minus, mixed, mixed_weights, weights_out]
  · rfl
  · rfl
  · exact scale_out _ _

theorem out_D (t : Fin cfg0.N) (h0 : t.val % 4 = 3) : outsAt0 m c t.val t.isLt
    = (mat (A.dc (grp t)), wmat (A.dw (grp t)), mat fun _ => A.ds (grp t)) := by
  have hg : grp t = 3 := Fin.ext (by have := (idx t).2.2.2.2.2.2.2; show t.val = 3; omega)
  rw [outsAt0_D m c t (by omega) (by omega) (by omega) h0]
  refine Prod.ext ?_ (Prod.ext ?_ ?_)
  all_goals
    frame_out
    try rw [blk0 h]
    try rw [blk1 h]
    try rw [blk2 h]
    try rw [blk3 h]
    rw [hg]
    simp only [k0_pay32, k0_pay33, k0_pay34, k0_pay35, k0_pay36, k0_pay37, k0_pay38, k0_pay39, k0_pay40, k0_pay41, k0_pay7]
    simp only [counts 16#32 16 (by decide) rfl, narrow, widen, weights, quotient 16 (by decide), mixed_back, scaled]
    try rw [of_back (back_1 _), of_back (back_2 _), of_back (back_4 _), of_back (back_8 _)]
    try rw [of_ahead (ahead_1 _), of_ahead (ahead_2 _), of_ahead (ahead_4 _), of_ahead (ahead_8 _)]
    simp only [quotient 16 (by decide), narrow, minus, mixed, mixed_weights, weights_out]
  · rfl
  · rfl
  · exact scale_out _ _

/-- What point `t` leaves in its blocks of the three results. -/
theorem out (t : Fin cfg0.N) : outsAt0 m c t.val t.isLt = (mat (A.dc (grp t)), wmat (A.dw (grp t)), mat fun _ => A.ds (grp t)) := by
  rcases (by omega : t.val % 4 = 0 ∨ t.val % 4 = 1 ∨ t.val % 4 = 2 ∨ t.val % 4 = 3) with h0 | h0 | h0 | h0
  · exact out_A h t h0
  · exact out_B h t h0
  · exact out_C h t h0
  · exact out_D h t h0

/-- The first result array: the layer's columns hold the gradient of its input, the others what they held. -/
theorem final_dz : (dats m 0 c).arrAt 4 (cfgs 0).N = fun j : S4096x5120.Idx =>
    if 2048 ≤ (j 1).val ∧ (j 1).val < 3072 then ((ungroup (fun g l => A.dc g (j 0) l) ((j 1).val - 2048) : ℝ) : EReal)
    else m ((c.tc : Thread nD τ).loc main_arg2) j := by
  have hV : V m c (Pipeline.arrRef spec0 4) = m ((c.tc : Thread nD τ).loc main_arg2) := by
    funext j
    entry_read
    rfl
  rw [← hV]
  refine (dats m 0 c).arrAt_eq_of_coversWhere 4 (fun j : S4096x5120.Idx => ((ungroup (fun g l => A.dc g (j 0) l) ((j 1).val - 2048) : ℝ) : EReal))
    (fun β => 8 ≤ β 1 ∧ β 1 < 12) (by decide +kernel) (fun t hf y => ?_) (fun j => by blk_simp [Pipeline.Window.cell_apply]; omega)
  rw [after0_4, out h t]
  refine congrArg (fun r : ℝ => (r : EReal)) ((ungroup_col _ (grp t) _).symm.trans (congrArg₂ (fun i n => ungroup (fun g l => A.dc g i l) n) (Fin.ext ?_) ?_))
  · blk_simp [idx t]
  · show (y 1).val + 256 * t.val = _
    blk_simp [idx t]
    omega

/-- The second: the gradients of the matrices. -/
theorem final_dw : (dats m 0 c).arrAt 5 (cfgs 0).N = fun j : S4x256x256.Idx => ((A.dw (j 0) (j 1) (j 2) : ℝ) : EReal) := by
  refine (dats m 0 c).arrAt_eq_of_covers 5 _ (by decide +kernel) fun t hf y => ?_
  rw [after0_5, out h t]
  refine congrArg (fun r : ℝ => (r : EReal)) (congr (congrArg₂ A.dw (Fin.ext ?_) (Fin.ext ?_)) (Fin.ext ?_))
  · have := (y 0).isLt
    blk_simp [idx t, grp] at this ⊢
  · blk_simp [idx t]
  · blk_simp [idx t]

/-- The third: the gradients of the scales. -/
theorem final_ds : (dats m 0 c).arrAt 6 (cfgs 0).N = mat fun (_ : Fin 1) (j : Fin 1024) => ungroup A.ds j.val := by
  refine (dats m 0 c).arrAt_eq_of_covers 6 _ (by decide +kernel) fun t hf y => ?_
  rw [after0_6, out h t]
  refine congrArg (fun r : ℝ => (r : EReal)) ((ungroup_col _ (grp t) _).symm.trans (congrArg (ungroup A.ds) ?_))
  show (y 1).val + 256 * t.val = _
  blk_simp [idx t]
  omega

end Cert.PoolBwdIdeal.Value
-- ==== Proof.Pool.Claim.lean ====
/-
  The claim about the pooling's gradient: at finite arguments the kernel and its reference end with the same arrays.
-/
module

public import proofs.«01_k».proof.Defs
public import proofs.«01_k».proof.Proof.Pool.Reference
public import proofs.«01_k».proof.Proof.Pool.Kernel

@[expose] public section

set_option maxRecDepth 16384

noncomputable section

open Idealize.ShloMosaic Idealize.ShloMosaic.TcCoe Idealize.SL.Sem Cert.Reals

namespace Cert.Pool

/-- Finite arguments hold reals. -/
theorem holds [Cert.Pre_pool_bwd_finite.Facts] (m : (ℓ : Loc Cert.PoolBwdIdeal.nD Cert.PoolBwdIdeal.τ Cert.PoolBwdIdeal.sig) → Buf (Elt Ideal) ℓ)
    (h : Cert.Pre_PoolBwdIdeal_pool_bwd_finite m) (c : Dev Cert.PoolBwdIdeal.nD) : ∃ A, Cert.PoolBwdIdeal.Value.Holds m c A := by
  have hc := h c
  obtain ⟨hc, h4⟩ := andi_split hc
  obtain ⟨hc, h3⟩ := andi_split hc
  obtain ⟨h0, h1⟩ := andi_split hc
  obtain ⟨Z, hZ⟩ := lift_matrix _ _ h0
  obtain ⟨B, hB⟩ := lift_matrix _ _ h1
  obtain ⟨W, hW⟩ := lift_of_finite _ _ h3
  obtain ⟨S, hS⟩ := lift_matrix _ _ h4
  refine ⟨⟨fun i l => Z i ⟨2048 + l.val, by omega⟩, B, fun g a e => W (ix4 0 g a e), S 0⟩, fun i l => ?_, hB, hW.trans ?_, hS.trans ?_⟩
  · exact congrFun hZ _
  all_goals
    funext j
    idx_vars j
    rw [Subsingleton.elim (α := Fin 1) j0 0]
    try rfl

open Cert.PoolBwdRefIdeal.Value in
theorem algebraic [Cert.Pre_pool_bwd_finite.Facts] : Cert.algebraic_PoolBwdIdeal_PoolBwdRefIdeal_pre_pool_bwd_finite := by
  pair_intro
  · run_from Cert.PoolBwdIdeal.Value.run_blocks m g
  · run_from Cert.PoolBwdRefIdeal.Value.run m' g'
    all_goals obtain ⟨A, h⟩ := holds m hpre c
    all_goals have h' : Cert.PoolBwdRefIdeal.Value.Holds (StableHlo.launchContents m' c) A :=
      ⟨fun i l => (congrFun (hagree c).1 _).trans (h.x i l), (hagree c).2.1.trans h.b, (hagree c).2.2.2.1.trans h.w, (hagree c).2.2.2.2.trans h.s⟩
    · refine Eq.trans ?_ (Cert.PoolBwdIdeal.Value.final_dz h).symm
      have e : m' ((c.tc : Thread Cert.PoolBwdRefIdeal.nD Cert.PoolBwdRefIdeal.τ).loc Cert.PoolBwdRefIdeal.main_arg2)
        = m ((c.tc : Thread Cert.PoolBwdIdeal.nD Cert.PoolBwdIdeal.τ).loc Cert.PoolBwdIdeal.main_arg2) := (hagree c).2.2.1
      refine (final_dz h' _ fun g i l => dc_at h' _ _ _ _ (v191_eq h') (v173_eq h') (v155_eq h') (v140_eq h') g i l).trans ?_
      funext j
      by_cases hj : 2048 ≤ (j 1).val ∧ (j 1).val < 3072
      · exact (if_neg (by omega)).trans (if_pos hj).symm
      · exact (if_pos (by omega)).trans ((congrFun e j).trans (if_neg hj).symm)
    · refine Eq.trans ?_ (Cert.PoolBwdIdeal.Value.final_dw h).symm
      exact final_dw (A := A) _ _ _ _ (dw_of _ _ _ _ (v134_eq h') (v34_eq h')) (dw_of _ _ _ _ (v135_eq h') (v62_eq h'))
        (dw_of _ _ _ _ (v136_eq h') (v90_eq h')) (dw_of _ _ _ _ (v137_eq h') (v118_eq h'))
    · refine Eq.trans ?_ (Cert.PoolBwdIdeal.Value.final_ds h).symm
      exact final_ds h'

end Cert.Pool

end

end
-- ==== Proof.Math.Residual.lean ====
/-
  The gradients of one residual connection of the network: a branch's output is normalised and added to the stream, and the
  next layer normalises the stream and multiplies it by matrices. Given the cotangent of that product and the stream's own,
  these are the gradients of the stream, of the branch's output and of the two gains.
-/
module

public import proofs.«01_k».proof.Proof.Math.Reals

@[expose] public section
noncomputable section
namespace Cert.Dx
open Idealize.ShloMosaic Cert.Reals

/-- The stream, the branch's output, the gains of the branch's norm and of the next layer's, the branch's weight, the cotangent
    of the normalised stream and that of the stream. -/
structure Args where
  h : Fin 4096 → Fin 1024 → ℝ
  f : Fin 4096 → Fin 1024 → ℝ
  gp : Fin 1024 → ℝ
  g : Fin 1024 → ℝ
  s : ℝ
  p : Fin 4096 → Fin 1024 → ℝ
  d : Fin 4096 → Fin 1024 → ℝ

namespace Args
variable (A : Args)

/-- The stream after the branch. -/
def x (i : Fin 4096) (l : Fin 1024) : ℝ := A.h i l + A.s * (A.f i l * rr (A.f i) * A.gp l)
/-- The gradient of the stream. -/
def dh (i : Fin 4096) (l : Fin 1024) : ℝ := A.d i l + dnorm (A.x i) (fun k => A.p i k * A.g k) l
/-- What token `i` adds to the gradient of the next layer's gain. -/
def dg (i : Fin 4096) (l : Fin 1024) : ℝ := A.p i l * (A.x i l * rr (A.x i))
/-- The gradient of the branch's output. -/
def df (i : Fin 4096) (l : Fin 1024) : ℝ := dnorm (A.f i) (fun k => A.dh i k * A.s * A.gp k) l
/-- What token `i` adds to the gradient of the branch's gain. -/
def dgp (i : Fin 4096) (l : Fin 1024) : ℝ := A.dh i l * A.s * (A.f i l * rr (A.f i))

end Args

/-- Row `r` of chunk `q` of 128 rows. -/
def chunk (q : Fin 4) (r : Fin 128) : Fin 512 := ⟨q.val * 128 + r.val, by omega⟩

theorem eq_chunk (q : Fin 4) {o : ℕ} (ho : o = q.val * 128) {y : Fin 512} {r : Fin 128} (h : y.val = o + r.val) : y = chunk q r :=
  Fin.ext (h.trans (congrArg (· + r.val) ho))

/-- The rows of a chunk, read from a block of reals. -/
theorem ld_chunk (X : Fin 512 → Fin 1024 → ℝ) (q : Fin 4) {o : ℕ} (ho : o = q.val * 128)
    (inb : ∀ a, (![o, 0] : Fin 2 → ℕ) a + (![128, 1024] : Fin 2 → ℕ) a ≤ (⟨2, ![512, 1024]⟩ : Shape).size a) :
    View.ld (Val := Elt Ideal) (e' := .f32) (S := ⟨2, ![512, 1024]⟩) (mat X) (Rect.unit ![o, 0] ![128, 1024] inb) = mat fun r => X (chunk q r) := by
  subst ho
  funext y
  refine congrArg (fun r : ℝ => (r : EReal)) (congrArg₂ X (Fin.ext ?_) (Fin.ext ?_))
  · show q.val * 128 + 1 * (y 0).val = q.val * 128 + (y 0).val
    omega
  · show 0 + 1 * (y 1).val = (y 1).val
    omega

/-- The rows of a chunk, cut from an array of reals. -/
theorem slice_chunk (X : Fin 512 → Fin 1024 → ℝ) (q : Fin 4) {o : ℕ} (ho : o = q.val * 128) {hs : (⟨2, ![512, 1024]⟩ : Shape).Slices ![o, 0] ⟨2, ![128, 1024]⟩} :
    (extractStridedSlice ⟨2, ![128, 1024]⟩ ![o, 0] (mat X : FVec Ideal ⟨2, ![512, 1024]⟩ .f32) hs : FVec Ideal ⟨2, ![128, 1024]⟩ .f32) = mat fun r => X (chunk q r) := by
  subst ho
  funext y
  idx_vars y
  pointwise
  refine congrArg (fun r : ℝ => (r : EReal)) (congrArg₂ X (Fin.ext ?_) (Fin.ext ?_))
  · show q.val * 128 + y0.val = q.val * 128 + y0.val
    rfl
  · rfl

/-- Four chunks' sums are the sum over the 512 rows. -/
theorem four_chunks (f : Fin 512 → ℝ) :
    ∑ r, f (chunk 0 r) + ∑ r, f (chunk 1 r) + ∑ r, f (chunk 2 r) + ∑ r, f (chunk 3 r) = ∑ r, f r := by
  have h := sum_rows (N := 4) (n := 128) (L := 512) rfl chunk (fun _ _ => rfl) f
  rw [coe_sum] at h
  rw [← EReal.coe_injective h, Fin.sum_univ_four]

/-- A block that is visited at pairs of points, left alone at the first of each and given a term at the second, holds after
    the last of sixteen points the sum of the eight terms. -/
theorem sum_of_pairs {ι : Type} {N : ℕ} (hN : N = 16) (f : (n : ℕ) → n < N → ι → EReal) (term : Fin N → ι → EReal)
    (step : ∀ t : Fin N, t.val % 2 = 1 → ∀ i, f t.val t.isLt i = (if t.val < 2 then 0 else f (t.val - 1) (by omega) i) + term t i)
    (idle : ∀ t : Fin N, t.val % 2 = 0 → f t.val t.isLt = f (t.val - 1) (by omega)) (t : Fin N) (ht : t.val = 15) (i : ι) :
    f t.val t.isLt i = ∑ p : Fin 8, term ⟨2 * p.val + 1, by omega⟩ i := by
  have main : ∀ n, (h : 2 * n + 1 < N) → f (2 * n + 1) h i = ∑ p : Fin (n + 1), term ⟨2 * p.val + 1, by omega⟩ i := by
    intro n
    induction n with
    | zero =>
      intro h
      rw [step ⟨1, h⟩ rfl, if_pos (show 1 < 2 by omega), zero_add, Fin.sum_univ_one]
      rfl
    | succ n ih =>
      intro h
      rw [step ⟨2 * (n + 1) + 1, h⟩ (by show (2 * (n + 1) + 1) % 2 = 1; omega), if_neg (show ¬ 2 * (n + 1) + 1 < 2 by omega), Fin.sum_univ_castSucc]
      refine congrArg₂ (· + ·) ?_ rfl
      exact (congrFun (idle ⟨2 * (n + 1), by omega⟩ (by simp)) i).trans (ih (by omega))
  obtain ⟨t, h⟩ := t
  subst ht
  exact main 7 h

end Cert.Dx
-- ==== Proof.Math.HostNorm.lean ====
/-
  The references' lines about the root mean square norm of 4096 rows, over arrays that hold reals: the gain, the norm after
  a branch, and the norm's gradient as differentiation writes it.
-/
module

public import proofs.«01_k».proof.Proof.Math.Residual

@[expose] public section
set_option maxRecDepth 16384
noncomputable section
namespace Cert.HostNorm
open Idealize.ShloMosaic Cert.Reals

abbrev T : Shape := ⟨2, ![4096, 1024]⟩
abbrev C : Shape := ⟨2, ![4096, 1]⟩
abbrev L : Shape := ⟨1, ![4096]⟩
abbrev G : Shape := ⟨2, ![1, 1024]⟩
abbrev V : Shape := ⟨1, ![1024]⟩
abbrev U : Shape := ⟨0, ![]⟩

variable {bUC : U.BroadcastsInDim C ![]} {bLC : L.BroadcastsInDim C ![0]} {bCT : C.BroadcastsInDim T ![0, 1]} {bLT : L.BroadcastsInDim T ![0]}
  {bUT : U.BroadcastsInDim T ![]} {bVG : V.BroadcastsInDim G ![1]} {bGT : G.BroadcastsInDim T ![0, 1]}
  {rT : T.ReducesTo [1] L} {rC : C.ReducesTo [1] L} {rV : T.ReducesTo [0] V} {rG : G.ReducesTo [0] V} {u : 0 < U.numel}
  {cGV : G.numel = V.numel} {cLC : L.numel = C.numel} {cVG : V.numel = G.numel}
variable {X Y D P : Fin 4096 → Fin 1024 → ℝ} {g : Fin 1024 → ℝ} {x y d p : FVec Ideal T .f32} {q : FVec Ideal G .f32}

/-- A gain, spread over the rows. -/
theorem gain_eq (hp : p = mat P) (hq : q = mat fun _ => g) :
    mulf p (broadcastInDim T ![0, 1] bGT (broadcastInDim G ![1] bVG (shapeCast V q cGV))) = mat fun i l => P i l * g l := by
  subst hp hq
  funext j
  idx_vars j
  pointwise
  simp only [mat_ix2, Reals.read, push]

/-- Half of an array. -/
theorem half_eq (hx : x = mat X) : mulf (broadcastInDim T ![] bUT (constant (F := Ideal) U .f32 0x3F000000#32)) x = mat fun i l => 1 / 2 * X i l := by
  subst hx
  funext j
  idx_vars j
  pointwise
  simp only [mat_ix2, Reals.read, push]

theorem mul_eq (hx : x = mat X) (hy : y = mat Y) : mulf x y = mat fun i l => X i l * Y i l := by subst hx hy; rfl
theorem add_eq (hx : x = mat X) (hy : y = mat Y) : addf x y = mat fun i l => X i l + Y i l := by subst hx hy; rfl

/-- A reshape to the same shape. -/
theorem cast_eq (hx : x = mat X) {h : T.numel = T.numel} : shapeCast T x h = mat X := by
  subst hx
  funext j
  idx_vars j
  pointwise

/-- The rows divided by their root mean squares. -/
theorem norm_eq (hx : x = mat X) :
    mulf x (broadcastInDim T ![0, 1] bCT (Host.rsqrt (addf (Host.divf (broadcastInDim C ![0] bLC (Host.reduceAdd (mulf x x) (constant (F := Ideal) U .f32 0x00000000#32) rT u)) (broadcastInDim C ![] bUC (constant U .f32 0x44800000#32))) (broadcastInDim C ![] bUC (constant U .f32 0x358637BD#32)))))
      = mat fun i l => X i l * rr (X i) := by
  subst hx
  funext j
  idx_vars j
  pointwise
  simp only [mat_ix2, Reals.read, push]

/-- The norm's gradient, added to a stream's. -/
theorem add_vjp_eq (hx : x = mat X) (hy : y = mat Y) (hd : d = mat D) :
    addf (addf (addf d (mulf y (broadcastInDim T ![0, 1] bCT (Host.rsqrt (addf (Host.divf (broadcastInDim C ![0] bLC (Host.reduceAdd (mulf x x) (constant (F := Ideal) U .f32 0x00000000#32) rT u)) (broadcastInDim C ![] bUC (constant U .f32 0x44800000#32))) (broadcastInDim C ![] bUC (constant U .f32 0x358637BD#32)))))))
      (mulf x (broadcastInDim T ![0] bLT (Host.reduceAdd (Host.divf (mulf (shapeCast C (Host.reduceAdd (mulf x y) (constant U .f32 0x00000000#32) rT u) cLC)
      (mulf (broadcastInDim C ![] bUC (constant U .f32 0xBF000000#32)) (Host.divf (Host.rsqrt (addf (Host.divf (broadcastInDim C ![0] bLC (Host.reduceAdd (mulf x x) (constant (F := Ideal) U .f32 0x00000000#32) rT u)) (broadcastInDim C ![] bUC (constant U .f32 0x44800000#32))) (broadcastInDim C ![] bUC (constant U .f32 0x358637BD#32))))
        (addf (Host.divf (broadcastInDim C ![0] bLC (Host.reduceAdd (mulf x x) (constant (F := Ideal) U .f32 0x00000000#32) rT u)) (broadcastInDim C ![] bUC (constant U .f32 0x44800000#32))) (broadcastInDim C ![] bUC (constant U .f32 0x358637BD#32))))))
      (broadcastInDim C ![] bUC (constant U .f32 0x44800000#32))) (constant U .f32 0x00000000#32) rC u))))
      (mulf (broadcastInDim T ![0] bLT (Host.reduceAdd (Host.divf (mulf (shapeCast C (Host.reduceAdd (mulf x y) (constant U .f32 0x00000000#32) rT u) cLC)
      (mulf (broadcastInDim C ![] bUC (constant U .f32 0xBF000000#32)) (Host.divf (Host.rsqrt (addf (Host.divf (broadcastInDim C ![0] bLC (Host.reduceAdd (mulf x x) (constant (F := Ideal) U .f32 0x00000000#32) rT u)) (broadcastInDim C ![] bUC (constant U .f32 0x44800000#32))) (broadcastInDim C ![] bUC (constant U .f32 0x358637BD#32))))
        (addf (Host.divf (broadcastInDim C ![0] bLC (Host.reduceAdd (mulf x x) (constant (F := Ideal) U .f32 0x00000000#32) rT u)) (broadcastInDim C ![] bUC (constant U .f32 0x44800000#32))) (broadcastInDim C ![] bUC (constant U .f32 0x358637BD#32))))))
      (broadcastInDim C ![] bUC (constant U .f32 0x44800000#32))) (constant U .f32 0x00000000#32) rC u)) x)
      = mat fun i l => D i l + dnorm (X i) (Y i) l := by
  subst hx hy hd
  funext j
  idx_vars j
  pointwise
  simp only [mat_ix2, Reals.read, push]
  rw [← dnorm_vjp, add_assoc, add_assoc, ← add_assoc (Y j0 j1 * rr (X j0))]

/-- The norm's gradient. -/
theorem vjp_eq (hx : x = mat X) (hy : y = mat Y) :
    addf (addf (mulf y (broadcastInDim T ![0, 1] bCT (Host.rsqrt (addf (Host.divf (broadcastInDim C ![0] bLC (Host.reduceAdd (mulf x x) (constant (F := Ideal) U .f32 0x00000000#32) rT u)) (broadcastInDim C ![] bUC (constant U .f32 0x44800000#32))) (broadcastInDim C ![] bUC (constant U .f32 0x358637BD#32))))))
      (mulf x (broadcastInDim T ![0] bLT (Host.reduceAdd (Host.divf (mulf (shapeCast C (Host.reduceAdd (mulf x y) (constant U .f32 0x00000000#32) rT u) cLC)
      (mulf (broadcastInDim C ![] bUC (constant U .f32 0xBF000000#32)) (Host.divf (Host.rsqrt (addf (Host.divf (broadcastInDim C ![0] bLC (Host.reduceAdd (mulf x x) (constant (F := Ideal) U .f32 0x00000000#32) rT u)) (broadcastInDim C ![] bUC (constant U .f32 0x44800000#32))) (broadcastInDim C ![] bUC (constant U .f32 0x358637BD#32))))
        (addf (Host.divf (broadcastInDim C ![0] bLC (Host.reduceAdd (mulf x x) (constant (F := Ideal) U .f32 0x00000000#32) rT u)) (broadcastInDim C ![] bUC (constant U .f32 0x44800000#32))) (broadcastInDim C ![] bUC (constant U .f32 0x358637BD#32))))))
      (broadcastInDim C ![] bUC (constant U .f32 0x44800000#32))) (constant U .f32 0x00000000#32) rC u))))
      (mulf (broadcastInDim T ![0] bLT (Host.reduceAdd (Host.divf (mulf (shapeCast C (Host.reduceAdd (mulf x y) (constant U .f32 0x00000000#32) rT u) cLC)
      (mulf (broadcastInDim C ![] bUC (constant U .f32 0xBF000000#32)) (Host.divf (Host.rsqrt (addf (Host.divf (broadcastInDim C ![0] bLC (Host.reduceAdd (mulf x x) (constant (F := Ideal) U .f32 0x00000000#32) rT u)) (broadcastInDim C ![] bUC (constant U .f32 0x44800000#32))) (broadcastInDim C ![] bUC (constant U .f32 0x358637BD#32))))
        (addf (Host.divf (broadcastInDim C ![0] bLC (Host.reduceAdd (mulf x x) (constant (F := Ideal) U .f32 0x00000000#32) rT u)) (broadcastInDim C ![] bUC (constant U .f32 0x44800000#32))) (broadcastInDim C ![] bUC (constant U .f32 0x358637BD#32))))))
      (broadcastInDim C ![] bUC (constant U .f32 0x44800000#32))) (constant U .f32 0x00000000#32) rC u)) x)
      = mat fun i l => dnorm (X i) (Y i) l := by
  subst hx hy
  funext j
  idx_vars j
  pointwise
  simp only [mat_ix2, Reals.read, push]
  rw [← dnorm_vjp]

/-- The sum over the rows, as a gain's gradient. -/
theorem sum_eq (hx : x = mat X) :
    broadcastInDim G ![1] bVG (Host.reduceAdd (shapeCast G (Host.reduceAdd x (constant (F := Ideal) U .f32 0x00000000#32) rV u) cVG)
      (constant U .f32 0x00000000#32) rG u) = mat fun _ l => ∑ i, X i l := by
  subst hx
  funext j
  idx_vars j
  pointwise
  simp only [mat_ix2, Reals.read, push]

end Cert.HostNorm
-- ==== Proof.Math.Forward.lean ====
/-
  The lines the forward calls share, over arrays of extended reals: the logistic function, the root mean square norm, a gain.
-/
module

public import proofs.«01_k».proof.Proof.Math.HostNorm

@[expose] public section
set_option maxRecDepth 16384
noncomputable section
namespace Cert.Fwd
open Idealize.ShloMosaic Cert.Reals Cert.HostNorm

/-- The array of the entries `x i k`. -/
def arr {a b : ℕ} (x : Fin a → Fin b → EReal) : (⟨2, ![a, b]⟩ : Shape).Idx → EReal := fun j => x (j 0) (j 1)

theorem arr_ix2 {a b : ℕ} (x : Fin a → Fin b → EReal) (i : Fin a) (k : Fin b) : arr x (ix2 i k) = x i k := rfl

/-- An array is that of its entries. -/
theorem eq_arr {a b : ℕ} (x : (⟨2, ![a, b]⟩ : Shape).Idx → EReal) : x = arr fun i k => x (ix2 i k) := by
  funext j
  exact congrArg x (eq_ix2 j)

/-- An array of one row. -/
theorem eq_row {b : ℕ} (x : (⟨2, ![1, b]⟩ : Shape).Idx → EReal) : x = arr fun _ l => x (ix2 0 l) := by
  funext j
  exact (congrArg x (eq_ix2 j)).trans (congrArg (fun i : Fin 1 => x (ix2 i (j 1))) (Subsingleton.elim (α := Fin 1) (j 0) 0))

/-- A sum over blocks of rows, of the sums over their rows, is the sum over all rows. -/
theorem sum_blocks {N n L : ℕ} (hL : L = N * n) (row : Fin N → Fin n → Fin L) (hrow : ∀ p r, (row p r).val = p.val * n + r.val)
    (f : Fin L → EReal) : ∑ p, ∑ r, f (row p r) = ∑ i, f i :=
  Fin.sum_mul_add_congr (f := f) (fun s k hl => congrArg f (Fin.ext (hrow s k))) hL

/-- The reciprocal root mean square of a row. -/
def rrE {n : ℕ} (x : Fin n → EReal) : EReal :=
  Ideal.rsqrt (Ideal.div (∑ k, x k * x k) (Ideal.ofBits .f32 0x44800000#32) + Ideal.ofBits .f32 0x358637BD#32)

/-- The logistic function at any extended real. -/
def sgE (x : EReal) : EReal := Ideal.div 1 (1 + Ideal.exp (-x))

theorem tanh_half (x : EReal) : Ideal.ofBits .f32 0x3F000000#32 + Ideal.ofBits .f32 0x3F000000#32 * Ideal.tanh (Ideal.ofBits .f32 0x3F000000#32 * x) = sgE x := by
  rw [lit_half]
  induction x with
  | bot =>
    rw [EReal.coe_mul_bot_of_pos (by norm_num)]
    show ((1 / 2 : ℝ) : EReal) + ((1 / 2 : ℝ) : EReal) * (-1) = Ideal.div 1 (1 + ⊤)
    rw [EReal.add_top_of_ne_bot (by decide), Ideal.div, if_neg (by decide), EReal.inv_top, mul_zero]
    rw [show (-1 : EReal) = ((-1 : ℝ) : EReal) from rfl, ← EReal.coe_mul, ← EReal.coe_add]
    norm_num
  | coe x =>
    refine Eq.trans ?_ (div_exp x).symm
    show ((1 / 2 : ℝ) : EReal) + ((1 / 2 : ℝ) : EReal) * Ideal.tanh (((1 / 2 : ℝ) : EReal) * (x : EReal)) = _
    rw [← EReal.coe_mul]
    show ((1 / 2 : ℝ) : EReal) + ((1 / 2 : ℝ) : EReal) * ((Real.tanh (1 / 2 * x) : ℝ) : EReal) = _
    rw [← EReal.coe_mul, ← EReal.coe_add, half_tanh]
  | top =>
    rw [EReal.coe_mul_top_of_pos (by norm_num)]
    show ((1 / 2 : ℝ) : EReal) + ((1 / 2 : ℝ) : EReal) * 1 = Ideal.div 1 (1 + 0)
    rw [show (1 : EReal) = ((1 : ℝ) : EReal) from rfl, add_zero, div_real _ _ one_ne_zero, ← EReal.coe_mul, ← EReal.coe_add]
    norm_num

/-- The logistic function as the references write it. -/
theorem logistic {s : Shape} (b b' : U.BroadcastsInDim s ![]) (x : FVec Ideal s .f32) (j : s.Idx) :
    Host.divf (broadcastInDim s ![] b (constant (F := Ideal) U .f32 0x3F800000#32)) (addf (broadcastInDim s ![] b' (constant U .f32 0x3F800000#32)) (Host.exp (Host.negf x))) j
      = sgE (x j) := by
  have e : Ideal.ofBits .f32 0x3F800000#32 = 1 := by
    simp [Ideal.ofBits, Ideal.ieee, -EReal.coe_mul]
    norm_num
  show Ideal.div (Ideal.ofBits .f32 0x3F800000#32) (Ideal.ofBits .f32 0x3F800000#32 + Ideal.exp (-(x j))) = _
  rw [e]
  rfl

variable {bUC : U.BroadcastsInDim C ![]} {bLC : L.BroadcastsInDim C ![0]} {bCT : C.BroadcastsInDim T ![0, 1]}
  {bUT : U.BroadcastsInDim T ![]} {bVG : V.BroadcastsInDim G ![1]} {bGT : G.BroadcastsInDim T ![0, 1]}
  {rT : T.ReducesTo [1] L} {u : 0 < U.numel} {cGV : G.numel = V.numel}
variable {X Y : Fin 4096 → Fin 1024 → EReal} {g : Fin 1024 → EReal} {x y : FVec Ideal T .f32} {q : FVec Ideal G .f32}

/-- A gain, spread over the rows. -/
theorem gain_eq (hx : x = arr X) (hq : q = arr fun _ => g) :
    mulf x (broadcastInDim T ![0, 1] bGT (broadcastInDim G ![1] bVG (shapeCast V q cGV))) = arr fun i l => X i l * g l := by
  subst hx hq
  funext j
  idx_vars j
  pointwise
  simp only [arr_ix2]

/-- Half of an array. -/
theorem half_eq (hx : x = arr X) : mulf (broadcastInDim T ![] bUT (constant (F := Ideal) U .f32 0x3F000000#32)) x = arr fun i l => Ideal.ofBits .f32 0x3F000000#32 * X i l := by
  subst hx; rfl

theorem mul_eq (hx : x = arr X) (hy : y = arr Y) : mulf x y = arr fun i l => X i l * Y i l := by subst hx hy; rfl
theorem add_eq (hx : x = arr X) (hy : y = arr Y) : addf x y = arr fun i l => X i l + Y i l := by subst hx hy; rfl

/-- The rows divided by their root mean squares. -/
theorem norm_eq (hx : x = arr X) :
    mulf x (broadcastInDim T ![0, 1] bCT (Host.rsqrt (addf (Host.divf (broadcastInDim C ![0] bLC (Host.reduceAdd (mulf x x) (constant (F := Ideal) U .f32 0x00000000#32) rT u)) (broadcastInDim C ![] bUC (constant U .f32 0x44800000#32))) (broadcastInDim C ![] bUC (constant U .f32 0x358637BD#32)))))
      = arr fun i l => X i l * rrE (X i) := by
  subst hx
  funext j
  idx_vars j
  pointwise
  simp only [arr_ix2]
  rfl

end Cert.Fwd
-- ==== Proof.MixDy.Kernel.lean ====
/-
  What the kernel of the merged branches' gradient leaves in its two result arrays. A pair of grid points handles 512 tokens: the first
  forms the cotangents of the merged values and keeps them, the second uses them for the other branch.
-/
module

public import proofs.«01_k».proof.Proof.Math.Forward
public import proofs.«01_k».proof.Proof.Gen.MixDyIdeal.Value
public import Idealize.ShloMosaic.Lib.Pipeline.ReadBack

@[expose] public section
set_option maxRecDepth 16384
noncomputable section
namespace Cert.MixDyIdeal.Value
open Cert.MixDyIdeal Cert.MixDyIdeal.Gen Idealize.ShloMosaic Idealize.ShloMosaic.TcCoe Idealize.SL.Sem Cert.Reals Cert.Fwd

variable {m : (ℓ : Loc nD τ sig) → Buf (Elt Ideal) ℓ} {c : Dev nD}

/-- Which blocks point `t` reads and writes. -/
theorem idx : ∀ t : Fin cfg0.N, win0_0.index t = ![t.val / 2, 0] ∧ win0_1.index t = ![0, 0] ∧ win0_2.index t = ![t.val / 2, 3 + t.val % 2]
    ∧ win0_3.index t = ![t.val / 2, 0] ∧ win0_4.index t = ![t.val / 2, 0] ∧ win0_5.index t = ![t.val / 2, t.val % 2]
    ∧ win0_6.index t = ![t.val / 2, 3 + t.val % 2] ∧ t.val < 16 :=
  (by decide +kernel : ∀ t : Fin grid0.N, _)

/-- The second coordinate of a point. -/
theorem half : ∀ t : Fin cfg0.N, ((cfg0.grid.coords t) 1).val = t.val % 2 := (by decide +kernel : ∀ t : Fin grid0.N, _)

/-- The token that row `r` of point `t`'s blocks is. -/
def row (t : Fin cfg0.N) (r : Fin 512) : Fin 4096 := ⟨t.val / 2 * 512 + r.val, by have := (idx t).2.2.2.2.2.2.2; omega⟩

variable (m c) in
/-- The cotangents of the layer's output and its matrix. -/
def dm (i : Fin 4096) (k : Fin 1024) : EReal := m ((c.tc : Thread nD τ).loc main_arg0) (ix2 i k)
variable (m c) in
@[inherit_doc dm]
def wo (l k : Fin 1024) : EReal := m ((c.tc : Thread nD τ).loc main_arg1) (ix3 0 l k)

variable (m c) in
/-- The cotangent of the merged values. -/
def dy (i : Fin 4096) (l : Fin 1024) : EReal := ∑ k : Fin 1024, dm m c i k * wo m c l k

variable (m c) in
/-- The gates, the two branches' values, and the values the branch of a column has. -/
def gate (i : Fin 4096) (l : Fin 2048) : EReal := m ((c.tc : Thread nD τ).loc main_arg2) (ix2 i ⟨3072 + l.val, by omega⟩)
variable (m c) in
@[inherit_doc gate]
def branch (i : Fin 4096) (l : Fin 2048) : EReal :=
  if h : l.val < 1024 then m ((c.tc : Thread nD τ).loc main_arg3) (ix2 i ⟨l.val, h⟩) else m ((c.tc : Thread nD τ).loc main_arg4) (ix2 i ⟨l.val - 1024, by omega⟩)

variable (m c) in
/-- The gradients of the branches' values and of the gates. -/
def dyab (i : Fin 4096) (l : Fin 2048) : EReal := dy m c i ⟨l.val % 1024, by omega⟩ * sgE (gate m c i l)
variable (m c) in
@[inherit_doc dyab]
def dgate (i : Fin 4096) (l : Fin 2048) : EReal :=
  dy m c i ⟨l.val % 1024, by omega⟩ * branch m c i l * sgE (gate m c i l) * (1 - sgE (gate m c i l))

/-- The column of the pair of branches that column `l` of point `t`'s blocks is. -/
def col (t : Fin cfg0.N) (l : Fin 1024) : Fin 2048 := ⟨t.val % 2 * 1024 + l.val, by omega⟩

theorem mod_col (t : Fin cfg0.N) (l : Fin 1024) (h : (col t l).val % 1024 < 1024) : (⟨(col t l).val % 1024, h⟩ : Fin 1024) = l :=
  Fin.ext (by simp only [col]; omega)

theorem blk2 (t : Fin cfg0.N) (r : Fin 512) (l : Fin 1024) : (iblk m c 2 t (ix2 r l) : EReal) = gate m c (row t r) (col t l) := by
  unfold gate
  blk_ext! [iblk, V, idx t, row, col]

/-- The products with the mixing matrix, at a point. -/
theorem dy_blk (t : Fin cfg0.N) : k0_pay1 (F := Ideal) (iblk m c 0 t) (iblk m c 1 t) = fun y : S512x1024.Idx => dy m c (row t (y 0)) (y 1) := by
  funext y
  idx_vars y
  pointwise [k0_pay1]
  refine Finset.sum_congr rfl fun k _ => congrArg₂ (· * ·) ?_ ?_
  · unfold dm; blk_ext! [iblk, V, idx t, row]
  · unfold wo; blk_ext! [iblk, idx t]

theorem select_at (b : BitVec 1) (x y : FVec Ideal S512x1024 .bf16) (i : S512x1024.Idx) : Scalar.select b x y i = Scalar.select b (x i) (y i) := by
  unfold Scalar.select
  split <;> rfl

/-- The values of the point's branch. -/
theorem branch_blk (t : Fin cfg0.N) (r : Fin 512) (l : Fin 1024) :
    (Scalar.select (Scalar.cmpi CmpIPredicate.eq (BitVec.ofNat 32 ((cfg0.grid.coords t) 1).val) 0#32) (iblk m c 3 t) (iblk m c 4 t) (ix2 r l) : EReal)
      = branch m c (row t r) (col t l) := by
  rw [half t]
  by_cases h0 : t.val % 2 = 0
  · rw [h0, branch, dif_pos (by simp only [col]; omega)]
    refine Eq.trans (b := iblk m c 3 t (ix2 r l)) rfl ?_
    blk_ext! [iblk, V, idx t, row, col, h0]
  · have h1 : t.val % 2 = 1 := by omega
    rw [h1, branch, dif_neg (by simp only [col]; omega)]
    refine Eq.trans (b := iblk m c 4 t (ix2 r l)) rfl ?_
    blk_ext! [iblk, V, idx t, row, col, h1]

theorem pay3_eq (t : Fin cfg0.N) : k0_pay3 (F := Ideal) (fun y : S512x1024.Idx => dy m c (row t (y 0)) (y 1)) (iblk m c 2 t)
    = fun y : S512x1024.Idx => dyab m c (row t (y 0)) (col t (y 1)) := by
  funext y
  idx_vars y
  pointwise [k0_pay3, k0_pay2]
  rw [tanh_half, blk2, dyab, mod_col]

theorem pay4_eq (t : Fin cfg0.N) : k0_pay4 (F := Ideal) (grid0.coords t) (fun y : S512x1024.Idx => dy m c (row t (y 0)) (y 1)) (iblk m c 2 t) (iblk m c 3 t) (iblk m c 4 t)
    = fun y : S512x1024.Idx => dgate m c (row t (y 0)) (col t (y 1)) := by
  funext y
  idx_vars y
  pointwise [k0_pay4, k0_pay2]
  rw [tanh_half, blk2]
  rw [dgate, mod_col, ← branch_blk, select_at]

/-- What the points leave. -/
theorem out (t : Fin cfg0.N) : (outsAt0 m c t.val t.isLt).1 = (fun y : S512x1024.Idx => dyab m c (row t (y 0)) (col t (y 1)))
    ∧ (outsAt0 m c t.val t.isLt).2.1 = fun y : S512x1024.Idx => dgate m c (row t (y 0)) (col t (y 1)) := by
  by_cases h0 : t.val % 2 = 0
  · rw [outsAt0_A m c t h0]
    frame_out
    rw [dy_blk, pay3_eq, pay4_eq]
    exact ⟨rfl, rfl⟩
  · have hk : (outsAt0 m c (t.val - 1) (by omega)).2.2 = fun y : S512x1024.Idx => dy m c (row t (y 0)) (y 1) := by
      have e := outsAt0_A m c ⟨t.val - 1, by omega⟩ (by show (t.val - 1) % 2 = 0; omega)
      refine (congrArg (fun x => x.2.2) e).trans ?_
      frame_out
      rw [dy_blk]
      funext y
      exact congrArg (fun r => dy m c r (y 1)) (Fin.ext (by simp only [row]; omega))
    rw [outsAt0_B m c t h0]
    frame_out
    rw [read_unread_whole, hk, pay3_eq, pay4_eq]
    exact ⟨rfl, rfl⟩

/-- The first result array: the gradients of the branches' values. -/
theorem final_dyab : (dats m 0 c).arrAt 5 (cfgs 0).N = fun j : S4096x2048.Idx => dyab m c (j 0) (j 1) := by
  refine (dats m 0 c).arrAt_eq_of_covers 5 _ (by decide +kernel) fun t hf y => ?_
  rw [after0_5, (out t).1]
  refine congrArg₂ (dyab m c) (Fin.ext ?_) (Fin.ext ?_)
  · show t.val / 2 * 512 + (y 0).val = _
    blk_simp [idx t]
  · show t.val % 2 * 1024 + (y 1).val = _
    blk_simp [idx t]

/-- The second, from column 3072 on: the gradients of the gates. -/
theorem final_dgate (i : Fin 4096) (l : Fin 2048) : (dats m 0 c).arrAt 6 (cfgs 0).N (ix2 i ⟨3072 + l.val, by omega⟩) = dgate m c i l := by
  rw [(dats m 0 c).arrAt_eq_of_coversWhere 6 (fun j : S4096x5120.Idx => dgate m c (j 0) ⟨((j 1).val - 3072) % 2048, by omega⟩)
    (fun β => 3 ≤ β 1) (by decide +kernel) (P := fun j => 3072 ≤ (j 1).val) (fun t hf y => ?_) (fun j => by blk_simp [Pipeline.Window.cell_apply]; omega)]
  · refine (if_pos (Nat.le_add_right _ _)).trans (congrArg (dgate m c i) (Fin.ext ?_))
    show (3072 + l.val - 3072) % 2048 = _
    omega
  · rw [after0_6, (out t).2]
    refine congrArg₂ (dgate m c) (Fin.ext ?_) (Fin.ext ?_)
    · show t.val / 2 * 512 + (y 0).val = _
      blk_simp [idx t]
    · show t.val % 2 * 1024 + (y 1).val = (_ - 3072) % 2048
      have := (y 1).isLt
      blk_simp [idx t] at this ⊢
      omega
end Cert.MixDyIdeal.Value
-- ==== Proof.MixDy.Claim.lean ====
/-
  The claim about the merged branches' gradient: at any arguments the kernel and its reference end with the same gradients.
-/
module

public import proofs.«01_k».proof.Defs
public import proofs.«01_k».proof.Proof.MixDy.Kernel
public import proofs.«01_k».proof.Proof.Gen.MixDyRefIdeal.Run

@[expose] public section

set_option maxRecDepth 16384

noncomputable section

open Idealize.ShloMosaic Idealize.ShloMosaic.TcCoe Idealize.SL.Sem Cert.Reals

namespace Cert.MixDy

section
open Cert.MixDyRefIdeal Cert.MixDyRefIdeal.Gen

/-- Two arrays side by side. -/
theorem two (a b : FVec Ideal S4096x1024 .f32) (i : Fin 4096) (l : Fin 2048) :
    (truncf .bf16 (concatenate S4096x2048 1 [⟨S4096x1024, a⟩, ⟨S4096x1024, b⟩] concatenates_S4096x1024_S4096x1024_S4096x2048_d1 : FVec Ideal S4096x2048 .f32) bitsLt_bf16_f32) (ix2 i l)
      = if h : l.val < 1024 then a (ix2 i ⟨l.val, h⟩) else b (ix2 i ⟨l.val - 1024, by omega⟩) := by
  pointwise

/-- Two arrays side by side, behind a third. -/
theorem behind (z : FVec Ideal S4096x3072 .f32) (a b : FVec Ideal S4096x1024 .f32) (i : Fin 4096) (l : Fin 2048) :
    (truncf .bf16 (concatenate S4096x5120 1 [⟨S4096x3072, z⟩, ⟨S4096x1024, a⟩, ⟨S4096x1024, b⟩] concatenates_S4096x3072_S4096x1024_S4096x1024_S4096x5120_d1 : FVec Ideal S4096x5120 .f32) bitsLt_bf16_f32) (ix2 i ⟨3072 + l.val, by omega⟩)
      = if h : l.val < 1024 then a (ix2 i ⟨l.val, h⟩) else b (ix2 i ⟨l.val - 1024, by omega⟩) := by
  pointwise

/-- The products with the mixing matrix. -/
theorem dots (x : FVec Ideal S4096x1024 .bf16) (w : FVec Ideal S1x1024x1024 .f32) (i : Fin 4096) (l : Fin 1024) :
    Host.dotGeneral (φ₁ := .f32) (φ₂ := .f32) dot_S4096x1024_S1024x1024_S4096x1024_1_1_0_0_n_n none (extf .f32 x bitsLt_bf16_f32)
      (shapeCast _ w shapeCasts_S1x1024x1024_S1024x1024) (ix2 i l) = ∑ k : Fin 1024, (x (ix2 i k) : EReal) * w (ix3 0 l k) := by
  pointwise

/-- The logistic function as the reference writes it. -/
theorem logistic (x : FVec Ideal S4096x1024 .f32) (j : S4096x1024.Idx) : Host.divf (broadcastInDim S4096x1024 ![] bcast_S_S4096x1024 (constant (F := Ideal) S_ .f32 0x3F800000#32))
    (addf (broadcastInDim S4096x1024 ![] bcast_S_S4096x1024 (constant S_ .f32 0x3F800000#32)) (Host.exp (Host.negf x))) j = Cert.Fwd.sgE (x j) := by
  idx_vars j
  pointwise
  rfl

theorem gate_a (z : FVec Ideal S4096x5120 .bf16) (i : Fin 4096) (l : Fin 1024) :
    extf .f32 (extractStridedSlice S4096x1024 ![0, 3072] z slices_S4096x5120_S4096x1024_0_3072) bitsLt_bf16_f32 (ix2 i l) = z (ix2 i ⟨3072 + l.val, by omega⟩) := by
  pointwise
theorem gate_b (z : FVec Ideal S4096x5120 .bf16) (i : Fin 4096) (l : Fin 1024) :
    extf .f32 (extractStridedSlice S4096x1024 ![0, 4096] z slices_S4096x5120_S4096x1024_0_4096) bitsLt_bf16_f32 (ix2 i l) = z (ix2 i ⟨4096 + l.val, by omega⟩) := by
  pointwise

/-- The logistic function's slope. -/
theorem slope (x : FVec Ideal S4096x1024 .f32) (j : S4096x1024.Idx) : mulf (Host.divf (broadcastInDim S4096x1024 ![] bcast_S_S4096x1024 (constant (F := Ideal) S_ .f32 0x3F800000#32))
    (addf (broadcastInDim S4096x1024 ![] bcast_S_S4096x1024 (constant S_ .f32 0x3F800000#32)) (Host.exp (Host.negf x))))
    (subf (broadcastInDim S4096x1024 ![] bcast_S_S4096x1024 (constant (F := Ideal) S_ .f32 0x3F800000#32)) (Host.divf (broadcastInDim S4096x1024 ![] bcast_S_S4096x1024 (constant (F := Ideal) S_ .f32 0x3F800000#32))
    (addf (broadcastInDim S4096x1024 ![] bcast_S_S4096x1024 (constant S_ .f32 0x3F800000#32)) (Host.exp (Host.negf x))))) j
      = (Cert.Fwd.sgE (x j) * (1 - Cert.Fwd.sgE (x j)) : EReal) := by
  idx_vars j
  pointwise
  rfl

end

theorem ge_word : ∀ i : Fin 5120, IntOp.cmpi CmpIPredicate.sge (BitVec.ofNat 32 i.val) 3072#32 = 1#1 → 3072 ≤ i.val := by decide +kernel

/-- The columns of the second result that are claimed: those the call writes. -/
theorem written [Cert.On_mix_dy_written.Facts] {x0 x1 x2 x3 x4} {i0 : Fin 4096} {i1 : Fin 5120}
    (h : (Cert.On_mix_dy_written.fn (F := Ideal) x0 x1 x2 x3 x4).2 (ix2 i0 i1) = 1#1) : 3072 ≤ i1.val := by
  pointwise [Cert.On_mix_dy_written.fn] at h
  exact ge_word i1 h

theorem algebraic [Cert.On_mix_dy_written.Facts] : Cert.algebraic_MixDyIdeal_MixDyRefIdeal_on_mix_dy_written := by
  pair_intro
  case refine_1 => exact fun c => (Cert.MixDyIdeal.Gen.dats m 0 c).arrAt 5 Cert.MixDyIdeal.cfg0.N
  case refine_2.refine_1 => exact fun c => (Cert.MixDyIdeal.Gen.dats m 0 c).arrAt 6 Cert.MixDyIdeal.cfg0.N
  · run_from Cert.MixDyIdeal.Value.run_blocks m g
    · exact fun _ _ => trivial
    · exact fun _ _ => trivial
  · run_from Cert.MixDyRefIdeal.Value.run m' g'
    · intro i _
      idx_vars i
      refine Eq.trans ?_ (congrFun Cert.MixDyIdeal.Value.final_dyab (ix2 i0 i1)).symm
      refine (two _ _ i0 i1).trans ?_
      by_cases h1 : i1.val < 1024
      · refine (dif_pos h1).trans ((congrArg₂ (fun a b : EReal => a * b) ((logistic _ _).trans (congrArg _ (gate_a _ _ _))) (dots _ _ _ _)).trans (mul_comm _ _) |>.trans ?_)
        have e : (⟨i1.val % 1024, by omega⟩ : Fin 1024) = ⟨i1.val, h1⟩ := Fin.ext (by simp only; omega)
        show _ = Cert.MixDyIdeal.Value.dyab m c i0 i1
        rw [Cert.MixDyIdeal.Value.dyab, e]
        rfl
      · refine (dif_neg h1).trans ((congrArg₂ (fun a b : EReal => a * b) ((logistic _ _).trans (congrArg _ (gate_b _ _ _))) (dots _ _ _ _)).trans (mul_comm _ _) |>.trans ?_)
        have e : (⟨i1.val % 1024, by omega⟩ : Fin 1024) = ⟨i1.val - 1024, by omega⟩ := Fin.ext (by simp only; omega)
        have e' : (⟨4096 + (i1.val - 1024), by omega⟩ : Fin 5120) = ⟨3072 + i1.val, by omega⟩ := Fin.ext (by simp only; omega)
        show _ = Cert.MixDyIdeal.Value.dyab m c i0 i1
        rw [Cert.MixDyIdeal.Value.dyab, e, Cert.MixDyIdeal.Value.gate, ← e']
        rfl
    · intro i hi
      idx_vars i
      obtain ⟨l, rfl⟩ : ∃ l : Fin 2048, i1 = ⟨3072 + l.val, by omega⟩ := by
        have h : 3072 ≤ i1.val := written hi
        exact ⟨⟨i1.val - 3072, by omega⟩, Fin.ext (by simp only; omega)⟩
      refine Eq.trans ?_ (Cert.MixDyIdeal.Value.final_dgate i0 l).symm
      refine (behind _ _ _ i0 l).trans ?_
      by_cases h1 : l.val < 1024
      · refine (dif_pos h1).trans ((congrArg₂ (fun a b : EReal => a * b) (congrArg₂ (fun a b : EReal => a * b) (dots _ _ _ _) rfl)
          ((slope _ _).trans (congrArg (fun x => Cert.Fwd.sgE x * (1 - Cert.Fwd.sgE x)) (gate_a _ _ _)))).trans (mul_assoc _ _ _).symm |>.trans ?_)
        have e : (⟨l.val % 1024, by omega⟩ : Fin 1024) = ⟨l.val, h1⟩ := Fin.ext (by simp only; omega)
        rw [Cert.MixDyIdeal.Value.dgate, e, Cert.MixDyIdeal.Value.branch, dif_pos h1]
        rfl
      · refine (dif_neg h1).trans ((congrArg₂ (fun a b : EReal => a * b) (congrArg₂ (fun a b : EReal => a * b) (dots _ _ _ _) (congrFun (hagree c).2.2.2.2 _))
          ((slope _ _).trans (congrArg (fun x => Cert.Fwd.sgE x * (1 - Cert.Fwd.sgE x)) (gate_b _ _ _)))).trans (mul_assoc _ _ _).symm |>.trans ?_)
        have e : (⟨l.val % 1024, by omega⟩ : Fin 1024) = ⟨l.val - 1024, by omega⟩ := Fin.ext (by simp only; omega)
        have e' : (⟨4096 + (l.val - 1024), by omega⟩ : Fin 5120) = ⟨3072 + l.val, by omega⟩ := Fin.ext (by simp only; omega)
        rw [Cert.MixDyIdeal.Value.dgate, e, Cert.MixDyIdeal.Value.branch, dif_neg h1, Cert.MixDyIdeal.Value.gate, ← e']
        rfl

end Cert.MixDy

end

end
-- ==== Proof.PlePost.Spec.lean ====
/-
  The gradient of the post-norm gate, in real numbers. A token has a gate row `z`, an embedding row `e`, the norm's gain `g`
  and the cotangent `dy` of the normed product; the forward pass computes `norm (sg z · e) · g`.
-/
module

public import proofs.«01_k».proof.Proof.Math.Reals

@[expose] public section

noncomputable section

namespace Cert.PlePost

open Cert.Reals

variable (z e g dy : Fin 1024 → ℝ)

/-- The gated embedding of a token. -/
def gated (k : Fin 1024) : ℝ := sg (z k) * e k

/-- The cotangent of the gated embedding. -/
def dx (l : Fin 1024) : ℝ := dnorm (gated z e) (fun k => dy k * g k) l

/-- The cotangent of the gate's argument. -/
def dgl (l : Fin 1024) : ℝ := dx z e g dy l * e l * (sg (z l) * (1 - sg (z l)))

/-- The cotangent of the embedding. -/
def de (l : Fin 1024) : ℝ := sg (z l) * dx z e g dy l

/-- What the token adds to the gradient of the gain. -/
def dg (l : Fin 1024) : ℝ := gated z e l * rr (gated z e) * dy l

end Cert.PlePost

end

end
-- ==== Proof.PlePost.Reference.lean ====
/-
  What the reference of the post-norm gate's gradient computes at finite arguments: the real gradients of Spec.lean.
-/
module

public import proofs.«01_k».proof.Proof.Gen.PlePostBwdRefIdeal.Run
public import proofs.«01_k».proof.Proof.PlePost.Spec

@[expose] public section

set_option maxRecDepth 16384

noncomputable section

namespace Cert.PlePostBwdRefIdeal.Value

open Cert.PlePostBwdRefIdeal Cert.PlePostBwdRefIdeal.Gen Idealize.ShloMosaic Idealize.ShloMosaic.TcCoe Idealize.SL.Sem Cert.Reals

variable (m : (ℓ : Loc nD τ sig) → Buf (Elt Ideal) ℓ) (c : Dev nD)
variable (Z E : Fin 4096 → Fin 1024 → ℝ) (G : Fin 1 → Fin 1024 → ℝ) (DY : Fin 4096 → Fin 1024 → ℝ)

/-- The four argument arrays hold these reals. -/
def Holds : Prop :=
  m ((c.tc : Thread nD τ).loc main_arg0) = mat Z
    ∧ m ((c.tc : Thread nD τ).loc main_arg1) = mat E
    ∧ m ((c.tc : Thread nD τ).loc main_arg2) = mat G
    ∧ m ((c.tc : Thread nD τ).loc main_arg3) = mat DY

variable {m c Z E G DY} (h : Holds m c Z E G DY)
include h

set_option maxHeartbeats 1600000 in
theorem dgl_at (i : Fin 4096) (l : Fin 1024) :
    res_main_v51 m c (ix2 i l) = ((PlePost.dgl (Z i) (E i) (G 0) (DY i) l : ℝ) : EReal) := by
  obtain ⟨h0, h1, h2, h3⟩ := h
  unfold res_main_v51
  rw [h0, h1, h2, h3]
  pointwise
  simp only [mat_ix2, read, push]
  rw [dnorm_vjp (fun k => sg (Z i k) * E i k) (fun k => DY i k * G 0 k) l]
  rfl

set_option maxHeartbeats 1600000 in
theorem de_at (i : Fin 4096) (l : Fin 1024) :
    res_main_v52 m c (ix2 i l) = ((PlePost.de (Z i) (E i) (G 0) (DY i) l : ℝ) : EReal) := by
  obtain ⟨h0, h1, h2, h3⟩ := h
  unfold res_main_v52
  rw [h0, h1, h2, h3]
  pointwise
  simp only [mat_ix2, read, push]
  rw [dnorm_vjp (fun k => sg (Z i k) * E i k) (fun k => DY i k * G 0 k) l]
  rfl

theorem dgl_eq : res_main_v51 m c = mat fun i => PlePost.dgl (Z i) (E i) (G 0) (DY i) := by
  funext j
  idx_vars j
  exact dgl_at h j0 j1

theorem de_eq : res_main_v52 m c = mat fun i => PlePost.de (Z i) (E i) (G 0) (DY i) := by
  funext j
  idx_vars j
  exact de_at h j0 j1

end Cert.PlePostBwdRefIdeal.Value

end

end
-- ==== Proof.PlePost.Kernel.lean ====
/-
  What the kernel of the post-norm gate's gradient leaves in its three result arrays at finite arguments: the real gradients of
  Spec.lean. A grid point handles 512 tokens; the gain's gradient is summed over the eight points in one block.
-/
module

public import proofs.«01_k».proof.Proof.Gen.PlePostBwdIdeal.Value
public import proofs.«01_k».proof.Proof.PlePost.Spec
public import Idealize.ShloMosaic.Lib.Pipeline.ValueKit

@[expose] public section

set_option maxRecDepth 16384

noncomputable section

namespace Cert.PlePostBwdIdeal.Value

open Cert.PlePostBwdIdeal Cert.PlePostBwdIdeal.Gen Idealize.ShloMosaic Idealize.ShloMosaic.TcCoe Idealize.SL.Sem Cert.Reals

/-! ## One token of a block -/

section
variable {v0 v1 v2 : Vec Ideal S512x1024 .f32} {v3 : Vec Ideal S1x1024 .f32} {r : Fin 512} {z e g dy : Fin 1024 → ℝ}

theorem pay_dgl (h0 : ∀ k, v0 (ix2 r k) = (dy k : EReal)) (h1 : ∀ k, v1 (ix2 r k) = (z k : EReal))
    (h2 : ∀ k, v2 (ix2 r k) = (e k : EReal)) (h3 : ∀ k, v3 (ix2 0 k) = (g k : EReal)) (l : Fin 1024) :
    k0_pay1 (F := Ideal) (k0_pay4 v1) (k0_pay10 v0 v1 v2 v3) k0_pay11 (ix2 r l) = ((PlePost.dgl z e g dy l : ℝ) : EReal) := by
  pointwise [k0_pay1, k0_pay4, k0_pay5, k0_pay6, k0_pay7, k0_pay8, k0_pay10, k0_pay11]
  simp only [h0, h1, h2, h3, read, push]
  rw [mul_assoc]
  rfl

theorem pay_de (h0 : ∀ k, v0 (ix2 r k) = (dy k : EReal)) (h1 : ∀ k, v1 (ix2 r k) = (z k : EReal))
    (h2 : ∀ k, v2 (ix2 r k) = (e k : EReal)) (h3 : ∀ k, v3 (ix2 0 k) = (g k : EReal)) (l : Fin 1024) :
    k0_pay2 (F := Ideal) (k0_pay4 v1) (k0_pay8 v0 v1 v2 v3) (ix2 r l) = ((PlePost.de z e g dy l : ℝ) : EReal) := by
  pointwise [k0_pay2, k0_pay4, k0_pay5, k0_pay6, k0_pay7, k0_pay8]
  simp only [h0, h1, h2, h3, read, push]
  rw [mul_comm]
  rfl
end

/-- The sum over a block's tokens of what they add to the gain's gradient. -/
theorem pay_dg {v0 v1 v2 : Vec Ideal S512x1024 .f32} {z e dy : Fin 512 → Fin 1024 → ℝ}
    (h0 : ∀ r k, v0 (ix2 r k) = (dy r k : EReal)) (h1 : ∀ r k, v1 (ix2 r k) = (z r k : EReal))
    (h2 : ∀ r k, v2 (ix2 r k) = (e r k : EReal)) (l : Fin 1024) :
    k0_pay9 (F := Ideal) v0 v1 v2 (ix2 0 l) = ((∑ r, PlePost.dg (z r) (e r) (dy r) l : ℝ) : EReal) := by
  pointwise [k0_pay4, k0_pay5, k0_pay6, k0_pay7, k0_pay9]
  simp only [h0, h1, h2, read, push]
  simp only [mul_comm (dy _ _)]
  rfl

/-! ## The arrays -/

variable {m : (ℓ : Loc nD τ sig) → Buf (Elt Ideal) ℓ} {c : Dev nD}
variable {Z E : Fin 4096 → Fin 1024 → ℝ} {G : Fin 1 → Fin 1024 → ℝ} {DY : Fin 4096 → Fin 1024 → ℝ}

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ t.val < 8 :=
  (by decide +kernel : ∀ t : Fin grid0.N, _)

/-- The token that row `r` of point `t`'s blocks is. -/
def row (t : Fin cfg0.N) (r : Fin 512) : Fin 4096 := ⟨t.val * 512 + r.val, by have := (idx t).2.2.2.2.2.2; omega⟩

section
variable (m c)

/-- The four argument arrays hold these reals. -/
def Holds (Z E : Fin 4096 → Fin 1024 → ℝ) (G : Fin 1 → Fin 1024 → ℝ) (DY : Fin 4096 → Fin 1024 → ℝ) : Prop :=
  m ((c.tc : Thread nD τ).loc main_arg0) = mat Z
    ∧ m ((c.tc : Thread nD τ).loc main_arg1) = mat E
    ∧ m ((c.tc : Thread nD τ).loc main_arg2) = mat G
    ∧ m ((c.tc : Thread nD τ).loc main_arg3) = mat DY
end

theorem blk0 (t : Fin cfg0.N) (r : Fin 512) (k : Fin 1024) :
    (show FVec Ideal S512x1024 .f32 from iblk m c 0 t) (ix2 r k) = m ((c.tc : Thread nD τ).loc main_arg3) (ix2 (row t r) k) := by
  blk_ext! [iblk, V, idx t, row]
theorem blk1 (t : Fin cfg0.N) (r : Fin 512) (k : Fin 1024) :
    (show FVec Ideal S512x1024 .f32 from iblk m c 1 t) (ix2 r k) = m ((c.tc : Thread nD τ).loc main_arg0) (ix2 (row t r) k) := by
  blk_ext! [iblk, V, idx t, row]
theorem blk2 (t : Fin cfg0.N) (r : Fin 512) (k : Fin 1024) :
    (show FVec Ideal S512x1024 .f32 from iblk m c 2 t) (ix2 r k) = m ((c.tc : Thread nD τ).loc main_arg1) (ix2 (row t r) k) := by
  blk_ext! [iblk, V, idx t, row]
theorem blk3 (t : Fin cfg0.N) (k : Fin 1024) :
    (show FVec Ideal S1x1024 .f32 from iblk m c 3 t) (ix2 0 k) = m ((c.tc : Thread nD τ).loc main_arg2) (ix2 0 k) := by
  blk_ext! [iblk, V, idx t]

variable (h : Holds m c Z E G DY)
include h

theorem dy_at (t : Fin cfg0.N) (r : Fin 512) (k : Fin 1024) :
    (show FVec Ideal S512x1024 .f32 from iblk m c 0 t) (ix2 r k) = (DY (row t r) k : EReal) := by rw [blk0, h.2.2.2]; rfl
theorem z_at (t : Fin cfg0.N) (r : Fin 512) (k : Fin 1024) :
    (show FVec Ideal S512x1024 .f32 from iblk m c 1 t) (ix2 r k) = (Z (row t r) k : EReal) := by rw [blk1, h.1]; rfl
theorem e_at (t : Fin cfg0.N) (r : Fin 512) (k : Fin 1024) :
    (show FVec Ideal S512x1024 .f32 from iblk m c 2 t) (ix2 r k) = (E (row t r) k : EReal) := by rw [blk2, h.2.1]; rfl
theorem g_at (t : Fin cfg0.N) (k : Fin 1024) :
    (show FVec Ideal S1x1024 .f32 from iblk m c 3 t) (ix2 0 k) = (G 0 k : EReal) := by rw [blk3, h.2.2.1]; rfl

/-- The first result array: the cotangents of the gates' arguments. -/
theorem final_dgl : (dats m 0 c).arrAt 4 (cfgs 0).N
    = mat fun i => PlePost.dgl (Z i) (E i) (G 0) (DY i) := by
  refine (dats m 0 c).arrAt_eq_of_covers 4 _ (by decide +kernel) fun t hf y => ?_
  have hy : (((cfg0.win 4).blk t).view.emb y) = ix2 (row t (y 0)) (y 1) := by blk_ext [idx t, row]
  blk_simp
  rw [after0_4]
  refine Eq.trans ?_ (congrArg (mat fun i => PlePost.dgl (Z i) (E i) (G 0) (DY i)) hy.symm)
  have hp := pay_dgl (dy_at h t (y 0)) (z_at h t (y 0)) (e_at h t (y 0)) (g_at h t) (y 1)
  rw [← eq_ix2 y] at hp
  by_cases h8 : t.val % 8 = 0
  · rw [outsAt0_A m c t h8 (by have := (idx t).2.2.2.2.2.2; omega)]
    frame_out
    exact hp
  · rw [outsAt0_B m c t h8 (by omega)]
    frame_out
    exact hp

/-- The second result array: the cotangents of the embeddings. -/
theorem final_de : (dats m 0 c).arrAt 5 (cfgs 0).N
    = mat fun i => PlePost.de (Z i) (E i) (G 0) (DY i) := by
  refine (dats m 0 c).arrAt_eq_of_covers 5 _ (by decide +kernel) fun t hf y => ?_
  have hy : (((cfg0.win 5).blk t).view.emb y) = ix2 (row t (y 0)) (y 1) := by blk_ext [idx t, row]
  blk_simp
  rw [after0_5]
  refine Eq.trans ?_ (congrArg (mat fun i => PlePost.de (Z i) (E i) (G 0) (DY i)) hy.symm)
  have hp := pay_de (dy_at h t (y 0)) (z_at h t (y 0)) (e_at h t (y 0)) (g_at h t) (y 1)
  rw [← eq_ix2 y] at hp
  by_cases h8 : t.val % 8 = 0
  · rw [outsAt0_A m c t h8 (by have := (idx t).2.2.2.2.2.2; omega)]
    frame_out
    exact hp
  · rw [outsAt0_B m c t h8 (by omega)]
    frame_out
    exact hp

/-- What point `t` adds to the gain's gradient. -/
theorem part_dg (t : Fin cfg0.N) (j : S1x1024.Idx) : k0_pay9 (F := Ideal) (iblk m c 0 t) (iblk m c 1 t) (iblk m c 2 t) j
    = ((∑ r, PlePost.dg (Z (row t r)) (E (row t r)) (DY (row t r)) (j 1) : ℝ) : EReal) := by
  idx_vars j
  obtain rfl : j0 = 0 := Subsingleton.elim _ _
  exact pay_dg (dy_at h t) (z_at h t) (e_at h t) j1

omit h in
theorem acc_dg (v : FVec Ideal S1x1024 .f32) (a : Vec Ideal S1x1024 .f32) (j : S1x1024.Idx) : k0_pay3 v a j = a j + v j := by
  idx_vars j
  pointwise [k0_pay3]

/-- The third result array: the gradient of the gain, summed over all tokens. -/
theorem final_dg : (dats m 0 c).arrAt 6 (cfgs 0).N = mat fun _ l => ∑ i, PlePost.dg (Z i) (E i) (DY i) l := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => (0 : EReal))
    (fun p j => ((∑ r, PlePost.dg (Z (row p r)) (E (row p r)) (DY (row p r)) (j 1) : ℝ) : EReal))
    (fun t h8 j => by rw [outsAt0_A m c t h8 (by have := (idx t).2.2.2.2.2.2; omega)]; frame_out; exact (part_dg h t j).trans (zero_add _).symm)
    (fun t h8 j => by rw [outsAt0_B m c t h8 (by omega)]; frame_out; rw [acc_dg, part_dg h])
    (le_of_eq N_0) t0_7 rfl j, zero_add]
  exact sum_rows (congrArg (· * 512) N_0).symm row (fun _ _ => rfl) fun i => PlePost.dg (Z i) (E i) (DY i) (j 1)

end Cert.PlePostBwdIdeal.Value

end

end
-- ==== Proof.PlePost.Claim.lean ====
/-
  The claim about the post-norm gate's gradient: at finite arguments the kernel and its reference end with the same arrays.
-/
module

public import proofs.«01_k».proof.Defs
public import proofs.«01_k».proof.Proof.PlePost.Reference
public import proofs.«01_k».proof.Proof.PlePost.Kernel

@[expose] public section

set_option maxRecDepth 16384

noncomputable section

open Idealize.ShloMosaic Idealize.ShloMosaic.TcCoe Idealize.SL.Sem Cert.Reals

namespace Cert.PlePost

/-- Finite arguments hold reals. -/
theorem holds [Cert.Pre_ple_post_bwd_finite.Facts] (m : (ℓ : Loc Cert.PlePostBwdIdeal.nD Cert.PlePostBwdIdeal.τ Cert.PlePostBwdIdeal.sig) → Buf (Elt Ideal) ℓ)
    (h : Cert.Pre_PlePostBwdIdeal_ple_post_bwd_finite m) (c : Dev Cert.PlePostBwdIdeal.nD) :
    ∃ Z E G DY, Cert.PlePostBwdIdeal.Value.Holds m c Z E G DY := by
  have hc := h c
  obtain ⟨hc, h3⟩ := andi_split hc
  obtain ⟨hc, h2⟩ := andi_split hc
  obtain ⟨h0, h1⟩ := andi_split hc
  obtain ⟨Z, hZ⟩ := lift_matrix _ _ h0
  obtain ⟨E, hE⟩ := lift_matrix _ _ h1
  obtain ⟨G, hG⟩ := lift_matrix _ _ h2
  obtain ⟨DY, hDY⟩ := lift_matrix _ _ h3
  exact ⟨Z, E, G, DY, hZ, hE, hG, hDY⟩

theorem algebraic [Cert.Pre_ple_post_bwd_finite.Facts] : Cert.algebraic_PlePostBwdIdeal_PlePostBwdRefIdeal_pre_ple_post_bwd_finite := by
  pair_intro
  · run_from Cert.PlePostBwdIdeal.Value.run_blocks m g
  · run_from Cert.PlePostBwdRefIdeal.Value.run m' g'
    all_goals obtain ⟨Z, E, G, DY, h⟩ := holds m hpre c
    all_goals have h' : Cert.PlePostBwdRefIdeal.Value.Holds m' c Z E G DY :=
      ⟨(hagree c).1.trans h.1, (hagree c).2.1.trans h.2.1, (hagree c).2.2.1.trans h.2.2.1, (hagree c).2.2.2.trans h.2.2.2⟩
    · exact (Cert.PlePostBwdRefIdeal.Value.dgl_eq h').trans (Cert.PlePostBwdIdeal.Value.final_dgl h).symm
    · exact (Cert.PlePostBwdRefIdeal.Value.de_eq h').trans (Cert.PlePostBwdIdeal.Value.final_de h).symm
    · refine Eq.trans ?_ (Cert.PlePostBwdIdeal.Value.final_dg h).symm
      rw [h.1, h.2.1, h.2.2.2]
      refine eq_mat_row fun l => ?_
      pointwise
      simp only [mat_ix2, read, push]
      rfl

end Cert.PlePost

end

end
-- ==== Proof.FfnDhid.Kernel.lean ====
/-
  What the kernel of the gated hidden layer's gradient leaves in its two result arrays at finite arguments.
-/
module

public import proofs.«01_k».proof.Proof.Math.Reals
public import proofs.«01_k».proof.Proof.Gen.FfnDhidIdeal.Value

@[expose] public section
set_option maxRecDepth 16384
noncomputable section
namespace Cert.FfnDhid

/-- The argument arrays as reals: the hidden layer's gate and value, the second matrix, the cotangent of the output. -/
structure Args where
  g : Fin 4096 → Fin 2816 → ℝ
  u : Fin 4096 → Fin 2816 → ℝ
  w : Fin 2816 → Fin 1024 → ℝ
  d : Fin 4096 → Fin 1024 → ℝ

namespace Args
variable (A : Args)

/-- The cotangent of the gated hidden layer. -/
def dh (i : Fin 4096) (l : Fin 2816) : ℝ := ∑ k, A.d i k * A.w l k
/-- The gradient of the gate. -/
def dg (i : Fin 4096) (l : Fin 2816) : ℝ :=
  A.dh i l * A.u i l * (Reals.sg (A.g i l) + A.g i l * Reals.sg (A.g i l) * (1 - Reals.sg (A.g i l)))
/-- The gradient of the value. -/
def du (i : Fin 4096) (l : Fin 2816) : ℝ := A.dh i l * (A.g i l * Reals.sg (A.g i l))

end Args
end Cert.FfnDhid

namespace Cert.FfnDhidIdeal.Value
open Cert.FfnDhidIdeal Cert.FfnDhidIdeal.Gen Idealize.ShloMosaic Idealize.ShloMosaic.TcCoe Idealize.SL.Sem Cert.Reals Cert.FfnDhid

variable {m : (ℓ : Loc nD τ sig) → Buf (Elt Ideal) ℓ} {c : Dev nD}

/-- Which blocks point `t` reads and writes. -/
theorem idx : ∀ t : Fin cfg0.N, win0_0.index t = ![t.val % 8, 0] ∧ win0_1.index t = ![t.val / 8, 0] ∧ win0_2.index t = ![t.val % 8, t.val / 8]
    ∧ win0_3.index t = ![t.val % 8, t.val / 8] ∧ win0_4.index t = ![t.val % 8, t.val / 8] ∧ win0_5.index t = ![t.val % 8, t.val / 8] ∧ t.val < 16 :=
  (by decide +kernel : ∀ t : Fin grid0.N, _)

/-- The token and the hidden value that row `r` and column `l` of point `t`'s blocks are. -/
def row (t : Fin cfg0.N) (r : Fin 512) : Fin 4096 := ⟨t.val % 8 * 512 + r.val, by omega⟩
@[inherit_doc row]
def col (t : Fin cfg0.N) (l : Fin 1408) : Fin 2816 := ⟨t.val / 8 * 1408 + l.val, by have := (idx t).2.2.2.2.2.2; omega⟩

variable (m c) in
/-- The argument arrays hold these reals. -/
structure Holds (A : Args) : Prop where
  g : m ((c.tc : Thread nD τ).loc main_arg0) = mat A.g
  u : m ((c.tc : Thread nD τ).loc main_arg1) = mat A.u
  w : m ((c.tc : Thread nD τ).loc main_arg2) = fun j => (A.w (j 1) (j 2) : EReal)
  d : m ((c.tc : Thread nD τ).loc main_arg3) = mat A.d

variable {A : Args} (h : Holds m c A)
include h
theorem blk0 (t : Fin cfg0.N) : (iblk m c 0 t : FVec Ideal S512x1024 .bf16) = mat fun r => A.d (row t r) := by
  funext y
  idx_vars y
  refine Eq.trans ?_ (congrFun h.d (ix2 (row t y0) y1))
  blk_ext! [iblk, V, idx t, row]
theorem blk1 (t : Fin cfg0.N) : (iblk m c 1 t : FVec Ideal S1408x1024 .bf16) = mat fun l => A.w (col t l) := by
  funext y
  idx_vars y
  refine Eq.trans ?_ (congrFun h.w (ix3 0 (col t y0) y1))
  blk_ext! [iblk, idx t, col]
theorem blk2 (t : Fin cfg0.N) : (iblk m c 2 t : FVec Ideal S512x1408 .bf16) = mat fun r l => A.g (row t r) (col t l) := by
  funext y
  idx_vars y
  refine Eq.trans ?_ (congrFun h.g (ix2 (row t y0) (col t y1)))
  blk_ext! [iblk, V, idx t, row, col]
theorem blk3 (t : Fin cfg0.N) : (iblk m c 3 t : FVec Ideal S512x1408 .bf16) = mat fun r l => A.u (row t r) (col t l) := by
  funext y
  idx_vars y
  refine Eq.trans ?_ (congrFun h.u (ix2 (row t y0) (col t y1)))
  blk_ext! [iblk, V, idx t, row, col]

theorem final_dg : (dats m 0 c).arrAt 4 (cfgs 0).N = mat A.dg := by
  refine (dats m 0 c).arrAt_eq_of_covers 4 _ (by decide +kernel) fun t hf y => ?_
  rw [after0_4]
  frame_out
  rw [blk0 h, blk1 h, blk2 h, blk3 h]
  generalize hx : ((cfg0.win 4).xinj (cfg0.grid.coords t)) y = x
  refine Eq.trans (b := ((A.dg (row t (x 0)) (col t (x 1)) : ℝ) : EReal)) ?_ (congrArg (fun r : ℝ => (r : EReal)) (congrArg₂ A.dg (Fin.ext ?_) (Fin.ext ?_)))
  · clear hx
    idx_vars x
    pointwise [k0_pay5, k0_pay1, k0_pay3, k0_pay4, k0_pay2]
    simp only [mat_ix2, Reals.read, push]
    rfl
  · subst hx
    show t.val % 8 * 512 + (y 0).val = _
    blk_simp [idx t]
  · subst hx
    show t.val / 8 * 1408 + (y 1).val = _
    blk_simp [idx t]

theorem final_du : (dats m 0 c).arrAt 5 (cfgs 0).N = mat A.du := by
  refine (dats m 0 c).arrAt_eq_of_covers 5 _ (by decide +kernel) fun t hf y => ?_
  rw [after0_5]
  frame_out
  rw [blk0 h, blk1 h, blk2 h]
  generalize hx : ((cfg0.win 5).xinj (cfg0.grid.coords t)) y = x
  refine Eq.trans (b := ((A.du (row t (x 0)) (col t (x 1)) : ℝ) : EReal)) ?_ (congrArg (fun r : ℝ => (r : EReal)) (congrArg₂ A.du (Fin.ext ?_) (Fin.ext ?_)))
  · clear hx
    idx_vars x
    pointwise [k0_pay6, k0_pay1, k0_pay3, k0_pay4, k0_pay2]
    simp only [mat_ix2, Reals.read, push]
    rfl
  · subst hx
    show t.val % 8 * 512 + (y 0).val = _
    blk_simp [idx t]
  · subst hx
    show t.val / 8 * 1408 + (y 1).val = _
    blk_simp [idx t]

end Cert.FfnDhidIdeal.Value
-- ==== Proof.FfnDhid.Reference.lean ====
/-
  What the reference of the gated hidden layer's gradient computes at finite arguments: its two written results, over
  arrays that hold reals.
-/
module

public import proofs.«01_k».proof.Proof.FfnDhid.Kernel
public import proofs.«01_k».proof.Proof.Gen.FfnDhidRefIdeal.Run

@[expose] public section
set_option maxRecDepth 16384
noncomputable section
namespace Cert.FfnDhidRefIdeal.Value
open Cert.FfnDhidRefIdeal Cert.FfnDhidRefIdeal.Gen Idealize.ShloMosaic Idealize.ShloMosaic.TcCoe Idealize.SL.Sem Cert.Reals Cert.FfnDhid

variable (A : Args)

/-- The written logistic function of the gate. -/
theorem sig_eq (j : S4096x2816.Idx) :
    (Host.divf (broadcastInDim S4096x2816 ![] bcast_S_S4096x2816 (constant (F := Ideal) S_ .f32 0x3F800000#32))
      (addf (broadcastInDim S4096x2816 ![] bcast_S_S4096x2816 (constant (F := Ideal) S_ .f32 0x3F800000#32))
        (Host.exp (Host.negf (extf .f32 (mat A.g : FVec Ideal S4096x2816 .bf16) bitsLt_bf16_f32)))) : FVec Ideal S4096x2816 .f32) j
      = (Reals.sg (A.g (j 0) (j 1)) : EReal) := by
  idx_vars j
  pointwise
  simp only [mat_ix2, Reals.read, push]

/-- The written product of the cotangent with the second matrix. -/
theorem dot_eq (j : S4096x2816.Idx) :
    (Host.dotGeneral (φ₁ := .f32) (φ₂ := .f32) dot_S4096x1024_S2816x1024_S4096x2816_1_1_0_0_n_n none
      (extf .f32 (mat A.d : FVec Ideal S4096x1024 .bf16) bitsLt_bf16_f32)
      (shapeCast _ (fun j => (A.w (j 1) (j 2) : EReal) : FVec Ideal S1x2816x1024 .f32) shapeCasts_S1x2816x1024_S2816x1024) : FVec Ideal S4096x2816 .f32) j
      = (A.dh (j 0) (j 1) : EReal) := by
  idx_vars j
  pointwise
  simp only [mat_ix2, Reals.read, push]
  rfl

variable {A} {sig dot : FVec Ideal S4096x2816 .f32} (hs : ∀ j, sig j = (Reals.sg (A.g (j 0) (j 1)) : EReal)) (hd : ∀ j, dot j = (A.dh (j 0) (j 1) : EReal))
include hs hd

theorem dg_eq :
    truncf .bf16 (addf (mulf (mulf dot (extf .f32 (mat A.u : FVec Ideal S4096x2816 .bf16) bitsLt_bf16_f32)) sig)
      (mulf (mulf (extf .f32 (mat A.g : FVec Ideal S4096x2816 .bf16) bitsLt_bf16_f32)
          (mulf dot (extf .f32 (mat A.u : FVec Ideal S4096x2816 .bf16) bitsLt_bf16_f32)))
        (mulf sig (subf (broadcastInDim S4096x2816 ![] bcast_S_S4096x2816 (constant (F := Ideal) S_ .f32 0x3F800000#32)) sig)))) bitsLt_bf16_f32
      = mat A.dg := by
  funext j
  idx_vars j
  pointwise
  simp only [hs, hd, mat_ix2, Reals.read, push]
  refine congrArg (fun r : ℝ => (r : EReal)) ?_
  show _ = A.dg j0 j1
  unfold Args.dg
  ring!

theorem du_eq :
    truncf .bf16 (mulf (mulf (extf .f32 (mat A.g : FVec Ideal S4096x2816 .bf16) bitsLt_bf16_f32) sig) dot) bitsLt_bf16_f32 = mat A.du := by
  funext j
  idx_vars j
  pointwise
  simp only [hs, hd, mat_ix2, Reals.read, push]
  refine congrArg (fun r : ℝ => (r : EReal)) ?_
  show _ = A.du j0 j1
  unfold Args.du
  ring!

end Cert.FfnDhidRefIdeal.Value
-- ==== Proof.FfnDhid.Claim.lean ====
/-
  The claim about the gated hidden layer's gradient: at finite arguments the kernel and its reference end with the same
  arrays.
-/
module

public import proofs.«01_k».proof.Defs
public import proofs.«01_k».proof.Proof.FfnDhid.Reference

@[expose] public section
set_option maxRecDepth 16384
noncomputable section
open Idealize.ShloMosaic Idealize.ShloMosaic.TcCoe Idealize.SL.Sem Cert.Reals

namespace Cert.FfnDhid

/-- Finite arguments hold reals. -/
theorem holds [Cert.Pre_ffn_dhid_finite.Facts] (m : (ℓ : Loc Cert.FfnDhidIdeal.nD Cert.FfnDhidIdeal.τ Cert.FfnDhidIdeal.sig) → Buf (Elt Ideal) ℓ)
    (h : Cert.Pre_FfnDhidIdeal_ffn_dhid_finite m) (c : Dev Cert.FfnDhidIdeal.nD) : ∃ A : Args, Cert.FfnDhidIdeal.Value.Holds m c A := by
  have hc := h c
  obtain ⟨hc, h3⟩ := andi_split hc
  obtain ⟨hc, h2⟩ := andi_split hc
  obtain ⟨h0, h1⟩ := andi_split hc
  obtain ⟨G, hG⟩ := lift_matrix _ _ h0
  obtain ⟨U, hU⟩ := lift_matrix _ _ h1
  obtain ⟨W, hW⟩ := lift_of_finite _ _ h2
  obtain ⟨D, hD⟩ := lift_matrix _ _ h3
  refine ⟨⟨G, U, fun l k => W (ix3 0 l k), D⟩, hG, hU, ?_, hD⟩
  rw [hW]
  funext j
  idx_vars j
  obtain rfl : j0 = 0 := Subsingleton.elim _ _
  rfl

theorem algebraic [Cert.Pre_ffn_dhid_finite.Facts] : Cert.algebraic_FfnDhidIdeal_FfnDhidRefIdeal_pre_ffn_dhid_finite := by
  pair_intro
  · run_from Cert.FfnDhidIdeal.Value.run_blocks m g
  · run_from Cert.FfnDhidRefIdeal.Value.run m' g'
    all_goals obtain ⟨A, h⟩ := holds m hpre c
    · refine Eq.trans ?_ (Cert.FfnDhidIdeal.Value.final_dg h).symm
      rw [h.g, h.u, h.w, h.d]
      exact Cert.FfnDhidRefIdeal.Value.dg_eq (Cert.FfnDhidRefIdeal.Value.sig_eq A) (Cert.FfnDhidRefIdeal.Value.dot_eq A)
    · refine Eq.trans ?_ (Cert.FfnDhidIdeal.Value.final_du h).symm
      rw [h.g, h.w, h.d]
      exact Cert.FfnDhidRefIdeal.Value.du_eq (Cert.FfnDhidRefIdeal.Value.sig_eq A) (Cert.FfnDhidRefIdeal.Value.dot_eq A)

end Cert.FfnDhid
-- ==== Proof.PleDx.Kernel.lean ====
/-
  What the kernel of the input gate's projection leaves in its four result arrays at finite arguments.
-/
module

public import proofs.«01_k».proof.Proof.Math.Residual
public import proofs.«01_k».proof.Proof.Gen.PleDxIdeal.Value

@[expose] public section
set_option maxRecDepth 16384
noncomputable section
namespace Cert.PleDxIdeal.Value
open Cert.PleDxIdeal Cert.PleDxIdeal.Gen Idealize.ShloMosaic Idealize.ShloMosaic.TcCoe Idealize.SL.Sem Cert.Reals Cert.Dx

variable {m : (ℓ : Loc nD τ sig) → Buf (Elt Ideal) ℓ} {c : Dev nD}

/-- Which blocks point `t` reads and writes. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0]
    ∧ win0_7.index t = ![t.val, 0] ∧ win0_9.index t = ![t.val, 0] ∧ t.val < 8 :=
  (by decide +kernel : ∀ t : Fin grid0.N, _)
theorem point_lt (t : Fin cfg0.N) : t.val < 8 := (idx t).2.2.2.2.2.2.2.2.2

/-- The token that row `r` of point `t`'s blocks is. -/
def row (t : Fin cfg0.N) (r : Fin 512) : Fin 4096 := ⟨t.val * 512 + r.val, by have := point_lt t; omega⟩

variable (m c) in
/-- The argument arrays hold these reals: the projection is `w`, the cotangent of its result `e`. -/
structure Holds (A : Args) (w : Fin 1024 → Fin 1024 → ℝ) (e : Fin 4096 → Fin 1024 → ℝ) : Prop where
  h : m ((c.tc : Thread nD τ).loc main_arg0) = mat A.h
  f : m ((c.tc : Thread nD τ).loc main_arg1) = mat A.f
  gp : m ((c.tc : Thread nD τ).loc main_arg2) = mat fun _ => A.gp
  g : m ((c.tc : Thread nD τ).loc main_arg3) = mat fun _ => A.g
  hw : m ((c.tc : Thread nD τ).loc main_arg4) = fun j => (w (j 1) (j 2) : EReal)
  d : m ((c.tc : Thread nD τ).loc main_arg5) = mat A.d
  he : m ((c.tc : Thread nD τ).loc main_arg6) = mat e
  s : A.s = 1 / 2
  p : A.p = fun i l => ∑ k, e i k * w l k

variable {A : Args} {w : Fin 1024 → Fin 1024 → ℝ} {e : Fin 4096 → Fin 1024 → ℝ} (H : Holds m c A w e)
include H
theorem blk0 (t : Fin cfg0.N) : (iblk m c 0 t : FVec Ideal S512x1024 .bf16) = mat fun r => e (row t r) := by
  funext y
  idx_vars y
  refine Eq.trans ?_ (congrFun H.he (ix2 (row t y0) y1))
  blk_ext! [iblk, V, idx t, row]
theorem blk1 (t : Fin cfg0.N) : (iblk m c 1 t : FVec Ideal S1024x1024 .bf16) = mat w := by
  funext y
  idx_vars y
  refine Eq.trans ?_ (congrFun H.hw (ix3 0 y0 y1))
  blk_ext! [iblk, idx t]
theorem blk2 (t : Fin cfg0.N) : (iblk m c 2 t : FVec Ideal S512x1024 .f32) = mat fun r => A.x (row t r) := by
  funext y
  idx_vars y
  have he : (win0_2.blk t).view.emb (ix2 y0 y1) = ix2 (row t y0) y1 := by blk_ext [idx t, row]
  refine ((congrArg (V m c (Pipeline.arrRef spec0 2)) he).trans ?_ : _ = mat A.x (ix2 (row t y0) y1))
  generalize row t y0 = i
  have h0 : m (c, Proc.tc.devRef main_arg0) = mat A.h := H.h
  have h1 : m (c, Proc.tc.devRef main_arg1) = mat A.f := H.f
  have h2 : m (c, Proc.tc.devRef main_arg2) = mat fun _ => A.gp := H.gp
  entry_read
  pointwise
  rw [h0, h1, h2]
  simp only [mat_ix2, read, push]
  rw [Args.x, H.s]
theorem blk3 (t : Fin cfg0.N) : (iblk m c 3 t : FVec Ideal S512x1024 .f32) = mat fun r => A.d (row t r) := by
  funext y
  idx_vars y
  refine Eq.trans ?_ (congrFun H.d (ix2 (row t y0) y1))
  blk_ext! [iblk, V, idx t, row]
theorem blk4 (t : Fin cfg0.N) : (iblk m c 4 t : FVec Ideal S1x1024 .f32) = mat fun _ => A.g := by
  funext y
  idx_vars y
  refine Eq.trans ?_ (congrFun H.g (ix2 0 y1))
  blk_ext! [iblk, idx t]
theorem blk5 (t : Fin cfg0.N) : (iblk m c 5 t : FVec Ideal S512x1024 .f32) = mat fun r => A.f (row t r) := by
  funext y
  idx_vars y
  refine Eq.trans ?_ (congrFun H.f (ix2 (row t y0) y1))
  blk_ext! [iblk, V, idx t, row]
theorem blk6 (t : Fin cfg0.N) : (iblk m c 6 t : FVec Ideal S1x1024 .f32) = mat fun _ => A.gp := by
  funext y
  idx_vars y
  refine Eq.trans ?_ (congrFun H.gp (ix2 0 y1))
  blk_ext! [iblk, idx t]

/-- The product of a block's rows with the projection. -/
theorem prod (t : Fin cfg0.N) : k0_pay2 (F := Ideal) (mat fun r => e (row t r)) (mat w) = mat fun r => A.p (row t r) := by
  funext y
  idx_vars y
  pointwise [k0_pay2]
  simp only [mat_ix2, push, H.p]

theorem pay5 (t : Fin cfg0.N) : k0_pay5 (F := Ideal) (mat fun r => e (row t r)) (mat w) = mat fun r => A.p (row t (chunk 0 r)) := by
  rw [k0_pay5, prod H]
  exact slice_chunk (fun r => A.p (row t r)) 0 rfl

theorem out7 (t : Fin cfg0.N) (y : S512x1024.Idx) :
    ((outsAt0 m c t.val t.isLt).1 : FVec Ideal S512x1024 .f32) y = (A.dh (row t (y 0)) (y 1) : EReal) := by
  have h8 := point_lt t
  by_cases h0 : t.val % 8 = 0
  rw [outsAt0_A m c t h0 (by omega) h0 (by omega)]
  rotate_left
  rw [outsAt0_B m c t h0 (by omega) h0 (by omega)]
  all_goals
    frame_out
    clear h0
    rw [blk0 H, blk1 H, blk2 H, blk3 H, blk4 H]
    simp only [k0_pay8, pay5 H, prod H, ld_chunk (o := 0) _ 0 rfl, ld_chunk (o := 128) _ 1 rfl, ld_chunk (o := 256) _ 2 rfl, ld_chunk (o := 384) _ 3 rfl]
    canon_tiles x h' using (View.cover_of_tiledBy (s := S512x1024) _ ![128,1024] (by sl_kernel_rfl) y)
  all_goals
    idx_vars x
    open_payloads
    try simp only [slice_chunk (o := 0) _ 0 rfl, slice_chunk (o := 128) _ 1 rfl, slice_chunk (o := 256) _ 2 rfl, slice_chunk (o := 384) _ 3 rfl]
    pointwise
    simp only [mat_ix2, Reals.read, push]
    rw [show y 1 = x1 from Fin.ext h'1]
    first
    | rw [eq_chunk (o := 384) 3 rfl h'0]
    | rw [eq_chunk (o := 256) 2 rfl h'0]
    | rw [eq_chunk (o := 128) 1 rfl h'0]
    | rw [eq_chunk (o := 0) 0 rfl (h'0.trans (Nat.zero_add _).symm)]
    rfl

theorem out9 (t : Fin cfg0.N) (y : S512x1024.Idx) :
    ((outsAt0 m c t.val t.isLt).2.2.1 : FVec Ideal S512x1024 .bf16) y = (A.df (row t (y 0)) (y 1) : EReal) := by
  have h8 := point_lt t
  by_cases h0 : t.val % 8 = 0
  rw [outsAt0_A m c t h0 (by omega) h0 (by omega)]
  rotate_left
  rw [outsAt0_B m c t h0 (by omega) h0 (by omega)]
  all_goals
    frame_out
    clear h0
    rw [blk0 H, blk1 H, blk2 H, blk3 H, blk4 H, blk5 H, blk6 H]
    simp only [k0_pay8, pay5 H, prod H, ld_chunk (o := 0) _ 0 rfl, ld_chunk (o := 128) _ 1 rfl, ld_chunk (o := 256) _ 2 rfl, ld_chunk (o := 384) _ 3 rfl]
    canon_tiles x h' using (View.cover_of_tiledBy (s := S512x1024) _ ![128,1024] (by sl_kernel_rfl) y)
  all_goals
    idx_vars x
    open_payloads
    try simp only [slice_chunk (o := 0) _ 0 rfl, slice_chunk (o := 128) _ 1 rfl, slice_chunk (o := 256) _ 2 rfl, slice_chunk (o := 384) _ 3 rfl]
    pointwise
    simp only [mat_ix2, Reals.read, push]
    rw [show y 1 = x1 from Fin.ext h'1]
    first
    | rw [eq_chunk (o := 384) 3 rfl h'0]
    | rw [eq_chunk (o := 256) 2 rfl h'0]
    | rw [eq_chunk (o := 128) 1 rfl h'0]
    | rw [eq_chunk (o := 0) 0 rfl (h'0.trans (Nat.zero_add _).symm)]
    rw [Args.df, H.s]
    rfl

theorem out8 (t : Fin cfg0.N) (y : S1x1024.Idx) (q : S1x1024.Idx → EReal)
    (hq : ∀ h1 : 1 ≤ t.val, (outsAt0 m c (t.val - 1) (by omega)).2.1 = q) :
    ((outsAt0 m c t.val t.isLt).2.1 : FVec Ideal S1x1024 .f32) y = (if t.val % 8 = 0 then 0 else q y) + ((∑ r, A.dg (row t r) (y 1) : ℝ) : EReal) := by
  have h8 := point_lt t
  by_cases h0 : t.val % 8 = 0
  rw [outsAt0_A m c t h0 (by omega) h0 (by omega), if_pos h0]
  rotate_left
  rw [outsAt0_B m c t h0 (by omega) h0 (by omega), if_neg h0]
  all_goals
    frame_out
    try rw [hq (by omega)]
    clear h0 hq
    rw [blk0 H, blk1 H, blk2 H]
    simp only [k0_pay8, k0_pay9, pay5 H, prod H, ld_chunk (o := 0) _ 0 rfl, ld_chunk (o := 128) _ 1 rfl, ld_chunk (o := 256) _ 2 rfl, ld_chunk (o := 384) _ 3 rfl]
    idx_vars y
    open_payloads
    try simp only [slice_chunk (o := 0) _ 0 rfl, slice_chunk (o := 128) _ 1 rfl, slice_chunk (o := 256) _ 2 rfl, slice_chunk (o := 384) _ 3 rfl]
    pointwise
    simp only [mat_ix2, Reals.read, push]
    first
    | exact congrArg (fun r : ℝ => (r : EReal)) (four_chunks fun r => A.dg (row t r) y1)
    | exact congrArg (fun r : ℝ => q (ix2 y0 y1) + (r : EReal)) (four_chunks fun r => A.dg (row t r) y1)

theorem out10 (t : Fin cfg0.N) (y : S1x1024.Idx) (q : S1x1024.Idx → EReal)
    (hq : ∀ h1 : 1 ≤ t.val, (outsAt0 m c (t.val - 1) (by omega)).2.2.2 = q) :
    ((outsAt0 m c t.val t.isLt).2.2.2 : FVec Ideal S1x1024 .f32) y = (if t.val % 8 = 0 then 0 else q y) + ((∑ r, A.dgp (row t r) (y 1) : ℝ) : EReal) := by
  have h8 := point_lt t
  by_cases h0 : t.val % 8 = 0
  rw [outsAt0_A m c t h0 (by omega) h0 (by omega), if_pos h0]
  rotate_left
  rw [outsAt0_B m c t h0 (by omega) h0 (by omega), if_neg h0]
  all_goals
    frame_out
    try rw [hq (by omega)]
    clear h0 hq
    rw [blk0 H, blk1 H, blk2 H, blk3 H, blk4 H, blk5 H]
    simp only [k0_pay8, k0_pay9, pay5 H, prod H, ld_chunk (o := 0) _ 0 rfl, ld_chunk (o := 128) _ 1 rfl, ld_chunk (o := 256) _ 2 rfl, ld_chunk (o := 384) _ 3 rfl]
    idx_vars y
    open_payloads
    try simp only [slice_chunk (o := 0) _ 0 rfl, slice_chunk (o := 128) _ 1 rfl, slice_chunk (o := 256) _ 2 rfl, slice_chunk (o := 384) _ 3 rfl]
    pointwise
    simp only [mat_ix2, Reals.read, push]
    rw [← H.s]
    first
    | exact congrArg (fun r : ℝ => (r : EReal)) (four_chunks fun r => A.dgp (row t r) y1)
    | exact congrArg (fun r : ℝ => q (ix2 y0 y1) + (r : EReal)) (four_chunks fun r => A.dgp (row t r) y1)

/-! ## The result arrays -/

theorem final_dh : (dats m 0 c).arrAt 7 (cfgs 0).N = mat A.dh := by
  refine (dats m 0 c).arrAt_eq_of_covers 7 _ (by decide +kernel) fun t hf y => ?_
  rw [after0_7, out7 H]
  refine congrArg (fun r : ℝ => (r : EReal)) (congrArg₂ A.dh (Fin.ext ?_) (Fin.ext ?_))
  · show t.val * 512 + _ = _
    blk_simp [idx t]
  · blk_simp [idx t]

theorem final_dg : (dats m 0 c).arrAt 8 (cfgs 0).N = mat fun _ l => ∑ i, A.dg i l := by
  refine (dats m 0 c).arrAt_eq_of_after_last 8 t0_7 (by decide +kernel) _ fun j => ?_
  blk_simp
  rw [after0_8, Pipeline.eq_sum_fin_of_reset_step_apply_last (fun n h => (outsAt0 m c n h).2.1) 8 (fun _ => (0 : EReal))
    (fun p j => ((∑ r, A.dg (row p r) (j 1) : ℝ) : EReal))
    (fun t h8 j => by rw [out8 H t j (fun _ => 0) fun h1 => absurd (point_lt t) (by omega), if_pos h8])
    (fun t h8 j => by rw [out8 H t j (outsAt0 m c (t.val - 1) (by omega)).2.1 fun _ => rfl, if_neg h8])
    (le_of_eq N_0) t0_7 rfl j, zero_add]
  exact sum_rows (congrArg (· * 512) N_0).symm row (fun _ _ => rfl) fun i => A.dg i (j 1)

theorem final_df : (dats m 0 c).arrAt 9 (cfgs 0).N = mat A.df := by
  refine (dats m 0 c).arrAt_eq_of_covers 9 _ (by decide +kernel) fun t hf y => ?_
  rw [after0_9, out9 H]
  refine congrArg (fun r : ℝ => (r : EReal)) (congrArg₂ A.df (Fin.ext ?_) (Fin.ext ?_))
  · show t.val * 512 + _ = _
    blk_simp [idx t]
  · blk_simp [idx t]

theorem final_dgp : (dats m 0 c).arrAt 10 (cfgs 0).N = mat fun _ l => ∑ i, A.dgp i l := by
  refine (dats m 0 c).arrAt_eq_of_after_last 10 t0_7 (by decide +kernel) _ fun j => ?_
  blk_simp
  rw [after0_10, Pipeline.eq_sum_fin_of_reset_step_apply_last (fun n h => (outsAt0 m c n h).2.2.2) 8 (fun _ => (0 : EReal))
    (fun p j => ((∑ r, A.dgp (row p r) (j 1) : ℝ) : EReal))
    (fun t h8 j => by rw [out10 H t j (fun _ => 0) fun h1 => absurd (point_lt t) (by omega), if_pos h8])
    (fun t h8 j => by rw [out10 H t j (outsAt0 m c (t.val - 1) (by omega)).2.2.2 fun _ => rfl, if_neg h8])
    (le_of_eq N_0) t0_7 rfl j, zero_add]
  exact sum_rows (congrArg (· * 512) N_0).symm row (fun _ _ => rfl) fun i => A.dgp i (j 1)

end Cert.PleDxIdeal.Value
-- ==== Proof.PleDx.Reference.lean ====
/-
  What the reference of the input gate's projection computes at finite arguments.
-/
module

public import proofs.«01_k».proof.Proof.Math.HostNorm
public import proofs.«01_k».proof.Proof.Gen.PleDxRefIdeal.Run

@[expose] public section
set_option maxRecDepth 16384
noncomputable section
namespace Cert.PleDxRefIdeal.Value
open Cert.PleDxRefIdeal Cert.PleDxRefIdeal.Gen Idealize.ShloMosaic Idealize.ShloMosaic.TcCoe Idealize.SL.Sem Cert.Reals Cert.Dx Cert.HostNorm

variable (m : (ℓ : Loc nD τ sig) → Buf (Elt Ideal) ℓ) (c : Dev nD)

/-- The argument arrays hold these reals: the projection is `w`, the cotangent of its result `e`. -/
structure Holds (A : Args) (w : Fin 1024 → Fin 1024 → ℝ) (e : Fin 4096 → Fin 1024 → ℝ) : Prop where
  h : m ((c.tc : Thread nD τ).loc main_arg0) = mat A.h
  f : m ((c.tc : Thread nD τ).loc main_arg1) = mat A.f
  gp : m ((c.tc : Thread nD τ).loc main_arg2) = mat fun _ => A.gp
  g : m ((c.tc : Thread nD τ).loc main_arg3) = mat fun _ => A.g
  hw : m ((c.tc : Thread nD τ).loc main_arg4) = fun j => (w (j 1) (j 2) : EReal)
  d : m ((c.tc : Thread nD τ).loc main_arg5) = mat A.d
  he : m ((c.tc : Thread nD τ).loc main_arg6) = mat e
  s : A.s = 1 / 2
  p : A.p = fun i l => ∑ k, e i k * w l k

variable {A : Args} {w : Fin 1024 → Fin 1024 → ℝ} {e : Fin 4096 → Fin 1024 → ℝ}

/-- The written product of the cotangent with the projection. -/
theorem dot_eq : (Host.dotGeneral (φ₁ := .f32) (φ₂ := .f32) dot_S4096x1024_S1024x1024_S4096x1024_1_1_0_0_n_n none
      (extf .f32 (mat e : FVec Ideal S4096x1024 .bf16) bitsLt_bf16_f32)
      (shapeCast S1024x1024 (fun j => (w (j 1) (j 2) : EReal) : FVec Ideal S1x1024x1024 .f32) shapeCasts_S1x1024x1024_S1024x1024) : FVec Ideal S4096x1024 .f32)
      = mat fun i l => ∑ k, e i k * w l k := by
  funext j
  idx_vars j
  pointwise
  simp only [mat_ix2, Reals.read, push]

variable {m c} (H : Holds m c A w e)
include H

theorem x_eq : A.x = fun i l => A.h i l + 1 / 2 * (A.f i l * rr (A.f i) * A.gp l) := by
  funext i l
  rw [Args.x, H.s]

theorem dh_eq : res_main_v61 m c = mat A.dh := by
  unfold res_main_v61
  rw [H.h, H.f, H.gp, H.g, H.hw, H.d, H.he]
  refine add_vjp_eq (X := A.x) (Y := fun i l => A.p i l * A.g l) (D := A.d) ?_ ?_ rfl
  · rw [x_eq H]
    exact add_eq rfl (half_eq (gain_eq (norm_eq rfl) rfl))
  · rw [H.p]
    exact gain_eq dot_eq rfl

set_option maxHeartbeats 1600000 in
theorem df_eq : res_main_v87 m c = mat A.df := by
  have hd : res_main_v61 m c = mat A.dh := dh_eq H
  unfold res_main_v61 at hd
  unfold res_main_v87
  have e : A.df = fun i l => dnorm (A.f i) (fun k => 1 / 2 * A.dh i k * A.gp k) l := by
    funext i l
    rw [Args.df, H.s]
    simp only [mul_comm (1 / 2 : ℝ)]
  rw [e]
  refine vjp_eq (X := A.f) (Y := fun i l => 1 / 2 * A.dh i l * A.gp l) H.f ?_
  refine gain_eq ?_ H.gp
  refine half_eq (cast_eq ?_)
  exact hd

set_option maxHeartbeats 1600000 in
theorem dgp_eq : res_main_v86 m c = mat fun _ l => ∑ i, A.dgp i l := by
  have hd : res_main_v61 m c = mat A.dh := dh_eq H
  unfold res_main_v61 at hd
  unfold res_main_v86
  have e : A.dgp = fun i l => A.f i l * rr (A.f i) * (1 / 2 * A.dh i l) := by
    funext i l
    rw [Args.dgp, H.s]
    ring
  rw [e]
  refine sum_eq ?_
  refine mul_eq ?_ ?_
  · exact norm_eq H.f
  refine half_eq (cast_eq ?_)
  exact hd

end Cert.PleDxRefIdeal.Value
-- ==== Proof.PleDx.Claim.lean ====
/-
  The claim about the input gate's projection: at finite arguments the kernel and its reference end with the same arrays.
-/
module

public import proofs.«01_k».proof.Defs
public import proofs.«01_k».proof.Proof.PleDx.Kernel
public import proofs.«01_k».proof.Proof.PleDx.Reference

@[expose] public section
set_option maxRecDepth 16384
noncomputable section
open Idealize.ShloMosaic Idealize.ShloMosaic.TcCoe Idealize.SL.Sem Cert.Reals Cert.Dx Cert.HostNorm

namespace Cert.PleDx

/-- Finite arguments hold reals. -/
theorem holds [Cert.Pre_ple_dx_finite.Facts] (m : (ℓ : Loc Cert.PleDxIdeal.nD Cert.PleDxIdeal.τ Cert.PleDxIdeal.sig) → Buf (Elt Ideal) ℓ)
    (h : Cert.Pre_PleDxIdeal_ple_dx_finite m) (c : Dev Cert.PleDxIdeal.nD) : ∃ A w e, Cert.PleDxIdeal.Value.Holds m c A w e := by
  have hc := h c
  obtain ⟨hc, h6⟩ := andi_split hc
  obtain ⟨hc, h5⟩ := andi_split hc
  obtain ⟨hc, h4⟩ := andi_split hc
  obtain ⟨hc, h3⟩ := andi_split hc
  obtain ⟨hc, h2⟩ := andi_split hc
  obtain ⟨h0, h1⟩ := andi_split hc
  obtain ⟨X0, H0⟩ := lift_matrix _ _ h0
  obtain ⟨X1, H1⟩ := lift_matrix _ _ h1
  obtain ⟨X2, H2⟩ := lift_gain _ _ h2
  obtain ⟨X3, H3⟩ := lift_gain _ _ h3
  obtain ⟨W, hW⟩ := lift_of_finite _ _ h4
  obtain ⟨X5, H5⟩ := lift_matrix _ _ h5
  obtain ⟨X6, H6⟩ := lift_matrix _ _ h6
  refine ⟨⟨X0, X1, X2, X3, 1 / 2, fun i l => ∑ k, X6 i k * W (ix3 0 l k), X5⟩, fun l k => W (ix3 0 l k), X6, H0, H1, H2, H3, ?_, H5, H6, rfl, rfl⟩
  rw [hW]
  funext j
  idx_vars j
  obtain rfl : j0 = 0 := Subsingleton.elim _ _
  rfl

theorem algebraic [Cert.Pre_ple_dx_finite.Facts] : Cert.algebraic_PleDxIdeal_PleDxRefIdeal_pre_ple_dx_finite := by
  pair_intro
  · run_from Cert.PleDxIdeal.Value.run_blocks m g
  · run_from Cert.PleDxRefIdeal.Value.run m' g'
    all_goals obtain ⟨A, w, e, h⟩ := holds m hpre c
    all_goals obtain ⟨a0, a1, a2, a3, a4, a5, a6⟩ := hagree c
    all_goals have h' : Cert.PleDxRefIdeal.Value.Holds m' c A w e :=
      ⟨a0.trans h.h, a1.trans h.f, a2.trans h.gp, a3.trans h.g, a4.trans h.hw, a5.trans h.d, a6.trans h.he, h.s, h.p⟩
    · exact (Cert.PleDxRefIdeal.Value.dh_eq h').trans (Cert.PleDxIdeal.Value.final_dh h).symm
    · refine Eq.trans ?_ (Cert.PleDxIdeal.Value.final_dg h).symm
      rw [show A.dg = fun i l => A.x i l * rr (A.x i) * A.p i l from funext fun i => funext fun l => mul_comm _ _, h.h, h.f, h.gp, h.hw, h.he]
      refine sum_eq (mul_eq (norm_eq ?_) ?_)
      · rw [Cert.PleDxRefIdeal.Value.x_eq h']
        exact add_eq rfl (half_eq (gain_eq (norm_eq rfl) rfl))
      · rw [h.p]
        exact Cert.PleDxRefIdeal.Value.dot_eq
    · exact (Cert.PleDxRefIdeal.Value.df_eq h').trans (Cert.PleDxIdeal.Value.final_df h).symm
    · exact (Cert.PleDxRefIdeal.Value.dgp_eq h').trans (Cert.PleDxIdeal.Value.final_dgp h).symm

end Cert.PleDx
-- ==== Proof.Ffn2Dx.Kernel.lean ====
/-
  What the kernel of the second FFN's up projections leaves in its four result arrays at finite arguments. A pair of grid
  points handles 512 tokens: the first keeps the products over half of the hidden width, the second adds the other half's and
  forms the gradients.
-/
module

public import proofs.«01_k».proof.Proof.Math.Residual
public import proofs.«01_k».proof.Proof.Gen.Ffn2DxIdeal.Value
public import Idealize.ShloMosaic.Lib.Pipeline.ReadBack

@[expose] public section
set_option maxRecDepth 16384
noncomputable section
namespace Cert.Ffn2DxIdeal.Value
open Cert.Ffn2DxIdeal Cert.Ffn2DxIdeal.Gen Idealize.ShloMosaic Idealize.ShloMosaic.TcCoe Idealize.SL.Sem Cert.Reals Cert.Dx

variable {m : (ℓ : Loc nD τ sig) → Buf (Elt Ideal) ℓ} {c : Dev nD}

/-- Which blocks point `t` reads and writes. -/
theorem idx : ∀ t : Fin cfg0.N, win0_0.index t = ![t.val / 2, t.val % 2] ∧ win0_1.index t = ![t.val % 2, 0] ∧ win0_2.index t = ![t.val / 2, t.val % 2]
    ∧ win0_3.index t = ![t.val % 2, 0] ∧ win0_4.index t = ![t.val / 2, 0] ∧ win0_5.index t = ![t.val / 2, 0] ∧ win0_6.index t = ![0, 0]
    ∧ win0_7.index t = ![t.val / 2, 0] ∧ win0_8.index t = ![0, 0] ∧ win0_9.index t = ![t.val / 2, 0] ∧ win0_11.index t = ![t.val / 2, 0]
    ∧ (win0_9.flush t = true → t.val % 2 = 1) ∧ (win0_11.flush t = true → t.val % 2 = 1) ∧ t.val < 16 :=
  (by decide +kernel : ∀ t : Fin grid0.N, _)
theorem point_lt (t : Fin cfg0.N) : t.val < 16 := (idx t).2.2.2.2.2.2.2.2.2.2.2.2.2

/-- The token that row `r` of point `t`'s blocks is, and the hidden channel that column `k` is. -/
def row (t : Fin cfg0.N) (r : Fin 512) : Fin 4096 := ⟨t.val / 2 * 512 + r.val, by have := point_lt t; omega⟩
@[inherit_doc row]
def col (t : Fin cfg0.N) (k : Fin 1408) : Fin 2816 := ⟨t.val % 2 * 1408 + k.val, by omega⟩

variable (m c) in
/-- The argument arrays hold these reals: the projections are `wg` and `wu`, the cotangents of their results `dg` and `du`. -/
structure Holds (A : Args) (wg wu : Fin 1024 → Fin 2816 → ℝ) (dg du : Fin 4096 → Fin 2816 → ℝ) : Prop where
  h : m ((c.tc : Thread nD τ).loc main_arg0) = mat A.h
  f : m ((c.tc : Thread nD τ).loc main_arg1) = mat A.f
  gp : m ((c.tc : Thread nD τ).loc main_arg2) = mat fun _ => A.gp
  g : m ((c.tc : Thread nD τ).loc main_arg3) = mat fun _ => A.g
  hwg : m ((c.tc : Thread nD τ).loc main_arg4) = fun j => (wg (j 1) (j 2) : EReal)
  hwu : m ((c.tc : Thread nD τ).loc main_arg5) = fun j => (wu (j 1) (j 2) : EReal)
  d : m ((c.tc : Thread nD τ).loc main_arg6) = mat A.d
  hdg : m ((c.tc : Thread nD τ).loc main_arg7) = mat dg
  hdu : m ((c.tc : Thread nD τ).loc main_arg8) = mat du
  s : A.s = 1
  p : A.p = fun i l => ∑ k, dg i k * wg l k + ∑ k, du i k * wu l k

/-- A chunk of the products kept in the scratch buffer, loaded back after they were stored whole. -/
theorem kept (o : ℕ) (inb) (inb') (X : Fin 512 → Fin 1024 → ℝ) (q : Fin 4) (ho : o = q.val * 128) :
    (View.whole cc0_scratch0).readCov (Val := Elt Ideal) [⟨Rect.unit ![0, 0] ![512, 1024] inb, mat X⟩] (Rect.unit ![o, 0] ![128, 1024] inb').toLoadRect
      = mat fun r => X (chunk q r) :=
  (View.readCov_fill _ _ _ _ _ (by decide)).trans (ld_chunk X q ho inb')

variable {A : Args} {wg wu : Fin 1024 → Fin 2816 → ℝ} {dg du : Fin 4096 → Fin 2816 → ℝ} (H : Holds m c A wg wu dg du)
include H
theorem blk0 (t : Fin cfg0.N) : (iblk m c 0 t : FVec Ideal S512x1408 .bf16) = mat fun r k => dg (row t r) (col t k) := by
  funext y
  idx_vars y
  refine Eq.trans ?_ (congrFun H.hdg (ix2 (row t y0) (col t y1)))
  blk_ext! [iblk, V, idx t, row, col]
theorem blk1 (t : Fin cfg0.N) : (iblk m c 1 t : FVec Ideal S1408x1024 .bf16) = mat fun k l => wg l (col t k) := by
  funext y
  idx_vars y
  refine Eq.trans ?_ (congrFun H.hwg (ix3 0 y1 (col t y0)))
  blk_ext! [iblk, idx t, col]
theorem blk2 (t : Fin cfg0.N) : (iblk m c 2 t : FVec Ideal S512x1408 .bf16) = mat fun r k => du (row t r) (col t k) := by
  funext y
  idx_vars y
  refine Eq.trans ?_ (congrFun H.hdu (ix2 (row t y0) (col t y1)))
  blk_ext! [iblk, V, idx t, row, col]
theorem blk3 (t : Fin cfg0.N) : (iblk m c 3 t : FVec Ideal S1408x1024 .bf16) = mat fun k l => wu l (col t k) := by
  funext y
  idx_vars y
  refine Eq.trans ?_ (congrFun H.hwu (ix3 0 y1 (col t y0)))
  blk_ext! [iblk, idx t, col]
theorem blk4 (t : Fin cfg0.N) : (iblk m c 4 t : FVec Ideal S512x1024 .f32) = mat fun r => A.x (row t r) := by
  funext y
  idx_vars y
  have he : (win0_4.blk t).view.emb (ix2 y0 y1) = ix2 (row t y0) y1 := by blk_ext [idx t, row]
  refine ((congrArg (V m c (Pipeline.arrRef spec0 4)) he).trans ?_ : _ = mat A.x (ix2 (row t y0) y1))
  generalize row t y0 = i
  have h0 : m (c, Proc.tc.devRef main_arg0) = mat A.h := H.h
  have h1 : m (c, Proc.tc.devRef main_arg1) = mat A.f := H.f
  have h2 : m (c, Proc.tc.devRef main_arg2) = mat fun _ => A.gp := H.gp
  entry_read
  pointwise
  rw [h0, h1, h2]
  simp only [mat_ix2, read, push]
  rw [Args.x, H.s, one_mul]
theorem blk5 (t : Fin cfg0.N) : (iblk m c 5 t : FVec Ideal S512x1024 .f32) = mat fun r => A.d (row t r) := by
  funext y
  idx_vars y
  refine Eq.trans ?_ (congrFun H.d (ix2 (row t y0) y1))
  blk_ext! [iblk, V, idx t, row]
theorem blk6 (t : Fin cfg0.N) : (iblk m c 6 t : FVec Ideal S1x1024 .f32) = mat fun _ => A.g := by
  funext y
  idx_vars y
  refine Eq.trans ?_ (congrFun H.g (ix2 0 y1))
  blk_ext! [iblk, idx t]
theorem blk7 (t : Fin cfg0.N) : (iblk m c 7 t : FVec Ideal S512x1024 .f32) = mat fun r => A.f (row t r) := by
  funext y
  idx_vars y
  refine Eq.trans ?_ (congrFun H.f (ix2 (row t y0) y1))
  blk_ext! [iblk, V, idx t, row]
theorem blk8 (t : Fin cfg0.N) : (iblk m c 8 t : FVec Ideal S1x1024 .f32) = mat fun _ => A.gp := by
  funext y
  idx_vars y
  refine Eq.trans ?_ (congrFun H.gp (ix2 0 y1))
  blk_ext! [iblk, idx t]

omit H in
/-- A block's part of the product. -/
theorem part (t : Fin cfg0.N) : k0_pay1 (F := Ideal) (mat fun r k => dg (row t r) (col t k)) (mat fun k l => wg l (col t k))
      (mat fun r k => du (row t r) (col t k)) (mat fun k l => wu l (col t k))
    = mat fun r l => ∑ k, dg (row t r) (col t k) * wg l (col t k) + ∑ k, du (row t r) (col t k) * wu l (col t k) := by
  funext y
  idx_vars y
  pointwise [k0_pay1]
  simp only [mat_ix2, push]

omit H in
/-- The two halves of a sum over the hidden channels. -/
theorem halves (t t' : Fin cfg0.N) (h0 : t.val % 2 = 0) (h1 : t'.val % 2 = 1) (f : Fin 2816 → ℝ) : ∑ k, f (col t k) + ∑ k, f (col t' k) = ∑ k, f k := by
  have h := sum_rows (N := 2) (n := 1408) (L := 2816) rfl (fun p k => ⟨p.val * 1408 + k.val, by omega⟩) (fun _ _ => rfl) f
  rw [coe_sum] at h
  rw [← EReal.coe_injective h, Fin.sum_univ_two]
  simp only [col, h0, h1]
  rfl

/-- The kept products at the second point of a pair. -/
theorem carried (t : Fin cfg0.N) (h1 : t.val % 2 = 1) : ((outsAt0 m c (t.val - 1) (by omega)).2.2.2.2 : FVec Ideal S512x1024 .f32)
    = mat fun r l => ∑ k, dg (row t r) (col ⟨t.val - 1, by omega⟩ k) * wg l (col ⟨t.val - 1, by omega⟩ k)
        + ∑ k, du (row t r) (col ⟨t.val - 1, by omega⟩ k) * wu l (col ⟨t.val - 1, by omega⟩ k) := by
  have e := outsAt0_A m c ⟨t.val - 1, by omega⟩ (by show (t.val - 1) % 2 = 0; omega) (by show ¬(t.val - 1) % 2 = 1; omega) (by show ¬(t.val - 1) % 2 = 1; omega)
  have hr (r : Fin 512) : row ⟨t.val - 1, by omega⟩ r = row t r := Fin.ext (by simp only [row]; omega)
  refine (congrArg (fun x => x.2.2.2.2) e).trans ?_
  clear e
  frame_out
  rw [k0_pay2, blk0 H, blk1 H, blk2 H, blk3 H, part]
  simp only [hr]
  exact shapeCast_self _ _

/-- The whole products, formed at the second point of a pair. -/
theorem whole (t : Fin cfg0.N) (h1 : t.val % 2 = 1) : k0_pay3 (F := Ideal) (iblk m c 0 t) (iblk m c 1 t) (iblk m c 2 t) (iblk m c 3 t) (outsAt0 m c (t.val - 1) (by omega)).2.2.2.2
    = mat fun r => A.p (row t r) := by
  rw [blk0 H, blk1 H, blk2 H, blk3 H, carried H t h1, k0_pay3, part]
  funext y
  idx_vars y
  pointwise
  simp only [mat_ix2, push, H.p]
  rw [← halves ⟨t.val - 1, by omega⟩ t (by show (t.val - 1) % 2 = 0; omega) h1 fun k => dg (row t y0) k * wg y1 k,
    ← halves ⟨t.val - 1, by omega⟩ t (by show (t.val - 1) % 2 = 0; omega) h1 fun k => du (row t y0) k * wu y1 k]
  refine congrArg (fun r : ℝ => (r : EReal)) ?_
  ring

theorem out9 (t : Fin cfg0.N) (h1 : t.val % 2 = 1) (y : S512x1024.Idx) :
    ((outsAt0 m c t.val t.isLt).1 : FVec Ideal S512x1024 .f32) y = (A.dh (row t (y 0)) (y 1) : EReal) := by
  by_cases h2 : t.val < 2
  rw [outsAt0_B m c t (by omega) h1 h1 h2 (by omega) h2 (by omega)]
  rotate_left
  rw [outsAt0_C m c t (by omega) h1 h1 h2 (by omega) h2 (by omega)]
  all_goals
    frame_out
    rw [read_unread_whole, whole H t h1]
    clear h1 h2
    rw [kept 0 _ _ _ 0 rfl, kept 128 _ _ _ 1 rfl, kept 256 _ _ _ 2 rfl, kept 384 _ _ _ 3 rfl]
    simp only [blk4 H, blk5 H, blk6 H, ld_chunk (o := 0) _ 0 rfl, ld_chunk (o := 128) _ 1 rfl, ld_chunk (o := 256) _ 2 rfl, ld_chunk (o := 384) _ 3 rfl]
    canon_tiles x h' using (View.cover_of_tiledBy (s := S512x1024) _ ![128,1024] (by sl_kernel_rfl) y)
  all_goals
    idx_vars x
    open_payloads
    pointwise
    simp only [mat_ix2, Reals.read, push]
    rw [show y 1 = x1 from Fin.ext h'1]
    first
    | rw [eq_chunk (o := 384) 3 rfl h'0]
    | rw [eq_chunk (o := 256) 2 rfl h'0]
    | rw [eq_chunk (o := 128) 1 rfl h'0]
    | rw [eq_chunk (o := 0) 0 rfl (h'0.trans (Nat.zero_add _).symm)]
    rfl

theorem out11 (t : Fin cfg0.N) (h1 : t.val % 2 = 1) (y : S512x1024.Idx) :
    ((outsAt0 m c t.val t.isLt).2.2.1 : FVec Ideal S512x1024 .bf16) y = (A.df (row t (y 0)) (y 1) : EReal) := by
  by_cases h2 : t.val < 2
  rw [outsAt0_B m c t (by omega) h1 h1 h2 (by omega) h2 (by omega)]
  rotate_left
  rw [outsAt0_C m c t (by omega) h1 h1 h2 (by omega) h2 (by omega)]
  all_goals
    frame_out
    rw [read_unread_whole, whole H t h1]
    clear h1 h2
    rw [kept 0 _ _ _ 0 rfl, kept 128 _ _ _ 1 rfl, kept 256 _ _ _ 2 rfl, kept 384 _ _ _ 3 rfl]
    simp only [blk4 H, blk5 H, blk6 H, blk7 H, blk8 H, ld_chunk (o := 0) _ 0 rfl, ld_chunk (o := 128) _ 1 rfl, ld_chunk (o := 256) _ 2 rfl, ld_chunk (o := 384) _ 3 rfl]
    canon_tiles x h' using (View.cover_of_tiledBy (s := S512x1024) _ ![128,1024] (by sl_kernel_rfl) y)
  all_goals
    idx_vars x
    open_payloads
    pointwise
    simp only [mat_ix2, Reals.read, push]
    rw [show y 1 = x1 from Fin.ext h'1]
    first
    | rw [eq_chunk (o := 384) 3 rfl h'0]
    | rw [eq_chunk (o := 256) 2 rfl h'0]
    | rw [eq_chunk (o := 128) 1 rfl h'0]
    | rw [eq_chunk (o := 0) 0 rfl (h'0.trans (Nat.zero_add _).symm)]
    rw [Args.df, H.s]
    simp only [mul_one]
    rfl

theorem out10 (t : Fin cfg0.N) (h1 : t.val % 2 = 1) (y : S1x1024.Idx) (q : S1x1024.Idx → EReal)
    (hq : (outsAt0 m c (t.val - 1) (by omega)).2.1 = q) :
    ((outsAt0 m c t.val t.isLt).2.1 : FVec Ideal S1x1024 .f32) y = (if t.val < 2 then 0 else q y) + ((∑ r, A.dg (row t r) (y 1) : ℝ) : EReal) := by
  by_cases h2 : t.val < 2
  rw [outsAt0_B m c t (by omega) h1 h1 h2 (by omega) h2 (by omega), if_pos h2]
  rotate_left
  rw [outsAt0_C m c t (by omega) h1 h1 h2 (by omega) h2 (by omega), if_neg h2]
  all_goals
    frame_out
    try rw [hq]
    rw [read_unread_whole, whole H t h1]
    clear h1 h2 hq
    rw [kept 0 _ _ _ 0 rfl, kept 128 _ _ _ 1 rfl, kept 256 _ _ _ 2 rfl, kept 384 _ _ _ 3 rfl]
    simp only [blk4 H, ld_chunk (o := 0) _ 0 rfl, ld_chunk (o := 128) _ 1 rfl, ld_chunk (o := 256) _ 2 rfl, ld_chunk (o := 384) _ 3 rfl]
    idx_vars y
    open_payloads
    pointwise
    simp only [mat_ix2, Reals.read, push]
    first
    | exact congrArg (fun r : ℝ => (r : EReal)) (four_chunks fun r => A.dg (row t r) y1)
    | exact congrArg (fun r : ℝ => q (ix2 y0 y1) + (r : EReal)) (four_chunks fun r => A.dg (row t r) y1)

omit H in
theorem idle10 (t : Fin cfg0.N) (h0 : t.val % 2 = 0) : (outsAt0 m c t.val t.isLt).2.1 = (outsAt0 m c (t.val - 1) (by omega)).2.1 := by
  rw [outsAt0_A m c t h0 (by omega) (by omega)]
  rfl

theorem out12 (t : Fin cfg0.N) (h1 : t.val % 2 = 1) (y : S1x1024.Idx) (q : S1x1024.Idx → EReal)
    (hq : (outsAt0 m c (t.val - 1) (by omega)).2.2.2.1 = q) :
    ((outsAt0 m c t.val t.isLt).2.2.2.1 : FVec Ideal S1x1024 .f32) y = (if t.val < 2 then 0 else q y) + ((∑ r, A.dgp (row t r) (y 1) : ℝ) : EReal) := by
  by_cases h2 : t.val < 2
  rw [outsAt0_B m c t (by omega) h1 h1 h2 (by omega) h2 (by omega), if_pos h2]
  rotate_left
  rw [outsAt0_C m c t (by omega) h1 h1 h2 (by omega) h2 (by omega), if_neg h2]
  all_goals
    frame_out
    try rw [hq]
    rw [read_unread_whole, whole H t h1]
    clear h1 h2 hq
    rw [kept 0 _ _ _ 0 rfl, kept 128 _ _ _ 1 rfl, kept 256 _ _ _ 2 rfl, kept 384 _ _ _ 3 rfl]
    simp only [blk4 H, blk5 H, blk6 H, blk7 H, ld_chunk (o := 0) _ 0 rfl, ld_chunk (o := 128) _ 1 rfl, ld_chunk (o := 256) _ 2 rfl, ld_chunk (o := 384) _ 3 rfl]
    idx_vars y
    open_payloads
    pointwise
    simp only [mat_ix2, Reals.read, push]
    rw [show (∑ r, A.dgp (row t r) y1 : ℝ) = ∑ r, A.dh (row t r) y1 * (A.f (row t r) y1 * rr (A.f (row t r))) from
      Finset.sum_congr rfl fun r _ => by rw [Args.dgp, H.s, mul_one]]
    first
    | exact congrArg (fun r : ℝ => (r : EReal)) (four_chunks fun r => A.dh (row t r) y1 * (A.f (row t r) y1 * rr (A.f (row t r))))
    | exact congrArg (fun r : ℝ => q (ix2 y0 y1) + (r : EReal)) (four_chunks fun r => A.dh (row t r) y1 * (A.f (row t r) y1 * rr (A.f (row t r))))

omit H in
theorem idle12 (t : Fin cfg0.N) (h0 : t.val % 2 = 0) : (outsAt0 m c t.val t.isLt).2.2.2.1 = (outsAt0 m c (t.val - 1) (by omega)).2.2.2.1 := by
  rw [outsAt0_A m c t h0 (by omega) (by omega)]
  rfl

/-! ## The result arrays -/

/-- The second of the two points at which row block `p` is visited. -/
def odd (p : Fin 8) : Fin cfg0.N := ⟨2 * p.val + 1, lt_of_lt_of_eq (by omega : 2 * p.val + 1 < 16) N_0.symm⟩
theorem odd_mod (p : Fin 8) : (odd p).val % 2 = 1 := by show (2 * p.val + 1) % 2 = 1; omega

theorem final_dh : (dats m 0 c).arrAt 9 (cfgs 0).N = mat A.dh := by
  refine (dats m 0 c).arrAt_eq_of_covers 9 _ (by decide +kernel) fun t hf y => ?_
  rw [after0_9, out9 H t ((idx t).2.2.2.2.2.2.2.2.2.2.2.1 hf)]
  refine congrArg (fun r : ℝ => (r : EReal)) (congrArg₂ A.dh (Fin.ext ?_) (Fin.ext ?_))
  · show t.val / 2 * 512 + _ = _
    blk_simp [idx t]
  · blk_simp [idx t]

theorem final_dg : (dats m 0 c).arrAt 10 (cfgs 0).N = mat fun _ l => ∑ i, A.dg i l := by
  refine (dats m 0 c).arrAt_eq_of_after_last 10 t0_15 (by decide +kernel) _ fun j => ?_
  blk_simp
  rw [after0_10]
  refine (sum_of_pairs N_0 (fun n h => ((outsAt0 m c n h).2.1 : S1x1024.Idx → EReal)) (fun p j => ((∑ r, A.dg (row p r) (j 1) : ℝ) : EReal))
    (fun t h j => out10 H t h j _ rfl) idle10 t0_15 rfl j).trans ?_
  exact sum_rows rfl (fun p => row (odd p)) (fun p r => by show (2 * p.val + 1) / 2 * 512 + r.val = _; rw [show (2 * p.val + 1) / 2 = p.val by omega])
    fun i => A.dg i (j 1)

theorem final_dgp : (dats m 0 c).arrAt 12 (cfgs 0).N = mat fun _ l => ∑ i, A.dgp i l := by
  refine (dats m 0 c).arrAt_eq_of_after_last 12 t0_15 (by decide +kernel) _ fun j => ?_
  blk_simp
  rw [after0_12]
  refine (sum_of_pairs N_0 (fun n h => ((outsAt0 m c n h).2.2.2.1 : S1x1024.Idx → EReal)) (fun p j => ((∑ r, A.dgp (row p r) (j 1) : ℝ) : EReal))
    (fun t h j => out12 H t h j _ rfl) idle12 t0_15 rfl j).trans ?_
  exact sum_rows rfl (fun p => row (odd p)) (fun p r => by show (2 * p.val + 1) / 2 * 512 + r.val = _; rw [show (2 * p.val + 1) / 2 = p.val by omega])
    fun i => A.dgp i (j 1)

theorem final_df : (dats m 0 c).arrAt 11 (cfgs 0).N = mat A.df := by
  refine (dats m 0 c).arrAt_eq_of_covers 11 _ (by decide +kernel) fun t hf y => ?_
  rw [after0_11, out11 H t ((idx t).2.2.2.2.2.2.2.2.2.2.2.2.1 hf)]
  refine congrArg (fun r : ℝ => (r : EReal)) (congrArg₂ A.df (Fin.ext ?_) (Fin.ext ?_))
  · show t.val / 2 * 512 + _ = _
    blk_simp [idx t]
  · blk_simp [idx t]

end Cert.Ffn2DxIdeal.Value
-- ==== Proof.Ffn2Dx.Reference.lean ====
/-
  What the reference of the second feed-forward's projections computes at finite arguments.
-/
module

public import proofs.«01_k».proof.Proof.Math.HostNorm
public import proofs.«01_k».proof.Proof.Gen.Ffn2DxRefIdeal.Run

@[expose] public section
set_option maxRecDepth 16384
noncomputable section
namespace Cert.Ffn2DxRefIdeal.Value
open Cert.Ffn2DxRefIdeal Cert.Ffn2DxRefIdeal.Gen Idealize.ShloMosaic Idealize.ShloMosaic.TcCoe Idealize.SL.Sem Cert.Reals Cert.Dx Cert.HostNorm

variable (m : (ℓ : Loc nD τ sig) → Buf (Elt Ideal) ℓ) (c : Dev nD)

/-- The argument arrays hold these reals: the projections are `wg` and `wu`, the cotangents of their results `dg` and `du`. -/
structure Holds (A : Args) (wg wu : Fin 1024 → Fin 2816 → ℝ) (dg du : Fin 4096 → Fin 2816 → ℝ) : Prop where
  h : m ((c.tc : Thread nD τ).loc main_arg0) = mat A.h
  f : m ((c.tc : Thread nD τ).loc main_arg1) = mat A.f
  gp : m ((c.tc : Thread nD τ).loc main_arg2) = mat fun _ => A.gp
  g : m ((c.tc : Thread nD τ).loc main_arg3) = mat fun _ => A.g
  hwg : m ((c.tc : Thread nD τ).loc main_arg4) = fun j => (wg (j 1) (j 2) : EReal)
  hwu : m ((c.tc : Thread nD τ).loc main_arg5) = fun j => (wu (j 1) (j 2) : EReal)
  d : m ((c.tc : Thread nD τ).loc main_arg6) = mat A.d
  hdg : m ((c.tc : Thread nD τ).loc main_arg7) = mat dg
  hdu : m ((c.tc : Thread nD τ).loc main_arg8) = mat du
  s : A.s = 1
  p : A.p = fun i l => ∑ k, dg i k * wg l k + ∑ k, du i k * wu l k

variable {A : Args} {wg wu : Fin 1024 → Fin 2816 → ℝ} {dg du : Fin 4096 → Fin 2816 → ℝ}

/-- The written product of a cotangent with a projection. -/
theorem dot_eq (e : Fin 4096 → Fin 2816 → ℝ) (w : Fin 1024 → Fin 2816 → ℝ) :
    (Host.dotGeneral (φ₁ := .f32) (φ₂ := .f32) dot_S4096x2816_S1024x2816_S4096x1024_1_1_0_0_n_n none
      (extf .f32 (mat e : FVec Ideal S4096x2816 .bf16) bitsLt_bf16_f32)
      (shapeCast S1024x2816 (fun j => (w (j 1) (j 2) : EReal) : FVec Ideal S1x1024x2816 .f32) shapeCasts_S1x1024x2816_S1024x2816) : FVec Ideal S4096x1024 .f32)
      = mat fun i l => ∑ k, e i k * w l k := by
  funext j
  idx_vars j
  pointwise
  simp only [mat_ix2, Reals.read, push]

variable {m c} (H : Holds m c A wg wu dg du)
include H

theorem sum_dots : A.p = fun i l => ∑ k, du i k * wu l k + ∑ k, dg i k * wg l k := by
  rw [H.p]
  funext i l
  exact add_comm _ _

theorem x_eq : A.x = fun i l => A.h i l + A.f i l * rr (A.f i) * A.gp l := by
  funext i l
  rw [Args.x, H.s, one_mul]

theorem dh_eq : res_main_v64 m c = mat A.dh := by
  unfold res_main_v64
  rw [H.h, H.f, H.gp, H.g, H.hwg, H.hwu, H.d, H.hdg, H.hdu]
  refine add_vjp_eq (X := A.x) (Y := fun i l => A.p i l * A.g l) (D := A.d) ?_ ?_ rfl
  · rw [x_eq H]
    exact add_eq rfl (gain_eq (norm_eq rfl) rfl)
  · rw [sum_dots H]
    exact gain_eq (add_eq (dot_eq du wu) (dot_eq dg wg)) rfl

set_option maxHeartbeats 1600000 in
theorem df_eq : res_main_v88 m c = mat A.df := by
  have hd : res_main_v64 m c = mat A.dh := dh_eq H
  unfold res_main_v64 at hd
  unfold res_main_v88
  have e : A.df = fun i l => dnorm (A.f i) (fun k => A.dh i k * A.gp k) l := by
    funext i l
    rw [Args.df, H.s]
    simp only [mul_one]
  rw [e]
  refine vjp_eq (X := A.f) (Y := fun i l => A.dh i l * A.gp l) H.f ?_
  refine gain_eq ?_ H.gp
  refine cast_eq ?_
  exact hd

set_option maxHeartbeats 1600000 in
theorem dgp_eq : res_main_v87 m c = mat fun _ l => ∑ i, A.dgp i l := by
  have hd : res_main_v64 m c = mat A.dh := dh_eq H
  unfold res_main_v64 at hd
  unfold res_main_v87
  have e : A.dgp = fun i l => A.f i l * rr (A.f i) * A.dh i l := by
    funext i l
    rw [Args.dgp, H.s]
    ring
  rw [e]
  refine sum_eq ?_
  refine mul_eq ?_ ?_
  · exact norm_eq H.f
  refine cast_eq ?_
  exact hd

end Cert.Ffn2DxRefIdeal.Value
-- ==== Proof.Ffn2Dx.Claim.lean ====
/-
  The claim about the second feed-forward's projections: at finite arguments the kernel and its reference end with the same arrays.
-/
module

public import proofs.«01_k».proof.Defs
public import proofs.«01_k».proof.Proof.Ffn2Dx.Kernel
public import proofs.«01_k».proof.Proof.Ffn2Dx.Reference

@[expose] public section
set_option maxRecDepth 16384
noncomputable section
open Idealize.ShloMosaic Idealize.ShloMosaic.TcCoe Idealize.SL.Sem Cert.Reals Cert.Dx Cert.HostNorm

namespace Cert.Ffn2Dx

/-- Finite arguments hold reals. -/
theorem holds [Cert.Pre_ffn2_dx_finite.Facts] (m : (ℓ : Loc Cert.Ffn2DxIdeal.nD Cert.Ffn2DxIdeal.τ Cert.Ffn2DxIdeal.sig) → Buf (Elt Ideal) ℓ)
    (h : Cert.Pre_Ffn2DxIdeal_ffn2_dx_finite m) (c : Dev Cert.Ffn2DxIdeal.nD) : ∃ A wg wu dg du, Cert.Ffn2DxIdeal.Value.Holds m c A wg wu dg du := by
  have hc := h c
  obtain ⟨hc, h8⟩ := andi_split hc
  obtain ⟨hc, h7⟩ := andi_split hc
  obtain ⟨hc, h6⟩ := andi_split hc
  obtain ⟨hc, h5⟩ := andi_split hc
  obtain ⟨hc, h4⟩ := andi_split hc
  obtain ⟨hc, h3⟩ := andi_split hc
  obtain ⟨hc, h2⟩ := andi_split hc
  obtain ⟨h0, h1⟩ := andi_split hc
  obtain ⟨X0, H0⟩ := lift_matrix _ _ h0
  obtain ⟨X1, H1⟩ := lift_matrix _ _ h1
  obtain ⟨X2, H2⟩ := lift_gain _ _ h2
  obtain ⟨X3, H3⟩ := lift_gain _ _ h3
  obtain ⟨W, hW⟩ := lift_of_finite _ _ h4
  obtain ⟨U, hU⟩ := lift_of_finite _ _ h5
  obtain ⟨X6, H6⟩ := lift_matrix _ _ h6
  obtain ⟨X7, H7⟩ := lift_matrix _ _ h7
  obtain ⟨X8, H8⟩ := lift_matrix _ _ h8
  refine ⟨⟨X0, X1, X2, X3, 1, fun i l => ∑ k, X7 i k * W (ix3 0 l k) + ∑ k, X8 i k * U (ix3 0 l k), X6⟩,
    fun l k => W (ix3 0 l k), fun l k => U (ix3 0 l k), X7, X8, H0, H1, H2, H3, ?_, ?_, H6, H7, H8, rfl, rfl⟩
  · rw [hW]
    funext j
    idx_vars j
    obtain rfl : j0 = 0 := Subsingleton.elim _ _
    rfl
  · rw [hU]
    funext j
    idx_vars j
    obtain rfl : j0 = 0 := Subsingleton.elim _ _
    rfl

set_option maxHeartbeats 3200000 in
theorem algebraic [Cert.Pre_ffn2_dx_finite.Facts] : Cert.algebraic_Ffn2DxIdeal_Ffn2DxRefIdeal_pre_ffn2_dx_finite := by
  pair_intro
  · run_from Cert.Ffn2DxIdeal.Value.run_blocks m g
  · run_from Cert.Ffn2DxRefIdeal.Value.run m' g'
    all_goals obtain ⟨A, wg, wu, dg, du, h⟩ := holds m hpre c
    all_goals obtain ⟨a0, a1, a2, a3, a4, a5, a6, a7, a8⟩ := hagree c
    all_goals have h' : Cert.Ffn2DxRefIdeal.Value.Holds m' c A wg wu dg du :=
      ⟨a0.trans h.h, a1.trans h.f, a2.trans h.gp, a3.trans h.g, a4.trans h.hwg, a5.trans h.hwu, a6.trans h.d, a7.trans h.hdg,
        a8.trans h.hdu, h.s, h.p⟩
    · exact (Cert.Ffn2DxRefIdeal.Value.dh_eq h').trans (Cert.Ffn2DxIdeal.Value.final_dh h).symm
    · refine Eq.trans ?_ (Cert.Ffn2DxIdeal.Value.final_dg h).symm
      rw [show A.dg = fun i l => A.x i l * rr (A.x i) * A.p i l from funext fun i => funext fun l => mul_comm _ _, h.h, h.f, h.gp, h.hwg, h.hwu, h.hdg, h.hdu]
      refine sum_eq (mul_eq (norm_eq ?_) ?_)
      · rw [Cert.Ffn2DxRefIdeal.Value.x_eq h']
        exact add_eq rfl (gain_eq (norm_eq rfl) rfl)
      · rw [Cert.Ffn2DxRefIdeal.Value.sum_dots h']
        exact add_eq (Cert.Ffn2DxRefIdeal.Value.dot_eq du wu) (Cert.Ffn2DxRefIdeal.Value.dot_eq dg wg)
    · exact (Cert.Ffn2DxRefIdeal.Value.df_eq h').trans (Cert.Ffn2DxIdeal.Value.final_df h).symm
    · exact (Cert.Ffn2DxRefIdeal.Value.dgp_eq h').trans (Cert.Ffn2DxIdeal.Value.final_dgp h).symm

end Cert.Ffn2Dx
-- ==== Proof.Ffn1Dx.Kernel.lean ====
/-
  What the kernel of the first FFN's up projections leaves in its two result arrays at finite arguments. A pair of grid
  points handles 512 tokens: the first keeps the products over half of the hidden width, the second adds the other half's and
  forms the gradients.
-/
module

public import proofs.«01_k».proof.Proof.Math.Residual
public import proofs.«01_k».proof.Proof.Gen.Ffn1DxIdeal.Value
public import Idealize.ShloMosaic.Lib.Pipeline.ReadBack

@[expose] public section
set_option maxRecDepth 16384
noncomputable section
namespace Cert.Ffn1DxIdeal.Value
open Cert.Ffn1DxIdeal Cert.Ffn1DxIdeal.Gen Idealize.ShloMosaic Idealize.ShloMosaic.TcCoe Idealize.SL.Sem Cert.Reals Cert.Dx

variable {m : (ℓ : Loc nD τ sig) → Buf (Elt Ideal) ℓ} {c : Dev nD}

/-- Which blocks point `t` reads and writes. -/
theorem idx : ∀ t : Fin cfg0.N, win0_0.index t = ![t.val / 2, t.val % 2] ∧ win0_1.index t = ![t.val % 2, 0] ∧ win0_2.index t = ![t.val / 2, t.val % 2]
    ∧ win0_3.index t = ![t.val % 2, 0] ∧ win0_4.index t = ![t.val / 2, 0] ∧ win0_5.index t = ![t.val / 2, 0] ∧ win0_6.index t = ![0, 0]
    ∧ win0_7.index t = ![t.val / 2, 0] ∧ (win0_7.flush t = true → t.val % 2 = 1) ∧ t.val < 16 :=
  (by decide +kernel : ∀ t : Fin grid0.N, _)
theorem point_lt (t : Fin cfg0.N) : t.val < 16 := (idx t).2.2.2.2.2.2.2.2.2

/-- The token that row `r` of point `t`'s blocks is, and the hidden channel that column `k` is. -/
def row (t : Fin cfg0.N) (r : Fin 512) : Fin 4096 := ⟨t.val / 2 * 512 + r.val, by have := point_lt t; omega⟩
@[inherit_doc row]
def col (t : Fin cfg0.N) (k : Fin 1408) : Fin 2816 := ⟨t.val % 2 * 1408 + k.val, by omega⟩

variable (m c) in
/-- The argument arrays hold these reals: the projections are `wg` and `wu`, the cotangents of their results `dg` and `du`. The
    stream is the given one: nothing is added to it. -/
structure Holds (A : Args) (wg wu : Fin 1024 → Fin 2816 → ℝ) (dg du : Fin 4096 → Fin 2816 → ℝ) : Prop where
  h : m ((c.tc : Thread nD τ).loc main_arg0) = fun j => (A.h (j 1) (j 2) : EReal)
  g : m ((c.tc : Thread nD τ).loc main_arg1) = mat fun _ => A.g
  hwg : m ((c.tc : Thread nD τ).loc main_arg2) = fun j => (wg (j 1) (j 2) : EReal)
  hwu : m ((c.tc : Thread nD τ).loc main_arg3) = fun j => (wu (j 1) (j 2) : EReal)
  d : m ((c.tc : Thread nD τ).loc main_arg4) = mat A.d
  hdg : m ((c.tc : Thread nD τ).loc main_arg5) = mat dg
  hdu : m ((c.tc : Thread nD τ).loc main_arg6) = mat du
  s : A.s = 0
  p : A.p = fun i l => ∑ k, dg i k * wg l k + ∑ k, du i k * wu l k

/-- A chunk of the products kept in the scratch buffer, loaded back after they were stored whole. -/
theorem kept (o : ℕ) (inb) (inb') (X : Fin 512 → Fin 1024 → ℝ) (q : Fin 4) (ho : o = q.val * 128) :
    (View.whole cc0_scratch0).readCov (Val := Elt Ideal) [⟨Rect.unit ![0, 0] ![512, 1024] inb, mat X⟩] (Rect.unit ![o, 0] ![128, 1024] inb').toLoadRect
      = mat fun r => X (chunk q r) :=
  (View.readCov_fill _ _ _ _ _ (by decide)).trans (ld_chunk X q ho inb')

variable {A : Args} {wg wu : Fin 1024 → Fin 2816 → ℝ} {dg du : Fin 4096 → Fin 2816 → ℝ} (H : Holds m c A wg wu dg du)
include H
theorem blk0 (t : Fin cfg0.N) : (iblk m c 0 t : FVec Ideal S512x1408 .bf16) = mat fun r k => dg (row t r) (col t k) := by
  funext y
  idx_vars y
  refine Eq.trans ?_ (congrFun H.hdg (ix2 (row t y0) (col t y1)))
  blk_ext! [iblk, V, idx t, row, col]
theorem blk1 (t : Fin cfg0.N) : (iblk m c 1 t : FVec Ideal S1408x1024 .bf16) = mat fun k l => wg l (col t k) := by
  funext y
  idx_vars y
  refine Eq.trans ?_ (congrFun H.hwg (ix3 0 y1 (col t y0)))
  blk_ext! [iblk, idx t, col]
theorem blk2 (t : Fin cfg0.N) : (iblk m c 2 t : FVec Ideal S512x1408 .bf16) = mat fun r k => du (row t r) (col t k) := by
  funext y
  idx_vars y
  refine Eq.trans ?_ (congrFun H.hdu (ix2 (row t y0) (col t y1)))
  blk_ext! [iblk, V, idx t, row, col]
theorem blk3 (t : Fin cfg0.N) : (iblk m c 3 t : FVec Ideal S1408x1024 .bf16) = mat fun k l => wu l (col t k) := by
  funext y
  idx_vars y
  refine Eq.trans ?_ (congrFun H.hwu (ix3 0 y1 (col t y0)))
  blk_ext! [iblk, idx t, col]
theorem blk4 (t : Fin cfg0.N) : (iblk m c 4 t : FVec Ideal S512x1024 .f32) = mat fun r => A.x (row t r) := by
  funext y
  idx_vars y
  refine Eq.trans (b := (A.h (row t y0) y1 : EReal)) ?_ (by rw [mat_ix2, Args.x, H.s, zero_mul, add_zero])
  refine Eq.trans ?_ (congrFun H.h (ix3 0 (row t y0) y1))
  blk_ext! [iblk, idx t, row]
theorem blk5 (t : Fin cfg0.N) : (iblk m c 5 t : FVec Ideal S512x1024 .f32) = mat fun r => A.d (row t r) := by
  funext y
  idx_vars y
  refine Eq.trans ?_ (congrFun H.d (ix2 (row t y0) y1))
  blk_ext! [iblk, V, idx t, row]
theorem blk6 (t : Fin cfg0.N) : (iblk m c 6 t : FVec Ideal S1x1024 .f32) = mat fun _ => A.g := by
  funext y
  idx_vars y
  refine Eq.trans ?_ (congrFun H.g (ix2 0 y1))
  blk_ext! [iblk, idx t]
omit H in
/-- A block's part of the product. -/
theorem part (t : Fin cfg0.N) : k0_pay1 (F := Ideal) (mat fun r k => dg (row t r) (col t k)) (mat fun k l => wg l (col t k))
      (mat fun r k => du (row t r) (col t k)) (mat fun k l => wu l (col t k))
    = mat fun r l => ∑ k, dg (row t r) (col t k) * wg l (col t k) + ∑ k, du (row t r) (col t k) * wu l (col t k) := by
  funext y
  idx_vars y
  pointwise [k0_pay1]
  simp only [mat_ix2, push]

omit H in
/-- The two halves of a sum over the hidden channels. -/
theorem halves (t t' : Fin cfg0.N) (h0 : t.val % 2 = 0) (h1 : t'.val % 2 = 1) (f : Fin 2816 → ℝ) : ∑ k, f (col t k) + ∑ k, f (col t' k) = ∑ k, f k := by
  have h := sum_rows (N := 2) (n := 1408) (L := 2816) rfl (fun p k => ⟨p.val * 1408 + k.val, by omega⟩) (fun _ _ => rfl) f
  rw [coe_sum] at h
  rw [← EReal.coe_injective h, Fin.sum_univ_two]
  simp only [col, h0, h1]
  rfl

/-- The kept products at the second point of a pair. -/
theorem carried (t : Fin cfg0.N) (h1 : t.val % 2 = 1) : ((outsAt0 m c (t.val - 1) (by omega)).2.2 : FVec Ideal S512x1024 .f32)
    = mat fun r l => ∑ k, dg (row t r) (col ⟨t.val - 1, by omega⟩ k) * wg l (col ⟨t.val - 1, by omega⟩ k)
        + ∑ k, du (row t r) (col ⟨t.val - 1, by omega⟩ k) * wu l (col ⟨t.val - 1, by omega⟩ k) := by
  have e := outsAt0_A m c ⟨t.val - 1, by omega⟩ (by show (t.val - 1) % 2 = 0; omega) (by show ¬(t.val - 1) % 2 = 1; omega) (by show ¬(t.val - 1) % 2 = 1; omega)
  have hr (r : Fin 512) : row ⟨t.val - 1, by omega⟩ r = row t r := Fin.ext (by simp only [row]; omega)
  refine (congrArg (fun x => x.2.2) e).trans ?_
  clear e
  frame_out
  rw [k0_pay2, blk0 H, blk1 H, blk2 H, blk3 H, part]
  simp only [hr]
  exact shapeCast_self _ _

/-- The whole products, formed at the second point of a pair. -/
theorem whole (t : Fin cfg0.N) (h1 : t.val % 2 = 1) : k0_pay3 (F := Ideal) (iblk m c 0 t) (iblk m c 1 t) (iblk m c 2 t) (iblk m c 3 t) (outsAt0 m c (t.val - 1) (by omega)).2.2
    = mat fun r => A.p (row t r) := by
  rw [blk0 H, blk1 H, blk2 H, blk3 H, carried H t h1, k0_pay3, part]
  funext y
  idx_vars y
  pointwise
  simp only [mat_ix2, push, H.p]
  rw [← halves ⟨t.val - 1, by omega⟩ t (by show (t.val - 1) % 2 = 0; omega) h1 fun k => dg (row t y0) k * wg y1 k,
    ← halves ⟨t.val - 1, by omega⟩ t (by show (t.val - 1) % 2 = 0; omega) h1 fun k => du (row t y0) k * wu y1 k]
  refine congrArg (fun r : ℝ => (r : EReal)) ?_
  ring

theorem out7 (t : Fin cfg0.N) (h1 : t.val % 2 = 1) (y : S512x1024.Idx) :
    ((outsAt0 m c t.val t.isLt).1 : FVec Ideal S512x1024 .f32) y = (A.dh (row t (y 0)) (y 1) : EReal) := by
  by_cases h2 : t.val < 2
  rw [outsAt0_B m c t (by omega) h1 h1 h2 (by omega)]
  rotate_left
  rw [outsAt0_C m c t (by omega) h1 h1 h2 (by omega)]
  all_goals
    frame_out
    rw [read_unread_whole, whole H t h1]
    clear h1 h2
    rw [kept 0 _ _ _ 0 rfl, kept 128 _ _ _ 1 rfl, kept 256 _ _ _ 2 rfl, kept 384 _ _ _ 3 rfl]
    simp only [blk4 H, blk5 H, blk6 H, ld_chunk (o := 0) _ 0 rfl, ld_chunk (o := 128) _ 1 rfl, ld_chunk (o := 256) _ 2 rfl, ld_chunk (o := 384) _ 3 rfl]
    canon_tiles x h' using (View.cover_of_tiledBy (s := S512x1024) _ ![128,1024] (by sl_kernel_rfl) y)
  all_goals
    idx_vars x
    open_payloads
    pointwise
    simp only [mat_ix2, Reals.read, push]
    rw [show y 1 = x1 from Fin.ext h'1]
    first
    | rw [eq_chunk (o := 384) 3 rfl h'0]
    | rw [eq_chunk (o := 256) 2 rfl h'0]
    | rw [eq_chunk (o := 128) 1 rfl h'0]
    | rw [eq_chunk (o := 0) 0 rfl (h'0.trans (Nat.zero_add _).symm)]
    rfl

theorem out8 (t : Fin cfg0.N) (h1 : t.val % 2 = 1) (y : S1x1024.Idx) (q : S1x1024.Idx → EReal)
    (hq : (outsAt0 m c (t.val - 1) (by omega)).2.1 = q) :
    ((outsAt0 m c t.val t.isLt).2.1 : FVec Ideal S1x1024 .f32) y = (if t.val < 2 then 0 else q y) + ((∑ r, A.dg (row t r) (y 1) : ℝ) : EReal) := by
  by_cases h2 : t.val < 2
  rw [outsAt0_B m c t (by omega) h1 h1 h2 (by omega), if_pos h2]
  rotate_left
  rw [outsAt0_C m c t (by omega) h1 h1 h2 (by omega), if_neg h2]
  all_goals
    frame_out
    try rw [hq]
    rw [read_unread_whole, whole H t h1]
    clear h1 h2 hq
    rw [kept 0 _ _ _ 0 rfl, kept 128 _ _ _ 1 rfl, kept 256 _ _ _ 2 rfl, kept 384 _ _ _ 3 rfl]
    simp only [blk4 H, ld_chunk (o := 0) _ 0 rfl, ld_chunk (o := 128) _ 1 rfl, ld_chunk (o := 256) _ 2 rfl, ld_chunk (o := 384) _ 3 rfl]
    idx_vars y
    open_payloads
    pointwise
    simp only [mat_ix2, Reals.read, push]
    first
    | exact congrArg (fun r : ℝ => (r : EReal)) (four_chunks fun r => A.dg (row t r) y1)
    | exact congrArg (fun r : ℝ => q (ix2 y0 y1) + (r : EReal)) (four_chunks fun r => A.dg (row t r) y1)

omit H in
theorem idle8 (t : Fin cfg0.N) (h0 : t.val % 2 = 0) : (outsAt0 m c t.val t.isLt).2.1 = (outsAt0 m c (t.val - 1) (by omega)).2.1 := by
  rw [outsAt0_A m c t h0 (by omega) (by omega)]
  rfl

/-! ## The result arrays -/

/-- The second of the two points at which row block `p` is visited. -/
def odd (p : Fin 8) : Fin cfg0.N := ⟨2 * p.val + 1, lt_of_lt_of_eq (by omega : 2 * p.val + 1 < 16) N_0.symm⟩
theorem odd_mod (p : Fin 8) : (odd p).val % 2 = 1 := by show (2 * p.val + 1) % 2 = 1; omega

theorem final_dh : (dats m 0 c).arrAt 7 (cfgs 0).N = mat A.dh := by
  refine (dats m 0 c).arrAt_eq_of_covers 7 _ (by decide +kernel) fun t hf y => ?_
  rw [after0_7, out7 H t ((idx t).2.2.2.2.2.2.2.2.1 hf)]
  refine congrArg (fun r : ℝ => (r : EReal)) (congrArg₂ A.dh (Fin.ext ?_) (Fin.ext ?_))
  · show t.val / 2 * 512 + _ = _
    blk_simp [idx t]
  · blk_simp [idx t]

theorem final_dg : (dats m 0 c).arrAt 8 (cfgs 0).N = mat fun _ l => ∑ i, A.dg i l := by
  refine (dats m 0 c).arrAt_eq_of_after_last 8 t0_15 (by decide +kernel) _ fun j => ?_
  blk_simp
  rw [after0_8]
  refine (sum_of_pairs N_0 (fun n h => ((outsAt0 m c n h).2.1 : S1x1024.Idx → EReal)) (fun p j => ((∑ r, A.dg (row p r) (j 1) : ℝ) : EReal))
    (fun t h j => out8 H t h j _ rfl) idle8 t0_15 rfl j).trans ?_
  exact sum_rows rfl (fun p => row (odd p)) (fun p r => by show (2 * p.val + 1) / 2 * 512 + r.val = _; rw [show (2 * p.val + 1) / 2 = p.val by omega])
    fun i => A.dg i (j 1)

end Cert.Ffn1DxIdeal.Value
-- ==== Proof.Ffn1Dx.Reference.lean ====
/-
  What the reference of the first feed-forward's projections computes at finite arguments.
-/
module

public import proofs.«01_k».proof.Proof.Math.HostNorm
public import proofs.«01_k».proof.Proof.Gen.Ffn1DxRefIdeal.Run

@[expose] public section
set_option maxRecDepth 16384
noncomputable section
namespace Cert.Ffn1DxRefIdeal.Value
open Cert.Ffn1DxRefIdeal Cert.Ffn1DxRefIdeal.Gen Idealize.ShloMosaic Idealize.ShloMosaic.TcCoe Idealize.SL.Sem Cert.Reals Cert.Dx Cert.HostNorm

variable (m : (ℓ : Loc nD τ sig) → Buf (Elt Ideal) ℓ) (c : Dev nD)

/-- The argument arrays hold these reals: the projections are `wg` and `wu`, the cotangents of their results `dg` and `du`. The
    stream is the given one: nothing is added to it. -/
structure Holds (A : Args) (wg wu : Fin 1024 → Fin 2816 → ℝ) (dg du : Fin 4096 → Fin 2816 → ℝ) : Prop where
  h : m ((c.tc : Thread nD τ).loc main_arg0) = fun j => (A.h (j 1) (j 2) : EReal)
  g : m ((c.tc : Thread nD τ).loc main_arg1) = mat fun _ => A.g
  hwg : m ((c.tc : Thread nD τ).loc main_arg2) = fun j => (wg (j 1) (j 2) : EReal)
  hwu : m ((c.tc : Thread nD τ).loc main_arg3) = fun j => (wu (j 1) (j 2) : EReal)
  d : m ((c.tc : Thread nD τ).loc main_arg4) = mat A.d
  hdg : m ((c.tc : Thread nD τ).loc main_arg5) = mat dg
  hdu : m ((c.tc : Thread nD τ).loc main_arg6) = mat du
  s : A.s = 0
  p : A.p = fun i l => ∑ k, dg i k * wg l k + ∑ k, du i k * wu l k

variable {A : Args} {wg wu : Fin 1024 → Fin 2816 → ℝ} {dg du : Fin 4096 → Fin 2816 → ℝ}

/-- The written product of a cotangent with a projection. -/
theorem dot_eq (e : Fin 4096 → Fin 2816 → ℝ) (w : Fin 1024 → Fin 2816 → ℝ) :
    (Host.dotGeneral (φ₁ := .f32) (φ₂ := .f32) dot_S4096x2816_S1024x2816_S4096x1024_1_1_0_0_n_n none
      (extf .f32 (mat e : FVec Ideal S4096x2816 .bf16) bitsLt_bf16_f32)
      (shapeCast S1024x2816 (fun j => (w (j 1) (j 2) : EReal) : FVec Ideal S1x1024x2816 .f32) shapeCasts_S1x1024x2816_S1024x2816) : FVec Ideal S4096x1024 .f32)
      = mat fun i l => ∑ k, e i k * w l k := by
  funext j
  idx_vars j
  pointwise
  simp only [mat_ix2, Reals.read, push]

/-- The stream without its unit axis. -/
theorem flat_eq (X : Fin 4096 → Fin 1024 → ℝ) :
    (shapeCast S4096x1024 (fun j => (X (j 1) (j 2) : EReal) : FVec Ideal S1x4096x1024 .f32) shapeCasts_S1x4096x1024_S4096x1024 : FVec Ideal S4096x1024 .f32)
      = mat X := by
  funext j
  idx_vars j
  pointwise
  rfl

variable {m c} (H : Holds m c A wg wu dg du)
include H

theorem sum_dots : A.p = fun i l => ∑ k, du i k * wu l k + ∑ k, dg i k * wg l k := by
  rw [H.p]
  funext i l
  exact add_comm _ _

theorem x_eq : A.x = A.h := by
  funext i l
  rw [Args.x, H.s, zero_mul, add_zero]

theorem dh_eq : res_main_v47 m c = mat A.dh := by
  unfold res_main_v47
  rw [H.h, H.g, H.hwg, H.hwu, H.d, H.hdg, H.hdu]
  refine add_vjp_eq (X := A.x) (Y := fun i l => A.p i l * A.g l) (D := A.d) ?_ ?_ rfl
  · rw [x_eq H]
    exact flat_eq _
  · rw [sum_dots H]
    exact gain_eq (add_eq (dot_eq du wu) (dot_eq dg wg)) rfl

end Cert.Ffn1DxRefIdeal.Value
-- ==== Proof.Ffn1Dx.Claim.lean ====
/-
  The claim about the first feed-forward's projections: at finite arguments the kernel and its reference end with the same arrays.
-/
module

public import proofs.«01_k».proof.Defs
public import proofs.«01_k».proof.Proof.Ffn1Dx.Kernel
public import proofs.«01_k».proof.Proof.Ffn1Dx.Reference

@[expose] public section
set_option maxRecDepth 16384
noncomputable section
open Idealize.ShloMosaic Idealize.ShloMosaic.TcCoe Idealize.SL.Sem Cert.Reals Cert.Dx Cert.HostNorm

namespace Cert.Ffn1Dx

/-- Finite arguments hold reals. -/
theorem holds [Cert.Pre_ffn1_dx_finite.Facts] (m : (ℓ : Loc Cert.Ffn1DxIdeal.nD Cert.Ffn1DxIdeal.τ Cert.Ffn1DxIdeal.sig) → Buf (Elt Ideal) ℓ)
    (h : Cert.Pre_Ffn1DxIdeal_ffn1_dx_finite m) (c : Dev Cert.Ffn1DxIdeal.nD) : ∃ A wg wu dg du, Cert.Ffn1DxIdeal.Value.Holds m c A wg wu dg du := by
  have hc := h c
  obtain ⟨hc, h6⟩ := andi_split hc
  obtain ⟨hc, h5⟩ := andi_split hc
  obtain ⟨hc, h4⟩ := andi_split hc
  obtain ⟨hc, h3⟩ := andi_split hc
  obtain ⟨hc, h2⟩ := andi_split hc
  obtain ⟨h0, h1⟩ := andi_split hc
  obtain ⟨X, hX⟩ := lift_of_finite _ _ h0
  obtain ⟨X1, H1⟩ := lift_gain _ _ h1
  obtain ⟨W, hW⟩ := lift_of_finite _ _ h2
  obtain ⟨U, hU⟩ := lift_of_finite _ _ h3
  obtain ⟨X4, H4⟩ := lift_matrix _ _ h4
  obtain ⟨X5, H5⟩ := lift_matrix _ _ h5
  obtain ⟨X6, H6⟩ := lift_matrix _ _ h6
  refine ⟨⟨fun i l => X (ix3 0 i l), fun _ _ => 0, fun _ => 0, X1, 0, fun i l => ∑ k, X5 i k * W (ix3 0 l k) + ∑ k, X6 i k * U (ix3 0 l k), X4⟩,
    fun l k => W (ix3 0 l k), fun l k => U (ix3 0 l k), X5, X6, ?_, H1, ?_, ?_, H4, H5, H6, rfl, rfl⟩
  · rw [hX]
    funext j
    idx_vars j
    obtain rfl : j0 = 0 := Subsingleton.elim _ _
    rfl
  · rw [hW]
    funext j
    idx_vars j
    obtain rfl : j0 = 0 := Subsingleton.elim _ _
    rfl
  · rw [hU]
    funext j
    idx_vars j
    obtain rfl : j0 = 0 := Subsingleton.elim _ _
    rfl

set_option maxHeartbeats 3200000 in
theorem algebraic [Cert.Pre_ffn1_dx_finite.Facts] : Cert.algebraic_Ffn1DxIdeal_Ffn1DxRefIdeal_pre_ffn1_dx_finite := by
  pair_intro
  · run_from Cert.Ffn1DxIdeal.Value.run_blocks m g
  · run_from Cert.Ffn1DxRefIdeal.Value.run m' g'
    all_goals obtain ⟨A, wg, wu, dg, du, h⟩ := holds m hpre c
    all_goals obtain ⟨a0, a1, a2, a3, a4, a5, a6⟩ := hagree c
    all_goals have h' : Cert.Ffn1DxRefIdeal.Value.Holds m' c A wg wu dg du :=
      ⟨a0.trans h.h, a1.trans h.g, a2.trans h.hwg, a3.trans h.hwu, a4.trans h.d, a5.trans h.hdg, a6.trans h.hdu, h.s, h.p⟩
    · exact (Cert.Ffn1DxRefIdeal.Value.dh_eq h').trans (Cert.Ffn1DxIdeal.Value.final_dh h).symm
    · refine Eq.trans ?_ (Cert.Ffn1DxIdeal.Value.final_dg h).symm
      rw [show A.dg = fun i l => A.x i l * rr (A.x i) * A.p i l from funext fun i => funext fun l => mul_comm _ _, h.h, h.hwg, h.hwu, h.hdg, h.hdu]
      refine sum_eq (mul_eq (norm_eq ?_) ?_)
      · rw [Cert.Ffn1DxRefIdeal.Value.x_eq h']
        exact Cert.Ffn1DxRefIdeal.Value.flat_eq _
      · rw [Cert.Ffn1DxRefIdeal.Value.sum_dots h']
        exact add_eq (Cert.Ffn1DxRefIdeal.Value.dot_eq du wu) (Cert.Ffn1DxRefIdeal.Value.dot_eq dg wg)

end Cert.Ffn1Dx
-- ==== Proof.MixDx.Kernel.lean ====
/-
  What the kernel of the token mixer's input projection leaves in its four result arrays at finite arguments. A pair of grid
  points handles 512 tokens: the first keeps the products over half of the hidden width, the second adds the other half's and
  forms the gradients.
-/
module

public import proofs.«01_k».proof.Proof.Math.Residual
public import proofs.«01_k».proof.Proof.Gen.MixDxIdeal.Value
public import Idealize.ShloMosaic.Lib.Pipeline.ReadBack

@[expose] public section
set_option maxRecDepth 16384
noncomputable section
namespace Cert.MixDxIdeal.Value
open Cert.MixDxIdeal Cert.MixDxIdeal.Gen Idealize.ShloMosaic Idealize.ShloMosaic.TcCoe Idealize.SL.Sem Cert.Reals Cert.Dx

variable {m : (ℓ : Loc nD τ sig) → Buf (Elt Ideal) ℓ} {c : Dev nD}

/-- Which blocks point `t` reads and writes. -/
theorem idx : ∀ t : Fin cfg0.N, win0_0.index t = ![t.val / 2, t.val % 2] ∧ win0_1.index t = ![t.val % 2, 0] ∧ win0_2.index t = ![t.val / 2, 0]
    ∧ win0_3.index t = ![t.val / 2, 0] ∧ win0_4.index t = ![0, 0] ∧ win0_5.index t = ![t.val / 2, 0] ∧ win0_6.index t = ![0, 0]
    ∧ win0_7.index t = ![t.val / 2, 0] ∧ win0_9.index t = ![t.val / 2, 0]
    ∧ (win0_7.flush t = true → t.val % 2 = 1) ∧ (win0_9.flush t = true → t.val % 2 = 1) ∧ t.val < 16 :=
  (by decide +kernel : ∀ t : Fin grid0.N, _)
theorem point_lt (t : Fin cfg0.N) : t.val < 16 := (idx t).2.2.2.2.2.2.2.2.2.2.2

/-- The token that row `r` of point `t`'s blocks is, and the channel of the projection's result that column `k` is. -/
def row (t : Fin cfg0.N) (r : Fin 512) : Fin 4096 := ⟨t.val / 2 * 512 + r.val, by have := point_lt t; omega⟩
@[inherit_doc row]
def col (t : Fin cfg0.N) (k : Fin 2560) : Fin 5120 := ⟨t.val % 2 * 2560 + k.val, by omega⟩

variable (m c) in
/-- The argument arrays hold these reals: the projection is `w`, the cotangent of its result `e`. -/
structure Holds (A : Args) (w : Fin 1024 → Fin 5120 → ℝ) (e : Fin 4096 → Fin 5120 → ℝ) : Prop where
  h : m ((c.tc : Thread nD τ).loc main_arg0) = fun j => (A.h (j 1) (j 2) : EReal)
  f : m ((c.tc : Thread nD τ).loc main_arg1) = mat A.f
  gp : m ((c.tc : Thread nD τ).loc main_arg2) = mat fun _ => A.gp
  g : m ((c.tc : Thread nD τ).loc main_arg3) = mat fun _ => A.g
  hw : m ((c.tc : Thread nD τ).loc main_arg4) = fun j => (w (j 1) (j 2) : EReal)
  d : m ((c.tc : Thread nD τ).loc main_arg5) = mat A.d
  he : m ((c.tc : Thread nD τ).loc main_arg6) = mat e
  s : A.s = 1 / 2
  p : A.p = fun i l => ∑ k, e i k * w l k

/-- A chunk of the products kept in the scratch buffer, loaded back after they were stored whole. -/
theorem kept (o : ℕ) (inb) (inb') (X : Fin 512 → Fin 1024 → ℝ) (q : Fin 4) (ho : o = q.val * 128) :
    (View.whole cc0_scratch0).readCov (Val := Elt Ideal) [⟨Rect.unit ![0, 0] ![512, 1024] inb, mat X⟩] (Rect.unit ![o, 0] ![128, 1024] inb').toLoadRect
      = mat fun r => X (chunk q r) :=
  (View.readCov_fill _ _ _ _ _ (by decide)).trans (ld_chunk X q ho inb')

variable {A : Args} {w : Fin 1024 → Fin 5120 → ℝ} {e : Fin 4096 → Fin 5120 → ℝ} (H : Holds m c A w e)
include H
theorem blk0 (t : Fin cfg0.N) : (iblk m c 0 t : FVec Ideal S512x2560 .bf16) = mat fun r k => e (row t r) (col t k) := by
  funext y
  idx_vars y
  refine Eq.trans ?_ (congrFun H.he (ix2 (row t y0) (col t y1)))
  blk_ext! [iblk, V, idx t, row, col]
theorem blk1 (t : Fin cfg0.N) : (iblk m c 1 t : FVec Ideal S2560x1024 .bf16) = mat fun k l => w l (col t k) := by
  funext y
  idx_vars y
  refine Eq.trans ?_ (congrFun H.hw (ix3 0 y1 (col t y0)))
  blk_ext! [iblk, idx t, col]
theorem blk2 (t : Fin cfg0.N) : (iblk m c 2 t : FVec Ideal S512x1024 .f32) = mat fun r => A.x (row t r) := by
  funext y
  idx_vars y
  have he : (win0_2.blk t).view.emb (ix2 y0 y1) = ix2 (row t y0) y1 := by blk_ext [idx t, row]
  refine ((congrArg (V m c (Pipeline.arrRef spec0 2)) he).trans ?_ : _ = mat A.x (ix2 (row t y0) y1))
  generalize row t y0 = i
  have h0 : m (c, Proc.tc.devRef main_arg0) = (fun j => (A.h (j 1) (j 2) : EReal)) := H.h
  have h1 : m (c, Proc.tc.devRef main_arg1) = mat A.f := H.f
  have h2 : m (c, Proc.tc.devRef main_arg2) = mat fun _ => A.gp := H.gp
  entry_read
  pointwise
  rw [h0, h1, h2]
  simp only [mat_ix2, read, push]
  rw [Args.x, H.s]
  rfl
theorem blk3 (t : Fin cfg0.N) : (iblk m c 3 t : FVec Ideal S512x1024 .f32) = mat fun r => A.d (row t r) := by
  funext y
  idx_vars y
  refine Eq.trans ?_ (congrFun H.d (ix2 (row t y0) y1))
  blk_ext! [iblk, V, idx t, row]
theorem blk4 (t : Fin cfg0.N) : (iblk m c 4 t : FVec Ideal S1x1024 .f32) = mat fun _ => A.g := by
  funext y
  idx_vars y
  refine Eq.trans ?_ (congrFun H.g (ix2 0 y1))
  blk_ext! [iblk, idx t]
theorem blk5 (t : Fin cfg0.N) : (iblk m c 5 t : FVec Ideal S512x1024 .f32) = mat fun r => A.f (row t r) := by
  funext y
  idx_vars y
  refine Eq.trans ?_ (congrFun H.f (ix2 (row t y0) y1))
  blk_ext! [iblk, V, idx t, row]
theorem blk6 (t : Fin cfg0.N) : (iblk m c 6 t : FVec Ideal S1x1024 .f32) = mat fun _ => A.gp := by
  funext y
  idx_vars y
  refine Eq.trans ?_ (congrFun H.gp (ix2 0 y1))
  blk_ext! [iblk, idx t]

omit H in
/-- A block's part of the product. -/
theorem part (t : Fin cfg0.N) : k0_pay1 (F := Ideal) (mat fun r k => e (row t r) (col t k)) (mat fun k l => w l (col t k))
    = mat fun r l => ∑ k, e (row t r) (col t k) * w l (col t k) := by
  funext y
  idx_vars y
  pointwise [k0_pay1]
  simp only [mat_ix2, push]

omit H in
/-- The two halves of a sum over the channel of the projection's results. -/
theorem halves (t t' : Fin cfg0.N) (h0 : t.val % 2 = 0) (h1 : t'.val % 2 = 1) (f : Fin 5120 → ℝ) : ∑ k, f (col t k) + ∑ k, f (col t' k) = ∑ k, f k := by
  have h := sum_rows (N := 2) (n := 2560) (L := 5120) rfl (fun p k => ⟨p.val * 2560 + k.val, by omega⟩) (fun _ _ => rfl) f
  rw [coe_sum] at h
  rw [← EReal.coe_injective h, Fin.sum_univ_two]
  simp only [col, h0, h1]
  rfl

/-- The kept products at the second point of a pair. -/
theorem carried (t : Fin cfg0.N) (h1 : t.val % 2 = 1) : ((outsAt0 m c (t.val - 1) (by omega)).2.2.2.2 : FVec Ideal S512x1024 .f32)
    = mat fun r l => ∑ k, e (row t r) (col ⟨t.val - 1, by omega⟩ k) * w l (col ⟨t.val - 1, by omega⟩ k) := by
  have o := outsAt0_A m c ⟨t.val - 1, by omega⟩ (by show (t.val - 1) % 2 = 0; omega) (by show ¬(t.val - 1) % 2 = 1; omega) (by show ¬(t.val - 1) % 2 = 1; omega)
  have hr (r : Fin 512) : row ⟨t.val - 1, by omega⟩ r = row t r := Fin.ext (by simp only [row]; omega)
  refine (congrArg (fun x => x.2.2.2.2) o).trans ?_
  clear o
  frame_out
  rw [k0_pay2, blk0 H, blk1 H, part]
  simp only [hr]
  exact shapeCast_self _ _

/-- The whole products, formed at the second point of a pair. -/
theorem whole (t : Fin cfg0.N) (h1 : t.val % 2 = 1) : k0_pay3 (F := Ideal) (iblk m c 0 t) (iblk m c 1 t) (outsAt0 m c (t.val - 1) (by omega)).2.2.2.2
    = mat fun r => A.p (row t r) := by
  rw [blk0 H, blk1 H, carried H t h1, k0_pay3, part]
  funext y
  idx_vars y
  pointwise
  simp only [mat_ix2, push, H.p]
  rw [← halves ⟨t.val - 1, by omega⟩ t (by show (t.val - 1) % 2 = 0; omega) h1 fun k => e (row t y0) k * w y1 k]

theorem out7 (t : Fin cfg0.N) (h1 : t.val % 2 = 1) (y : S512x1024.Idx) :
    ((outsAt0 m c t.val t.isLt).1 : FVec Ideal S512x1024 .f32) y = (A.dh (row t (y 0)) (y 1) : EReal) := by
  by_cases h2 : t.val < 2
  rw [outsAt0_B m c t (by omega) h1 h1 h2 (by omega) h2 (by omega)]
  rotate_left
  rw [outsAt0_C m c t (by omega) h1 h1 h2 (by omega) h2 (by omega)]
  all_goals
    frame_out
    rw [read_unread_whole, whole H t h1]
    clear h1 h2
    rw [kept 0 _ _ _ 0 rfl, kept 128 _ _ _ 1 rfl, kept 256 _ _ _ 2 rfl, kept 384 _ _ _ 3 rfl]
    simp only [blk2 H, blk3 H, blk4 H, ld_chunk (o := 0) _ 0 rfl, ld_chunk (o := 128) _ 1 rfl, ld_chunk (o := 256) _ 2 rfl, ld_chunk (o := 384) _ 3 rfl]
    canon_tiles x h' using (View.cover_of_tiledBy (s := S512x1024) _ ![128,1024] (by sl_kernel_rfl) y)
  all_goals
    idx_vars x
    open_payloads
    pointwise
    simp only [mat_ix2, Reals.read, push]
    rw [show y 1 = x1 from Fin.ext h'1]
    first
    | rw [eq_chunk (o := 384) 3 rfl h'0]
    | rw [eq_chunk (o := 256) 2 rfl h'0]
    | rw [eq_chunk (o := 128) 1 rfl h'0]
    | rw [eq_chunk (o := 0) 0 rfl (h'0.trans (Nat.zero_add _).symm)]
    rfl

theorem out9 (t : Fin cfg0.N) (h1 : t.val % 2 = 1) (y : S512x1024.Idx) :
    ((outsAt0 m c t.val t.isLt).2.2.1 : FVec Ideal S512x1024 .bf16) y = (A.df (row t (y 0)) (y 1) : EReal) := by
  by_cases h2 : t.val < 2
  rw [outsAt0_B m c t (by omega) h1 h1 h2 (by omega) h2 (by omega)]
  rotate_left
  rw [outsAt0_C m c t (by omega) h1 h1 h2 (by omega) h2 (by omega)]
  all_goals
    frame_out
    rw [read_unread_whole, whole H t h1]
    clear h1 h2
    rw [kept 0 _ _ _ 0 rfl, kept 128 _ _ _ 1 rfl, kept 256 _ _ _ 2 rfl, kept 384 _ _ _ 3 rfl]
    simp only [blk2 H, blk3 H, blk4 H, blk5 H, blk6 H, ld_chunk (o := 0) _ 0 rfl, ld_chunk (o := 128) _ 1 rfl, ld_chunk (o := 256) _ 2 rfl, ld_chunk (o := 384) _ 3 rfl]
    canon_tiles x h' using (View.cover_of_tiledBy (s := S512x1024) _ ![128,1024] (by sl_kernel_rfl) y)
  all_goals
    idx_vars x
    open_payloads
    pointwise
    simp only [mat_ix2, Reals.read, push]
    rw [show y 1 = x1 from Fin.ext h'1]
    first
    | rw [eq_chunk (o := 384) 3 rfl h'0]
    | rw [eq_chunk (o := 256) 2 rfl h'0]
    | rw [eq_chunk (o := 128) 1 rfl h'0]
    | rw [eq_chunk (o := 0) 0 rfl (h'0.trans (Nat.zero_add _).symm)]
    rw [Args.df, H.s]
    rfl

theorem out8 (t : Fin cfg0.N) (h1 : t.val % 2 = 1) (y : S1x1024.Idx) (q : S1x1024.Idx → EReal)
    (hq : (outsAt0 m c (t.val - 1) (by omega)).2.1 = q) :
    ((outsAt0 m c t.val t.isLt).2.1 : FVec Ideal S1x1024 .f32) y = (if t.val < 2 then 0 else q y) + ((∑ r, A.dg (row t r) (y 1) : ℝ) : EReal) := by
  by_cases h2 : t.val < 2
  rw [outsAt0_B m c t (by omega) h1 h1 h2 (by omega) h2 (by omega), if_pos h2]
  rotate_left
  rw [outsAt0_C m c t (by omega) h1 h1 h2 (by omega) h2 (by omega), if_neg h2]
  all_goals
    frame_out
    try rw [hq]
    rw [read_unread_whole, whole H t h1]
    clear h1 h2 hq
    rw [kept 0 _ _ _ 0 rfl, kept 128 _ _ _ 1 rfl, kept 256 _ _ _ 2 rfl, kept 384 _ _ _ 3 rfl]
    simp only [blk2 H, ld_chunk (o := 0) _ 0 rfl, ld_chunk (o := 128) _ 1 rfl, ld_chunk (o := 256) _ 2 rfl, ld_chunk (o := 384) _ 3 rfl]
    idx_vars y
    open_payloads
    pointwise
    simp only [mat_ix2, Reals.read, push]
    first
    | exact congrArg (fun r : ℝ => (r : EReal)) (four_chunks fun r => A.dg (row t r) y1)
    | exact congrArg (fun r : ℝ => q (ix2 y0 y1) + (r : EReal)) (four_chunks fun r => A.dg (row t r) y1)

omit H in
theorem idle8 (t : Fin cfg0.N) (h0 : t.val % 2 = 0) : (outsAt0 m c t.val t.isLt).2.1 = (outsAt0 m c (t.val - 1) (by omega)).2.1 := by
  rw [outsAt0_A m c t h0 (by omega) (by omega)]
  rfl

theorem out10 (t : Fin cfg0.N) (h1 : t.val % 2 = 1) (y : S1x1024.Idx) (q : S1x1024.Idx → EReal)
    (hq : (outsAt0 m c (t.val - 1) (by omega)).2.2.2.1 = q) :
    ((outsAt0 m c t.val t.isLt).2.2.2.1 : FVec Ideal S1x1024 .f32) y = (if t.val < 2 then 0 else q y) + ((∑ r, A.dgp (row t r) (y 1) : ℝ) : EReal) := by
  by_cases h2 : t.val < 2
  rw [outsAt0_B m c t (by omega) h1 h1 h2 (by omega) h2 (by omega), if_pos h2]
  rotate_left
  rw [outsAt0_C m c t (by omega) h1 h1 h2 (by omega) h2 (by omega), if_neg h2]
  all_goals
    frame_out
    try rw [hq]
    rw [read_unread_whole, whole H t h1]
    clear h1 h2 hq
    rw [kept 0 _ _ _ 0 rfl, kept 128 _ _ _ 1 rfl, kept 256 _ _ _ 2 rfl, kept 384 _ _ _ 3 rfl]
    simp only [blk2 H, blk3 H, blk4 H, blk5 H, ld_chunk (o := 0) _ 0 rfl, ld_chunk (o := 128) _ 1 rfl, ld_chunk (o := 256) _ 2 rfl, ld_chunk (o := 384) _ 3 rfl]
    idx_vars y
    open_payloads
    pointwise
    simp only [mat_ix2, Reals.read, push]
    rw [show (∑ r, A.dgp (row t r) y1 : ℝ) = ∑ r, A.dh (row t r) y1 * (1 / 2) * (A.f (row t r) y1 * rr (A.f (row t r))) from
      Finset.sum_congr rfl fun r _ => by rw [Args.dgp, H.s]]
    first
    | exact congrArg (fun r : ℝ => (r : EReal)) (four_chunks fun r => A.dh (row t r) y1 * (1 / 2) * (A.f (row t r) y1 * rr (A.f (row t r))))
    | exact congrArg (fun r : ℝ => q (ix2 y0 y1) + (r : EReal)) (four_chunks fun r => A.dh (row t r) y1 * (1 / 2) * (A.f (row t r) y1 * rr (A.f (row t r))))

omit H in
theorem idle10 (t : Fin cfg0.N) (h0 : t.val % 2 = 0) : (outsAt0 m c t.val t.isLt).2.2.2.1 = (outsAt0 m c (t.val - 1) (by omega)).2.2.2.1 := by
  rw [outsAt0_A m c t h0 (by omega) (by omega)]
  rfl

/-! ## The result arrays -/

/-- The second of the two points at which row block `p` is visited. -/
def odd (p : Fin 8) : Fin cfg0.N := ⟨2 * p.val + 1, lt_of_lt_of_eq (by omega : 2 * p.val + 1 < 16) N_0.symm⟩
theorem odd_mod (p : Fin 8) : (odd p).val % 2 = 1 := by show (2 * p.val + 1) % 2 = 1; omega

theorem final_dh : (dats m 0 c).arrAt 7 (cfgs 0).N = mat A.dh := by
  refine (dats m 0 c).arrAt_eq_of_covers 7 _ (by decide +kernel) fun t hf y => ?_
  rw [after0_7, out7 H t ((idx t).2.2.2.2.2.2.2.2.2.1 hf)]
  refine congrArg (fun r : ℝ => (r : EReal)) (congrArg₂ A.dh (Fin.ext ?_) (Fin.ext ?_))
  · show t.val / 2 * 512 + _ = _
    blk_simp [idx t]
  · blk_simp [idx t]

theorem final_dg : (dats m 0 c).arrAt 8 (cfgs 0).N = mat fun _ l => ∑ i, A.dg i l := by
  refine (dats m 0 c).arrAt_eq_of_after_last 8 t0_15 (by decide +kernel) _ fun j => ?_
  blk_simp
  rw [after0_8]
  refine (sum_of_pairs N_0 (fun n h => ((outsAt0 m c n h).2.1 : S1x1024.Idx → EReal)) (fun p j => ((∑ r, A.dg (row p r) (j 1) : ℝ) : EReal))
    (fun t h j => out8 H t h j _ rfl) idle8 t0_15 rfl j).trans ?_
  exact sum_rows rfl (fun p => row (odd p)) (fun p r => by show (2 * p.val + 1) / 2 * 512 + r.val = _; rw [show (2 * p.val + 1) / 2 = p.val by omega])
    fun i => A.dg i (j 1)

theorem final_dgp : (dats m 0 c).arrAt 10 (cfgs 0).N = mat fun _ l => ∑ i, A.dgp i l := by
  refine (dats m 0 c).arrAt_eq_of_after_last 10 t0_15 (by decide +kernel) _ fun j => ?_
  blk_simp
  rw [after0_10]
  refine (sum_of_pairs N_0 (fun n h => ((outsAt0 m c n h).2.2.2.1 : S1x1024.Idx → EReal)) (fun p j => ((∑ r, A.dgp (row p r) (j 1) : ℝ) : EReal))
    (fun t h j => out10 H t h j _ rfl) idle10 t0_15 rfl j).trans ?_
  exact sum_rows rfl (fun p => row (odd p)) (fun p r => by show (2 * p.val + 1) / 2 * 512 + r.val = _; rw [show (2 * p.val + 1) / 2 = p.val by omega])
    fun i => A.dgp i (j 1)

theorem final_df : (dats m 0 c).arrAt 9 (cfgs 0).N = mat A.df := by
  refine (dats m 0 c).arrAt_eq_of_covers 9 _ (by decide +kernel) fun t hf y => ?_
  rw [after0_9, out9 H t ((idx t).2.2.2.2.2.2.2.2.2.2.1 hf)]
  refine congrArg (fun r : ℝ => (r : EReal)) (congrArg₂ A.df (Fin.ext ?_) (Fin.ext ?_))
  · show t.val / 2 * 512 + _ = _
    blk_simp [idx t]
  · blk_simp [idx t]

end Cert.MixDxIdeal.Value
-- ==== Proof.MixDx.Reference.lean ====
/-
  What the reference of the token mixer's input projection computes at finite arguments.
-/
module

public import proofs.«01_k».proof.Proof.Math.HostNorm
public import proofs.«01_k».proof.Proof.Gen.MixDxRefIdeal.Run

@[expose] public section
set_option maxRecDepth 16384
noncomputable section
namespace Cert.MixDxRefIdeal.Value
open Cert.MixDxRefIdeal Cert.MixDxRefIdeal.Gen Idealize.ShloMosaic Idealize.ShloMosaic.TcCoe Idealize.SL.Sem Cert.Reals Cert.Dx Cert.HostNorm

variable (m : (ℓ : Loc nD τ sig) → Buf (Elt Ideal) ℓ) (c : Dev nD)

/-- The argument arrays hold these reals: the projection is `w`, the cotangent of its result `e`. -/
structure Holds (A : Args) (w : Fin 1024 → Fin 5120 → ℝ) (e : Fin 4096 → Fin 5120 → ℝ) : Prop where
  h : m ((c.tc : Thread nD τ).loc main_arg0) = fun j => (A.h (j 1) (j 2) : EReal)
  f : m ((c.tc : Thread nD τ).loc main_arg1) = mat A.f
  gp : m ((c.tc : Thread nD τ).loc main_arg2) = mat fun _ => A.gp
  g : m ((c.tc : Thread nD τ).loc main_arg3) = mat fun _ => A.g
  hw : m ((c.tc : Thread nD τ).loc main_arg4) = fun j => (w (j 1) (j 2) : EReal)
  d : m ((c.tc : Thread nD τ).loc main_arg5) = mat A.d
  he : m ((c.tc : Thread nD τ).loc main_arg6) = mat e
  s : A.s = 1 / 2
  p : A.p = fun i l => ∑ k, e i k * w l k

variable {A : Args} {w : Fin 1024 → Fin 5120 → ℝ} {e : Fin 4096 → Fin 5120 → ℝ}

/-- The written product of the cotangent with the projection. -/
theorem dot_eq : (Host.dotGeneral (φ₁ := .f32) (φ₂ := .f32) dot_S4096x5120_S1024x5120_S4096x1024_1_1_0_0_n_n none
      (extf .f32 (mat e : FVec Ideal S4096x5120 .bf16) bitsLt_bf16_f32)
      (shapeCast S1024x5120 (fun j => (w (j 1) (j 2) : EReal) : FVec Ideal S1x1024x5120 .f32) shapeCasts_S1x1024x5120_S1024x5120) : FVec Ideal S4096x1024 .f32)
      = mat fun i l => ∑ k, e i k * w l k := by
  funext j
  idx_vars j
  pointwise
  simp only [mat_ix2, Reals.read, push]

/-- The stream without its unit axis. -/
theorem flat_eq (X : Fin 4096 → Fin 1024 → ℝ) :
    (shapeCast S4096x1024 (fun j => (X (j 1) (j 2) : EReal) : FVec Ideal S1x4096x1024 .f32) shapeCasts_S1x4096x1024_S4096x1024 : FVec Ideal S4096x1024 .f32)
      = mat X := by
  funext j
  idx_vars j
  pointwise
  rfl

variable {m c} (H : Holds m c A w e)
include H

theorem x_eq : A.x = fun i l => A.h i l + 1 / 2 * (A.f i l * rr (A.f i) * A.gp l) := by
  funext i l
  rw [Args.x, H.s]

theorem dh_eq : res_main_v64 m c = mat A.dh := by
  unfold res_main_v64
  rw [H.h, H.f, H.gp, H.g, H.hw, H.d, H.he]
  refine cast_eq ?_
  refine add_vjp_eq (X := A.x) (Y := fun i l => A.p i l * A.g l) (D := A.d) ?_ ?_ rfl
  · rw [x_eq H]
    exact add_eq (flat_eq _) (half_eq (gain_eq (norm_eq rfl) rfl))
  · rw [H.p]
    exact gain_eq dot_eq rfl

set_option maxHeartbeats 1600000 in
theorem df_eq : res_main_v89 m c = mat A.df := by
  have hd : res_main_v64 m c = mat A.dh := dh_eq H
  unfold res_main_v64 at hd
  unfold res_main_v89
  have e : A.df = fun i l => dnorm (A.f i) (fun k => 1 / 2 * A.dh i k * A.gp k) l := by
    funext i l
    rw [Args.df, H.s]
    simp only [mul_comm (1 / 2 : ℝ)]
  rw [e]
  refine vjp_eq (X := A.f) (Y := fun i l => 1 / 2 * A.dh i l * A.gp l) H.f ?_
  refine gain_eq ?_ H.gp
  refine half_eq ?_
  exact hd

set_option maxHeartbeats 1600000 in
theorem dgp_eq : res_main_v88 m c = mat fun _ l => ∑ i, A.dgp i l := by
  have hd : res_main_v64 m c = mat A.dh := dh_eq H
  unfold res_main_v64 at hd
  unfold res_main_v88
  have e : A.dgp = fun i l => A.f i l * rr (A.f i) * (1 / 2 * A.dh i l) := by
    funext i l
    rw [Args.dgp, H.s]
    ring
  rw [e]
  refine sum_eq ?_
  refine mul_eq ?_ ?_
  · exact norm_eq H.f
  refine half_eq ?_
  exact hd

end Cert.MixDxRefIdeal.Value
-- ==== Proof.MixDx.Claim.lean ====
/-
  The claim about the token mixer's input projection: at finite arguments the kernel and its reference end with the same arrays.
-/
module

public import proofs.«01_k».proof.Defs
public import proofs.«01_k».proof.Proof.MixDx.Kernel
public import proofs.«01_k».proof.Proof.MixDx.Reference

@[expose] public section
set_option maxRecDepth 16384
noncomputable section
open Idealize.ShloMosaic Idealize.ShloMosaic.TcCoe Idealize.SL.Sem Cert.Reals Cert.Dx Cert.HostNorm

namespace Cert.MixDx

/-- Finite arguments hold reals. -/
theorem holds [Cert.Pre_mix_dx_finite.Facts] (m : (ℓ : Loc Cert.MixDxIdeal.nD Cert.MixDxIdeal.τ Cert.MixDxIdeal.sig) → Buf (Elt Ideal) ℓ)
    (h : Cert.Pre_MixDxIdeal_mix_dx_finite m) (c : Dev Cert.MixDxIdeal.nD) : ∃ A w e, Cert.MixDxIdeal.Value.Holds m c A w e := by
  have hc := h c
  obtain ⟨hc, h6⟩ := andi_split hc
  obtain ⟨hc, h5⟩ := andi_split hc
  obtain ⟨hc, h4⟩ := andi_split hc
  obtain ⟨hc, h3⟩ := andi_split hc
  obtain ⟨hc, h2⟩ := andi_split hc
  obtain ⟨h0, h1⟩ := andi_split hc
  obtain ⟨X, hX⟩ := lift_of_finite _ _ h0
  obtain ⟨X1, H1⟩ := lift_matrix _ _ h1
  obtain ⟨X2, H2⟩ := lift_gain _ _ h2
  obtain ⟨X3, H3⟩ := lift_gain _ _ h3
  obtain ⟨W, hW⟩ := lift_of_finite _ _ h4
  obtain ⟨X5, H5⟩ := lift_matrix _ _ h5
  obtain ⟨X6, H6⟩ := lift_matrix _ _ h6
  refine ⟨⟨fun i l => X (ix3 0 i l), X1, X2, X3, 1 / 2, fun i l => ∑ k, X6 i k * W (ix3 0 l k), X5⟩, fun l k => W (ix3 0 l k), X6, ?_, H1, H2, H3, ?_, H5, H6, rfl, rfl⟩
  · rw [hX]
    funext j
    idx_vars j
    obtain rfl : j0 = 0 := Subsingleton.elim _ _
    rfl
  · rw [hW]
    funext j
    idx_vars j
    obtain rfl : j0 = 0 := Subsingleton.elim _ _
    rfl

set_option maxHeartbeats 3200000 in
theorem algebraic [Cert.Pre_mix_dx_finite.Facts] : Cert.algebraic_MixDxIdeal_MixDxRefIdeal_pre_mix_dx_finite := by
  pair_intro
  · run_from Cert.MixDxIdeal.Value.run_blocks m g
  · run_from Cert.MixDxRefIdeal.Value.run m' g'
    all_goals obtain ⟨A, w, e, h⟩ := holds m hpre c
    all_goals obtain ⟨a0, a1, a2, a3, a4, a5, a6⟩ := hagree c
    all_goals have h' : Cert.MixDxRefIdeal.Value.Holds m' c A w e :=
      ⟨a0.trans h.h, a1.trans h.f, a2.trans h.gp, a3.trans h.g, a4.trans h.hw, a5.trans h.d, a6.trans h.he, h.s, h.p⟩
    · exact (Cert.MixDxRefIdeal.Value.dh_eq h').trans (Cert.MixDxIdeal.Value.final_dh h).symm
    · refine Eq.trans ?_ (Cert.MixDxIdeal.Value.final_dg h).symm
      rw [show A.dg = fun i l => A.x i l * rr (A.x i) * A.p i l from funext fun i => funext fun l => mul_comm _ _, h.h, h.f, h.gp, h.hw, h.he]
      refine sum_eq (mul_eq (norm_eq ?_) ?_)
      · rw [Cert.MixDxRefIdeal.Value.x_eq h']
        exact add_eq (Cert.MixDxRefIdeal.Value.flat_eq _) (half_eq (gain_eq (norm_eq rfl) rfl))
      · rw [h.p]
        exact Cert.MixDxRefIdeal.Value.dot_eq
    · exact (Cert.MixDxRefIdeal.Value.df_eq h').trans (Cert.MixDxIdeal.Value.final_df h).symm
    · exact (Cert.MixDxRefIdeal.Value.dgp_eq h').trans (Cert.MixDxIdeal.Value.final_dgp h).symm

end Cert.MixDx
-- ==== Proof.PleFwd.Kernel.lean ====
/-
  What the kernel of the gated layer input leaves in its four result arrays: the gates' arguments, the projected layer input,
  the loss gradient, and the squared errors summed over the tokens.
-/
module

public import proofs.«01_k».proof.Proof.Math.Forward
public import proofs.«01_k».proof.Proof.Gen.PleFwdIdeal.Value

@[expose] public section
set_option maxRecDepth 16384
noncomputable section
namespace Cert.PleFwdIdeal.Value
open Cert.PleFwdIdeal Cert.PleFwdIdeal.Gen Idealize.ShloMosaic Idealize.ShloMosaic.TcCoe Idealize.SL.Sem Cert.Fwd

variable {m : (ℓ : Loc nD τ sig) → Buf (Elt Ideal) ℓ} {c : Dev nD}

/-- Which blocks point `t` reads and writes. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ win0_7.index t = ![t.val, 0]
    ∧ win0_8.index t = ![t.val, 0] ∧ win0_9.index t = ![t.val, 0] ∧ win0_10.index t = ![0, 0] :=
  (by decide +kernel : ∀ t : Fin grid0.N, _)

theorem point_lt : ∀ t : Fin cfg0.N, t.val < 8 := (by decide +kernel : ∀ t : Fin grid0.N, _)

/-- The token that row `r` of point `t`'s blocks is. -/
def row (t : Fin cfg0.N) (r : Fin 512) : Fin 4096 := ⟨t.val * 512 + r.val, by have := point_lt t; omega⟩

variable (m c) in
/-- The arguments: the stream, the layer input, the stream's gain, the two matrices, the gain of the result, the target. -/
def h (i : Fin 4096) (l : Fin 1024) : EReal := m ((c.tc : Thread nD τ).loc main_arg0) (ix2 i l)
variable (m c) in
@[inherit_doc h]
def p (i : Fin 4096) (k : Fin 256) : EReal := m ((c.tc : Thread nD τ).loc main_arg1) (ix4 0 0 i k)
variable (m c) in
@[inherit_doc h]
def gn (l : Fin 1024) : EReal := m ((c.tc : Thread nD τ).loc main_arg2) (ix2 0 l)
variable (m c) in
@[inherit_doc h]
def wg (k l : Fin 1024) : EReal := m ((c.tc : Thread nD τ).loc main_arg3) (ix3 0 k l)
variable (m c) in
@[inherit_doc h]
def wp (k : Fin 256) (l : Fin 1024) : EReal := m ((c.tc : Thread nD τ).loc main_arg4) (ix3 0 k l)
variable (m c) in
@[inherit_doc h]
def gp (l : Fin 1024) : EReal := m ((c.tc : Thread nD τ).loc main_arg5) (ix2 0 l)
variable (m c) in
@[inherit_doc h]
def tgt (i : Fin 4096) (l : Fin 1024) : EReal := m ((c.tc : Thread nD τ).loc main_arg6) (ix3 0 i l)

variable (m c) in
/-- The gates' arguments. -/
def gl (i : Fin 4096) (l : Fin 1024) : EReal := ∑ k, h m c i k * rrE (h m c i) * gn m c k * wg m c k l
variable (m c) in
/-- The projected layer input. -/
def e (i : Fin 4096) (l : Fin 1024) : EReal := ∑ k, p m c i k * wp m c k l
variable (m c) in
/-- The gated layer input. -/
def q (i : Fin 4096) (l : Fin 1024) : EReal := sgE (gl m c i l) * e m c i l
variable (m c) in
/-- The error of the layer's output. -/
def err (i : Fin 4096) (l : Fin 1024) : EReal := h m c i l + q m c i l * rrE (q m c i) * gp m c l - tgt m c i l
variable (m c) in
/-- The loss gradient. -/
def dy (i : Fin 4096) (l : Fin 1024) : EReal := err m c i l * Ideal.ofBits .f32 0x3A800000#32

theorem blk0 (t : Fin cfg0.N) : (iblk m c 0 t : FVec Ideal S512x1024 .bf16) = arr fun r l => h m c (row t r) l * rrE (h m c (row t r)) * gn m c l := by
  funext y
  idx_vars y
  have he : (win0_0.blk t).view.emb (ix2 y0 y1) = ix2 (row t y0) y1 := by blk_ext [idx t, row]
  refine (congrArg (V m c (Pipeline.arrRef spec0 0)) he).trans (?_ : _ = h m c (row t y0) y1 * rrE (h m c (row t y0)) * gn m c y1)
  generalize row t y0 = i
  entry_read
  pointwise
  rfl
theorem blk4 (t : Fin cfg0.N) : (iblk m c 4 t : FVec Ideal S512x1024 .f32) = arr fun r => h m c (row t r) := by
  funext y
  idx_vars y
  show _ = h m c (row t y0) y1
  unfold h
  blk_ext! [iblk, V, idx t, row]
theorem blk5 (t : Fin cfg0.N) : (iblk m c 5 t : FVec Ideal S512x1024 .f32) = arr fun r => tgt m c (row t r) := by
  funext y
  idx_vars y
  show _ = tgt m c (row t y0) y1
  unfold tgt
  blk_ext! [iblk, idx t, row]
theorem blk6 (t : Fin cfg0.N) : (iblk m c 6 t : FVec Ideal S1x1024 .f32) = arr fun _ => gp m c := by
  funext y
  idx_vars y
  show _ = gp m c y1
  unfold gp
  blk_ext! [iblk, idx t]

/-- The two products, at a point. -/
theorem gl_blk (t : Fin cfg0.N) : k0_pay5 (F := Ideal) (iblk m c 0 t) (iblk m c 1 t) = arr fun r => gl m c (row t r) := by
  rw [blk0]
  funext y
  idx_vars y
  pointwise [k0_pay5]
  refine Finset.sum_congr rfl fun k _ => congrArg₂ (fun a b : EReal => a * b) rfl (?_ : _ = wg m c k y1)
  unfold wg
  blk_ext! [iblk, idx t]
theorem e_blk (t : Fin cfg0.N) : k0_pay6 (F := Ideal) (iblk m c 2 t) (iblk m c 3 t) = arr fun r => e m c (row t r) := by
  funext y
  idx_vars y
  pointwise [k0_pay6]
  refine Finset.sum_congr rfl fun k _ => congrArg₂ (fun a b : EReal => a * b) (?_ : _ = p m c (row t y0) k) (?_ : _ = wp m c k y1)
  · have he : (win0_2.blk t).view.emb (ix2 y0 k) = ix2 (row t y0) k := by blk_ext [idx t, row]
    refine (congrArg (V m c (Pipeline.arrRef spec0 2)) he).trans ?_
    generalize row t y0 = i
    entry_read
    pointwise
    rfl
  · unfold wp; blk_ext! [iblk, idx t]

/-- The gated layer input over its root mean square, at a point. -/
theorem q_blk (t : Fin cfg0.N) : k0_pay8 (F := Ideal) (iblk m c 0 t) (iblk m c 1 t) (iblk m c 2 t) (iblk m c 3 t)
    = arr fun r l => q m c (row t r) l * rrE (q m c (row t r)) := by
  funext y
  idx_vars y
  rw [k0_pay8, gl_blk, e_blk]
  pointwise
  simp only [arr_ix2, tanh_half]
  rfl

/-- The errors, at a point. -/
theorem err_blk (t : Fin cfg0.N) : k0_pay1 (F := Ideal) (iblk m c 4 t) (k0_pay7 (iblk m c 5 t)) (k0_pay8 (iblk m c 0 t) (iblk m c 1 t) (iblk m c 2 t) (iblk m c 3 t)) (k0_pay9 (iblk m c 6 t))
    = arr fun r => err m c (row t r) := by
  funext y
  idx_vars y
  rw [q_blk, blk4, blk5, blk6]
  pointwise [k0_pay1, k0_pay7, k0_pay9]
  simp only [arr_ix2]
  rfl
theorem dy_blk (t : Fin cfg0.N) : k0_pay2 (F := Ideal) (iblk m c 4 t) (k0_pay7 (iblk m c 5 t)) (k0_pay8 (iblk m c 0 t) (iblk m c 1 t) (iblk m c 2 t) (iblk m c 3 t)) (k0_pay9 (iblk m c 6 t))
    = arr fun r => dy m c (row t r) := by
  rw [k0_pay2, err_blk]
  rfl
theorem sq_blk (t : Fin cfg0.N) : k0_pay3 (F := Ideal) (iblk m c 4 t) (k0_pay7 (iblk m c 5 t)) (k0_pay8 (iblk m c 0 t) (iblk m c 1 t) (iblk m c 2 t) (iblk m c 3 t)) (k0_pay9 (iblk m c 6 t))
    = arr fun _ l => ∑ r, err m c (row t r) l * err m c (row t r) l := by
  rw [k0_pay3, err_blk]
  funext y
  idx_vars y
  pointwise
  simp only [arr_ix2]

theorem acc (a b x d : FVec Ideal S512x1024 .f32) (v : FVec Ideal S1x1024 .f32) (j : S1x1024.Idx) : k0_pay4 a b x d v j = (v j + k0_pay3 a b x d j : EReal) := by
  idx_vars j
  pointwise [k0_pay4]

/-- What the points leave. -/
theorem out (t : Fin cfg0.N) : (outsAt0 m c t.val t.isLt).1 = (arr fun r => gl m c (row t r)) ∧ (outsAt0 m c t.val t.isLt).2.1 = (arr fun r => e m c (row t r))
    ∧ (outsAt0 m c t.val t.isLt).2.2.1 = arr fun r => dy m c (row t r) := by
  by_cases h0 : t.val % 8 = 0
  · rw [outsAt0_A m c t h0 (by have := point_lt t; omega)]
    frame_out
    rw [gl_blk, e_blk, dy_blk]
    exact ⟨rfl, rfl, rfl⟩
  · rw [outsAt0_B m c t h0 (by omega)]
    frame_out
    rw [gl_blk, e_blk, dy_blk]
    exact ⟨rfl, rfl, rfl⟩

theorem final_gl : (dats m 0 c).arrAt 7 (cfgs 0).N = arr (gl m c) := by
  refine (dats m 0 c).arrAt_eq_of_covers 7 _ (by decide +kernel) fun t hf y => ?_
  rw [after0_7, (out t).1]
  refine congrArg₂ (gl m c) (Fin.ext ?_) (Fin.ext ?_)
  · show t.val * 512 + (y 0).val = _
    blk_simp [idx t]
  · show (y 1).val = _
    blk_simp [idx t]
theorem final_e : (dats m 0 c).arrAt 8 (cfgs 0).N = arr (e m c) := by
  refine (dats m 0 c).arrAt_eq_of_covers 8 _ (by decide +kernel) fun t hf y => ?_
  rw [after0_8, (out t).2.1]
  refine congrArg₂ (e m c) (Fin.ext ?_) (Fin.ext ?_)
  · show t.val * 512 + (y 0).val = _
    blk_simp [idx t]
  · show (y 1).val = _
    blk_simp [idx t]
theorem final_dy : (dats m 0 c).arrAt 9 (cfgs 0).N = arr (dy m c) := by
  refine (dats m 0 c).arrAt_eq_of_covers 9 _ (by decide +kernel) fun t hf y => ?_
  rw [after0_9, (out t).2.2]
  refine congrArg₂ (dy m c) (Fin.ext ?_) (Fin.ext ?_)
  · show t.val * 512 + (y 0).val = _
    blk_simp [idx t]
  · show (y 1).val = _
    blk_simp [idx t]

theorem final_sq : (dats m 0 c).arrAt 10 (cfgs 0).N = arr fun _ l => ∑ i, err m c i l * err m c i l := by
  refine (dats m 0 c).arrAt_eq_of_after_last 10 t0_7 (by decide +kernel) _ fun j => ?_
  blk_simp
  rw [after0_10, Pipeline.eq_sum_fin_of_reset_step_apply_last (fun n h => (outsAt0 m c n h).2.2.2) 8 (fun _ => (0 : EReal))
    (fun p j => ∑ r, err m c (row p r) (j 1) * err m c (row p r) (j 1))
    (fun t h8 j => by rw [outsAt0_A m c t h8 (by have := point_lt t; omega)]; frame_out; rw [sq_blk]; exact (zero_add _).symm)
    (fun t h8 j => by rw [outsAt0_B m c t h8 (by omega)]; frame_out; rw [acc, sq_blk]; rfl)
    (le_of_eq N_0) t0_7 rfl j, zero_add]
  exact sum_blocks (congrArg (· * 512) N_0).symm row (fun _ _ => rfl) fun i => err m c i (j 1) * err m c i (j 1)

end Cert.PleFwdIdeal.Value
-- ==== Proof.PleFwd.Claim.lean ====
/-
  The claim about the gated layer input and the loss: at any arguments the kernel and its reference, which differentiates the
  loss, end with the same four arrays.
-/
module

public import proofs.«01_k».proof.Defs
public import proofs.«01_k».proof.Proof.PleFwd.Kernel
public import proofs.«01_k».proof.Proof.Gen.PleFwdRefIdeal.Run

@[expose] public section
set_option maxRecDepth 16384
noncomputable section
open Idealize.ShloMosaic Idealize.ShloMosaic.TcCoe Idealize.SL.Sem Cert.Fwd

namespace Cert.PleFwd
open Cert.PleFwdIdeal.Value

section
open Cert.PleFwdRefIdeal Cert.PleFwdRefIdeal.Gen

/-- The products with the gates' matrix. -/
theorem dots_g {X : Fin 4096 → Fin 1024 → EReal} {x : FVec Ideal S4096x1024 .f32} (hx : x = arr X) (w : FVec Ideal S1x1024x1024 .f32) :
    Host.dotGeneral (φ₁ := .f32) (φ₂ := .f32) dot_S4096x1024_S1024x1024_S4096x1024_1_0_0_1_n_n none x (shapeCast _ w shapeCasts_S1x1024x1024_S1024x1024)
      = arr fun i l => ∑ k : Fin 1024, X i k * w (ix3 0 k l) := by
  subst hx
  funext j
  idx_vars j
  pointwise
  rfl

/-- The products with the layer input's matrix. -/
theorem dots_p (x : FVec Ideal S1x1x4096x256 .f32) (w : FVec Ideal S1x256x1024 .f32) :
    Host.dotGeneral (φ₁ := .f32) (φ₂ := .f32) dot_S4096x256_S256x1024_S4096x1024_1_0_0_1_n_n none (shapeCast _ x shapeCasts_S1x1x4096x256_S4096x256)
      (shapeCast _ w shapeCasts_S1x256x1024_S256x1024) = arr fun i l => ∑ k : Fin 256, (x (ix4 0 0 i k) : EReal) * w (ix3 0 k l) := by
  funext j
  idx_vars j
  pointwise
  rfl

/-- The logistic function of an array. -/
theorem sig_eq {X : Fin 4096 → Fin 1024 → EReal} {x : FVec Ideal S4096x1024 .f32} (hx : x = arr X) :
    Host.divf (broadcastInDim S4096x1024 ![] bcast_S_S4096x1024 (constant (F := Ideal) S_ .f32 0x3F800000#32))
      (addf (broadcastInDim S4096x1024 ![] bcast_S_S4096x1024 (constant S_ .f32 0x3F800000#32)) (Host.exp (Host.negf x))) = arr fun i l => sgE (X i l) := by
  subst hx
  funext j
  exact logistic _ _ _ _

/-- The error of an output. -/
theorem sub_eq {X : Fin 4096 → Fin 1024 → EReal} {x : FVec Ideal S4096x1024 .f32} (hx : x = arr X) (y : FVec Ideal S1x4096x1024 .f32) :
    subf x (shapeCast S4096x1024 y shapeCasts_S1x4096x1024_S4096x1024) = arr fun i l => X i l - y (ix3 0 i l) := by
  subst hx
  funext j
  idx_vars j
  pointwise
  rfl

/-- The loss gradient of an error. -/
theorem slope (x : EReal) : Ideal.div (Ideal.ofBits .f32 0x3F000000#32 * Ideal.ofBits .f32 0x3F800000#32) (Ideal.ofBits .f32 0x44800000#32) * (Ideal.ofBits .f32 0x40000000#32 * x)
    = x * Ideal.ofBits .f32 0x3A800000#32 := by
  have h2 : Ideal.ofBits .f32 0x40000000#32 = ((2 : ℝ) : EReal) := by simp [Ideal.ofBits, Ideal.ieee, -EReal.coe_mul]; norm_num
  have h1 : Ideal.ofBits .f32 0x3F800000#32 = ((1 : ℝ) : EReal) := by simp [Ideal.ofBits, Ideal.ieee, -EReal.coe_mul]; norm_num
  have hk : Ideal.ofBits .f32 0x3A800000#32 = ((1 / 1024 : ℝ) : EReal) := by simp [Ideal.ofBits, Ideal.ieee, -EReal.coe_mul]; norm_num
  rw [h2, h1, hk, Reals.lit_half, Reals.lit_1024, ← EReal.coe_mul, Reals.div_1024, ← mul_assoc, ← EReal.coe_mul, mul_comm]
  norm_num

theorem slope_eq {X : Fin 4096 → Fin 1024 → EReal} {x : FVec Ideal S4096x1024 .f32} (hx : x = arr X) :
    mulf (broadcastInDim S4096x1024 ![] bcast_S_S4096x1024 (Host.divf (mulf (constant (F := Ideal) S_ .f32 0x3F000000#32) (constant S_ .f32 0x3F800000#32)) (constant S_ .f32 0x44800000#32)))
      (mulf (broadcastInDim S4096x1024 ![] bcast_S_S4096x1024 (constant S_ .f32 0x40000000#32)) x) = arr fun i l => X i l * Ideal.ofBits .f32 0x3A800000#32 := by
  subst hx
  funext j
  exact slope _

theorem squares_eq {X : Fin 4096 → Fin 1024 → EReal} {x : FVec Ideal S4096x1024 .f32} (hx : x = arr X) :
    broadcastInDim S1x1024 ![1] bcast_S1024_S1x1024_1 (Host.reduceAdd (mulf x x) (constant (F := Ideal) S_ .f32 0x00000000#32) reducesTo_S4096x1024_S1024_d0 h_S_)
      = arr fun _ l => ∑ i, X i l * X i l := by
  subst hx
  funext j
  idx_vars j
  pointwise
  rfl
end

set_option maxHeartbeats 3200000 in
theorem algebraic : Cert.algebraic_PleFwdIdeal_PleFwdRefIdeal := by
  pair_intro
  · run_from Cert.PleFwdIdeal.Value.run_blocks m g
  · run_from Cert.PleFwdRefIdeal.Value.run m' g'
    all_goals obtain ⟨a0, a1, a2, a3, a4, a5, a6⟩ := hagree c
    · exact (dots_g (gain_eq (norm_eq (eq_arr _)) (eq_row _)) _).trans final_gl.symm
    · exact (dots_p _ _).trans final_e.symm
    · refine Eq.trans ?_ final_dy.symm
      unfold Cert.PleFwdRefIdeal.Value.res_main_v56
      rw [a0, a1, a2, a3, a4, a5, a6]
      refine slope_eq ?_
      refine sub_eq ?_ _
      refine add_eq (eq_arr _) ?_
      refine gain_eq ?_ (eq_row _)
      refine norm_eq ?_
      refine mul_eq (sig_eq ?_) (dots_p _ _)
      refine dots_g ?_ _
      refine gain_eq ?_ (eq_row _)
      exact norm_eq (eq_arr _)
    · refine Eq.trans ?_ final_sq.symm
      unfold Cert.PleFwdRefIdeal.Value.res_main_v61
      rw [a0, a1, a2, a3, a4, a5, a6]
      refine squares_eq ?_
      refine sub_eq ?_ _
      refine add_eq (eq_arr _) ?_
      refine gain_eq ?_ (eq_row _)
      refine norm_eq ?_
      refine mul_eq (sig_eq ?_) (dots_p _ _)
      refine dots_g ?_ _
      refine gain_eq ?_ (eq_row _)
      exact norm_eq (eq_arr _)

end Cert.PleFwd
-- ==== Proof.FfnDown.Kernel.lean ====
/-
  What the kernel of the down projection leaves in its three result arrays: the branch's output, the stream it is added to
  after its norm, and that stream under the next layer's norm.
-/
module

public import proofs.«01_k».proof.Proof.Math.Forward
public import proofs.«01_k».proof.Proof.Gen.FfnDownIdeal.Value

@[expose] public section
set_option maxRecDepth 16384
noncomputable section
namespace Cert.FfnDownIdeal.Value
open Cert.FfnDownIdeal Cert.FfnDownIdeal.Gen Idealize.ShloMosaic Idealize.ShloMosaic.TcCoe Idealize.SL.Sem Cert.Fwd

variable {m : (ℓ : Loc nD τ sig) → Buf (Elt Ideal) ℓ} {c : Dev nD}

/-- Which blocks point `t` reads and writes. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] ∧ t.val < 8 :=
  (by decide +kernel : ∀ t : Fin grid0.N, _)

/-- The token that row `r` of point `t`'s blocks is. -/
def row (t : Fin cfg0.N) (r : Fin 512) : Fin 4096 := ⟨t.val * 512 + r.val, by have := (idx t).2.2.2.2.2.2.2.2; omega⟩

variable (m c) in
/-- The arguments: the hidden layer, the matrix, the stream and the two gains. -/
def hid (i : Fin 4096) (k : Fin 2816) : EReal := m ((c.tc : Thread nD τ).loc main_arg0) (ix2 i k)
variable (m c) in
@[inherit_doc hid]
def w (k : Fin 2816) (l : Fin 1024) : EReal := m ((c.tc : Thread nD τ).loc main_arg1) (ix3 0 k l)
variable (m c) in
@[inherit_doc hid]
def h (i : Fin 4096) (l : Fin 1024) : EReal := m ((c.tc : Thread nD τ).loc main_arg2) (ix2 i l)
variable (m c) in
@[inherit_doc hid]
def gp (l : Fin 1024) : EReal := m ((c.tc : Thread nD τ).loc main_arg3) (ix2 0 l)
variable (m c) in
@[inherit_doc hid]
def gn (l : Fin 1024) : EReal := m ((c.tc : Thread nD τ).loc main_arg4) (ix2 0 l)

variable (m c) in
/-- The results: the branch's output, the stream after the branch, and that stream normalised. -/
def f (i : Fin 4096) (l : Fin 1024) : EReal := ∑ k, hid m c i k * w m c k l
variable (m c) in
@[inherit_doc f]
def x (i : Fin 4096) (l : Fin 1024) : EReal := h m c i l + Ideal.ofBits .f32 0x3F000000#32 * (f m c i l * rrE (f m c i) * gp m c l)
variable (m c) in
@[inherit_doc f]
def xn (i : Fin 4096) (l : Fin 1024) : EReal := x m c i l * rrE (x m c i) * gn m c l

theorem blk2 (t : Fin cfg0.N) : (iblk m c 2 t : FVec Ideal S512x1024 .f32) = arr fun r => h m c (row t r) := by
  funext y
  idx_vars y
  show _ = h m c (row t y0) y1
  unfold h
  blk_ext! [iblk, V, idx t, row]
theorem blk3 (t : Fin cfg0.N) : (iblk m c 3 t : FVec Ideal S1x1024 .f32) = arr fun _ => gp m c := by
  funext y
  idx_vars y
  show _ = gp m c y1
  unfold gp
  blk_ext! [iblk, idx t]
theorem blk4 (t : Fin cfg0.N) : (iblk m c 4 t : FVec Ideal S1x1024 .f32) = arr fun _ => gn m c := by
  funext y
  idx_vars y
  show _ = gn m c y1
  unfold gn
  blk_ext! [iblk, idx t]

/-- The products with the matrix, at a point. -/
theorem f_blk (t : Fin cfg0.N) : k0_pay2 (F := Ideal) (iblk m c 0 t) (iblk m c 1 t) = arr fun r => f m c (row t r) := by
  funext y
  idx_vars y
  pointwise [k0_pay2]
  refine Finset.sum_congr rfl fun k _ => congrArg₂ (fun a b : EReal => a * b) (?_ : _ = hid m c (row t y0) k) (?_ : _ = w m c k y1)
  · unfold hid; blk_ext! [iblk, V, idx t, row]
  · unfold w; blk_ext! [iblk, idx t]

/-- The stream and its norm, at a point. -/
theorem x_blk (t : Fin cfg0.N) : k0_pay3 (F := Ideal) (iblk m c 0 t) (iblk m c 1 t) (iblk m c 2 t) (iblk m c 3 t) = arr fun r => x m c (row t r) := by
  funext y
  idx_vars y
  rw [k0_pay3, f_blk, blk2, blk3]
  pointwise
  simp only [arr_ix2]
  exact congrArg (h m c (row t y0) y1 + ·) ((congrArg (· * _) (mul_assoc _ _ _)).trans (mul_assoc _ _ _))
theorem xn_blk (t : Fin cfg0.N) : k0_pay1 (F := Ideal) (k0_pay4 (iblk m c 0 t) (iblk m c 1 t) (iblk m c 2 t) (iblk m c 3 t) (iblk m c 4 t)) = arr fun r => xn m c (row t r) := by
  funext y
  idx_vars y
  rw [k0_pay4, x_blk, blk4]
  pointwise [k0_pay1]
  simp only [arr_ix2]
  rfl

theorem final_f : (dats m 0 c).arrAt 5 (cfgs 0).N = arr (f m c) := by
  refine (dats m 0 c).arrAt_eq_of_covers 5 _ (by decide +kernel) fun t hf y => ?_
  rw [after0_5]
  frame_out
  rw [f_blk]
  refine congrArg₂ (f m c) (Fin.ext ?_) (Fin.ext ?_)
  · show t.val * 512 + (y 0).val = _
    blk_simp [idx t]
  · show (y 1).val = _
    blk_simp [idx t]

theorem final_x : (dats m 0 c).arrAt 6 (cfgs 0).N = arr (x m c) := by
  refine (dats m 0 c).arrAt_eq_of_covers 6 _ (by decide +kernel) fun t hf y => ?_
  rw [after0_6]
  frame_out
  rw [x_blk]
  refine congrArg₂ (x m c) (Fin.ext ?_) (Fin.ext ?_)
  · show t.val * 512 + (y 0).val = _
    blk_simp [idx t]
  · show (y 1).val = _
    blk_simp [idx t]

theorem final_xn : (dats m 0 c).arrAt 7 (cfgs 0).N = arr (xn m c) := by
  refine (dats m 0 c).arrAt_eq_of_covers 7 _ (by decide +kernel) fun t hf y => ?_
  rw [after0_7]
  frame_out
  rw [xn_blk]
  refine congrArg₂ (xn m c) (Fin.ext ?_) (Fin.ext ?_)
  · show t.val * 512 + (y 0).val = _
    blk_simp [idx t]
  · show (y 1).val = _
    blk_simp [idx t]

end Cert.FfnDownIdeal.Value
-- ==== Proof.FfnDown.Claim.lean ====
/-
  The claim about the down projection: at any arguments the kernel and its reference end with the same three arrays.
-/
module

public import proofs.«01_k».proof.Defs
public import proofs.«01_k».proof.Proof.FfnDown.Kernel
public import proofs.«01_k».proof.Proof.Gen.FfnDownRefIdeal.Run

@[expose] public section
set_option maxRecDepth 16384
noncomputable section
open Idealize.ShloMosaic Idealize.ShloMosaic.TcCoe Idealize.SL.Sem Cert.Fwd

namespace Cert.FfnDown
open Cert.FfnDownIdeal.Value

section
open Cert.FfnDownRefIdeal Cert.FfnDownRefIdeal.Gen
/-- The products with the matrix. -/
theorem dots (a : FVec Ideal S4096x2816 .bf16) (b : FVec Ideal S1x2816x1024 .f32) :
    Host.dotGeneral (φ₁ := .f32) (φ₂ := .f32) dot_S4096x2816_S2816x1024_S4096x1024_1_0_0_1_n_n none (extf .f32 a bitsLt_bf16_f32)
      (shapeCast _ b shapeCasts_S1x2816x1024_S2816x1024) = arr fun i l => ∑ k : Fin 2816, (a (ix2 i k) : EReal) * b (ix3 0 k l) := by
  funext j
  idx_vars j
  pointwise
  rfl
end

theorem algebraic : Cert.algebraic_FfnDownIdeal_FfnDownRefIdeal := by
  pair_intro
  · run_from Cert.FfnDownIdeal.Value.run_blocks m g
  · run_from Cert.FfnDownRefIdeal.Value.run m' g'
    · exact (dots _ _).trans final_f.symm
    · refine Eq.trans ?_ final_x.symm
      exact add_eq (eq_arr _) (half_eq (gain_eq (norm_eq (dots _ _)) (eq_row _)))
    · refine Eq.trans ?_ final_xn.symm
      obtain ⟨a0, a1, a2, a3, a4⟩ := hagree c
      unfold Cert.FfnDownRefIdeal.Value.res_main_v34
      rw [a0, a1, a2, a3, a4]
      exact gain_eq (norm_eq (add_eq (eq_arr _) (half_eq (gain_eq (norm_eq (dots _ _)) (eq_row _))))) (eq_row _)

end Cert.FfnDown
-- ==== Proof.MixProj.Kernel.lean ====
/-
  What the kernel of the token mixer's output projection leaves in its three result arrays: the branch's output, the stream it is added to
  after its norm, and that stream under the next layer's norm.
-/
module

public import proofs.«01_k».proof.Proof.Math.Forward
public import proofs.«01_k».proof.Proof.Gen.MixProjIdeal.Value

@[expose] public section
set_option maxRecDepth 16384
noncomputable section
namespace Cert.MixProjIdeal.Value
open Cert.MixProjIdeal Cert.MixProjIdeal.Gen Idealize.ShloMosaic Idealize.ShloMosaic.TcCoe Idealize.SL.Sem Cert.Fwd

variable {m : (ℓ : Loc nD τ sig) → Buf (Elt Ideal) ℓ} {c : Dev nD}

/-- Which blocks point `t` reads and writes. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] ∧ t.val < 8 :=
  (by decide +kernel : ∀ t : Fin grid0.N, _)

/-- The token that row `r` of point `t`'s blocks is. -/
def row (t : Fin cfg0.N) (r : Fin 512) : Fin 4096 := ⟨t.val * 512 + r.val, by have := (idx t).2.2.2.2.2.2.2.2; omega⟩

variable (m c) in
/-- The arguments: the merged branches, the matrix, the stream and the two gains. -/
def mix (i : Fin 4096) (k : Fin 1024) : EReal := m ((c.tc : Thread nD τ).loc main_arg0) (ix2 i k)
variable (m c) in
@[inherit_doc mix]
def w (k : Fin 1024) (l : Fin 1024) : EReal := m ((c.tc : Thread nD τ).loc main_arg1) (ix3 0 k l)
variable (m c) in
@[inherit_doc mix]
def h (i : Fin 4096) (l : Fin 1024) : EReal := m ((c.tc : Thread nD τ).loc main_arg2) (ix2 i l)
variable (m c) in
@[inherit_doc mix]
def gp (l : Fin 1024) : EReal := m ((c.tc : Thread nD τ).loc main_arg3) (ix2 0 l)
variable (m c) in
@[inherit_doc mix]
def gn (l : Fin 1024) : EReal := m ((c.tc : Thread nD τ).loc main_arg4) (ix2 0 l)

variable (m c) in
/-- The results: the branch's output, the stream after the branch, and that stream normalised. -/
def f (i : Fin 4096) (l : Fin 1024) : EReal := ∑ k, mix m c i k * w m c k l
variable (m c) in
@[inherit_doc f]
def x (i : Fin 4096) (l : Fin 1024) : EReal := h m c i l + f m c i l * rrE (f m c i) * gp m c l
variable (m c) in
@[inherit_doc f]
def xn (i : Fin 4096) (l : Fin 1024) : EReal := x m c i l * rrE (x m c i) * gn m c l

theorem blk2 (t : Fin cfg0.N) : (iblk m c 2 t : FVec Ideal S512x1024 .f32) = arr fun r => h m c (row t r) := by
  funext y
  idx_vars y
  show _ = h m c (row t y0) y1
  unfold h
  blk_ext! [iblk, V, idx t, row]
theorem blk3 (t : Fin cfg0.N) : (iblk m c 3 t : FVec Ideal S1x1024 .f32) = arr fun _ => gp m c := by
  funext y
  idx_vars y
  show _ = gp m c y1
  unfold gp
  blk_ext! [iblk, idx t]
theorem blk4 (t : Fin cfg0.N) : (iblk m c 4 t : FVec Ideal S1x1024 .f32) = arr fun _ => gn m c := by
  funext y
  idx_vars y
  show _ = gn m c y1
  unfold gn
  blk_ext! [iblk, idx t]

/-- The products with the matrix, at a point. -/
theorem f_blk (t : Fin cfg0.N) : k0_pay2 (F := Ideal) (iblk m c 0 t) (iblk m c 1 t) = arr fun r => f m c (row t r) := by
  funext y
  idx_vars y
  pointwise [k0_pay2]
  refine Finset.sum_congr rfl fun k _ => congrArg₂ (fun a b : EReal => a * b) (?_ : _ = mix m c (row t y0) k) (?_ : _ = w m c k y1)
  · unfold mix; blk_ext! [iblk, V, idx t, row]
  · unfold w; blk_ext! [iblk, idx t]

/-- The stream and its norm, at a point. -/
theorem x_blk (t : Fin cfg0.N) : k0_pay3 (F := Ideal) (iblk m c 0 t) (iblk m c 1 t) (iblk m c 2 t) (iblk m c 3 t) = arr fun r => x m c (row t r) := by
  funext y
  idx_vars y
  rw [k0_pay3, f_blk, blk2, blk3]
  pointwise
  simp only [arr_ix2]
  rfl
theorem xn_blk (t : Fin cfg0.N) : k0_pay1 (F := Ideal) (k0_pay4 (iblk m c 0 t) (iblk m c 1 t) (iblk m c 2 t) (iblk m c 3 t) (iblk m c 4 t)) = arr fun r => xn m c (row t r) := by
  funext y
  idx_vars y
  rw [k0_pay4, x_blk, blk4]
  pointwise [k0_pay1]
  simp only [arr_ix2]
  rfl

theorem final_f : (dats m 0 c).arrAt 5 (cfgs 0).N = arr (f m c) := by
  refine (dats m 0 c).arrAt_eq_of_covers 5 _ (by decide +kernel) fun t hf y => ?_
  rw [after0_5]
  frame_out
  rw [f_blk]
  refine congrArg₂ (f m c) (Fin.ext ?_) (Fin.ext ?_)
  · show t.val * 512 + (y 0).val = _
    blk_simp [idx t]
  · show (y 1).val = _
    blk_simp [idx t]

theorem final_x : (dats m 0 c).arrAt 6 (cfgs 0).N = arr (x m c) := by
  refine (dats m 0 c).arrAt_eq_of_covers 6 _ (by decide +kernel) fun t hf y => ?_
  rw [after0_6]
  frame_out
  rw [x_blk]
  refine congrArg₂ (x m c) (Fin.ext ?_) (Fin.ext ?_)
  · show t.val * 512 + (y 0).val = _
    blk_simp [idx t]
  · show (y 1).val = _
    blk_simp [idx t]

theorem final_xn : (dats m 0 c).arrAt 7 (cfgs 0).N = arr (xn m c) := by
  refine (dats m 0 c).arrAt_eq_of_covers 7 _ (by decide +kernel) fun t hf y => ?_
  rw [after0_7]
  frame_out
  rw [xn_blk]
  refine congrArg₂ (xn m c) (Fin.ext ?_) (Fin.ext ?_)
  · show t.val * 512 + (y 0).val = _
    blk_simp [idx t]
  · show (y 1).val = _
    blk_simp [idx t]

end Cert.MixProjIdeal.Value
-- ==== Proof.MixProj.Claim.lean ====
/-
  The claim about the token mixer's output projection: at any arguments the kernel and its reference end with the same three arrays.
-/
module

public import proofs.«01_k».proof.Defs
public import proofs.«01_k».proof.Proof.MixProj.Kernel
public import proofs.«01_k».proof.Proof.Gen.MixProjRefIdeal.Run

@[expose] public section
set_option maxRecDepth 16384
noncomputable section
open Idealize.ShloMosaic Idealize.ShloMosaic.TcCoe Idealize.SL.Sem Cert.Fwd

namespace Cert.MixProj
open Cert.MixProjIdeal.Value

section
open Cert.MixProjRefIdeal Cert.MixProjRefIdeal.Gen
/-- The products with the matrix. -/
theorem dots (a : FVec Ideal S4096x1024 .bf16) (b : FVec Ideal S1x1024x1024 .f32) :
    Host.dotGeneral (φ₁ := .f32) (φ₂ := .f32) dot_S4096x1024_S1024x1024_S4096x1024_1_0_0_1_n_n none (extf .f32 a bitsLt_bf16_f32)
      (shapeCast _ b shapeCasts_S1x1024x1024_S1024x1024) = arr fun i l => ∑ k : Fin 1024, (a (ix2 i k) : EReal) * b (ix3 0 k l) := by
  funext j
  idx_vars j
  pointwise
  rfl
end

theorem algebraic : Cert.algebraic_MixProjIdeal_MixProjRefIdeal := by
  pair_intro
  · run_from Cert.MixProjIdeal.Value.run_blocks m g
  · run_from Cert.MixProjRefIdeal.Value.run m' g'
    · exact (dots _ _).trans final_f.symm
    · refine Eq.trans ?_ final_x.symm
      exact add_eq (eq_arr _) (gain_eq (norm_eq (dots _ _)) (eq_row _))
    · refine Eq.trans ?_ final_xn.symm
      obtain ⟨a0, a1, a2, a3, a4⟩ := hagree c
      unfold Cert.MixProjRefIdeal.Value.res_main_v32
      rw [a0, a1, a2, a3, a4]
      exact gain_eq (norm_eq (add_eq (eq_arr _) (gain_eq (norm_eq (dots _ _)) (eq_row _)))) (eq_row _)

end Cert.MixProj
-- ==== Proof.SguFwd.Kernel.lean ====
/-
  What the kernel of the spatial gating unit leaves in its result array. A grid point handles 512 tokens, four chunks of 128; each of
  the four groups of 256 columns is mixed by its own matrix.
-/
module

public import proofs.«01_k».proof.Proof.Math.Forward
public import proofs.«01_k».proof.Proof.Sgu.Spec
public import proofs.«01_k».proof.Proof.Gen.SguFwdIdeal.Value

@[expose] public section
set_option maxRecDepth 16384
noncomputable section

namespace Cert.SguFwd
open Idealize.ShloMosaic Cert.Fwd

/-- The activation at any extended real. -/
def geE (x : EReal) : EReal := Ideal.ofBits .f32 0x3F000000#32 * x * (1
  + Ideal.tanh (Ideal.ofBits .f32 0x3F4C422A#32 * (x + Ideal.ofBits .f32 0x3D372713#32 * x * x * x)))
/-- A row less its mean. -/
def cenE (v : Fin 1024 → EReal) (l : Fin 1024) : EReal := v l - Ideal.div (∑ k, v k) (Ideal.ofBits .f32 0x44800000#32)
/-- The normed row. -/
def hatE (v : Fin 1024 → EReal) (l : Fin 1024) : EReal := cenE v l * rrE (cenE v)

/-- What the causal mask leaves of an entry. -/
theorem sel_ge (a s : ℕ) (ha : a < 128) (hs : s < 128) (x y : EReal) :
    Scalar.select (IntOp.cmpi CmpIPredicate.sge (BitVec.ofNat 32 a) (BitVec.ofNat 32 s)) x y = if s ≤ a then x else y := by
  rw [Cert.Sgu.ge_bit a s ha hs]
  by_cases hd : s ≤ a <;> simp [hd, Scalar.select]

/-- The mixing matrices as a block holds them, and the biases. -/
def wmat (w : Fin 4 → Fin 128 → Fin 128 → EReal) : (⟨3, ![4, 128, 128]⟩ : Shape).Idx → EReal := fun j => w (j 0) (j 1) (j 2)
@[inherit_doc wmat]
def bmat (b : Fin 4 → Fin 128 → EReal) : (⟨3, ![4, 128, 1]⟩ : Shape).Idx → EReal := fun j => b (j 0) (j 1)
theorem wmat_ix3 (w : Fin 4 → Fin 128 → Fin 128 → EReal) (g : Fin 4) (a s : Fin 128) : wmat w (ix3 g a s) = w g a s := rfl
theorem bmat_ix3 (b : Fin 4 → Fin 128 → EReal) (g : Fin 4) (a : Fin 128) (s : Fin 1) : bmat b (ix3 g a s) = b g a := rfl

end Cert.SguFwd

namespace Cert.SguFwdIdeal.Value
open Cert.SguFwdIdeal Cert.SguFwdIdeal.Gen Idealize.ShloMosaic Idealize.ShloMosaic.TcCoe Idealize.SL.Sem Cert.Fwd Cert.SguFwd
open Cert.Sgu (mate place grp)

section
variable (z : Fin 512 → Fin 1024 → EReal) (g : Fin 1024 → EReal)

theorem pay3_arr : k0_pay3 (F := Ideal) (arr z) = arr fun r l => geE (z r l) := by
  funext j; idx_vars j
  pointwise [k0_pay3]
  rfl
theorem pay4_arr : k0_pay4 (F := Ideal) (arr z) = arr fun r => cenE fun l => geE (z r l) := by
  funext j; idx_vars j
  pointwise [k0_pay4]
  rfl
theorem pay5_arr (r : Fin 512) (i : Fin 1) : k0_pay5 (F := Ideal) (arr z) (ix2 r i)
    = Ideal.div (∑ k, cenE (fun l => geE (z r l)) k * cenE (fun l => geE (z r l)) k) (Ideal.ofBits .f32 0x44800000#32) := by
  unfold k0_pay5
  rw [pay4_arr]
  pointwise
  rfl
/-- The normed values under their gain. -/
theorem pay7_arr : k0_pay7 (F := Ideal) (k0_pay4 (arr z)) (k0_pay5 (arr z)) k0_pay6 (arr fun _ => g) = arr fun r l => hatE (fun l => geE (z r l)) l * g l := by
  rw [pay4_arr]
  funext j; idx_vars j
  pointwise [k0_pay7, k0_pay6]
  simp only [pay5_arr, arr_ix2]
  rfl
end

variable {m : (ℓ : Loc nD τ sig) → Buf (Elt Ideal) ℓ} {c : Dev nD}

/-- Which blocks point `t` reads and writes. -/
theorem idx : ∀ t : Fin cfg0.N, win0_0.index t = ![t.val, 0] ∧ win0_1.index t = ![t.val, 1] ∧ win0_2.index t = ![0, 0]
    ∧ win0_3.index t = ![0, 0, 0] ∧ win0_4.index t = ![0, 0, 0] ∧ win0_5.index t = ![t.val, 0] ∧ t.val < 8 :=
  (by decide +kernel : ∀ t : Fin grid0.N, _)

/-- The token that row `r` of point `t`'s blocks is. -/
def row (t : Fin cfg0.N) (r : Fin 512) : Fin 4096 := ⟨t.val * 512 + r.val, by have := (idx t).2.2.2.2.2.2; omega⟩

variable (m c) in
/-- The arguments: the gate half, the value half, the gain, the mixing matrices and the biases. -/
def zu (i : Fin 4096) (l : Fin 1024) : EReal := m ((c.tc : Thread nD τ).loc main_arg0) (ix2 i ⟨l.val, by omega⟩)
variable (m c) in
@[inherit_doc zu]
def zv (i : Fin 4096) (l : Fin 1024) : EReal := m ((c.tc : Thread nD τ).loc main_arg0) (ix2 i ⟨1024 + l.val, by omega⟩)
variable (m c) in
@[inherit_doc zu]
def gn (l : Fin 1024) : EReal := m ((c.tc : Thread nD τ).loc main_arg1) (ix2 0 l)
variable (m c) in
@[inherit_doc zu]
def w (g : Fin 4) (a s : Fin 128) : EReal := m ((c.tc : Thread nD τ).loc main_arg2) (ix4 0 g a s)
variable (m c) in
@[inherit_doc zu]
def b (g : Fin 4) (a : Fin 128) : EReal := m ((c.tc : Thread nD τ).loc main_arg3) (ix3 0 g a)

variable (m c) in
/-- The normed values under their gain. -/
def vn (i : Fin 4096) (l : Fin 1024) : EReal := hatE (fun l => geE (zv m c i l)) l * gn m c l
variable (m c) in
/-- The mixed values. -/
def sv (i : Fin 4096) (l : Fin 1024) : EReal :=
  (∑ s, (if s.val ≤ (place i).val then w m c (grp l) (place i) s else 0) * vn m c (mate i s) l) + b m c (grp l) (place i)
variable (m c) in
/-- The unit's output. -/
def a (i : Fin 4096) (l : Fin 1024) : EReal := geE (zu m c i l) * sv m c i l

theorem blk0 (t : Fin cfg0.N) : (iblk m c 0 t : FVec Ideal S512x1024 .bf16) = arr fun r => zu m c (row t r) := by
  funext y
  idx_vars y
  show _ = zu m c (row t y0) y1
  unfold zu
  blk_ext! [iblk, V, idx t, row]
theorem blk1 (t : Fin cfg0.N) : (iblk m c 1 t : FVec Ideal S512x1024 .bf16) = arr fun r => zv m c (row t r) := by
  funext y
  idx_vars y
  show _ = zv m c (row t y0) y1
  unfold zv
  blk_ext! [iblk, V, idx t, row]
theorem blk2 (t : Fin cfg0.N) : (iblk m c 2 t : FVec Ideal S1x1024 .f32) = arr fun _ => gn m c := by
  funext y
  idx_vars y
  obtain rfl : y0 = 0 := Subsingleton.elim _ _
  show _ = gn m c y1
  unfold gn
  blk_ext! [iblk, idx t]
theorem blk3 (t : Fin cfg0.N) : (iblk m c 3 t : FVec Ideal S4x128x128 .f32) = wmat (w m c) := by
  funext y
  idx_vars y
  show _ = w m c y0 y1 y2
  unfold w
  blk_ext! [iblk, idx t]
theorem blk4 (t : Fin cfg0.N) : (iblk m c 4 t : FVec Ideal S4x128x1 .f32) = bmat (b m c) := by
  funext y
  idx_vars y
  show _ = b m c y0 y1
  unfold b
  blk_ext! [iblk, idx t]

/-- One entry of a block of the output, its token and column named as the tile names them. -/
theorem a_term {t : Fin cfg0.N} {u v : Fin 512 → Fin 1024 → EReal} (hu : u = fun r l => geE (zu m c (row t r) l)) (hv : v = fun r => vn m c (row t r))
    {r r' : Fin 512} {l l' : Fin 1024} {g : Fin 4} {p : Fin 128} {f : Fin 128 → Fin 512} (hr : r.val = r'.val) (hl : l.val = l'.val)
    (hg : g.val = l.val / 256) (hp : p.val = r.val % 128) (hf : ∀ s, (f s).val = r.val / 128 * 128 + s.val) :
    u r l * ((∑ s, if s.val ≤ p.val then w m c g p s * v (f s) l else 0) + b m c g p) = a m c (row t r') l' := by
  obtain rfl := Fin.ext hr
  obtain rfl := Fin.ext hl
  have hg' : g = grp l := Fin.ext hg
  have hp' : p = place (row t r) := Fin.ext (by simp only [place, row]; omega)
  have hf' : ∀ s, row t (f s) = mate (row t r) s := fun s => Fin.ext (by simp only [mate, row, hf]; omega)
  rw [a, sv, hu, hv, ← hg', ← hp']
  simp only [← hf', ite_mul, zero_mul]

/-- Point `t`'s activated gates and normed values, and the kernel's arrays that hold them. -/
theorem block_arrays (t : Fin cfg0.N) : ∃ u v : Fin 512 → Fin 1024 → EReal, u = (fun r l => geE (zu m c (row t r) l)) ∧ v = (fun r => vn m c (row t r))
    ∧ k0_pay3 (F := Ideal) (arr fun r => zu m c (row t r)) = arr u
    ∧ k0_pay7 (F := Ideal) (k0_pay4 (arr fun r => zv m c (row t r))) (k0_pay5 (arr fun r => zv m c (row t r))) k0_pay6 (arr fun _ => gn m c) = arr v :=
  ⟨_, _, rfl, rfl, pay3_arr _, pay7_arr _ _⟩

set_option maxHeartbeats 3200000 in
/-- What point `t` leaves in its block of the result. -/
theorem out5 (t : Fin cfg0.N) (y : S512x1024.Idx) :
    out0_5 (F := Ideal) (iblk m c 0 t) (iblk m c 1 t) (iblk m c 2 t) (iblk m c 3 t) (iblk m c 4 t) y = a m c (row t (y 0)) (y 1) := by
  obtain ⟨u, v, hu, hv, e3, e7⟩ := block_arrays (m := m) (c := c) t
  unfold_out out0_5
  frame_out
  rw [blk0, blk1, blk2, blk3, blk4]
  simp only [k0_pay11, k0_pay12, k0_pay13, e7, e3]
  clear e7 e3
  canon_tiles x h
  all_goals
    idx_vars x
    open_payloads
    pointwise
    simp only [wmat_ix3, bmat_ix3, arr_ix2, sel_ge, Fin.is_lt, Ideal.ofBits_zero_f32]
    refine a_term hu hv ?_ ?_ ?_ ?_ fun s => ?_ <;> simp only [] <;> omega

theorem final_a : (dats m 0 c).arrAt 5 (cfgs 0).N = arr (a m c) := by
  refine (dats m 0 c).arrAt_eq_of_covers 5 _ (by decide +kernel) fun t hf y => ?_
  rw [after0_5, out5]
  refine congrArg₂ (a m c) (Fin.ext ?_) (Fin.ext ?_)
  · show t.val * 512 + (y 0).val = _
    blk_simp [idx t]
  · show (y 1).val = _
    blk_simp [idx t]

end Cert.SguFwdIdeal.Value
-- ==== Proof.SguFwd.Reference.lean ====
/-
  The lines of the gating unit's reference, one after the other, over arrays of extended reals: the halves, the activation, the layer
  norm, the mixing of the tokens, the gate.
-/
module

public import proofs.«01_k».proof.Proof.SguFwd.Kernel
public import proofs.«01_k».proof.Proof.Gen.SguFwdRefIdeal.Run

@[expose] public section
set_option maxRecDepth 16384
noncomputable section
namespace Cert.SguFwdRefIdeal.Value
open Cert.SguFwdRefIdeal Cert.SguFwdRefIdeal.Gen Idealize.ShloMosaic Idealize.ShloMosaic.TcCoe Idealize.SL.Sem Cert.Fwd Cert.SguFwd
open Cert.Sgu (mate place grp)

/-- An array of one sequence of rows. -/
def seq (X : Fin 4096 → Fin 1024 → EReal) : FVec Ideal S1x4096x1024 .f32 := fun j => X (j 1) (j 2)
theorem seq_ix3 (X : Fin 4096 → Fin 1024 → EReal) (o : Fin 1) (i : Fin 4096) (l : Fin 1024) : seq X (ix3 o i l) = X i l := rfl

/-- The two halves. -/
theorem half_u (z : FVec Ideal S4096x5120 .bf16) : extractStridedSlice S1x4096x1024 ![0, 0, 0] (broadcastInDim S1x4096x5120 ![1, 2] bcast_S4096x5120_S1x4096x5120_1_2 (extf .f32 z bitsLt_bf16_f32)) slices_S1x4096x5120_S1x4096x1024_0_0_0
    = seq fun i l => z (ix2 i ⟨l.val, by omega⟩) := by
  funext j
  idx_vars j
  pointwise
  rfl
theorem half_v (z : FVec Ideal S4096x5120 .bf16) : extractStridedSlice S1x4096x1024 ![0, 0, 1024] (broadcastInDim S1x4096x5120 ![1, 2] bcast_S4096x5120_S1x4096x5120_1_2 (extf .f32 z bitsLt_bf16_f32)) slices_S1x4096x5120_S1x4096x1024_0_0_1024
    = seq fun i l => z (ix2 i ⟨1024 + l.val, by omega⟩) := by
  funext j
  idx_vars j
  pointwise
  rfl

variable {X Y : Fin 4096 → Fin 1024 → EReal} {x y : FVec Ideal S1x4096x1024 .f32}

/-- The activation. -/
theorem gelu_eq (hx : x = seq X) : mulf x (mulf (broadcastInDim S1x4096x1024 ![] bcast_S_S1x4096x1024 (constant (F := Ideal) S_ .f32 0x3F000000#32))
    (addf (broadcastInDim S1x4096x1024 ![] bcast_S_S1x4096x1024 (constant S_ .f32 0x3F800000#32)) (Host.tanh (mulf (broadcastInDim S1x4096x1024 ![] bcast_S_S1x4096x1024 (constant S_ .f32 0x3F4C422A#32))
      (addf x (mulf (broadcastInDim S1x4096x1024 ![] bcast_S_S1x4096x1024 (constant S_ .f32 0x3D372713#32)) (mulf (mulf x x) x)))))))
    = seq fun i l => geE (X i l) := by
  subst hx
  funext j
  idx_vars j
  pointwise
  simp only [seq_ix3]
  rw [geE, ← mul_assoc, mul_comm (X _ _) (Ideal.ofBits .f32 0x3F000000#32), ← mul_assoc, ← mul_assoc]

/-- A row less its mean, and the centred row over its root mean square. -/
theorem cen_eq (hx : x = seq X) : subf x (broadcastInDim S1x4096x1024 ![0, 1, 2] bcast_S1x4096x1_S1x4096x1024_0_1_2
    (Host.divf (broadcastInDim S1x4096x1 ![0, 1] bcast_S1x4096_S1x4096x1_0_1 (Host.reduceAdd x (constant (F := Ideal) S_ .f32 0x00000000#32) reducesTo_S1x4096x1024_S1x4096_d2 h_S_))
      (broadcastInDim S1x4096x1 ![] bcast_S_S1x4096x1 (constant S_ .f32 0x44800000#32)))) = seq fun i => cenE (X i) := by
  subst hx
  funext j
  idx_vars j
  pointwise
  simp only [seq_ix3]
  rfl
theorem hat_eq (hx : x = seq X) : mulf x (broadcastInDim S1x4096x1024 ![0, 1, 2] bcast_S1x4096x1_S1x4096x1024_0_1_2 (Host.rsqrt (addf
    (Host.divf (broadcastInDim S1x4096x1 ![0, 1] bcast_S1x4096_S1x4096x1_0_1 (Host.reduceAdd (mulf x x) (constant (F := Ideal) S_ .f32 0x00000000#32) reducesTo_S1x4096x1024_S1x4096_d2 h_S_))
      (broadcastInDim S1x4096x1 ![] bcast_S_S1x4096x1 (constant S_ .f32 0x44800000#32))) (broadcastInDim S1x4096x1 ![] bcast_S_S1x4096x1 (constant S_ .f32 0x358637BD#32)))))
    = seq fun i l => X i l * rrE (X i) := by
  subst hx
  funext j
  idx_vars j
  pointwise
  simp only [seq_ix3]
  rfl
/-- The gain. -/
theorem scaled (hx : x = seq X) (g : FVec Ideal S1x1024 .f32) : mulf x (broadcastInDim S1x4096x1024 ![0, 1, 2] bcast_S1x1x1024_S1x4096x1024_0_1_2
    (broadcastInDim S1x1x1024 ![2] bcast_S1024_S1x1x1024_2 (shapeCast _ g shapeCasts_S1x1024_S1024))) = seq fun i l => X i l * g (ix2 0 l) := by
  subst hx
  funext j
  idx_vars j
  pointwise
  rfl

/-- The mask. -/
theorem mask_at (g : Fin 4) (p s : Fin 128) : (broadcastInDim S4x128x128 ![0, 1, 2] bcast_S1x128x128_S4x128x128_0_1_2 (broadcastInDim S1x128x128 ![1, 2] bcast_S128x128_S1x128x128_1_2
    (select (cmpi .sge (addi (iotaInDim S128x128 32 0) (broadcastInDim S128x128 ![] bcast_S_S128x128 (constantI S_ 32 0#32))) (iotaInDim S128x128 32 1))
      (broadcastInDim S128x128 ![] bcast_S_S128x128 (constantI S_ 1 1#1)) (broadcastInDim S128x128 ![] bcast_S_S128x128 (constantI S_ 1 0#1))))) (ix3 g p s)
    = if s.val ≤ p.val then 1#1 else 0#1 := by
  pointwise
  rw [show IntOp.addi (BitVec.ofNat 32 p.val) 0#32 = BitVec.ofNat 32 p.val from BitVec.add_zero _, Cert.Sgu.ge_bit _ _ p.isLt s.isLt]
  by_cases hd : s.val ≤ p.val <;> simp [hd, Scalar.select]

/-- The masked matrices. -/
theorem masked_at (w : FVec Ideal S1x4x128x128 .f32) (g : Fin 4) (p s : Fin 128) : select (broadcastInDim S4x128x128 ![0, 1, 2] bcast_S1x128x128_S4x128x128_0_1_2 (broadcastInDim S1x128x128 ![1, 2] bcast_S128x128_S1x128x128_1_2
    (select (cmpi .sge (addi (iotaInDim S128x128 32 0) (broadcastInDim S128x128 ![] bcast_S_S128x128 (constantI S_ 32 0#32))) (iotaInDim S128x128 32 1))
      (broadcastInDim S128x128 ![] bcast_S_S128x128 (constantI S_ 1 1#1)) (broadcastInDim S128x128 ![] bcast_S_S128x128 (constantI S_ 1 0#1)))))
    (shapeCast _ w shapeCasts_S1x4x128x128_S4x128x128) (broadcastInDim S4x128x128 ![] bcast_S_S4x128x128 (id (constant S_ .f32 0x00000000#32))) (ix3 g p s)
    = if s.val ≤ p.val then (w (ix4 0 g p s) : EReal) else 0 := by
  show Scalar.select _ _ _ = _
  rw [mask_at]
  by_cases hd : s.val ≤ p.val
  · rw [if_pos hd, if_pos hd]
    show shapeCast _ w shapeCasts_S1x4x128x128_S4x128x128 (ix3 g p s) = _
    pointwise
  · rw [if_neg hd, if_neg hd]
    exact Ideal.ofBits_zero_f32

/-- The mixed values: `ws` are the matrices, `b` the biases. -/
theorem mix_eq (hx : x = seq X) {ws : FVec Ideal S4x128x128 .f32} {W : Fin 4 → Fin 128 → Fin 128 → EReal} (hw : ∀ g p s, ws (ix3 g p s) = W g p s) (b : FVec Ideal S1x4x128 .f32) :
    shapeCast _ (addf (transpose S1x32x128x4x256 [1, 2, 4, 0, 3] (Host.dotGeneral (φ₁ := .f32) (φ₂ := .f32) dot_S1x32x128x4x256_S4x128x128_S4x1x32x256x128_2_2_014_1_3_0 none
        (shapeCast _ x shapeCasts_S1x4096x1024_S1x32x128x4x256) ws) transposes_S4x1x32x256x128_S1x32x128x4x256_1_2_4_0_3)
      (broadcastInDim S1x32x128x4x256 ![0, 1, 2, 3, 4] bcast_S1x1x128x4x1_S1x32x128x4x256_0_1_2_3_4 (broadcastInDim S1x1x128x4x1 ![2, 3, 4] bcast_S128x4x1_S1x1x128x4x1_2_3_4
        (broadcastInDim S128x4x1 ![0, 1] bcast_S128x4_S128x4x1_0_1 (transpose S128x4 [1, 0] (shapeCast _ b shapeCasts_S1x4x128_S4x128) transposes_S4x128_S128x4_1_0)))))
      shapeCasts_S1x32x128x4x256_S1x4096x1024
    = seq fun i l => (∑ s, W (grp l) (place i) s * X (mate i s) l) + b (ix3 0 (grp l) (place i)) := by
  subst hx
  funext j
  idx_vars j
  pointwise
  simp only [seq_ix3, hw]
  refine congrArg (fun u : EReal => u + b (ix3 0 (grp j2) (place j1))) (Finset.sum_congr rfl fun s _ => ?_)
  rw [mul_comm]
  rfl

/-- The gated values. -/
theorem gated (hx : x = seq X) (hy : y = seq Y) : truncf .bf16 (shapeCast _ (mulf x y) shapeCasts_S1x4096x1024_S4096x1024) bitsLt_bf16_f32
    = arr fun i l => X i l * Y i l := by
  subst hx hy
  funext j
  idx_vars j
  pointwise
  rfl

end Cert.SguFwdRefIdeal.Value
-- ==== Proof.SguFwd.Claim.lean ====
/-
  The claim about the spatial gating unit: at any arguments the kernel and its reference end with the same array.
-/
module

public import proofs.«01_k».proof.Defs
public import proofs.«01_k».proof.Proof.SguFwd.Reference

@[expose] public section
set_option maxRecDepth 16384
noncomputable section
open Idealize.ShloMosaic Idealize.ShloMosaic.TcCoe Idealize.SL.Sem Cert.Fwd

namespace Cert.SguFwd
open Cert.SguFwdIdeal.Value Cert.SguFwdRefIdeal.Value

set_option maxHeartbeats 3200000 in
theorem algebraic : Cert.algebraic_SguFwdIdeal_SguFwdRefIdeal := by
  pair_intro
  · run_from Cert.SguFwdIdeal.Value.run_blocks m g
  · run_from Cert.SguFwdRefIdeal.Value.run m' g'
    · obtain ⟨a0, a1, a2, a3⟩ := hagree c
      refine Eq.trans ?_ final_a.symm
      unfold Cert.SguFwdRefIdeal.Value.res_main_v67
      rw [a0, a1, a2, a3]
      exact gated (gelu_eq (half_u _)) (mix_eq (scaled (hat_eq (cen_eq (gelu_eq (half_v _)))) _) (masked_at _) _)

end Cert.SguFwd
-- ==== Proof.PoolFwd.Reference.lean ====
/-
  What the reference of the pooling computes where the pooled columns are finite: the entries that the kernel leaves.
-/
module

public import proofs.«01_k».proof.Proof.Gen.PoolFwdRefIdeal.Run
public import proofs.«01_k».proof.Proof.Pool.Reference
public import proofs.«01_k».proof.Proof.Math.Forward

@[expose] public section
set_option maxRecDepth 16384
noncomputable section
namespace Cert.PoolFwdRefIdeal.Value
open Cert.PoolFwdRefIdeal Cert.PoolFwdRefIdeal.Gen Idealize.ShloMosaic Idealize.ShloMosaic.TcCoe Idealize.SL.Sem Cert.Reals Cert.Pool Cert.Fwd
open Cert.PoolBwdRefIdeal.Value (seq seq_ix3 diff_of beneath running_down lo_word count_word)

/-- The running sums, a row of zeros above them. -/
theorem running_at (C : Fin 4096 → Fin 1024 → ℝ) (z : FVec Ideal S1x1x1024 .f32) (hz : z = fun _ => 0) (x : FVec Ideal S1x4096x1024 .f32) (hx : x = seq C)
    (init : S_.Idx → EReal) (h0 : init (Shape.Idx.first h_S_) = 0) (b : Fin 4097) (l : Fin 1024) :
    concatenate S1x4097x1024 1 [⟨S1x1x1024, z⟩, ⟨S1x4096x1024, (Host.reduceWindowAdd (F := Ideal) (φ := .f32) ![1, 4096, 1] ![1, 1, 1] ![0, 4095, 0] ![0, 0, 0] x init
        reduceWindows_S1x4096x1024_S1x4096x1024_w1s1p0_0_w4096s1p4095_0_w1s1p0_0 h_S_ : FVec Ideal S1x4096x1024 .f32)⟩]
      concatenates_S1x1x1024_S1x4096x1024_S1x4097x1024_d1 (ix3 0 b l) = ((∑ k ∈ Finset.range b.val, at' C k l : ℝ) : EReal) := by
  subst hz hx
  refine (beneath _ _ b l).trans ?_
  split
  next hb =>
    rw [show b.val = 0 by omega]
    simp
  next hb =>
    refine (running_down _ C (fun i l => rfl) init h0 _ _ _).trans ?_
    show ((∑ k ∈ Finset.range (b.val - 1 + 1), at' C k l : ℝ) : EReal) = _
    rw [show b.val - 1 + 1 = b.val by omega]

/-- The mixing of a group. -/
theorem mixed (d : Fin 4096 → Fin 256 → ℝ) (v : FVec Ideal S256x256 .f32) (i : Fin 4096) (l : Fin 256) :
    Host.dotGeneral (F := Ideal) (φ₁ := .f32) (φ₂ := .f32) dot_S1x4096x256_S256x256_S1x4096x256_2_0_01_1_n_n none (seq d) v (ix3 0 i l) = ∑ k, (d i k : EReal) * v (ix2 k l) := by
  pointwise
  simp only [seq_ix3]

/-- The four groups side by side, scaled. -/
theorem assemble (P0 P1 P2 P3 : FVec Ideal S1x4096x256 .f32) (a : FVec Ideal S1x4096x1024 .f32) (g : Fin 4) (i : Fin 4096) (l : Fin 256) :
    truncf (F := Ideal) (φ := .f32) .bf16 (shapeCast S4096x1024 (mulf (concatenate S1x4096x1024 2 [⟨S1x4096x256, P0⟩, ⟨S1x4096x256, P1⟩, ⟨S1x4096x256, P2⟩, ⟨S1x4096x256, P3⟩]
      concatenates_S1x4096x256_S1x4096x256_S1x4096x256_S1x4096x256_S1x4096x1024_d2) a) shapeCasts_S1x4096x1024_S4096x1024) bitsLt_bf16_f32 (ix2 i (col g l))
      = (![P0, P1, P2, P3] : Fin 4 → FVec Ideal S1x4096x256 .f32) g (ix3 0 i l) * a (ix3 0 i (col g l)) := by
  fin_cases g
  all_goals pointwise [col]
  · rw [dif_neg (by omega), dif_pos (by omega)]
    simp only [Nat.add_sub_cancel]
  · rw [dif_neg (by omega), dif_neg (by omega), dif_pos (by omega)]
    exact congrArg (fun k : Fin 256 => P2 (ix3 0 i k) * a (ix3 0 i ⟨l.val + 512, by omega⟩)) (Fin.ext (by show l.val + 512 - 256 - 256 = l.val; omega))
  · rw [dif_neg (by omega), dif_neg (by omega), dif_neg (by omega)]
    exact congrArg (fun k : Fin 256 => P3 (ix3 0 i k) * a (ix3 0 i ⟨l.val + 768, by omega⟩)) (Fin.ext (by show l.val + 768 - 256 - 256 - 256 = l.val; omega))

variable (a0 : FVec Ideal S4096x5120 .bf16) (a1 : FVec Ideal S1x4x256x256 .f32) (a2 : FVec Ideal S1x1024 .f32)

/-- The pooled columns. -/
abbrev pooled : FVec Ideal S1x4096x1024 .f32 :=
  broadcastInDim S1x4096x1024 ![1, 2] bcast_S4096x1024_S1x4096x1024_1_2 (extf .f32 (extractStridedSlice S4096x1024 ![0, 2048] a0 slices_S4096x5120_S4096x1024_0_2048) bitsLt_bf16_f32)
/-- Their running sums. -/
abbrev sums : FVec Ideal S1x4097x1024 .f32 :=
  concatenate S1x4097x1024 1 [⟨S1x1x1024, (broadcastInDim S1x1x1024 ![] bcast_S_S1x1x1024 (constant S_ .f32 0x00000000#32))⟩,
    ⟨S1x4096x1024, (Host.reduceWindowAdd ![1, 4096, 1] ![1, 1, 1] ![0, 4095, 0] ![0, 0, 0] (pooled a0) (broadcastInDim S_ ![] bcast_S_S_ (constant S_ .f32 0x00000000#32))
      reduceWindows_S1x4096x1024_S1x4096x1024_w1s1p0_0_w4096s1p4095_0_w1s1p0_0 h_S_)⟩] concatenates_S1x1x1024_S1x4096x1024_S1x4097x1024_d1
/-- The row after each row. -/
abbrev after : IVec S4096 32 := addi (iotaInDim S4096 32 0) (broadcastInDim S4096 ![] bcast_S_S4096 (constantI S_ 32 1#32))
/-- The first row of each row's window. -/
abbrev first (b : BitVec 32) : IVec S4096 32 :=
  maxsi (subi after (broadcastInDim S4096 ![] bcast_S_S4096 (constantI S_ 32 b))) (broadcastInDim S4096 ![] bcast_S_S4096 (constantI S_ 32 0#32))
/-- A group's window means less its rows. -/
abbrev means (b : BitVec 32) (o : ℕ) (h1 : S1x4097x1024.Slices ![0, 0, o] S1x4097x256) (h2 : S1x4096x1024.Slices ![0, 0, o] S1x4096x256) : FVec Ideal S1x4096x256 .f32 :=
  subf (Host.divf (subf (extractStridedSlice S1x4096x256 ![0, 1, 0] (extractStridedSlice S1x4097x256 ![0, 0, o] (sums a0) h1) slices_S1x4097x256_S1x4096x256_0_1_0)
      (Host.gather gather_S1x4097x256_S4096x1_S1x4096x256_02_1_n_n_1_1_11256 (extractStridedSlice S1x4097x256 ![0, 0, o] (sums a0) h1)
        (broadcastInDim S4096x1 ![0] bcast_S4096_S4096x1_0 (select (cmpi .slt (first b) (broadcastInDim S4096 ![] bcast_S_S4096 (constantI S_ 32 0#32)))
          (addi (first b) (broadcastInDim S4096 ![] bcast_S_S4096 (constantI S_ 32 4097#32))) (first b)))))
      (broadcastInDim S1x4096x256 ![0, 1, 2] bcast_S1x4096x1_S1x4096x256_0_1_2 (broadcastInDim S1x4096x1 ![1] bcast_S4096_S1x4096x1_1 (sitofp .f32 (subi after (first b))))))
    (extractStridedSlice S1x4096x256 ![0, 0, o] (pooled a0) h2)
/-- A group's matrix. -/
abbrev matrix (g : ℕ) (h : S4x256x256.Slices ![g, 0, 0] S1x256x256) : FVec Ideal S256x256 .f32 :=
  shapeCast _ (extractStridedSlice S1x256x256 ![g, 0, 0] (shapeCast _ a1 shapeCasts_S1x4x256x256_S4x256x256) h) shapeCasts_S1x256x256_S256x256
/-- A group's result. -/
abbrev group (b : BitVec 32) (o : ℕ) (h1 : S1x4097x1024.Slices ![0, 0, o] S1x4097x256) (h2 : S1x4096x1024.Slices ![0, 0, o] S1x4096x256) (g : ℕ)
    (h : S4x256x256.Slices ![g, 0, 0] S1x256x256) : FVec Ideal S1x4096x256 .f32 :=
  Host.dotGeneral dot_S1x4096x256_S256x256_S1x4096x256_2_0_01_1_n_n none (means a0 b o h1 h2) (matrix a1 g h)

/-- The pooled columns hold these reals. -/
def Holds (C : Fin 4096 → Fin 1024 → ℝ) : Prop := ∀ i l, a0 (ix2 i ⟨2048 + (l : Fin 1024).val, by omega⟩) = (C i l : EReal)

variable {a0} {C : Fin 4096 → Fin 1024 → ℝ} (hC : Holds a0 C)
include hC

theorem pooled_eq : pooled a0 = seq C := by
  funext j; idx_vars j
  rw [seq_ix3, ← hC]
  pointwise

theorem sums_at (b : Fin 4097) (l : Fin 1024) : sums a0 (ix3 0 b l) = ((∑ k ∈ Finset.range b.val, at' C k l : ℝ) : EReal) :=
  running_at C _ (by funext j; idx_vars j; pointwise) _ (pooled_eq hC) _ (by pointwise) b l

theorem means_eq (g : Fin 4) (w : ℕ) (hw : w ∈ [2, 4, 8, 16]) (b : BitVec 32) (hb : b = BitVec.ofNat 32 w) (o : ℕ) (ho : o = 256 * g.val)
    (h1 : S1x4097x1024.Slices ![0, 0, o] S1x4097x256) (h2 : S1x4096x1024.Slices ![0, 0, o] S1x4096x256) :
    means a0 b o h1 h2 = seq (Pool.diff w (cols g C)) := by
  subst hb ho
  have e : ∀ l : Fin 256, (⟨256 * g.val + l.val, by omega⟩ : Fin 1024) = col g l := fun l => Fin.ext (Nat.add_comm _ _)
  refine diff_of (w := w) (by fin_cases hw <;> decide) (cols g C) _ _ _ _ (fun b l => ?_) (fun i => ?_) (fun i => ?_) ?_
  · have := sums_at hC b (col g l)
    generalize sums a0 = x at this ⊢
    pointwise
    exact (congrArg (fun k => x (ix3 0 b k)) (e l)).trans this
  · pointwise
    exact lo_word w hw i
  · pointwise
    exact (congrArg (fun n : ℤ => ((n : ℝ) : EReal)) (count_word w hw i)).trans rfl
  · rw [pooled_eq hC]
    funext j; idx_vars j
    pointwise
    exact congrArg (fun k => (C j1 k : EReal)) (e j2)

theorem group_at (g : Fin 4) (w : ℕ) (hw : w ∈ [2, 4, 8, 16]) (b : BitVec 32) (hb : b = BitVec.ofNat 32 w) (o : ℕ) (ho : o = 256 * g.val)
    (h1 : S1x4097x1024.Slices ![0, 0, o] S1x4097x256) (h2 : S1x4096x1024.Slices ![0, 0, o] S1x4096x256) (n : ℕ) (hn : n = g.val)
    (h : S4x256x256.Slices ![n, 0, 0] S1x256x256) (i : Fin 4096) (l : Fin 256) :
    group a0 a1 b o h1 h2 n h (ix3 0 i l) = ∑ k, ((Pool.diff w (cols g C) i k : ℝ) : EReal) * a1 (ix4 0 g k l) := by
  unfold group
  rw [means_eq hC g w hw b hb o ho h1 h2]
  refine (mixed _ _ _ _).trans (Finset.sum_congr rfl fun k _ => congrArg _ ?_)
  subst hn
  pointwise

/-- The result's entry in column `l` of group `g`. -/
theorem final_at (g : Fin 4) (i : Fin 4096) (l : Fin 256) :
    truncf (F := Ideal) (φ := .f32) .bf16 (shapeCast _ (mulf (concatenate S1x4096x1024 2 [
        ⟨S1x4096x256, group a0 a1 2#32 0 slices_S1x4097x1024_S1x4097x256_0_0_0 slices_S1x4096x1024_S1x4096x256_0_0_0 0 slices_S4x256x256_S1x256x256_0_0_0⟩,
        ⟨S1x4096x256, group a0 a1 4#32 256 slices_S1x4097x1024_S1x4097x256_0_0_256 slices_S1x4096x1024_S1x4096x256_0_0_256 1 slices_S4x256x256_S1x256x256_1_0_0⟩,
        ⟨S1x4096x256, group a0 a1 8#32 512 slices_S1x4097x1024_S1x4097x256_0_0_512 slices_S1x4096x1024_S1x4096x256_0_0_512 2 slices_S4x256x256_S1x256x256_2_0_0⟩,
        ⟨S1x4096x256, group a0 a1 16#32 768 slices_S1x4097x1024_S1x4097x256_0_0_768 slices_S1x4096x1024_S1x4096x256_0_0_768 3 slices_S4x256x256_S1x256x256_3_0_0⟩]
      concatenates_S1x4096x256_S1x4096x256_S1x4096x256_S1x4096x256_S1x4096x1024_d2)
      (broadcastInDim S1x4096x1024 ![0, 1, 2] bcast_S1x1x1024_S1x4096x1024_0_1_2 (broadcastInDim S1x1x1024 ![2] bcast_S1024_S1x1x1024_2 (shapeCast _ a2 shapeCasts_S1x1024_S1024))))
      shapeCasts_S1x4096x1024_S4096x1024) bitsLt_bf16_f32 (ix2 i (col g l))
      = (∑ k, ((Pool.diff (win g) (cols g C) i k : ℝ) : EReal) * a1 (ix4 0 g k l)) * a2 (ix2 0 (col g l)) := by
  have hg : ∀ g : Fin 4, (![group a0 a1 2#32 0 slices_S1x4097x1024_S1x4097x256_0_0_0 slices_S1x4096x1024_S1x4096x256_0_0_0 0 slices_S4x256x256_S1x256x256_0_0_0,
      group a0 a1 4#32 256 slices_S1x4097x1024_S1x4097x256_0_0_256 slices_S1x4096x1024_S1x4096x256_0_0_256 1 slices_S4x256x256_S1x256x256_1_0_0,
      group a0 a1 8#32 512 slices_S1x4097x1024_S1x4097x256_0_0_512 slices_S1x4096x1024_S1x4096x256_0_0_512 2 slices_S4x256x256_S1x256x256_2_0_0,
      group a0 a1 16#32 768 slices_S1x4097x1024_S1x4097x256_0_0_768 slices_S1x4096x1024_S1x4096x256_0_0_768 3 slices_S4x256x256_S1x256x256_3_0_0] : Fin 4 → FVec Ideal S1x4096x256 .f32) g (ix3 0 i l)
      = ∑ k, ((Pool.diff (win g) (cols g C) i k : ℝ) : EReal) * a1 (ix4 0 g k l) := fun g => match g with
    | 0 => group_at a1 hC 0 2 (by decide) _ rfl _ rfl _ _ _ rfl _ i l
    | 1 => group_at a1 hC 1 4 (by decide) _ rfl _ rfl _ _ _ rfl _ i l
    | 2 => group_at a1 hC 2 8 (by decide) _ rfl _ rfl _ _ _ rfl _ i l
    | 3 => group_at a1 hC 3 16 (by decide) _ rfl _ rfl _ _ _ rfl _ i l
  refine (assemble _ _ _ _ _ g i l).trans ?_
  refine congrArg₂ (fun a b : EReal => a * b) (hg g) ?_
  pointwise

end Cert.PoolFwdRefIdeal.Value
-- ==== Proof.PoolFwd.Kernel.lean ====
/-
  What the kernel of the pooling leaves in its result array where the pooled columns are finite. A grid point handles one group of 256 columns:
  the group's window means less its rows, mixed by the group's matrix and scaled. Matrices and scale may hold any extended reals.
-/
module

public import proofs.«01_k».proof.Proof.Gen.PoolFwdIdeal.Value
public import proofs.«01_k».proof.Proof.Pool.Kernel
public import proofs.«01_k».proof.Proof.Math.Forward

@[expose] public section
set_option maxRecDepth 16384
noncomputable section
namespace Cert.PoolFwdIdeal.Value
open Cert.PoolFwdIdeal Cert.PoolFwdIdeal.Gen Idealize.ShloMosaic Idealize.ShloMosaic.TcCoe Idealize.SL.Sem Cert.Reals Cert.Pool Cert.Fwd
open Cert.PoolBwdIdeal.Value (back_1 back_2 back_4 back_8 of_back narrow widen counts quotient minus)

/-- The entry of a group: its differences `d` mixed by `v`, scaled by `s`. -/
def mixE (d : Fin 4096 → Fin 256 → ℝ) (v : Fin 256 → Fin 256 → EReal) (s : Fin 256 → EReal) (i : Fin 4096) (l : Fin 256) : EReal :=
  (∑ k, (d i k : EReal) * v k l) * s l

variable {m : (ℓ : Loc nD τ sig) → Buf (Elt Ideal) ℓ} {c : Dev nD}

/-- Which blocks point `t` reads and writes. -/
theorem idx : ∀ t : Fin cfg0.N, win0_0.index t = ![0, 8 + t.val] ∧ win0_1.index t = ![t.val, 0, 0] ∧ win0_2.index t = ![0, t.val]
    ∧ win0_3.index t = ![0, t.val] ∧ t.val < 4 :=
  (by decide +kernel : ∀ t : Fin grid0.N, _)

/-- The group that point `t` handles. -/
def grp (t : Fin cfg0.N) : Fin 4 := ⟨t.val, (idx t).2.2.2.2⟩

variable (m c) in
/-- The matrices. -/
def W (g : Fin 4) (k l : Fin 256) : EReal := m ((c.tc : Thread nD τ).loc main_arg1) (ix4 0 g k l)
variable (m c) in
/-- The scale. -/
def S (j : Fin 1024) : EReal := m ((c.tc : Thread nD τ).loc main_arg2) (ix2 0 j)
variable (m c) in
/-- The pooled columns hold these reals. -/
def Holds (C : Fin 4096 → Fin 1024 → ℝ) : Prop :=
  ∀ i l, m ((c.tc : Thread nD τ).loc main_arg0) (ix2 i ⟨2048 + (l : Fin 1024).val, by omega⟩) = (C i l : EReal)

theorem blk1 (t : Fin cfg0.N) : (iblk m c 1 t : FVec Ideal S1x256x256 .bf16) = fun y => W m c (grp t) (y 1) (y 2) := by
  funext y
  idx_vars y
  unfold W
  blk_ext! [iblk, idx t, grp]
theorem blk2 (t : Fin cfg0.N) : (iblk m c 2 t : FVec Ideal S1x256 .f32) = fun y => S m c (col (grp t) (y 1)) := by
  funext y
  idx_vars y
  unfold S
  blk_ext! [iblk, idx t, grp, col]

/-- The mixing and the scaling. -/
theorem product (d : Fin 4096 → Fin 256 → ℝ) (v : Fin 256 → Fin 256 → EReal) (s : Fin 256 → EReal) :
    truncf (F := Ideal) (φ := .f32) .bf16 (mulf (matmul (F := Ideal) (φ₁ := .bf16) (φ₂ := .bf16) dot_S4096x256_S256x256_S4096x256_1_0_0_1_n_n none (mat d)
        (shapeCast S256x256 (fun y : S1x256x256.Idx => v (y 1) (y 2)) shapeCasts_S1x256x256_S256x256) (constant S4096x256 .f32 0x00000000#32))
      (broadcastTo S4096x256 (shapeCast S1x256 (fun y : S1x256.Idx => s (y 1)) shapeCasts_S1x256_S1x256) broadcasts_S1x256_S4096x256)) bitsLt_bf16_f32
      = arr (mixE d v s) := by
  funext y
  idx_vars y
  pointwise
  simp only [mat_ix2]
  rfl

variable {C : Fin 4096 → Fin 1024 → ℝ} (h : Holds m c C)
include h

theorem blk0 (t : Fin cfg0.N) : (iblk m c 0 t : FVec Ideal S4096x256 .bf16) = mat (cols (grp t) C) := by
  funext y
  idx_vars y
  refine Eq.trans ?_ (h y0 (col (grp t) y1))
  blk_ext! [iblk, V, idx t, grp, col]

theorem out_A (t : Fin cfg0.N) (h0 : t.val % 4 = 0) : outsAt0 m c t.val t.isLt
    = arr (mixE (Pool.diff (win (grp t)) (cols (grp t) C)) (W m c (grp t)) fun l => S m c (col (grp t) l)) := by
  have hg : grp t = 0 := Fin.ext (by have := (idx t).2.2.2.2; show t.val = 0; omega)
  rw [outsAt0_A m c t h0 (by omega) (by omega) (by omega)]
  frame_out
  rw [blk0 h, blk1, blk2, hg]
  simp only [k0_pay1]
  simp only [counts 2#32 2 (by decide) rfl, widen]
  rw [of_back (back_1 _)]
  simp only [quotient 2 (by decide), minus, narrow]
  exact product (Pool.diff (win 0) (cols 0 C)) (W m c 0) fun l => S m c (col 0 l)

theorem out_B (t : Fin cfg0.N) (h0 : t.val % 4 = 1) : outsAt0 m c t.val t.isLt
    = arr (mixE (Pool.diff (win (grp t)) (cols (grp t) C)) (W m c (grp t)) fun l => S m c (col (grp t) l)) := by
  have hg : grp t = 1 := Fin.ext (by have := (idx t).2.2.2.2; show t.val = 1; omega)
  rw [outsAt0_B m c t (by omega) h0 (by omega) (by omega)]
  frame_out
  rw [blk0 h, blk1, blk2, hg]
  simp only [k0_pay2]
  simp only [counts 4#32 4 (by decide) rfl, widen]
  rw [of_back (back_1 _), of_back (back_2 _)]
  simp only [quotient 4 (by decide), minus, narrow]
  exact product (Pool.diff (win 1) (cols 1 C)) (W m c 1) fun l => S m c (col 1 l)

theorem out_C (t : Fin cfg0.N) (h0 : t.val % 4 = 2) : outsAt0 m c t.val t.isLt
    = arr (mixE (Pool.diff (win (grp t)) (cols (grp t) C)) (W m c (grp t)) fun l => S m c (col (grp t) l)) := by
  have hg : grp t = 2 := Fin.ext (by have := (idx t).2.2.2.2; show t.val = 2; omega)
  rw [outsAt0_C m c t (by omega) (by omega) h0 (by omega)]
  frame_out
  rw [blk0 h, blk1, blk2, hg]
  simp only [k0_pay3, k0_pay5, k0_pay6]
  simp only [counts 8#32 8 (by decide) rfl, widen]
  rw [of_back (back_1 _), of_back (back_2 _), of_back (back_4 _)]
  simp only [quotient 8 (by decide), minus, narrow]
  exact product (Pool.diff (win 2) (cols 2 C)) (W m c 2) fun l => S m c (col 2 l)

theorem out_D (t : Fin cfg0.N) (h0 : t.val % 4 = 3) : outsAt0 m c t.val t.isLt
    = arr (mixE (Pool.diff (win (grp t)) (cols (grp t) C)) (W m c (grp t)) fun l => S m c (col (grp t) l)) := by
  have hg : grp t = 3 := Fin.ext (by have := (idx t).2.2.2.2; show t.val = 3; omega)
  rw [outsAt0_D m c t (by omega) (by omega) (by omega) h0]
  frame_out
  rw [blk0 h, blk1, blk2, hg]
  simp only [k0_pay4, k0_pay7]
  simp only [counts 16#32 16 (by decide) rfl, widen]
  rw [of_back (back_1 _), of_back (back_2 _), of_back (back_4 _), of_back (back_8 _)]
  simp only [quotient 16 (by decide), minus, narrow]
  exact product (Pool.diff (win 3) (cols 3 C)) (W m c 3) fun l => S m c (col 3 l)

/-- A point's result. -/
theorem out (t : Fin cfg0.N) : outsAt0 m c t.val t.isLt
    = arr (mixE (Pool.diff (win (grp t)) (cols (grp t) C)) (W m c (grp t)) fun l => S m c (col (grp t) l)) := by
  by_cases h0 : t.val % 4 = 0
  · exact out_A h t h0
  by_cases h1 : t.val % 4 = 1
  · exact out_B h t h1
  by_cases h2 : t.val % 4 = 2
  · exact out_C h t h2
  · exact out_D h t (by omega)

omit h in
variable (m c) in
/-- The result's entry in column `j`. -/
def entry (C : Fin 4096 → Fin 1024 → ℝ) (i : Fin 4096) (j : Fin 1024) : EReal :=
  mixE (Pool.diff (win ⟨j.val / 256, by omega⟩) (cols ⟨j.val / 256, by omega⟩ C)) (W m c ⟨j.val / 256, by omega⟩) (fun l => S m c (col ⟨j.val / 256, by omega⟩ l)) i
    ⟨j.val % 256, by omega⟩

omit h in
theorem entry_col (g : Fin 4) (i : Fin 4096) (l : Fin 256) : entry m c C i (col g l)
    = mixE (Pool.diff (win g) (cols g C)) (W m c g) (fun l => S m c (col g l)) i l := by
  have e1 : (⟨(col g l).val / 256, by omega⟩ : Fin 4) = g := Fin.ext (by show (l.val + 256 * g.val) / 256 = g.val; omega)
  have e2 : (⟨(col g l).val % 256, by omega⟩ : Fin 256) = l := Fin.ext (by show (l.val + 256 * g.val) % 256 = l.val; omega)
  unfold entry
  rw [e1, e2]

/-- The result array. -/
theorem final : (dats m 0 c).arrAt 3 (cfgs 0).N = arr (entry m c C) := by
  refine (dats m 0 c).arrAt_eq_of_covers 3 _ (by decide +kernel) fun t hf y => ?_
  rw [after0_3, out h t]
  refine (entry_col (grp t) _ _).symm.trans (congrArg₂ (entry m c C) (Fin.ext ?_) (Fin.ext ?_))
  · blk_simp [idx t]
  · show (y 1).val + 256 * t.val = _
    blk_simp [idx t]
    omega

end Cert.PoolFwdIdeal.Value
-- ==== Proof.PoolFwd.Claim.lean ====
/-
  The claim about the pooling: where its columns are finite the kernel and its reference end with the same array.
-/
module

public import proofs.«01_k».proof.Defs
public import proofs.«01_k».proof.Proof.PoolFwd.Reference
public import proofs.«01_k».proof.Proof.PoolFwd.Kernel

@[expose] public section

set_option maxRecDepth 16384

noncomputable section

open Idealize.ShloMosaic Idealize.ShloMosaic.TcCoe Idealize.SL.Sem Cert.Reals Cert.Pool Cert.Fwd

namespace Cert.PoolFwd

/-- Finite columns hold reals. -/
theorem holds [Cert.Pre_pool_fwd_finite.Facts] (m : (ℓ : Loc Cert.PoolFwdIdeal.nD Cert.PoolFwdIdeal.τ Cert.PoolFwdIdeal.sig) → Buf (Elt Ideal) ℓ)
    (h : Cert.Pre_PoolFwdIdeal_pool_fwd_finite m) (c : Dev Cert.PoolFwdIdeal.nD) : ∃ C, Cert.PoolFwdIdeal.Value.Holds m c C := by
  obtain ⟨Z, hZ⟩ := lift_matrix _ _ (h c)
  exact ⟨fun i l => Z i ⟨2048 + l.val, by omega⟩, fun i l => congrFun hZ _⟩

theorem algebraic [Cert.Pre_pool_fwd_finite.Facts] : Cert.algebraic_PoolFwdIdeal_PoolFwdRefIdeal_pre_pool_fwd_finite := by
  pair_intro
  · run_from Cert.PoolFwdIdeal.Value.run_blocks m g
  · run_from Cert.PoolFwdRefIdeal.Value.run m' g'
    obtain ⟨C, h⟩ := holds m hpre c
    obtain ⟨a0, a1, a2⟩ := hagree c
    refine Eq.trans ?_ (Cert.PoolFwdIdeal.Value.final h).symm
    unfold Cert.PoolFwdRefIdeal.Value.res_main_v126
    rw [a0, a1, a2]
    funext j
    obtain ⟨g, l, e⟩ := col_split (j 1)
    have ej : j = ix2 (j 0) (col g l) := (eq_ix2 j).trans (congrArg (ix2 (j 0)) e)
    rw [ej]
    exact (Cert.PoolFwdRefIdeal.Value.final_at _ _ h g (j 0) l).trans (Cert.PoolFwdIdeal.Value.entry_col g (j 0) l).symm

end Cert.PoolFwd

end

end
-- ==== Proof.MixMerge.Kernel.lean ====
/-
  What the kernel of the gated merge of the two branches leaves in its three result arrays: each branch's projection and the
  sum of the two under their gates.
-/
module

public import proofs.«01_k».proof.Proof.Math.Forward
public import proofs.«01_k».proof.Proof.Gen.MixMergeIdeal.Value

@[expose] public section
set_option maxRecDepth 16384
noncomputable section
namespace Cert.MixMergeIdeal.Value
open Cert.MixMergeIdeal Cert.MixMergeIdeal.Gen Idealize.ShloMosaic Idealize.ShloMosaic.TcCoe Idealize.SL.Sem Cert.Fwd

variable {m : (ℓ : Loc nD τ sig) → Buf (Elt Ideal) ℓ} {c : Dev nD}

/-- Which blocks point `t` reads and writes. -/
theorem idx : ∀ t : Fin cfg0.N, win0_0.index t = ![t.val, 0] ∧ win0_1.index t = ![0, 0] ∧ win0_2.index t = ![t.val, 0] ∧ win0_3.index t = ![0, 0]
    ∧ win0_4.index t = ![t.val, 3] ∧ win0_5.index t = ![t.val, 4] ∧ win0_6.index t = ![t.val, 0] ∧ win0_7.index t = ![t.val, 0] ∧ win0_8.index t = ![t.val, 0]
    ∧ t.val < 8 :=
  (by decide +kernel : ∀ t : Fin grid0.N, _)

/-- The token that row `r` of point `t`'s blocks is. -/
def row (t : Fin cfg0.N) (r : Fin 512) : Fin 4096 := ⟨t.val * 512 + r.val, by have := (idx t).2.2.2.2.2.2.2.2.2; omega⟩

variable (m c) in
/-- The arguments: the two branches, their gates, and their matrices. -/
def a (i : Fin 4096) (k : Fin 1024) : EReal := m ((c.tc : Thread nD τ).loc main_arg0) (ix2 i k)
variable (m c) in
@[inherit_doc a]
def b (i : Fin 4096) (k : Fin 1024) : EReal := m ((c.tc : Thread nD τ).loc main_arg1) (ix2 i k)
variable (m c) in
@[inherit_doc a]
def ga (i : Fin 4096) (l : Fin 1024) : EReal := m ((c.tc : Thread nD τ).loc main_arg2) (ix2 i ⟨3072 + l.val, by omega⟩)
variable (m c) in
@[inherit_doc a]
def gb (i : Fin 4096) (l : Fin 1024) : EReal := m ((c.tc : Thread nD τ).loc main_arg2) (ix2 i ⟨4096 + l.val, by omega⟩)
variable (m c) in
@[inherit_doc a]
def wa (k l : Fin 1024) : EReal := m ((c.tc : Thread nD τ).loc main_arg3) (ix3 0 k l)
variable (m c) in
@[inherit_doc a]
def wb (k l : Fin 1024) : EReal := m ((c.tc : Thread nD τ).loc main_arg4) (ix3 0 k l)

variable (m c) in
/-- The results: the two projections and their sum under the gates. -/
def ya (i : Fin 4096) (l : Fin 1024) : EReal := ∑ k, a m c i k * wa m c k l
variable (m c) in
@[inherit_doc ya]
def yb (i : Fin 4096) (l : Fin 1024) : EReal := ∑ k, b m c i k * wb m c k l
variable (m c) in
@[inherit_doc ya]
def y (i : Fin 4096) (l : Fin 1024) : EReal := sgE (ga m c i l) * ya m c i l + sgE (gb m c i l) * yb m c i l

theorem blk4 (t : Fin cfg0.N) : (iblk m c 4 t : FVec Ideal S512x1024 .bf16) = arr fun r => ga m c (row t r) := by
  funext y
  idx_vars y
  show _ = ga m c (row t y0) y1
  unfold ga
  blk_ext! [iblk, V, idx t, row]
theorem blk5 (t : Fin cfg0.N) : (iblk m c 5 t : FVec Ideal S512x1024 .bf16) = arr fun r => gb m c (row t r) := by
  funext y
  idx_vars y
  show _ = gb m c (row t y0) y1
  unfold gb
  blk_ext! [iblk, V, idx t, row]

/-- The two products, at a point. -/
theorem ya_blk (t : Fin cfg0.N) : k0_pay2 (F := Ideal) (iblk m c 0 t) (iblk m c 1 t) = arr fun r => ya m c (row t r) := by
  funext y
  idx_vars y
  pointwise [k0_pay2]
  refine Finset.sum_congr rfl fun k _ => congrArg₂ (fun a b : EReal => a * b) (?_ : _ = a m c (row t y0) k) (?_ : _ = wa m c k y1)
  · unfold a; blk_ext! [iblk, V, idx t, row]
  · unfold wa; blk_ext! [iblk, idx t]
theorem yb_blk (t : Fin cfg0.N) : k0_pay3 (F := Ideal) (iblk m c 2 t) (iblk m c 3 t) = arr fun r => yb m c (row t r) := by
  funext y
  idx_vars y
  pointwise [k0_pay3]
  refine Finset.sum_congr rfl fun k _ => congrArg₂ (fun a b : EReal => a * b) (?_ : _ = b m c (row t y0) k) (?_ : _ = wb m c k y1)
  · unfold b; blk_ext! [iblk, V, idx t, row]
  · unfold wb; blk_ext! [iblk, idx t]

/-- The merged branches, at a point. -/
theorem y_blk (t : Fin cfg0.N) : k0_pay4 (F := Ideal) (iblk m c 0 t) (iblk m c 1 t) (iblk m c 2 t) (iblk m c 3 t) (iblk m c 4 t) (iblk m c 5 t) = arr fun r => y m c (row t r) := by
  funext y
  idx_vars y
  rw [k0_pay4, ya_blk, yb_blk, blk4, blk5]
  pointwise
  simp only [arr_ix2, tanh_half]
  rfl

theorem final_ya : (dats m 0 c).arrAt 6 (cfgs 0).N = arr (ya m c) := by
  refine (dats m 0 c).arrAt_eq_of_covers 6 _ (by decide +kernel) fun t hf y => ?_
  rw [after0_6]
  frame_out
  rw [k0_pay5, ya_blk]
  refine congrArg₂ (ya m c) (Fin.ext ?_) (Fin.ext ?_)
  · show t.val * 512 + (y 0).val = _
    blk_simp [idx t]
  · show (y 1).val = _
    blk_simp [idx t]

theorem final_yb : (dats m 0 c).arrAt 7 (cfgs 0).N = arr (yb m c) := by
  refine (dats m 0 c).arrAt_eq_of_covers 7 _ (by decide +kernel) fun t hf y => ?_
  rw [after0_7]
  frame_out
  rw [k0_pay6, yb_blk]
  refine congrArg₂ (yb m c) (Fin.ext ?_) (Fin.ext ?_)
  · show t.val * 512 + (y 0).val = _
    blk_simp [idx t]
  · show (y 1).val = _
    blk_simp [idx t]

theorem final_y : (dats m 0 c).arrAt 8 (cfgs 0).N = arr (y m c) := by
  refine (dats m 0 c).arrAt_eq_of_covers 8 _ (by decide +kernel) fun t hf x => ?_
  rw [after0_8]
  frame_out
  rw [k0_pay1, y_blk]
  refine congrArg₂ (y m c) (Fin.ext ?_) (Fin.ext ?_)
  · show t.val * 512 + (x 0).val = _
    blk_simp [idx t]
  · show (x 1).val = _
    blk_simp [idx t]

end Cert.MixMergeIdeal.Value
-- ==== Proof.MixMerge.Claim.lean ====
/-
  The claim about the gated merge of the two branches: at any arguments the kernel and its reference end with the same three
  arrays.
-/
module

public import proofs.«01_k».proof.Defs
public import proofs.«01_k».proof.Proof.MixMerge.Kernel
public import proofs.«01_k».proof.Proof.Gen.MixMergeRefIdeal.Run

@[expose] public section
set_option maxRecDepth 16384
noncomputable section
open Idealize.ShloMosaic Idealize.ShloMosaic.TcCoe Idealize.SL.Sem Cert.Fwd

namespace Cert.MixMerge
open Cert.MixMergeIdeal.Value

section
open Cert.MixMergeRefIdeal Cert.MixMergeRefIdeal.Gen

/-- The products of a branch with its matrix. -/
theorem dots (x : FVec Ideal S4096x1024 .bf16) (w : FVec Ideal S1x1024x1024 .f32) :
    Host.dotGeneral (φ₁ := .f32) (φ₂ := .f32) dot_S4096x1024_S1024x1024_S4096x1024_1_0_0_1_n_n none (extf .f32 x bitsLt_bf16_f32)
      (shapeCast _ w shapeCasts_S1x1024x1024_S1024x1024) = arr fun i l => ∑ k : Fin 1024, (x (ix2 i k) : EReal) * w (ix3 0 k l) := by
  funext j
  idx_vars j
  pointwise
  rfl

/-- The two gates' arguments. -/
theorem gate_a (z : FVec Ideal S4096x5120 .bf16) : extf .f32 (extractStridedSlice S4096x1024 ![0, 3072] z slices_S4096x5120_S4096x1024_0_3072) bitsLt_bf16_f32
    = arr fun i l => (z (ix2 i ⟨3072 + l.val, by omega⟩) : EReal) := by
  funext j
  idx_vars j
  pointwise
  rfl
theorem gate_b (z : FVec Ideal S4096x5120 .bf16) : extf .f32 (extractStridedSlice S4096x1024 ![0, 4096] z slices_S4096x5120_S4096x1024_0_4096) bitsLt_bf16_f32
    = arr fun i l => (z (ix2 i ⟨4096 + l.val, by omega⟩) : EReal) := by
  funext j
  idx_vars j
  pointwise
  rfl

/-- The logistic function of an array. -/
theorem sig_eq {X : Fin 4096 → Fin 1024 → EReal} {x : FVec Ideal S4096x1024 .f32} (hx : x = arr X) :
    Host.divf (broadcastInDim S4096x1024 ![] bcast_S_S4096x1024 (constant (F := Ideal) S_ .f32 0x3F800000#32))
      (addf (broadcastInDim S4096x1024 ![] bcast_S_S4096x1024 (constant S_ .f32 0x3F800000#32)) (Host.exp (Host.negf x))) = arr fun i l => sgE (X i l) := by
  subst hx
  funext j
  exact logistic _ _ _ _
end

set_option maxHeartbeats 3200000 in
theorem algebraic : Cert.algebraic_MixMergeIdeal_MixMergeRefIdeal := by
  pair_intro
  · run_from Cert.MixMergeIdeal.Value.run_blocks m g
  · run_from Cert.MixMergeRefIdeal.Value.run m' g'
    · exact (dots _ _).trans final_ya.symm
    · exact (dots _ _).trans final_yb.symm
    · refine Eq.trans ?_ final_y.symm
      exact add_eq (mul_eq (sig_eq (gate_a _)) (dots _ _)) (mul_eq (sig_eq (gate_b _)) (dots _ _))

end Cert.MixMerge
-- ==== Proof.FfnUp.Kernel.lean ====
/-
  What the kernel of the gated hidden layer leaves in its three result arrays: the gates' arguments, the values, and the gated
  values.
-/
module

public import proofs.«01_k».proof.Proof.Math.Forward
public import proofs.«01_k».proof.Proof.Gen.FfnUpIdeal.Value

@[expose] public section
set_option maxRecDepth 16384
noncomputable section
namespace Cert.FfnUpIdeal.Value
open Cert.FfnUpIdeal Cert.FfnUpIdeal.Gen Idealize.ShloMosaic Idealize.ShloMosaic.TcCoe Idealize.SL.Sem Cert.Fwd

variable {m : (ℓ : Loc nD τ sig) → Buf (Elt Ideal) ℓ} {c : Dev nD}

/-- Which blocks point `t` reads and writes. -/
theorem idx : ∀ t : Fin cfg0.N, win0_0.index t = ![t.val % 8, 0] ∧ win0_1.index t = ![t.val / 8, 0] ∧ win0_2.index t = ![t.val % 8, 0]
    ∧ win0_3.index t = ![t.val / 8, 0] ∧ win0_4.index t = ![t.val % 8, t.val / 8] ∧ win0_5.index t = ![t.val % 8, t.val / 8]
    ∧ win0_6.index t = ![t.val % 8, t.val / 8] ∧ t.val < 16 :=
  (by decide +kernel : ∀ t : Fin grid0.N, _)

/-- The token and the hidden value that row `r` and column `l` of point `t`'s blocks are. -/
def row (t : Fin cfg0.N) (r : Fin 512) : Fin 4096 := ⟨t.val % 8 * 512 + r.val, by omega⟩
@[inherit_doc row]
def col (t : Fin cfg0.N) (l : Fin 1408) : Fin 2816 := ⟨t.val / 8 * 1408 + l.val, by have := (idx t).2.2.2.2.2.2.2; omega⟩

variable (m c) in
/-- The arguments: the stream, its gain, and the two matrices. -/
def h (i : Fin 4096) (l : Fin 1024) : EReal := m ((c.tc : Thread nD τ).loc main_arg0) (ix2 i l)
variable (m c) in
@[inherit_doc h]
def gn (l : Fin 1024) : EReal := m ((c.tc : Thread nD τ).loc main_arg1) (ix2 0 l)
variable (m c) in
@[inherit_doc h]
def wg (k : Fin 1024) (l : Fin 2816) : EReal := m ((c.tc : Thread nD τ).loc main_arg2) (ix3 0 k l)
variable (m c) in
@[inherit_doc h]
def wu (k : Fin 1024) (l : Fin 2816) : EReal := m ((c.tc : Thread nD τ).loc main_arg3) (ix3 0 k l)

variable (m c) in
/-- The stream over its root mean square, with the gain. -/
def xn (i : Fin 4096) (l : Fin 1024) : EReal := h m c i l * rrE (h m c i) * gn m c l
variable (m c) in
/-- The results: the gates' arguments, the values, and the gated values. -/
def gate (i : Fin 4096) (l : Fin 2816) : EReal := ∑ k, xn m c i k * wg m c k l
variable (m c) in
@[inherit_doc gate]
def up (i : Fin 4096) (l : Fin 2816) : EReal := ∑ k, xn m c i k * wu m c k l
variable (m c) in
@[inherit_doc gate]
def hid (i : Fin 4096) (l : Fin 2816) : EReal := gate m c i l * sgE (gate m c i l) * up m c i l

theorem blk0 (t : Fin cfg0.N) : (iblk m c 0 t : FVec Ideal S512x1024 .bf16) = arr fun r => xn m c (row t r) := by
  funext y
  idx_vars y
  have he : (win0_0.blk t).view.emb (ix2 y0 y1) = ix2 (row t y0) y1 := by blk_ext [idx t, row]
  refine (congrArg (V m c (Pipeline.arrRef spec0 0)) he).trans (?_ : _ = xn m c (row t y0) y1)
  generalize row t y0 = i
  entry_read
  pointwise
  rfl
theorem blk2 (t : Fin cfg0.N) : (iblk m c 2 t : FVec Ideal S512x1024 .bf16) = arr fun r => xn m c (row t r) := by
  funext y
  idx_vars y
  have he : (win0_2.blk t).view.emb (ix2 y0 y1) = ix2 (row t y0) y1 := by blk_ext [idx t, row]
  refine (congrArg (V m c (Pipeline.arrRef spec0 2)) he).trans (?_ : _ = xn m c (row t y0) y1)
  generalize row t y0 = i
  entry_read
  pointwise
  rfl
theorem blk1 (t : Fin cfg0.N) : (iblk m c 1 t : FVec Ideal S1408x1024 .bf16) = arr fun l k => wg m c k (col t l) := by
  funext y
  idx_vars y
  have he : (win0_1.blk t).view.emb (ix2 y0 y1) = ix2 (col t y0) y1 := by blk_ext [idx t, col]
  refine (congrArg (V m c (Pipeline.arrRef spec0 1)) he).trans (?_ : _ = wg m c y1 (col t y0))
  generalize col t y0 = i
  entry_read
  pointwise
  rfl
theorem blk3 (t : Fin cfg0.N) : (iblk m c 3 t : FVec Ideal S1408x1024 .bf16) = arr fun l k => wu m c k (col t l) := by
  funext y
  idx_vars y
  have he : (win0_3.blk t).view.emb (ix2 y0 y1) = ix2 (col t y0) y1 := by blk_ext [idx t, col]
  refine (congrArg (V m c (Pipeline.arrRef spec0 3)) he).trans (?_ : _ = wu m c y1 (col t y0))
  generalize col t y0 = i
  entry_read
  pointwise
  rfl

/-- The products, at a point. -/
theorem gate_blk (t : Fin cfg0.N) : k0_pay1 (F := Ideal) (iblk m c 0 t) (iblk m c 1 t) = arr fun r l => gate m c (row t r) (col t l) := by
  rw [blk0, blk1]
  funext y
  idx_vars y
  pointwise [k0_pay1]
  rfl
theorem up_blk (t : Fin cfg0.N) : k0_pay2 (F := Ideal) (iblk m c 2 t) (iblk m c 3 t) = arr fun r l => up m c (row t r) (col t l) := by
  rw [blk2, blk3]
  funext y
  idx_vars y
  pointwise [k0_pay2]
  rfl
/-- The gated values, at a point. -/
theorem hid_blk (t : Fin cfg0.N) : k0_pay5 (F := Ideal) (iblk m c 0 t) (iblk m c 1 t) (iblk m c 2 t) (iblk m c 3 t) = arr fun r l => hid m c (row t r) (col t l) := by
  funext y
  idx_vars y
  rw [k0_pay5, gate_blk, up_blk]
  pointwise
  simp only [arr_ix2, tanh_half]
  rfl

theorem final_gate : (dats m 0 c).arrAt 4 (cfgs 0).N = arr (gate m c) := by
  refine (dats m 0 c).arrAt_eq_of_covers 4 _ (by decide +kernel) fun t hf y => ?_
  rw [after0_4]
  frame_out
  rw [k0_pay3, gate_blk]
  refine congrArg₂ (gate m c) (Fin.ext ?_) (Fin.ext ?_)
  · show t.val % 8 * 512 + (y 0).val = _
    blk_simp [idx t]
  · show t.val / 8 * 1408 + (y 1).val = _
    blk_simp [idx t]

theorem final_up : (dats m 0 c).arrAt 5 (cfgs 0).N = arr (up m c) := by
  refine (dats m 0 c).arrAt_eq_of_covers 5 _ (by decide +kernel) fun t hf y => ?_
  rw [after0_5]
  frame_out
  rw [k0_pay4, up_blk]
  refine congrArg₂ (up m c) (Fin.ext ?_) (Fin.ext ?_)
  · show t.val % 8 * 512 + (y 0).val = _
    blk_simp [idx t]
  · show t.val / 8 * 1408 + (y 1).val = _
    blk_simp [idx t]

theorem final_hid : (dats m 0 c).arrAt 6 (cfgs 0).N = arr (hid m c) := by
  refine (dats m 0 c).arrAt_eq_of_covers 6 _ (by decide +kernel) fun t hf y => ?_
  rw [after0_6]
  frame_out
  rw [hid_blk]
  refine congrArg₂ (hid m c) (Fin.ext ?_) (Fin.ext ?_)
  · show t.val % 8 * 512 + (y 0).val = _
    blk_simp [idx t]
  · show t.val / 8 * 1408 + (y 1).val = _
    blk_simp [idx t]

end Cert.FfnUpIdeal.Value
-- ==== Proof.FfnUp.Claim.lean ====
/-
  The claim about the gated hidden layer: at any arguments the kernel and its reference end with the same three arrays.
-/
module

public import proofs.«01_k».proof.Defs
public import proofs.«01_k».proof.Proof.FfnUp.Kernel
public import proofs.«01_k».proof.Proof.Gen.FfnUpRefIdeal.Run

@[expose] public section
set_option maxRecDepth 16384
noncomputable section
open Idealize.ShloMosaic Idealize.ShloMosaic.TcCoe Idealize.SL.Sem Cert.Fwd

namespace Cert.FfnUp
open Cert.FfnUpIdeal.Value

section
open Cert.FfnUpRefIdeal Cert.FfnUpRefIdeal.Gen

/-- The products with a matrix. -/
theorem dots {X : Fin 4096 → Fin 1024 → EReal} {x : FVec Ideal S4096x1024 .f32} (hx : x = arr X) (w : FVec Ideal S1x1024x2816 .f32) :
    Host.dotGeneral (φ₁ := .f32) (φ₂ := .f32) dot_S4096x1024_S1024x2816_S4096x2816_1_0_0_1_n_n none x (shapeCast _ w shapeCasts_S1x1024x2816_S1024x2816)
      = arr fun i l => ∑ k : Fin 1024, X i k * w (ix3 0 k l) := by
  subst hx
  funext j
  idx_vars j
  pointwise
  rfl

/-- The gated values. -/
theorem gated {X Y : Fin 4096 → Fin 2816 → EReal} {x y : FVec Ideal S4096x2816 .f32} (hx : x = arr X) (hy : y = arr Y) :
    mulf (mulf x (Host.divf (broadcastInDim S4096x2816 ![] bcast_S_S4096x2816 (constant (F := Ideal) S_ .f32 0x3F800000#32))
      (addf (broadcastInDim S4096x2816 ![] bcast_S_S4096x2816 (constant S_ .f32 0x3F800000#32)) (Host.exp (Host.negf x))))) y
      = arr fun i l => X i l * sgE (X i l) * Y i l := by
  subst hx hy
  funext j
  exact congrArg (fun s : EReal => X (j 0) (j 1) * s * Y (j 0) (j 1)) (logistic _ _ _ _)
end

set_option maxHeartbeats 3200000 in
theorem algebraic : Cert.algebraic_FfnUpIdeal_FfnUpRefIdeal := by
  pair_intro
  · run_from Cert.FfnUpIdeal.Value.run_blocks m g
  · run_from Cert.FfnUpRefIdeal.Value.run m' g'
    · exact (dots (gain_eq (norm_eq (eq_arr _)) (eq_row _)) _).trans final_gate.symm
    · exact (dots (gain_eq (norm_eq (eq_arr _)) (eq_row _)) _).trans final_up.symm
    · refine Eq.trans ?_ final_hid.symm
      exact gated (dots (gain_eq (norm_eq (eq_arr _)) (eq_row _)) _) (dots (gain_eq (norm_eq (eq_arr _)) (eq_row _)) _)

end Cert.FfnUp
-- ==== Proof.Prenorm.Kernel.lean ====
/-
  What the kernel of the norm before the first FFN leaves in its result array.
-/
module

public import proofs.«01_k».proof.Proof.Math.Forward
public import proofs.«01_k».proof.Proof.Gen.PrenormIdeal.Value

@[expose] public section
set_option maxRecDepth 16384
noncomputable section
namespace Cert.PrenormIdeal.Value
open Cert.PrenormIdeal Cert.PrenormIdeal.Gen Idealize.ShloMosaic Idealize.ShloMosaic.TcCoe Idealize.SL.Sem Cert.Fwd

variable {m : (ℓ : Loc nD τ sig) → Buf (Elt Ideal) ℓ} {c : Dev nD}

/-- Which blocks point `t` reads and writes. -/
theorem idx : ∀ t : Fin cfg0.N, win0_0.index t = ![t.val, 0] ∧ win0_1.index t = ![0, 0] ∧ win0_2.index t = ![t.val, 0] ∧ t.val < 8 :=
  (by decide +kernel : ∀ t : Fin grid0.N, _)

/-- The token that row `r` of point `t`'s blocks is. -/
def row (t : Fin cfg0.N) (r : Fin 512) : Fin 4096 := ⟨t.val * 512 + r.val, by have := (idx t).2.2.2; omega⟩

variable (m c) in
/-- The stream, the gain and the normalised stream. -/
def x (i : Fin 4096) (l : Fin 1024) : EReal := m ((c.tc : Thread nD τ).loc main_arg0) (ix3 0 i l)
variable (m c) in
@[inherit_doc x]
def g (l : Fin 1024) : EReal := m ((c.tc : Thread nD τ).loc main_arg1) (ix2 0 l)
variable (m c) in
@[inherit_doc x]
def xn (i : Fin 4096) (l : Fin 1024) : EReal := x m c i l * rrE (x m c i) * g m c l

theorem blk0 (t : Fin cfg0.N) : (iblk m c 0 t : FVec Ideal S512x1024 .f32) = arr fun r => x m c (row t r) := by
  funext y
  idx_vars y
  show _ = x m c (row t y0) y1
  unfold x
  blk_ext! [iblk, idx t, row]
theorem blk1 (t : Fin cfg0.N) : (iblk m c 1 t : FVec Ideal S1x1024 .f32) = arr fun _ => g m c := by
  funext y
  idx_vars y
  show _ = g m c y1
  unfold g
  blk_ext! [iblk, idx t]

theorem final : (dats m 0 c).arrAt 2 (cfgs 0).N = arr (xn m c) := by
  refine (dats m 0 c).arrAt_eq_of_covers 2 _ (by decide +kernel) fun t hf y => ?_
  rw [after0_2]
  frame_out
  rw [blk0, blk1]
  generalize hx : ((cfg0.win 2).xinj (cfg0.grid.coords t)) y = z
  refine Eq.trans (b := xn m c (row t (z 0)) (z 1)) ?_ (congrArg₂ (xn m c) (Fin.ext ?_) (Fin.ext ?_))
  · clear hx
    idx_vars z
    pointwise [k0_pay1]
    simp only [arr_ix2]
    rfl
  · subst hx
    show t.val * 512 + (y 0).val = _
    blk_simp [idx t]
  · subst hx
    show (y 1).val = _
    blk_simp [idx t]

end Cert.PrenormIdeal.Value
-- ==== Proof.Prenorm.Claim.lean ====
/-
  The claim about the norm before the first FFN: at any arguments the kernel and its reference end with the same array.
-/
module

public import proofs.«01_k».proof.Defs
public import proofs.«01_k».proof.Proof.Prenorm.Kernel
public import proofs.«01_k».proof.Proof.Gen.PrenormRefIdeal.Run

@[expose] public section
set_option maxRecDepth 16384
noncomputable section
open Idealize.ShloMosaic Idealize.ShloMosaic.TcCoe Idealize.SL.Sem Cert.Fwd

namespace Cert.Prenorm

section
open Cert.PrenormRefIdeal Cert.PrenormRefIdeal.Gen
/-- The reference's lines. -/
theorem lines (a0 : FVec Ideal S1x4096x1024 .f32) (a1 : FVec Ideal S1x1024 .f32) :
    (truncf .bf16 (shapeCast S4096x1024 (mulf (mulf a0 (broadcastInDim S1x4096x1024 ![0, 1, 2] bcast_S1x4096x1_S1x4096x1024_0_1_2 (Host.rsqrt (addf (Host.divf (broadcastInDim S1x4096x1 ![0, 1] bcast_S1x4096_S1x4096x1_0_1 (Host.reduceAdd (mulf a0 a0) (constant S_ .f32 0x00000000#32) reducesTo_S1x4096x1024_S1x4096_d2 h_S_)) (broadcastInDim S1x4096x1 ![] bcast_S_S1x4096x1 (constant S_ .f32 0x44800000#32))) (broadcastInDim S1x4096x1 ![] bcast_S_S1x4096x1 (constant S_ .f32 0x358637BD#32)))))) (broadcastInDim S1x4096x1024 ![0, 1, 2] bcast_S1x1x1024_S1x4096x1024_0_1_2 (broadcastInDim S1x1x1024 ![2] bcast_S1024_S1x1x1024_2 (shapeCast _ a1 shapeCasts_S1x1024_S1024)))) shapeCasts_S1x4096x1024_S4096x1024) bitsLt_bf16_f32 : FVec Ideal S4096x1024 .bf16)
      = arr fun i l => a0 (ix3 0 i l) * rrE (fun k => a0 (ix3 0 i k)) * a1 (ix2 0 l) := by
  funext j
  idx_vars j
  pointwise
  simp only [arr_ix2]
  rfl
end

theorem algebraic : Cert.algebraic_PrenormIdeal_PrenormRefIdeal := by
  pair_intro
  · run_from Cert.PrenormIdeal.Value.run_blocks m g
  · run_from Cert.PrenormRefIdeal.Value.run m' g'
    refine Eq.trans ?_ Cert.PrenormIdeal.Value.final.symm
    exact lines _ _

end Cert.Prenorm
-- ==== Proof.Ffn1Up.Kernel.lean ====
/-
  What the kernel of the first gated hidden layer leaves in its two result arrays: the values, and the gated values. The gates'
  arguments are computed before it.
-/
module

public import proofs.«01_k».proof.Proof.Math.Forward
public import proofs.«01_k».proof.Proof.Gen.Ffn1UpIdeal.Value

@[expose] public section
set_option maxRecDepth 16384
noncomputable section
namespace Cert.Ffn1UpIdeal.Value
open Cert.Ffn1UpIdeal Cert.Ffn1UpIdeal.Gen Idealize.ShloMosaic Idealize.ShloMosaic.TcCoe Idealize.SL.Sem Cert.Fwd

variable {m : (ℓ : Loc nD τ sig) → Buf (Elt Ideal) ℓ} {c : Dev nD}

/-- Which blocks point `t` reads and writes. -/
theorem idx : ∀ t : Fin cfg0.N, win0_0.index t = ![t.val % 8, 0] ∧ win0_1.index t = ![t.val / 8, 0] ∧ win0_2.index t = ![t.val % 8, t.val / 8]
    ∧ win0_3.index t = ![t.val % 8, t.val / 8] ∧ win0_4.index t = ![t.val % 8, t.val / 8] ∧ t.val < 16 :=
  (by decide +kernel : ∀ t : Fin grid0.N, _)

/-- The token and the hidden value that row `r` and column `l` of point `t`'s blocks are. -/
def row (t : Fin cfg0.N) (r : Fin 512) : Fin 4096 := ⟨t.val % 8 * 512 + r.val, by omega⟩
@[inherit_doc row]
def col (t : Fin cfg0.N) (l : Fin 1408) : Fin 2816 := ⟨t.val / 8 * 1408 + l.val, by have := (idx t).2.2.2.2.2; omega⟩

variable (m c) in
/-- The arguments: the stream, its gain, and the two matrices. -/
def h (i : Fin 4096) (l : Fin 1024) : EReal := m ((c.tc : Thread nD τ).loc main_arg0) (ix3 0 i l)
variable (m c) in
@[inherit_doc h]
def gn (l : Fin 1024) : EReal := m ((c.tc : Thread nD τ).loc main_arg1) (ix2 0 l)
variable (m c) in
@[inherit_doc h]
def wg (k : Fin 1024) (l : Fin 2816) : EReal := m ((c.tc : Thread nD τ).loc main_arg2) (ix3 0 k l)
variable (m c) in
@[inherit_doc h]
def wu (k : Fin 1024) (l : Fin 2816) : EReal := m ((c.tc : Thread nD τ).loc main_arg3) (ix3 0 k l)

variable (m c) in
/-- The stream over its root mean square, with the gain. -/
def xn (i : Fin 4096) (l : Fin 1024) : EReal := h m c i l * rrE (h m c i) * gn m c l
variable (m c) in
/-- The gates' arguments, and the results: the values, and the gated values. -/
def gate (i : Fin 4096) (l : Fin 2816) : EReal := ∑ k, xn m c i k * wg m c k l
variable (m c) in
@[inherit_doc gate]
def up (i : Fin 4096) (l : Fin 2816) : EReal := ∑ k, xn m c i k * wu m c k l
variable (m c) in
@[inherit_doc gate]
def hid (i : Fin 4096) (l : Fin 2816) : EReal := gate m c i l * sgE (gate m c i l) * up m c i l

theorem blk0 (t : Fin cfg0.N) : (iblk m c 0 t : FVec Ideal S512x1024 .bf16) = arr fun r => xn m c (row t r) := by
  funext y
  idx_vars y
  have he : (win0_0.blk t).view.emb (ix2 y0 y1) = ix2 (row t y0) y1 := by blk_ext [idx t, row]
  refine (congrArg (V m c (Pipeline.arrRef spec0 0)) he).trans (?_ : _ = xn m c (row t y0) y1)
  generalize row t y0 = i
  entry_read
  pointwise
  rfl
theorem blk1 (t : Fin cfg0.N) : (iblk m c 1 t : FVec Ideal S1408x1024 .bf16) = arr fun l k => wu m c k (col t l) := by
  funext y
  idx_vars y
  have he : (win0_1.blk t).view.emb (ix2 y0 y1) = ix2 (col t y0) y1 := by blk_ext [idx t, col]
  refine (congrArg (V m c (Pipeline.arrRef spec0 1)) he).trans (?_ : _ = wu m c y1 (col t y0))
  generalize col t y0 = i
  entry_read
  pointwise
  rfl
theorem blk2 (t : Fin cfg0.N) : (iblk m c 2 t : FVec Ideal S512x1408 .bf16) = arr fun r l => gate m c (row t r) (col t l) := by
  funext y
  idx_vars y
  have he : (win0_2.blk t).view.emb (ix2 y0 y1) = ix2 (row t y0) (col t y1) := by blk_ext [idx t, row, col]
  refine (congrArg (V m c (Pipeline.arrRef spec0 2)) he).trans (?_ : _ = gate m c (row t y0) (col t y1))
  generalize row t y0 = i
  generalize col t y1 = l
  entry_read
  pointwise
  rfl

/-- The products, at a point. -/
theorem up_blk (t : Fin cfg0.N) : k0_pay1 (F := Ideal) (iblk m c 0 t) (iblk m c 1 t) = arr fun r l => up m c (row t r) (col t l) := by
  rw [blk0, blk1]
  funext y
  idx_vars y
  pointwise [k0_pay1]
  rfl
/-- The gated values, at a point. -/
theorem hid_blk (t : Fin cfg0.N) : k0_pay3 (F := Ideal) (iblk m c 0 t) (iblk m c 1 t) (iblk m c 2 t) = arr fun r l => hid m c (row t r) (col t l) := by
  funext y
  idx_vars y
  rw [k0_pay3, up_blk, blk2]
  pointwise
  simp only [arr_ix2, tanh_half]
  rfl

theorem final_up : (dats m 0 c).arrAt 3 (cfgs 0).N = arr (up m c) := by
  refine (dats m 0 c).arrAt_eq_of_covers 3 _ (by decide +kernel) fun t hf y => ?_
  rw [after0_3]
  frame_out
  rw [k0_pay2, up_blk]
  refine congrArg₂ (up m c) (Fin.ext ?_) (Fin.ext ?_)
  · show t.val % 8 * 512 + (y 0).val = _
    blk_simp [idx t]
  · show t.val / 8 * 1408 + (y 1).val = _
    blk_simp [idx t]

theorem final_hid : (dats m 0 c).arrAt 4 (cfgs 0).N = arr (hid m c) := by
  refine (dats m 0 c).arrAt_eq_of_covers 4 _ (by decide +kernel) fun t hf y => ?_
  rw [after0_4]
  frame_out
  rw [hid_blk]
  refine congrArg₂ (hid m c) (Fin.ext ?_) (Fin.ext ?_)
  · show t.val % 8 * 512 + (y 0).val = _
    blk_simp [idx t]
  · show t.val / 8 * 1408 + (y 1).val = _
    blk_simp [idx t]

end Cert.Ffn1UpIdeal.Value
-- ==== Proof.Ffn1Up.Claim.lean ====
/-
  The claim about the first gated hidden layer: at any arguments the kernel and its reference end with the same two arrays.
-/
module

public import proofs.«01_k».proof.Defs
public import proofs.«01_k».proof.Proof.Ffn1Up.Kernel
public import proofs.«01_k».proof.Proof.Gen.Ffn1UpRefIdeal.Run

@[expose] public section
set_option maxRecDepth 16384
noncomputable section
open Idealize.ShloMosaic Idealize.ShloMosaic.TcCoe Idealize.SL.Sem Cert.Fwd

namespace Cert.Ffn1UpRefIdeal.Value
open Cert.Ffn1UpRefIdeal Cert.Ffn1UpRefIdeal.Gen

/-- The stream. -/
theorem flat (x : FVec Ideal S1x4096x1024 .f32) : shapeCast S4096x1024 x shapeCasts_S1x4096x1024_S4096x1024 = arr fun i l => x (ix3 0 i l) := by
  funext j
  idx_vars j
  pointwise
  rfl

/-- The products with a matrix. -/
theorem dots {X : Fin 4096 → Fin 1024 → EReal} {x : FVec Ideal S4096x1024 .f32} (hx : x = arr X) (w : FVec Ideal S1x1024x2816 .f32) :
    Host.dotGeneral (φ₁ := .f32) (φ₂ := .f32) dot_S4096x1024_S1024x2816_S4096x2816_1_0_0_1_n_n none x (shapeCast _ w shapeCasts_S1x1024x2816_S1024x2816)
      = arr fun i l => ∑ k : Fin 1024, X i k * w (ix3 0 k l) := by
  subst hx
  funext j
  idx_vars j
  pointwise
  rfl

/-- The gated values. -/
theorem gated {X Y : Fin 4096 → Fin 2816 → EReal} {x y : FVec Ideal S4096x2816 .f32} (hx : x = arr X) (hy : y = arr Y) :
    mulf (mulf x (Host.divf (broadcastInDim S4096x2816 ![] bcast_S_S4096x2816 (constant (F := Ideal) S_ .f32 0x3F800000#32))
      (addf (broadcastInDim S4096x2816 ![] bcast_S_S4096x2816 (constant S_ .f32 0x3F800000#32)) (Host.exp (Host.negf x))))) y
      = arr fun i l => X i l * sgE (X i l) * Y i l := by
  subst hx hy
  funext j
  exact congrArg (fun s : EReal => X (j 0) (j 1) * s * Y (j 0) (j 1)) (logistic _ _ _ _)
end Cert.Ffn1UpRefIdeal.Value

namespace Cert.Ffn1Up
open Cert.Ffn1UpIdeal.Value Cert.Ffn1UpRefIdeal.Value

set_option maxHeartbeats 3200000 in
theorem algebraic : Cert.algebraic_Ffn1UpIdeal_Ffn1UpRefIdeal := by
  pair_intro
  · run_from Cert.Ffn1UpIdeal.Value.run_blocks m g
  · run_from Cert.Ffn1UpRefIdeal.Value.run m' g'
    · exact (dots (gain_eq (norm_eq (flat _)) (eq_row _)) _).trans final_up.symm
    · refine Eq.trans ?_ final_hid.symm
      exact gated (dots (gain_eq (norm_eq (flat _)) (eq_row _)) _) (dots (gain_eq (norm_eq (flat _)) (eq_row _)) _)

end Cert.Ffn1Up
-- ==== Proof.MixIn.Kernel.lean ====
/-
  What the kernel of the token mixer's input projection leaves in its result array: the product of the stream and the matrix.
-/
module

public import proofs.«01_k».proof.Proof.Math.Forward
public import proofs.«01_k».proof.Proof.Gen.MixInIdeal.Value

@[expose] public section
set_option maxRecDepth 16384
noncomputable section
namespace Cert.MixInIdeal.Value
open Cert.MixInIdeal Cert.MixInIdeal.Gen Idealize.ShloMosaic Idealize.ShloMosaic.TcCoe Idealize.SL.Sem Cert.Fwd

variable {m : (ℓ : Loc nD τ sig) → Buf (Elt Ideal) ℓ} {c : Dev nD}

/-- Which blocks point `t` reads and writes. -/
theorem idx : ∀ t : Fin cfg0.N, win0_0.index t = ![t.val % 4, 0] ∧ win0_1.index t = ![t.val / 4, 0] ∧ win0_2.index t = ![t.val % 4, t.val / 4] ∧ t.val < 20 :=
  (by decide +kernel : ∀ t : Fin grid0.N, _)

/-- The token and the channel that row `r` and column `l` of point `t`'s blocks are. -/
def row (t : Fin cfg0.N) (r : Fin 1024) : Fin 4096 := ⟨t.val % 4 * 1024 + r.val, by omega⟩
@[inherit_doc row]
def col (t : Fin cfg0.N) (l : Fin 1024) : Fin 5120 := ⟨t.val / 4 * 1024 + l.val, by have := (idx t).2.2.2; omega⟩

variable (m c) in
/-- The arguments: the stream and the matrix. -/
def x (i : Fin 4096) (k : Fin 1024) : EReal := m ((c.tc : Thread nD τ).loc main_arg0) (ix2 i k)
variable (m c) in
@[inherit_doc x]
def w (k : Fin 1024) (l : Fin 5120) : EReal := m ((c.tc : Thread nD τ).loc main_arg1) (ix3 0 k l)
variable (m c) in
/-- Their product. -/
def prod (i : Fin 4096) (l : Fin 5120) : EReal := ∑ k, x m c i k * w m c k l

theorem blk0 (t : Fin cfg0.N) : (iblk m c 0 t : FVec Ideal S1024x1024 .bf16) = arr fun r => x m c (row t r) := by
  funext y
  idx_vars y
  refine Eq.trans ?_ (rfl : m ((c.tc : Thread nD τ).loc main_arg0) (ix2 (row t y0) y1) = _)
  blk_ext! [iblk, V, idx t, row]
theorem blk1 (t : Fin cfg0.N) : (iblk m c 1 t : FVec Ideal S1024x1024 .bf16) = arr fun l k => w m c k (col t l) := by
  funext y
  idx_vars y
  have he : (win0_1.blk t).view.emb (ix2 y0 y1) = ix2 (col t y0) y1 := by blk_ext [idx t, col]
  refine (congrArg (V m c (Pipeline.arrRef spec0 1)) he).trans (?_ : _ = w m c y1 (col t y0))
  generalize col t y0 = i
  entry_read
  pointwise
  rfl

/-- The product, at a point. -/
theorem blk (t : Fin cfg0.N) : k0_pay1 (F := Ideal) (iblk m c 0 t) (iblk m c 1 t) = arr fun r l => prod m c (row t r) (col t l) := by
  rw [blk0, blk1]
  funext y
  idx_vars y
  pointwise [k0_pay1]
  rfl

theorem final : (dats m 0 c).arrAt 2 (cfgs 0).N = arr (prod m c) := by
  refine (dats m 0 c).arrAt_eq_of_covers 2 _ (by decide +kernel) fun t hf y => ?_
  rw [after0_2]
  frame_out
  rw [blk]
  refine congrArg₂ (prod m c) (Fin.ext ?_) (Fin.ext ?_)
  · show t.val % 4 * 1024 + (y 0).val = _
    blk_simp [idx t]
  · show t.val / 4 * 1024 + (y 1).val = _
    blk_simp [idx t]

end Cert.MixInIdeal.Value
-- ==== Proof.MixIn.Claim.lean ====
/-
  The claim about the token mixer's input projection: at any arguments the kernel and its reference end with the same array.
-/
module

public import proofs.«01_k».proof.Defs
public import proofs.«01_k».proof.Proof.MixIn.Kernel
public import proofs.«01_k».proof.Proof.Gen.MixInRefIdeal.Run

@[expose] public section
set_option maxRecDepth 16384
noncomputable section
open Idealize.ShloMosaic Idealize.ShloMosaic.TcCoe Idealize.SL.Sem Cert.Fwd

namespace Cert.MixIn
open Cert.MixInIdeal.Value

section
open Cert.MixInRefIdeal Cert.MixInRefIdeal.Gen
/-- The reference's lines. -/
theorem lines (x : FVec Ideal S4096x1024 .bf16) (w : FVec Ideal S1x1024x5120 .f32) :
    (truncf .bf16 (Host.dotGeneral (φ₁ := .f32) (φ₂ := .f32) dot_S4096x1024_S1024x5120_S4096x5120_1_0_0_1_n_n none (extf .f32 x bitsLt_bf16_f32)
      (shapeCast _ w shapeCasts_S1x1024x5120_S1024x5120)) bitsLt_bf16_f32 : FVec Ideal S4096x5120 .bf16)
      = arr fun i l => ∑ k : Fin 1024, x (ix2 i k) * w (ix3 0 k l) := by
  funext j
  idx_vars j
  pointwise
  rfl
end

theorem algebraic : Cert.algebraic_MixInIdeal_MixInRefIdeal := by
  pair_intro
  · run_from Cert.MixInIdeal.Value.run_blocks m g
  · run_from Cert.MixInRefIdeal.Value.run m' g'
    refine Eq.trans ?_ final.symm
    exact lines _ _

end Cert.MixIn
-- ==== Proof.FfnDwd.Kernel.lean ====
/-
  What the kernel of the gradient of the down projection leaves in its result array: the product, over the tokens, of
  the hidden values and the cotangent. A pair of grid points handles 1408 of the hidden channels: the first keeps the products over
  half of the tokens, the second adds the other half's.
-/
module

public import proofs.«01_k».proof.Proof.Math.Forward
public import proofs.«01_k».proof.Proof.Gen.FfnDwdIdeal.Value
public import Idealize.ShloMosaic.Lib.Pipeline.ReadBack

@[expose] public section
set_option maxRecDepth 16384
noncomputable section
namespace Cert.FfnDwdIdeal.Value
open Cert.FfnDwdIdeal Cert.FfnDwdIdeal.Gen Idealize.ShloMosaic Idealize.ShloMosaic.TcCoe Idealize.SL.Sem Cert.Fwd

variable {m : (ℓ : Loc nD τ sig) → Buf (Elt Ideal) ℓ} {c : Dev nD}

/-- Which blocks point `t` reads and writes. -/
theorem idx : ∀ t : Fin cfg0.N, win0_0.index t = ![t.val % 2, t.val / 2] ∧ win0_1.index t = ![t.val % 2, 0] ∧ win0_2.index t = ![t.val / 2, 0]
    ∧ (win0_2.flush t = true → t.val % 2 = 1) ∧ t.val < 4 :=
  (by decide +kernel : ∀ t : Fin grid0.N, _)

/-- The token that row `k` of point `t`'s blocks is, and the hidden channel that column `r` is. -/
def tok (t : Fin cfg0.N) (k : Fin 2048) : Fin 4096 := ⟨t.val % 2 * 2048 + k.val, by omega⟩
@[inherit_doc tok]
def chan (t : Fin cfg0.N) (r : Fin 1408) : Fin 2816 := ⟨t.val / 2 * 1408 + r.val, by have := (idx t).2.2.2.2; omega⟩

variable (m c) in
/-- The arguments. -/
def a (k : Fin 4096) (i : Fin 2816) : EReal := m ((c.tc : Thread nD τ).loc main_arg0) (ix2 k i)
variable (m c) in
@[inherit_doc a]
def b (k : Fin 4096) (l : Fin 1024) : EReal := m ((c.tc : Thread nD τ).loc main_arg1) (ix2 k l)
variable (m c) in
/-- Their product over the tokens. -/
def prod (i : Fin 2816) (l : Fin 1024) : EReal := ∑ k, a m c k i * b m c k l

theorem blk0 (t : Fin cfg0.N) : (iblk m c 0 t : FVec Ideal S2048x1408 .bf16) = arr fun k r => a m c (tok t k) (chan t r) := by
  funext y
  idx_vars y
  refine Eq.trans ?_ (rfl : m ((c.tc : Thread nD τ).loc main_arg0) (ix2 (tok t y0) (chan t y1)) = _)
  blk_ext! [iblk, V, idx t, tok, chan]
theorem blk1 (t : Fin cfg0.N) : (iblk m c 1 t : FVec Ideal S2048x1024 .bf16) = arr fun k => b m c (tok t k) := by
  funext y
  idx_vars y
  refine Eq.trans ?_ (rfl : m ((c.tc : Thread nD τ).loc main_arg1) (ix2 (tok t y0) y1) = _)
  blk_ext! [iblk, V, idx t, tok]

/-- A point's part of the product. -/
theorem part (t : Fin cfg0.N) : k0_pay1 (F := Ideal) (iblk m c 0 t) (iblk m c 1 t)
    = arr fun r l => ∑ k, a m c (tok t k) (chan t r) * b m c (tok t k) l := by
  rw [blk0, blk1]
  funext y
  idx_vars y
  pointwise [k0_pay1]
  rfl

/-- The two halves of a sum over the tokens. -/
theorem halves (t t' : Fin cfg0.N) (h0 : t.val % 2 = 0) (h1 : t'.val % 2 = 1) (f : Fin 4096 → EReal) :
    ∑ k, f (tok t k) + ∑ k, f (tok t' k) = ∑ k, f k := by
  rw [← sum_blocks (N := 2) (n := 2048) (L := 4096) rfl (fun p k => ⟨p.val * 2048 + k.val, by omega⟩) (fun _ _ => rfl) f, Fin.sum_univ_two]
  simp only [tok, h0, h1]
  rfl

/-- The kept products at the second point of a pair. -/
theorem carried (t : Fin cfg0.N) (h1 : t.val % 2 = 1) : ((outsAt0 m c (t.val - 1) (by omega)).2 : FVec Ideal S1408x1024 .f32)
    = arr fun r l => ∑ k, a m c (tok ⟨t.val - 1, by omega⟩ k) (chan t r) * b m c (tok ⟨t.val - 1, by omega⟩ k) l := by
  have o := outsAt0_A m c ⟨t.val - 1, by omega⟩ (by show (t.val - 1) % 2 = 0; omega) (by show ¬(t.val - 1) % 2 = 1; omega) (by show ¬(t.val - 1) % 2 = 1; omega)
  have hr (r : Fin 1408) : chan ⟨t.val - 1, by omega⟩ r = chan t r := Fin.ext (by simp only [chan]; omega)
  refine (congrArg (fun x => x.2) o).trans ?_
  clear o
  frame_out
  rw [k0_pay2, part]
  simp only [hr]
  exact shapeCast_self _ _

/-- The result block at the second point of a pair. -/
theorem out (t : Fin cfg0.N) (h1 : t.val % 2 = 1) : ((outsAt0 m c t.val t.isLt).1 : FVec Ideal S1408x1024 .bf16) = arr fun r => prod m c (chan t r) := by
  rw [outsAt0_B m c t (by omega) h1 h1]
  frame_out
  rw [carried t h1, read_unread_whole, k0_pay4, k0_pay3, part]
  funext y
  idx_vars y
  pointwise
  simp only [arr_ix2]
  exact halves ⟨t.val - 1, by omega⟩ t (by show (t.val - 1) % 2 = 0; omega) h1 fun k => a m c k (chan t y0) * b m c k y1

theorem final : (dats m 0 c).arrAt 2 (cfgs 0).N = arr (prod m c) := by
  refine (dats m 0 c).arrAt_eq_of_covers 2 _ (by decide +kernel) fun t hf y => ?_
  rw [after0_2, out t ((idx t).2.2.2.1 hf)]
  refine congrArg₂ (prod m c) (Fin.ext ?_) (Fin.ext ?_)
  · show t.val / 2 * 1408 + (y 0).val = _
    blk_simp [idx t]
  · blk_simp [idx t]

end Cert.FfnDwdIdeal.Value
-- ==== Proof.FfnDwd.Claim.lean ====
/-
  The claim about the gradient of the down projection: at any arguments the kernel and its reference end with the same array.
-/
module

public import proofs.«01_k».proof.Defs
public import proofs.«01_k».proof.Proof.FfnDwd.Kernel
public import proofs.«01_k».proof.Proof.Gen.FfnDwdRefIdeal.Run

@[expose] public section
set_option maxRecDepth 16384
noncomputable section
open Idealize.ShloMosaic Idealize.ShloMosaic.TcCoe Idealize.SL.Sem Cert.Fwd

namespace Cert.FfnDwd
open Cert.FfnDwdIdeal.Value

section
open Cert.FfnDwdRefIdeal Cert.FfnDwdRefIdeal.Gen
/-- The reference's lines. -/
theorem lines (a : FVec Ideal S4096x2816 .bf16) (b : FVec Ideal S4096x1024 .bf16) :
    (truncf .bf16 (transpose S2816x1024 [1, 0] (Host.dotGeneral (φ₁ := .f32) (φ₂ := .f32) dot_S4096x1024_S4096x2816_S1024x2816_0_0_1_1_n_n none
      (extf .f32 b bitsLt_bf16_f32) (extf .f32 a bitsLt_bf16_f32)) transposes_S1024x2816_S2816x1024_1_0) bitsLt_bf16_f32 : FVec Ideal S2816x1024 .bf16)
      = arr fun i l => ∑ k : Fin 4096, a (ix2 k i) * b (ix2 k l) := by
  funext j
  idx_vars j
  pointwise
  exact Finset.sum_congr rfl fun k _ => mul_comm _ _
end

theorem algebraic : Cert.algebraic_FfnDwdIdeal_FfnDwdRefIdeal := by
  pair_intro
  · run_from Cert.FfnDwdIdeal.Value.run_blocks m g
  · run_from Cert.FfnDwdRefIdeal.Value.run m' g'
    refine Eq.trans ?_ final.symm
    exact lines _ _

end Cert.FfnDwd
-- ==== Proof.FfnDwIn.Kernel.lean ====
/-
  What the kernel of the gradient of an up projection leaves in its result array: the product, over the tokens, of
  the cotangent of its result and the stream. A pair of grid points handles 1408 of the hidden channels: the first keeps the products over
  half of the tokens, the second adds the other half's.
-/
module

public import proofs.«01_k».proof.Proof.Math.Forward
public import proofs.«01_k».proof.Proof.Gen.FfnDwInIdeal.Value
public import Idealize.ShloMosaic.Lib.Pipeline.ReadBack

@[expose] public section
set_option maxRecDepth 16384
noncomputable section
namespace Cert.FfnDwInIdeal.Value
open Cert.FfnDwInIdeal Cert.FfnDwInIdeal.Gen Idealize.ShloMosaic Idealize.ShloMosaic.TcCoe Idealize.SL.Sem Cert.Fwd

variable {m : (ℓ : Loc nD τ sig) → Buf (Elt Ideal) ℓ} {c : Dev nD}

/-- Which blocks point `t` reads and writes. -/
theorem idx : ∀ t : Fin cfg0.N, win0_0.index t = ![t.val % 2, t.val / 2] ∧ win0_1.index t = ![t.val % 2, 0] ∧ win0_2.index t = ![t.val / 2, 0]
    ∧ (win0_2.flush t = true → t.val % 2 = 1) ∧ t.val < 4 :=
  (by decide +kernel : ∀ t : Fin grid0.N, _)

/-- The token that row `k` of point `t`'s blocks is, and the hidden channel that column `r` is. -/
def tok (t : Fin cfg0.N) (k : Fin 2048) : Fin 4096 := ⟨t.val % 2 * 2048 + k.val, by omega⟩
@[inherit_doc tok]
def chan (t : Fin cfg0.N) (r : Fin 1408) : Fin 2816 := ⟨t.val / 2 * 1408 + r.val, by have := (idx t).2.2.2.2; omega⟩

variable (m c) in
/-- The arguments. -/
def a (k : Fin 4096) (i : Fin 2816) : EReal := m ((c.tc : Thread nD τ).loc main_arg0) (ix2 k i)
variable (m c) in
@[inherit_doc a]
def b (k : Fin 4096) (l : Fin 1024) : EReal := m ((c.tc : Thread nD τ).loc main_arg1) (ix2 k l)
variable (m c) in
/-- Their product over the tokens. -/
def prod (i : Fin 2816) (l : Fin 1024) : EReal := ∑ k, a m c k i * b m c k l

theorem blk0 (t : Fin cfg0.N) : (iblk m c 0 t : FVec Ideal S2048x1408 .bf16) = arr fun k r => a m c (tok t k) (chan t r) := by
  funext y
  idx_vars y
  refine Eq.trans ?_ (rfl : m ((c.tc : Thread nD τ).loc main_arg0) (ix2 (tok t y0) (chan t y1)) = _)
  blk_ext! [iblk, V, idx t, tok, chan]
theorem blk1 (t : Fin cfg0.N) : (iblk m c 1 t : FVec Ideal S2048x1024 .bf16) = arr fun k => b m c (tok t k) := by
  funext y
  idx_vars y
  refine Eq.trans ?_ (rfl : m ((c.tc : Thread nD τ).loc main_arg1) (ix2 (tok t y0) y1) = _)
  blk_ext! [iblk, V, idx t, tok]

/-- A point's part of the product. -/
theorem part (t : Fin cfg0.N) : k0_pay1 (F := Ideal) (iblk m c 0 t) (iblk m c 1 t)
    = arr fun r l => ∑ k, a m c (tok t k) (chan t r) * b m c (tok t k) l := by
  rw [blk0, blk1]
  funext y
  idx_vars y
  pointwise [k0_pay1]
  rfl

/-- The two halves of a sum over the tokens. -/
theorem halves (t t' : Fin cfg0.N) (h0 : t.val % 2 = 0) (h1 : t'.val % 2 = 1) (f : Fin 4096 → EReal) :
    ∑ k, f (tok t k) + ∑ k, f (tok t' k) = ∑ k, f k := by
  rw [← sum_blocks (N := 2) (n := 2048) (L := 4096) rfl (fun p k => ⟨p.val * 2048 + k.val, by omega⟩) (fun _ _ => rfl) f, Fin.sum_univ_two]
  simp only [tok, h0, h1]
  rfl

/-- The kept products at the second point of a pair. -/
theorem carried (t : Fin cfg0.N) (h1 : t.val % 2 = 1) : ((outsAt0 m c (t.val - 1) (by omega)).2 : FVec Ideal S1408x1024 .f32)
    = arr fun r l => ∑ k, a m c (tok ⟨t.val - 1, by omega⟩ k) (chan t r) * b m c (tok ⟨t.val - 1, by omega⟩ k) l := by
  have o := outsAt0_A m c ⟨t.val - 1, by omega⟩ (by show (t.val - 1) % 2 = 0; omega) (by show ¬(t.val - 1) % 2 = 1; omega) (by show ¬(t.val - 1) % 2 = 1; omega)
  have hr (r : Fin 1408) : chan ⟨t.val - 1, by omega⟩ r = chan t r := Fin.ext (by simp only [chan]; omega)
  refine (congrArg (fun x => x.2) o).trans ?_
  clear o
  frame_out
  rw [k0_pay2, part]
  simp only [hr]
  exact shapeCast_self _ _

/-- The result block at the second point of a pair. -/
theorem out (t : Fin cfg0.N) (h1 : t.val % 2 = 1) : ((outsAt0 m c t.val t.isLt).1 : FVec Ideal S1408x1024 .bf16) = arr fun r => prod m c (chan t r) := by
  rw [outsAt0_B m c t (by omega) h1 h1]
  frame_out
  rw [carried t h1, read_unread_whole, k0_pay4, k0_pay3, part]
  funext y
  idx_vars y
  pointwise
  simp only [arr_ix2]
  exact halves ⟨t.val - 1, by omega⟩ t (by show (t.val - 1) % 2 = 0; omega) h1 fun k => a m c k (chan t y0) * b m c k y1

theorem final : (dats m 0 c).arrAt 2 (cfgs 0).N = arr (prod m c) := by
  refine (dats m 0 c).arrAt_eq_of_covers 2 _ (by decide +kernel) fun t hf y => ?_
  rw [after0_2, out t ((idx t).2.2.2.1 hf)]
  refine congrArg₂ (prod m c) (Fin.ext ?_) (Fin.ext ?_)
  · show t.val / 2 * 1408 + (y 0).val = _
    blk_simp [idx t]
  · blk_simp [idx t]

end Cert.FfnDwInIdeal.Value
-- ==== Proof.FfnDwIn.Claim.lean ====
/-
  The claim about the gradient of an up projection: at any arguments the kernel and its reference end with the same array.
-/
module

public import proofs.«01_k».proof.Defs
public import proofs.«01_k».proof.Proof.FfnDwIn.Kernel
public import proofs.«01_k».proof.Proof.Gen.FfnDwInRefIdeal.Run

@[expose] public section
set_option maxRecDepth 16384
noncomputable section
open Idealize.ShloMosaic Idealize.ShloMosaic.TcCoe Idealize.SL.Sem Cert.Fwd

namespace Cert.FfnDwIn
open Cert.FfnDwInIdeal.Value

section
open Cert.FfnDwInRefIdeal Cert.FfnDwInRefIdeal.Gen
/-- The reference's lines. -/
theorem lines (a : FVec Ideal S4096x2816 .bf16) (b : FVec Ideal S4096x1024 .bf16) :
    (truncf .bf16 (transpose S2816x1024 [1, 0] (transpose S1024x2816 [1, 0] (Host.dotGeneral (φ₁ := .f32) (φ₂ := .f32)
      dot_S4096x2816_S4096x1024_S2816x1024_0_0_1_1_n_n none (extf .f32 a bitsLt_bf16_f32) (extf .f32 b bitsLt_bf16_f32))
      transposes_S2816x1024_S1024x2816_1_0) transposes_S1024x2816_S2816x1024_1_0) bitsLt_bf16_f32 : FVec Ideal S2816x1024 .bf16)
      = arr fun i l => ∑ k : Fin 4096, a (ix2 k i) * b (ix2 k l) := by
  funext j
  idx_vars j
  pointwise
  rfl
end

theorem algebraic : Cert.algebraic_FfnDwInIdeal_FfnDwInRefIdeal := by
  pair_intro
  · run_from Cert.FfnDwInIdeal.Value.run_blocks m g
  · run_from Cert.FfnDwInRefIdeal.Value.run m' g'
    refine Eq.trans ?_ final.symm
    exact lines _ _

end Cert.FfnDwIn
-- ==== Proof.Ffn1Gate.Kernel.lean ====
/-
  What the kernel of the first gate's arguments leaves in its result array: the product of the stream and the matrix.
-/
module

public import proofs.«01_k».proof.Proof.Math.Forward
public import proofs.«01_k».proof.Proof.Gen.Ffn1GateIdeal.Value

@[expose] public section
set_option maxRecDepth 16384
noncomputable section
namespace Cert.Ffn1GateIdeal.Value
open Cert.Ffn1GateIdeal Cert.Ffn1GateIdeal.Gen Idealize.ShloMosaic Idealize.ShloMosaic.TcCoe Idealize.SL.Sem Cert.Fwd

variable {m : (ℓ : Loc nD τ sig) → Buf (Elt Ideal) ℓ} {c : Dev nD}

/-- Which blocks point `t` reads and writes. -/
theorem idx : ∀ t : Fin cfg0.N, win0_0.index t = ![t.val % 8, 0] ∧ win0_1.index t = ![t.val / 8, 0] ∧ win0_2.index t = ![t.val % 8, t.val / 8] ∧ t.val < 16 :=
  (by decide +kernel : ∀ t : Fin grid0.N, _)

/-- The token and the hidden channel that row `r` and column `l` of point `t`'s blocks are. -/
def row (t : Fin cfg0.N) (r : Fin 512) : Fin 4096 := ⟨t.val % 8 * 512 + r.val, by omega⟩
@[inherit_doc row]
def col (t : Fin cfg0.N) (l : Fin 1408) : Fin 2816 := ⟨t.val / 8 * 1408 + l.val, by have := (idx t).2.2.2; omega⟩

variable (m c) in
/-- The arguments: the stream and the matrix. -/
def x (i : Fin 4096) (k : Fin 1024) : EReal := m ((c.tc : Thread nD τ).loc main_arg0) (ix2 i k)
variable (m c) in
@[inherit_doc x]
def w (k : Fin 1024) (l : Fin 2816) : EReal := m ((c.tc : Thread nD τ).loc main_arg1) (ix3 0 k l)
variable (m c) in
/-- Their product. -/
def prod (i : Fin 4096) (l : Fin 2816) : EReal := ∑ k, x m c i k * w m c k l

theorem blk0 (t : Fin cfg0.N) : (iblk m c 0 t : FVec Ideal S512x1024 .bf16) = arr fun r => x m c (row t r) := by
  funext y
  idx_vars y
  refine Eq.trans ?_ (rfl : m ((c.tc : Thread nD τ).loc main_arg0) (ix2 (row t y0) y1) = _)
  blk_ext! [iblk, V, idx t, row]
theorem blk1 (t : Fin cfg0.N) : (iblk m c 1 t : FVec Ideal S1408x1024 .bf16) = arr fun l k => w m c k (col t l) := by
  funext y
  idx_vars y
  have he : (win0_1.blk t).view.emb (ix2 y0 y1) = ix2 (col t y0) y1 := by blk_ext [idx t, col]
  refine (congrArg (V m c (Pipeline.arrRef spec0 1)) he).trans (?_ : _ = w m c y1 (col t y0))
  generalize col t y0 = i
  entry_read
  pointwise
  rfl

/-- The product, at a point. -/
theorem blk (t : Fin cfg0.N) : k0_pay1 (F := Ideal) (iblk m c 0 t) (iblk m c 1 t) = arr fun r l => prod m c (row t r) (col t l) := by
  rw [blk0, blk1]
  funext y
  idx_vars y
  pointwise [k0_pay1]
  rfl

theorem final : (dats m 0 c).arrAt 2 (cfgs 0).N = arr (prod m c) := by
  refine (dats m 0 c).arrAt_eq_of_covers 2 _ (by decide +kernel) fun t hf y => ?_
  rw [after0_2]
  frame_out
  rw [blk]
  refine congrArg₂ (prod m c) (Fin.ext ?_) (Fin.ext ?_)
  · show t.val % 8 * 512 + (y 0).val = _
    blk_simp [idx t]
  · show t.val / 8 * 1408 + (y 1).val = _
    blk_simp [idx t]

end Cert.Ffn1GateIdeal.Value
-- ==== Proof.Ffn1Gate.Claim.lean ====
/-
  The claim about the first gate's arguments: at any arguments the kernel and its reference end with the same array.
-/
module

public import proofs.«01_k».proof.Defs
public import proofs.«01_k».proof.Proof.Ffn1Gate.Kernel
public import proofs.«01_k».proof.Proof.Gen.Ffn1GateRefIdeal.Run

@[expose] public section
set_option maxRecDepth 16384
noncomputable section
open Idealize.ShloMosaic Idealize.ShloMosaic.TcCoe Idealize.SL.Sem Cert.Fwd

namespace Cert.Ffn1Gate
open Cert.Ffn1GateIdeal.Value

section
open Cert.Ffn1GateRefIdeal Cert.Ffn1GateRefIdeal.Gen
/-- The reference's lines. -/
theorem lines (x : FVec Ideal S4096x1024 .bf16) (w : FVec Ideal S1x1024x2816 .f32) :
    (truncf .bf16 (Host.dotGeneral (φ₁ := .f32) (φ₂ := .f32) dot_S4096x1024_S1024x2816_S4096x2816_1_0_0_1_n_n none (extf .f32 x bitsLt_bf16_f32)
      (shapeCast _ w shapeCasts_S1x1024x2816_S1024x2816)) bitsLt_bf16_f32 : FVec Ideal S4096x2816 .bf16)
      = arr fun i l => ∑ k : Fin 1024, x (ix2 i k) * w (ix3 0 k l) := by
  funext j
  idx_vars j
  pointwise
  rfl
end

theorem algebraic : Cert.algebraic_Ffn1GateIdeal_Ffn1GateRefIdeal := by
  pair_intro
  · run_from Cert.Ffn1GateIdeal.Value.run_blocks m g
  · run_from Cert.Ffn1GateRefIdeal.Value.run m' g'
    refine Eq.trans ?_ final.symm
    exact lines _ _

end Cert.Ffn1Gate
-- ==== Proof.Math.Adam.lean ====
/-
  A step of AdamW over the extended reals, with the constants' f32 values, and the sum of eight devices' parts.
-/
module

public import proofs.«01_k».proof.Proof.Math.Forward

@[expose] public section
noncomputable section
namespace Cert.Adam
open Idealize.ShloMosaic

/-- The first moment after a gradient. -/
def mom (g m : EReal) : EReal := Ideal.ofBits .f32 0x3F666666#32 * m + Ideal.ofBits .f32 0x3DCCCCCD#32 * g
/-- The second moment after a gradient. -/
def var (g v : EReal) : EReal := Ideal.ofBits .f32 0x3F7FBE77#32 * v + Ideal.ofBits .f32 0x3A83126F#32 * (g * g)
/-- The change of the weight. -/
def step (w g m v : EReal) : EReal :=
  Ideal.ofBits .f32 0xBA83126F#32 * (Ideal.div (Ideal.div (mom g m) (Ideal.ofBits .f32 0x3F26BD02#32))
    (Ideal.sqrt (Ideal.div (var g v) (Ideal.ofBits .f32 0x3C231ACC#32)) + Ideal.ofBits .f32 0x322BCC77#32)
    + Ideal.ofBits .f32 0x3C23D70A#32 * w)

/-- Eight devices' parts, added one after the other. -/
theorem eight (f : Fin 8 → EReal) : f 0 + f 1 + f 2 + f 3 + f 4 + f 5 + f 6 + f 7 = ∑ k, f k := (Fin.sum_univ_eight f).symm

end Cert.Adam
-- ==== Proof.Math.AdamHost.lean ====
/-
  The reference's lines of a step of AdamW, as host operations write them, read entry by entry.
-/
module

public import Idealize.ShloMosaic.Lib.Pointwise
public import proofs.«01_k».proof.Proof.Math.Adam

@[expose] public section
noncomputable section
namespace Cert.Adam
open Idealize.ShloMosaic

abbrev U : Shape := ⟨0, ![]⟩

variable {T : Shape} {b : U.BroadcastsInDim T ![]} {w g u v : FVec Ideal T .f32}

theorem mom_eq : addf (mulf (broadcastInDim T ![] b (constant (F := Ideal) U .f32 0x3F666666#32)) u)
    (mulf (broadcastInDim T ![] b (constant U .f32 0x3DCCCCCD#32)) g) = fun j => mom (g j) (u j) := rfl

theorem var_eq : addf (mulf (broadcastInDim T ![] b (constant (F := Ideal) U .f32 0x3F7FBE77#32)) v)
    (mulf (broadcastInDim T ![] b (constant U .f32 0x3A83126F#32)) (mulf g g)) = fun j => var (g j) (v j) := rfl

theorem step_eq : mulf (broadcastInDim T ![] b (constant (F := Ideal) U .f32 0xBA83126F#32)) (addf (Host.divf (Host.divf
      (addf (mulf (broadcastInDim T ![] b (constant U .f32 0x3F666666#32)) u) (mulf (broadcastInDim T ![] b (constant U .f32 0x3DCCCCCD#32)) g))
      (broadcastInDim T ![] b (constant U .f32 0x3F26BD02#32)))
      (addf (Host.sqrt (Host.divf (addf (mulf (broadcastInDim T ![] b (constant U .f32 0x3F7FBE77#32)) v)
        (mulf (broadcastInDim T ![] b (constant U .f32 0x3A83126F#32)) (mulf g g))) (broadcastInDim T ![] b (constant U .f32 0x3C231ACC#32))))
        (broadcastInDim T ![] b (constant U .f32 0x322BCC77#32))))
      (mulf (broadcastInDim T ![] b (constant U .f32 0x3C23D70A#32)) w)) = fun j => step (w j) (g j) (u j) (v j) := rfl

end Cert.Adam
-- ==== Proof.ReduceAdam.Kernel.lean ====
/-
  What the kernel that adds the devices' gradients and steps the optimiser leaves in its four result arrays: the gradient, the
  weight's change and its two moments.
-/
module

public import proofs.«01_k».proof.Proof.Math.Adam
public import proofs.«01_k».proof.Proof.Gen.ReduceAdamIdeal.Value

@[expose] public section
set_option maxRecDepth 16384
noncomputable section
namespace Cert.ReduceAdamIdeal.Value
open Cert.ReduceAdamIdeal Cert.ReduceAdamIdeal.Gen Idealize.ShloMosaic Idealize.ShloMosaic.TcCoe Idealize.SL.Sem Cert.Fwd Cert.Adam

variable {m : (ℓ : Loc nD τ sig) → Buf (Elt Ideal) ℓ} {c : Dev nD}

/-- Every window moves through the rows. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 2 :=
  (by decide +kernel : ∀ t : Fin grid0.N, _)

/-- The row of the arrays that row `r` of point `t`'s block is. -/
def row (t : Fin cfg0.N) (r : Fin 176) : Fin 352 := ⟨t.val * 176 + r.val, by have := (idx t).2.2.2.2.2.2.2.2; omega⟩

section
variable (m c)
/-- The devices' gradients. -/
def p (k : Fin 8) (i : Fin 352) (l : Fin 1024) : EReal := m ((c.tc : Thread nD τ).loc main_arg0) (ix3 k i l)
/-- Their sum. -/
def g (i : Fin 352) (l : Fin 1024) : EReal := ∑ k, p m c k i l
/-- The weight. -/
def w (i : Fin 352) (l : Fin 1024) : EReal := m ((c.tc : Thread nD τ).loc main_arg1) (ix3 0 i l)
/-- The first moment. -/
def u (i : Fin 352) (l : Fin 1024) : EReal := m ((c.tc : Thread nD τ).loc main_arg2) (ix3 0 i l)
/-- The second moment. -/
def v (i : Fin 352) (l : Fin 1024) : EReal := m ((c.tc : Thread nD τ).loc main_arg3) (ix3 0 i l)
end

theorem flat1 (i : Fin 352) (l : Fin 1024) : V m c main_v0 (ix2 i l) = w m c i l := by
  entry_read
  pointwise
  rfl
theorem flat2 (i : Fin 352) (l : Fin 1024) : V m c main_v1 (ix2 i l) = u m c i l := by
  entry_read
  pointwise
  rfl
theorem flat3 (i : Fin 352) (l : Fin 1024) : V m c main_v2 (ix2 i l) = v m c i l := by
  entry_read
  pointwise
  rfl

theorem blk0 (t : Fin cfg0.N) : (iblk m c 0 t : FVec Ideal S8x176x1024 .bf16) = fun j => p m c (j 0) (row t (j 1)) (j 2) := by
  funext y
  idx_vars y
  refine Eq.trans ?_ (rfl : m ((c.tc : Thread nD τ).loc main_arg0) (ix3 y0 (row t y1) y2) = _)
  blk_ext! [iblk, V, idx t, row]
theorem blk1 (t : Fin cfg0.N) : (iblk m c 1 t : FVec Ideal S176x1024 .f32) = arr fun r => w m c (row t r) :=
  funext fun y => (congrArg (V m c (Pipeline.arrRef spec0 1)) (by idx_vars y; blk_ext [idx t, row] : _ = ix2 (row t (y 0)) (y 1))).trans (flat1 _ _)
theorem blk2 (t : Fin cfg0.N) : (iblk m c 2 t : FVec Ideal S176x1024 .f32) = arr fun r => u m c (row t r) :=
  funext fun y => (congrArg (V m c (Pipeline.arrRef spec0 2)) (by idx_vars y; blk_ext [idx t, row] : _ = ix2 (row t (y 0)) (y 1))).trans (flat2 _ _)
theorem blk3 (t : Fin cfg0.N) : (iblk m c 3 t : FVec Ideal S176x1024 .f32) = arr fun r => v m c (row t r) :=
  funext fun y => (congrArg (V m c (Pipeline.arrRef spec0 3)) (by idx_vars y; blk_ext [idx t, row] : _ = ix2 (row t (y 0)) (y 1))).trans (flat3 _ _)

/-- The gradient, at a point. -/
theorem sums (t : Fin cfg0.N) : k0_pay6 (F := Ideal) (iblk m c 0 t) (iblk m c 1 t) (iblk m c 2 t) (iblk m c 3 t) = arr fun r => g m c (row t r) := by
  rw [k0_pay6, blk0]
  funext y
  idx_vars y
  pointwise [k0_pay4]
  exact eight fun k => p m c k (row t y0) y1

/-- A block's entry is the array's where the block lies. -/
theorem at_block (t : Fin cfg0.N) {r : Fin 176} {l : Fin 1024} (f : Fin 352 → Fin 1024 → EReal) {z : S352x1024.Idx}
    (h0 : t.val * 176 + r.val = (z 0).val) (h1 : l.val = (z 1).val) : f (row t r) l = arr f z :=
  congrArg₂ f (Fin.ext h0) (Fin.ext h1)

/-- The gradient. -/
theorem final_grad : (dats m 0 c).arrAt 4 (cfgs 0).N = arr fun i l => g m c i l := by
  refine (dats m 0 c).arrAt_eq_of_covers 4 _ (by decide +kernel) fun t hf y => ?_
  rw [after0_4]
  frame_out
  rw [sums]
  idx_vars y
  exact at_block t (r := y0) (l := y1) (fun i l => g m c i l) (by blk_simp [idx t]) (by blk_simp [idx t])
/-- The weight's change. -/
theorem final_step : (dats m 0 c).arrAt 5 (cfgs 0).N = arr fun i l => step (w m c i l) (g m c i l) (u m c i l) (v m c i l) := by
  refine (dats m 0 c).arrAt_eq_of_covers 5 _ (by decide +kernel) fun t hf y => ?_
  rw [after0_5]
  frame_out
  rw [sums, blk1, blk2, blk3]
  idx_vars y
  pointwise [k0_pay3, k0_pay1, k0_pay2, k0_pay5]
  exact at_block t (r := y0) (l := y1) (fun i l => step (w m c i l) (g m c i l) (u m c i l) (v m c i l)) (by blk_simp [idx t]) (by blk_simp [idx t])
/-- The first moment. -/
theorem final_mom : (dats m 0 c).arrAt 6 (cfgs 0).N = arr fun i l => mom (g m c i l) (u m c i l) := by
  refine (dats m 0 c).arrAt_eq_of_covers 6 _ (by decide +kernel) fun t hf y => ?_
  rw [after0_6]
  frame_out
  rw [sums, blk2]
  idx_vars y
  pointwise [k0_pay1]
  exact at_block t (r := y0) (l := y1) (fun i l => mom (g m c i l) (u m c i l)) (by blk_simp [idx t]) (by blk_simp [idx t])
/-- The second moment. -/
theorem final_var : (dats m 0 c).arrAt 7 (cfgs 0).N = arr fun i l => var (g m c i l) (v m c i l) := by
  refine (dats m 0 c).arrAt_eq_of_covers 7 _ (by decide +kernel) fun t hf y => ?_
  rw [after0_7]
  frame_out
  rw [sums, blk3]
  idx_vars y
  pointwise [k0_pay2]
  exact at_block t (r := y0) (l := y1) (fun i l => var (g m c i l) (v m c i l)) (by blk_simp [idx t]) (by blk_simp [idx t])

end Cert.ReduceAdamIdeal.Value
-- ==== Proof.ReduceAdam.Claim.lean ====
/-
  The claim about the kernel that adds the devices' gradients and steps the optimiser: at any arguments it and its reference end
  with the same four arrays.
-/
module

public import proofs.«01_k».proof.Defs
public import proofs.«01_k».proof.Proof.Math.AdamHost
public import proofs.«01_k».proof.Proof.ReduceAdam.Kernel
public import proofs.«01_k».proof.Proof.Gen.ReduceAdamRefIdeal.Run

@[expose] public section
set_option maxRecDepth 16384
noncomputable section
open Idealize.ShloMosaic Idealize.ShloMosaic.TcCoe Idealize.SL.Sem Cert.Fwd Cert.Adam

namespace Cert.ReduceAdam
open Cert.ReduceAdamIdeal.Value

section
open Cert.ReduceAdamRefIdeal Cert.ReduceAdamRefIdeal.Gen
/-- An argument without its leading axis. -/
theorem flat (x : FVec Ideal S1x352x1024 .f32) :
    (shapeCast S352x1024 x shapeCasts_S1x352x1024_S352x1024 : FVec Ideal S352x1024 .f32) = arr fun i l => x (ix3 0 i l) := by
  funext j
  idx_vars j
  pointwise
  rfl
/-- The sum over the devices. -/
theorem total (p : FVec Ideal S8x352x1024 .bf16) :
    (Host.reduceAdd (extf .f32 p bitsLt_bf16_f32) (constant S_ .f32 0x00000000#32) reducesTo_S8x352x1024_S352x1024_d0 h_S_ : FVec Ideal S352x1024 .f32)
      = arr fun i l => ∑ k, p (ix3 k i l) := by
  funext j
  idx_vars j
  pointwise
  rfl
end

theorem algebraic : Cert.algebraic_ReduceAdamIdeal_ReduceAdamRefIdeal := by
  pair_intro
  · run_from Cert.ReduceAdamIdeal.Value.run_blocks m g
  · refine Idealize.ShloMosaic.θ_run_mono (Cert.ReduceAdamRefIdeal.Value.run m' g') fun r hr c =>
      ⟨(hr c).1.trans (Eq.trans ?_ final_grad.symm), (hr c).2.1.trans (Eq.trans ?_ final_step.symm), (hr c).2.2.1.trans (Eq.trans ?_ final_mom.symm),
        (hr c).2.2.2.1.trans (Eq.trans ?_ final_var.symm), (hr c).2.2.2.2⟩
    all_goals obtain ⟨a0, a1, a2, a3⟩ := hagree c
    · rw [a0]
      exact total _
    · rw [a0, a1, a2, a3, total, flat, flat, flat]
      exact step_eq
    · rw [a0, a2, total, flat]
      exact mom_eq
    · rw [a0, a3, total, flat]
      exact var_eq

end Cert.ReduceAdam
-- ==== Proof.ReduceOnly.Kernel.lean ====
/-
  What the kernel that adds the devices' gradients leaves in its result array: their sum.
-/
module

public import proofs.«01_k».proof.Proof.Math.Adam
public import proofs.«01_k».proof.Proof.Gen.ReduceOnlyIdeal.Value

@[expose] public section
set_option maxRecDepth 16384
noncomputable section
namespace Cert.ReduceOnlyIdeal.Value
open Cert.ReduceOnlyIdeal Cert.ReduceOnlyIdeal.Gen Idealize.ShloMosaic Idealize.ShloMosaic.TcCoe Idealize.SL.Sem Cert.Fwd Cert.Adam

variable {m : (ℓ : Loc nD τ sig) → Buf (Elt Ideal) ℓ} {c : Dev nD}

/-- Which blocks point `t` reads and writes. -/
theorem idx : ∀ t : Fin cfg0.N, win0_0.index t = ![0, t.val, 0] ∧ win0_1.index t = ![t.val, 0] ∧ t.val < 4 :=
  (by decide +kernel : ∀ t : Fin grid0.N, _)

/-- The row of the result that row `r` of point `t`'s block is. -/
def row (t : Fin cfg0.N) (r : Fin 160) : Fin 640 := ⟨t.val * 160 + r.val, by have := (idx t).2.2; omega⟩

variable (m c) in
/-- The devices' gradients. -/
def p (k : Fin 8) (i : Fin 640) (l : Fin 1024) : EReal := m ((c.tc : Thread nD τ).loc main_arg0) (ix3 k i l)

theorem blk0 (t : Fin cfg0.N) : (iblk m c 0 t : FVec Ideal S8x160x1024 .bf16) = fun j => p m c (j 0) (row t (j 1)) (j 2) := by
  funext y
  idx_vars y
  refine Eq.trans ?_ (rfl : m ((c.tc : Thread nD τ).loc main_arg0) (ix3 y0 (row t y1) y2) = _)
  blk_ext! [iblk, V, idx t, row]

theorem final : (dats m 0 c).arrAt 1 (cfgs 0).N = arr fun i l => ∑ k, p m c k i l := by
  refine (dats m 0 c).arrAt_eq_of_covers 1 _ (by decide +kernel) fun t hf y => ?_
  rw [after0_1]
  frame_out
  rw [blk0]
  idx_vars y
  pointwise [k0_pay1]
  refine (eight fun k => p m c k (row t y0) y1).trans (congrArg₂ (fun i l => ∑ k, p m c k i l) (Fin.ext ?_) (Fin.ext ?_))
  · show t.val * 160 + y0.val = _
    blk_simp [idx t]
  · show y1.val = _
    blk_simp [idx t]

end Cert.ReduceOnlyIdeal.Value
-- ==== Proof.ReduceOnly.Claim.lean ====
/-
  The claim about the kernel that adds the devices' gradients: at any arguments it and its reference end with the same array.
-/
module

public import proofs.«01_k».proof.Defs
public import proofs.«01_k».proof.Proof.ReduceOnly.Kernel
public import proofs.«01_k».proof.Proof.Gen.ReduceOnlyRefIdeal.Run

@[expose] public section
set_option maxRecDepth 16384
noncomputable section
open Idealize.ShloMosaic Idealize.ShloMosaic.TcCoe Idealize.SL.Sem Cert.Fwd Cert.Adam

namespace Cert.ReduceOnly
open Cert.ReduceOnlyIdeal.Value

section
open Cert.ReduceOnlyRefIdeal Cert.ReduceOnlyRefIdeal.Gen
/-- The reference's lines. -/
theorem lines (p : FVec Ideal S8x640x1024 .bf16) :
    (Host.reduceAdd (extf .f32 p bitsLt_bf16_f32) (constant S_ .f32 0x00000000#32) reducesTo_S8x640x1024_S640x1024_d0 h_S_ : FVec Ideal S640x1024 .f32)
      = arr fun i l => ∑ k, p (ix3 k i l) := by
  funext j
  idx_vars j
  pointwise
  rfl
end

theorem algebraic : Cert.algebraic_ReduceOnlyIdeal_ReduceOnlyRefIdeal := by
  pair_intro
  · run_from Cert.ReduceOnlyIdeal.Value.run_blocks m g
  · refine Idealize.ShloMosaic.θ_run_mono (Cert.ReduceOnlyRefIdeal.Value.run m' g') fun r hr c => ⟨(hr c).1.trans (Eq.trans ?_ final.symm), (hr c).2⟩
    rw [hagree c]
    exact lines _

end Cert.ReduceOnly
-- ==== Proof.AdamOnly.Kernel.lean ====
/-
  What the optimiser's kernel leaves in its three result arrays: the weight's change and its two moments.
-/
module

public import proofs.«01_k».proof.Proof.Math.Adam
public import proofs.«01_k».proof.Proof.Gen.AdamOnlyIdeal.Value

@[expose] public section
set_option maxRecDepth 16384
noncomputable section
namespace Cert.AdamOnlyIdeal.Value
open Cert.AdamOnlyIdeal Cert.AdamOnlyIdeal.Gen Idealize.ShloMosaic Idealize.ShloMosaic.TcCoe Idealize.SL.Sem Cert.Fwd Cert.Adam

variable {m : (ℓ : Loc nD τ sig) → Buf (Elt Ideal) ℓ} {c : Dev nD}

/-- Every window moves through the rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] ∧ t.val < 4 :=
  (by decide +kernel : ∀ t : Fin grid0.N, _)

/-- The row of the arrays that row `r` of point `t`'s block is. -/
def row (t : Fin cfg0.N) (r : Fin 256) : Fin 1024 := ⟨t.val * 256 + r.val, by have := (idx t).2.2.2.2.2.2.2; omega⟩

section
variable (m c)
/-- The weight. -/
def w (i : Fin 1024) (l : Fin 640) : EReal := m ((c.tc : Thread nD τ).loc main_arg0) (ix3 0 i l)
/-- The gradient. -/
def g (i : Fin 1024) (l : Fin 640) : EReal := m ((c.tc : Thread nD τ).loc main_arg1) (ix3 0 i l)
/-- The first moment. -/
def u (i : Fin 1024) (l : Fin 640) : EReal := m ((c.tc : Thread nD τ).loc main_arg2) (ix3 0 i l)
/-- The second moment. -/
def v (i : Fin 1024) (l : Fin 640) : EReal := m ((c.tc : Thread nD τ).loc main_arg3) (ix3 0 i l)
end

theorem flat0 (i : Fin 1024) (l : Fin 640) : V m c main_v0 (ix2 i l) = w m c i l := by
  entry_read
  pointwise
  rfl
theorem flat1 (i : Fin 1024) (l : Fin 640) : V m c main_v1 (ix2 i l) = g m c i l := by
  entry_read
  pointwise
  rfl
theorem flat2 (i : Fin 1024) (l : Fin 640) : V m c main_v2 (ix2 i l) = u m c i l := by
  entry_read
  pointwise
  rfl
theorem flat3 (i : Fin 1024) (l : Fin 640) : V m c main_v3 (ix2 i l) = v m c i l := by
  entry_read
  pointwise
  rfl

theorem blk0 (t : Fin cfg0.N) : (iblk m c 0 t : FVec Ideal S256x640 .f32) = arr fun r => w m c (row t r) :=
  funext fun y => (congrArg (V m c (Pipeline.arrRef spec0 0)) (by idx_vars y; blk_ext [idx t, row] : _ = ix2 (row t (y 0)) (y 1))).trans (flat0 _ _)
theorem blk1 (t : Fin cfg0.N) : (iblk m c 1 t : FVec Ideal S256x640 .f32) = arr fun r => g m c (row t r) :=
  funext fun y => (congrArg (V m c (Pipeline.arrRef spec0 1)) (by idx_vars y; blk_ext [idx t, row] : _ = ix2 (row t (y 0)) (y 1))).trans (flat1 _ _)
theorem blk2 (t : Fin cfg0.N) : (iblk m c 2 t : FVec Ideal S256x640 .f32) = arr fun r => u m c (row t r) :=
  funext fun y => (congrArg (V m c (Pipeline.arrRef spec0 2)) (by idx_vars y; blk_ext [idx t, row] : _ = ix2 (row t (y 0)) (y 1))).trans (flat2 _ _)
theorem blk3 (t : Fin cfg0.N) : (iblk m c 3 t : FVec Ideal S256x640 .f32) = arr fun r => v m c (row t r) :=
  funext fun y => (congrArg (V m c (Pipeline.arrRef spec0 3)) (by idx_vars y; blk_ext [idx t, row] : _ = ix2 (row t (y 0)) (y 1))).trans (flat3 _ _)

/-- A block's entry is the array's where the block lies. -/
theorem at_block (t : Fin cfg0.N) {r : Fin 256} {l : Fin 640} (f : Fin 1024 → Fin 640 → EReal) {z : S1024x640.Idx}
    (h0 : t.val * 256 + r.val = (z 0).val) (h1 : l.val = (z 1).val) : f (row t r) l = arr f z :=
  congrArg₂ f (Fin.ext h0) (Fin.ext h1)

/-- The weight's change. -/
theorem final_step : (dats m 0 c).arrAt 4 (cfgs 0).N = arr fun i l => step (w m c i l) (g m c i l) (u m c i l) (v m c i l) := by
  refine (dats m 0 c).arrAt_eq_of_covers 4 _ (by decide +kernel) fun t hf y => ?_
  rw [after0_4]
  frame_out
  rw [blk0, blk1, blk2, blk3]
  idx_vars y
  pointwise [k0_pay4, k0_pay3, k0_pay2, k0_pay1]
  exact at_block t (r := y0) (l := y1) (fun i l => step (w m c i l) (g m c i l) (u m c i l) (v m c i l)) (by blk_simp [idx t]) (by blk_simp [idx t])
/-- The first moment. -/
theorem final_mom : (dats m 0 c).arrAt 5 (cfgs 0).N = arr fun i l => mom (g m c i l) (u m c i l) := by
  refine (dats m 0 c).arrAt_eq_of_covers 5 _ (by decide +kernel) fun t hf y => ?_
  rw [after0_5]
  frame_out
  rw [blk1, blk2]
  idx_vars y
  pointwise [k0_pay2, k0_pay1]
  exact at_block t (r := y0) (l := y1) (fun i l => mom (g m c i l) (u m c i l)) (by blk_simp [idx t]) (by blk_simp [idx t])
/-- The second moment. -/
theorem final_var : (dats m 0 c).arrAt 6 (cfgs 0).N = arr fun i l => var (g m c i l) (v m c i l) := by
  refine (dats m 0 c).arrAt_eq_of_covers 6 _ (by decide +kernel) fun t hf y => ?_
  rw [after0_6]
  frame_out
  rw [blk1, blk3]
  idx_vars y
  pointwise [k0_pay3, k0_pay1]
  exact at_block t (r := y0) (l := y1) (fun i l => var (g m c i l) (v m c i l)) (by blk_simp [idx t]) (by blk_simp [idx t])

end Cert.AdamOnlyIdeal.Value
-- ==== Proof.AdamOnly.Claim.lean ====
/-
  The claim about the optimiser's kernel: at any arguments it and its reference end with the same three arrays.
-/
module

public import proofs.«01_k».proof.Defs
public import proofs.«01_k».proof.Proof.Math.AdamHost
public import proofs.«01_k».proof.Proof.AdamOnly.Kernel
public import proofs.«01_k».proof.Proof.Gen.AdamOnlyRefIdeal.Run

@[expose] public section
set_option maxRecDepth 16384
noncomputable section
open Idealize.ShloMosaic Idealize.ShloMosaic.TcCoe Idealize.SL.Sem Cert.Fwd Cert.Adam

namespace Cert.AdamOnly
open Cert.AdamOnlyIdeal.Value

section
open Cert.AdamOnlyRefIdeal Cert.AdamOnlyRefIdeal.Gen
/-- An argument without its leading axis. -/
theorem flat (x : FVec Ideal S1x1024x640 .f32) :
    (shapeCast S1024x640 x shapeCasts_S1x1024x640_S1024x640 : FVec Ideal S1024x640 .f32) = arr fun i l => x (ix3 0 i l) := by
  funext j
  idx_vars j
  pointwise
  rfl
end

theorem algebraic : Cert.algebraic_AdamOnlyIdeal_AdamOnlyRefIdeal := by
  pair_intro
  · run_from Cert.AdamOnlyIdeal.Value.run_blocks m g
  · refine Idealize.ShloMosaic.θ_run_mono (Cert.AdamOnlyRefIdeal.Value.run m' g') fun r hr c =>
      ⟨(hr c).1.trans (Eq.trans ?_ final_step.symm), (hr c).2.1.trans (Eq.trans ?_ final_mom.symm), (hr c).2.2.1.trans (Eq.trans ?_ final_var.symm), (hr c).2.2.2⟩
    all_goals obtain ⟨a0, a1, a2, a3⟩ := hagree c
    · rw [a0, a1, a2, a3, flat, flat, flat, flat]
      exact step_eq
    · rw [a1, a2, flat, flat]
      exact mom_eq
    · rw [a1, a3, flat, flat]
      exact var_eq

end Cert.AdamOnly
-- ==== Proof.AdamReplicated.Kernel.lean ====
/-
  What the kernel that adds the devices' gradients of a replicated weight and steps the optimiser leaves in its four result arrays:
  the gradient, the weight's change and its two moments.
-/
module

public import proofs.«01_k».proof.Proof.Math.Adam
public import proofs.«01_k».proof.Proof.Gen.AdamReplicatedIdeal.Value

@[expose] public section
set_option maxRecDepth 16384
noncomputable section
namespace Cert.AdamReplicatedIdeal.Value
open Cert.AdamReplicatedIdeal Cert.AdamReplicatedIdeal.Gen Idealize.ShloMosaic Idealize.ShloMosaic.TcCoe Idealize.SL.Sem Cert.Fwd Cert.Adam

variable {m : (ℓ : Loc nD τ sig) → Buf (Elt Ideal) ℓ} {c : Dev nD}

section
variable (m c)
/-- The devices' gradients. -/
def p (k : Fin 8) (l : Fin 1024) : EReal := m ((c.tc : Thread nD τ).loc main_arg0) (ix3 k 0 l)
/-- Their sum. -/
def g (_ : Fin 1) (l : Fin 1024) : EReal := ∑ k, p m c k l
/-- The weight. -/
def w (i : Fin 1) (l : Fin 1024) : EReal := m ((c.tc : Thread nD τ).loc main_arg1) (ix2 i l)
/-- The first moment. -/
def u (i : Fin 1) (l : Fin 1024) : EReal := m ((c.tc : Thread nD τ).loc main_arg2) (ix2 i l)
/-- The second moment. -/
def v (i : Fin 1) (l : Fin 1024) : EReal := m ((c.tc : Thread nD τ).loc main_arg3) (ix2 i l)
end

/-- The gradient. -/
theorem sums (a1 a2 a3 : FVec Ideal S1x1024 .f32) : k0_pay6 (F := Ideal) (m ((c.tc : Thread nD τ).loc main_arg0)) a1 a2 a3 = arr (g m c) := by
  rw [k0_pay6]
  funext y
  idx_vars y
  pointwise [k0_pay4]
  exact eight fun k => p m c k y1

/-- The gradient. -/
theorem final_grad : (dats m 0 c).arrAt 4 (cfgs 0).N = arr fun i l => g m c i l := by
  refine (final4 m c).trans ?_
  rw [G4, sums]
/-- The weight's change. -/
theorem final_step : (dats m 0 c).arrAt 5 (cfgs 0).N = arr fun i l => step (w m c i l) (g m c i l) (u m c i l) (v m c i l) := by
  refine (final5 m c).trans ?_
  rw [G5, sums]
  funext y
  idx_vars y
  obtain rfl : y0 = 0 := Subsingleton.elim _ _
  pointwise [k0_pay3, k0_pay1, k0_pay2, k0_pay5, k0_pay7]
  rfl
/-- The first moment. -/
theorem final_mom : (dats m 0 c).arrAt 6 (cfgs 0).N = arr fun i l => mom (g m c i l) (u m c i l) := by
  refine (final6 m c).trans ?_
  rw [G6, sums]
  funext y
  idx_vars y
  obtain rfl : y0 = 0 := Subsingleton.elim _ _
  pointwise [k0_pay1, k0_pay5, k0_pay7]
  rfl
/-- The second moment. -/
theorem final_var : (dats m 0 c).arrAt 7 (cfgs 0).N = arr fun i l => var (g m c i l) (v m c i l) := by
  refine (final7 m c).trans ?_
  rw [G7, sums]
  funext y
  idx_vars y
  obtain rfl : y0 = 0 := Subsingleton.elim _ _
  pointwise [k0_pay2]
  rfl

end Cert.AdamReplicatedIdeal.Value
-- ==== Proof.AdamReplicated.Claim.lean ====
/-
  The claim about the kernel that adds the devices' gradients of a replicated weight and steps the optimiser: at any arguments it
  and its reference end with the same four arrays.
-/
module

public import proofs.«01_k».proof.Defs
public import proofs.«01_k».proof.Proof.Math.AdamHost
public import proofs.«01_k».proof.Proof.AdamReplicated.Kernel
public import proofs.«01_k».proof.Proof.Gen.AdamReplicatedRefIdeal.Run

@[expose] public section
set_option maxRecDepth 16384
noncomputable section
open Idealize.ShloMosaic Idealize.ShloMosaic.TcCoe Idealize.SL.Sem Cert.Fwd Cert.Adam

namespace Cert.AdamReplicated
open Cert.AdamReplicatedIdeal.Value

section
open Cert.AdamReplicatedRefIdeal Cert.AdamReplicatedRefIdeal.Gen
/-- The sum over the devices, its first row. -/
theorem total (p : FVec Ideal S8x8x1024 .f32) :
    (extractStridedSlice S1x1024 ![0, 0] (Host.reduceAdd p (constant S_ .f32 0x00000000#32) reducesTo_S8x8x1024_S8x1024_d0 h_S_) slices_S8x1024_S1x1024_0_0 : FVec Ideal S1x1024 .f32)
      = arr fun _ l => ∑ k, p (ix3 k 0 l) := by
  funext j
  idx_vars j
  obtain rfl : j0 = 0 := Subsingleton.elim _ _
  pointwise
  rfl
end

theorem algebraic : Cert.algebraic_AdamReplicatedIdeal_AdamReplicatedRefIdeal := by
  pair_intro
  · run_from Cert.AdamReplicatedIdeal.Value.run_blocks m g
  · refine Idealize.ShloMosaic.θ_run_mono (Cert.AdamReplicatedRefIdeal.Value.run m' g') fun r hr c =>
      ⟨(hr c).1.trans (Eq.trans ?_ final_grad.symm), (hr c).2.1.trans (Eq.trans ?_ final_step.symm), (hr c).2.2.1.trans (Eq.trans ?_ final_mom.symm),
        (hr c).2.2.2.1.trans (Eq.trans ?_ final_var.symm), (hr c).2.2.2.2⟩
    all_goals obtain ⟨a0, a1, a2, a3⟩ := hagree c
    · rw [a0]
      exact total _
    · rw [a0, a1, a2, a3, total]
      refine step_eq.trans ?_
      funext j
      idx_vars j
      rfl
    · rw [a0, a2, total]
      refine mom_eq.trans ?_
      funext j
      idx_vars j
      rfl
    · rw [a0, a3, total]
      refine var_eq.trans ?_
      funext j
      idx_vars j
      rfl

end Cert.AdamReplicated
-- ==== Proof.lean ====
/-
  The claims of Defs.lean: the frames are the generated ones, the references' are read off their runs, and each equation is
  proved in the call's own directory.
-/
module

public import proofs.«01_k».proof.Defs
public import proofs.«01_k».proof.Proof.Gen.SguBwd.Frame
public import proofs.«01_k».proof.Proof.Gen.SguBwdIdeal.Value
public import proofs.«01_k».proof.Proof.Gen.SguBwdRefIdeal.Run
public import proofs.«01_k».proof.Proof.Sgu.Claim
public import proofs.«01_k».proof.Proof.Gen.PoolBwd.Frame
public import proofs.«01_k».proof.Proof.Gen.PoolBwdIdeal.Value
public import proofs.«01_k».proof.Proof.Gen.PoolBwdRefIdeal.Run
public import proofs.«01_k».proof.Proof.Pool.Claim
public import proofs.«01_k».proof.Proof.Gen.MixDy.Frame
public import proofs.«01_k».proof.Proof.Gen.MixDyIdeal.Value
public import proofs.«01_k».proof.Proof.Gen.MixDyRefIdeal.Run
public import proofs.«01_k».proof.Proof.MixDy.Claim
public import proofs.«01_k».proof.Proof.Gen.PlePostBwd.Frame
public import proofs.«01_k».proof.Proof.Gen.PlePostBwdIdeal.Value
public import proofs.«01_k».proof.Proof.Gen.PlePostBwdRefIdeal.Run
public import proofs.«01_k».proof.Proof.PlePost.Claim
public import proofs.«01_k».proof.Proof.Gen.FfnDhid.Frame
public import proofs.«01_k».proof.Proof.Gen.FfnDhidIdeal.Value
public import proofs.«01_k».proof.Proof.Gen.FfnDhidRefIdeal.Run
public import proofs.«01_k».proof.Proof.FfnDhid.Claim
public import proofs.«01_k».proof.Proof.Gen.PleDx.Frame
public import proofs.«01_k».proof.Proof.Gen.PleDxIdeal.Value
public import proofs.«01_k».proof.Proof.Gen.PleDxRefIdeal.Run
public import proofs.«01_k».proof.Proof.PleDx.Claim
public import proofs.«01_k».proof.Proof.Gen.Ffn2Dx.Frame
public import proofs.«01_k».proof.Proof.Gen.Ffn2DxIdeal.Value
public import proofs.«01_k».proof.Proof.Gen.Ffn2DxRefIdeal.Run
public import proofs.«01_k».proof.Proof.Ffn2Dx.Claim
public import proofs.«01_k».proof.Proof.Gen.Ffn1Dx.Frame
public import proofs.«01_k».proof.Proof.Gen.Ffn1DxIdeal.Value
public import proofs.«01_k».proof.Proof.Gen.Ffn1DxRefIdeal.Run
public import proofs.«01_k».proof.Proof.Ffn1Dx.Claim
public import proofs.«01_k».proof.Proof.Gen.MixDx.Frame
public import proofs.«01_k».proof.Proof.Gen.MixDxIdeal.Value
public import proofs.«01_k».proof.Proof.Gen.MixDxRefIdeal.Run
public import proofs.«01_k».proof.Proof.MixDx.Claim
public import proofs.«01_k».proof.Proof.Gen.PleFwd.Frame
public import proofs.«01_k».proof.Proof.Gen.PleFwdIdeal.Value
public import proofs.«01_k».proof.Proof.Gen.PleFwdRefIdeal.Run
public import proofs.«01_k».proof.Proof.PleFwd.Claim
public import proofs.«01_k».proof.Proof.Gen.FfnDown.Frame
public import proofs.«01_k».proof.Proof.Gen.FfnDownIdeal.Value
public import proofs.«01_k».proof.Proof.Gen.FfnDownRefIdeal.Run
public import proofs.«01_k».proof.Proof.FfnDown.Claim
public import proofs.«01_k».proof.Proof.Gen.MixProj.Frame
public import proofs.«01_k».proof.Proof.Gen.MixProjIdeal.Value
public import proofs.«01_k».proof.Proof.Gen.MixProjRefIdeal.Run
public import proofs.«01_k».proof.Proof.MixProj.Claim
public import proofs.«01_k».proof.Proof.Gen.SguFwd.Frame
public import proofs.«01_k».proof.Proof.Gen.SguFwdIdeal.Value
public import proofs.«01_k».proof.Proof.Gen.SguFwdRefIdeal.Run
public import proofs.«01_k».proof.Proof.SguFwd.Claim
public import proofs.«01_k».proof.Proof.Gen.PoolFwd.Frame
public import proofs.«01_k».proof.Proof.Gen.PoolFwdIdeal.Value
public import proofs.«01_k».proof.Proof.Gen.PoolFwdRefIdeal.Run
public import proofs.«01_k».proof.Proof.PoolFwd.Claim
public import proofs.«01_k».proof.Proof.Gen.MixMerge.Frame
public import proofs.«01_k».proof.Proof.Gen.MixMergeIdeal.Value
public import proofs.«01_k».proof.Proof.Gen.MixMergeRefIdeal.Run
public import proofs.«01_k».proof.Proof.MixMerge.Claim
public import proofs.«01_k».proof.Proof.Gen.FfnUp.Frame
public import proofs.«01_k».proof.Proof.Gen.FfnUpIdeal.Value
public import proofs.«01_k».proof.Proof.Gen.FfnUpRefIdeal.Run
public import proofs.«01_k».proof.Proof.FfnUp.Claim
public import proofs.«01_k».proof.Proof.Gen.Prenorm.Frame
public import proofs.«01_k».proof.Proof.Gen.PrenormIdeal.Value
public import proofs.«01_k».proof.Proof.Gen.PrenormRefIdeal.Run
public import proofs.«01_k».proof.Proof.Prenorm.Claim
public import proofs.«01_k».proof.Proof.Gen.Ffn1Up.Frame
public import proofs.«01_k».proof.Proof.Gen.Ffn1UpIdeal.Value
public import proofs.«01_k».proof.Proof.Gen.Ffn1UpRefIdeal.Run
public import proofs.«01_k».proof.Proof.Ffn1Up.Claim
public import proofs.«01_k».proof.Proof.Gen.MixIn.Frame
public import proofs.«01_k».proof.Proof.Gen.MixInIdeal.Value
public import proofs.«01_k».proof.Proof.Gen.MixInRefIdeal.Run
public import proofs.«01_k».proof.Proof.MixIn.Claim
public import proofs.«01_k».proof.Proof.Gen.FfnDwd.Frame
public import proofs.«01_k».proof.Proof.Gen.FfnDwdIdeal.Value
public import proofs.«01_k».proof.Proof.Gen.FfnDwdRefIdeal.Run
public import proofs.«01_k».proof.Proof.FfnDwd.Claim
public import proofs.«01_k».proof.Proof.Gen.FfnDwIn.Frame
public import proofs.«01_k».proof.Proof.Gen.FfnDwInIdeal.Value
public import proofs.«01_k».proof.Proof.Gen.FfnDwInRefIdeal.Run
public import proofs.«01_k».proof.Proof.FfnDwIn.Claim
public import proofs.«01_k».proof.Proof.Gen.Ffn1Gate.Frame
public import proofs.«01_k».proof.Proof.Gen.Ffn1GateIdeal.Value
public import proofs.«01_k».proof.Proof.Gen.Ffn1GateRefIdeal.Run
public import proofs.«01_k».proof.Proof.Ffn1Gate.Claim
public import proofs.«01_k».proof.Proof.Gen.ReduceAdam.Frame
public import proofs.«01_k».proof.Proof.Gen.ReduceAdamIdeal.Value
public import proofs.«01_k».proof.Proof.Gen.ReduceAdamRefIdeal.Run
public import proofs.«01_k».proof.Proof.ReduceAdam.Claim
public import proofs.«01_k».proof.Proof.Gen.ReduceOnly.Frame
public import proofs.«01_k».proof.Proof.Gen.ReduceOnlyIdeal.Value
public import proofs.«01_k».proof.Proof.Gen.ReduceOnlyRefIdeal.Run
public import proofs.«01_k».proof.Proof.ReduceOnly.Claim
public import proofs.«01_k».proof.Proof.Gen.AdamOnly.Frame
public import proofs.«01_k».proof.Proof.Gen.AdamOnlyIdeal.Value
public import proofs.«01_k».proof.Proof.Gen.AdamOnlyRefIdeal.Run
public import proofs.«01_k».proof.Proof.AdamOnly.Claim
public import proofs.«01_k».proof.Proof.Gen.AdamReplicated.Frame
public import proofs.«01_k».proof.Proof.Gen.AdamReplicatedIdeal.Value
public import proofs.«01_k».proof.Proof.Gen.AdamReplicatedRefIdeal.Run
public import proofs.«01_k».proof.Proof.AdamReplicated.Claim
public import proofs.«01_k».proof.Proof.Gen.Pre_sgu_bwd_finite
public import proofs.«01_k».proof.Proof.Gen.Pre_pool_bwd_finite
public import proofs.«01_k».proof.Proof.Gen.Pre_ple_post_bwd_finite
public import proofs.«01_k».proof.Proof.Gen.Pre_ffn_dhid_finite
public import proofs.«01_k».proof.Proof.Gen.Pre_ple_dx_finite
public import proofs.«01_k».proof.Proof.Gen.Pre_ffn2_dx_finite
public import proofs.«01_k».proof.Proof.Gen.Pre_ffn1_dx_finite
public import proofs.«01_k».proof.Proof.Gen.Pre_mix_dx_finite
public import proofs.«01_k».proof.Proof.Gen.Pre_pool_fwd_finite
public import proofs.«01_k».proof.Proof.Gen.On_mix_dy_written
public import Idealize.ShloMosaic.Lib.Quiescent
public import Idealize.ShloMosaic.Adequacy

@[expose] public section

set_option maxRecDepth 16384

noncomputable section

namespace Cert.Proof

open Idealize.ShloMosaic Idealize.ShloMosaic.TcCoe Idealize.SL.Sem

theorem claim : Cert.Claim := ⟨Cert.SguBwd.Gen.facts, Cert.SguBwdIdeal.Gen.facts, Cert.SguBwdRefIdeal.Gen.facts, Cert.PoolBwd.Gen.facts, Cert.PoolBwdIdeal.Gen.facts, Cert.PoolBwdRefIdeal.Gen.facts, Cert.MixDy.Gen.facts, Cert.MixDyIdeal.Gen.facts, Cert.MixDyRefIdeal.Gen.facts, Cert.PlePostBwd.Gen.facts, Cert.PlePostBwdIdeal.Gen.facts, Cert.PlePostBwdRefIdeal.Gen.facts, Cert.FfnDhid.Gen.facts, Cert.FfnDhidIdeal.Gen.facts, Cert.FfnDhidRefIdeal.Gen.facts, Cert.PleDx.Gen.facts, Cert.PleDxIdeal.Gen.facts, Cert.PleDxRefIdeal.Gen.facts, Cert.Ffn2Dx.Gen.facts, Cert.Ffn2DxIdeal.Gen.facts, Cert.Ffn2DxRefIdeal.Gen.facts, Cert.Ffn1Dx.Gen.facts, Cert.Ffn1DxIdeal.Gen.facts, Cert.Ffn1DxRefIdeal.Gen.facts, Cert.MixDx.Gen.facts, Cert.MixDxIdeal.Gen.facts, Cert.MixDxRefIdeal.Gen.facts, Cert.PleFwd.Gen.facts, Cert.PleFwdIdeal.Gen.facts, Cert.PleFwdRefIdeal.Gen.facts, Cert.FfnDown.Gen.facts, Cert.FfnDownIdeal.Gen.facts, Cert.FfnDownRefIdeal.Gen.facts, Cert.MixProj.Gen.facts, Cert.MixProjIdeal.Gen.facts, Cert.MixProjRefIdeal.Gen.facts, Cert.SguFwd.Gen.facts, Cert.SguFwdIdeal.Gen.facts, Cert.SguFwdRefIdeal.Gen.facts, Cert.PoolFwd.Gen.facts, Cert.PoolFwdIdeal.Gen.facts, Cert.PoolFwdRefIdeal.Gen.facts, Cert.MixMerge.Gen.facts, Cert.MixMergeIdeal.Gen.facts, Cert.MixMergeRefIdeal.Gen.facts, Cert.FfnUp.Gen.facts, Cert.FfnUpIdeal.Gen.facts, Cert.FfnUpRefIdeal.Gen.facts, Cert.Prenorm.Gen.facts, Cert.PrenormIdeal.Gen.facts, Cert.PrenormRefIdeal.Gen.facts, Cert.Ffn1Up.Gen.facts, Cert.Ffn1UpIdeal.Gen.facts, Cert.Ffn1UpRefIdeal.Gen.facts, Cert.MixIn.Gen.facts, Cert.MixInIdeal.Gen.facts, Cert.MixInRefIdeal.Gen.facts, Cert.FfnDwd.Gen.facts, Cert.FfnDwdIdeal.Gen.facts, Cert.FfnDwdRefIdeal.Gen.facts, Cert.FfnDwIn.Gen.facts, Cert.FfnDwInIdeal.Gen.facts, Cert.FfnDwInRefIdeal.Gen.facts, Cert.Ffn1Gate.Gen.facts, Cert.Ffn1GateIdeal.Gen.facts, Cert.Ffn1GateRefIdeal.Gen.facts, Cert.ReduceAdam.Gen.facts, Cert.ReduceAdamIdeal.Gen.facts, Cert.ReduceAdamRefIdeal.Gen.facts, Cert.ReduceOnly.Gen.facts, Cert.ReduceOnlyIdeal.Gen.facts, Cert.ReduceOnlyRefIdeal.Gen.facts, Cert.AdamOnly.Gen.facts, Cert.AdamOnlyIdeal.Gen.facts, Cert.AdamOnlyRefIdeal.Gen.facts, Cert.AdamReplicated.Gen.facts, Cert.AdamReplicatedIdeal.Gen.facts, Cert.AdamReplicatedRefIdeal.Gen.facts, Cert.Pre_sgu_bwd_finite.Gen.facts, Cert.Pre_pool_bwd_finite.Gen.facts, Cert.Pre_ple_post_bwd_finite.Gen.facts, Cert.Pre_ffn_dhid_finite.Gen.facts, Cert.Pre_ple_dx_finite.Gen.facts, Cert.Pre_ffn2_dx_finite.Gen.facts, Cert.Pre_ffn1_dx_finite.Gen.facts, Cert.Pre_mix_dx_finite.Gen.facts, Cert.Pre_pool_fwd_finite.Gen.facts, Cert.On_mix_dy_written.Gen.facts,
  fun m ρ _ => Cert.SguBwd.Gen.frame m ρ,
  fun m ρ _ => Cert.SguBwdIdeal.Gen.frame m ρ,
  fun m ρ _ => Cert.SguBwdIdeal.Gen.frame m ρ,
  by intro m ρ _; (run_from Cert.SguBwdRefIdeal.Value.run m ρ); all_goals first | (intro _; simp; done) | (refine sem_eq_zero_of_no_sems ?_ _; decide),
  by intro m ρ _; (run_from Cert.SguBwdRefIdeal.Value.run m ρ); all_goals first | (intro _; simp; done) | (refine sem_eq_zero_of_no_sems ?_ _; decide),
  fun m ρ _ => Cert.PoolBwd.Gen.frame m ρ,
  fun m ρ _ => Cert.PoolBwdIdeal.Gen.frame m ρ,
  fun m ρ _ => Cert.PoolBwdIdeal.Gen.frame m ρ,
  by intro m ρ _; (run_from Cert.PoolBwdRefIdeal.Value.run m ρ); all_goals first | (intro _; simp; done) | (refine sem_eq_zero_of_no_sems ?_ _; decide),
  by intro m ρ _; (run_from Cert.PoolBwdRefIdeal.Value.run m ρ); all_goals first | (intro _; simp; done) | (refine sem_eq_zero_of_no_sems ?_ _; decide),
  fun m ρ _ => Cert.MixDy.Gen.frame m ρ,
  fun m ρ _ => Cert.MixDyIdeal.Gen.frame m ρ,
  by intro m ρ _; (run_from Cert.MixDyRefIdeal.Value.run m ρ); all_goals first | (intro _; simp; done) | (refine sem_eq_zero_of_no_sems ?_ _; decide),
  fun m ρ _ => Cert.PlePostBwd.Gen.frame m ρ,
  fun m ρ _ => Cert.PlePostBwdIdeal.Gen.frame m ρ,
  fun m ρ _ => Cert.PlePostBwdIdeal.Gen.frame m ρ,
  by intro m ρ _; (run_from Cert.PlePostBwdRefIdeal.Value.run m ρ); all_goals first | (intro _; simp; done) | (refine sem_eq_zero_of_no_sems ?_ _; decide),
  by intro m ρ _; (run_from Cert.PlePostBwdRefIdeal.Value.run m ρ); all_goals first | (intro _; simp; done) | (refine sem_eq_zero_of_no_sems ?_ _; decide),
  fun m ρ _ => Cert.FfnDhid.Gen.frame m ρ,
  fun m ρ _ => Cert.FfnDhidIdeal.Gen.frame m ρ,
  fun m ρ _ => Cert.FfnDhidIdeal.Gen.frame m ρ,
  by intro m ρ _; (run_from Cert.FfnDhidRefIdeal.Value.run m ρ); all_goals first | (intro _; simp; done) | (refine sem_eq_zero_of_no_sems ?_ _; decide),
  by intro m ρ _; (run_from Cert.FfnDhidRefIdeal.Value.run m ρ); all_goals first | (intro _; simp; done) | (refine sem_eq_zero_of_no_sems ?_ _; decide),
  fun m ρ _ => Cert.PleDx.Gen.frame m ρ,
  fun m ρ _ => Cert.PleDxIdeal.Gen.frame m ρ,
  fun m ρ _ => Cert.PleDxIdeal.Gen.frame m ρ,
  by intro m ρ _; (run_from Cert.PleDxRefIdeal.Value.run m ρ); all_goals first | (intro _; simp; done) | (refine sem_eq_zero_of_no_sems ?_ _; decide),
  by intro m ρ _; (run_from Cert.PleDxRefIdeal.Value.run m ρ); all_goals first | (intro _; simp; done) | (refine sem_eq_zero_of_no_sems ?_ _; decide),
  fun m ρ _ => Cert.Ffn2Dx.Gen.frame m ρ,
  fun m ρ _ => Cert.Ffn2DxIdeal.Gen.frame m ρ,
  fun m ρ _ => Cert.Ffn2DxIdeal.Gen.frame m ρ,
  by intro m ρ _; (run_from Cert.Ffn2DxRefIdeal.Value.run m ρ); all_goals first | (intro _; simp; done) | (refine sem_eq_zero_of_no_sems ?_ _; decide),
  by intro m ρ _; (run_from Cert.Ffn2DxRefIdeal.Value.run m ρ); all_goals first | (intro _; simp; done) | (refine sem_eq_zero_of_no_sems ?_ _; decide),
  fun m ρ _ => Cert.Ffn1Dx.Gen.frame m ρ,
  fun m ρ _ => Cert.Ffn1DxIdeal.Gen.frame m ρ,
  fun m ρ _ => Cert.Ffn1DxIdeal.Gen.frame m ρ,
  by intro m ρ _; (run_from Cert.Ffn1DxRefIdeal.Value.run m ρ); all_goals first | (intro _; simp; done) | (refine sem_eq_zero_of_no_sems ?_ _; decide),
  by intro m ρ _; (run_from Cert.Ffn1DxRefIdeal.Value.run m ρ); all_goals first | (intro _; simp; done) | (refine sem_eq_zero_of_no_sems ?_ _; decide),
  fun m ρ _ => Cert.MixDx.Gen.frame m ρ,
  fun m ρ _ => Cert.MixDxIdeal.Gen.frame m ρ,
  fun m ρ _ => Cert.MixDxIdeal.Gen.frame m ρ,
  by intro m ρ _; (run_from Cert.MixDxRefIdeal.Value.run m ρ); all_goals first | (intro _; simp; done) | (refine sem_eq_zero_of_no_sems ?_ _; decide),
  by intro m ρ _; (run_from Cert.MixDxRefIdeal.Value.run m ρ); all_goals first | (intro _; simp; done) | (refine sem_eq_zero_of_no_sems ?_ _; decide),
  fun m ρ _ => Cert.PleFwd.Gen.frame m ρ,
  fun m ρ _ => Cert.PleFwdIdeal.Gen.frame m ρ,
  by intro m ρ _; (run_from Cert.PleFwdRefIdeal.Value.run m ρ); all_goals first | (intro _; simp; done) | (refine sem_eq_zero_of_no_sems ?_ _; decide),
  fun m ρ _ => Cert.FfnDown.Gen.frame m ρ,
  fun m ρ _ => Cert.FfnDownIdeal.Gen.frame m ρ,
  by intro m ρ _; (run_from Cert.FfnDownRefIdeal.Value.run m ρ); all_goals first | (intro _; simp; done) | (refine sem_eq_zero_of_no_sems ?_ _; decide),
  fun m ρ _ => Cert.MixProj.Gen.frame m ρ,
  fun m ρ _ => Cert.MixProjIdeal.Gen.frame m ρ,
  by intro m ρ _; (run_from Cert.MixProjRefIdeal.Value.run m ρ); all_goals first | (intro _; simp; done) | (refine sem_eq_zero_of_no_sems ?_ _; decide),
  fun m ρ _ => Cert.SguFwd.Gen.frame m ρ,
  fun m ρ _ => Cert.SguFwdIdeal.Gen.frame m ρ,
  by intro m ρ _; (run_from Cert.SguFwdRefIdeal.Value.run m ρ); all_goals first | (intro _; simp; done) | (refine sem_eq_zero_of_no_sems ?_ _; decide),
  fun m ρ _ => Cert.PoolFwd.Gen.frame m ρ,
  fun m ρ _ => Cert.PoolFwdIdeal.Gen.frame m ρ,
  fun m ρ _ => Cert.PoolFwdIdeal.Gen.frame m ρ,
  by intro m ρ _; (run_from Cert.PoolFwdRefIdeal.Value.run m ρ); all_goals first | (intro _; simp; done) | (refine sem_eq_zero_of_no_sems ?_ _; decide),
  by intro m ρ _; (run_from Cert.PoolFwdRefIdeal.Value.run m ρ); all_goals first | (intro _; simp; done) | (refine sem_eq_zero_of_no_sems ?_ _; decide),
  fun m ρ _ => Cert.MixMerge.Gen.frame m ρ,
  fun m ρ _ => Cert.MixMergeIdeal.Gen.frame m ρ,
  by intro m ρ _; (run_from Cert.MixMergeRefIdeal.Value.run m ρ); all_goals first | (intro _; simp; done) | (refine sem_eq_zero_of_no_sems ?_ _; decide),
  fun m ρ _ => Cert.FfnUp.Gen.frame m ρ,
  fun m ρ _ => Cert.FfnUpIdeal.Gen.frame m ρ,
  by intro m ρ _; (run_from Cert.FfnUpRefIdeal.Value.run m ρ); all_goals first | (intro _; simp; done) | (refine sem_eq_zero_of_no_sems ?_ _; decide),
  fun m ρ _ => Cert.Prenorm.Gen.frame m ρ,
  fun m ρ _ => Cert.PrenormIdeal.Gen.frame m ρ,
  by intro m ρ _; (run_from Cert.PrenormRefIdeal.Value.run m ρ); all_goals first | (intro _; simp; done) | (refine sem_eq_zero_of_no_sems ?_ _; decide),
  fun m ρ _ => Cert.Ffn1Up.Gen.frame m ρ,
  fun m ρ _ => Cert.Ffn1UpIdeal.Gen.frame m ρ,
  by intro m ρ _; (run_from Cert.Ffn1UpRefIdeal.Value.run m ρ); all_goals first | (intro _; simp; done) | (refine sem_eq_zero_of_no_sems ?_ _; decide),
  fun m ρ _ => Cert.MixIn.Gen.frame m ρ,
  fun m ρ _ => Cert.MixInIdeal.Gen.frame m ρ,
  by intro m ρ _; (run_from Cert.MixInRefIdeal.Value.run m ρ); all_goals first | (intro _; simp; done) | (refine sem_eq_zero_of_no_sems ?_ _; decide),
  fun m ρ _ => Cert.FfnDwd.Gen.frame m ρ,
  fun m ρ _ => Cert.FfnDwdIdeal.Gen.frame m ρ,
  by intro m ρ _; (run_from Cert.FfnDwdRefIdeal.Value.run m ρ); all_goals first | (intro _; simp; done) | (refine sem_eq_zero_of_no_sems ?_ _; decide),
  fun m ρ _ => Cert.FfnDwIn.Gen.frame m ρ,
  fun m ρ _ => Cert.FfnDwInIdeal.Gen.frame m ρ,
  by intro m ρ _; (run_from Cert.FfnDwInRefIdeal.Value.run m ρ); all_goals first | (intro _; simp; done) | (refine sem_eq_zero_of_no_sems ?_ _; decide),
  fun m ρ _ => Cert.Ffn1Gate.Gen.frame m ρ,
  fun m ρ _ => Cert.Ffn1GateIdeal.Gen.frame m ρ,
  by intro m ρ _; (run_from Cert.Ffn1GateRefIdeal.Value.run m ρ); all_goals first | (intro _; simp; done) | (refine sem_eq_zero_of_no_sems ?_ _; decide),
  fun m ρ _ => Cert.ReduceAdam.Gen.frame m ρ,
  fun m ρ _ => Cert.ReduceAdamIdeal.Gen.frame m ρ,
  by intro m ρ _; (run_from Cert.ReduceAdamRefIdeal.Value.run m ρ); all_goals first | (intro _; simp; done) | (refine sem_eq_zero_of_no_sems ?_ _; decide),
  fun m ρ _ => Cert.ReduceOnly.Gen.frame m ρ,
  fun m ρ _ => Cert.ReduceOnlyIdeal.Gen.frame m ρ,
  by intro m ρ _; (run_from Cert.ReduceOnlyRefIdeal.Value.run m ρ); all_goals first | (intro _; simp; done) | (refine sem_eq_zero_of_no_sems ?_ _; decide),
  fun m ρ _ => Cert.AdamOnly.Gen.frame m ρ,
  fun m ρ _ => Cert.AdamOnlyIdeal.Gen.frame m ρ,
  by intro m ρ _; (run_from Cert.AdamOnlyRefIdeal.Value.run m ρ); all_goals first | (intro _; simp; done) | (refine sem_eq_zero_of_no_sems ?_ _; decide),
  fun m ρ _ => Cert.AdamReplicated.Gen.frame m ρ,
  fun m ρ _ => Cert.AdamReplicatedIdeal.Gen.frame m ρ,
  by intro m ρ _; (run_from Cert.AdamReplicatedRefIdeal.Value.run m ρ); all_goals first | (intro _; simp; done) | (refine sem_eq_zero_of_no_sems ?_ _; decide),
  ⟨IdealRules.named_const.statement Cert.SguBwdIdeal.κ "gelu_c" .f32 0x3D372713#32 ((8943 / 200000 : ℝ) : EReal) rfl, IdealRules.named_const.statement Cert.SguBwdIdeal.κ "gelu_3c" .f32 0x3E095D4F#32 ((26829 / 200000 : ℝ) : EReal) rfl⟩,
  have := Cert.Pre_sgu_bwd_finite.Gen.facts; Cert.Sgu.algebraic,
  trivial,
  have := Cert.Pre_pool_bwd_finite.Gen.facts; Cert.Pool.algebraic,
  trivial,
  have := Cert.On_mix_dy_written.Gen.facts; Cert.MixDy.algebraic,
  trivial,
  have := Cert.Pre_ple_post_bwd_finite.Gen.facts; Cert.PlePost.algebraic,
  trivial,
  have := Cert.Pre_ffn_dhid_finite.Gen.facts; Cert.FfnDhid.algebraic,
  trivial,
  have := Cert.Pre_ple_dx_finite.Gen.facts; Cert.PleDx.algebraic,
  trivial,
  have := Cert.Pre_ffn2_dx_finite.Gen.facts; Cert.Ffn2Dx.algebraic,
  trivial,
  have := Cert.Pre_ffn1_dx_finite.Gen.facts; Cert.Ffn1Dx.algebraic,
  trivial,
  have := Cert.Pre_mix_dx_finite.Gen.facts; Cert.MixDx.algebraic,
  trivial,
  Cert.PleFwd.algebraic,
  trivial,
  Cert.FfnDown.algebraic,
  trivial,
  Cert.MixProj.algebraic,
  trivial,
  Cert.SguFwd.algebraic,
  trivial,
  have := Cert.Pre_pool_fwd_finite.Gen.facts; Cert.PoolFwd.algebraic,
  trivial,
  Cert.MixMerge.algebraic,
  trivial,
  Cert.FfnUp.algebraic,
  trivial,
  Cert.Prenorm.algebraic,
  trivial,
  Cert.Ffn1Up.algebraic,
  trivial,
  Cert.MixIn.algebraic,
  trivial,
  Cert.FfnDwd.algebraic,
  trivial,
  Cert.FfnDwIn.algebraic,
  trivial,
  Cert.Ffn1Gate.algebraic,
  trivial,
  Cert.ReduceAdam.algebraic,
  trivial,
  Cert.ReduceOnly.algebraic,
  trivial,
  Cert.AdamOnly.algebraic,
  trivial,
  Cert.AdamReplicated.algebraic⟩

end Cert.Proof

end

end
